-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)) (v3 : (c : Dev Cert.Kernel2Ideal.nD) → Buf (Elt Ideal) ((c.tc : Thread Cert.Kernel2Ideal.nD Cert.Kernel2Ideal.τ).loc Cert.Kernel2Ideal.main_v9_3)) (v4 : (c : Dev Cert.Kernel2Ideal.nD) → Buf (Elt Ideal) ((c.tc : Thread Cert.Kernel2Ideal.nD Cert.Kernel2Ideal.τ).loc Cert.Kernel2Ideal.main_v9_4)) (v5 : (c : Dev Cert.Kernel2Ideal.nD) → Buf (Elt Ideal) ((c.tc : Thread Cert.Kernel2Ideal.nD Cert.Kernel2Ideal.τ).loc Cert.Kernel2Ideal.main_v9_5)) (v6 : (c : Dev Cert.Kernel2Ideal.nD) → Buf (Elt Ideal) ((c.tc : Thread Cert.Kernel2Ideal.nD Cert.Kernel2Ideal.τ).loc Cert.Kernel2Ideal.main_v9_6)) (v7 : (c : Dev Cert.Kernel2Ideal.nD) → Buf (Elt Ideal) ((c.tc : Thread Cert.Kernel2Ideal.nD Cert.Kernel2Ideal.τ).loc Cert.Kernel2Ideal.main_v9_7)) (v8 : (c : Dev Cert.Kernel2Ideal.nD) → Buf (Elt Ideal) ((c.tc : Thread Cert.Kernel2Ideal.nD Cert.Kernel2Ideal.τ).loc Cert.Kernel2Ideal.main_v9_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_v9_3) = v3 c
          ∧ r.2.mem ((c.tc : Thread Cert.Kernel2Ideal.nD Cert.Kernel2Ideal.τ).loc Cert.Kernel2Ideal.main_v9_4) = v4 c
          ∧ r.2.mem ((c.tc : Thread Cert.Kernel2Ideal.nD Cert.Kernel2Ideal.τ).loc Cert.Kernel2Ideal.main_v9_5) = v5 c
          ∧ r.2.mem ((c.tc : Thread Cert.Kernel2Ideal.nD Cert.Kernel2Ideal.τ).loc Cert.Kernel2Ideal.main_v9_6) = v6 c
          ∧ r.2.mem ((c.tc : Thread Cert.Kernel2Ideal.nD Cert.Kernel2Ideal.τ).loc Cert.Kernel2Ideal.main_v9_7) = v7 c
          ∧ r.2.mem ((c.tc : Thread Cert.Kernel2Ideal.nD Cert.Kernel2Ideal.τ).loc Cert.Kernel2Ideal.main_v9_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_v78) = v1 c
          ∧ r.2.mem ((c.tc : Thread Cert.Reference2Ideal.nD Cert.Reference2Ideal.τ).loc Cert.Reference2Ideal.main_v79) = v2 c
          ∧ r.2.mem ((c.tc : Thread Cert.Reference2Ideal.nD Cert.Reference2Ideal.τ).loc Cert.Reference2Ideal.main_v80) = v3 c
          ∧ r.2.mem ((c.tc : Thread Cert.Reference2Ideal.nD Cert.Reference2Ideal.τ).loc Cert.Reference2Ideal.main_v81) = v4 c
          ∧ r.2.mem ((c.tc : Thread Cert.Reference2Ideal.nD Cert.Reference2Ideal.τ).loc Cert.Reference2Ideal.main_v82) = v5 c
          ∧ r.2.mem ((c.tc : Thread Cert.Reference2Ideal.nD Cert.Reference2Ideal.τ).loc Cert.Reference2Ideal.main_v83) = v6 c
          ∧ r.2.mem ((c.tc : Thread Cert.Reference2Ideal.nD Cert.Reference2Ideal.τ).loc Cert.Reference2Ideal.main_v84) = v7 c
          ∧ r.2.mem ((c.tc : Thread Cert.Reference2Ideal.nD Cert.Reference2Ideal.τ).loc Cert.Reference2Ideal.main_v38) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v101) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_inputs_finite.lean ====
abbrev S4x8192x1024 : Shape := ⟨3, ![4, 8192, 1024]⟩
abbrev S4x8192x512 : Shape := ⟨3, ![4, 8192, 512]⟩
abbrev S4x8192x256 : Shape := ⟨3, ![4, 8192, 256]⟩
abbrev S4x1024 : Shape := ⟨2, ![4, 1024]⟩
abbrev S1x1024 : Shape := ⟨2, ![1, 1024]⟩
abbrev S1x128 : Shape := ⟨2, ![1, 128]⟩
abbrev S1x512 : Shape := ⟨2, ![1, 512]⟩
abbrev S_ : Shape := ⟨0, ![]⟩
abbrev S4x8192x4 : Shape := ⟨3, ![4, 8192, 4]⟩
abbrev S1x4 : Shape := ⟨2, ![1, 4]⟩

class Facts : Prop where
  bitsLt_bf16_f32 : FTy.bits .bf16 < FTy.bits .f32
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S4x8192x512 : S_.BroadcastsInDim S4x8192x512 (![] : Fin 0 → Fin S4x8192x512.rank)
  reducesTo_S4x8192x512_S_d0_1_2 : S4x8192x512.ReducesTo [0, 1, 2] S_
  slices_S4x8192x256_S4x8192x4_0_0_0 : S4x8192x256.Slices ![0, 0, 0] S4x8192x4
  bcast_S_S4x8192x4 : S_.BroadcastsInDim S4x8192x4 (![] : Fin 0 → Fin S4x8192x4.rank)
  reducesTo_S4x8192x4_S_d0_1_2 : S4x8192x4.ReducesTo [0, 1, 2] S_
  slices_S4x8192x256_S4x8192x4_0_0_128 : S4x8192x256.Slices ![0, 0, 128] S4x8192x4
  bcast_S_S4x1024 : S_.BroadcastsInDim S4x1024 (![] : Fin 0 → Fin S4x1024.rank)
  reducesTo_S4x1024_S_d0_1 : S4x1024.ReducesTo [0, 1] S_
  bcast_S_S1x1024 : S_.BroadcastsInDim S1x1024 (![] : Fin 0 → Fin S1x1024.rank)
  reducesTo_S1x1024_S_d0_1 : S1x1024.ReducesTo [0, 1] S_
  slices_S1x128_S1x4_0_0 : S1x128.Slices ![0, 0] S1x4
  bcast_S_S1x4 : S_.BroadcastsInDim S1x4 (![] : Fin 0 → Fin S1x4.rank)
  reducesTo_S1x4_S_d0_1 : S1x4.ReducesTo [0, 1] S_

variable [Facts]

def fn_part2 {F : FTy → Type} [FloatOps F] (main_arg7 : FVec F S1x128 .f32) (main_v32 : IVec S_ 1) (main_v34 : FVec F S1x4 .f32) (main_cst_10 : FVec F S_ .f32) : IVec S_ 1 :=
  let main_v35 : FVec F S1x4 .f32 := broadcastInDim S1x4 ![] bcast_S_S1x4 main_cst_10
  let main_v36 : IVec S1x4 1 := cmpf .olt main_v34 main_v35
  let main_c_11 : IVec S_ 1 := constantI S_ 1 1#1
  let main_v37 : IVec S_ 1 := (fun x v => Host.reduce IntOp.andi x v reducesTo_S1x4_S_d0_1 h_S_) main_v36 main_c_11
  let main_v38 : IVec S_ 1 := andi main_v32 main_v37
  let main_v39 : FVec F S1x4 .f32 := (extractStridedSlice S1x4 ![0, 0] · slices_S1x128_S1x4_0_0) main_arg7
  let main_v40 : FVec F S1x4 .f32 := Host.absf main_v39
  let main_cst_12 : FVec F S_ .f32 := constant S_ .f32 0x7F800000#32
  let main_v41 : FVec F S1x4 .f32 := broadcastInDim S1x4 ![] bcast_S_S1x4 main_cst_12
  let main_v42 : IVec S1x4 1 := cmpf .olt main_v40 main_v41
  let main_c_13 : IVec S_ 1 := constantI S_ 1 1#1
  let main_v43 : IVec S_ 1 := (fun x v => Host.reduce IntOp.andi x v reducesTo_S1x4_S_d0_1 h_S_) main_v42 main_c_13
  let main_v44 : IVec S_ 1 := andi main_v38 main_v43
  main_v44

def fn_part1 {F : FTy → Type} [FloatOps F] (main_arg4 : FVec F S4x1024 .f32) (main_arg5 : FVec F S1x1024 .f32) (main_arg6 : FVec F S1x128 .f32) (main_arg7 : FVec F S1x128 .f32) (main_v16 : IVec S_ 1) (main_v17 : FVec F S4x8192x4 .f32) : IVec S_ 1 :=
  let main_v18 : FVec F S4x8192x4 .f32 := Host.absf main_v17
  let main_cst_4 : FVec F S_ .f32 := constant S_ .f32 0x7F800000#32
  let main_v19 : FVec F S4x8192x4 .f32 := broadcastInDim S4x8192x4 ![] bcast_S_S4x8192x4 main_cst_4
  let main_v20 : IVec S4x8192x4 1 := cmpf .olt main_v18 main_v19
  let main_c_5 : IVec S_ 1 := constantI S_ 1 1#1
  let main_v21 : IVec S_ 1 := (fun x v => Host.reduce IntOp.andi x v reducesTo_S4x8192x4_S_d0_1_2 h_S_) main_v20 main_c_5
  let main_v22 : IVec S_ 1 := andi main_v16 main_v21
  let main_v23 : FVec F S4x1024 .f32 := Host.absf main_arg4
  let main_cst_6 : FVec F S_ .f32 := constant S_ .f32 0x7F800000#32
  let main_v24 : FVec F S4x1024 .f32 := broadcastInDim S4x1024 ![] bcast_S_S4x1024 main_cst_6
  let main_v25 : IVec S4x1024 1 := cmpf .olt main_v23 main_v24
  let main_c_7 : IVec S_ 1 := constantI S_ 1 1#1
  let main_v26 : IVec S_ 1 := (fun x v => Host.reduce IntOp.andi x v reducesTo_S4x1024_S_d0_1 h_S_) main_v25 main_c_7
  let main_v27 : IVec S_ 1 := andi main_v22 main_v26
  let main_v28 : FVec F S1x1024 .f32 := Host.absf main_arg5
  let main_cst_8 : FVec F S_ .f32 := constant S_ .f32 0x7F800000#32
  let main_v29 : FVec F S1x1024 .f32 := broadcastInDim S1x1024 ![] bcast_S_S1x1024 main_cst_8
  let main_v30 : IVec S1x1024 1 := cmpf .olt main_v28 main_v29
  let main_c_9 : IVec S_ 1 := constantI S_ 1 1#1
  let main_v31 : IVec S_ 1 := (fun x v => Host.reduce IntOp.andi x v reducesTo_S1x1024_S_d0_1 h_S_) main_v30 main_c_9
  let main_v32 : IVec S_ 1 := andi main_v27 main_v31
  let main_v33 : FVec F S1x4 .f32 := (extractStridedSlice S1x4 ![0, 0] · slices_S1x128_S1x4_0_0) main_arg6
  let main_v34 : FVec F S1x4 .f32 := Host.absf main_v33
  let main_cst_10 : FVec F S_ .f32 := constant S_ .f32 0x7F800000#32
  fn_part2 (F := F) main_arg7 main_v32 main_v34 main_cst_10

def fn {F : FTy → Type} [FloatOps F] (main_arg0 : FVec F S4x8192x1024 .bf16) (main_arg1 : FVec F S4x8192x512 .bf16) (main_arg2 : FVec F S4x8192x512 .bf16) (main_arg3 : FVec F S4x8192x256 .f32) (main_arg4 : FVec F S4x1024 .f32) (main_arg5 : FVec F S1x1024 .f32) (main_arg6 : FVec F S1x128 .f32) (main_arg7 : FVec F S1x128 .f32) (main_arg8 : FVec F S1x512 .f32) : IVec S_ 1 :=
  let main_v0 : FVec F S4x8192x1024 .f32 := (extf .f32 · bitsLt_bf16_f32) main_arg0
  let main_v1 : FVec F S4x8192x1024 .f32 := Host.absf main_v0
  let main_cst : FVec F S_ .f32 := constant S_ .f32 0x7F800000#32
  let main_v2 : FVec F S4x8192x1024 .f32 := broadcastInDim S4x8192x1024 ![] bcast_S_S4x8192x1024 main_cst
  let main_v3 : IVec S4x8192x1024 1 := cmpf .olt main_v1 main_v2
  let main_c : IVec S_ 1 := constantI S_ 1 1#1
  let main_v4 : IVec S_ 1 := (fun x v => Host.reduce IntOp.andi x v reducesTo_S4x8192x1024_S_d0_1_2 h_S_) main_v3 main_c
  let main_v5 : FVec F S4x8192x512 .f32 := (extf .f32 · bitsLt_bf16_f32) main_arg1
  let main_v6 : FVec F S4x8192x512 .f32 := Host.absf main_v5
  let main_cst_0 : FVec F S_ .f32 := constant S_ .f32 0x7F800000#32
  let main_v7 : FVec F S4x8192x512 .f32 := broadcastInDim S4x8192x512 ![] bcast_S_S4x8192x512 main_cst_0
  let main_v8 : IVec S4x8192x512 1 := cmpf .olt main_v6 main_v7
  let main_c_1 : IVec S_ 1 := constantI S_ 1 1#1
  let main_v9 : IVec S_ 1 := (fun x v => Host.reduce IntOp.andi x v reducesTo_S4x8192x512_S_d0_1_2 h_S_) main_v8 main_c_1
  let main_v10 : IVec S_ 1 := andi main_v4 main_v9
  let main_v11 : FVec F S4x8192x4 .f32 := (extractStridedSlice S4x8192x4 ![0, 0, 0] · slices_S4x8192x256_S4x8192x4_0_0_0) main_arg3
  let main_v12 : FVec F S4x8192x4 .f32 := Host.absf main_v11
  let main_cst_2 : FVec F S_ .f32 := constant S_ .f32 0x7F800000#32
  let main_v13 : FVec F S4x8192x4 .f32 := broadcastInDim S4x8192x4 ![] bcast_S_S4x8192x4 main_cst_2
  let main_v14 : IVec S4x8192x4 1 := cmpf .olt main_v12 main_v13
  let main_c_3 : IVec S_ 1 := constantI S_ 1 1#1
  let main_v15 : IVec S_ 1 := (fun x v => Host.reduce IntOp.andi x v reducesTo_S4x8192x4_S_d0_1_2 h_S_) main_v14 main_c_3
  let main_v16 : IVec S_ 1 := andi main_v10 main_v15
  let main_v17 : FVec F S4x8192x4 .f32 := (extractStridedSlice S4x8192x4 ![0, 0, 128] · slices_S4x8192x256_S4x8192x4_0_0_128) main_arg3
  fn_part1 (F := F) main_arg4 main_arg5 main_arg6 main_arg7 main_v16 main_v17
-- ==== Kernel.lean ====
abbrev S4x8192x1024 : Shape := ⟨3, ![4, 8192, 1024]⟩
abbrev S4x8192x512 : Shape := ⟨3, ![4, 8192, 512]⟩
abbrev S4x8192x256 : Shape := ⟨3, ![4, 8192, 256]⟩
abbrev S4x1024 : Shape := ⟨2, ![4, 1024]⟩
abbrev S1x1024 : Shape := ⟨2, ![1, 1024]⟩
abbrev S1x128 : Shape := ⟨2, ![1, 128]⟩
abbrev S1x512 : Shape := ⟨2, ![1, 512]⟩
abbrev S4x256x1024 : Shape := ⟨3, ![4, 256, 1024]⟩
abbrev S4x256x512 : Shape := ⟨3, ![4, 256, 512]⟩
abbrev S4x256x256 : Shape := ⟨3, ![4, 256, 256]⟩
abbrev S16x128x256 : Shape := ⟨3, ![16, 128, 256]⟩
abbrev S16x8x128 : Shape := ⟨3, ![16, 8, 128]⟩
abbrev S4x8x1024 : Shape := ⟨3, ![4, 8, 1024]⟩
abbrev S256x256 : Shape := ⟨2, ![256, 256]⟩
abbrev S256x128 : Shape := ⟨2, ![256, 128]⟩
abbrev S1x256x1024 : Shape := ⟨3, ![1, 256, 1024]⟩
abbrev S256x1024 : Shape := ⟨2, ![256, 1024]⟩
abbrev S1x8x1024 : Shape := ⟨3, ![1, 8, 1024]⟩
abbrev S8x1024 : Shape := ⟨2, ![8, 1024]⟩
abbrev S248x1024 : Shape := ⟨2, ![248, 1024]⟩
abbrev S1x256x128 : Shape := ⟨3, ![1, 256, 128]⟩
abbrev S128x256 : Shape := ⟨2, ![128, 256]⟩
abbrev S128 : Shape := ⟨1, ![128]⟩
abbrev S1x8x128 : Shape := ⟨3, ![1, 8, 128]⟩
abbrev S8x128 : Shape := ⟨2, ![8, 128]⟩
abbrev S1x1 : Shape := ⟨2, ![1, 1]⟩
abbrev S256x1 : Shape := ⟨2, ![256, 1]⟩
abbrev S1x256 : Shape := ⟨2, ![1, 256]⟩
abbrev S256 : Shape := ⟨1, ![256]⟩
abbrev S1x128x256 : Shape := ⟨3, ![1, 128, 256]⟩

abbrev nBuf : Space → Nat
  | .hbm => 10
  | .vmem => 18
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x512, .bf16⟩
  | .hbm, ⟨2, _⟩ => ⟨S4x8192x512, .bf16⟩
  | .hbm, ⟨3, _⟩ => ⟨S4x8192x256, .f32⟩
  | .hbm, ⟨4, _⟩ => ⟨S4x1024, .f32⟩
  | .hbm, ⟨5, _⟩ => ⟨S1x1024, .f32⟩
  | .hbm, ⟨6, _⟩ => ⟨S1x128, .f32⟩
  | .hbm, ⟨7, _⟩ => ⟨S1x128, .f32⟩
  | .hbm, ⟨8, _⟩ => ⟨S1x512, .f32⟩
  | .hbm, ⟨9, _⟩ => ⟨S4x8192x512, .bf16⟩
  | .local _ .vmem, ⟨0, _⟩ => ⟨S4x256x1024, .bf16⟩
  | .local _ .vmem, ⟨1, _⟩ => ⟨S4x256x1024, .bf16⟩
  | .local _ .vmem, ⟨2, _⟩ => ⟨S4x256x512, .bf16⟩
  | .local _ .vmem, ⟨3, _⟩ => ⟨S4x256x512, .bf16⟩
  | .local _ .vmem, ⟨4, _⟩ => ⟨S4x256x512, .bf16⟩
  | .local _ .vmem, ⟨5, _⟩ => ⟨S4x256x512, .bf16⟩
  | .local _ .vmem, ⟨6, _⟩ => ⟨S4x256x256, .f32⟩
  | .local _ .vmem, ⟨7, _⟩ => ⟨S4x256x256, .f32⟩
  | .local _ .vmem, ⟨8, _⟩ => ⟨S4x1024, .f32⟩
  | .local _ .vmem, ⟨9, _⟩ => ⟨S1x1024, .f32⟩
  | .local _ .vmem, ⟨10, _⟩ => ⟨S1x128, .f32⟩
  | .local _ .vmem, ⟨11, _⟩ => ⟨S1x128, .f32⟩
  | .local _ .vmem, ⟨12, _⟩ => ⟨S1x512, .f32⟩
  | .local _ .vmem, ⟨13, _⟩ => ⟨S4x256x512, .bf16⟩
  | .local _ .vmem, ⟨14, _⟩ => ⟨S4x256x512, .bf16⟩
  | .local _ .vmem, ⟨15, _⟩ => ⟨S16x128x256, .f32⟩
  | .local _ .vmem, ⟨16, _⟩ => ⟨S16x8x128, .f32⟩
  | .local _ .vmem, ⟨17, _⟩ => ⟨S4x8x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4x8192x1024 : Shape := ⟨3, ![4, 8192, 1024]⟩
abbrev S4x8192x512 : Shape := ⟨3, ![4, 8192, 512]⟩
abbrev S4x8192x256 : Shape := ⟨3, ![4, 8192, 256]⟩
abbrev S4x1024 : Shape := ⟨2, ![4, 1024]⟩
abbrev S1x1024 : Shape := ⟨2, ![1, 1024]⟩
abbrev S1x128 : Shape := ⟨2, ![1, 128]⟩
abbrev S1x512 : Shape := ⟨2, ![1, 512]⟩
abbrev S_ : Shape := ⟨0, ![]⟩
abbrev S4x8195x1024 : Shape := ⟨3, ![4, 8195, 1024]⟩
abbrev S1024 : Shape := ⟨1, ![1024]⟩
abbrev S1x1x1024 : Shape := ⟨3, ![1, 1, 1024]⟩
abbrev S4x8192x4 : Shape := ⟨3, ![4, 8192, 4]⟩
abbrev S1x4 : Shape := ⟨2, ![1, 4]⟩
abbrev S4 : Shape := ⟨1, ![4]⟩
abbrev S1x1x4 : Shape := ⟨3, ![1, 1, 4]⟩
abbrev S4x4x8192 : Shape := ⟨3, ![4, 4, 8192]⟩
abbrev S4x8192x4x128 : Shape := ⟨4, ![4, 8192, 4, 128]⟩
abbrev S4x4x8192x128 : Shape := ⟨4, ![4, 4, 8192, 128]⟩
abbrev S4x4x128x128 : Shape := ⟨4, ![4, 4, 128, 128]⟩
abbrev S4x4x128 : Shape := ⟨3, ![4, 4, 128]⟩
abbrev S4x4 : Shape := ⟨2, ![4, 4]⟩
abbrev S4x4x128x64x128 : Shape := ⟨5, ![4, 4, 128, 64, 128]⟩
abbrev S128x4x4x64x128 : Shape := ⟨5, ![128, 4, 4, 64, 128]⟩
abbrev S4x4x128x64 : Shape := ⟨4, ![4, 4, 128, 64]⟩
abbrev S128x4x4x64 : Shape := ⟨4, ![128, 4, 4, 64]⟩
abbrev S1x4x4x64x128 : Shape := ⟨5, ![1, 4, 4, 64, 128]⟩
abbrev S4x4x64x128 : Shape := ⟨4, ![4, 4, 64, 128]⟩
abbrev S1x4x4x64 : Shape := ⟨4, ![1, 4, 4, 64]⟩
abbrev S4x4x64 : Shape := ⟨3, ![4, 4, 64]⟩
abbrev S4x4x1 : Shape := ⟨3, ![4, 4, 1]⟩
abbrev S4x4x64x1 : Shape := ⟨4, ![4, 4, 64, 1]⟩
abbrev S4x4x1x64 : Shape := ⟨4, ![4, 4, 1, 64]⟩
abbrev S4x4x64x64 : Shape := ⟨4, ![4, 4, 64, 64]⟩
abbrev S64x64 : Shape := ⟨2, ![64, 64]⟩
abbrev S4x4x1x1 : Shape := ⟨4, ![4, 4, 1, 1]⟩
abbrev S4x8192x4x1 : Shape := ⟨4, ![4, 8192, 4, 1]⟩
abbrev S4x128 : Shape := ⟨2, ![4, 128]⟩
abbrev S1x1x4x128 : Shape := ⟨4, ![1, 1, 4, 128]⟩

abbrev nBuf : Space → Nat
  | .hbm => 275
  | .vmem => 0
  | .smem => 0
  | _ => 0

abbrev hbmTy0_0 (i : Nat) : BufTy := match i % 128 with
  | 0 => ⟨S4x8192x1024, .bf16⟩
  | 1 => ⟨S4x8192x512, .bf16⟩
  | 2 => ⟨S4x8192x512, .bf16⟩
  | 3 => ⟨S4x8192x256, .f32⟩
  | 4 => ⟨S4x1024, .f32⟩
  | 5 => ⟨S1x1024, .f32⟩
  | 6 => ⟨S1x128, .f32⟩
  | 7 => ⟨S1x128, .f32⟩
  | 8 => ⟨S1x512, .f32⟩
  | 9 => ⟨S4x8192x1024, .f32⟩
  | 10 => ⟨S_, .i32⟩
  | 11 => ⟨S_, .f32⟩
  | 12 => ⟨S4x8195x1024, .f32⟩
  | 13 => ⟨S1024, .f32⟩
  | 14 => ⟨S1x1024, .f32⟩
  | 15 => ⟨S1024, .f32⟩
  | 16 => ⟨S4x8192x1024, .f32⟩
  | 17 => ⟨S1x1x1024, .f32⟩
  | 18 => ⟨S4x8192x1024, .f32⟩
  | 19 => ⟨S4x8192x1024, .f32⟩
  | 20 => ⟨S1x1x1024, .f32⟩
  | 21 => ⟨S4x8192x1024, .f32⟩
  | 22 => ⟨S4x8192x1024, .f32⟩
  | 23 => ⟨S1x1024, .f32⟩
  | 24 => ⟨S1024, .f32⟩
  | 25 => ⟨S4x8192x1024, .f32⟩
  | 26 => ⟨S1x1x1024, .f32⟩
  | 27 => ⟨S4x8192x1024, .f32⟩
  | 28 => ⟨S4x8192x1024, .f32⟩
  | 29 => ⟨S4x8192x1024, .f32⟩
  | 30 => ⟨S1x1024, .f32⟩
  | 31 => ⟨S1024, .f32⟩
  | 32 => ⟨S4x8192x1024, .f32⟩
  | 33 => ⟨S1x1x1024, .f32⟩
  | 34 => ⟨S4x8192x1024, .f32⟩
  | 35 => ⟨S4x8192x1024, .f32⟩
  | 36 => ⟨S4x8192x1024, .f32⟩
  | 37 => ⟨S1x1024, .f32⟩
  | 38 => ⟨S1024, .f32⟩
  | 39 => ⟨S4x8192x1024, .f32⟩
  | 40 => ⟨S1x1x1024, .f32⟩
  | 41 => ⟨S4x8192x1024, .f32⟩
  | 42 => ⟨S4x8192x1024, .f32⟩
  | 43 => ⟨S4x8192x1024, .f32⟩
  | 44 => ⟨S4x8192x1024, .f32⟩
  | 45 => ⟨S4x8192x1024, .f32⟩
  | 46 => ⟨S_, .f32⟩
  | 47 => ⟨S4x8192x1024, .f32⟩
  | 48 => ⟨S4x8192x1024, .f32⟩
  | 49 => ⟨S_, .f32⟩
  | 50 => ⟨S4x8192x1024, .f32⟩
  | 51 => ⟨S4x8192x1024, .f32⟩
  | 52 => ⟨S4x8192x1024, .f32⟩
  | 53 => ⟨S4x8192x512, .f32⟩
  | 54 => ⟨S4x8192x512, .f32⟩
  | 55 => ⟨S4x8192x4, .f32⟩
  | 56 => ⟨S1x4, .f32⟩
  | 57 => ⟨S4, .f32⟩
  | 58 => ⟨S1x1x4, .f32⟩
  | 59 => ⟨S4x8192x4, .f32⟩
  | 60 => ⟨S4x8192x4, .f32⟩
  | 61 => ⟨S4x4x8192, .f32⟩
  | 62 => ⟨S4x8192x4, .f32⟩
  | 63 => ⟨S1x4, .f32⟩
  | 64 => ⟨S4, .f32⟩
  | 65 => ⟨S1x1x4, .f32⟩
  | 66 => ⟨S4x8192x4, .f32⟩
  | 67 => ⟨S4x8192x4, .f32⟩
  | 68 => ⟨S4x4x8192, .f32⟩
  | 69 => ⟨S4x8192x4x128, .f32⟩
  | 70 => ⟨S4x4x8192x128, .f32⟩
  | 71 => ⟨S4x8192x4x128, .f32⟩
  | 72 => ⟨S4x4x8192x128, .f32⟩
  | 73 => ⟨S_, .f32⟩
  | 74 => ⟨S4x4x8192x128, .f32⟩
  | 75 => ⟨S4x4x8192x128, .f32⟩
  | 76 => ⟨S4x8192x512, .f32⟩
  | 77 => ⟨S4x8192x4x128, .f32⟩
  | 78 => ⟨S4x4x8192x128, .f32⟩
  | 79 => ⟨S_, .f32⟩
  | 80 => ⟨S4x4x128x128, .f32⟩
  | 81 => ⟨S_, .f32⟩
  | 82 => ⟨S4x4x128, .f32⟩
  | 83 => ⟨S_, .f32⟩
  | 84 => ⟨S4x4, .f32⟩
  | 85 => ⟨S4x4x128x64x128, .f32⟩
  | 86 => ⟨S128x4x4x64x128, .f32⟩
  | 87 => ⟨S4x4x128x64x128, .f32⟩
  | 88 => ⟨S128x4x4x64x128, .f32⟩
  | 89 => ⟨S4x4x128x64x128, .f32⟩
  | 90 => ⟨S128x4x4x64x128, .f32⟩
  | 91 => ⟨S4x4x8192, .f32⟩
  | 92 => ⟨S_, .f32⟩
  | 93 => ⟨S4x4x8192, .f32⟩
  | 94 => ⟨S4x4x8192, .f32⟩
  | 95 => ⟨S4x4x8192, .f32⟩
  | 96 => ⟨S4x4x8192, .f32⟩
  | 97 => ⟨S4x4x8192, .i1⟩
  | 98 => ⟨S4x4x8192, .f32⟩
  | 99 => ⟨S4x4x8192, .f32⟩
  | 100 => ⟨S4x4x8192, .f32⟩
  | 101 => ⟨S4x4x8192, .f32⟩
  | 102 => ⟨S4x4x8192, .f32⟩
  | 103 => ⟨S4x4x8192, .f32⟩
  | 104 => ⟨S4x4x8192, .f32⟩
  | 105 => ⟨S4x4x8192, .f32⟩
  | 106 => ⟨S4x4x8192, .f32⟩
  | 107 => ⟨S4x4x128x64, .f32⟩
  | 108 => ⟨S128x4x4x64, .f32⟩
  | 109 => ⟨S4x4x128x64, .f32⟩
  | 110 => ⟨S128x4x4x64, .f32⟩
  | 111 => ⟨S_, .f32⟩
  | 112 => ⟨S128x4x4x64x128, .f32⟩
  | 113 => ⟨S_, .i32⟩
  | 114 => ⟨S128x4x4x64x128, .f32⟩
  | 115 => ⟨S128x4x4x64x128, .f32⟩
  | 116 => ⟨S128x4x4x64x128, .f32⟩
  | 117 => ⟨S128x4x4x64, .f32⟩
  | 118 => ⟨S128x4x4x64, .f32⟩
  | 119 => ⟨S_, .i32⟩
  | 120 => ⟨S4x4x128x128, .f32⟩
  | 121 => ⟨S4x4x128, .f32⟩
  | 122 => ⟨S4x4, .f32⟩
  | 123 => ⟨S128x4x4x64x128, .f32⟩
  | 124 => ⟨S_, .i32⟩
  | 125 => ⟨S_, .i1⟩
  | 126 => ⟨S_, .i32⟩
  | 127 => ⟨S_, .i32⟩
  | _ => ⟨S4x8192x1024, .bf16⟩

abbrev hbmTy0_1 (i : Nat) : BufTy := match i % 128 with
  | 0 => ⟨S_, .i32⟩
  | 1 => ⟨S_, .i32⟩
  | 2 => ⟨S1x4x4x64x128, .f32⟩
  | 3 => ⟨S4x4x64x128, .f32⟩
  | 4 => ⟨S_, .i32⟩
  | 5 => ⟨S_, .i32⟩
  | 6 => ⟨S_, .i32⟩
  | 7 => ⟨S_, .i32⟩
  | 8 => ⟨S1x4x4x64x128, .f32⟩
  | 9 => ⟨S4x4x64x128, .f32⟩
  | 10 => ⟨S_, .i32⟩
  | 11 => ⟨S_, .i32⟩
  | 12 => ⟨S_, .i32⟩
  | 13 => ⟨S_, .i32⟩
  | 14 => ⟨S1x4x4x64x128, .f32⟩
  | 15 => ⟨S4x4x64x128, .f32⟩
  | 16 => ⟨S_, .i32⟩
  | 17 => ⟨S_, .i32⟩
  | 18 => ⟨S_, .i32⟩
  | 19 => ⟨S1x4x4x64, .f32⟩
  | 20 => ⟨S4x4x64, .f32⟩
  | 21 => ⟨S_, .i32⟩
  | 22 => ⟨S_, .i32⟩
  | 23 => ⟨S_, .i32⟩
  | 24 => ⟨S1x4x4x64, .f32⟩
  | 25 => ⟨S4x4x64, .f32⟩
  | 26 => ⟨S_, .f32⟩
  | 27 => ⟨S_, .f32⟩
  | 28 => ⟨S4x4x64, .f32⟩
  | 29 => ⟨S4x4x1, .f32⟩
  | 30 => ⟨S4x4, .f32⟩
  | 31 => ⟨S4x4x1, .f32⟩
  | 32 => ⟨S4x4x64, .f32⟩
  | 33 => ⟨S4x4x64, .f32⟩
  | 34 => ⟨S4x4x64x1, .f32⟩
  | 35 => ⟨S4x4x1x64, .f32⟩
  | 36 => ⟨S4x4x64x64, .f32⟩
  | 37 => ⟨S4x4x64x64, .f32⟩
  | 38 => ⟨S4x4x64x64, .f32⟩
  | 39 => ⟨S4x4x1x64, .f32⟩
  | 40 => ⟨S4x4x64x64, .f32⟩
  | 41 => ⟨S4x4x64x64, .f32⟩
  | 42 => ⟨S64x64, .i32⟩
  | 43 => ⟨S64x64, .i32⟩
  | 44 => ⟨S64x64, .i1⟩
  | 45 => ⟨S_, .f32⟩
  | 46 => ⟨S_, .f32⟩
  | 47 => ⟨S4x4x64x64, .i1⟩
  | 48 => ⟨S4x4x64x64, .f32⟩
  | 49 => ⟨S4x4x64x64, .f32⟩
  | 50 => ⟨S_, .f32⟩
  | 51 => ⟨S4x4x64, .f32⟩
  | 52 => ⟨S4x4x64, .f32⟩
  | 53 => ⟨S4x4x64, .f32⟩
  | 54 => ⟨S4x4x64, .f32⟩
  | 55 => ⟨S4x4x64x64, .f32⟩
  | 56 => ⟨S4x4x64x1, .f32⟩
  | 57 => ⟨S4x4x64x64, .f32⟩
  | 58 => ⟨S4x4x64x64, .f32⟩
  | 59 => ⟨S4x4x64x64, .f32⟩
  | 60 => ⟨S4x4x64x64, .f32⟩
  | 61 => ⟨S4x4x64x128, .f32⟩
  | 62 => ⟨S4x4x64x1, .f32⟩
  | 63 => ⟨S4x4x64x128, .f32⟩
  | 64 => ⟨S4x4x64x128, .f32⟩
  | 65 => ⟨S4x4x64x128, .f32⟩
  | 66 => ⟨S4x4x64x128, .f32⟩
  | 67 => ⟨S_, .f32⟩
  | 68 => ⟨S4x4x64, .f32⟩
  | 69 => ⟨S4x4x64, .f32⟩
  | 70 => ⟨S4x4x64, .f32⟩
  | 71 => ⟨S4x4x64, .f32⟩
  | 72 => ⟨S4x4x64, .f32⟩
  | 73 => ⟨S4x4x64, .f32⟩
  | 74 => ⟨S4x4x64, .f32⟩
  | 75 => ⟨S4x4x64, .f32⟩
  | 76 => ⟨S4x4x64x1, .f32⟩
  | 77 => ⟨S4x4x64x128, .f32⟩
  | 78 => ⟨S4x4x64x128, .f32⟩
  | 79 => ⟨S4x4x1, .f32⟩
  | 80 => ⟨S4x4x64, .f32⟩
  | 81 => ⟨S4x4x64, .f32⟩
  | 82 => ⟨S4x4x64, .f32⟩
  | 83 => ⟨S_, .f32⟩
  | 84 => ⟨S4x4, .f32⟩
  | 85 => ⟨S4x4x1, .f32⟩
  | 86 => ⟨S4x4x64, .f32⟩
  | 87 => ⟨S4x4x64, .f32⟩
  | 88 => ⟨S4x4x64, .f32⟩
  | 89 => ⟨S4x4x64x1, .f32⟩
  | 90 => ⟨S4x4x64x128, .f32⟩
  | 91 => ⟨S4x4x64x128, .f32⟩
  | 92 => ⟨S4x4x128x128, .f32⟩
  | 93 => ⟨S4x4x128, .f32⟩
  | 94 => ⟨S4x4, .f32⟩
  | 95 => ⟨S4x4, .f32⟩
  | 96 => ⟨S4x4, .f32⟩
  | 97 => ⟨S4x4, .f32⟩
  | 98 => ⟨S4x4, .f32⟩
  | 99 => ⟨S4x4, .f32⟩
  | 100 => ⟨S4x4, .f32⟩
  | 101 => ⟨S4x4x1x1, .f32⟩
  | 102 => ⟨S4x4x128x128, .f32⟩
  | 103 => ⟨S4x4x128x128, .f32⟩
  | 104 => ⟨S4x4x1x1, .f32⟩
  | 105 => ⟨S4x4x128x128, .f32⟩
  | 106 => ⟨S4x4x128x128, .f32⟩
  | 107 => ⟨S4x4x128x128, .f32⟩
  | 108 => ⟨S4x4x1, .f32⟩
  | 109 => ⟨S4x4x128, .f32⟩
  | 110 => ⟨S4x4x128, .f32⟩
  | 111 => ⟨S4x4x1, .f32⟩
  | 112 => ⟨S4x4x128, .f32⟩
  | 113 => ⟨S4x4x128, .f32⟩
  | 114 => ⟨S4x4x128, .f32⟩
  | 115 => ⟨S1x4x4x64x128, .f32⟩
  | 116 => ⟨S_, .i32⟩
  | 117 => ⟨S_, .i32⟩
  | 118 => ⟨S_, .i32⟩
  | 119 => ⟨S_, .i32⟩
  | 120 => ⟨S128x4x4x64x128, .f32⟩
  | 121 => ⟨S_, .i32⟩
  | 122 => ⟨S_, .i32⟩
  | 123 => ⟨S4x4x128x64x128, .f32⟩
  | 124 => ⟨S4x4x8192x128, .f32⟩
  | 125 => ⟨S4x8192x4x128, .f32⟩
  | 126 => ⟨S4x8192x4x128, .f32⟩
  | 127 => ⟨S_, .f32⟩
  | _ => ⟨S4x8192x1024, .bf16⟩

abbrev hbmTy0_2 (i : Nat) : BufTy := match i % 128 with
  | 0 => ⟨S4x8192x4, .f32⟩
  | 1 => ⟨S4x8192x4x1, .f32⟩
  | 2 => ⟨S_, .f32⟩
  | 3 => ⟨S4x8192x4x1, .f32⟩
  | 4 => ⟨S4x8192x4x1, .f32⟩
  | 5 => ⟨S_, .f32⟩
  | 6 => ⟨S4x8192x4x1, .f32⟩
  | 7 => ⟨S4x8192x4x1, .f32⟩
  | 8 => ⟨S4x8192x4x1, .f32⟩
  | 9 => ⟨S4x8192x4x128, .f32⟩
  | 10 => ⟨S4x8192x4x128, .f32⟩
  | 11 => ⟨S4x128, .f32⟩
  | 12 => ⟨S1x1x4x128, .f32⟩
  | 13 => ⟨S4x8192x4x128, .f32⟩
  | 14 => ⟨S4x8192x4x128, .f32⟩
  | 15 => ⟨S4x8192x512, .f32⟩
  | 16 => ⟨S4x8192x512, .f32⟩
  | 17 => ⟨S4x8192x512, .f32⟩
  | 18 => ⟨S4x8192x512, .bf16⟩
  | _ => ⟨S4x8192x1024, .bf16⟩

abbrev hbmTy (i : Nat) : BufTy := match i / 128 with
  | 0 => hbmTy0_0 i
  | 1 => hbmTy0_1 i
  | 2 => hbmTy0_2 i
  | _ => ⟨S4x8192x1024, .bf16⟩

abbrev bufTy : (tb : Table) → Fin (tcTables nBuf tb) → BufTy
  | .hbm, ⟨i, _⟩ => hbmTy i
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_0 : Ref sig .tc := ⟨.hbm, 79, rfl⟩
abbrev main_v59 : Ref sig .tc := ⟨.hbm, 80, rfl⟩
abbrev main_cst_1 : Ref sig .tc := ⟨.hbm, 81, rfl⟩
abbrev main_v60 : Ref sig .tc := ⟨.hbm, 82, rfl⟩
abbrev main_cst_2 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_3 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_4 : Ref sig .tc := ⟨.hbm, 111, rfl⟩
abbrev main_v87 : Ref sig .tc := ⟨.hbm, 112, rfl⟩
abbrev main_c_5 : Ref sig .tc := ⟨.hbm, 113, rfl⟩
abbrev main_v88_0 : Ref sig .tc := ⟨.hbm, 114, rfl⟩
abbrev main_v88_1 : Ref sig .tc := ⟨.hbm, 115, rfl⟩
abbrev main_v88_2 : Ref sig .tc := ⟨.hbm, 116, rfl⟩
abbrev main_v88_3 : Ref sig .tc := ⟨.hbm, 117, rfl⟩
abbrev main_v88_4 : Ref sig .tc := ⟨.hbm, 118, rfl⟩
abbrev main_v88_5 : Ref sig .tc := ⟨.hbm, 119, rfl⟩
abbrev main_v88_6 : Ref sig .tc := ⟨.hbm, 120, rfl⟩
abbrev main_v88_7 : Ref sig .tc := ⟨.hbm, 121, rfl⟩
abbrev main_v88_8 : Ref sig .tc := ⟨.hbm, 122, rfl⟩
abbrev main_v88_9 : Ref sig .tc := ⟨.hbm, 123, rfl⟩
abbrev main_while0c_c_18 : Ref sig .tc := ⟨.hbm, 124, rfl⟩
abbrev main_while0c_v110 : Ref sig .tc := ⟨.hbm, 125, rfl⟩
abbrev main_while0b_call2_c : Ref sig .tc := ⟨.hbm, 126, rfl⟩
abbrev main_while0b_call2_c_0 : Ref sig .tc := ⟨.hbm, 127, rfl⟩
abbrev main_while0b_call2_c_1 : Ref sig .tc := ⟨.hbm, 128, rfl⟩
abbrev main_while0b_call2_c_2 : Ref sig .tc := ⟨.hbm, 129, rfl⟩
abbrev main_while0b_call2_v0 : Ref sig .tc := ⟨.hbm, 130, rfl⟩
abbrev main_while0b_v110 : Ref sig .tc := ⟨.hbm, 131, rfl⟩
abbrev main_while0b_call3_c : Ref sig .tc := ⟨.hbm, 132, rfl⟩
abbrev main_while0b_call3_c_0 : Ref sig .tc := ⟨.hbm, 133, rfl⟩
abbrev main_while0b_call3_c_1 : Ref sig .tc := ⟨.hbm, 134, rfl⟩
abbrev main_while0b_call3_c_2 : Ref sig .tc := ⟨.hbm, 135, rfl⟩
abbrev main_while0b_call3_v0 : Ref sig .tc := ⟨.hbm, 136, rfl⟩
abbrev main_while0b_v111 : Ref sig .tc := ⟨.hbm, 137, rfl⟩
abbrev main_while0b_call4_c : Ref sig .tc := ⟨.hbm, 138, rfl⟩
abbrev main_while0b_call4_c_0 : Ref sig .tc := ⟨.hbm, 139, rfl⟩
abbrev main_while0b_call4_c_1 : Ref sig .tc := ⟨.hbm, 140, rfl⟩
abbrev main_while0b_call4_c_2 : Ref sig .tc := ⟨.hbm, 141, rfl⟩
abbrev main_while0b_call4_v0 : Ref sig .tc := ⟨.hbm, 142, rfl⟩
abbrev main_while0b_v112 : Ref sig .tc := ⟨.hbm, 143, rfl⟩
abbrev main_while0b_call5_c : Ref sig .tc := ⟨.hbm, 144, rfl⟩
abbrev main_while0b_call5_c_0 : Ref sig .tc := ⟨.hbm, 145, rfl⟩
abbrev main_while0b_call5_c_1 : Ref sig .tc := ⟨.hbm, 146, rfl⟩
abbrev main_while0b_call5_v0 : Ref sig .tc := ⟨.hbm, 147, rfl⟩
abbrev main_while0b_v113 : Ref sig .tc := ⟨.hbm, 148, rfl⟩
abbrev main_while0b_call6_c : Ref sig .tc := ⟨.hbm, 149, rfl⟩
abbrev main_while0b_call6_c_0 : Ref sig .tc := ⟨.hbm, 150, rfl⟩
abbrev main_while0b_call6_c_1 : Ref sig .tc := ⟨.hbm, 151, rfl⟩
abbrev main_while0b_call6_v0 : Ref sig .tc := ⟨.hbm, 152, rfl⟩
abbrev main_while0b_v114 : Ref sig .tc := ⟨.hbm, 153, rfl⟩
abbrev main_while0b_call7_call0_cst : Ref sig .tc := ⟨.hbm, 154, rfl⟩
abbrev main_while0b_call7_call0_v0 : Ref sig .tc := ⟨.hbm, 155, rfl⟩
abbrev main_while0b_v115 : Ref sig .tc := ⟨.hbm, 156, rfl⟩
abbrev main_while0b_v116 : Ref sig .tc := ⟨.hbm, 157, rfl⟩
abbrev main_while0b_v117 : Ref sig .tc := ⟨.hbm, 158, rfl⟩
abbrev main_while0b_v118 : Ref sig .tc := ⟨.hbm, 159, rfl⟩
abbrev main_while0b_v119 : Ref sig .tc := ⟨.hbm, 160, rfl⟩
abbrev main_while0b_v120 : Ref sig .tc := ⟨.hbm, 161, rfl⟩
abbrev main_while0b_v121 : Ref sig .tc := ⟨.hbm, 162, rfl⟩
abbrev main_while0b_v122 : Ref sig .tc := ⟨.hbm, 163, rfl⟩
abbrev main_while0b_v123 : Ref sig .tc := ⟨.hbm, 164, rfl⟩
abbrev main_while0b_v124 : Ref sig .tc := ⟨.hbm, 165, rfl⟩
abbrev main_while0b_v125 : Ref sig .tc := ⟨.hbm, 166, rfl⟩
abbrev main_while0b_v126 : Ref sig .tc := ⟨.hbm, 167, rfl⟩
abbrev main_while0b_v127 : Ref sig .tc := ⟨.hbm, 168, rfl⟩
abbrev main_while0b_v128 : Ref sig .tc := ⟨.hbm, 169, rfl⟩
abbrev main_while0b_v129 : Ref sig .tc := ⟨.hbm, 170, rfl⟩
abbrev main_while0b_v130 : Ref sig .tc := ⟨.hbm, 171, rfl⟩
abbrev main_while0b_v131 : Ref sig .tc := ⟨.hbm, 172, rfl⟩
abbrev main_while0b_cst_18 : Ref sig .tc := ⟨.hbm, 173, rfl⟩
abbrev main_while0b_call8_v0 : Ref sig .tc := ⟨.hbm, 174, rfl⟩
abbrev main_while0b_call8_v1 : Ref sig .tc := ⟨.hbm, 175, rfl⟩
abbrev main_while0b_call8_v2 : Ref sig .tc := ⟨.hbm, 176, rfl⟩
abbrev main_while0b_v132 : Ref sig .tc := ⟨.hbm, 177, rfl⟩
abbrev main_while0b_cst_19 : Ref sig .tc := ⟨.hbm, 178, rfl⟩
abbrev main_while0b_v133 : Ref sig .tc := ⟨.hbm, 179, rfl⟩
abbrev main_while0b_v134 : Ref sig .tc := ⟨.hbm, 180, rfl⟩
abbrev main_while0b_v135 : Ref sig .tc := ⟨.hbm, 181, rfl⟩
abbrev main_while0b_v136 : Ref sig .tc := ⟨.hbm, 182, rfl⟩
abbrev main_while0b_v137 : Ref sig .tc := ⟨.hbm, 183, rfl⟩
abbrev main_while0b_v138 : Ref sig .tc := ⟨.hbm, 184, rfl⟩
abbrev main_while0b_v139 : Ref sig .tc := ⟨.hbm, 185, rfl⟩
abbrev main_while0b_v140 : Ref sig .tc := ⟨.hbm, 186, rfl⟩
abbrev main_while0b_v141 : Ref sig .tc := ⟨.hbm, 187, rfl⟩
abbrev main_while0b_v142 : Ref sig .tc := ⟨.hbm, 188, rfl⟩
abbrev main_while0b_v143 : Ref sig .tc := ⟨.hbm, 189, rfl⟩
abbrev main_while0b_v144 : Ref sig .tc := ⟨.hbm, 190, rfl⟩
abbrev main_while0b_v145 : Ref sig .tc := ⟨.hbm, 191, rfl⟩
abbrev main_while0b_v146 : Ref sig .tc := ⟨.hbm, 192, rfl⟩
abbrev main_while0b_v147 : Ref sig .tc := ⟨.hbm, 193, rfl⟩
abbrev main_while0b_v148 : Ref sig .tc := ⟨.hbm, 194, rfl⟩
abbrev main_while0b_cst_20 : Ref sig .tc := ⟨.hbm, 195, rfl⟩
abbrev main_while0b_v149 : Ref sig .tc := ⟨.hbm, 196, rfl⟩
abbrev main_while0b_v150 : Ref sig .tc := ⟨.hbm, 197, rfl⟩
abbrev main_while0b_v151 : Ref sig .tc := ⟨.hbm, 198, rfl⟩
abbrev main_while0b_v152 : Ref sig .tc := ⟨.hbm, 199, rfl⟩
abbrev main_while0b_v153 : Ref sig .tc := ⟨.hbm, 200, rfl⟩
abbrev main_while0b_v154 : Ref sig .tc := ⟨.hbm, 201, rfl⟩
abbrev main_while0b_v155 : Ref sig .tc := ⟨.hbm, 202, rfl⟩
abbrev main_while0b_v156 : Ref sig .tc := ⟨.hbm, 203, rfl⟩
abbrev main_while0b_v157 : Ref sig .tc := ⟨.hbm, 204, rfl⟩
abbrev main_while0b_v158 : Ref sig .tc := ⟨.hbm, 205, rfl⟩
abbrev main_while0b_v159 : Ref sig .tc := ⟨.hbm, 206, rfl⟩
abbrev main_while0b_v160 : Ref sig .tc := ⟨.hbm, 207, rfl⟩
abbrev main_while0b_v161 : Ref sig .tc := ⟨.hbm, 208, rfl⟩
abbrev main_while0b_v162 : Ref sig .tc := ⟨.hbm, 209, rfl⟩
abbrev main_while0b_v163 : Ref sig .tc := ⟨.hbm, 210, rfl⟩
abbrev main_while0b_cst_21 : Ref sig .tc := ⟨.hbm, 211, rfl⟩
abbrev main_while0b_v164 : Ref sig .tc := ⟨.hbm, 212, rfl⟩
abbrev main_while0b_v165 : Ref sig .tc := ⟨.hbm, 213, rfl⟩
abbrev main_while0b_v166 : Ref sig .tc := ⟨.hbm, 214, rfl⟩
abbrev main_while0b_v167 : Ref sig .tc := ⟨.hbm, 215, rfl⟩
abbrev main_while0b_v168 : Ref sig .tc := ⟨.hbm, 216, rfl⟩
abbrev main_while0b_v169 : Ref sig .tc := ⟨.hbm, 217, rfl⟩
abbrev main_while0b_v170 : Ref sig .tc := ⟨.hbm, 218, rfl⟩
abbrev main_while0b_v171 : Ref sig .tc := ⟨.hbm, 219, rfl⟩
abbrev main_while0b_v172 : Ref sig .tc := ⟨.hbm, 220, rfl⟩
abbrev main_while0b_v173 : Ref sig .tc := ⟨.hbm, 221, rfl⟩
abbrev main_while0b_v174 : Ref sig .tc := ⟨.hbm, 222, rfl⟩
abbrev main_while0b_v175 : Ref sig .tc := ⟨.hbm, 223, rfl⟩
abbrev main_while0b_v176 : Ref sig .tc := ⟨.hbm, 224, rfl⟩
abbrev main_while0b_v177 : Ref sig .tc := ⟨.hbm, 225, rfl⟩
abbrev main_while0b_v178 : Ref sig .tc := ⟨.hbm, 226, rfl⟩
abbrev main_while0b_v179 : Ref sig .tc := ⟨.hbm, 227, rfl⟩
abbrev main_while0b_v180 : Ref sig .tc := ⟨.hbm, 228, rfl⟩
abbrev main_while0b_v181 : Ref sig .tc := ⟨.hbm, 229, rfl⟩
abbrev main_while0b_v182 : Ref sig .tc := ⟨.hbm, 230, rfl⟩
abbrev main_while0b_v183 : Ref sig .tc := ⟨.hbm, 231, rfl⟩
abbrev main_while0b_v184 : Ref sig .tc := ⟨.hbm, 232, rfl⟩
abbrev main_while0b_v185 : Ref sig .tc := ⟨.hbm, 233, rfl⟩
abbrev main_while0b_v186 : Ref sig .tc := ⟨.hbm, 234, rfl⟩
abbrev main_while0b_v187 : Ref sig .tc := ⟨.hbm, 235, rfl⟩
abbrev main_while0b_v188 : Ref sig .tc := ⟨.hbm, 236, rfl⟩
abbrev main_while0b_v189 : Ref sig .tc := ⟨.hbm, 237, rfl⟩
abbrev main_while0b_v190 : Ref sig .tc := ⟨.hbm, 238, rfl⟩
abbrev main_while0b_v191 : Ref sig .tc := ⟨.hbm, 239, rfl⟩
abbrev main_while0b_v192 : Ref sig .tc := ⟨.hbm, 240, rfl⟩
abbrev main_while0b_v193 : Ref sig .tc := ⟨.hbm, 241, rfl⟩
abbrev main_while0b_v194 : Ref sig .tc := ⟨.hbm, 242, rfl⟩
abbrev main_while0b_call9_v0 : Ref sig .tc := ⟨.hbm, 243, rfl⟩
abbrev main_while0b_call9_c : Ref sig .tc := ⟨.hbm, 244, rfl⟩
abbrev main_while0b_call9_c_0 : Ref sig .tc := ⟨.hbm, 245, rfl⟩
abbrev main_while0b_call9_c_1 : Ref sig .tc := ⟨.hbm, 246, rfl⟩
abbrev main_while0b_call9_c_2 : Ref sig .tc := ⟨.hbm, 247, rfl⟩
abbrev main_while0b_v195 : Ref sig .tc := ⟨.hbm, 248, rfl⟩
abbrev main_while0b_c_22 : Ref sig .tc := ⟨.hbm, 249, rfl⟩
abbrev main_while0b_v196 : Ref sig .tc := ⟨.hbm, 250, rfl⟩
abbrev main_v89 : Ref sig .tc := ⟨.hbm, 251, rfl⟩
abbrev main_v90 : Ref sig .tc := ⟨.hbm, 252, rfl⟩
abbrev main_v91 : Ref sig .tc := ⟨.hbm, 253, rfl⟩
abbrev main_v92 : Ref sig .tc := ⟨.hbm, 254, rfl⟩
abbrev main_cst_6 : Ref sig .tc := ⟨.hbm, 255, rfl⟩
abbrev main_v93 : Ref sig .tc := ⟨.hbm, 256, rfl⟩
abbrev main_v94 : Ref sig .tc := ⟨.hbm, 257, rfl⟩
abbrev main_cst_7 : Ref sig .tc := ⟨.hbm, 258, rfl⟩
abbrev main_v95 : Ref sig .tc := ⟨.hbm, 259, rfl⟩
abbrev main_v96 : Ref sig .tc := ⟨.hbm, 260, rfl⟩
abbrev main_cst_8 : Ref sig .tc := ⟨.hbm, 261, rfl⟩
abbrev main_v97 : Ref sig .tc := ⟨.hbm, 262, rfl⟩
abbrev main_v98 : Ref sig .tc := ⟨.hbm, 263, rfl⟩
abbrev main_v99 : Ref sig .tc := ⟨.hbm, 264, rfl⟩
abbrev main_v100 : Ref sig .tc := ⟨.hbm, 265, rfl⟩
abbrev main_v101 : Ref sig .tc := ⟨.hbm, 266, rfl⟩
abbrev main_v102 : Ref sig .tc := ⟨.hbm, 267, rfl⟩
abbrev main_v103 : Ref sig .tc := ⟨.hbm, 268, rfl⟩
abbrev main_v104 : Ref sig .tc := ⟨.hbm, 269, rfl⟩
abbrev main_v105 : Ref sig .tc := ⟨.hbm, 270, rfl⟩
abbrev main_v106 : Ref sig .tc := ⟨.hbm, 271, rfl⟩
abbrev main_v107 : Ref sig .tc := ⟨.hbm, 272, rfl⟩
abbrev main_v108 : Ref sig .tc := ⟨.hbm, 273, rfl⟩
abbrev main_v109 : Ref sig .tc := ⟨.hbm, 274, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S32768x1024 : Shape := ⟨2, ![32768, 1024]⟩
abbrev S4x6x1024 : Shape := ⟨3, ![4, 6, 1024]⟩
abbrev S1x1024 : Shape := ⟨2, ![1, 1024]⟩
abbrev S1024x5888 : Shape := ⟨2, ![1024, 5888]⟩
abbrev S1x512 : Shape := ⟨2, ![1, 512]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S32768x512 : Shape := ⟨2, ![32768, 512]⟩
abbrev S32768x256 : Shape := ⟨2, ![32768, 256]⟩
abbrev S1024x1024 : Shape := ⟨2, ![1024, 1024]⟩
abbrev S1x6x1024 : Shape := ⟨3, ![1, 6, 1024]⟩
abbrev S1024x512 : Shape := ⟨2, ![1024, 512]⟩
abbrev S1024x256 : Shape := ⟨2, ![1024, 256]⟩
abbrev S6x1024 : Shape := ⟨2, ![6, 1024]⟩
abbrev S1024 : Shape := ⟨1, ![1024]⟩
abbrev S1024x1 : Shape := ⟨2, ![1024, 1]⟩

abbrev nBuf : Space → Nat
  | .hbm => 45
  | .vmem => 27
  | .smem => 0
  | _ => 0

abbrev bufTy : (tb : Table) → Fin (tcTables nBuf tb) → BufTy
  | .hbm, ⟨0, _⟩ => ⟨S32768x1024, .f32⟩
  | .hbm, ⟨1, _⟩ => ⟨S4x6x1024, .f32⟩
  | .hbm, ⟨2, _⟩ => ⟨S1x1024, .f32⟩
  | .hbm, ⟨3, _⟩ => ⟨S1024x5888, .bf16⟩
  | .hbm, ⟨4, _⟩ => ⟨S1x512, .f32⟩
  | .hbm, ⟨5, _⟩ => ⟨S1x512, .f32⟩
  | .hbm, ⟨6, _⟩ => ⟨S256, .i32⟩
  | .hbm, ⟨7, _⟩ => ⟨S_, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S_, .i32⟩
  | .hbm, ⟨13, _⟩ => ⟨S256, .i32⟩
  | .hbm, ⟨14, _⟩ => ⟨S256, .i1⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S256, .i1⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S256x1, .i32⟩
  | .hbm, ⟨26, _⟩ => ⟨S1x256, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S_, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .bf16⟩
  | .hbm, ⟨36, _⟩ => ⟨S32768x1024, .bf16⟩
  | .hbm, ⟨37, _⟩ => ⟨S32768x512, .bf16⟩
  | .hbm, ⟨38, _⟩ => ⟨S32768x512, .bf16⟩
  | .hbm, ⟨39, _⟩ => ⟨S32768x512, .bf16⟩
  | .hbm, ⟨40, _⟩ => ⟨S32768x512, .bf16⟩
  | .hbm, ⟨41, _⟩ => ⟨S32768x512, .bf16⟩
  | .hbm, ⟨42, _⟩ => ⟨S32768x1024, .bf16⟩
  | .hbm, ⟨43, _⟩ => ⟨S32768x1024, .bf16⟩
  | .hbm, ⟨44, _⟩ => ⟨S32768x256, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x5888, .bf16⟩
  | .local _ .vmem, ⟨6, _⟩ => ⟨S256x256, .bf16⟩
  | .local _ .vmem, ⟨7, _⟩ => ⟨S1x512, .f32⟩
  | .local _ .vmem, ⟨8, _⟩ => ⟨S1x512, .f32⟩
  | .local _ .vmem, ⟨9, _⟩ => ⟨S1024x1024, .bf16⟩
  | .local _ .vmem, ⟨10, _⟩ => ⟨S1024x1024, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x256, .f32⟩
  | .local _ .vmem, ⟨26, _⟩ => ⟨S1024x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_v7 : Ref sig .tc := ⟨.hbm, 34, rfl⟩
abbrev main_v8 : Ref sig .tc := ⟨.hbm, 35, rfl⟩
abbrev main_v9_0 : Ref sig .tc := ⟨.hbm, 36, rfl⟩
abbrev main_v9_1 : Ref sig .tc := ⟨.hbm, 37, rfl⟩
abbrev main_v9_2 : Ref sig .tc := ⟨.hbm, 38, rfl⟩
abbrev main_v9_3 : Ref sig .tc := ⟨.hbm, 39, rfl⟩
abbrev main_v9_4 : Ref sig .tc := ⟨.hbm, 40, rfl⟩
abbrev main_v9_5 : Ref sig .tc := ⟨.hbm, 41, rfl⟩
abbrev main_v9_6 : Ref sig .tc := ⟨.hbm, 42, rfl⟩
abbrev main_v9_7 : Ref sig .tc := ⟨.hbm, 43, rfl⟩
abbrev main_v9_8 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5888 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S32768x1024 : Shape := ⟨2, ![32768, 1024]⟩
abbrev S4x6x1024 : Shape := ⟨3, ![4, 6, 1024]⟩
abbrev S1x1024 : Shape := ⟨2, ![1, 1024]⟩
abbrev S1024x5888 : Shape := ⟨2, ![1024, 5888]⟩
abbrev S1x512 : Shape := ⟨2, ![1, 512]⟩
abbrev S4x1x1024 : Shape := ⟨3, ![4, 1, 1024]⟩
abbrev S4x1024 : Shape := ⟨2, ![4, 1024]⟩
abbrev S4x8192x1024 : Shape := ⟨3, ![4, 8192, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S32768x5888 : Shape := ⟨2, ![32768, 5888]⟩
abbrev S32768x512 : Shape := ⟨2, ![32768, 512]⟩
abbrev S32768x256 : Shape := ⟨2, ![32768, 256]⟩
abbrev S32768x8x64 : Shape := ⟨3, ![32768, 8, 64]⟩
abbrev S8x64 : Shape := ⟨2, ![8, 64]⟩
abbrev S32768x8 : Shape := ⟨2, ![32768, 8]⟩
abbrev S32768x8x1 : Shape := ⟨3, ![32768, 8, 1]⟩
abbrev S1x8x64 : Shape := ⟨3, ![1, 8, 64]⟩

abbrev nBuf : Space → Nat
  | .hbm => 103
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x6x1024, .f32⟩
  | .hbm, ⟨2, _⟩ => ⟨S1x1024, .f32⟩
  | .hbm, ⟨3, _⟩ => ⟨S1024x5888, .bf16⟩
  | .hbm, ⟨4, _⟩ => ⟨S1x512, .f32⟩
  | .hbm, ⟨5, _⟩ => ⟨S1x512, .f32⟩
  | .hbm, ⟨6, _⟩ => ⟨S4x1x1024, .f32⟩
  | .hbm, ⟨7, _⟩ => ⟨S4x1024, .f32⟩
  | .hbm, ⟨8, _⟩ => ⟨S4x1x1024, .f32⟩
  | .hbm, ⟨9, _⟩ => ⟨S4x8192x1024, .f32⟩
  | .hbm, ⟨10, _⟩ => ⟨S32768x1024, .f32⟩
  | .hbm, ⟨11, _⟩ => ⟨S4x1x1024, .f32⟩
  | .hbm, ⟨12, _⟩ => ⟨S4x1024, .f32⟩
  | .hbm, ⟨13, _⟩ => ⟨S4x1x1024, .f32⟩
  | .hbm, ⟨14, _⟩ => ⟨S4x8192x1024, .f32⟩
  | .hbm, ⟨15, _⟩ => ⟨S32768x1024, .f32⟩
  | .hbm, ⟨16, _⟩ => ⟨S1024, .f32⟩
  | .hbm, ⟨17, _⟩ => ⟨S32768x1024, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S1x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S1024x5888, .f32⟩
  | .hbm, ⟨39, _⟩ => ⟨S32768x5888, .f32⟩
  | .hbm, ⟨40, _⟩ => ⟨S32768x1024, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x1024, .f32⟩
  | .hbm, ⟨47, _⟩ => ⟨S32768x1024, .f32⟩
  | .hbm, ⟨48, _⟩ => ⟨S32768x256, .f32⟩
  | .hbm, ⟨49, _⟩ => ⟨S32768x512, .f32⟩
  | .hbm, ⟨50, _⟩ => ⟨S32768x512, .f32⟩
  | .hbm, ⟨51, _⟩ => ⟨S_, .f32⟩
  | .hbm, ⟨52, _⟩ => ⟨S32768x512, .f32⟩
  | .hbm, ⟨53, _⟩ => ⟨S32768x512, .f32⟩
  | .hbm, ⟨54, _⟩ => ⟨S_, .f32⟩
  | .hbm, ⟨55, _⟩ => ⟨S32768x512, .f32⟩
  | .hbm, ⟨56, _⟩ => ⟨S32768x512, .f32⟩
  | .hbm, ⟨57, _⟩ => ⟨S32768x8x64, .f32⟩
  | .hbm, ⟨58, _⟩ => ⟨S8x64, .f32⟩
  | .hbm, ⟨59, _⟩ => ⟨S32768x8x64, .f32⟩
  | .hbm, ⟨60, _⟩ => ⟨S_, .f32⟩
  | .hbm, ⟨61, _⟩ => ⟨S32768x8, .f32⟩
  | .hbm, ⟨62, _⟩ => ⟨S32768x8x1, .f32⟩
  | .hbm, ⟨63, _⟩ => ⟨S_, .f32⟩
  | .hbm, ⟨64, _⟩ => ⟨S32768x8x1, .f32⟩
  | .hbm, ⟨65, _⟩ => ⟨S32768x8x1, .f32⟩
  | .hbm, ⟨66, _⟩ => ⟨S_, .f32⟩
  | .hbm, ⟨67, _⟩ => ⟨S32768x8x1, .f32⟩
  | .hbm, ⟨68, _⟩ => ⟨S32768x8x1, .f32⟩
  | .hbm, ⟨69, _⟩ => ⟨S32768x8x1, .f32⟩
  | .hbm, ⟨70, _⟩ => ⟨S32768x8x64, .f32⟩
  | .hbm, ⟨71, _⟩ => ⟨S32768x8x64, .f32⟩
  | .hbm, ⟨72, _⟩ => ⟨S1x8x64, .f32⟩
  | .hbm, ⟨73, _⟩ => ⟨S32768x8x64, .f32⟩
  | .hbm, ⟨74, _⟩ => ⟨S32768x8x64, .f32⟩
  | .hbm, ⟨75, _⟩ => ⟨S32768x512, .f32⟩
  | .hbm, ⟨76, _⟩ => ⟨S32768x8x64, .f32⟩
  | .hbm, ⟨77, _⟩ => ⟨S8x64, .f32⟩
  | .hbm, ⟨78, _⟩ => ⟨S32768x8x64, .f32⟩
  | .hbm, ⟨79, _⟩ => ⟨S_, .f32⟩
  | .hbm, ⟨80, _⟩ => ⟨S32768x8, .f32⟩
  | .hbm, ⟨81, _⟩ => ⟨S32768x8x1, .f32⟩
  | .hbm, ⟨82, _⟩ => ⟨S_, .f32⟩
  | .hbm, ⟨83, _⟩ => ⟨S32768x8x1, .f32⟩
  | .hbm, ⟨84, _⟩ => ⟨S32768x8x1, .f32⟩
  | .hbm, ⟨85, _⟩ => ⟨S_, .f32⟩
  | .hbm, ⟨86, _⟩ => ⟨S32768x8x1, .f32⟩
  | .hbm, ⟨87, _⟩ => ⟨S32768x8x1, .f32⟩
  | .hbm, ⟨88, _⟩ => ⟨S32768x8x1, .f32⟩
  | .hbm, ⟨89, _⟩ => ⟨S32768x8x64, .f32⟩
  | .hbm, ⟨90, _⟩ => ⟨S32768x8x64, .f32⟩
  | .hbm, ⟨91, _⟩ => ⟨S1x8x64, .f32⟩
  | .hbm, ⟨92, _⟩ => ⟨S32768x8x64, .f32⟩
  | .hbm, ⟨93, _⟩ => ⟨S32768x8x64, .f32⟩
  | .hbm, ⟨94, _⟩ => ⟨S32768x512, .f32⟩
  | .hbm, ⟨95, _⟩ => ⟨S32768x1024, .bf16⟩
  | .hbm, ⟨96, _⟩ => ⟨S32768x512, .bf16⟩
  | .hbm, ⟨97, _⟩ => ⟨S32768x512, .bf16⟩
  | .hbm, ⟨98, _⟩ => ⟨S32768x512, .bf16⟩
  | .hbm, ⟨99, _⟩ => ⟨S32768x512, .bf16⟩
  | .hbm, ⟨100, _⟩ => ⟨S32768x512, .bf16⟩
  | .hbm, ⟨101, _⟩ => ⟨S32768x1024, .bf16⟩
  | .hbm, ⟨102, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_8 : Ref sig .tc := ⟨.hbm, 79, rfl⟩
abbrev main_v64 : Ref sig .tc := ⟨.hbm, 80, rfl⟩
abbrev main_v65 : Ref sig .tc := ⟨.hbm, 81, rfl⟩
abbrev main_cst_9 : Ref sig .tc := ⟨.hbm, 82, rfl⟩
abbrev main_v66 : Ref sig .tc := ⟨.hbm, 83, rfl⟩
abbrev main_v67 : Ref sig .tc := ⟨.hbm, 84, rfl⟩
abbrev main_cst_10 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩

abbrev nD : Nat := 1
abbrev τ : Topo := Topo.v7x

variable {F : FTy → Type} [FloatOps F]
-- ==== Kernel3.lean ====
abbrev S32768x1024 : Shape := ⟨2, ![32768, 1024]⟩
abbrev S4x6x1024 : Shape := ⟨3, ![4, 6, 1024]⟩
abbrev S32768x512 : Shape := ⟨2, ![32768, 512]⟩
abbrev S512x1024 : Shape := ⟨2, ![512, 1024]⟩
abbrev S1024x1024 : Shape := ⟨2, ![1024, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x6x1024 : Shape := ⟨3, ![1, 6, 1024]⟩
abbrev S512x512 : Shape := ⟨2, ![512, 512]⟩
abbrev S11x16x256 : Shape := ⟨3, ![11, 16, 256]⟩
abbrev S512x2816 : Shape := ⟨2, ![512, 2816]⟩
abbrev S8x576x128 : Shape := ⟨3, ![8, 576, 128]⟩
abbrev S6x1024 : Shape := ⟨2, ![6, 1024]⟩
abbrev S64x128 : Shape := ⟨2, ![64, 128]⟩
abbrev S1x64x128 : Shape := ⟨3, ![1, 64, 128]⟩
abbrev S1x8x128 : Shape := ⟨3, ![1, 8, 128]⟩
abbrev S8x128 : Shape := ⟨2, ![8, 128]⟩
abbrev S8x1024 : Shape := ⟨2, ![8, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x16x256 : Shape := ⟨3, ![1, 16, 256]⟩
abbrev S16x256 : Shape := ⟨2, ![16, 256]⟩
abbrev S3x256 : Shape := ⟨2, ![3, 256]⟩
abbrev S1x256 : Shape := ⟨2, ![1, 256]⟩
abbrev S8x256 : Shape := ⟨2, ![8, 256]⟩
abbrev S504x256 : Shape := ⟨2, ![504, 256]⟩
abbrev S496x256 : Shape := ⟨2, ![496, 256]⟩
abbrev S64x1024 : Shape := ⟨2, ![64, 1024]⟩

abbrev nBuf : Space → Nat
  | .hbm => 15
  | .vmem => 26
  | .smem => 0
  | _ => 0

abbrev bufTy : (tb : Table) → Fin (tcTables nBuf tb) → BufTy
  | .hbm, ⟨0, _⟩ => ⟨S32768x1024, .f32⟩
  | .hbm, ⟨1, _⟩ => ⟨S4x6x1024, .f32⟩
  | .hbm, ⟨2, _⟩ => ⟨S32768x512, .bf16⟩
  | .hbm, ⟨3, _⟩ => ⟨S32768x512, .bf16⟩
  | .hbm, ⟨4, _⟩ => ⟨S32768x1024, .bf16⟩
  | .hbm, ⟨5, _⟩ => ⟨S32768x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S1024x5632, .bf16⟩
  | .hbm, ⟨11, _⟩ => ⟨S3x5632, .f32⟩
  | .hbm, ⟨12, _⟩ => ⟨S1x5632, .f32⟩
  | .hbm, ⟨13, _⟩ => ⟨S2816x1024, .bf16⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x5632, .bf16⟩
  | .local _ .vmem, ⟨17, _⟩ => ⟨S3x5632, .f32⟩
  | .local _ .vmem, ⟨18, _⟩ => ⟨S1x5632, .f32⟩
  | .local _ .vmem, ⟨19, _⟩ => ⟨S2816x1024, .bf16⟩
  | .local _ .vmem, ⟨20, _⟩ => ⟨S512x1024, .f32⟩
  | .local _ .vmem, ⟨21, _⟩ => ⟨S512x1024, .f32⟩
  | .local _ .vmem, ⟨22, _⟩ => ⟨S11x16x256, .f32⟩
  | .local _ .vmem, ⟨23, _⟩ => ⟨S11x16x256, .f32⟩
  | .local _ .vmem, ⟨24, _⟩ => ⟨S512x2816, .bf16⟩
  | .local _ .vmem, ⟨25, _⟩ => ⟨S8x576x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S32768x1024 : Shape := ⟨2, ![32768, 1024]⟩
abbrev S4x6x1024 : Shape := ⟨3, ![4, 6, 1024]⟩
abbrev S32768x512 : Shape := ⟨2, ![32768, 512]⟩
abbrev S512x1024 : Shape := ⟨2, ![512, 1024]⟩
abbrev S1024x1024 : Shape := ⟨2, ![1024, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S4x1x1024 : Shape := ⟨3, ![4, 1, 1024]⟩
abbrev S4x1024 : Shape := ⟨2, ![4, 1024]⟩
abbrev S4x8192x1024 : Shape := ⟨3, ![4, 8192, 1024]⟩
abbrev S_ : Shape := ⟨0, ![]⟩
abbrev S1024 : Shape := ⟨1, ![1024]⟩
abbrev S32768 : Shape := ⟨1, ![32768]⟩
abbrev S32768x1 : Shape := ⟨2, ![32768, 1]⟩
abbrev S32768x5632 : Shape := ⟨2, ![32768, 5632]⟩
abbrev S4x8192x5632 : Shape := ⟨3, ![4, 8192, 5632]⟩
abbrev S4x8194x5632 : Shape := ⟨3, ![4, 8194, 5632]⟩
abbrev S5632 : Shape := ⟨1, ![5632]⟩
abbrev S1x1x5632 : Shape := ⟨3, ![1, 1, 5632]⟩
abbrev S32768x2816 : Shape := ⟨2, ![32768, 2816]⟩

abbrev nBuf : Space → Nat
  | .hbm => 134
  | .vmem => 0
  | .smem => 0
  | _ => 0

abbrev hbmTy0_0 (i : Nat) : BufTy := match i % 128 with
  | 0 => ⟨S32768x1024, .f32⟩
  | 1 => ⟨S4x6x1024, .f32⟩
  | 2 => ⟨S32768x512, .bf16⟩
  | 3 => ⟨S32768x512, .bf16⟩
  | 4 => ⟨S32768x1024, .bf16⟩
  | 5 => ⟨S32768x1024, .bf16⟩
  | 6 => ⟨S512x1024, .bf16⟩
  | 7 => ⟨S512x1024, .bf16⟩
  | 8 => ⟨S1024x1024, .bf16⟩
  | 9 => ⟨S1x1024, .f32⟩
  | 10 => ⟨S1024x5632, .bf16⟩
  | 11 => ⟨S3x5632, .f32⟩
  | 12 => ⟨S1x5632, .f32⟩
  | 13 => ⟨S2816x1024, .bf16⟩
  | 14 => ⟨S4x1x1024, .f32⟩
  | 15 => ⟨S4x1024, .f32⟩
  | 16 => ⟨S4x1x1024, .f32⟩
  | 17 => ⟨S4x8192x1024, .f32⟩
  | 18 => ⟨S32768x1024, .f32⟩
  | 19 => ⟨S4x1x1024, .f32⟩
  | 20 => ⟨S4x1024, .f32⟩
  | 21 => ⟨S4x1x1024, .f32⟩
  | 22 => ⟨S4x8192x1024, .f32⟩
  | 23 => ⟨S32768x1024, .f32⟩
  | 24 => ⟨S4x1x1024, .f32⟩
  | 25 => ⟨S4x1024, .f32⟩
  | 26 => ⟨S4x1x1024, .f32⟩
  | 27 => ⟨S4x8192x1024, .f32⟩
  | 28 => ⟨S32768x1024, .f32⟩
  | 29 => ⟨S4x1x1024, .f32⟩
  | 30 => ⟨S4x1024, .f32⟩
  | 31 => ⟨S4x1x1024, .f32⟩
  | 32 => ⟨S4x8192x1024, .f32⟩
  | 33 => ⟨S32768x1024, .f32⟩
  | 34 => ⟨S32768x1024, .f32⟩
  | 35 => ⟨S32768x1024, .f32⟩
  | 36 => ⟨S32768x1024, .f32⟩
  | 37 => ⟨S_, .f32⟩
  | 38 => ⟨S32768x1024, .f32⟩
  | 39 => ⟨S32768x1024, .f32⟩
  | 40 => ⟨S_, .f32⟩
  | 41 => ⟨S32768x1024, .f32⟩
  | 42 => ⟨S32768x1024, .f32⟩
  | 43 => ⟨S32768x512, .f32⟩
  | 44 => ⟨S512x1024, .f32⟩
  | 45 => ⟨S32768x1024, .f32⟩
  | 46 => ⟨S32768x1024, .f32⟩
  | 47 => ⟨S32768x1024, .f32⟩
  | 48 => ⟨S32768x1024, .f32⟩
  | 49 => ⟨S32768x1024, .f32⟩
  | 50 => ⟨S_, .f32⟩
  | 51 => ⟨S32768x1024, .f32⟩
  | 52 => ⟨S32768x1024, .f32⟩
  | 53 => ⟨S_, .f32⟩
  | 54 => ⟨S32768x1024, .f32⟩
  | 55 => ⟨S32768x1024, .f32⟩
  | 56 => ⟨S32768x512, .f32⟩
  | 57 => ⟨S512x1024, .f32⟩
  | 58 => ⟨S32768x1024, .f32⟩
  | 59 => ⟨S32768x1024, .f32⟩
  | 60 => ⟨S32768x1024, .f32⟩
  | 61 => ⟨S1024x1024, .f32⟩
  | 62 => ⟨S32768x1024, .f32⟩
  | 63 => ⟨S32768x1024, .f32⟩
  | 64 => ⟨S32768x1024, .f32⟩
  | 65 => ⟨S1024, .f32⟩
  | 66 => ⟨S32768x1024, .f32⟩
  | 67 => ⟨S_, .f32⟩
  | 68 => ⟨S32768, .f32⟩
  | 69 => ⟨S32768x1, .f32⟩
  | 70 => ⟨S_, .f32⟩
  | 71 => ⟨S32768x1, .f32⟩
  | 72 => ⟨S32768x1, .f32⟩
  | 73 => ⟨S_, .f32⟩
  | 74 => ⟨S32768x1, .f32⟩
  | 75 => ⟨S32768x1, .f32⟩
  | 76 => ⟨S32768x1, .f32⟩
  | 77 => ⟨S32768x1024, .f32⟩
  | 78 => ⟨S32768x1024, .f32⟩
  | 79 => ⟨S1x1024, .f32⟩
  | 80 => ⟨S32768x1024, .f32⟩
  | 81 => ⟨S32768x1024, .f32⟩
  | 82 => ⟨S_, .f32⟩
  | 83 => ⟨S32768x1024, .f32⟩
  | 84 => ⟨S32768x1024, .f32⟩
  | 85 => ⟨S32768x1024, .f32⟩
  | 86 => ⟨S32768x1024, .f32⟩
  | 87 => ⟨S1024x5632, .f32⟩
  | 88 => ⟨S32768x5632, .f32⟩
  | 89 => ⟨S4x8192x5632, .f32⟩
  | 90 => ⟨S_, .i32⟩
  | 91 => ⟨S_, .f32⟩
  | 92 => ⟨S4x8194x5632, .f32⟩
  | 93 => ⟨S5632, .f32⟩
  | 94 => ⟨S1x5632, .f32⟩
  | 95 => ⟨S5632, .f32⟩
  | 96 => ⟨S4x8192x5632, .f32⟩
  | 97 => ⟨S1x1x5632, .f32⟩
  | 98 => ⟨S4x8192x5632, .f32⟩
  | 99 => ⟨S4x8192x5632, .f32⟩
  | 100 => ⟨S1x1x5632, .f32⟩
  | 101 => ⟨S4x8192x5632, .f32⟩
  | 102 => ⟨S4x8192x5632, .f32⟩
  | 103 => ⟨S1x5632, .f32⟩
  | 104 => ⟨S5632, .f32⟩
  | 105 => ⟨S4x8192x5632, .f32⟩
  | 106 => ⟨S1x1x5632, .f32⟩
  | 107 => ⟨S4x8192x5632, .f32⟩
  | 108 => ⟨S4x8192x5632, .f32⟩
  | 109 => ⟨S4x8192x5632, .f32⟩
  | 110 => ⟨S1x5632, .f32⟩
  | 111 => ⟨S5632, .f32⟩
  | 112 => ⟨S4x8192x5632, .f32⟩
  | 113 => ⟨S1x1x5632, .f32⟩
  | 114 => ⟨S4x8192x5632, .f32⟩
  | 115 => ⟨S4x8192x5632, .f32⟩
  | 116 => ⟨S4x8192x5632, .f32⟩
  | 117 => ⟨S32768x5632, .f32⟩
  | 118 => ⟨S32768x2816, .f32⟩
  | 119 => ⟨S32768x2816, .f32⟩
  | 120 => ⟨S32768x2816, .f32⟩
  | 121 => ⟨S32768x2816, .f32⟩
  | 122 => ⟨S_, .f32⟩
  | 123 => ⟨S32768x2816, .f32⟩
  | 124 => ⟨S32768x2816, .f32⟩
  | 125 => ⟨S_, .f32⟩
  | 126 => ⟨S32768x2816, .f32⟩
  | 127 => ⟨S32768x2816, .f32⟩
  | _ => ⟨S32768x1024, .f32⟩

abbrev hbmTy0_1 (i : Nat) : BufTy := match i % 128 with
  | 0 => ⟨S32768x2816, .f32⟩
  | 1 => ⟨S32768x2816, .f32⟩
  | 2 => ⟨S2816x1024, .f32⟩
  | 3 => ⟨S32768x1024, .f32⟩
  | 4 => ⟨S32768x1024, .f32⟩
  | 5 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_1 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_3 : Ref sig .tc := ⟨.hbm, 67, rfl⟩
abbrev main_v49 : Ref sig .tc := ⟨.hbm, 68, rfl⟩
abbrev main_v50 : Ref sig .tc := ⟨.hbm, 69, rfl⟩
abbrev main_cst_4 : Ref sig .tc := ⟨.hbm, 70, rfl⟩
abbrev main_v51 : Ref sig .tc := ⟨.hbm, 71, rfl⟩
abbrev main_v52 : Ref sig .tc := ⟨.hbm, 72, rfl⟩
abbrev main_cst_5 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_6 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c : Ref sig .tc := ⟨.hbm, 90, rfl⟩
abbrev main_call0_v0 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_call1_v0 : Ref sig .tc := ⟨.hbm, 120, rfl⟩
abbrev main_call1_v1 : Ref sig .tc := ⟨.hbm, 121, rfl⟩
abbrev main_call1_cst : Ref sig .tc := ⟨.hbm, 122, rfl⟩
abbrev main_call1_v2 : Ref sig .tc := ⟨.hbm, 123, rfl⟩
abbrev main_call1_v3 : Ref sig .tc := ⟨.hbm, 124, rfl⟩
abbrev main_call1_cst_0 : Ref sig .tc := ⟨.hbm, 125, rfl⟩
abbrev main_call1_v4 : Ref sig .tc := ⟨.hbm, 126, rfl⟩
abbrev main_call1_v5 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩

abbrev nD : Nat := 1
abbrev τ : Topo := Topo.v7x

variable {F : FTy → Type} [FloatOps F]
-- ==== Kernel4.lean ====
abbrev S8x1024 : Shape := ⟨2, ![8, 1024]⟩
abbrev S1024x6144 : Shape := ⟨2, ![1024, 6144]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S1x6144, .f32⟩
  | .hbm, ⟨3, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x1024 : Shape := ⟨2, ![8, 1024]⟩
abbrev S1024x6144 : Shape := ⟨2, ![1024, 6144]⟩
abbrev S1x6144 : Shape := ⟨2, ![1, 6144]⟩
abbrev S_ : Shape := ⟨0, ![]⟩
abbrev S8x6144 : Shape := ⟨2, ![8, 6144]⟩
abbrev S6144 : Shape := ⟨1, ![6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S6144, .f32⟩
  | .hbm, ⟨14, _⟩ => ⟨S1x6144, .f32⟩
  | .hbm, ⟨15, _⟩ => ⟨S8x6144, .f32⟩
  | .hbm, ⟨16, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.RefStep.lean ====
/- The reference's run stated over one trip of its loop: at a valuation that holds a state every value of one trip is the
   step's, so the run's result is read from the step iterated from the initial state. -/
module

public import proofs.«01_k».proof.Proof.Gen.ReferenceIdeal.Run
public import proofs.«01_k».proof.Proof.Gen.ReferenceIdeal.Step

@[expose] public section

noncomputable section

namespace Cert.RefStep

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v88_6) = s.main_v88_6
  f_7 : V0 (Proc.devRef .tc main_v88_7) = s.main_v88_7
  f_8 : V0 (Proc.devRef .tc main_v88_8) = s.main_v88_8
  f_9 : V0 (Proc.devRef .tc main_v88_9) = s.main_v88_9
  f_0 : V0 (Proc.devRef .tc main_v88_0) = s.main_v88_0
  f_1 : V0 (Proc.devRef .tc main_v88_1) = s.main_v88_1
  f_2 : V0 (Proc.devRef .tc main_v88_2) = s.main_v88_2
  f_3 : V0 (Proc.devRef .tc main_v88_3) = s.main_v88_3
  f_4 : V0 (Proc.devRef .tc main_v88_4) = s.main_v88_4
  n_5 : V0 (Proc.devRef .tc main_v88_5) = constantI S_ 32 (BitVec.ofNat 32 j)

variable {V0 s j}

set_option maxRecDepth 8192 in
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call2_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call2_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x4x4x64x128 (V0 (Proc.devRef .tc main_v88_0)) (fun k => (((![V0 (Proc.devRef .tc main_v88_5), constantI S_ 32 0#32, constantI S_ 32 0#32, constantI S_ 32 0#32, constantI S_ 32 0#32] : Fin 5 → (⟨S_, .i32⟩ : BufTy).Contents (Elt F))) k (Shape.Idx.first h_S_)).toInt) sliceFits_S128x4x4x64x128_S1x4x4x64x128 : (Proc.devRef .tc main_while0b_call2_v0 : DevRef τ sig).ty.Contents (Elt F)) = Cert.ReferenceIdeal.Step.b4 j s := by
  unfold Cert.ReferenceIdeal.Step.b4
  rw [← al_0 h, ← al_1 h, ← al_2 h, ← al_3 h, h.f_0, h.n_5]
  try rfl
set_option maxRecDepth 8192 in
theorem al_5 (h : Holds V0 s j) : (res_main_while0b_v110 V0 : (Proc.devRef .tc main_while0b_v110 : DevRef τ sig).ty.Contents (Elt F)) = Cert.ReferenceIdeal.Step.b5 j s := by
  unfold res_main_while0b_v110 Cert.ReferenceIdeal.Step.b5
  rw [← al_4 h]
  try rfl
set_option maxRecDepth 8192 in
theorem al_6 (h : Holds V0 s j) : (constantI S_ 32 0#32 : (Proc.devRef .tc main_while0b_call3_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call3_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call3_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call3_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x4x4x64x128 (V0 (Proc.devRef .tc main_v88_1)) (fun k => (((![V0 (Proc.devRef .tc main_v88_5), constantI S_ 32 0#32, constantI S_ 32 0#32, constantI S_ 32 0#32, constantI S_ 32 0#32] : Fin 5 → (⟨S_, .i32⟩ : BufTy).Contents (Elt F))) k (Shape.Idx.first h_S_)).toInt) sliceFits_S128x4x4x64x128_S1x4x4x64x128 : (Proc.devRef .tc main_while0b_call3_v0 : DevRef τ sig).ty.Contents (Elt F)) = Cert.ReferenceIdeal.Step.b10 j s := by
  unfold Cert.ReferenceIdeal.Step.b10
  rw [← al_6 h, ← al_7 h, ← al_8 h, ← al_9 h, h.f_1, h.n_5]
  try rfl
set_option maxRecDepth 8192 in
theorem al_11 (h : Holds V0 s j) : (res_main_while0b_v111 V0 : (Proc.devRef .tc main_while0b_v111 : DevRef τ sig).ty.Contents (Elt F)) = Cert.ReferenceIdeal.Step.b11 j s := by
  unfold res_main_while0b_v111 Cert.ReferenceIdeal.Step.b11
  rw [← al_10 h]
  try rfl
set_option maxRecDepth 8192 in
theorem al_12 (h : Holds V0 s j) : (constantI S_ 32 0#32 : (Proc.devRef .tc main_while0b_call4_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call4_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call4_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call4_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x4x4x64x128 (V0 (Proc.devRef .tc main_v88_2)) (fun k => (((![V0 (Proc.devRef .tc main_v88_5), constantI S_ 32 0#32, constantI S_ 32 0#32, constantI S_ 32 0#32, constantI S_ 32 0#32] : Fin 5 → (⟨S_, .i32⟩ : BufTy).Contents (Elt F))) k (Shape.Idx.first h_S_)).toInt) sliceFits_S128x4x4x64x128_S1x4x4x64x128 : (Proc.devRef .tc main_while0b_call4_v0 : DevRef τ sig).ty.Contents (Elt F)) = Cert.ReferenceIdeal.Step.b16 j s := by
  unfold Cert.ReferenceIdeal.Step.b16
  rw [← al_12 h, ← al_13 h, ← al_14 h, ← al_15 h, h.f_2, h.n_5]
  try rfl
set_option maxRecDepth 8192 in
theorem al_17 (h : Holds V0 s j) : (res_main_while0b_v112 V0 : (Proc.devRef .tc main_while0b_v112 : DevRef τ sig).ty.Contents (Elt F)) = Cert.ReferenceIdeal.Step.b17 j s := by
  unfold res_main_while0b_v112 Cert.ReferenceIdeal.Step.b17
  rw [← al_16 h]
  try rfl
set_option maxRecDepth 8192 in
theorem al_18 (h : Holds V0 s j) : (constantI S_ 32 0#32 : (Proc.devRef .tc main_while0b_call5_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call5_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call5_c_1 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x4x4x64 (V0 (Proc.devRef .tc main_v88_3)) (fun k => (((![V0 (Proc.devRef .tc main_v88_5), constantI S_ 32 0#32, constantI S_ 32 0#32, constantI S_ 32 0#32] : Fin 4 → (⟨S_, .i32⟩ : BufTy).Contents (Elt F))) k (Shape.Idx.first h_S_)).toInt) sliceFits_S128x4x4x64_S1x4x4x64 : (Proc.devRef .tc main_while0b_call5_v0 : DevRef τ sig).ty.Contents (Elt F)) = Cert.ReferenceIdeal.Step.b21 j s := by
  unfold Cert.ReferenceIdeal.Step.b21
  rw [← al_18 h, ← al_19 h, ← al_20 h, h.f_3, h.n_5]
  try rfl
set_option maxRecDepth 8192 in
theorem al_22 (h : Holds V0 s j) : (shapeCast S4x4x64 (Host.dynamicSlice S1x4x4x64 (V0 (Proc.devRef .tc main_v88_3)) (fun k => (((![V0 (Proc.devRef .tc main_v88_5), constantI S_ 32 0#32, constantI S_ 32 0#32, constantI S_ 32 0#32] : Fin 4 → (⟨S_, .i32⟩ : BufTy).Contents (Elt F))) k (Shape.Idx.first h_S_)).toInt) sliceFits_S128x4x4x64_S1x4x4x64) shapeCasts_S1x4x4x64_S4x4x64 : (Proc.devRef .tc main_while0b_v113 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (constantI S_ 32 0#32 : (Proc.devRef .tc main_while0b_call6_c : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call6_c_0 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call6_c_1 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x4x4x64 (V0 (Proc.devRef .tc main_v88_4)) (fun k => (((![V0 (Proc.devRef .tc main_v88_5), constantI S_ 32 0#32, constantI S_ 32 0#32, constantI S_ 32 0#32] : Fin 4 → (⟨S_, .i32⟩ : BufTy).Contents (Elt F))) k (Shape.Idx.first h_S_)).toInt) sliceFits_S128x4x4x64_S1x4x4x64 : (Proc.devRef .tc main_while0b_call6_v0 : DevRef τ sig).ty.Contents (Elt F)) = Cert.ReferenceIdeal.Step.b26 j s := by
  unfold Cert.ReferenceIdeal.Step.b26
  rw [← al_23 h, ← al_24 h, ← al_25 h, h.f_4, h.n_5]
  try rfl
set_option maxRecDepth 8192 in
theorem al_27 (h : Holds V0 s j) : (res_main_while0b_v114 V0 : (Proc.devRef .tc main_while0b_v114 : DevRef τ sig).ty.Contents (Elt F)) = Cert.ReferenceIdeal.Step.b27 j s := by
  unfold res_main_while0b_v114 Cert.ReferenceIdeal.Step.b27
  rw [← al_26 h]
  try rfl
set_option maxRecDepth 8192 in
theorem al_28 (h : Holds V0 s j) : (constant S_ .f32 0x00000000#32 : (Proc.devRef .tc main_while0b_call7_call0_cst : DevRef τ sig).ty.Contents (Elt F)) = Cert.ReferenceIdeal.Step.b28 j s := by
  unfold Cert.ReferenceIdeal.Step.b28
  rfl
set_option maxRecDepth 8192 in
theorem al_29 (h : Holds V0 s j) : (broadcastInDim S_ ![] bcast_S_S_ (constant S_ .f32 0x00000000#32) : (Proc.devRef .tc main_while0b_call7_call0_v0 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (res_main_while0b_v115 V0 : (Proc.devRef .tc main_while0b_v115 : DevRef τ sig).ty.Contents (Elt F)) = Cert.ReferenceIdeal.Step.b30 j s := by
  unfold res_main_while0b_v115 Cert.ReferenceIdeal.Step.b30
  rw [← al_22 h, ← al_29 h]
  try rfl
set_option maxRecDepth 8192 in
theorem al_31 (h : Holds V0 s j) : (extractStridedSlice S4x4x1 ![0, 0, 63] (res_main_while0b_v115 V0) slices_S4x4x64_S4x4x1_0_0_63 : (Proc.devRef .tc main_while0b_v116 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (res_main_while0b_v117 V0 : (Proc.devRef .tc main_while0b_v117 : DevRef τ sig).ty.Contents (Elt F)) = Cert.ReferenceIdeal.Step.b32 j s := by
  unfold res_main_while0b_v117 Cert.ReferenceIdeal.Step.b32
  rw [← al_31 h]
  try rfl
set_option maxRecDepth 8192 in
theorem al_33 (h : Holds V0 s j) : (broadcastInDim S4x4x1 ![0, 1] bcast_S4x4_S4x4x1_0_1 (V0 (Proc.devRef .tc main_v88_8)) : (Proc.devRef .tc main_while0b_v118 : DevRef τ sig).ty.Contents (Elt F)) = Cert.ReferenceIdeal.Step.b33 j s := by
  unfold Cert.ReferenceIdeal.Step.b33
  rw [h.f_8]
  try rfl
set_option maxRecDepth 8192 in
theorem al_34 (h : Holds V0 s j) : (broadcastInDim S4x4x64 ![0, 1, 2] bcast_S4x4x1_S4x4x64_0_1_2 (broadcastInDim S4x4x1 ![0, 1] bcast_S4x4_S4x4x1_0_1 (V0 (Proc.devRef .tc main_v88_8))) : (Proc.devRef .tc main_while0b_v119 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (res_main_while0b_v120 V0 : (Proc.devRef .tc main_while0b_v120 : DevRef τ sig).ty.Contents (Elt F)) = Cert.ReferenceIdeal.Step.b35 j s := by
  unfold res_main_while0b_v120 Cert.ReferenceIdeal.Step.b35
  rw [← al_30 h, ← al_34 h]
  try rfl
set_option maxRecDepth 8192 in
theorem al_36 (h : Holds V0 s j) : (broadcastInDim S4x4x64x1 ![0, 1, 2] bcast_S4x4x64_S4x4x64x1_0_1_2 (res_main_while0b_v115 V0) : (Proc.devRef .tc main_while0b_v121 : DevRef τ sig).ty.Contents (Elt F)) = Cert.ReferenceIdeal.Step.b36 j s := by
  unfold Cert.ReferenceIdeal.Step.b36
  rw [← al_30 h]
  try rfl
set_option maxRecDepth 8192 in
theorem al_37 (h : Holds V0 s j) : (broadcastInDim S4x4x1x64 ![0, 1, 3] bcast_S4x4x64_S4x4x1x64_0_1_3 (res_main_while0b_v115 V0) : (Proc.devRef .tc main_while0b_v122 : DevRef τ sig).ty.Contents (Elt F)) = Cert.ReferenceIdeal.Step.b37 j s := by
  unfold Cert.ReferenceIdeal.Step.b37
  rw [← al_30 h]
  try rfl
set_option maxRecDepth 8192 in
theorem al_38 (h : Holds V0 s j) : (broadcastInDim S4x4x64x64 ![0, 1, 2, 3] bcast_S4x4x64x1_S4x4x64x64_0_1_2_3 (broadcastInDim S4x4x64x1 ![0, 1, 2] bcast_S4x4x64_S4x4x64x1_0_1_2 (res_main_while0b_v115 V0)) : (Proc.devRef .tc main_while0b_v123 : DevRef τ sig).ty.Contents (Elt F)) = Cert.ReferenceIdeal.Step.b38 j s := by
  unfold Cert.ReferenceIdeal.Step.b38
  rw [← al_36 h]
  try rfl
set_option maxRecDepth 8192 in
theorem al_39 (h : Holds V0 s j) : (broadcastInDim S4x4x64x64 ![0, 1, 2, 3] bcast_S4x4x1x64_S4x4x64x64_0_1_2_3 (broadcastInDim S4x4x1x64 ![0, 1, 3] bcast_S4x4x64_S4x4x1x64_0_1_3 (res_main_while0b_v115 V0)) : (Proc.devRef .tc main_while0b_v124 : DevRef τ sig).ty.Contents (Elt F)) = Cert.ReferenceIdeal.Step.b39 j s := by
  unfold Cert.ReferenceIdeal.Step.b39
  rw [← al_37 h]
  try rfl
set_option maxRecDepth 8192 in
theorem al_40 (h : Holds V0 s j) : (subf (broadcastInDim S4x4x64x64 ![0, 1, 2, 3] bcast_S4x4x64x1_S4x4x64x64_0_1_2_3 (broadcastInDim S4x4x64x1 ![0, 1, 2] bcast_S4x4x64_S4x4x64x1_0_1_2 (res_main_while0b_v115 V0))) (broadcastInDim S4x4x64x64 ![0, 1, 2, 3] bcast_S4x4x1x64_S4x4x64x64_0_1_2_3 (broadcastInDim S4x4x1x64 ![0, 1, 3] bcast_S4x4x64_S4x4x1x64_0_1_3 (res_main_while0b_v115 V0))) : (Proc.devRef .tc main_while0b_v125 : DevRef τ sig).ty.Contents (Elt F)) = Cert.ReferenceIdeal.Step.b40 j s := by
  unfold Cert.ReferenceIdeal.Step.b40
  rw [← al_38 h, ← al_39 h]
  try rfl
set_option maxRecDepth 8192 in
theorem al_41 (h : Holds V0 s j) : (broadcastInDim S4x4x1x64 ![0, 1, 3] bcast_S4x4x64_S4x4x1x64_0_1_3 (res_main_while0b_v114 V0) : (Proc.devRef .tc main_while0b_v126 : DevRef τ sig).ty.Contents (Elt F)) = Cert.ReferenceIdeal.Step.b41 j s := by
  unfold Cert.ReferenceIdeal.Step.b41
  rw [← al_27 h]
  try rfl
set_option maxRecDepth 8192 in
theorem al_42 (h : Holds V0 s j) : (broadcastInDim S4x4x64x64 ![0, 1, 2, 3] bcast_S4x4x1x64_S4x4x64x64_0_1_2_3 (broadcastInDim S4x4x1x64 ![0, 1, 3] bcast_S4x4x64_S4x4x1x64_0_1_3 (res_main_while0b_v114 V0)) : (Proc.devRef .tc main_while0b_v127 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (addf (subf (broadcastInDim S4x4x64x64 ![0, 1, 2, 3] bcast_S4x4x64x1_S4x4x64x64_0_1_2_3 (broadcastInDim S4x4x64x1 ![0, 1, 2] bcast_S4x4x64_S4x4x64x1_0_1_2 (res_main_while0b_v115 V0))) (broadcastInDim S4x4x64x64 ![0, 1, 2, 3] bcast_S4x4x1x64_S4x4x64x64_0_1_2_3 (broadcastInDim S4x4x1x64 ![0, 1, 3] bcast_S4x4x64_S4x4x1x64_0_1_3 (res_main_while0b_v115 V0)))) (broadcastInDim S4x4x64x64 ![0, 1, 2, 3] bcast_S4x4x1x64_S4x4x64x64_0_1_2_3 (broadcastInDim S4x4x1x64 ![0, 1, 3] bcast_S4x4x64_S4x4x1x64_0_1_3 (res_main_while0b_v114 V0))) : (Proc.devRef .tc main_while0b_v128 : DevRef τ sig).ty.Contents (Elt F)) = Cert.ReferenceIdeal.Step.b43 j s := by
  unfold Cert.ReferenceIdeal.Step.b43
  rw [← al_40 h, ← al_42 h]
  try rfl
set_option maxRecDepth 8192 in
theorem al_44 (h : Holds V0 s j) : (iotaInDim S64x64 32 0 : (Proc.devRef .tc main_while0b_v129 : DevRef τ sig).ty.Contents (Elt F)) = Cert.ReferenceIdeal.Step.b44 j s := by
  unfold Cert.ReferenceIdeal.Step.b44
  rfl
set_option maxRecDepth 8192 in
theorem al_45 (h : Holds V0 s j) : (iotaInDim S64x64 32 1 : (Proc.devRef .tc main_while0b_v130 : DevRef τ sig).ty.Contents (Elt F)) = Cert.ReferenceIdeal.Step.b45 j s := by
  unfold Cert.ReferenceIdeal.Step.b45
  rfl
set_option maxRecDepth 8192 in
theorem al_46 (h : Holds V0 s j) : (cmpi .sge (iotaInDim S64x64 32 0) (iotaInDim S64x64 32 1) : (Proc.devRef .tc main_while0b_v131 : DevRef τ sig).ty.Contents (Elt F)) = Cert.ReferenceIdeal.Step.b46 j s := by
  unfold Cert.ReferenceIdeal.Step.b46
  rw [← al_44 h, ← al_45 h]
  try rfl
set_option maxRecDepth 8192 in
theorem al_47 (h : Holds V0 s j) : (constant S_ .f32 0xFF800000#32 : (Proc.devRef .tc main_while0b_cst_18 : DevRef τ sig).ty.Contents (Elt F)) = Cert.ReferenceIdeal.Step.b47 j s := by
  unfold Cert.ReferenceIdeal.Step.b47
  rfl
set_option maxRecDepth 8192 in
theorem al_48 (h : Holds V0 s j) : (id (constant S_ .f32 0xFF800000#32) : (Proc.devRef .tc main_while0b_call8_v0 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (broadcastInDim S4x4x64x64 ![2, 3] bcast_S64x64_S4x4x64x64_2_3 (cmpi .sge (iotaInDim S64x64 32 0) (iotaInDim S64x64 32 1)) : (Proc.devRef .tc main_while0b_call8_v1 : DevRef τ sig).ty.Contents (Elt F)) = Cert.ReferenceIdeal.Step.b49 j s := by
  unfold Cert.ReferenceIdeal.Step.b49
  rw [← al_46 h]
  try rfl
set_option maxRecDepth 8192 in
theorem al_50 (h : Holds V0 s j) : (broadcastInDim S4x4x64x64 ![] bcast_S_S4x4x64x64 (id (constant S_ .f32 0xFF800000#32)) : (Proc.devRef .tc main_while0b_call8_v2 : DevRef τ sig).ty.Contents (Elt F)) = Cert.ReferenceIdeal.Step.b50 j s := by
  unfold Cert.ReferenceIdeal.Step.b50
  rw [← al_48 h]
  try rfl
set_option maxRecDepth 8192 in
theorem al_51 (h : Holds V0 s j) : (res_main_while0b_v132 V0 : (Proc.devRef .tc main_while0b_v132 : DevRef τ sig).ty.Contents (Elt F)) = Cert.ReferenceIdeal.Step.b51 j s := by
  unfold res_main_while0b_v132 Cert.ReferenceIdeal.Step.b51
  rw [← al_49 h, ← al_43 h, ← al_50 h]
  try rfl
set_option maxRecDepth 8192 in
theorem al_52 (h : Holds V0 s j) : (constant S_ .f32 0xFF800000#32 : (Proc.devRef .tc main_while0b_cst_19 : DevRef τ sig).ty.Contents (Elt F)) = Cert.ReferenceIdeal.Step.b52 j s := by
  unfold Cert.ReferenceIdeal.Step.b52
  rfl
set_option maxRecDepth 8192 in
theorem al_53 (h : Holds V0 s j) : (Host.reduce FloatOps.maximumf (res_main_while0b_v132 V0) (constant S_ .f32 0xFF800000#32) reducesTo_S4x4x64x64_S4x4x64_d3 h_S_ : (Proc.devRef .tc main_while0b_v133 : DevRef τ sig).ty.Contents (Elt F)) = Cert.ReferenceIdeal.Step.b53 j s := by
  unfold Cert.ReferenceIdeal.Step.b53
  rw [← al_51 h, ← al_52 h]
  try rfl
set_option maxRecDepth 8192 in
theorem al_54 (h : Holds V0 s j) : (res_main_while0b_v134 V0 : (Proc.devRef .tc main_while0b_v134 : DevRef τ sig).ty.Contents (Elt F)) = Cert.ReferenceIdeal.Step.b54 j s := by
  unfold res_main_while0b_v134 Cert.ReferenceIdeal.Step.b54
  rw [← al_35 h, ← al_53 h]
  try rfl
set_option maxRecDepth 8192 in
theorem al_55 (h : Holds V0 s j) : (subf (res_main_while0b_v120 V0) (res_main_while0b_v134 V0) : (Proc.devRef .tc main_while0b_v135 : DevRef τ sig).ty.Contents (Elt F)) = Cert.ReferenceIdeal.Step.b55 j s := by
  unfold Cert.ReferenceIdeal.Step.b55
  rw [← al_35 h, ← al_54 h]
  try rfl
set_option maxRecDepth 8192 in
theorem al_56 (h : Holds V0 s j) : (res_main_while0b_v136 V0 : (Proc.devRef .tc main_while0b_v136 : DevRef τ sig).ty.Contents (Elt F)) = Cert.ReferenceIdeal.Step.b56 j s := by
  unfold res_main_while0b_v136 Cert.ReferenceIdeal.Step.b56
  rw [← al_55 h]
  try rfl
set_option maxRecDepth 8192 in
theorem al_57 (h : Holds V0 s j) : (Host.dotGeneral dot_S4x4x64x128_S4x4x64x128_S4x4x64x64_3_3_2_2_01_01 none (res_main_while0b_v110 V0) (res_main_while0b_v111 V0) : (Proc.devRef .tc main_while0b_v137 : DevRef τ sig).ty.Contents (Elt F)) = Cert.ReferenceIdeal.Step.b57 j s := by
  unfold Cert.ReferenceIdeal.Step.b57
  rw [← al_5 h, ← al_11 h]
  try rfl
set_option maxRecDepth 8192 in
theorem al_58 (h : Holds V0 s j) : (broadcastInDim S4x4x64x1 ![0, 1, 2] bcast_S4x4x64_S4x4x64x1_0_1_2 (res_main_while0b_v134 V0) : (Proc.devRef .tc main_while0b_v138 : DevRef τ sig).ty.Contents (Elt F)) = Cert.ReferenceIdeal.Step.b58 j s := by
  unfold Cert.ReferenceIdeal.Step.b58
  rw [← al_54 h]
  try rfl
set_option maxRecDepth 8192 in
theorem al_59 (h : Holds V0 s j) : (broadcastInDim S4x4x64x64 ![0, 1, 2, 3] bcast_S4x4x64x1_S4x4x64x64_0_1_2_3 (broadcastInDim S4x4x64x1 ![0, 1, 2] bcast_S4x4x64_S4x4x64x1_0_1_2 (res_main_while0b_v134 V0)) : (Proc.devRef .tc main_while0b_v139 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (subf (res_main_while0b_v132 V0) (broadcastInDim S4x4x64x64 ![0, 1, 2, 3] bcast_S4x4x64x1_S4x4x64x64_0_1_2_3 (broadcastInDim S4x4x64x1 ![0, 1, 2] bcast_S4x4x64_S4x4x64x1_0_1_2 (res_main_while0b_v134 V0))) : (Proc.devRef .tc main_while0b_v140 : DevRef τ sig).ty.Contents (Elt F)) = Cert.ReferenceIdeal.Step.b60 j s := by
  unfold Cert.ReferenceIdeal.Step.b60
  rw [← al_51 h, ← al_59 h]
  try rfl
set_option maxRecDepth 8192 in
theorem al_61 (h : Holds V0 s j) : (Host.exp (subf (res_main_while0b_v132 V0) (broadcastInDim S4x4x64x64 ![0, 1, 2, 3] bcast_S4x4x64x1_S4x4x64x64_0_1_2_3 (broadcastInDim S4x4x64x1 ![0, 1, 2] bcast_S4x4x64_S4x4x64x1_0_1_2 (res_main_while0b_v134 V0)))) : (Proc.devRef .tc main_while0b_v141 : DevRef τ sig).ty.Contents (Elt F)) = Cert.ReferenceIdeal.Step.b61 j s := by
  unfold Cert.ReferenceIdeal.Step.b61
  rw [← al_60 h]
  try rfl
set_option maxRecDepth 8192 in
theorem al_62 (h : Holds V0 s j) : (res_main_while0b_v142 V0 : (Proc.devRef .tc main_while0b_v142 : DevRef τ sig).ty.Contents (Elt F)) = Cert.ReferenceIdeal.Step.b62 j s := by
  unfold res_main_while0b_v142 Cert.ReferenceIdeal.Step.b62
  rw [← al_57 h, ← al_61 h]
  try rfl
set_option maxRecDepth 8192 in
theorem al_63 (h : Holds V0 s j) : (Host.dotGeneral dot_S4x4x64x64_S4x4x64x128_S4x4x64x128_3_2_2_3_01_01 none (res_main_while0b_v142 V0) (res_main_while0b_v112 V0) : (Proc.devRef .tc main_while0b_v143 : DevRef τ sig).ty.Contents (Elt F)) = Cert.ReferenceIdeal.Step.b63 j s := by
  unfold Cert.ReferenceIdeal.Step.b63
  rw [← al_62 h, ← al_17 h]
  try rfl
set_option maxRecDepth 8192 in
theorem al_64 (h : Holds V0 s j) : (broadcastInDim S4x4x64x1 ![0, 1, 2] bcast_S4x4x64_S4x4x64x1_0_1_2 (res_main_while0b_v136 V0) : (Proc.devRef .tc main_while0b_v144 : DevRef τ sig).ty.Contents (Elt F)) = Cert.ReferenceIdeal.Step.b64 j s := by
  unfold Cert.ReferenceIdeal.Step.b64
  rw [← al_56 h]
  try rfl
set_option maxRecDepth 8192 in
theorem al_65 (h : Holds V0 s j) : (Host.dotGeneral dot_S4x4x64x128_S4x4x128x128_S4x4x64x128_3_3_2_2_01_01 none (res_main_while0b_v110 V0) (V0 (Proc.devRef .tc main_v88_6)) : (Proc.devRef .tc main_while0b_v145 : DevRef τ sig).ty.Contents (Elt F)) = Cert.ReferenceIdeal.Step.b65 j s := by
  unfold Cert.ReferenceIdeal.Step.b65
  rw [← al_5 h, h.f_6]
  try rfl
set_option maxRecDepth 8192 in
theorem al_66 (h : Holds V0 s j) : (broadcastInDim S4x4x64x128 ![0, 1, 2, 3] bcast_S4x4x64x1_S4x4x64x128_0_1_2_3 (broadcastInDim S4x4x64x1 ![0, 1, 2] bcast_S4x4x64_S4x4x64x1_0_1_2 (res_main_while0b_v136 V0)) : (Proc.devRef .tc main_while0b_v146 : DevRef τ sig).ty.Contents (Elt F)) = Cert.ReferenceIdeal.Step.b66 j s := by
  unfold Cert.ReferenceIdeal.Step.b66
  rw [← al_64 h]
  try rfl
set_option maxRecDepth 8192 in
theorem al_67 (h : Holds V0 s j) : (mulf (broadcastInDim S4x4x64x128 ![0, 1, 2, 3] bcast_S4x4x64x1_S4x4x64x128_0_1_2_3 (broadcastInDim S4x4x64x1 ![0, 1, 2] bcast_S4x4x64_S4x4x64x1_0_1_2 (res_main_while0b_v136 V0))) (Host.dotGeneral dot_S4x4x64x128_S4x4x128x128_S4x4x64x128_3_3_2_2_01_01 none (res_main_while0b_v110 V0) (V0 (Proc.devRef .tc main_v88_6))) : (Proc.devRef .tc main_while0b_v147 : DevRef τ sig).ty.Contents (Elt F)) = Cert.ReferenceIdeal.Step.b67 j s := by
  unfold Cert.ReferenceIdeal.Step.b67
  rw [← al_66 h, ← al_65 h]
  try rfl
set_option maxRecDepth 8192 in
theorem al_68 (h : Holds V0 s j) : (addf (Host.dotGeneral dot_S4x4x64x64_S4x4x64x128_S4x4x64x128_3_2_2_3_01_01 none (res_main_while0b_v142 V0) (res_main_while0b_v112 V0)) (mulf (broadcastInDim S4x4x64x128 ![0, 1, 2, 3] bcast_S4x4x64x1_S4x4x64x128_0_1_2_3 (broadcastInDim S4x4x64x1 ![0, 1, 2] bcast_S4x4x64_S4x4x64x1_0_1_2 (res_main_while0b_v136 V0))) (Host.dotGeneral dot_S4x4x64x128_S4x4x128x128_S4x4x64x128_3_3_2_2_01_01 none (res_main_while0b_v110 V0) (V0 (Proc.devRef .tc main_v88_6)))) : (Proc.devRef .tc main_while0b_v148 : DevRef τ sig).ty.Contents (Elt F)) = Cert.ReferenceIdeal.Step.b68 j s := by
  unfold Cert.ReferenceIdeal.Step.b68
  rw [← al_63 h, ← al_67 h]
  try rfl
set_option maxRecDepth 8192 in
theorem al_69 (h : Holds V0 s j) : (constant S_ .f32 0x00000000#32 : (Proc.devRef .tc main_while0b_cst_20 : DevRef τ sig).ty.Contents (Elt F)) = Cert.ReferenceIdeal.Step.b69 j s := by
  unfold Cert.ReferenceIdeal.Step.b69
  rfl
set_option maxRecDepth 8192 in
theorem al_70 (h : Holds V0 s j) : (Host.reduceAdd (res_main_while0b_v142 V0) (constant S_ .f32 0x00000000#32) reducesTo_S4x4x64x64_S4x4x64_d3 h_S_ : (Proc.devRef .tc main_while0b_v149 : DevRef τ sig).ty.Contents (Elt F)) = Cert.ReferenceIdeal.Step.b70 j s := by
  unfold Cert.ReferenceIdeal.Step.b70
  rw [← al_62 h, ← al_69 h]
  try rfl
set_option maxRecDepth 8192 in
theorem al_71 (h : Holds V0 s j) : (Host.dotGeneral dot_S4x4x128_S4x4x64x128_S4x4x64_2_3_n_2_01_01 none (V0 (Proc.devRef .tc main_v88_7)) (res_main_while0b_v110 V0) : (Proc.devRef .tc main_while0b_v150 : DevRef τ sig).ty.Contents (Elt F)) = Cert.ReferenceIdeal.Step.b71 j s := by
  unfold Cert.ReferenceIdeal.Step.b71
  rw [← al_5 h, h.f_7]
  try rfl
set_option maxRecDepth 8192 in
theorem al_72 (h : Holds V0 s j) : (mulf (res_main_while0b_v136 V0) (Host.dotGeneral dot_S4x4x128_S4x4x64x128_S4x4x64_2_3_n_2_01_01 none (V0 (Proc.devRef .tc main_v88_7)) (res_main_while0b_v110 V0)) : (Proc.devRef .tc main_while0b_v151 : DevRef τ sig).ty.Contents (Elt F)) = Cert.ReferenceIdeal.Step.b72 j s := by
  unfold Cert.ReferenceIdeal.Step.b72
  rw [← al_56 h, ← al_71 h]
  try rfl
set_option maxRecDepth 8192 in
theorem al_73 (h : Holds V0 s j) : (addf (Host.reduceAdd (res_main_while0b_v142 V0) (constant S_ .f32 0x00000000#32) reducesTo_S4x4x64x64_S4x4x64_d3 h_S_) (mulf (res_main_while0b_v136 V0) (Host.dotGeneral dot_S4x4x128_S4x4x64x128_S4x4x64_2_3_n_2_01_01 none (V0 (Proc.devRef .tc main_v88_7)) (res_main_while0b_v110 V0))) : (Proc.devRef .tc main_while0b_v152 : DevRef τ sig).ty.Contents (Elt F)) = Cert.ReferenceIdeal.Step.b73 j s := by
  unfold Cert.ReferenceIdeal.Step.b73
  rw [← al_70 h, ← al_72 h]
  try rfl
set_option maxRecDepth 8192 in
theorem al_74 (h : Holds V0 s j) : (Host.absf (addf (Host.reduceAdd (res_main_while0b_v142 V0) (constant S_ .f32 0x00000000#32) reducesTo_S4x4x64x64_S4x4x64_d3 h_S_) (mulf (res_main_while0b_v136 V0) (Host.dotGeneral dot_S4x4x128_S4x4x64x128_S4x4x64_2_3_n_2_01_01 none (V0 (Proc.devRef .tc main_v88_7)) (res_main_while0b_v110 V0)))) : (Proc.devRef .tc main_while0b_v153 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (Host.negf (res_main_while0b_v134 V0) : (Proc.devRef .tc main_while0b_v154 : DevRef τ sig).ty.Contents (Elt F)) = Cert.ReferenceIdeal.Step.b75 j s := by
  unfold Cert.ReferenceIdeal.Step.b75
  rw [← al_54 h]
  try rfl
set_option maxRecDepth 8192 in
theorem al_76 (h : Holds V0 s j) : (Host.exp (Host.negf (res_main_while0b_v134 V0)) : (Proc.devRef .tc main_while0b_v155 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (maximumf (Host.absf (addf (Host.reduceAdd (res_main_while0b_v142 V0) (constant S_ .f32 0x00000000#32) reducesTo_S4x4x64x64_S4x4x64_d3 h_S_) (mulf (res_main_while0b_v136 V0) (Host.dotGeneral dot_S4x4x128_S4x4x64x128_S4x4x64_2_3_n_2_01_01 none (V0 (Proc.devRef .tc main_v88_7)) (res_main_while0b_v110 V0))))) (Host.exp (Host.negf (res_main_while0b_v134 V0))) : (Proc.devRef .tc main_while0b_v156 : DevRef τ sig).ty.Contents (Elt F)) = Cert.ReferenceIdeal.Step.b77 j s := by
  unfold Cert.ReferenceIdeal.Step.b77
  rw [← al_74 h, ← al_76 h]
  try rfl
set_option maxRecDepth 8192 in
theorem al_78 (h : Holds V0 s j) : (broadcastInDim S4x4x64x1 ![0, 1, 2] bcast_S4x4x64_S4x4x64x1_0_1_2 (maximumf (Host.absf (addf (Host.reduceAdd (res_main_while0b_v142 V0) (constant S_ .f32 0x00000000#32) reducesTo_S4x4x64x64_S4x4x64_d3 h_S_) (mulf (res_main_while0b_v136 V0) (Host.dotGeneral dot_S4x4x128_S4x4x64x128_S4x4x64_2_3_n_2_01_01 none (V0 (Proc.devRef .tc main_v88_7)) (res_main_while0b_v110 V0))))) (Host.exp (Host.negf (res_main_while0b_v134 V0)))) : (Proc.devRef .tc main_while0b_v157 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (broadcastInDim S4x4x64x128 ![0, 1, 2, 3] bcast_S4x4x64x1_S4x4x64x128_0_1_2_3 (broadcastInDim S4x4x64x1 ![0, 1, 2] bcast_S4x4x64_S4x4x64x1_0_1_2 (maximumf (Host.absf (addf (Host.reduceAdd (res_main_while0b_v142 V0) (constant S_ .f32 0x00000000#32) reducesTo_S4x4x64x64_S4x4x64_d3 h_S_) (mulf (res_main_while0b_v136 V0) (Host.dotGeneral dot_S4x4x128_S4x4x64x128_S4x4x64_2_3_n_2_01_01 none (V0 (Proc.devRef .tc main_v88_7)) (res_main_while0b_v110 V0))))) (Host.exp (Host.negf (res_main_while0b_v134 V0))))) : (Proc.devRef .tc main_while0b_v158 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (Host.divf (addf (Host.dotGeneral dot_S4x4x64x64_S4x4x64x128_S4x4x64x128_3_2_2_3_01_01 none (res_main_while0b_v142 V0) (res_main_while0b_v112 V0)) (mulf (broadcastInDim S4x4x64x128 ![0, 1, 2, 3] bcast_S4x4x64x1_S4x4x64x128_0_1_2_3 (broadcastInDim S4x4x64x1 ![0, 1, 2] bcast_S4x4x64_S4x4x64x1_0_1_2 (res_main_while0b_v136 V0))) (Host.dotGeneral dot_S4x4x64x128_S4x4x128x128_S4x4x64x128_3_3_2_2_01_01 none (res_main_while0b_v110 V0) (V0 (Proc.devRef .tc main_v88_6))))) (broadcastInDim S4x4x64x128 ![0, 1, 2, 3] bcast_S4x4x64x1_S4x4x64x128_0_1_2_3 (broadcastInDim S4x4x64x1 ![0, 1, 2] bcast_S4x4x64_S4x4x64x1_0_1_2 (maximumf (Host.absf (addf (Host.reduceAdd (res_main_while0b_v142 V0) (constant S_ .f32 0x00000000#32) reducesTo_S4x4x64x64_S4x4x64_d3 h_S_) (mulf (res_main_while0b_v136 V0) (Host.dotGeneral dot_S4x4x128_S4x4x64x128_S4x4x64_2_3_n_2_01_01 none (V0 (Proc.devRef .tc main_v88_7)) (res_main_while0b_v110 V0))))) (Host.exp (Host.negf (res_main_while0b_v134 V0)))))) : (Proc.devRef .tc main_while0b_v159 : DevRef τ sig).ty.Contents (Elt F)) = Cert.ReferenceIdeal.Step.b80 j s := by
  unfold Cert.ReferenceIdeal.Step.b80
  rw [← al_68 h, ← al_79 h]
  try rfl
set_option maxRecDepth 8192 in
theorem al_81 (h : Holds V0 s j) : (broadcastInDim S4x4x1 ![0, 1] bcast_S4x4_S4x4x1_0_1 (res_main_while0b_v117 V0) : (Proc.devRef .tc main_while0b_v160 : DevRef τ sig).ty.Contents (Elt F)) = Cert.ReferenceIdeal.Step.b81 j s := by
  unfold Cert.ReferenceIdeal.Step.b81
  rw [← al_32 h]
  try rfl
set_option maxRecDepth 8192 in
theorem al_82 (h : Holds V0 s j) : (broadcastInDim S4x4x64 ![0, 1, 2] bcast_S4x4x1_S4x4x64_0_1_2 (broadcastInDim S4x4x1 ![0, 1] bcast_S4x4_S4x4x1_0_1 (res_main_while0b_v117 V0)) : (Proc.devRef .tc main_while0b_v161 : DevRef τ sig).ty.Contents (Elt F)) = Cert.ReferenceIdeal.Step.b82 j s := by
  unfold Cert.ReferenceIdeal.Step.b82
  rw [← al_81 h]
  try rfl
set_option maxRecDepth 8192 in
theorem al_83 (h : Holds V0 s j) : (subf (broadcastInDim S4x4x64 ![0, 1, 2] bcast_S4x4x1_S4x4x64_0_1_2 (broadcastInDim S4x4x1 ![0, 1] bcast_S4x4_S4x4x1_0_1 (res_main_while0b_v117 V0))) (res_main_while0b_v115 V0) : (Proc.devRef .tc main_while0b_v162 : DevRef τ sig).ty.Contents (Elt F)) = Cert.ReferenceIdeal.Step.b83 j s := by
  unfold Cert.ReferenceIdeal.Step.b83
  rw [← al_82 h, ← al_30 h]
  try rfl
set_option maxRecDepth 8192 in
theorem al_84 (h : Holds V0 s j) : (res_main_while0b_v163 V0 : (Proc.devRef .tc main_while0b_v163 : DevRef τ sig).ty.Contents (Elt F)) = Cert.ReferenceIdeal.Step.b84 j s := by
  unfold res_main_while0b_v163 Cert.ReferenceIdeal.Step.b84
  rw [← al_83 h, ← al_27 h]
  try rfl
set_option maxRecDepth 8192 in
theorem al_85 (h : Holds V0 s j) : (constant S_ .f32 0xFF800000#32 : (Proc.devRef .tc main_while0b_cst_21 : DevRef τ sig).ty.Contents (Elt F)) = Cert.ReferenceIdeal.Step.b85 j s := by
  unfold Cert.ReferenceIdeal.Step.b85
  rfl
set_option maxRecDepth 8192 in
theorem al_86 (h : Holds V0 s j) : (res_main_while0b_v164 V0 : (Proc.devRef .tc main_while0b_v164 : DevRef τ sig).ty.Contents (Elt F)) = Cert.ReferenceIdeal.Step.b86 j s := by
  unfold res_main_while0b_v164 Cert.ReferenceIdeal.Step.b86
  rw [← al_84 h, ← al_85 h]
  try rfl
set_option maxRecDepth 8192 in
theorem al_87 (h : Holds V0 s j) : (broadcastInDim S4x4x1 ![0, 1] bcast_S4x4_S4x4x1_0_1 (res_main_while0b_v164 V0) : (Proc.devRef .tc main_while0b_v165 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (broadcastInDim S4x4x64 ![0, 1, 2] bcast_S4x4x1_S4x4x64_0_1_2 (broadcastInDim S4x4x1 ![0, 1] bcast_S4x4_S4x4x1_0_1 (res_main_while0b_v164 V0)) : (Proc.devRef .tc main_while0b_v166 : DevRef τ sig).ty.Contents (Elt F)) = Cert.ReferenceIdeal.Step.b88 j s := by
  unfold Cert.ReferenceIdeal.Step.b88
  rw [← al_87 h]
  try rfl
set_option maxRecDepth 8192 in
theorem al_89 (h : Holds V0 s j) : (subf (res_main_while0b_v163 V0) (broadcastInDim S4x4x64 ![0, 1, 2] bcast_S4x4x1_S4x4x64_0_1_2 (broadcastInDim S4x4x1 ![0, 1] bcast_S4x4_S4x4x1_0_1 (res_main_while0b_v164 V0))) : (Proc.devRef .tc main_while0b_v167 : DevRef τ sig).ty.Contents (Elt F)) = Cert.ReferenceIdeal.Step.b89 j s := by
  unfold Cert.ReferenceIdeal.Step.b89
  rw [← al_84 h, ← al_88 h]
  try rfl
set_option maxRecDepth 8192 in
theorem al_90 (h : Holds V0 s j) : (res_main_while0b_v168 V0 : (Proc.devRef .tc main_while0b_v168 : DevRef τ sig).ty.Contents (Elt F)) = Cert.ReferenceIdeal.Step.b90 j s := by
  unfold res_main_while0b_v168 Cert.ReferenceIdeal.Step.b90
  rw [← al_89 h]
  try rfl
set_option maxRecDepth 8192 in
theorem al_91 (h : Holds V0 s j) : (broadcastInDim S4x4x64x1 ![0, 1, 2] bcast_S4x4x64_S4x4x64x1_0_1_2 (res_main_while0b_v168 V0) : (Proc.devRef .tc main_while0b_v169 : DevRef τ sig).ty.Contents (Elt F)) = Cert.ReferenceIdeal.Step.b91 j s := by
  unfold Cert.ReferenceIdeal.Step.b91
  rw [← al_90 h]
  try rfl
set_option maxRecDepth 8192 in
theorem al_92 (h : Holds V0 s j) : (broadcastInDim S4x4x64x128 ![0, 1, 2, 3] bcast_S4x4x64x1_S4x4x64x128_0_1_2_3 (broadcastInDim S4x4x64x1 ![0, 1, 2] bcast_S4x4x64_S4x4x64x1_0_1_2 (res_main_while0b_v168 V0)) : (Proc.devRef .tc main_while0b_v170 : DevRef τ sig).ty.Contents (Elt F)) = Cert.ReferenceIdeal.Step.b92 j s := by
  unfold Cert.ReferenceIdeal.Step.b92
  rw [← al_91 h]
  try rfl
set_option maxRecDepth 8192 in
theorem al_93 (h : Holds V0 s j) : (mulf (broadcastInDim S4x4x64x128 ![0, 1, 2, 3] bcast_S4x4x64x1_S4x4x64x128_0_1_2_3 (broadcastInDim S4x4x64x1 ![0, 1, 2] bcast_S4x4x64_S4x4x64x1_0_1_2 (res_main_while0b_v168 V0))) (res_main_while0b_v112 V0) : (Proc.devRef .tc main_while0b_v171 : DevRef τ sig).ty.Contents (Elt F)) = Cert.ReferenceIdeal.Step.b93 j s := by
  unfold Cert.ReferenceIdeal.Step.b93
  rw [← al_92 h, ← al_17 h]
  try rfl
set_option maxRecDepth 8192 in
theorem al_94 (h : Holds V0 s j) : (Host.dotGeneral dot_S4x4x64x128_S4x4x64x128_S4x4x128x128_2_2_3_3_01_01 none (mulf (broadcastInDim S4x4x64x128 ![0, 1, 2, 3] bcast_S4x4x64x1_S4x4x64x128_0_1_2_3 (broadcastInDim S4x4x64x1 ![0, 1, 2] bcast_S4x4x64_S4x4x64x1_0_1_2 (res_main_while0b_v168 V0))) (res_main_while0b_v112 V0)) (res_main_while0b_v111 V0) : (Proc.devRef .tc main_while0b_v172 : DevRef τ sig).ty.Contents (Elt F)) = Cert.ReferenceIdeal.Step.b94 j s := by
  unfold Cert.ReferenceIdeal.Step.b94
  rw [← al_93 h, ← al_11 h]
  try rfl
set_option maxRecDepth 8192 in
theorem al_95 (h : Holds V0 s j) : (Host.dotGeneral dot_S4x4x64_S4x4x64x128_S4x4x128_2_2_n_3_01_01 none (res_main_while0b_v168 V0) (res_main_while0b_v111 V0) : (Proc.devRef .tc main_while0b_v173 : DevRef τ sig).ty.Contents (Elt F)) = Cert.ReferenceIdeal.Step.b95 j s := by
  unfold Cert.ReferenceIdeal.Step.b95
  rw [← al_90 h, ← al_11 h]
  try rfl
set_option maxRecDepth 8192 in
theorem al_96 (h : Holds V0 s j) : (addf (res_main_while0b_v117 V0) (V0 (Proc.devRef .tc main_v88_8)) : (Proc.devRef .tc main_while0b_v174 : DevRef τ sig).ty.Contents (Elt F)) = Cert.ReferenceIdeal.Step.b96 j s := by
  unfold Cert.ReferenceIdeal.Step.b96
  rw [← al_32 h, h.f_8]
  try rfl
set_option maxRecDepth 8192 in
theorem al_97 (h : Holds V0 s j) : (res_main_while0b_v175 V0 : (Proc.devRef .tc main_while0b_v175 : DevRef τ sig).ty.Contents (Elt F)) = Cert.ReferenceIdeal.Step.b97 j s := by
  unfold res_main_while0b_v175 Cert.ReferenceIdeal.Step.b97
  rw [← al_96 h, ← al_86 h]
  try rfl
set_option maxRecDepth 8192 in
theorem al_98 (h : Holds V0 s j) : (addf (res_main_while0b_v117 V0) (V0 (Proc.devRef .tc main_v88_8)) : (Proc.devRef .tc main_while0b_v176 : DevRef τ sig).ty.Contents (Elt F)) = Cert.ReferenceIdeal.Step.b98 j s := by
  unfold Cert.ReferenceIdeal.Step.b98
  rw [← al_32 h, h.f_8]
  try rfl
set_option maxRecDepth 8192 in
theorem al_99 (h : Holds V0 s j) : (subf (addf (res_main_while0b_v117 V0) (V0 (Proc.devRef .tc main_v88_8))) (res_main_while0b_v175 V0) : (Proc.devRef .tc main_while0b_v177 : DevRef τ sig).ty.Contents (Elt F)) = Cert.ReferenceIdeal.Step.b99 j s := by
  unfold Cert.ReferenceIdeal.Step.b99
  rw [← al_98 h, ← al_97 h]
  try rfl
set_option maxRecDepth 8192 in
theorem al_100 (h : Holds V0 s j) : (res_main_while0b_v178 V0 : (Proc.devRef .tc main_while0b_v178 : DevRef τ sig).ty.Contents (Elt F)) = Cert.ReferenceIdeal.Step.b100 j s := by
  unfold res_main_while0b_v178 Cert.ReferenceIdeal.Step.b100
  rw [← al_99 h]
  try rfl
set_option maxRecDepth 8192 in
theorem al_101 (h : Holds V0 s j) : (subf (res_main_while0b_v164 V0) (res_main_while0b_v175 V0) : (Proc.devRef .tc main_while0b_v179 : DevRef τ sig).ty.Contents (Elt F)) = Cert.ReferenceIdeal.Step.b101 j s := by
  unfold Cert.ReferenceIdeal.Step.b101
  rw [← al_86 h, ← al_97 h]
  try rfl
set_option maxRecDepth 8192 in
theorem al_102 (h : Holds V0 s j) : (res_main_while0b_v180 V0 : (Proc.devRef .tc main_while0b_v180 : DevRef τ sig).ty.Contents (Elt F)) = Cert.ReferenceIdeal.Step.b102 j s := by
  unfold res_main_while0b_v180 Cert.ReferenceIdeal.Step.b102
  rw [← al_101 h]
  try rfl
set_option maxRecDepth 8192 in
theorem al_103 (h : Holds V0 s j) : (broadcastInDim S4x4x1x1 ![0, 1] bcast_S4x4_S4x4x1x1_0_1 (res_main_while0b_v178 V0) : (Proc.devRef .tc main_while0b_v181 : DevRef τ sig).ty.Contents (Elt F)) = Cert.ReferenceIdeal.Step.b103 j s := by
  unfold Cert.ReferenceIdeal.Step.b103
  rw [← al_100 h]
  try rfl
set_option maxRecDepth 8192 in
theorem al_104 (h : Holds V0 s j) : (broadcastInDim S4x4x128x128 ![0, 1, 2, 3] bcast_S4x4x1x1_S4x4x128x128_0_1_2_3 (broadcastInDim S4x4x1x1 ![0, 1] bcast_S4x4_S4x4x1x1_0_1 (res_main_while0b_v178 V0)) : (Proc.devRef .tc main_while0b_v182 : DevRef τ sig).ty.Contents (Elt F)) = Cert.ReferenceIdeal.Step.b104 j s := by
  unfold Cert.ReferenceIdeal.Step.b104
  rw [← al_103 h]
  try rfl
set_option maxRecDepth 8192 in
theorem al_105 (h : Holds V0 s j) : (mulf (broadcastInDim S4x4x128x128 ![0, 1, 2, 3] bcast_S4x4x1x1_S4x4x128x128_0_1_2_3 (broadcastInDim S4x4x1x1 ![0, 1] bcast_S4x4_S4x4x1x1_0_1 (res_main_while0b_v178 V0))) (V0 (Proc.devRef .tc main_v88_6)) : (Proc.devRef .tc main_while0b_v183 : DevRef τ sig).ty.Contents (Elt F)) = Cert.ReferenceIdeal.Step.b105 j s := by
  unfold Cert.ReferenceIdeal.Step.b105
  rw [← al_104 h, h.f_6]
  try rfl
set_option maxRecDepth 8192 in
theorem al_106 (h : Holds V0 s j) : (broadcastInDim S4x4x1x1 ![0, 1] bcast_S4x4_S4x4x1x1_0_1 (res_main_while0b_v180 V0) : (Proc.devRef .tc main_while0b_v184 : DevRef τ sig).ty.Contents (Elt F)) = Cert.ReferenceIdeal.Step.b106 j s := by
  unfold Cert.ReferenceIdeal.Step.b106
  rw [← al_102 h]
  try rfl
set_option maxRecDepth 8192 in
theorem al_107 (h : Holds V0 s j) : (broadcastInDim S4x4x128x128 ![0, 1, 2, 3] bcast_S4x4x1x1_S4x4x128x128_0_1_2_3 (broadcastInDim S4x4x1x1 ![0, 1] bcast_S4x4_S4x4x1x1_0_1 (res_main_while0b_v180 V0)) : (Proc.devRef .tc main_while0b_v185 : DevRef τ sig).ty.Contents (Elt F)) = Cert.ReferenceIdeal.Step.b107 j s := by
  unfold Cert.ReferenceIdeal.Step.b107
  rw [← al_106 h]
  try rfl
set_option maxRecDepth 8192 in
theorem al_108 (h : Holds V0 s j) : (mulf (broadcastInDim S4x4x128x128 ![0, 1, 2, 3] bcast_S4x4x1x1_S4x4x128x128_0_1_2_3 (broadcastInDim S4x4x1x1 ![0, 1] bcast_S4x4_S4x4x1x1_0_1 (res_main_while0b_v180 V0))) (Host.dotGeneral dot_S4x4x64x128_S4x4x64x128_S4x4x128x128_2_2_3_3_01_01 none (mulf (broadcastInDim S4x4x64x128 ![0, 1, 2, 3] bcast_S4x4x64x1_S4x4x64x128_0_1_2_3 (broadcastInDim S4x4x64x1 ![0, 1, 2] bcast_S4x4x64_S4x4x64x1_0_1_2 (res_main_while0b_v168 V0))) (res_main_while0b_v112 V0)) (res_main_while0b_v111 V0)) : (Proc.devRef .tc main_while0b_v186 : DevRef τ sig).ty.Contents (Elt F)) = Cert.ReferenceIdeal.Step.b108 j s := by
  unfold Cert.ReferenceIdeal.Step.b108
  rw [← al_107 h, ← al_94 h]
  try rfl
set_option maxRecDepth 8192 in
theorem al_109 (h : Holds V0 s j) : (addf (mulf (broadcastInDim S4x4x128x128 ![0, 1, 2, 3] bcast_S4x4x1x1_S4x4x128x128_0_1_2_3 (broadcastInDim S4x4x1x1 ![0, 1] bcast_S4x4_S4x4x1x1_0_1 (res_main_while0b_v178 V0))) (V0 (Proc.devRef .tc main_v88_6))) (mulf (broadcastInDim S4x4x128x128 ![0, 1, 2, 3] bcast_S4x4x1x1_S4x4x128x128_0_1_2_3 (broadcastInDim S4x4x1x1 ![0, 1] bcast_S4x4_S4x4x1x1_0_1 (res_main_while0b_v180 V0))) (Host.dotGeneral dot_S4x4x64x128_S4x4x64x128_S4x4x128x128_2_2_3_3_01_01 none (mulf (broadcastInDim S4x4x64x128 ![0, 1, 2, 3] bcast_S4x4x64x1_S4x4x64x128_0_1_2_3 (broadcastInDim S4x4x64x1 ![0, 1, 2] bcast_S4x4x64_S4x4x64x1_0_1_2 (res_main_while0b_v168 V0))) (res_main_while0b_v112 V0)) (res_main_while0b_v111 V0))) : (Proc.devRef .tc main_while0b_v187 : DevRef τ sig).ty.Contents (Elt F)) = Cert.ReferenceIdeal.Step.b109 j s := by
  unfold Cert.ReferenceIdeal.Step.b109
  rw [← al_105 h, ← al_108 h]
  try rfl
set_option maxRecDepth 8192 in
theorem al_110 (h : Holds V0 s j) : (broadcastInDim S4x4x1 ![0, 1] bcast_S4x4_S4x4x1_0_1 (res_main_while0b_v178 V0) : (Proc.devRef .tc main_while0b_v188 : DevRef τ sig).ty.Contents (Elt F)) = Cert.ReferenceIdeal.Step.b110 j s := by
  unfold Cert.ReferenceIdeal.Step.b110
  rw [← al_100 h]
  try rfl
set_option maxRecDepth 8192 in
theorem al_111 (h : Holds V0 s j) : (broadcastInDim S4x4x128 ![0, 1, 2] bcast_S4x4x1_S4x4x128_0_1_2 (broadcastInDim S4x4x1 ![0, 1] bcast_S4x4_S4x4x1_0_1 (res_main_while0b_v178 V0)) : (Proc.devRef .tc main_while0b_v189 : DevRef τ sig).ty.Contents (Elt F)) = Cert.ReferenceIdeal.Step.b111 j s := by
  unfold Cert.ReferenceIdeal.Step.b111
  rw [← al_110 h]
  try rfl
set_option maxRecDepth 8192 in
theorem al_112 (h : Holds V0 s j) : (mulf (broadcastInDim S4x4x128 ![0, 1, 2] bcast_S4x4x1_S4x4x128_0_1_2 (broadcastInDim S4x4x1 ![0, 1] bcast_S4x4_S4x4x1_0_1 (res_main_while0b_v178 V0))) (V0 (Proc.devRef .tc main_v88_7)) : (Proc.devRef .tc main_while0b_v190 : DevRef τ sig).ty.Contents (Elt F)) = Cert.ReferenceIdeal.Step.b112 j s := by
  unfold Cert.ReferenceIdeal.Step.b112
  rw [← al_111 h, h.f_7]
  try rfl
set_option maxRecDepth 8192 in
theorem al_113 (h : Holds V0 s j) : (broadcastInDim S4x4x1 ![0, 1] bcast_S4x4_S4x4x1_0_1 (res_main_while0b_v180 V0) : (Proc.devRef .tc main_while0b_v191 : DevRef τ sig).ty.Contents (Elt F)) = Cert.ReferenceIdeal.Step.b113 j s := by
  unfold Cert.ReferenceIdeal.Step.b113
  rw [← al_102 h]
  try rfl
set_option maxRecDepth 8192 in
theorem al_114 (h : Holds V0 s j) : (broadcastInDim S4x4x128 ![0, 1, 2] bcast_S4x4x1_S4x4x128_0_1_2 (broadcastInDim S4x4x1 ![0, 1] bcast_S4x4_S4x4x1_0_1 (res_main_while0b_v180 V0)) : (Proc.devRef .tc main_while0b_v192 : DevRef τ sig).ty.Contents (Elt F)) = Cert.ReferenceIdeal.Step.b114 j s := by
  unfold Cert.ReferenceIdeal.Step.b114
  rw [← al_113 h]
  try rfl
set_option maxRecDepth 8192 in
theorem al_115 (h : Holds V0 s j) : (mulf (broadcastInDim S4x4x128 ![0, 1, 2] bcast_S4x4x1_S4x4x128_0_1_2 (broadcastInDim S4x4x1 ![0, 1] bcast_S4x4_S4x4x1_0_1 (res_main_while0b_v180 V0))) (Host.dotGeneral dot_S4x4x64_S4x4x64x128_S4x4x128_2_2_n_3_01_01 none (res_main_while0b_v168 V0) (res_main_while0b_v111 V0)) : (Proc.devRef .tc main_while0b_v193 : DevRef τ sig).ty.Contents (Elt F)) = Cert.ReferenceIdeal.Step.b115 j s := by
  unfold Cert.ReferenceIdeal.Step.b115
  rw [← al_114 h, ← al_95 h]
  try rfl
set_option maxRecDepth 8192 in
theorem al_116 (h : Holds V0 s j) : (addf (mulf (broadcastInDim S4x4x128 ![0, 1, 2] bcast_S4x4x1_S4x4x128_0_1_2 (broadcastInDim S4x4x1 ![0, 1] bcast_S4x4_S4x4x1_0_1 (res_main_while0b_v178 V0))) (V0 (Proc.devRef .tc main_v88_7))) (mulf (broadcastInDim S4x4x128 ![0, 1, 2] bcast_S4x4x1_S4x4x128_0_1_2 (broadcastInDim S4x4x1 ![0, 1] bcast_S4x4_S4x4x1_0_1 (res_main_while0b_v180 V0))) (Host.dotGeneral dot_S4x4x64_S4x4x64x128_S4x4x128_2_2_n_3_01_01 none (res_main_while0b_v168 V0) (res_main_while0b_v111 V0))) : (Proc.devRef .tc main_while0b_v194 : DevRef τ sig).ty.Contents (Elt F)) = Cert.ReferenceIdeal.Step.b116 j s := by
  unfold Cert.ReferenceIdeal.Step.b116
  rw [← al_112 h, ← al_115 h]
  try rfl
set_option maxRecDepth 8192 in
theorem al_117 (h : Holds V0 s j) : (broadcastInDim S1x4x4x64x128 ![1, 2, 3, 4] bcast_S4x4x64x128_S1x4x4x64x128_1_2_3_4 (Host.divf (addf (Host.dotGeneral dot_S4x4x64x64_S4x4x64x128_S4x4x64x128_3_2_2_3_01_01 none (res_main_while0b_v142 V0) (res_main_while0b_v112 V0)) (mulf (broadcastInDim S4x4x64x128 ![0, 1, 2, 3] bcast_S4x4x64x1_S4x4x64x128_0_1_2_3 (broadcastInDim S4x4x64x1 ![0, 1, 2] bcast_S4x4x64_S4x4x64x1_0_1_2 (res_main_while0b_v136 V0))) (Host.dotGeneral dot_S4x4x64x128_S4x4x128x128_S4x4x64x128_3_3_2_2_01_01 none (res_main_while0b_v110 V0) (V0 (Proc.devRef .tc main_v88_6))))) (broadcastInDim S4x4x64x128 ![0, 1, 2, 3] bcast_S4x4x64x1_S4x4x64x128_0_1_2_3 (broadcastInDim S4x4x64x1 ![0, 1, 2] bcast_S4x4x64_S4x4x64x1_0_1_2 (maximumf (Host.absf (addf (Host.reduceAdd (res_main_while0b_v142 V0) (constant S_ .f32 0x00000000#32) reducesTo_S4x4x64x64_S4x4x64_d3 h_S_) (mulf (res_main_while0b_v136 V0) (Host.dotGeneral dot_S4x4x128_S4x4x64x128_S4x4x64_2_3_n_2_01_01 none (V0 (Proc.devRef .tc main_v88_7)) (res_main_while0b_v110 V0))))) (Host.exp (Host.negf (res_main_while0b_v134 V0))))))) : (Proc.devRef .tc main_while0b_call9_v0 : DevRef τ sig).ty.Contents (Elt F)) = Cert.ReferenceIdeal.Step.b117 j s := by
  unfold Cert.ReferenceIdeal.Step.b117
  rw [← al_80 h]
  try rfl
set_option maxRecDepth 8192 in
theorem al_118 (h : Holds V0 s j) : (constantI S_ 32 0#32 : (Proc.devRef .tc main_while0b_call9_c : DevRef τ sig).ty.Contents (Elt F)) = Cert.ReferenceIdeal.Step.b118 j s := by
  unfold Cert.ReferenceIdeal.Step.b118
  rfl
set_option maxRecDepth 8192 in
theorem al_119 (h : Holds V0 s j) : (constantI S_ 32 0#32 : (Proc.devRef .tc main_while0b_call9_c_0 : DevRef τ sig).ty.Contents (Elt F)) = Cert.ReferenceIdeal.Step.b119 j s := by
  unfold Cert.ReferenceIdeal.Step.b119
  rfl
set_option maxRecDepth 8192 in
theorem al_120 (h : Holds V0 s j) : (constantI S_ 32 0#32 : (Proc.devRef .tc main_while0b_call9_c_1 : DevRef τ sig).ty.Contents (Elt F)) = Cert.ReferenceIdeal.Step.b120 j s := by
  unfold Cert.ReferenceIdeal.Step.b120
  rfl
set_option maxRecDepth 8192 in
theorem al_121 (h : Holds V0 s j) : (constantI S_ 32 0#32 : (Proc.devRef .tc main_while0b_call9_c_2 : DevRef τ sig).ty.Contents (Elt F)) = Cert.ReferenceIdeal.Step.b121 j s := by
  unfold Cert.ReferenceIdeal.Step.b121
  rfl
set_option maxRecDepth 8192 in
theorem al_122 (h : Holds V0 s j) : (Host.dynamicUpdateSlice (V0 (Proc.devRef .tc main_v88_9)) (broadcastInDim S1x4x4x64x128 ![1, 2, 3, 4] bcast_S4x4x64x128_S1x4x4x64x128_1_2_3_4 (Host.divf (addf (Host.dotGeneral dot_S4x4x64x64_S4x4x64x128_S4x4x64x128_3_2_2_3_01_01 none (res_main_while0b_v142 V0) (res_main_while0b_v112 V0)) (mulf (broadcastInDim S4x4x64x128 ![0, 1, 2, 3] bcast_S4x4x64x1_S4x4x64x128_0_1_2_3 (broadcastInDim S4x4x64x1 ![0, 1, 2] bcast_S4x4x64_S4x4x64x1_0_1_2 (res_main_while0b_v136 V0))) (Host.dotGeneral dot_S4x4x64x128_S4x4x128x128_S4x4x64x128_3_3_2_2_01_01 none (res_main_while0b_v110 V0) (V0 (Proc.devRef .tc main_v88_6))))) (broadcastInDim S4x4x64x128 ![0, 1, 2, 3] bcast_S4x4x64x1_S4x4x64x128_0_1_2_3 (broadcastInDim S4x4x64x1 ![0, 1, 2] bcast_S4x4x64_S4x4x64x1_0_1_2 (maximumf (Host.absf (addf (Host.reduceAdd (res_main_while0b_v142 V0) (constant S_ .f32 0x00000000#32) reducesTo_S4x4x64x64_S4x4x64_d3 h_S_) (mulf (res_main_while0b_v136 V0) (Host.dotGeneral dot_S4x4x128_S4x4x64x128_S4x4x64_2_3_n_2_01_01 none (V0 (Proc.devRef .tc main_v88_7)) (res_main_while0b_v110 V0))))) (Host.exp (Host.negf (res_main_while0b_v134 V0)))))))) (fun k => (((![V0 (Proc.devRef .tc main_v88_5), constantI S_ 32 0#32, constantI S_ 32 0#32, constantI S_ 32 0#32, constantI S_ 32 0#32] : Fin 5 → (⟨S_, .i32⟩ : BufTy).Contents (Elt F))) k (Shape.Idx.first h_S_)).toInt) updateFits_S128x4x4x64x128_S1x4x4x64x128 : (Proc.devRef .tc main_while0b_v195 : DevRef τ sig).ty.Contents (Elt F)) = Cert.ReferenceIdeal.Step.b122 j s := by
  unfold Cert.ReferenceIdeal.Step.b122
  rw [← al_117 h, ← al_118 h, ← al_119 h, ← al_120 h, ← al_121 h, h.f_9, h.n_5]
  try rfl

/-! One trip's step of the carried values is `step`, field by field; a counter steps to the next number. -/

theorem step_6 (h : Holds V0 s j) : step_main_v88_6 V0 = (step j s).main_v88_6 := by
  unfold step_main_v88_6 Cert.ReferenceIdeal.Step.step
  show id (addf (mulf (broadcastInDim S4x4x128x128 ![0, 1, 2, 3] bcast_S4x4x1x1_S4x4x128x128_0_1_2_3 (broadcastInDim S4x4x1x1 ![0, 1] bcast_S4x4_S4x4x1x1_0_1 (res_main_while0b_v178 V0))) (V0 (Proc.devRef .tc main_v88_6))) (mulf (broadcastInDim S4x4x128x128 ![0, 1, 2, 3] bcast_S4x4x1x1_S4x4x128x128_0_1_2_3 (broadcastInDim S4x4x1x1 ![0, 1] bcast_S4x4_S4x4x1x1_0_1 (res_main_while0b_v180 V0))) (Host.dotGeneral dot_S4x4x64x128_S4x4x64x128_S4x4x128x128_2_2_3_3_01_01 none (mulf (broadcastInDim S4x4x64x128 ![0, 1, 2, 3] bcast_S4x4x64x1_S4x4x64x128_0_1_2_3 (broadcastInDim S4x4x64x1 ![0, 1, 2] bcast_S4x4x64_S4x4x64x1_0_1_2 (res_main_while0b_v168 V0))) (res_main_while0b_v112 V0)) (res_main_while0b_v111 V0)))) = _
  rw [al_109 h]
  try rfl
theorem step_7 (h : Holds V0 s j) : step_main_v88_7 V0 = (step j s).main_v88_7 := by
  unfold step_main_v88_7 Cert.ReferenceIdeal.Step.step
  show id (addf (mulf (broadcastInDim S4x4x128 ![0, 1, 2] bcast_S4x4x1_S4x4x128_0_1_2 (broadcastInDim S4x4x1 ![0, 1] bcast_S4x4_S4x4x1_0_1 (res_main_while0b_v178 V0))) (V0 (Proc.devRef .tc main_v88_7))) (mulf (broadcastInDim S4x4x128 ![0, 1, 2] bcast_S4x4x1_S4x4x128_0_1_2 (broadcastInDim S4x4x1 ![0, 1] bcast_S4x4_S4x4x1_0_1 (res_main_while0b_v180 V0))) (Host.dotGeneral dot_S4x4x64_S4x4x64x128_S4x4x128_2_2_n_3_01_01 none (res_main_while0b_v168 V0) (res_main_while0b_v111 V0)))) = _
  rw [al_116 h]
  try rfl
theorem step_8 (h : Holds V0 s j) : step_main_v88_8 V0 = (step j s).main_v88_8 := by
  unfold step_main_v88_8 Cert.ReferenceIdeal.Step.step
  show id (res_main_while0b_v175 V0) = _
  rw [al_97 h]
  try rfl
theorem step_9 (h : Holds V0 s j) : step_main_v88_9 V0 = (step j s).main_v88_9 := by
  unfold step_main_v88_9 Cert.ReferenceIdeal.Step.step
  show id (Host.dynamicUpdateSlice (V0 (Proc.devRef .tc main_v88_9)) (broadcastInDim S1x4x4x64x128 ![1, 2, 3, 4] bcast_S4x4x64x128_S1x4x4x64x128_1_2_3_4 (Host.divf (addf (Host.dotGeneral dot_S4x4x64x64_S4x4x64x128_S4x4x64x128_3_2_2_3_01_01 none (res_main_while0b_v142 V0) (res_main_while0b_v112 V0)) (mulf (broadcastInDim S4x4x64x128 ![0, 1, 2, 3] bcast_S4x4x64x1_S4x4x64x128_0_1_2_3 (broadcastInDim S4x4x64x1 ![0, 1, 2] bcast_S4x4x64_S4x4x64x1_0_1_2 (res_main_while0b_v136 V0))) (Host.dotGeneral dot_S4x4x64x128_S4x4x128x128_S4x4x64x128_3_3_2_2_01_01 none (res_main_while0b_v110 V0) (V0 (Proc.devRef .tc main_v88_6))))) (broadcastInDim S4x4x64x128 ![0, 1, 2, 3] bcast_S4x4x64x1_S4x4x64x128_0_1_2_3 (broadcastInDim S4x4x64x1 ![0, 1, 2] bcast_S4x4x64_S4x4x64x1_0_1_2 (maximumf (Host.absf (addf (Host.reduceAdd (res_main_while0b_v142 V0) (constant S_ .f32 0x00000000#32) reducesTo_S4x4x64x64_S4x4x64_d3 h_S_) (mulf (res_main_while0b_v136 V0) (Host.dotGeneral dot_S4x4x128_S4x4x64x128_S4x4x64_2_3_n_2_01_01 none (V0 (Proc.devRef .tc main_v88_7)) (res_main_while0b_v110 V0))))) (Host.exp (Host.negf (res_main_while0b_v134 V0)))))))) (fun k => (((![V0 (Proc.devRef .tc main_v88_5), constantI S_ 32 0#32, constantI S_ 32 0#32, constantI S_ 32 0#32, constantI S_ 32 0#32] : Fin 5 → (⟨S_, .i32⟩ : BufTy).Contents (Elt F))) k (Shape.Idx.first h_S_)).toInt) updateFits_S128x4x4x64x128_S1x4x4x64x128) = _
  exact al_122 h
theorem step_5 (h : Holds V0 s j) : step_main_v88_5 V0 = constantI S_ 32 (BitVec.ofNat 32 (j + 1)) := by
  unfold step_main_v88_5
  rw [h.n_5]
  funext i
  show BitVec.ofNat 32 j + 1#32 = BitVec.ofNat 32 (j + 1)
  simp only [BitVec.ofNat_add]

set_option maxRecDepth 8192 in
theorem out_main_v109_holds (h : Holds V0 s j) {x_main_arg2 : (⟨S4x8192x512, .bf16⟩ : BufTy).Contents (Elt F)} (h_main_arg2 : V0 (Proc.devRef .tc main_arg2) = x_main_arg2) {x_main_arg8 : (⟨S1x512, .f32⟩ : BufTy).Contents (Elt F)} (h_main_arg8 : V0 (Proc.devRef .tc main_arg8) = x_main_arg8) : out_main_v109 V0 = Cert.ReferenceIdeal.Step.R_main_v109 s x_main_arg2 x_main_arg8 := by
  unfold out_main_v109 Cert.ReferenceIdeal.Step.R_main_v109
  rw [h.f_9, h_main_arg2, h_main_arg8]
  try rfl

/-- One trip keeps the valuation holding: `step` of the state, the same set-up values, the next number. -/
theorem holds_step (h : Holds V0 s j) : Holds (STEP V0) (step j s) (j + 1) where
  f_6 := (STEP_main_v88_6 V0).trans (step_6 h)
  f_7 := (STEP_main_v88_7 V0).trans (step_7 h)
  f_8 := (STEP_main_v88_8 V0).trans (step_8 h)
  f_9 := (STEP_main_v88_9 V0).trans (step_9 h)
  n_5 := (STEP_main_v88_5 V0).trans (step_5 h)
  f_0 := (STEP_main_v88_0 V0).trans h.f_0
  f_1 := (STEP_main_v88_1 V0).trans h.f_1
  f_2 := (STEP_main_v88_2 V0).trans h.f_2
  f_3 := (STEP_main_v88_3 V0).trans h.f_3
  f_4 := (STEP_main_v88_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v109) = Cert.ReferenceIdeal.Step.R_main_v109 (it c 128) (m ((c.tc : Thread nD τ).loc main_arg2)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hk := holds_iter m c (it c) (h0 c) (hs c) 128
    ⟨(h c).1.trans (out_main_v109_holds hk (iter_main_arg2 m c 128) (iter_main_arg8 m c 128)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.RefStep

end
-- ==== Proof.Ml.Heads.lean ====
module

public import proofs.«01_k».proof.Proof.Gen.KernelIdeal.Value
public import Idealize.ShloMosaic.Lib.WholeRead
public import Idealize.ShloMosaic.Lib.Pipeline.ValueKit
public import Idealize.ShloMosaic.Lib.Pipeline.ReadBack
public import Idealize.ShloMosaic.Lib.Pointwise

@[expose] public section

set_option maxRecDepth 16384

/-!
The kernel's body written once for a batch `b` and a head `h`. The kernel unrolls four batches and four heads; each of the
sixteen copies is one of the functions below at its `b` and `h` (`Cases`).
-/

noncomputable section

namespace Cert.Ml

open Cert.KernelIdeal Cert.KernelIdeal.Gen Idealize.ShloMosaic Idealize.SL.Sem

variable {F : FTy → Type} [FloatOps F] [Named F]

/-- A load of a block held at `X` reads `X` on the block. -/
theorem readAt_ld {sig : RefSig} {Val : EltTy → Type} {κ : Kind} {sp : Space} {s : Shape} {e : EltTy} {m : Memref sig κ sp s e} (h : m.IsWhole)
    (X : s.Idx → Val e) (R : Rect s) : View.readAt Val m.view R.toLoadRect (h.unread X) = View.ld X R :=
  funext fun x => h.readAt_unread X R.toLoadRect x

/-- Columns `128 h …` of the queries. -/
theorem slq (h : Fin 4) : S256x1024.Slices ![0, 128 * h.val] S256x128 := by revert h; decide
/-- Columns `512 + 128 h …`, the keys of head `h`. -/
theorem slk (h : Fin 4) : S256x1024.Slices ![0, 512 + 128 * h.val] S256x128 := by revert h; decide
/-- Column `h` of a gate array. -/
theorem slc (h : Fin 4) : S256x128.Slices ![0, h.val] S256x1 := by revert h; decide
/-- Row `h` of a transposed gate array. -/
theorem slr (h : Fin 4) : S128x256.Slices ![h.val, 0] S1x256 := by revert h; decide
/-- Entry `h` of a row of gates. -/
theorem sl1 (h : Fin 4) : S1x128.Slices ![0, h.val] S1x1 := by revert h; decide

/-- The rectangles the kernel loads and stores: tokens of batch `b`. -/
def rX (b : Fin 4) : Rect S4x256x1024 := Rect.unit ![b.val, 0, 0] S1x256x1024.size (by revert b; decide)
/-- Head `h`'s columns of batch `b`. -/
def rV (b h : Fin 4) : Rect S4x256x512 := Rect.unit ![b.val, 0, 128 * h.val] S1x256x128.size (by revert b h; decide)
/-- The input gates of batch `b`. -/
def rI (b : Fin 4) : Rect S4x256x256 := Rect.unit ![b.val, 0, 0] S1x256x128.size (by revert b; decide)
/-- The forget gates of batch `b`. -/
def rF (b : Fin 4) : Rect S4x256x256 := Rect.unit ![b.val, 0, 128] S1x256x128.size (by revert b; decide)
/-- The state of stream `4 b + h`. -/
def rC (b h : Fin 4) : Rect S16x128x256 := Rect.unit ![4 * b.val + h.val, 0, 0] S1x128x256.size (by revert b h; decide)
/-- The running maximum of stream `4 b + h`. -/
def rM (b h : Fin 4) : Rect S16x8x128 := Rect.unit ![4 * b.val + h.val, 0, 0] S1x8x128.size (by revert b h; decide)
/-- The last tokens of batch `b`. -/
def rT (b : Fin 4) : Rect S4x8x1024 := Rect.unit ![b.val, 0, 0] S1x8x1024.size (by revert b; decide)
/-- Head `h`'s columns of the output scale. -/
def rG (h : Fin 4) : Rect S1x512 := Rect.unit ![0, 128 * h.val] S1x128.size (by revert h; decide)
/-- The convolution's weights, whole. -/
def rW : Rect S4x1024 := Rect.unit ![0, 0] S4x1024.size (by decide)
/-- The convolution's bias, whole. -/
def rB : Rect S1x1024 := Rect.unit ![0, 0] S1x1024.size (by decide)
/-- A gate bias, whole. -/
def rG1 : Rect S1x128 := Rect.unit ![0, 0] S1x128.size (by decide)

/-- The queries and keys of a batch: the causal convolution over four tokens and its swish. -/
def qkOf (x : Vec F S1x256x1024 .bf16) (tl : Vec F S1x8x1024 .f32) (w : Vec F S4x1024 .f32) (cb : Vec F S1x1024 .f32) : FVec F S256x1024 .f32 :=
  k0_pay16 w (k0_pay8 x) (k0_pay9 tl) (k0_pay10 w x tl) (k0_pay11 w) (k0_pay12 x) (k0_pay13 tl) k0_pay14 cb

/-- The running sum of the log forget gates. -/
def bcOf (g1 : Vec F S1x256x128 .f32) (bf : Vec F S1x128 .f32) : FVec F S256x128 .f32 := k0_pay18 k0_pay6 g1 bf
/-- Input gate less running sum. -/
def rrOf (g0 g1 : Vec F S1x256x128 .f32) (bi bf : Vec F S1x128 .f32) : FVec F S256x128 .f32 := subf (k0_pay17 g0 bi) (bcOf g1 bf)
/-- The running sum at the chunk's end. -/
def blOf (g1 : Vec F S1x256x128 .f32) (bf : Vec F S1x128 .f32) : FVec F S1x128 .f32 :=
  extractStridedSlice S1x128 ![255, 0] (bcOf g1 bf) slices_S256x128_o255_0_S1x128
/-- What each token adds to the state, as a logarithm. -/
def ggOf (g0 g1 : Vec F S1x256x128 .f32) (bi bf : Vec F S1x128 .f32) : FVec F S256x128 .f32 :=
  addf (broadcastTo S256x128 (blOf g1 bf) broadcasts_S1x128_S256x128) (rrOf g0 g1 bi bf)
/-- The largest of them. -/
def mlOf (g0 g1 : Vec F S1x256x128 .f32) (bi bf : Vec F S1x128 .f32) : FVec F S1x128 .f32 :=
  shapeCast S1x128 (multiReduction .maximumf [0] S128 (ggOf g0 g1 bi bf) 0xFF800000#32 reduces_S256x128_S128 (.inl rfl) rfl) shapeCasts_S128_S1x128

/-- Head `h`'s queries. -/
def hq (h : Fin 4) (qk : FVec F S256x1024 .f32) : FVec F S256x128 .bf16 := truncf .bf16 (extractStridedSlice S256x128 ![0, 128 * h.val] qk (slq h)) bitsLt_bf16_f32
/-- Head `h`'s keys, scaled. -/
def hk (h : Fin 4) (qk : FVec F S256x1024 .f32) : FVec F S256x128 .f32 :=
  mulf (extractStridedSlice S256x128 ![0, 512 + 128 * h.val] qk (slk h)) (broadcast S256x128 (Scalar.ofBits .f32 0x3DB504F3#32))

/-- The new running maximum of a stream. -/
def hm (h : Fin 4) (g0 g1 : Vec F S1x256x128 .f32) (bi bf : Vec F S1x128 .f32) (mS : Vec F S1x8x128 .f32) : FVec F S1x1 .f32 :=
  maximumf (addf (extractStridedSlice S1x1 ![0, h.val] (blOf g1 bf) (sl1 h)) (k0_pay27 mS)) (extractStridedSlice S1x1 ![0, h.val] (mlOf g0 g1 bi bf) (sl1 h))

/-- Head `h`'s output before its norm. -/
def hO (h : Fin 4) (qk : FVec F S256x1024 .f32) (g0 g1 : Vec F S1x256x128 .f32) (bi bf : Vec F S1x128 .f32) (v : Vec F S1x256x128 .bf16)
    (cS : Vec F S1x128x256 .f32) (mS : Vec F S1x8x128 .f32) : FVec F S256x128 .f32 :=
  k0_pay30 k0_pay5 (hq h qk) (hk h qk) (k0_pay26 k0_pay7 v) (k0_pay27 mS) (extractStridedSlice S256x1 ![0, h.val] (bcOf g1 bf) (slc h))
    (addf (broadcastTo S256x256 (extractStridedSlice S256x1 ![0, h.val] (bcOf g1 bf) (slc h)) broadcasts_S256x1_S256x256)
      (broadcastTo S256x256 (extractStridedSlice S1x256 ![h.val, 0] (transpose S128x256 [1, 0] (rrOf g0 g1 bi bf) transposes_S256x128_p1_0_S128x256) (slr h)) broadcasts_S1x256_S256x256)) cS

/-- Head `h`'s output: the head norm and the gate. -/
def hOut (h : Fin 4) (qk : FVec F S256x1024 .f32) (g0 g1 : Vec F S1x256x128 .f32) (bi bf : Vec F S1x128 .f32) (v mo : Vec F S1x256x128 .bf16) (mg : Vec F S1x128 .f32)
    (cS : Vec F S1x128x256 .f32) (mS : Vec F S1x8x128 .f32) : FVec F S1x256x128 .bf16 :=
  k0_pay37 (hO h qk g0 g1 bi bf v cS mS) mg mo

/-- Head `h`'s state after the chunk. -/
def hC (h : Fin 4) (qk : FVec F S256x1024 .f32) (g0 g1 : Vec F S1x256x128 .f32) (bi bf : Vec F S1x128 .f32) (v : Vec F S1x256x128 .bf16)
    (cS : Vec F S1x128x256 .f32) (mS : Vec F S1x8x128 .f32) : FVec F S1x128x256 .f32 :=
  k0_pay35 (k0_pay26 k0_pay7 v)
    (truncf .bf16 (transpose S128x256 [1, 0] (mulf (hk h qk) (broadcastTo S256x128
      (exp (subf (extractStridedSlice S256x1 ![0, h.val] (ggOf g0 g1 bi bf) (slc h)) (broadcastTo S256x1 (hm h g0 g1 bi bf mS) broadcasts_S1x1_S256x1)))
      broadcasts_S256x1_S256x128)) transposes_S256x128_p1_0_S128x256) bitsLt_bf16_f32)
    (exp (subf (addf (extractStridedSlice S1x1 ![0, h.val] (blOf g1 bf) (sl1 h)) (k0_pay27 mS)) (hm h g0 g1 bi bf mS))) cS

variable (x0 : Vec F S4x256x1024 .bf16) (x1 x2 : Vec F S4x256x512 .bf16) (x3 : Vec F S4x256x256 .f32) (x4 : Vec F S4x1024 .f32) (x5 : Vec F S1x1024 .f32)
  (x6 x7 : Vec F S1x128 .f32) (x8 : Vec F S1x512 .f32) (cs : Vec F S16x128x256 .f32) (ms : Vec F S16x8x128 .f32) (ts : Vec F S4x8x1024 .f32)

/-- The queries and keys of batch `b`. -/
def qkB (b : Fin 4) : FVec F S256x1024 .f32 := qkOf (View.ld x0 (rX b)) (View.ld ts (rT b)) (View.ld x4 rW) (View.ld x5 rB)

/-- Stream `(b, h)`'s output block. -/
def stO (b h : Fin 4) : Vec F S1x256x128 .bf16 :=
  hOut h (qkB x0 x4 x5 ts b) (View.ld x3 (rI b)) (View.ld x3 (rF b)) (View.ld x6 rG1) (View.ld x7 rG1) (View.ld x1 (rV b h)) (View.ld x2 (rV b h)) (View.ld x8 (rG h))
    (View.ld cs (rC b h)) (View.ld ms (rM b h))
/-- Stream `(b, h)`'s state after the chunk. -/
def stC (b h : Fin 4) : Vec F S1x128x256 .f32 :=
  hC h (qkB x0 x4 x5 ts b) (View.ld x3 (rI b)) (View.ld x3 (rF b)) (View.ld x6 rG1) (View.ld x7 rG1) (View.ld x1 (rV b h))
    (View.ld cs (rC b h)) (View.ld ms (rM b h))
/-- Stream `(b, h)`'s running maximum after the chunk. -/
def stM (b h : Fin 4) : Vec F S1x8x128 .f32 :=
  k0_pay36 (hm h (View.ld x3 (rI b)) (View.ld x3 (rF b)) (View.ld x6 rG1) (View.ld x7 rG1) (View.ld ms (rM b h)))
/-- Batch `b`'s last tokens. -/
def stT (b : Fin 4) : Vec F S1x8x1024 .f32 := k0_pay15 (k0_pay8 (View.ld x0 (rX b)))

/-- The output block of a point: each head's columns of each batch. -/
def stepO : Vec F S4x256x512 .bf16 := fun y =>
  stO x0 x1 x2 x3 x4 x5 x6 x7 x8 cs ms ts (y 0) ⟨(y 2).val / 128, by have : (y 2).val < 512 := (y 2).isLt; omega⟩
    (ix3 (0 : Fin 1) (y 1) (⟨(y 2).val % 128, Nat.mod_lt _ (by decide)⟩ : Fin 128))
/-- The states after a point. -/
def stepC : Vec F S16x128x256 .f32 := fun y =>
  stC x0 x1 x3 x4 x5 x6 x7 cs ms ts ⟨(y 0).val / 4, by have : (y 0).val < 16 := (y 0).isLt; omega⟩ ⟨(y 0).val % 4, Nat.mod_lt _ (by decide)⟩
    (ix3 (0 : Fin 1) (y 1) (y 2))
/-- The running maxima after a point. -/
def stepM : Vec F S16x8x128 .f32 := fun y =>
  stM x3 x6 x7 ms ⟨(y 0).val / 4, by have : (y 0).val < 16 := (y 0).isLt; omega⟩ ⟨(y 0).val % 4, Nat.mod_lt _ (by decide)⟩
    (ix3 (0 : Fin 1) (y 1) (y 2))
/-- The last tokens after a point. -/
def stepT : Vec F S4x8x1024 .f32 := fun y => stT x0 (y 0) (ix3 (0 : Fin 1) (y 1) (y 2))

/-- `stepO` on a head's rectangle is that head's block. -/
theorem stepO_emb (b h : Fin 4) (x : S1x256x128.Idx) :
    stO x0 x1 x2 x3 x4 x5 x6 x7 x8 cs ms ts b h x = stepO x0 x1 x2 x3 x4 x5 x6 x7 x8 cs ms ts ((rV b h).emb x) := by
  have e0 : ((rV b h).emb x 0).val = b.val + 1 * (x 0).val := rfl
  have e1 : ((rV b h).emb x 1).val = 0 + 1 * (x 1).val := rfl
  have e2 : ((rV b h).emb x 2).val = 128 * h.val + 1 * (x 2).val := rfl
  have l0 : (x 0).val < 1 := (x 0).isLt
  have l2 : (x 2).val < 128 := (x 2).isLt
  unfold stepO
  congr 1
  · exact Fin.ext (by omega)
  · exact Fin.ext (by simp only; omega)
  · funext a; match a with
    | ⟨0, _⟩ => exact Fin.ext (by show (x 0).val = 0; omega)
    | ⟨1, _⟩ => exact Fin.ext (by show (x 1).val = ((rV b h).emb x 1).val; omega)
    | ⟨2, _⟩ => exact Fin.ext (by show (x 2).val = ((rV b h).emb x 2).val % 128; omega)

/-- `stepC` on a stream's rectangle is that stream's state. -/
theorem stepC_emb (b h : Fin 4) (x : S1x128x256.Idx) :
    stC x0 x1 x3 x4 x5 x6 x7 cs ms ts b h x = stepC x0 x1 x3 x4 x5 x6 x7 cs ms ts ((rC b h).emb x) := by
  have e0 : ((rC b h).emb x 0).val = (4 * b.val + h.val) + 1 * (x 0).val := rfl
  have e1 : ((rC b h).emb x 1).val = 0 + 1 * (x 1).val := rfl
  have e2 : ((rC b h).emb x 2).val = 0 + 1 * (x 2).val := rfl
  have l0 : (x 0).val < 1 := (x 0).isLt
  unfold stepC
  congr 1
  · exact Fin.ext (by simp only; omega)
  · exact Fin.ext (by simp only; omega)
  · funext a; match a with
    | ⟨0, _⟩ => exact Fin.ext (by show (x 0).val = 0; omega)
    | ⟨1, _⟩ => exact Fin.ext (by show (x 1).val = ((rC b h).emb x 1).val; omega)
    | ⟨2, _⟩ => exact Fin.ext (by show (x 2).val = ((rC b h).emb x 2).val; omega)

/-- `stepM` on a stream's rectangle is that stream's maximum. -/
theorem stepM_emb (b h : Fin 4) (x : S1x8x128.Idx) :
    stM x3 x6 x7 ms b h x = stepM x3 x6 x7 ms ((rM b h).emb x) := by
  have e0 : ((rM b h).emb x 0).val = (4 * b.val + h.val) + 1 * (x 0).val := rfl
  have e1 : ((rM b h).emb x 1).val = 0 + 1 * (x 1).val := rfl
  have e2 : ((rM b h).emb x 2).val = 0 + 1 * (x 2).val := rfl
  have l0 : (x 0).val < 1 := (x 0).isLt
  unfold stepM
  congr 1
  · exact Fin.ext (by simp only; omega)
  · exact Fin.ext (by simp only; omega)
  · funext a; match a with
    | ⟨0, _⟩ => exact Fin.ext (by show (x 0).val = 0; omega)
    | ⟨1, _⟩ => exact Fin.ext (by show (x 1).val = ((rM b h).emb x 1).val; omega)
    | ⟨2, _⟩ => exact Fin.ext (by show (x 2).val = ((rM b h).emb x 2).val; omega)

/-- `stepT` on a batch's rectangle is that batch's tokens. -/
theorem stepT_emb (b : Fin 4) (x : S1x8x1024.Idx) : stT x0 b x = stepT x0 ((rT b).emb x) := by
  have e0 : ((rT b).emb x 0).val = b.val + 1 * (x 0).val := rfl
  have e1 : ((rT b).emb x 1).val = 0 + 1 * (x 1).val := rfl
  have e2 : ((rT b).emb x 2).val = 0 + 1 * (x 2).val := rfl
  have l0 : (x 0).val < 1 := (x 0).isLt
  unfold stepT
  congr 1
  · exact Fin.ext (by omega)
  · funext a; match a with
    | ⟨0, _⟩ => exact Fin.ext (by show (x 0).val = 0; omega)
    | ⟨1, _⟩ => exact Fin.ext (by show (x 1).val = ((rT b).emb x 1).val; omega)
    | ⟨2, _⟩ => exact Fin.ext (by show (x 2).val = ((rT b).emb x 2).val; omega)

end Cert.Ml

end
-- ==== Proof.Ml.Math.lean ====
module

public import Idealize.ShloMosaic.Lib.Pointwise

@[expose] public section

/-!
The recurrence of one stream over the reals. `k s d`, `v s` are the keys and one column of the values, `lf s` and `li s` the log forget gate
and the log input gate. A chunk of any length, entered with any stabiliser, leaves the same numbers.
-/

noncomputable section

namespace Cert.Ml

open Finset

/-- The log forget gate, as the kernel writes it. -/
def lsg (f : ℝ) : ℝ := min f 0 - Real.log (1 + Real.exp (-|f|))

/-- The sum of the log forget gates before `n`. -/
def cF (lf : ℕ → ℝ) (n : ℕ) : ℝ := ∑ u ∈ range n, lf u

/-- The state before token `n`: row `d` of the sum of the outer products of keys and values, each decayed to `n`. -/
def cS {D : ℕ} (k : ℕ → Fin D → ℝ) (v lf li : ℕ → ℝ) (n : ℕ) (d : Fin D) : ℝ :=
  ∑ s ∈ range n, Real.exp (cF lf n - cF lf (s + 1) + li s) * k s d * v s

/-- What token `t` reads: its query against the state after it. -/
def cN {D : ℕ} (q k : ℕ → Fin D → ℝ) (v lf li : ℕ → ℝ) (t : ℕ) : ℝ :=
  ∑ s ∈ range (t + 1), Real.exp (cF lf (t + 1) - cF lf (s + 1) + li s) * (∑ d, q t d * k s d) * v s

/-- The sum of the log forget gates of tokens `n … n + i`. -/
def cB (lf : ℕ → ℝ) (n i : ℕ) : ℝ := ∑ u ∈ range (i + 1), lf (n + u)

theorem cB_eq (lf : ℕ → ℝ) (n i : ℕ) : cB lf n i = cF lf (n + i + 1) - cF lf n := by
  unfold cB cF
  rw [show n + i + 1 = n + (i + 1) by ring, sum_range_add _ n (i + 1)]
  ring

/-- A sum over the tokens of the chunk up to `i`, as a masked sum over the chunk. -/
theorem sum_mask {L : ℕ} (f : ℕ → ℝ) (i : Fin L) : (∑ x : Fin L, if x.val ≤ i.val then f x.val else 0) = ∑ u ∈ range (i.val + 1), f u := by
  rw [Fin.sum_univ_eq_sum_range (fun x => if x ≤ i.val then f x else 0) L, ← sum_filter]
  congr 1
  ext x
  simp only [mem_filter, mem_range]
  have := i.isLt
  omega

/-- One chunk's rows: the masked scores against the values and the decayed entering state are the row of the whole sequence. -/
theorem chunk_row {D L : ℕ} (q k : ℕ → Fin D → ℝ) (v lf li : ℕ → ℝ) (n : ℕ) (i : Fin L) (m mt : ℝ) :
    (∑ j : Fin L, ((∑ d, q (n + i.val) d * k (n + j.val) d)
        * (if j.val ≤ i.val then Real.exp (cB lf n i.val - cB lf n j.val + li (n + j.val) - mt) else 0)) * v (n + j.val))
      + Real.exp (cB lf n i.val + m - mt) * (∑ d, q (n + i.val) d * (Real.exp (-m) * cS k v lf li n d))
      = Real.exp (-mt) * cN q k v lf li (n + i.val) := by
  have h1 : (∑ j : Fin L, ((∑ d, q (n + i.val) d * k (n + j.val) d)
        * (if j.val ≤ i.val then Real.exp (cB lf n i.val - cB lf n j.val + li (n + j.val) - mt) else 0)) * v (n + j.val))
      = ∑ u ∈ range (i.val + 1), Real.exp (-mt) * (Real.exp (cF lf (n + i.val + 1) - cF lf (n + u + 1) + li (n + u)) * (∑ d, q (n + i.val) d * k (n + u) d) * v (n + u)) := by
    rw [← sum_mask (fun u => Real.exp (-mt) * (Real.exp (cF lf (n + i.val + 1) - cF lf (n + u + 1) + li (n + u)) * (∑ d, q (n + i.val) d * k (n + u) d) * v (n + u))) i]
    refine sum_congr rfl fun j _ => ?_
    by_cases hj : j.val ≤ i.val
    · rw [if_pos hj, if_pos hj, cB_eq, cB_eq,
        show cF lf (n + i.val + 1) - cF lf n - (cF lf (n + j.val + 1) - cF lf n) + li (n + j.val) - mt
          = -mt + (cF lf (n + i.val + 1) - cF lf (n + j.val + 1) + li (n + j.val)) by ring, Real.exp_add]
      ring
    · rw [if_neg hj, if_neg hj]; ring
  have h2 : Real.exp (cB lf n i.val + m - mt) * (∑ d, q (n + i.val) d * (Real.exp (-m) * cS k v lf li n d))
      = Real.exp (-mt) * ∑ s ∈ range n, Real.exp (cF lf (n + i.val + 1) - cF lf (s + 1) + li s) * (∑ d, q (n + i.val) d * k s d) * v s := by
    unfold cS
    simp only [mul_sum, sum_mul]
    rw [sum_comm]
    refine sum_congr rfl fun s _ => sum_congr rfl fun d _ => ?_
    have e1 : Real.exp (cF lf (n + i.val + 1) - cF lf (s + 1) + li s)
        = Real.exp (cF lf (n + i.val + 1) - cF lf n) * Real.exp (cF lf n - cF lf (s + 1) + li s) := by rw [← Real.exp_add]; congr 1; ring
    have e2 : Real.exp (cF lf (n + i.val + 1) - cF lf n + m - mt) = Real.exp (-mt) * Real.exp (cF lf (n + i.val + 1) - cF lf n) * Real.exp m := by
      rw [← Real.exp_add, ← Real.exp_add]; congr 1; ring
    rw [cB_eq, e1, e2]
    have : Real.exp m * Real.exp (-m) = 1 := by rw [← Real.exp_add]; simp
    linear_combination (Real.exp (-mt) * Real.exp (cF lf (n + i.val + 1) - cF lf n) * q (n + i.val) d * Real.exp (cF lf n - cF lf (s + 1) + li s) * k s d * v s) * this
  rw [h1, h2, ← mul_sum, ← mul_add]
  congr 1
  unfold cN
  rw [show n + i.val + 1 = n + (i.val + 1) by ring, sum_range_add _ n (i.val + 1), add_comm]

/-- One chunk's state: the decayed entering state and the chunk's own outer products are the state at the chunk's end. -/
theorem chunk_state {D L : ℕ} (k : ℕ → Fin D → ℝ) (v lf li : ℕ → ℝ) (n : ℕ) (d : Fin D) (m m' : ℝ) :
    Real.exp (cB lf n L + m - m') * (Real.exp (-m) * cS k v lf li n d)
      + ∑ j : Fin (L + 1), k (n + j.val) d * Real.exp (cB lf n L - cB lf n j.val + li (n + j.val) - m') * v (n + j.val)
      = Real.exp (-m') * cS k v lf li (n + (L + 1)) d := by
  rw [Fin.sum_univ_eq_sum_range (fun j => k (n + j) d * Real.exp (cB lf n L - cB lf n j + li (n + j) - m') * v (n + j)) (L + 1)]
  unfold cS
  rw [sum_range_add _ n (L + 1), mul_add (Real.exp (-m'))]
  congr 1
  · rw [mul_sum, mul_sum, mul_sum]
    refine sum_congr rfl fun s _ => ?_
    have e1 : Real.exp (cF lf (n + (L + 1)) - cF lf (s + 1) + li s)
        = Real.exp (cF lf (n + L + 1) - cF lf n) * Real.exp (cF lf n - cF lf (s + 1) + li s) := by
      rw [← Real.exp_add, show n + (L + 1) = n + L + 1 by ring]; congr 1; ring
    have e2 : Real.exp (cF lf (n + L + 1) - cF lf n + m - m') = Real.exp (-m') * Real.exp (cF lf (n + L + 1) - cF lf n) * Real.exp m := by
      rw [← Real.exp_add, ← Real.exp_add]; congr 1; ring
    rw [cB_eq, e1, e2]
    have : Real.exp m * Real.exp (-m) = 1 := by rw [← Real.exp_add]; simp
    linear_combination (Real.exp (-m') * Real.exp (cF lf (n + L + 1) - cF lf n) * Real.exp (cF lf n - cF lf (s + 1) + li s) * k s d * v s) * this
  · rw [mul_sum]
    refine sum_congr rfl fun u _ => ?_
    have e1 : Real.exp (cF lf (n + L + 1) - cF lf n - (cF lf (n + u + 1) - cF lf n) + li (n + u) - m')
        = Real.exp (-m') * Real.exp (cF lf (n + (L + 1)) - cF lf (n + u + 1) + li (n + u)) := by
      rw [← Real.exp_add, show n + (L + 1) = n + L + 1 by ring]; congr 1; ring
    rw [cB_eq, cB_eq, e1]
    ring

/-- The output of a token: what it reads over its normaliser, at least one in size. -/
def cH {D : ℕ} (q k : ℕ → Fin D → ℝ) (v lf li : ℕ → ℝ) (t : ℕ) : ℝ := cN q k v lf li t / max |cN q k (fun _ => 1) lf li t| 1

/-- The stabiliser cancels in the ratio. -/
theorem ratio {a b m : ℝ} : Real.exp (-m) * a / max |Real.exp (-m) * b| (Real.exp (-m)) = a / max |b| 1 := by
  have hp := Real.exp_pos (-m)
  rw [abs_mul, abs_of_pos hp, show max (Real.exp (-m) * |b|) (Real.exp (-m)) = Real.exp (-m) * max |b| 1 by
    rw [mul_max_of_nonneg _ _ hp.le, mul_one]]
  rw [mul_div_mul_left _ _ hp.ne']

/-- The log forget gate as the reference writes it. -/
theorem lsg_eq (f : ℝ) : -(max (-f) 0 + Real.log (1 + Real.exp (-|(-f)|))) = lsg f := by
  unfold lsg
  rw [abs_neg]
  rcases le_total f 0 with h | h
  · rw [max_eq_left (by linarith), min_eq_left h]; ring
  · rw [max_eq_right (by linarith), min_eq_right h]; ring

/-- A fold of `max` from the bottom over values below the top stays below it. -/
theorem fold_max_ne_top {ι : Type*} (s : Finset ι) (f : ι → EReal) (h : ∀ i ∈ s, f i ≠ ⊤) : s.fold max ⊥ f ≠ ⊤ := by
  classical
  induction s using Finset.induction_on with
  | empty => simp
  | insert a s ha ih =>
    rw [fold_insert ha]
    rcases max_choice (f a) (s.fold max ⊥ f) with e | e
    · rw [e]; exact h a (mem_insert_self _ _)
    · rw [e]; exact ih fun i hi => h i (mem_insert_of_mem hi)

/-- A fold of `max` is at least each value. -/
theorem le_fold_max' {ι : Type*} (s : Finset ι) (f : ι → EReal) (i : ι) (hi : i ∈ s) : f i ≤ s.fold max ⊥ f :=
  (Finset.le_fold_max (f i)).mpr (Or.inr ⟨i, hi, le_rfl⟩)

/-- The larger of a real and a value below the top is a real. -/
theorem max_coe_real (a : ℝ) {y : EReal} (h : y ≠ ⊤) : ∃ m : ℝ, max (a : EReal) y = m := by
  induction y using EReal.rec with
  | bot => exact ⟨a, by simp⟩
  | coe y => exact ⟨max a y, (EReal.coe_strictMono.monotone.map_max).symm⟩
  | top => exact absurd rfl h

/-- A nonempty fold of `max` over reals is a real. -/
theorem fold_max_real {ι : Type*} (s : Finset ι) (f : ι → ℝ) (i : ι) (hi : i ∈ s) : ∃ m : ℝ, s.fold max (⊥ : EReal) (fun j => (f j : EReal)) = m := by
  have h1 := fold_max_ne_top s (fun j => (f j : EReal)) fun _ _ => EReal.coe_ne_top _
  have h2 : ((f i : ℝ) : EReal) ≤ _ := le_fold_max' s (fun j => (f j : EReal)) i hi
  have h3 : s.fold max (⊥ : EReal) (fun j => (f j : EReal)) ≠ ⊥ := fun e => by rw [e] at h2; exact EReal.coe_ne_bot _ (le_bot_iff.mp h2)
  exact ⟨_, (EReal.coe_toReal h1 h3).symm⟩

/-- A finite sum of reals in the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [sum_insert ha, sum_insert ha, ih, EReal.coe_add]

end Cert.Ml

end
-- ==== Proof.Ml.Kern.lean ====
module

public import proofs.«01_k».proof.Proof.Ml.Heads
public import proofs.«01_k».proof.Proof.Ml.Math
public import Idealize.ShloMosaic.Lib.WordCmp

@[expose] public section

set_option maxRecDepth 16384

/-!
What the kernel's functions for one stream compute over the reals: entered with the stream's state at token `n` under some stabiliser,
a chunk of 256 tokens leaves the outputs of `Math` and the state at `n + 256` under another stabiliser.
-/

noncomputable section

namespace Cert.Ml

open Cert.KernelIdeal Cert.KernelIdeal.Gen Idealize.ShloMosaic Idealize.SL.Sem

theorem h4 (h : Fin 4) : h.val < 128 := by omega
theorem h4q (h : Fin 4) (d : Fin 128) : 128 * h.val + d.val < 1024 := by omega
theorem h4k (h : Fin 4) (d : Fin 128) : 512 + 128 * h.val + d.val < 1024 := by omega
theorem e128 (e : Fin 128) : e.val < 256 := by omega
theorem e256 (e : Fin 128) : 128 + e.val < 256 := by omega

/-- The named mask is minus infinity. -/
theorem mask_bot : (Named.named (F := Ideal) κ "mask" 4048155338#32 : Ideal .f32) = (⊥ : EReal) := IdealRules.named_const.ideal_named_scalar _ _ _ _ rfl

/-- The bits the maxima start from are minus infinity. -/
theorem ninf_bot : Ideal.ofBits FTy.f32 4286578688#32 = (⊥ : EReal) := by simp [Ideal.ofBits, Ideal.ieee]

/-- The key scale's value. -/
def ksc : ℝ := 11863283 * ((2 : ℝ) ^ 27)⁻¹

/-- The key scale is a real number. -/
theorem ksc_coe : Ideal.ofBits FTy.f32 1035273459#32 = ((ksc : ℝ) : EReal) := by
  simp [Ideal.ofBits, Ideal.ieee, ksc]

/-- A select by a comparison of two positions. -/
theorem sel_ge {α : Type} {a b : ℕ} (ha : a < 256) (hb : b < 256) (x y : α) :
    Scalar.select (IntOp.cmpi CmpIPredicate.sge (BitVec.ofNat 32 a) (BitVec.ofNat 32 b)) x y = if b ≤ a then x else y := by
  rw [WordCmp.cmpi_sge_ofNat (by omega) (by omega)]
  by_cases h : b ≤ a <;> simp [Scalar.select, h]

/-- A select by a strict comparison of two positions. -/
theorem sel_lt {α : Type} {a b : ℕ} (ha : a < 256) (hb : b < 256) (x y : α) :
    Scalar.select (IntOp.cmpi CmpIPredicate.slt (BitVec.ofNat 32 a) (BitVec.ofNat 32 b)) x y = if a < b then x else y := by
  rw [WordCmp.cmpi_slt_ofNat (by omega) (by omega)]
  by_cases h : a < b <;> simp [Scalar.select, h]

/-- The kernel's log forget gate of a real is the real's. -/
theorem lsg_coe (f : ℝ) : min (f : EReal) 0 - Ideal.log (1 + Ideal.exp (0 - (FloatOps.absf (F := Ideal) (φ := .f32) (f : EReal) : EReal))) = ((lsg f : ℝ) : EReal) := by
  have h1 : (FloatOps.absf (F := Ideal) (φ := .f32) (f : EReal) : EReal) = ((|f| : ℝ) : EReal) := by
    rw [Ideal.absf_def, ← EReal.coe_neg, ← EReal.coe_strictMono.monotone.map_max]; rfl
  rw [h1, show (0 : EReal) = ((0 : ℝ) : EReal) from rfl, ← EReal.coe_sub, Ideal.exp_coe, show (1 : EReal) = ((1 : ℝ) : EReal) from rfl, ← EReal.coe_add, Ideal.log_coe,
    if_neg (not_le.mpr (by positivity)), ← EReal.coe_strictMono.monotone.map_min, ← EReal.coe_sub]
  unfold lsg
  rw [zero_sub]

section
variable {g0 g1 : Vec Ideal S1x256x128 .f32} {bi bf : Vec Ideal S1x128 .f32} {n : ℕ} {fp li : ℕ → ℝ} {c : Fin 128}

/-- The kernel's running sum, column `c`. -/
theorem bc_val (hf : ∀ r : Fin 256, g1 (ix3 0 r c) + bf (ix2 0 c) = ((fp (n + r.val) : ℝ) : EReal)) (i : Fin 256) :
    bcOf g1 bf (ix2 i c) = ((cB (fun t => lsg (fp t)) n i.val : ℝ) : EReal) := by
  pointwise [bcOf, k0_pay18, k0_pay6, k0_pay5]
  simp only [hf, lsg_coe, sel_ge i.isLt (Fin.isLt _), ← EReal.coe_sub, sub_self, EReal.coe_zero, ite_self, Finset.sum_const_zero, add_zero]
  have : ∀ x : Fin 256, (if x.val ≤ i.val then ((lsg (fp (n + x.val)) : ℝ) : EReal) else 0) = ((if x.val ≤ i.val then lsg (fp (n + x.val)) else 0 : ℝ) : EReal) := fun x => by
    split_ifs <;> simp
  simp only [this, coe_sum]
  rw [sum_mask (fun u => lsg (fp (n + u))) i]
  rfl

variable (hf : ∀ r : Fin 256, g1 (ix3 0 r c) + bf (ix2 0 c) = ((fp (n + r.val) : ℝ) : EReal))
  (hi : ∀ r : Fin 256, g0 (ix3 0 r c) + bi (ix2 0 c) = ((li (n + r.val) : ℝ) : EReal))
include hf hi

/-- Input gate less running sum, column `c`. -/
theorem rr_val (j : Fin 256) : rrOf g0 g1 bi bf (ix2 j c) = ((li (n + j.val) - cB (fun t => lsg (fp t)) n j.val : ℝ) : EReal) := by
  pointwise [rrOf, k0_pay17]
  rw [hi, bc_val hf, ← EReal.coe_sub]

omit hi in
/-- The running sum at the chunk's end. -/
theorem bl_val : blOf g1 bf (ix2 0 c) = ((cB (fun t => lsg (fp t)) n 255 : ℝ) : EReal) := by
  pointwise [blOf]
  rw [bc_val hf]
  rfl

/-- What each token adds, as a logarithm. -/
theorem gg_val (j : Fin 256) : ggOf g0 g1 bi bf (ix2 j c)
    = ((cB (fun t => lsg (fp t)) n 255 - cB (fun t => lsg (fp t)) n j.val + li (n + j.val) : ℝ) : EReal) := by
  pointwise [ggOf]
  rw [bl_val hf, rr_val hf hi, ← EReal.coe_add]
  congr 1; ring

/-- The largest of them is below the top. -/
theorem ml_ne_top : mlOf g0 g1 bi bf (ix2 0 c) ≠ (⊤ : EReal) := by
  pointwise [mlOf]
  simp only [ninf_bot, gg_val hf hi]
  exact fold_max_ne_top _ _ fun _ _ => EReal.coe_ne_top _

end

section
variable {g0 g1 : Vec Ideal S1x256x128 .f32} {bi bf : Vec Ideal S1x128 .f32} {n : ℕ} {fp li : ℕ → ℝ} {h : Fin 4}
  {qk : FVec Ideal S256x1024 .f32} {v : Vec Ideal S1x256x128 .bf16} {cs : Vec Ideal S1x128x256 .f32} {ms : Vec Ideal S1x8x128 .f32}
  {q k : ℕ → Fin 128 → ℝ} {vr : ℕ → Fin 128 → ℝ} {m : ℝ}
  (hf : ∀ r : Fin 256, g1 (ix3 0 r ⟨h.val, h4 h⟩) + bf (ix2 0 ⟨h.val, h4 h⟩) = ((fp (n + r.val) : ℝ) : EReal))
  (hi : ∀ r : Fin 256, g0 (ix3 0 r ⟨h.val, h4 h⟩) + bi (ix2 0 ⟨h.val, h4 h⟩) = ((li (n + r.val) : ℝ) : EReal))
  (hq : ∀ (r : Fin 256) (d : Fin 128), qk (ix2 r ⟨128 * h.val + d.val, h4q h d⟩) = ((q (n + r.val) d : ℝ) : EReal))
  (hk : ∀ (r : Fin 256) (d : Fin 128), qk (ix2 r ⟨512 + 128 * h.val + d.val, h4k h d⟩) = ((k (n + r.val) d : ℝ) : EReal))
  (hv : ∀ (r : Fin 256) (e : Fin 128), v (ix3 0 r e) = ((vr (n + r.val) e : ℝ) : EReal))
  (hm0 : ms (ix3 0 0 0) = ((m : ℝ) : EReal))
  (hc : ∀ d e : Fin 128, cs (ix3 0 d ⟨e.val, e128 e⟩)
    = ((Real.exp (-m) * cS (fun t d => k t d * ksc) (fun t => vr t e) (fun t => lsg (fp t)) li n d : ℝ) : EReal))
  (hn : ∀ d e : Fin 128, cs (ix3 0 d ⟨128 + e.val, e256 e⟩)
    = ((Real.exp (-m) * cS (fun t d => k t d * ksc) (fun _ => 1) (fun t => lsg (fp t)) li n d : ℝ) : EReal))

include hf hi hm0 in
/-- The new stabiliser is a real. -/
theorem hm_val : ∃ m' : ℝ, hm h g0 g1 bi bf ms (ix2 0 0) = ((m' : ℝ) : EReal) := by
  have e := ml_ne_top hf hi
  obtain ⟨m', hm'⟩ := max_coe_real (cB (fun t => lsg (fp t)) n 255 + m) e
  refine ⟨m', ?_⟩
  rw [← hm']
  pointwise [hm, k0_pay27]
  rw [bl_val hf, hm0, ← EReal.coe_add]

include hf hi hk hv hm0 hc hn in
/-- The state after the chunk: both halves, under the new stabiliser. -/
theorem hC_val (m' : ℝ) (hm' : hm h g0 g1 bi bf ms (ix2 0 0) = ((m' : ℝ) : EReal)) (d e : Fin 128) :
    hC h qk g0 g1 bi bf v cs ms (ix3 0 d ⟨e.val, e128 e⟩)
        = ((Real.exp (-m') * cS (fun t d => k t d * ksc) (fun t => vr t e) (fun t => lsg (fp t)) li (n + 256) d : ℝ) : EReal)
    ∧ hC h qk g0 g1 bi bf v cs ms (ix3 0 d ⟨128 + e.val, e256 e⟩)
        = ((Real.exp (-m') * cS (fun t d => k t d * ksc) (fun _ => 1) (fun t => lsg (fp t)) li (n + 256) d : ℝ) : EReal) := by
  constructor
  · pointwise [hC, k0_pay35, k0_pay26, k0_pay7, k0_pay27, Cert.Ml.hk]
    simp only [bl_val hf, hm0, hm', gg_val hf hi, hk, hv, hc, ksc_coe, e.isLt, dif_pos, ← EReal.coe_add, ← EReal.coe_sub, Ideal.exp_coe, ← EReal.coe_mul, coe_sum]
    rw [← chunk_state (L := 255) _ _ _ _ n d m m']
  · pointwise [hC, k0_pay35, k0_pay26, k0_pay7, k0_pay27, Cert.Ml.hk]
    have h1 : ¬ (128 + e.val < 128) := by omega
    simp only [bl_val hf, hm0, hm', gg_val hf hi, hk, hn, ksc_coe, h1, dif_neg, not_false_eq_true, ← EReal.coe_add, ← EReal.coe_sub, Ideal.exp_coe, mul_one, ← EReal.coe_mul, coe_sum]
    rw [← chunk_state (L := 255) _ _ _ _ n d m m']
    simp only [mul_one]

include hf hi hm0 in
/-- A row's stabiliser is a real. -/
theorem row_max (i : Fin 256) : ∃ mt : ℝ, max (bcOf g1 bf (ix2 i ⟨h.val, h4 h⟩) + ms (ix3 0 0 0))
    (Finset.fold max (⊥ : EReal)
      (fun x : Fin 256 => if x.val ≤ i.val then (bcOf g1 bf (ix2 i ⟨h.val, h4 h⟩) + rrOf g0 g1 bi bf (ix2 x ⟨h.val, h4 h⟩) : EReal) else ⊥)
      Finset.univ) = ((mt : ℝ) : EReal) := by
  simp only [bc_val hf, rr_val hf hi, hm0, ← EReal.coe_add]
  exact max_coe_real _ (fold_max_ne_top _ _ fun x _ => by
    split_ifs
    · exact EReal.coe_ne_top _
    · simp)

include hf hi hq hk hv hm0 hc hn in
/-- The head's output is the recurrence's. -/
theorem hO_val (i : Fin 256) (e : Fin 128) : hO h qk g0 g1 bi bf v cs ms (ix2 i e)
    = ((cH q (fun t d => k t d * ksc) (fun t => vr t e) (fun t => lsg (fp t)) li (n + i.val) : ℝ) : EReal) := by
  obtain ⟨mt, hmt⟩ := row_max hf hi hm0 i
  pointwise [hO, k0_pay30, k0_pay26, k0_pay7, k0_pay27, Cert.Ml.hk, Cert.Ml.hq, k0_pay5]
  simp only [ninf_bot, mask_bot, sel_ge i.isLt (Fin.isLt _)]
  rw [hmt]
  have hw : ∀ x : Fin 256, Ideal.exp ((if x.val ≤ i.val then (bcOf g1 bf (ix2 i ⟨h.val, h4 h⟩) + rrOf g0 g1 bi bf (ix2 x ⟨h.val, h4 h⟩) : EReal) else ⊥) - (mt : EReal))
      = ((if x.val ≤ i.val then Real.exp (cB (fun t => lsg (fp t)) n i.val - cB (fun t => lsg (fp t)) n x.val + li (n + x.val) - mt) else 0 : ℝ) : EReal) := fun x => by
    rw [bc_val hf, rr_val hf hi]
    split_ifs
    · rw [← EReal.coe_add, ← EReal.coe_sub, Ideal.exp_coe]; congr 2; ring
    · simp
  simp only [hw]
  simp only [bc_val hf, hm0, hq, hk, hv, hc, hn, ksc_coe, ← EReal.coe_add, ← EReal.coe_sub, Ideal.exp_coe, ← EReal.coe_mul, coe_sum]
  have h1 := chunk_row q (fun t d => k t d * ksc) (fun t => vr t e) (fun t => lsg (fp t)) li n i m mt
  have h2 := chunk_row q (fun t d => k t d * ksc) (fun _ => 1) (fun t => lsg (fp t)) li n i m mt
  simp only [mul_one] at h2
  rw [h1, h2, Ideal.absf_def, ← EReal.coe_neg, ← EReal.coe_strictMono.monotone.map_max, show (0 : EReal) = ((0 : ℝ) : EReal) from rfl, ← EReal.coe_sub, zero_sub, Ideal.exp_coe,
    ← EReal.coe_strictMono.monotone.map_max, Ideal.div_coe (ne_of_gt (lt_of_lt_of_le (Real.exp_pos _) (le_max_right _ _))), ← EReal.coe_mul]
  congr 1
  rw [mul_one_div]
  exact ratio

end

end Cert.Ml

end
-- ==== Proof.Ml.Conv.lean ====
module

public import proofs.«01_k».proof.Proof.Ml.Kern

@[expose] public section

set_option maxRecDepth 16384

/-!
The queries and keys of one block: the causal convolution over four tokens, the first rows of a block reaching into the last
tokens of the block before.
-/

noncomputable section

namespace Cert.Ml

open Cert.KernelIdeal Cert.KernelIdeal.Gen Idealize.ShloMosaic Idealize.SL.Sem

/-- The swish of a real. -/
def sil (y : ℝ) : ℝ := y * (1 / (1 + Real.exp (-y)))

/-- The causal convolution at token `t`: `xq` holds the tokens eight places on, zeros before the first. -/
def cvl (xq : ℕ → Fin 1024 → ℝ) (w : Fin 4 → Fin 1024 → ℝ) (cb : Fin 1024 → ℝ) (t : ℕ) (c : Fin 1024) : ℝ :=
  cb c + w 0 c * xq (t + 5) c + w 1 c * xq (t + 6) c + w 2 c * xq (t + 7) c + w 3 c * xq (t + 8) c

/-- The swish in the extended reals. -/
theorem sil_coe (y : ℝ) : (y : EReal) * Ideal.div 1 (1 + Ideal.exp (0 - (y : EReal))) = ((sil y : ℝ) : EReal) := by
  rw [show (0 : EReal) = ((0 : ℝ) : EReal) from rfl, ← EReal.coe_sub, Ideal.exp_coe, show (1 : EReal) = ((1 : ℝ) : EReal) from rfl, ← EReal.coe_add,
    Ideal.div_coe (by positivity), zero_sub, ← EReal.coe_mul, ← EReal.coe_mul, one_mul]
  rfl

variable {x : Vec Ideal S1x256x1024 .bf16} {tl : Vec Ideal S1x8x1024 .f32} {w : Vec Ideal S4x1024 .f32} {cb : Vec Ideal S1x1024 .f32}
  {xq : ℕ → Fin 1024 → ℝ} {wr : Fin 4 → Fin 1024 → ℝ} {cbr : Fin 1024 → ℝ} {n : ℕ}
  (hx : ∀ (r : Fin 256) (c : Fin 1024), x (ix3 0 r c) = ((xq (n + r.val + 8) c : ℝ) : EReal))
  (ht : ∀ (i : Fin 8) (c : Fin 1024), tl (ix3 0 i c) = ((xq (n + i.val) c : ℝ) : EReal))
  (hw : ∀ (j : Fin 4) (c : Fin 1024), w (ix2 j c) = ((wr j c : ℝ) : EReal))
  (hb : ∀ (c : Fin 1024), cb (ix2 0 c) = ((cbr c : ℝ) : EReal))

include hx in
theorem hx' (i : ℕ) (hi : i < 256) (k : ℕ) (e : n + i + 8 = k) (c : Fin 1024) : x (ix3 0 ⟨i, hi⟩ c) = ((xq k c : ℝ) : EReal) := by
  subst e; exact hx ⟨i, hi⟩ c

include ht in
theorem ht' (i : ℕ) (hi : i < 8) (k : ℕ) (e : n + i = k) (c : Fin 1024) : tl (ix3 0 ⟨i, hi⟩ c) = ((xq k c : ℝ) : EReal) := by
  subst e; exact ht ⟨i, hi⟩ c

/-- The token `s` places back as the kernel reads it: in the block, or among the tokens before it. -/
def tapE (x : Vec Ideal S1x256x1024 .bf16) (tl : Vec Ideal S1x8x1024 .f32) (r : Fin 256) (s : ℕ) (c : Fin 1024) : EReal :=
  if h : r.val < 8 then
    if r.val < s then tl (ix3 0 ⟨(r.val + 8 - s) % 8, Nat.mod_lt _ (by decide)⟩ c) else x (ix3 0 ⟨(r.val + 256 - s) % 256, Nat.mod_lt _ (by decide)⟩ c)
  else x (ix3 0 ⟨(8 + (r.val - 8) + 256 - s) % 256, Nat.mod_lt _ (by decide)⟩ c)

include hx ht in
/-- It is the token `s` places back. -/
theorem tap (r : Fin 256) (s : ℕ) (hs : 0 < s) (hs4 : s < 4) (c : Fin 1024) : tapE x tl r s c = ((xq (n + r.val + (8 - s)) c : ℝ) : EReal) := by
  have := r.isLt
  unfold tapE
  by_cases h : r.val < 8
  · rw [dif_pos h]
    by_cases h' : r.val < s
    · rw [if_pos h']; exact ht' ht _ _ _ (by omega) c
    · rw [if_neg h']; exact hx' hx _ _ _ (by omega) c
  · rw [dif_neg h]; exact hx' hx _ _ _ (by omega) c

include hx ht hw hb in
/-- The block's queries and keys are the swish of the convolution. -/
theorem qkOf_val (r : Fin 256) (c : Fin 1024) : qkOf x tl w cb (ix2 r c) = ((sil (cvl xq wr cbr (n + r.val) c) : ℝ) : EReal) := by
  pointwise [qkOf, k0_pay16, k0_pay8, k0_pay9, k0_pay10, k0_pay11, k0_pay12, k0_pay13, k0_pay14]
  have hr := r.isLt
  simp only [sel_lt r.isLt (by decide : (1:ℕ) < 256), sel_lt r.isLt (by decide : (2:ℕ) < 256), sel_lt r.isLt (by decide : (3:ℕ) < 256)]
  change (w (ix2 3 c) * x (ix3 0 r c) + w (ix2 2 c) * tapE x tl r 1 c + w (ix2 1 c) * tapE x tl r 2 c + w (ix2 0 c) * tapE x tl r 3 c + cb (ix2 0 c))
    * Ideal.div 1 (1 + Ideal.exp (0 - (w (ix2 3 c) * x (ix3 0 r c) + w (ix2 2 c) * tapE x tl r 1 c + w (ix2 1 c) * tapE x tl r 2 c + w (ix2 0 c) * tapE x tl r 3 c + cb (ix2 0 c)))) = _
  rw [tap hx ht r 1 (by decide) (by decide) c, tap hx ht r 2 (by decide) (by decide) c, tap hx ht r 3 (by decide) (by decide) c]
  simp only [hx, hw, hb, ← EReal.coe_mul, ← EReal.coe_add, sil_coe]
  congr 2
  unfold cvl
  simp only [Nat.reduceSub]
  ring

end Cert.Ml

end
-- ==== Proof.Ml.Data.lean ====
module

public import proofs.«01_k».proof.Proof.Ml.Conv

@[expose] public section

set_option maxRecDepth 16384

/-!
The recurrence's data, read off the arguments: the queries, keys, values and gates of each stream as real sequences, and the
result both programs compute of them.
-/

noncomputable section

namespace Cert.Ml

open Cert.KernelIdeal Cert.KernelIdeal.Gen Idealize.ShloMosaic Idealize.SL.Sem

/-- The nine arguments. -/
structure Arr where
  mqk : S4x8192x1024.Idx → EReal
  mv : S4x8192x512.Idx → EReal
  mo : S4x8192x512.Idx → EReal
  gt : S4x8192x256.Idx → EReal
  cw : S4x1024.Idx → EReal
  cb : S1x1024.Idx → EReal
  bi : S1x128.Idx → EReal
  bf : S1x128.Idx → EReal
  mg : S1x512.Idx → EReal

/-- The entries the recurrence reads are real numbers. -/
structure Arr.Real (A : Arr) : Prop where
  mqk : ∀ b t c, A.mqk (ix3 b t c) = (((A.mqk (ix3 b t c)).toReal : ℝ) : EReal)
  mv : ∀ b t c, A.mv (ix3 b t c) = (((A.mv (ix3 b t c)).toReal : ℝ) : EReal)
  gi : ∀ b t (h : Fin 4), A.gt (ix3 b t ⟨h.val, by omega⟩) = (((A.gt (ix3 b t ⟨h.val, by omega⟩)).toReal : ℝ) : EReal)
  gf : ∀ b t (h : Fin 4), A.gt (ix3 b t ⟨128 + h.val, by omega⟩) = (((A.gt (ix3 b t ⟨128 + h.val, by omega⟩)).toReal : ℝ) : EReal)
  cw : ∀ j c, A.cw (ix2 j c) = (((A.cw (ix2 j c)).toReal : ℝ) : EReal)
  cb : ∀ c, A.cb (ix2 0 c) = (((A.cb (ix2 0 c)).toReal : ℝ) : EReal)
  bi : ∀ h : Fin 4, A.bi (ix2 0 ⟨h.val, by omega⟩) = (((A.bi (ix2 0 ⟨h.val, by omega⟩)).toReal : ℝ) : EReal)
  bf : ∀ h : Fin 4, A.bf (ix2 0 ⟨h.val, by omega⟩) = (((A.bf (ix2 0 ⟨h.val, by omega⟩)).toReal : ℝ) : EReal)

variable (A : Arr)

/-- Batch `b`'s tokens eight places on, zeros before the first. -/
def xq (b : Fin 4) (u : ℕ) (c : Fin 1024) : ℝ := if h : 8 ≤ u ∧ u < 8200 then (A.mqk (ix3 b ⟨u - 8, by omega⟩ c)).toReal else 0
/-- The convolution's weights. -/
def wR (j : Fin 4) (c : Fin 1024) : ℝ := (A.cw (ix2 j c)).toReal
/-- The convolution's bias. -/
def cbR (c : Fin 1024) : ℝ := (A.cb (ix2 0 c)).toReal
/-- A stream's queries. -/
def qD (b h : Fin 4) (t : ℕ) (d : Fin 128) : ℝ := sil (cvl (xq A b) (wR A) (cbR A) t ⟨128 * h.val + d.val, by omega⟩)
/-- A stream's keys, before their scale. -/
def kD (b h : Fin 4) (t : ℕ) (d : Fin 128) : ℝ := sil (cvl (xq A b) (wR A) (cbR A) t ⟨512 + 128 * h.val + d.val, by omega⟩)
/-- A stream's values. -/
def vD (b h : Fin 4) (t : ℕ) (e : Fin 128) : ℝ := if ht : t < 8192 then (A.mv (ix3 b ⟨t, ht⟩ ⟨128 * h.val + e.val, by omega⟩)).toReal else 0
/-- A stream's forget gates. -/
def fD (b h : Fin 4) (t : ℕ) : ℝ := if ht : t < 8192 then (A.gt (ix3 b ⟨t, ht⟩ ⟨128 + h.val, by omega⟩)).toReal + (A.bf (ix2 0 ⟨h.val, by omega⟩)).toReal else 0
/-- A stream's input gates. -/
def iD (b h : Fin 4) (t : ℕ) : ℝ := if ht : t < 8192 then (A.gt (ix3 b ⟨t, ht⟩ ⟨h.val, by omega⟩)).toReal + (A.bi (ix2 0 ⟨h.val, by omega⟩)).toReal else 0
/-- A stream's log forget gates. -/
def lD (b h : Fin 4) (t : ℕ) : ℝ := lsg (fD A b h t)

/-- A stream's state before token `n`, against a column `v` of values. -/
def sD (b h : Fin 4) (v : ℕ → ℝ) (n : ℕ) (d : Fin 128) : ℝ := cS (fun t d => kD A b h t d * ksc) v (lD A b h) (iD A b h) n d
/-- A stream's output at token `t`. -/
def HD (b h : Fin 4) (t : ℕ) (e : Fin 128) : ℝ :=
  cH (qD A b h) (fun t d => kD A b h t d * ksc) (fun t => vD A b h t e) (lD A b h) (iD A b h) t

/-- The result at batch `b`, token `t`, head `h`, entry `e`: the head norm and the gate. -/
def spec (b : Fin 4) (t : Fin 8192) (h : Fin 4) (e : Fin 128) : EReal :=
  A.mo (ix3 b t ⟨128 * h.val + e.val, by omega⟩)
    * (((HD A b h t.val e : ℝ) : EReal)
        * Ideal.rsqrt (Ideal.div (∑ x : Fin 128, ((HD A b h t.val x : ℝ) : EReal) * ((HD A b h t.val x : ℝ) : EReal)) (Ideal.ofBits .f32 1124073472#32)
            + Ideal.ofBits .f32 897988541#32)
        * A.mg (ix2 0 ⟨128 * h.val + e.val, by omega⟩))

/-- The whole result. -/
def res : S4x8192x512.Idx → EReal := fun y =>
  spec A (y 0) (y 1) ⟨(y 2).val / 128, by have : (y 2).val < 512 := (y 2).isLt; omega⟩ ⟨(y 2).val % 128, Nat.mod_lt _ (by decide)⟩

/-- Before any token the state is zero. -/
theorem sD_zero (b h : Fin 4) (v : ℕ → ℝ) (d : Fin 128) : sD A b h v 0 d = 0 := by
  unfold sD cS; simp

end Cert.Ml

end
-- ==== Proof.Ml.Block.lean ====
module

public import proofs.«01_k».proof.Proof.Ml.Data

@[expose] public section

set_option maxRecDepth 16384

/-!
One grid point over the reals: entered with every stream's state at the point's first token, the point writes the recurrence's
outputs and leaves the states at the next point's first token.
-/

noncomputable section

namespace Cert.Ml

open Cert.KernelIdeal Cert.KernelIdeal.Gen Idealize.ShloMosaic Idealize.SL.Sem

section
variable {F : FTy → Type} [FloatOps F]

theorem ldX (x : Vec F S4x256x1024 .bf16) (b : Fin 4) (r : Fin 256) (c : Fin 1024) : View.ld x (rX b) (ix3 0 r c) = x (ix3 b r c) :=
  congrArg x (funext fun a => match a with
    | ⟨0, _⟩ => Fin.ext (by show b.val + 1 * 0 = b.val; omega)
    | ⟨1, _⟩ => Fin.ext (by show 0 + 1 * r.val = r.val; omega)
    | ⟨2, _⟩ => Fin.ext (by show 0 + 1 * c.val = c.val; omega))
theorem ldT_ix (b : Fin 4) (r : Fin 8) (c : Fin 1024) : (rT b).emb (ix3 0 r c) = (ix3 b r c) :=
  (funext fun a => match a with
    | ⟨0, _⟩ => Fin.ext (by show b.val + 1 * 0 = b.val; omega)
    | ⟨1, _⟩ => Fin.ext (by show 0 + 1 * r.val = r.val; omega)
    | ⟨2, _⟩ => Fin.ext (by show 0 + 1 * c.val = c.val; omega))
theorem ldT (x : Vec F S4x8x1024 .f32) (b : Fin 4) (r : Fin 8) (c : Fin 1024) : View.ld x (rT b) (ix3 0 r c) = x (ix3 b r c) :=
  congrArg x (ldT_ix b r c)
theorem ldV (x : Vec F S4x256x512 .bf16) (b h : Fin 4) (r : Fin 256) (e : Fin 128) :
    View.ld x (rV b h) (ix3 0 r e) = x (ix3 b r ⟨128 * h.val + e.val, by omega⟩) :=
  congrArg x (funext fun a => match a with
    | ⟨0, _⟩ => Fin.ext (by show b.val + 1 * 0 = b.val; omega)
    | ⟨1, _⟩ => Fin.ext (by show 0 + 1 * r.val = r.val; omega)
    | ⟨2, _⟩ => Fin.ext (by show 128 * h.val + 1 * e.val = 128 * h.val + e.val; omega))
theorem ldI (x : Vec F S4x256x256 .f32) (b : Fin 4) (r : Fin 256) (e : Fin 128) : View.ld x (rI b) (ix3 0 r e) = x (ix3 b r ⟨e.val, by omega⟩) :=
  congrArg x (funext fun a => match a with
    | ⟨0, _⟩ => Fin.ext (by show b.val + 1 * 0 = b.val; omega)
    | ⟨1, _⟩ => Fin.ext (by show 0 + 1 * r.val = r.val; omega)
    | ⟨2, _⟩ => Fin.ext (by show 0 + 1 * e.val = e.val; omega))
theorem ldF (x : Vec F S4x256x256 .f32) (b : Fin 4) (r : Fin 256) (e : Fin 128) : View.ld x (rF b) (ix3 0 r e) = x (ix3 b r ⟨128 + e.val, by omega⟩) :=
  congrArg x (funext fun a => match a with
    | ⟨0, _⟩ => Fin.ext (by show b.val + 1 * 0 = b.val; omega)
    | ⟨1, _⟩ => Fin.ext (by show 0 + 1 * r.val = r.val; omega)
    | ⟨2, _⟩ => Fin.ext (by show 128 + 1 * e.val = 128 + e.val; omega))
theorem ldC_ix (b h : Fin 4) (d : Fin 128) (e : Fin 256) : (rC b h).emb (ix3 0 d e) = (ix3 ⟨4 * b.val + h.val, by omega⟩ d e) :=
  (funext fun a => match a with
    | ⟨0, _⟩ => Fin.ext (by show 4 * b.val + h.val + 1 * 0 = 4 * b.val + h.val; omega)
    | ⟨1, _⟩ => Fin.ext (by show 0 + 1 * d.val = d.val; omega)
    | ⟨2, _⟩ => Fin.ext (by show 0 + 1 * e.val = e.val; omega))
theorem ldC (x : Vec F S16x128x256 .f32) (b h : Fin 4) (d : Fin 128) (e : Fin 256) :
    View.ld x (rC b h) (ix3 0 d e) = x (ix3 ⟨4 * b.val + h.val, by omega⟩ d e) :=
  congrArg x (ldC_ix b h d e)
theorem ldM_ix (b h : Fin 4) (d : Fin 8) (e : Fin 128) : (rM b h).emb (ix3 0 d e) = (ix3 ⟨4 * b.val + h.val, by omega⟩ d e) :=
  (funext fun a => match a with
    | ⟨0, _⟩ => Fin.ext (by show 4 * b.val + h.val + 1 * 0 = 4 * b.val + h.val; omega)
    | ⟨1, _⟩ => Fin.ext (by show 0 + 1 * d.val = d.val; omega)
    | ⟨2, _⟩ => Fin.ext (by show 0 + 1 * e.val = e.val; omega))
theorem ldM (x : Vec F S16x8x128 .f32) (b h : Fin 4) (d : Fin 8) (e : Fin 128) :
    View.ld x (rM b h) (ix3 0 d e) = x (ix3 ⟨4 * b.val + h.val, by omega⟩ d e) :=
  congrArg x (ldM_ix b h d e)
theorem ldG (x : Vec F S1x512 .f32) (h : Fin 4) (e : Fin 128) : View.ld x (rG h) (ix2 0 e) = x (ix2 0 ⟨128 * h.val + e.val, by omega⟩) :=
  congrArg x (funext fun a => match a with
    | ⟨0, _⟩ => Fin.ext (by show 0 + 1 * 0 = 0; omega)
    | ⟨1, _⟩ => Fin.ext (by show 128 * h.val + 1 * e.val = 128 * h.val + e.val; omega))
theorem ldW (x : Vec F S4x1024 .f32) (j : Fin 4) (c : Fin 1024) : View.ld x rW (ix2 j c) = x (ix2 j c) :=
  congrArg x (funext fun a => match a with
    | ⟨0, _⟩ => Fin.ext (by show 0 + 1 * j.val = j.val; omega)
    | ⟨1, _⟩ => Fin.ext (by show 0 + 1 * c.val = c.val; omega))
theorem ldB (x : Vec F S1x1024 .f32) (c : Fin 1024) : View.ld x rB (ix2 0 c) = x (ix2 0 c) :=
  congrArg x (funext fun a => match a with
    | ⟨0, _⟩ => Fin.ext (by show 0 + 1 * 0 = 0; omega)
    | ⟨1, _⟩ => Fin.ext (by show 0 + 1 * c.val = c.val; omega))
theorem ldG1 (x : Vec F S1x128 .f32) (c : Fin 128) : View.ld x rG1 (ix2 0 c) = x (ix2 0 c) :=
  congrArg x (funext fun a => match a with
    | ⟨0, _⟩ => Fin.ext (by show 0 + 1 * 0 = 0; omega)
    | ⟨1, _⟩ => Fin.ext (by show 0 + 1 * c.val = c.val; omega))

end

/-- A head's output block, of the head's rows: their norm, its scale and the gate. -/
theorem hOut_at (h : Fin 4) (qk : FVec Ideal S256x1024 .f32) (g0 g1 : Vec Ideal S1x256x128 .f32) (bi bf : Vec Ideal S1x128 .f32) (v mo : Vec Ideal S1x256x128 .bf16)
    (mg : Vec Ideal S1x128 .f32) (cS : Vec Ideal S1x128x256 .f32) (mS : Vec Ideal S1x8x128 .f32) (d : Fin 256) (e : Fin 128) :
    hOut h qk g0 g1 bi bf v mo mg cS mS (ix3 0 d e) = mo (ix3 0 d e) * (hO h qk g0 g1 bi bf v cS mS (ix2 d e)
      * Ideal.rsqrt (Ideal.div (∑ x, hO h qk g0 g1 bi bf v cS mS (ix2 d x) * hO h qk g0 g1 bi bf v cS mS (ix2 d x)) (Ideal.ofBits .f32 1124073472#32)
          + Ideal.ofBits .f32 897988541#32) * mg (ix2 0 e)) := by
  pointwise [hOut, k0_pay37]

/-- The running maximum, written over its tile. -/
theorem pay36_at (m : FVec Ideal S1x1 .f32) (d : Fin 8) (e : Fin 128) : k0_pay36 m (ix3 0 d e) = m (ix2 0 0) := by
  pointwise [k0_pay36]

/-- The block's last tokens. -/
theorem tail_at (x : Vec Ideal S1x256x1024 .bf16) (d : Fin 8) (e : Fin 1024) : k0_pay15 (k0_pay8 x) (ix3 0 d e) = x (ix3 0 ⟨248 + d.val, by omega⟩ e) := by
  pointwise [k0_pay15, k0_pay8]

variable {A : Arr} {n : ℕ} {x0 : Vec Ideal S4x256x1024 .bf16} {x1 x2 : Vec Ideal S4x256x512 .bf16} {x3 : Vec Ideal S4x256x256 .f32} {x4 : Vec Ideal S4x1024 .f32}
  {x5 : Vec Ideal S1x1024 .f32} {x6 x7 : Vec Ideal S1x128 .f32} {x8 : Vec Ideal S1x512 .f32}
  {cs : Vec Ideal S16x128x256 .f32} {ms : Vec Ideal S16x8x128 .f32} {ts : Vec Ideal S4x8x1024 .f32}

/-- The blocks of the point whose first token is `n`. -/
structure Blk (A : Arr) (n : ℕ) (x0 : Vec Ideal S4x256x1024 .bf16) (x1 x2 : Vec Ideal S4x256x512 .bf16) (x3 : Vec Ideal S4x256x256 .f32) (x4 : Vec Ideal S4x1024 .f32)
    (x5 : Vec Ideal S1x1024 .f32) (x6 x7 : Vec Ideal S1x128 .f32) (x8 : Vec Ideal S1x512 .f32) : Prop where
  lt : n + 256 ≤ 8192
  e0 : ∀ b (r : Fin 256) c, x0 (ix3 b r c) = A.mqk (ix3 b ⟨n + r.val, by omega⟩ c)
  e1 : ∀ b (r : Fin 256) c, x1 (ix3 b r c) = A.mv (ix3 b ⟨n + r.val, by omega⟩ c)
  e2 : ∀ b (r : Fin 256) c, x2 (ix3 b r c) = A.mo (ix3 b ⟨n + r.val, by omega⟩ c)
  e3 : ∀ b (r : Fin 256) c, x3 (ix3 b r c) = A.gt (ix3 b ⟨n + r.val, by omega⟩ c)
  e4 : ∀ j c, x4 (ix2 j c) = A.cw (ix2 j c)
  e5 : ∀ c, x5 (ix2 0 c) = A.cb (ix2 0 c)
  e6 : ∀ c, x6 (ix2 0 c) = A.bi (ix2 0 c)
  e7 : ∀ c, x7 (ix2 0 c) = A.bf (ix2 0 c)
  e8 : ∀ c, x8 (ix2 0 c) = A.mg (ix2 0 c)

/-- The carried state before token `n`: each stream's state under some stabiliser, and the eight tokens before `n`. -/
structure Inv (A : Arr) (n : ℕ) (cs : Vec Ideal S16x128x256 .f32) (ms : Vec Ideal S16x8x128 .f32) (ts : Vec Ideal S4x8x1024 .f32) : Prop where
  st : ∀ b h : Fin 4, ∃ m : ℝ, ms (ix3 ⟨4 * b.val + h.val, by omega⟩ 0 0) = (m : EReal)
    ∧ (∀ d e : Fin 128, cs (ix3 ⟨4 * b.val + h.val, by omega⟩ d ⟨e.val, by omega⟩) = ((Real.exp (-m) * sD A b h (fun t => vD A b h t e) n d : ℝ) : EReal))
    ∧ ∀ d e : Fin 128, cs (ix3 ⟨4 * b.val + h.val, by omega⟩ d ⟨128 + e.val, by omega⟩) = ((Real.exp (-m) * sD A b h (fun _ => 1) n d : ℝ) : EReal)
  tl : ∀ b (i : Fin 8) c, ts (ix3 b i c) = ((xq A b (n + i.val) c : ℝ) : EReal)

variable (hA : A.Real) (B : Blk A n x0 x1 x2 x3 x4 x5 x6 x7 x8) (I : Inv A n cs ms ts)

include hA B in
theorem tokX (b : Fin 4) (r : Fin 256) (c : Fin 1024) : View.ld x0 (rX b) (ix3 0 r c) = ((xq A b (n + r.val + 8) c : ℝ) : EReal) := by
  have := B.lt
  rw [ldX, B.e0, hA.mqk]
  unfold xq
  rw [dif_pos ⟨by omega, by omega⟩]
  simp only [Nat.add_sub_cancel]

include hA B I in
theorem qkV (b : Fin 4) (r : Fin 256) (c : Fin 1024) :
    qkB x0 x4 x5 ts b (ix2 r c) = ((sil (cvl (xq A b) (wR A) (cbR A) (n + r.val) c) : ℝ) : EReal) := by
  unfold qkB
  exact qkOf_val (tokX hA B b) (fun i c => by rw [ldT, I.tl]) (fun j c => by rw [ldW, B.e4, hA.cw]; rfl) (fun c => by rw [ldB, B.e5, hA.cb]; rfl) r c

include hA B in
theorem fV (b h : Fin 4) (r : Fin 256) :
    View.ld x3 (rF b) (ix3 0 r ⟨h.val, by omega⟩) + View.ld x7 rG1 (ix2 0 ⟨h.val, by omega⟩) = ((fD A b h (n + r.val) : ℝ) : EReal) := by
  have := B.lt
  rw [ldF, ldG1, B.e3, B.e7, hA.gf, hA.bf, ← EReal.coe_add]
  unfold fD
  rw [dif_pos (by omega)]

include hA B in
theorem iV (b h : Fin 4) (r : Fin 256) :
    View.ld x3 (rI b) (ix3 0 r ⟨h.val, by omega⟩) + View.ld x6 rG1 (ix2 0 ⟨h.val, by omega⟩) = ((iD A b h (n + r.val) : ℝ) : EReal) := by
  have := B.lt
  rw [ldI, ldG1, B.e3, B.e6, hA.gi, hA.bi, ← EReal.coe_add]
  unfold iD
  rw [dif_pos (by omega)]

include hA B in
theorem vV (b h : Fin 4) (r : Fin 256) (e : Fin 128) : View.ld x1 (rV b h) (ix3 0 r e) = ((vD A b h (n + r.val) e : ℝ) : EReal) := by
  have := B.lt
  rw [ldV, B.e1, hA.mv]
  unfold vD
  rw [dif_pos (by omega)]

include hA B I in
/-- What the point writes. -/
theorem stO_val (b h : Fin 4) (r : Fin 256) (e : Fin 128) : stO x0 x1 x2 x3 x4 x5 x6 x7 x8 cs ms ts b h (ix3 0 r e)
    = spec A b ⟨n + r.val, by have := B.lt; omega⟩ h e := by
  obtain ⟨m, hm, h1, h2⟩ := I.st b h
  have hO := fun x => hO_val (m := m) (q := qD A b h) (k := kD A b h) (vr := vD A b h) (fV hA B b h) (iV hA B b h) (fun r d => qkV hA B I b r ⟨128 * h.val + d.val, by omega⟩)
    (fun r d => qkV hA B I b r ⟨512 + 128 * h.val + d.val, by omega⟩) (vV hA B b h) ((ldM ms b h 0 0).trans hm)
    (fun d e => (ldC cs b h d _).trans (h1 d e)) (fun d e => (ldC cs b h d _).trans (h2 d e)) r x
  unfold stO
  refine (hOut_at _ _ _ _ _ _ _ _ _ _ _ r e).trans ?_
  simp only [hO]
  exact congrArg₂ (· * ·) ((ldV x2 b h r e).trans (B.e2 b r _)) (congrArg (_ * ·) ((ldG x8 h e).trans (B.e8 _)))

include hA B I in
/-- The state the point leaves. -/
theorem inv_step : Inv A (n + 256) (stepC x0 x1 x3 x4 x5 x6 x7 cs ms ts) (stepM x3 x6 x7 ms) (stepT x0) where
  st := fun b h => by
    obtain ⟨m, hm, h1, h2⟩ := I.st b h
    have hm0 := (ldM ms b h 0 0).trans hm
    obtain ⟨m', hm'⟩ := hm_val (m := m) (fV hA B b h) (iV hA B b h) hm0
    have hC := hC_val (m := m) (k := kD A b h) (vr := vD A b h) (fV hA B b h) (iV hA B b h)
      (fun r d => qkV hA B I b r ⟨512 + 128 * h.val + d.val, by omega⟩) (vV hA B b h) hm0
      (fun d e => (ldC cs b h d _).trans (h1 d e)) (fun d e => (ldC cs b h d _).trans (h2 d e)) m' hm'
    refine ⟨m', ?_, fun d e => ?_, fun d e => ?_⟩
    · refine (congrArg (stepM x3 x6 x7 ms) (ldM_ix b h 0 0).symm).trans ((stepM_emb x3 x6 x7 ms b h (ix3 0 0 0)).symm.trans ?_)
      unfold stM
      exact (pay36_at _ 0 0).trans hm'
    · exact (congrArg (stepC x0 x1 x3 x4 x5 x6 x7 cs ms ts) (ldC_ix b h d _).symm).trans ((stepC_emb x0 x1 x3 x4 x5 x6 x7 cs ms ts b h (ix3 0 d _)).symm.trans (hC d e).1)
    · exact (congrArg (stepC x0 x1 x3 x4 x5 x6 x7 cs ms ts) (ldC_ix b h d _).symm).trans ((stepC_emb x0 x1 x3 x4 x5 x6 x7 cs ms ts b h (ix3 0 d _)).symm.trans (hC d e).2)
  tl := fun b i c => by
    refine (congrArg (stepT x0) (ldT_ix b i c).symm).trans ((stepT_emb x0 b (ix3 0 i c)).symm.trans ?_)
    unfold stT
    refine (tail_at _ i c).trans ((tokX hA B b _ c).trans ?_)
    congr 2
    simp only
    omega

include hA B I in
/-- The block the point writes. -/
theorem stepO_val (b : Fin 4) (r : Fin 256) (c : Fin 512) : stepO x0 x1 x2 x3 x4 x5 x6 x7 x8 cs ms ts (ix3 b r c)
    = res A (ix3 b ⟨n + r.val, by have := B.lt; omega⟩ c) := by
  unfold stepO
  exact stO_val hA B I b ⟨c.val / 128, by omega⟩ r ⟨c.val % 128, Nat.mod_lt _ (by decide)⟩

/-- Before the first token: zeros. -/
theorem inv_zero : Inv A 0 (k0_pay2 (F := Ideal)) (k0_pay3 (F := Ideal)) (k0_pay4 (F := Ideal)) where
  st := fun b h => by
    refine ⟨0, ?_, fun d e => ?_, fun d e => ?_⟩
    · pointwise [k0_pay3]
      rfl
    · pointwise [k0_pay2]
      rw [sD_zero]; simp
    · pointwise [k0_pay2]
      rw [sD_zero]; simp
  tl := fun b i c => by
    pointwise [k0_pay4]
    unfold xq
    rw [dif_neg (by omega)]
    rfl

end Cert.Ml

end
-- ==== Proof.Ml.CaseA.lean ====
module

public import proofs.«01_k».proof.Proof.Ml.Heads

@[expose] public section

set_option maxRecDepth 16384

noncomputable section

namespace Cert.Ml

open Cert.KernelIdeal Cert.KernelIdeal.Gen Idealize.ShloMosaic Idealize.SL.Sem

variable {F : FTy → Type} [FloatOps F] [Named F]

/-- At the first point a stream's read of scratch 0 finds the fill: the earlier stores are other streams'. -/
theorem rd0_0  (arg11 : Memref sig .tc .vmem S16x128x256 .f32) : arg11.view.readCov (kernelRun0_A.sl.HS0_1) (rC 0 0).toLoadRect = View.ld (Val := Elt F) k0_pay2 (rC 0 0) := by
  exact View.readCov_fill _ _ _ _ _ (by decide)

/-- At the first point a stream's read of scratch 0 finds the fill: the earlier stores are other streams'. -/
theorem rd0_1 (c : Dev nD) (arg1 : Memref sig .tc .vmem S4x256x1024 .bf16) (harg1 : arg1.IsWhole) (arg2 : Memref sig .tc .vmem S4x256x512 .bf16) (harg2 : arg2.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg11 : Memref sig .tc .vmem S16x128x256 .f32) (arg12 : Memref sig .tc .vmem S16x8x128 .f32) (arg13 : Memref sig .tc .vmem S4x8x1024 .f32) (x0 : Vec F S4x256x1024 .bf16) (x1 : Vec F S4x256x512 .bf16) (x3 : Vec F S4x256x256 .f32) (x4 : Vec F S4x1024 .f32) (x5 : Vec F S1x1024 .f32) (x6 : Vec F S1x128 .f32) (x7 : Vec F S1x128 .f32) : arg11.view.readCov (kernelRun0_A.sl.HS0_2 c arg1 harg1 arg2 harg2 arg4 harg4 arg5 harg5 arg6 harg6 arg7 harg7 arg8 harg8 arg11 arg12 arg13 x0 x1 x3 x4 x5 x6 x7) (rC 0 1).toLoadRect = View.ld (Val := Elt F) k0_pay2 (rC 0 1) := by
  refine (View.readCov_skip _ _ _ _ _ (by decide)).trans ?_
  exact View.readCov_fill _ _ _ _ _ (by decide)

/-- At the first point a stream's read of scratch 0 finds the fill: the earlier stores are other streams'. -/
theorem rd0_2 (c : Dev nD) (arg1 : Memref sig .tc .vmem S4x256x1024 .bf16) (harg1 : arg1.IsWhole) (arg2 : Memref sig .tc .vmem S4x256x512 .bf16) (harg2 : arg2.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg11 : Memref sig .tc .vmem S16x128x256 .f32) (arg12 : Memref sig .tc .vmem S16x8x128 .f32) (arg13 : Memref sig .tc .vmem S4x8x1024 .f32) (x0 : Vec F S4x256x1024 .bf16) (x1 : Vec F S4x256x512 .bf16) (x3 : Vec F S4x256x256 .f32) (x4 : Vec F S4x1024 .f32) (x5 : Vec F S1x1024 .f32) (x6 : Vec F S1x128 .f32) (x7 : Vec F S1x128 .f32) : arg11.view.readCov (kernelRun0_A.sl.HS0_3 c arg1 harg1 arg2 harg2 arg4 harg4 arg5 harg5 arg6 harg6 arg7 harg7 arg8 harg8 arg11 arg12 arg13 x0 x1 x3 x4 x5 x6 x7) (rC 0 2).toLoadRect = View.ld (Val := Elt F) k0_pay2 (rC 0 2) := by
  iterate 2 refine (View.readCov_skip _ _ _ _ _ (by decide)).trans ?_
  exact View.readCov_fill _ _ _ _ _ (by decide)

/-- At the first point a stream's read of scratch 0 finds the fill: the earlier stores are other streams'. -/
theorem rd0_3 (c : Dev nD) (arg1 : Memref sig .tc .vmem S4x256x1024 .bf16) (harg1 : arg1.IsWhole) (arg2 : Memref sig .tc .vmem S4x256x512 .bf16) (harg2 : arg2.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg11 : Memref sig .tc .vmem S16x128x256 .f32) (arg12 : Memref sig .tc .vmem S16x8x128 .f32) (arg13 : Memref sig .tc .vmem S4x8x1024 .f32) (x0 : Vec F S4x256x1024 .bf16) (x1 : Vec F S4x256x512 .bf16) (x3 : Vec F S4x256x256 .f32) (x4 : Vec F S4x1024 .f32) (x5 : Vec F S1x1024 .f32) (x6 : Vec F S1x128 .f32) (x7 : Vec F S1x128 .f32) : arg11.view.readCov (kernelRun0_A.sl.HS0_4 c arg1 harg1 arg2 harg2 arg4 harg4 arg5 harg5 arg6 harg6 arg7 harg7 arg8 harg8 arg11 arg12 arg13 x0 x1 x3 x4 x5 x6 x7) (rC 0 3).toLoadRect = View.ld (Val := Elt F) k0_pay2 (rC 0 3) := by
  iterate 3 refine (View.readCov_skip _ _ _ _ _ (by decide)).trans ?_
  exact View.readCov_fill _ _ _ _ _ (by decide)

/-- At the first point a stream's read of scratch 0 finds the fill: the earlier stores are other streams'. -/
theorem rd0_4 (c : Dev nD) (arg1 : Memref sig .tc .vmem S4x256x1024 .bf16) (harg1 : arg1.IsWhole) (arg2 : Memref sig .tc .vmem S4x256x512 .bf16) (harg2 : arg2.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg11 : Memref sig .tc .vmem S16x128x256 .f32) (arg12 : Memref sig .tc .vmem S16x8x128 .f32) (arg13 : Memref sig .tc .vmem S4x8x1024 .f32) (x0 : Vec F S4x256x1024 .bf16) (x1 : Vec F S4x256x512 .bf16) (x3 : Vec F S4x256x256 .f32) (x4 : Vec F S4x1024 .f32) (x5 : Vec F S1x1024 .f32) (x6 : Vec F S1x128 .f32) (x7 : Vec F S1x128 .f32) : arg11.view.readCov (kernelRun0_A.sl.HS0_5 c arg1 harg1 arg2 harg2 arg4 harg4 arg5 harg5 arg6 harg6 arg7 harg7 arg8 harg8 arg11 arg12 arg13 x0 x1 x3 x4 x5 x6 x7) (rC 1 0).toLoadRect = View.ld (Val := Elt F) k0_pay2 (rC 1 0) := by
  iterate 4 refine (View.readCov_skip _ _ _ _ _ (by decide)).trans ?_
  exact View.readCov_fill _ _ _ _ _ (by decide)

/-- At the first point a stream's read of scratch 0 finds the fill: the earlier stores are other streams'. -/
theorem rd0_5 (c : Dev nD) (arg1 : Memref sig .tc .vmem S4x256x1024 .bf16) (harg1 : arg1.IsWhole) (arg2 : Memref sig .tc .vmem S4x256x512 .bf16) (harg2 : arg2.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg11 : Memref sig .tc .vmem S16x128x256 .f32) (arg12 : Memref sig .tc .vmem S16x8x128 .f32) (arg13 : Memref sig .tc .vmem S4x8x1024 .f32) (x0 : Vec F S4x256x1024 .bf16) (x1 : Vec F S4x256x512 .bf16) (x3 : Vec F S4x256x256 .f32) (x4 : Vec F S4x1024 .f32) (x5 : Vec F S1x1024 .f32) (x6 : Vec F S1x128 .f32) (x7 : Vec F S1x128 .f32) : arg11.view.readCov (kernelRun0_A.sl.HS0_6 c arg1 harg1 arg2 harg2 arg4 harg4 arg5 harg5 arg6 harg6 arg7 harg7 arg8 harg8 arg11 arg12 arg13 x0 x1 x3 x4 x5 x6 x7) (rC 1 1).toLoadRect = View.ld (Val := Elt F) k0_pay2 (rC 1 1) := by
  iterate 5 refine (View.readCov_skip _ _ _ _ _ (by decide)).trans ?_
  exact View.readCov_fill _ _ _ _ _ (by decide)

/-- At the first point a stream's read of scratch 0 finds the fill: the earlier stores are other streams'. -/
theorem rd0_6 (c : Dev nD) (arg1 : Memref sig .tc .vmem S4x256x1024 .bf16) (harg1 : arg1.IsWhole) (arg2 : Memref sig .tc .vmem S4x256x512 .bf16) (harg2 : arg2.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg11 : Memref sig .tc .vmem S16x128x256 .f32) (arg12 : Memref sig .tc .vmem S16x8x128 .f32) (arg13 : Memref sig .tc .vmem S4x8x1024 .f32) (x0 : Vec F S4x256x1024 .bf16) (x1 : Vec F S4x256x512 .bf16) (x3 : Vec F S4x256x256 .f32) (x4 : Vec F S4x1024 .f32) (x5 : Vec F S1x1024 .f32) (x6 : Vec F S1x128 .f32) (x7 : Vec F S1x128 .f32) : arg11.view.readCov (kernelRun0_A.sl.HS0_7 c arg1 harg1 arg2 harg2 arg4 harg4 arg5 harg5 arg6 harg6 arg7 harg7 arg8 harg8 arg11 arg12 arg13 x0 x1 x3 x4 x5 x6 x7) (rC 1 2).toLoadRect = View.ld (Val := Elt F) k0_pay2 (rC 1 2) := by
  iterate 6 refine (View.readCov_skip _ _ _ _ _ (by decide)).trans ?_
  exact View.readCov_fill _ _ _ _ _ (by decide)

/-- At the first point a stream's read of scratch 0 finds the fill: the earlier stores are other streams'. -/
theorem rd0_7 (c : Dev nD) (arg1 : Memref sig .tc .vmem S4x256x1024 .bf16) (harg1 : arg1.IsWhole) (arg2 : Memref sig .tc .vmem S4x256x512 .bf16) (harg2 : arg2.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg11 : Memref sig .tc .vmem S16x128x256 .f32) (arg12 : Memref sig .tc .vmem S16x8x128 .f32) (arg13 : Memref sig .tc .vmem S4x8x1024 .f32) (x0 : Vec F S4x256x1024 .bf16) (x1 : Vec F S4x256x512 .bf16) (x3 : Vec F S4x256x256 .f32) (x4 : Vec F S4x1024 .f32) (x5 : Vec F S1x1024 .f32) (x6 : Vec F S1x128 .f32) (x7 : Vec F S1x128 .f32) : arg11.view.readCov (kernelRun0_A.sl.HS0_8 c arg1 harg1 arg2 harg2 arg4 harg4 arg5 harg5 arg6 harg6 arg7 harg7 arg8 harg8 arg11 arg12 arg13 x0 x1 x3 x4 x5 x6 x7) (rC 1 3).toLoadRect = View.ld (Val := Elt F) k0_pay2 (rC 1 3) := by
  iterate 7 refine (View.readCov_skip _ _ _ _ _ (by decide)).trans ?_
  exact View.readCov_fill _ _ _ _ _ (by decide)

/-- At the first point a stream's read of scratch 0 finds the fill: the earlier stores are other streams'. -/
theorem rd0_8 (c : Dev nD) (arg1 : Memref sig .tc .vmem S4x256x1024 .bf16) (harg1 : arg1.IsWhole) (arg2 : Memref sig .tc .vmem S4x256x512 .bf16) (harg2 : arg2.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg11 : Memref sig .tc .vmem S16x128x256 .f32) (arg12 : Memref sig .tc .vmem S16x8x128 .f32) (arg13 : Memref sig .tc .vmem S4x8x1024 .f32) (x0 : Vec F S4x256x1024 .bf16) (x1 : Vec F S4x256x512 .bf16) (x3 : Vec F S4x256x256 .f32) (x4 : Vec F S4x1024 .f32) (x5 : Vec F S1x1024 .f32) (x6 : Vec F S1x128 .f32) (x7 : Vec F S1x128 .f32) : arg11.view.readCov (kernelRun0_A.sl.HS0_9 c arg1 harg1 arg2 harg2 arg4 harg4 arg5 harg5 arg6 harg6 arg7 harg7 arg8 harg8 arg11 arg12 arg13 x0 x1 x3 x4 x5 x6 x7) (rC 2 0).toLoadRect = View.ld (Val := Elt F) k0_pay2 (rC 2 0) := by
  iterate 8 refine (View.readCov_skip _ _ _ _ _ (by decide)).trans ?_
  exact View.readCov_fill _ _ _ _ _ (by decide)

/-- At the first point a stream's read of scratch 0 finds the fill: the earlier stores are other streams'. -/
theorem rd0_9 (c : Dev nD) (arg1 : Memref sig .tc .vmem S4x256x1024 .bf16) (harg1 : arg1.IsWhole) (arg2 : Memref sig .tc .vmem S4x256x512 .bf16) (harg2 : arg2.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg11 : Memref sig .tc .vmem S16x128x256 .f32) (arg12 : Memref sig .tc .vmem S16x8x128 .f32) (arg13 : Memref sig .tc .vmem S4x8x1024 .f32) (x0 : Vec F S4x256x1024 .bf16) (x1 : Vec F S4x256x512 .bf16) (x3 : Vec F S4x256x256 .f32) (x4 : Vec F S4x1024 .f32) (x5 : Vec F S1x1024 .f32) (x6 : Vec F S1x128 .f32) (x7 : Vec F S1x128 .f32) : arg11.view.readCov (kernelRun0_A.sl.HS0_10 c arg1 harg1 arg2 harg2 arg4 harg4 arg5 harg5 arg6 harg6 arg7 harg7 arg8 harg8 arg11 arg12 arg13 x0 x1 x3 x4 x5 x6 x7) (rC 2 1).toLoadRect = View.ld (Val := Elt F) k0_pay2 (rC 2 1) := by
  iterate 9 refine (View.readCov_skip _ _ _ _ _ (by decide)).trans ?_
  exact View.readCov_fill _ _ _ _ _ (by decide)

/-- At the first point a stream's read of scratch 0 finds the fill: the earlier stores are other streams'. -/
theorem rd0_10 (c : Dev nD) (arg1 : Memref sig .tc .vmem S4x256x1024 .bf16) (harg1 : arg1.IsWhole) (arg2 : Memref sig .tc .vmem S4x256x512 .bf16) (harg2 : arg2.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg11 : Memref sig .tc .vmem S16x128x256 .f32) (arg12 : Memref sig .tc .vmem S16x8x128 .f32) (arg13 : Memref sig .tc .vmem S4x8x1024 .f32) (x0 : Vec F S4x256x1024 .bf16) (x1 : Vec F S4x256x512 .bf16) (x3 : Vec F S4x256x256 .f32) (x4 : Vec F S4x1024 .f32) (x5 : Vec F S1x1024 .f32) (x6 : Vec F S1x128 .f32) (x7 : Vec F S1x128 .f32) : arg11.view.readCov (kernelRun0_A.sl.HS0_11 c arg1 harg1 arg2 harg2 arg4 harg4 arg5 harg5 arg6 harg6 arg7 harg7 arg8 harg8 arg11 arg12 arg13 x0 x1 x3 x4 x5 x6 x7) (rC 2 2).toLoadRect = View.ld (Val := Elt F) k0_pay2 (rC 2 2) := by
  iterate 10 refine (View.readCov_skip _ _ _ _ _ (by decide)).trans ?_
  exact View.readCov_fill _ _ _ _ _ (by decide)

/-- At the first point a stream's read of scratch 0 finds the fill: the earlier stores are other streams'. -/
theorem rd0_11 (c : Dev nD) (arg1 : Memref sig .tc .vmem S4x256x1024 .bf16) (harg1 : arg1.IsWhole) (arg2 : Memref sig .tc .vmem S4x256x512 .bf16) (harg2 : arg2.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg11 : Memref sig .tc .vmem S16x128x256 .f32) (arg12 : Memref sig .tc .vmem S16x8x128 .f32) (arg13 : Memref sig .tc .vmem S4x8x1024 .f32) (x0 : Vec F S4x256x1024 .bf16) (x1 : Vec F S4x256x512 .bf16) (x3 : Vec F S4x256x256 .f32) (x4 : Vec F S4x1024 .f32) (x5 : Vec F S1x1024 .f32) (x6 : Vec F S1x128 .f32) (x7 : Vec F S1x128 .f32) : arg11.view.readCov (kernelRun0_A.sl.HS0_12 c arg1 harg1 arg2 harg2 arg4 harg4 arg5 harg5 arg6 harg6 arg7 harg7 arg8 harg8 arg11 arg12 arg13 x0 x1 x3 x4 x5 x6 x7) (rC 2 3).toLoadRect = View.ld (Val := Elt F) k0_pay2 (rC 2 3) := by
  iterate 11 refine (View.readCov_skip _ _ _ _ _ (by decide)).trans ?_
  exact View.readCov_fill _ _ _ _ _ (by decide)

/-- At the first point a stream's read of scratch 0 finds the fill: the earlier stores are other streams'. -/
theorem rd0_12 (c : Dev nD) (arg1 : Memref sig .tc .vmem S4x256x1024 .bf16) (harg1 : arg1.IsWhole) (arg2 : Memref sig .tc .vmem S4x256x512 .bf16) (harg2 : arg2.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg11 : Memref sig .tc .vmem S16x128x256 .f32) (arg12 : Memref sig .tc .vmem S16x8x128 .f32) (arg13 : Memref sig .tc .vmem S4x8x1024 .f32) (x0 : Vec F S4x256x1024 .bf16) (x1 : Vec F S4x256x512 .bf16) (x3 : Vec F S4x256x256 .f32) (x4 : Vec F S4x1024 .f32) (x5 : Vec F S1x1024 .f32) (x6 : Vec F S1x128 .f32) (x7 : Vec F S1x128 .f32) : arg11.view.readCov (kernelRun0_A.sl.HS0_13 c arg1 harg1 arg2 harg2 arg4 harg4 arg5 harg5 arg6 harg6 arg7 harg7 arg8 harg8 arg11 arg12 arg13 x0 x1 x3 x4 x5 x6 x7) (rC 3 0).toLoadRect = View.ld (Val := Elt F) k0_pay2 (rC 3 0) := by
  iterate 12 refine (View.readCov_skip _ _ _ _ _ (by decide)).trans ?_
  exact View.readCov_fill _ _ _ _ _ (by decide)

/-- At the first point a stream's read of scratch 0 finds the fill: the earlier stores are other streams'. -/
theorem rd0_13 (c : Dev nD) (arg1 : Memref sig .tc .vmem S4x256x1024 .bf16) (harg1 : arg1.IsWhole) (arg2 : Memref sig .tc .vmem S4x256x512 .bf16) (harg2 : arg2.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg11 : Memref sig .tc .vmem S16x128x256 .f32) (arg12 : Memref sig .tc .vmem S16x8x128 .f32) (arg13 : Memref sig .tc .vmem S4x8x1024 .f32) (x0 : Vec F S4x256x1024 .bf16) (x1 : Vec F S4x256x512 .bf16) (x3 : Vec F S4x256x256 .f32) (x4 : Vec F S4x1024 .f32) (x5 : Vec F S1x1024 .f32) (x6 : Vec F S1x128 .f32) (x7 : Vec F S1x128 .f32) : arg11.view.readCov (kernelRun0_A.sl.HS0_14 c arg1 harg1 arg2 harg2 arg4 harg4 arg5 harg5 arg6 harg6 arg7 harg7 arg8 harg8 arg11 arg12 arg13 x0 x1 x3 x4 x5 x6 x7) (rC 3 1).toLoadRect = View.ld (Val := Elt F) k0_pay2 (rC 3 1) := by
  iterate 13 refine (View.readCov_skip _ _ _ _ _ (by decide)).trans ?_
  exact View.readCov_fill _ _ _ _ _ (by decide)

/-- At the first point a stream's read of scratch 0 finds the fill: the earlier stores are other streams'. -/
theorem rd0_14 (c : Dev nD) (arg1 : Memref sig .tc .vmem S4x256x1024 .bf16) (harg1 : arg1.IsWhole) (arg2 : Memref sig .tc .vmem S4x256x512 .bf16) (harg2 : arg2.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg11 : Memref sig .tc .vmem S16x128x256 .f32) (arg12 : Memref sig .tc .vmem S16x8x128 .f32) (arg13 : Memref sig .tc .vmem S4x8x1024 .f32) (x0 : Vec F S4x256x1024 .bf16) (x1 : Vec F S4x256x512 .bf16) (x3 : Vec F S4x256x256 .f32) (x4 : Vec F S4x1024 .f32) (x5 : Vec F S1x1024 .f32) (x6 : Vec F S1x128 .f32) (x7 : Vec F S1x128 .f32) : arg11.view.readCov (kernelRun0_A.sl.HS0_15 c arg1 harg1 arg2 harg2 arg4 harg4 arg5 harg5 arg6 harg6 arg7 harg7 arg8 harg8 arg11 arg12 arg13 x0 x1 x3 x4 x5 x6 x7) (rC 3 2).toLoadRect = View.ld (Val := Elt F) k0_pay2 (rC 3 2) := by
  iterate 14 refine (View.readCov_skip _ _ _ _ _ (by decide)).trans ?_
  exact View.readCov_fill _ _ _ _ _ (by decide)

/-- At the first point a stream's read of scratch 0 finds the fill: the earlier stores are other streams'. -/
theorem rd0_15 (c : Dev nD) (arg1 : Memref sig .tc .vmem S4x256x1024 .bf16) (harg1 : arg1.IsWhole) (arg2 : Memref sig .tc .vmem S4x256x512 .bf16) (harg2 : arg2.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg11 : Memref sig .tc .vmem S16x128x256 .f32) (arg12 : Memref sig .tc .vmem S16x8x128 .f32) (arg13 : Memref sig .tc .vmem S4x8x1024 .f32) (x0 : Vec F S4x256x1024 .bf16) (x1 : Vec F S4x256x512 .bf16) (x3 : Vec F S4x256x256 .f32) (x4 : Vec F S4x1024 .f32) (x5 : Vec F S1x1024 .f32) (x6 : Vec F S1x128 .f32) (x7 : Vec F S1x128 .f32) : arg11.view.readCov (kernelRun0_A.sl.HS0_16 c arg1 harg1 arg2 harg2 arg4 harg4 arg5 harg5 arg6 harg6 arg7 harg7 arg8 harg8 arg11 arg12 arg13 x0 x1 x3 x4 x5 x6 x7) (rC 3 3).toLoadRect = View.ld (Val := Elt F) k0_pay2 (rC 3 3) := by
  iterate 15 refine (View.readCov_skip _ _ _ _ _ (by decide)).trans ?_
  exact View.readCov_fill _ _ _ _ _ (by decide)

/-- At the first point a stream's read of scratch 1 finds the fill: the earlier stores are other streams'. -/
theorem rd1_0  (arg12 : Memref sig .tc .vmem S16x8x128 .f32) : arg12.view.readCov (kernelRun0_A.sl.HS1_1) (rM 0 0).toLoadRect = View.ld (Val := Elt F) k0_pay3 (rM 0 0) := by
  exact View.readCov_fill _ _ _ _ _ (by decide)

/-- At the first point a stream's read of scratch 1 finds the fill: the earlier stores are other streams'. -/
theorem rd1_1 (c : Dev nD) (arg4 : Memref sig .tc .vmem S4x256x256 .f32) (harg4 : arg4.IsWhole) (arg7 : Memref sig .tc .vmem S1x128 .f32) (harg7 : arg7.IsWhole) (arg8 : Memref sig .tc .vmem S1x128 .f32) (harg8 : arg8.IsWhole) (arg12 : Memref sig .tc .vmem S16x8x128 .f32) (x3 : Vec F S4x256x256 .f32) (x6 : Vec F S1x128 .f32) (x7 : Vec F S1x128 .f32) : arg12.view.readCov (kernelRun0_A.sl.HS1_2 c arg4 harg4 arg7 harg7 arg8 harg8 arg12 x3 x6 x7) (rM 0 1).toLoadRect = View.ld (Val := Elt F) k0_pay3 (rM 0 1) := by
  refine (View.readCov_skip _ _ _ _ _ (by decide)).trans ?_
  exact View.readCov_fill _ _ _ _ _ (by decide)

/-- At the first point a stream's read of scratch 1 finds the fill: the earlier stores are other streams'. -/
theorem rd1_2 (c : Dev nD) (arg4 : Memref sig .tc .vmem S4x256x256 .f32) (harg4 : arg4.IsWhole) (arg7 : Memref sig .tc .vmem S1x128 .f32) (harg7 : arg7.IsWhole) (arg8 : Memref sig .tc .vmem S1x128 .f32) (harg8 : arg8.IsWhole) (arg12 : Memref sig .tc .vmem S16x8x128 .f32) (x3 : Vec F S4x256x256 .f32) (x6 : Vec F S1x128 .f32) (x7 : Vec F S1x128 .f32) : arg12.view.readCov (kernelRun0_A.sl.HS1_3 c arg4 harg4 arg7 harg7 arg8 harg8 arg12 x3 x6 x7) (rM 0 2).toLoadRect = View.ld (Val := Elt F) k0_pay3 (rM 0 2) := by
  iterate 2 refine (View.readCov_skip _ _ _ _ _ (by decide)).trans ?_
  exact View.readCov_fill _ _ _ _ _ (by decide)

/-- At the first point a stream's read of scratch 1 finds the fill: the earlier stores are other streams'. -/
theorem rd1_3 (c : Dev nD) (arg4 : Memref sig .tc .vmem S4x256x256 .f32) (harg4 : arg4.IsWhole) (arg7 : Memref sig .tc .vmem S1x128 .f32) (harg7 : arg7.IsWhole) (arg8 : Memref sig .tc .vmem S1x128 .f32) (harg8 : arg8.IsWhole) (arg12 : Memref sig .tc .vmem S16x8x128 .f32) (x3 : Vec F S4x256x256 .f32) (x6 : Vec F S1x128 .f32) (x7 : Vec F S1x128 .f32) : arg12.view.readCov (kernelRun0_A.sl.HS1_4 c arg4 harg4 arg7 harg7 arg8 harg8 arg12 x3 x6 x7) (rM 0 3).toLoadRect = View.ld (Val := Elt F) k0_pay3 (rM 0 3) := by
  iterate 3 refine (View.readCov_skip _ _ _ _ _ (by decide)).trans ?_
  exact View.readCov_fill _ _ _ _ _ (by decide)

/-- At the first point a stream's read of scratch 1 finds the fill: the earlier stores are other streams'. -/
theorem rd1_4 (c : Dev nD) (arg4 : Memref sig .tc .vmem S4x256x256 .f32) (harg4 : arg4.IsWhole) (arg7 : Memref sig .tc .vmem S1x128 .f32) (harg7 : arg7.IsWhole) (arg8 : Memref sig .tc .vmem S1x128 .f32) (harg8 : arg8.IsWhole) (arg12 : Memref sig .tc .vmem S16x8x128 .f32) (x3 : Vec F S4x256x256 .f32) (x6 : Vec F S1x128 .f32) (x7 : Vec F S1x128 .f32) : arg12.view.readCov (kernelRun0_A.sl.HS1_5 c arg4 harg4 arg7 harg7 arg8 harg8 arg12 x3 x6 x7) (rM 1 0).toLoadRect = View.ld (Val := Elt F) k0_pay3 (rM 1 0) := by
  iterate 4 refine (View.readCov_skip _ _ _ _ _ (by decide)).trans ?_
  exact View.readCov_fill _ _ _ _ _ (by decide)

/-- At the first point a stream's read of scratch 1 finds the fill: the earlier stores are other streams'. -/
theorem rd1_5 (c : Dev nD) (arg4 : Memref sig .tc .vmem S4x256x256 .f32) (harg4 : arg4.IsWhole) (arg7 : Memref sig .tc .vmem S1x128 .f32) (harg7 : arg7.IsWhole) (arg8 : Memref sig .tc .vmem S1x128 .f32) (harg8 : arg8.IsWhole) (arg12 : Memref sig .tc .vmem S16x8x128 .f32) (x3 : Vec F S4x256x256 .f32) (x6 : Vec F S1x128 .f32) (x7 : Vec F S1x128 .f32) : arg12.view.readCov (kernelRun0_A.sl.HS1_6 c arg4 harg4 arg7 harg7 arg8 harg8 arg12 x3 x6 x7) (rM 1 1).toLoadRect = View.ld (Val := Elt F) k0_pay3 (rM 1 1) := by
  iterate 5 refine (View.readCov_skip _ _ _ _ _ (by decide)).trans ?_
  exact View.readCov_fill _ _ _ _ _ (by decide)

/-- At the first point a stream's read of scratch 1 finds the fill: the earlier stores are other streams'. -/
theorem rd1_6 (c : Dev nD) (arg4 : Memref sig .tc .vmem S4x256x256 .f32) (harg4 : arg4.IsWhole) (arg7 : Memref sig .tc .vmem S1x128 .f32) (harg7 : arg7.IsWhole) (arg8 : Memref sig .tc .vmem S1x128 .f32) (harg8 : arg8.IsWhole) (arg12 : Memref sig .tc .vmem S16x8x128 .f32) (x3 : Vec F S4x256x256 .f32) (x6 : Vec F S1x128 .f32) (x7 : Vec F S1x128 .f32) : arg12.view.readCov (kernelRun0_A.sl.HS1_7 c arg4 harg4 arg7 harg7 arg8 harg8 arg12 x3 x6 x7) (rM 1 2).toLoadRect = View.ld (Val := Elt F) k0_pay3 (rM 1 2) := by
  iterate 6 refine (View.readCov_skip _ _ _ _ _ (by decide)).trans ?_
  exact View.readCov_fill _ _ _ _ _ (by decide)

/-- At the first point a stream's read of scratch 1 finds the fill: the earlier stores are other streams'. -/
theorem rd1_7 (c : Dev nD) (arg4 : Memref sig .tc .vmem S4x256x256 .f32) (harg4 : arg4.IsWhole) (arg7 : Memref sig .tc .vmem S1x128 .f32) (harg7 : arg7.IsWhole) (arg8 : Memref sig .tc .vmem S1x128 .f32) (harg8 : arg8.IsWhole) (arg12 : Memref sig .tc .vmem S16x8x128 .f32) (x3 : Vec F S4x256x256 .f32) (x6 : Vec F S1x128 .f32) (x7 : Vec F S1x128 .f32) : arg12.view.readCov (kernelRun0_A.sl.HS1_8 c arg4 harg4 arg7 harg7 arg8 harg8 arg12 x3 x6 x7) (rM 1 3).toLoadRect = View.ld (Val := Elt F) k0_pay3 (rM 1 3) := by
  iterate 7 refine (View.readCov_skip _ _ _ _ _ (by decide)).trans ?_
  exact View.readCov_fill _ _ _ _ _ (by decide)

/-- At the first point a stream's read of scratch 1 finds the fill: the earlier stores are other streams'. -/
theorem rd1_8 (c : Dev nD) (arg4 : Memref sig .tc .vmem S4x256x256 .f32) (harg4 : arg4.IsWhole) (arg7 : Memref sig .tc .vmem S1x128 .f32) (harg7 : arg7.IsWhole) (arg8 : Memref sig .tc .vmem S1x128 .f32) (harg8 : arg8.IsWhole) (arg12 : Memref sig .tc .vmem S16x8x128 .f32) (x3 : Vec F S4x256x256 .f32) (x6 : Vec F S1x128 .f32) (x7 : Vec F S1x128 .f32) : arg12.view.readCov (kernelRun0_A.sl.HS1_9 c arg4 harg4 arg7 harg7 arg8 harg8 arg12 x3 x6 x7) (rM 2 0).toLoadRect = View.ld (Val := Elt F) k0_pay3 (rM 2 0) := by
  iterate 8 refine (View.readCov_skip _ _ _ _ _ (by decide)).trans ?_
  exact View.readCov_fill _ _ _ _ _ (by decide)

/-- At the first point a stream's read of scratch 1 finds the fill: the earlier stores are other streams'. -/
theorem rd1_9 (c : Dev nD) (arg4 : Memref sig .tc .vmem S4x256x256 .f32) (harg4 : arg4.IsWhole) (arg7 : Memref sig .tc .vmem S1x128 .f32) (harg7 : arg7.IsWhole) (arg8 : Memref sig .tc .vmem S1x128 .f32) (harg8 : arg8.IsWhole) (arg12 : Memref sig .tc .vmem S16x8x128 .f32) (x3 : Vec F S4x256x256 .f32) (x6 : Vec F S1x128 .f32) (x7 : Vec F S1x128 .f32) : arg12.view.readCov (kernelRun0_A.sl.HS1_10 c arg4 harg4 arg7 harg7 arg8 harg8 arg12 x3 x6 x7) (rM 2 1).toLoadRect = View.ld (Val := Elt F) k0_pay3 (rM 2 1) := by
  iterate 9 refine (View.readCov_skip _ _ _ _ _ (by decide)).trans ?_
  exact View.readCov_fill _ _ _ _ _ (by decide)

/-- At the first point a stream's read of scratch 1 finds the fill: the earlier stores are other streams'. -/
theorem rd1_10 (c : Dev nD) (arg4 : Memref sig .tc .vmem S4x256x256 .f32) (harg4 : arg4.IsWhole) (arg7 : Memref sig .tc .vmem S1x128 .f32) (harg7 : arg7.IsWhole) (arg8 : Memref sig .tc .vmem S1x128 .f32) (harg8 : arg8.IsWhole) (arg12 : Memref sig .tc .vmem S16x8x128 .f32) (x3 : Vec F S4x256x256 .f32) (x6 : Vec F S1x128 .f32) (x7 : Vec F S1x128 .f32) : arg12.view.readCov (kernelRun0_A.sl.HS1_11 c arg4 harg4 arg7 harg7 arg8 harg8 arg12 x3 x6 x7) (rM 2 2).toLoadRect = View.ld (Val := Elt F) k0_pay3 (rM 2 2) := by
  iterate 10 refine (View.readCov_skip _ _ _ _ _ (by decide)).trans ?_
  exact View.readCov_fill _ _ _ _ _ (by decide)

/-- At the first point a stream's read of scratch 1 finds the fill: the earlier stores are other streams'. -/
theorem rd1_11 (c : Dev nD) (arg4 : Memref sig .tc .vmem S4x256x256 .f32) (harg4 : arg4.IsWhole) (arg7 : Memref sig .tc .vmem S1x128 .f32) (harg7 : arg7.IsWhole) (arg8 : Memref sig .tc .vmem S1x128 .f32) (harg8 : arg8.IsWhole) (arg12 : Memref sig .tc .vmem S16x8x128 .f32) (x3 : Vec F S4x256x256 .f32) (x6 : Vec F S1x128 .f32) (x7 : Vec F S1x128 .f32) : arg12.view.readCov (kernelRun0_A.sl.HS1_12 c arg4 harg4 arg7 harg7 arg8 harg8 arg12 x3 x6 x7) (rM 2 3).toLoadRect = View.ld (Val := Elt F) k0_pay3 (rM 2 3) := by
  iterate 11 refine (View.readCov_skip _ _ _ _ _ (by decide)).trans ?_
  exact View.readCov_fill _ _ _ _ _ (by decide)

/-- At the first point a stream's read of scratch 1 finds the fill: the earlier stores are other streams'. -/
theorem rd1_12 (c : Dev nD) (arg4 : Memref sig .tc .vmem S4x256x256 .f32) (harg4 : arg4.IsWhole) (arg7 : Memref sig .tc .vmem S1x128 .f32) (harg7 : arg7.IsWhole) (arg8 : Memref sig .tc .vmem S1x128 .f32) (harg8 : arg8.IsWhole) (arg12 : Memref sig .tc .vmem S16x8x128 .f32) (x3 : Vec F S4x256x256 .f32) (x6 : Vec F S1x128 .f32) (x7 : Vec F S1x128 .f32) : arg12.view.readCov (kernelRun0_A.sl.HS1_13 c arg4 harg4 arg7 harg7 arg8 harg8 arg12 x3 x6 x7) (rM 3 0).toLoadRect = View.ld (Val := Elt F) k0_pay3 (rM 3 0) := by
  iterate 12 refine (View.readCov_skip _ _ _ _ _ (by decide)).trans ?_
  exact View.readCov_fill _ _ _ _ _ (by decide)

/-- At the first point a stream's read of scratch 1 finds the fill: the earlier stores are other streams'. -/
theorem rd1_13 (c : Dev nD) (arg4 : Memref sig .tc .vmem S4x256x256 .f32) (harg4 : arg4.IsWhole) (arg7 : Memref sig .tc .vmem S1x128 .f32) (harg7 : arg7.IsWhole) (arg8 : Memref sig .tc .vmem S1x128 .f32) (harg8 : arg8.IsWhole) (arg12 : Memref sig .tc .vmem S16x8x128 .f32) (x3 : Vec F S4x256x256 .f32) (x6 : Vec F S1x128 .f32) (x7 : Vec F S1x128 .f32) : arg12.view.readCov (kernelRun0_A.sl.HS1_14 c arg4 harg4 arg7 harg7 arg8 harg8 arg12 x3 x6 x7) (rM 3 1).toLoadRect = View.ld (Val := Elt F) k0_pay3 (rM 3 1) := by
  iterate 13 refine (View.readCov_skip _ _ _ _ _ (by decide)).trans ?_
  exact View.readCov_fill _ _ _ _ _ (by decide)

/-- At the first point a stream's read of scratch 1 finds the fill: the earlier stores are other streams'. -/
theorem rd1_14 (c : Dev nD) (arg4 : Memref sig .tc .vmem S4x256x256 .f32) (harg4 : arg4.IsWhole) (arg7 : Memref sig .tc .vmem S1x128 .f32) (harg7 : arg7.IsWhole) (arg8 : Memref sig .tc .vmem S1x128 .f32) (harg8 : arg8.IsWhole) (arg12 : Memref sig .tc .vmem S16x8x128 .f32) (x3 : Vec F S4x256x256 .f32) (x6 : Vec F S1x128 .f32) (x7 : Vec F S1x128 .f32) : arg12.view.readCov (kernelRun0_A.sl.HS1_15 c arg4 harg4 arg7 harg7 arg8 harg8 arg12 x3 x6 x7) (rM 3 2).toLoadRect = View.ld (Val := Elt F) k0_pay3 (rM 3 2) := by
  iterate 14 refine (View.readCov_skip _ _ _ _ _ (by decide)).trans ?_
  exact View.readCov_fill _ _ _ _ _ (by decide)

/-- At the first point a stream's read of scratch 1 finds the fill: the earlier stores are other streams'. -/
theorem rd1_15 (c : Dev nD) (arg4 : Memref sig .tc .vmem S4x256x256 .f32) (harg4 : arg4.IsWhole) (arg7 : Memref sig .tc .vmem S1x128 .f32) (harg7 : arg7.IsWhole) (arg8 : Memref sig .tc .vmem S1x128 .f32) (harg8 : arg8.IsWhole) (arg12 : Memref sig .tc .vmem S16x8x128 .f32) (x3 : Vec F S4x256x256 .f32) (x6 : Vec F S1x128 .f32) (x7 : Vec F S1x128 .f32) : arg12.view.readCov (kernelRun0_A.sl.HS1_16 c arg4 harg4 arg7 harg7 arg8 harg8 arg12 x3 x6 x7) (rM 3 3).toLoadRect = View.ld (Val := Elt F) k0_pay3 (rM 3 3) := by
  iterate 15 refine (View.readCov_skip _ _ _ _ _ (by decide)).trans ?_
  exact View.readCov_fill _ _ _ _ _ (by decide)

/-- At the first point a stream's read of scratch 2 finds the fill: the earlier stores are other streams'. -/
theorem rd2_0  (arg13 : Memref sig .tc .vmem S4x8x1024 .f32) : arg13.view.readCov (kernelRun0_A.sl.HS2_1) (rT 0).toLoadRect = View.ld (Val := Elt F) k0_pay4 (rT 0) := by
  exact View.readCov_fill _ _ _ _ _ (by decide)

/-- At the first point a stream's read of scratch 2 finds the fill: the earlier stores are other streams'. -/
theorem rd2_1 (c : Dev nD) (arg1 : Memref sig .tc .vmem S4x256x1024 .bf16) (harg1 : arg1.IsWhole) (x0 : Vec F S4x256x1024 .bf16) (arg13 : Memref sig .tc .vmem S4x8x1024 .f32) : arg13.view.readCov (kernelRun0_A.sl.HS2_2 c arg1 harg1 x0) (rT 1).toLoadRect = View.ld (Val := Elt F) k0_pay4 (rT 1) := by
  refine (View.readCov_skip _ _ _ _ _ (by decide)).trans ?_
  exact View.readCov_fill _ _ _ _ _ (by decide)

/-- At the first point a stream's read of scratch 2 finds the fill: the earlier stores are other streams'. -/
theorem rd2_2 (c : Dev nD) (arg1 : Memref sig .tc .vmem S4x256x1024 .bf16) (harg1 : arg1.IsWhole) (x0 : Vec F S4x256x1024 .bf16) (arg13 : Memref sig .tc .vmem S4x8x1024 .f32) : arg13.view.readCov (kernelRun0_A.sl.HS2_3 c arg1 harg1 x0) (rT 2).toLoadRect = View.ld (Val := Elt F) k0_pay4 (rT 2) := by
  iterate 2 refine (View.readCov_skip _ _ _ _ _ (by decide)).trans ?_
  exact View.readCov_fill _ _ _ _ _ (by decide)

/-- At the first point a stream's read of scratch 2 finds the fill: the earlier stores are other streams'. -/
theorem rd2_3 (c : Dev nD) (arg1 : Memref sig .tc .vmem S4x256x1024 .bf16) (harg1 : arg1.IsWhole) (x0 : Vec F S4x256x1024 .bf16) (arg13 : Memref sig .tc .vmem S4x8x1024 .f32) : arg13.view.readCov (kernelRun0_A.sl.HS2_4 c arg1 harg1 x0) (rT 3).toLoadRect = View.ld (Val := Elt F) k0_pay4 (rT 3) := by
  iterate 3 refine (View.readCov_skip _ _ _ _ _ (by decide)).trans ?_
  exact View.readCov_fill _ _ _ _ _ (by decide)

/-- Case A: the stores of the output block are the blocks of `stepO`. -/
theorem pieces_out0_A_9 (c : Dev nD) (i : grid0.Coords) (arg1 : Memref sig .tc .vmem S4x256x1024 .bf16) (harg1 : arg1.IsWhole) (arg2 : Memref sig .tc .vmem S4x256x512 .bf16) (harg2 : arg2.IsWhole) (arg3 : Memref sig .tc .vmem S4x256x512 .bf16) (harg3 : arg3.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S4x256x512 .bf16) (harg10 : arg10.IsWhole) (arg11 : Memref sig .tc .vmem S16x128x256 .f32) (harg11 : arg11.IsWhole) (arg12 : Memref sig .tc .vmem S16x8x128 .f32) (harg12 : arg12.IsWhole) (arg13 : Memref sig .tc .vmem S4x8x1024 .f32) (harg13 : arg13.IsWhole) (hc0 : cond0_0 i)
    (x0 : Vec F S4x256x1024 .bf16) (x1 : Vec F S4x256x512 .bf16) (x2 : Vec F S4x256x512 .bf16) (x3 : Vec F S4x256x256 .f32) (x4 : Vec F S4x1024 .f32) (x5 : Vec F S1x1024 .f32) (x6 : Vec F S1x128 .f32) (x7 : Vec F S1x128 .f32) (x8 : Vec F S1x512 .f32) : View.PiecesOf (stepO x0 x1 x2 x3 x4 x5 x6 x7 x8 k0_pay2 k0_pay3 k0_pay4) (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1 := by
    unfold kernelRun0_A
    dsimp only
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
    · refine Eq.trans (congrFun (?_ : _ = stO x0 x1 x2 x3 x4 x5 x6 x7 x8 k0_pay2 k0_pay3 k0_pay4 3 3) x) (stepO_emb x0 x1 x2 x3 x4 x5 x6 x7 x8 k0_pay2 k0_pay3 k0_pay4 3 3 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← rd2_3 c arg1 harg1 x0 arg13, ← rd0_15 c arg1 harg1 arg2 harg2 arg4 harg4 arg5 harg5 arg6 harg6 arg7 harg7 arg8 harg8 arg11 arg12 arg13 x0 x1 x3 x4 x5 x6 x7, ← rd1_15 c arg4 harg4 arg7 harg7 arg8 harg8 arg12 x3 x6 x7]
      rfl
    · refine Eq.trans (congrFun (?_ : _ = stO x0 x1 x2 x3 x4 x5 x6 x7 x8 k0_pay2 k0_pay3 k0_pay4 3 2) x) (stepO_emb x0 x1 x2 x3 x4 x5 x6 x7 x8 k0_pay2 k0_pay3 k0_pay4 3 2 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← rd2_3 c arg1 harg1 x0 arg13, ← rd0_14 c arg1 harg1 arg2 harg2 arg4 harg4 arg5 harg5 arg6 harg6 arg7 harg7 arg8 harg8 arg11 arg12 arg13 x0 x1 x3 x4 x5 x6 x7, ← rd1_14 c arg4 harg4 arg7 harg7 arg8 harg8 arg12 x3 x6 x7]
      rfl
    · refine Eq.trans (congrFun (?_ : _ = stO x0 x1 x2 x3 x4 x5 x6 x7 x8 k0_pay2 k0_pay3 k0_pay4 3 1) x) (stepO_emb x0 x1 x2 x3 x4 x5 x6 x7 x8 k0_pay2 k0_pay3 k0_pay4 3 1 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← rd2_3 c arg1 harg1 x0 arg13, ← rd0_13 c arg1 harg1 arg2 harg2 arg4 harg4 arg5 harg5 arg6 harg6 arg7 harg7 arg8 harg8 arg11 arg12 arg13 x0 x1 x3 x4 x5 x6 x7, ← rd1_13 c arg4 harg4 arg7 harg7 arg8 harg8 arg12 x3 x6 x7]
      rfl
    · refine Eq.trans (congrFun (?_ : _ = stO x0 x1 x2 x3 x4 x5 x6 x7 x8 k0_pay2 k0_pay3 k0_pay4 3 0) x) (stepO_emb x0 x1 x2 x3 x4 x5 x6 x7 x8 k0_pay2 k0_pay3 k0_pay4 3 0 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← rd2_3 c arg1 harg1 x0 arg13, ← rd0_12 c arg1 harg1 arg2 harg2 arg4 harg4 arg5 harg5 arg6 harg6 arg7 harg7 arg8 harg8 arg11 arg12 arg13 x0 x1 x3 x4 x5 x6 x7, ← rd1_12 c arg4 harg4 arg7 harg7 arg8 harg8 arg12 x3 x6 x7]
      rfl
    · refine Eq.trans (congrFun (?_ : _ = stO x0 x1 x2 x3 x4 x5 x6 x7 x8 k0_pay2 k0_pay3 k0_pay4 2 3) x) (stepO_emb x0 x1 x2 x3 x4 x5 x6 x7 x8 k0_pay2 k0_pay3 k0_pay4 2 3 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← rd2_2 c arg1 harg1 x0 arg13, ← rd0_11 c arg1 harg1 arg2 harg2 arg4 harg4 arg5 harg5 arg6 harg6 arg7 harg7 arg8 harg8 arg11 arg12 arg13 x0 x1 x3 x4 x5 x6 x7, ← rd1_11 c arg4 harg4 arg7 harg7 arg8 harg8 arg12 x3 x6 x7]
      rfl
    · refine Eq.trans (congrFun (?_ : _ = stO x0 x1 x2 x3 x4 x5 x6 x7 x8 k0_pay2 k0_pay3 k0_pay4 2 2) x) (stepO_emb x0 x1 x2 x3 x4 x5 x6 x7 x8 k0_pay2 k0_pay3 k0_pay4 2 2 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← rd2_2 c arg1 harg1 x0 arg13, ← rd0_10 c arg1 harg1 arg2 harg2 arg4 harg4 arg5 harg5 arg6 harg6 arg7 harg7 arg8 harg8 arg11 arg12 arg13 x0 x1 x3 x4 x5 x6 x7, ← rd1_10 c arg4 harg4 arg7 harg7 arg8 harg8 arg12 x3 x6 x7]
      rfl
    · refine Eq.trans (congrFun (?_ : _ = stO x0 x1 x2 x3 x4 x5 x6 x7 x8 k0_pay2 k0_pay3 k0_pay4 2 1) x) (stepO_emb x0 x1 x2 x3 x4 x5 x6 x7 x8 k0_pay2 k0_pay3 k0_pay4 2 1 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← rd2_2 c arg1 harg1 x0 arg13, ← rd0_9 c arg1 harg1 arg2 harg2 arg4 harg4 arg5 harg5 arg6 harg6 arg7 harg7 arg8 harg8 arg11 arg12 arg13 x0 x1 x3 x4 x5 x6 x7, ← rd1_9 c arg4 harg4 arg7 harg7 arg8 harg8 arg12 x3 x6 x7]
      rfl
    · refine Eq.trans (congrFun (?_ : _ = stO x0 x1 x2 x3 x4 x5 x6 x7 x8 k0_pay2 k0_pay3 k0_pay4 2 0) x) (stepO_emb x0 x1 x2 x3 x4 x5 x6 x7 x8 k0_pay2 k0_pay3 k0_pay4 2 0 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← rd2_2 c arg1 harg1 x0 arg13, ← rd0_8 c arg1 harg1 arg2 harg2 arg4 harg4 arg5 harg5 arg6 harg6 arg7 harg7 arg8 harg8 arg11 arg12 arg13 x0 x1 x3 x4 x5 x6 x7, ← rd1_8 c arg4 harg4 arg7 harg7 arg8 harg8 arg12 x3 x6 x7]
      rfl
    · refine Eq.trans (congrFun (?_ : _ = stO x0 x1 x2 x3 x4 x5 x6 x7 x8 k0_pay2 k0_pay3 k0_pay4 1 3) x) (stepO_emb x0 x1 x2 x3 x4 x5 x6 x7 x8 k0_pay2 k0_pay3 k0_pay4 1 3 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← rd2_1 c arg1 harg1 x0 arg13, ← rd0_7 c arg1 harg1 arg2 harg2 arg4 harg4 arg5 harg5 arg6 harg6 arg7 harg7 arg8 harg8 arg11 arg12 arg13 x0 x1 x3 x4 x5 x6 x7, ← rd1_7 c arg4 harg4 arg7 harg7 arg8 harg8 arg12 x3 x6 x7]
      rfl
    · refine Eq.trans (congrFun (?_ : _ = stO x0 x1 x2 x3 x4 x5 x6 x7 x8 k0_pay2 k0_pay3 k0_pay4 1 2) x) (stepO_emb x0 x1 x2 x3 x4 x5 x6 x7 x8 k0_pay2 k0_pay3 k0_pay4 1 2 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← rd2_1 c arg1 harg1 x0 arg13, ← rd0_6 c arg1 harg1 arg2 harg2 arg4 harg4 arg5 harg5 arg6 harg6 arg7 harg7 arg8 harg8 arg11 arg12 arg13 x0 x1 x3 x4 x5 x6 x7, ← rd1_6 c arg4 harg4 arg7 harg7 arg8 harg8 arg12 x3 x6 x7]
      rfl
    · refine Eq.trans (congrFun (?_ : _ = stO x0 x1 x2 x3 x4 x5 x6 x7 x8 k0_pay2 k0_pay3 k0_pay4 1 1) x) (stepO_emb x0 x1 x2 x3 x4 x5 x6 x7 x8 k0_pay2 k0_pay3 k0_pay4 1 1 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← rd2_1 c arg1 harg1 x0 arg13, ← rd0_5 c arg1 harg1 arg2 harg2 arg4 harg4 arg5 harg5 arg6 harg6 arg7 harg7 arg8 harg8 arg11 arg12 arg13 x0 x1 x3 x4 x5 x6 x7, ← rd1_5 c arg4 harg4 arg7 harg7 arg8 harg8 arg12 x3 x6 x7]
      rfl
    · refine Eq.trans (congrFun (?_ : _ = stO x0 x1 x2 x3 x4 x5 x6 x7 x8 k0_pay2 k0_pay3 k0_pay4 1 0) x) (stepO_emb x0 x1 x2 x3 x4 x5 x6 x7 x8 k0_pay2 k0_pay3 k0_pay4 1 0 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← rd2_1 c arg1 harg1 x0 arg13, ← rd0_4 c arg1 harg1 arg2 harg2 arg4 harg4 arg5 harg5 arg6 harg6 arg7 harg7 arg8 harg8 arg11 arg12 arg13 x0 x1 x3 x4 x5 x6 x7, ← rd1_4 c arg4 harg4 arg7 harg7 arg8 harg8 arg12 x3 x6 x7]
      rfl
    · refine Eq.trans (congrFun (?_ : _ = stO x0 x1 x2 x3 x4 x5 x6 x7 x8 k0_pay2 k0_pay3 k0_pay4 0 3) x) (stepO_emb x0 x1 x2 x3 x4 x5 x6 x7 x8 k0_pay2 k0_pay3 k0_pay4 0 3 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← rd2_0 arg13, ← rd0_3 c arg1 harg1 arg2 harg2 arg4 harg4 arg5 harg5 arg6 harg6 arg7 harg7 arg8 harg8 arg11 arg12 arg13 x0 x1 x3 x4 x5 x6 x7, ← rd1_3 c arg4 harg4 arg7 harg7 arg8 harg8 arg12 x3 x6 x7]
      rfl
    · refine Eq.trans (congrFun (?_ : _ = stO x0 x1 x2 x3 x4 x5 x6 x7 x8 k0_pay2 k0_pay3 k0_pay4 0 2) x) (stepO_emb x0 x1 x2 x3 x4 x5 x6 x7 x8 k0_pay2 k0_pay3 k0_pay4 0 2 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← rd2_0 arg13, ← rd0_2 c arg1 harg1 arg2 harg2 arg4 harg4 arg5 harg5 arg6 harg6 arg7 harg7 arg8 harg8 arg11 arg12 arg13 x0 x1 x3 x4 x5 x6 x7, ← rd1_2 c arg4 harg4 arg7 harg7 arg8 harg8 arg12 x3 x6 x7]
      rfl
    · refine Eq.trans (congrFun (?_ : _ = stO x0 x1 x2 x3 x4 x5 x6 x7 x8 k0_pay2 k0_pay3 k0_pay4 0 1) x) (stepO_emb x0 x1 x2 x3 x4 x5 x6 x7 x8 k0_pay2 k0_pay3 k0_pay4 0 1 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← rd2_0 arg13, ← rd0_1 c arg1 harg1 arg2 harg2 arg4 harg4 arg5 harg5 arg6 harg6 arg7 harg7 arg8 harg8 arg11 arg12 arg13 x0 x1 x3 x4 x5 x6 x7, ← rd1_1 c arg4 harg4 arg7 harg7 arg8 harg8 arg12 x3 x6 x7]
      rfl
    · refine Eq.trans (congrFun (?_ : _ = stO x0 x1 x2 x3 x4 x5 x6 x7 x8 k0_pay2 k0_pay3 k0_pay4 0 0) x) (stepO_emb x0 x1 x2 x3 x4 x5 x6 x7 x8 k0_pay2 k0_pay3 k0_pay4 0 0 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← rd2_0 arg13, ← rd0_0 arg11, ← rd1_0 arg12]
      rfl

/-- Case A: the output block after a point. -/
theorem eq_out0_A_9 (c : Dev nD) (i : grid0.Coords) (arg1 : Memref sig .tc .vmem S4x256x1024 .bf16) (harg1 : arg1.IsWhole) (arg2 : Memref sig .tc .vmem S4x256x512 .bf16) (harg2 : arg2.IsWhole) (arg3 : Memref sig .tc .vmem S4x256x512 .bf16) (harg3 : arg3.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S4x256x512 .bf16) (harg10 : arg10.IsWhole) (arg11 : Memref sig .tc .vmem S16x128x256 .f32) (harg11 : arg11.IsWhole) (arg12 : Memref sig .tc .vmem S16x8x128 .f32) (harg12 : arg12.IsWhole) (arg13 : Memref sig .tc .vmem S4x8x1024 .f32) (harg13 : arg13.IsWhole) (hc0 : cond0_0 i)
    (x0 : Vec F S4x256x1024 .bf16) (x1 : Vec F S4x256x512 .bf16) (x2 : Vec F S4x256x512 .bf16) (x3 : Vec F S4x256x256 .f32) (x4 : Vec F S4x1024 .f32) (x5 : Vec F S1x1024 .f32) (x6 : Vec F S1x128 .f32) (x7 : Vec F S1x128 .f32) (x8 : Vec F S1x512 .f32) : out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = stepO x0 x1 x2 x3 x4 x5 x6 x7 x8 k0_pay2 k0_pay3 k0_pay4 := by
  unfold out0_A_9
  rw [View.read_writes_junk_eq_canon]
  funext y
  have h := View.canon_append_of_piecesOf _ [] _ (pieces_out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8) y (cover0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 y)
  rwa [List.append_nil] at h

/-- Case A: the stores of the states are the blocks of `stepC`, over the fill. -/
theorem pieces_sout0_A_0 (c : Dev nD) (i : grid0.Coords) (arg1 : Memref sig .tc .vmem S4x256x1024 .bf16) (harg1 : arg1.IsWhole) (arg2 : Memref sig .tc .vmem S4x256x512 .bf16) (harg2 : arg2.IsWhole) (arg3 : Memref sig .tc .vmem S4x256x512 .bf16) (harg3 : arg3.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S4x256x512 .bf16) (harg10 : arg10.IsWhole) (arg11 : Memref sig .tc .vmem S16x128x256 .f32) (harg11 : arg11.IsWhole) (arg12 : Memref sig .tc .vmem S16x8x128 .f32) (harg12 : arg12.IsWhole) (arg13 : Memref sig .tc .vmem S4x8x1024 .f32) (harg13 : arg13.IsWhole) (hc0 : cond0_0 i)
    (x0 : Vec F S4x256x1024 .bf16) (x1 : Vec F S4x256x512 .bf16) (x2 : Vec F S4x256x512 .bf16) (x3 : Vec F S4x256x256 .f32) (x4 : Vec F S4x1024 .f32) (x5 : Vec F S1x1024 .f32) (x6 : Vec F S1x128 .f32) (x7 : Vec F S1x128 .f32) (x8 : Vec F S1x512 .f32) : View.PiecesOf (stepC x0 x1 x3 x4 x5 x6 x7 k0_pay2 k0_pay3 k0_pay4) ((kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1.take 16) := by
    unfold kernelRun0_A
    dsimp only
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
    · refine Eq.trans (congrFun (?_ : _ = stC x0 x1 x3 x4 x5 x6 x7 k0_pay2 k0_pay3 k0_pay4 3 3) x) (stepC_emb x0 x1 x3 x4 x5 x6 x7 k0_pay2 k0_pay3 k0_pay4 3 3 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← rd2_3 c arg1 harg1 x0 arg13, ← rd0_15 c arg1 harg1 arg2 harg2 arg4 harg4 arg5 harg5 arg6 harg6 arg7 harg7 arg8 harg8 arg11 arg12 arg13 x0 x1 x3 x4 x5 x6 x7, ← rd1_15 c arg4 harg4 arg7 harg7 arg8 harg8 arg12 x3 x6 x7]
      rfl
    · refine Eq.trans (congrFun (?_ : _ = stC x0 x1 x3 x4 x5 x6 x7 k0_pay2 k0_pay3 k0_pay4 3 2) x) (stepC_emb x0 x1 x3 x4 x5 x6 x7 k0_pay2 k0_pay3 k0_pay4 3 2 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← rd2_3 c arg1 harg1 x0 arg13, ← rd0_14 c arg1 harg1 arg2 harg2 arg4 harg4 arg5 harg5 arg6 harg6 arg7 harg7 arg8 harg8 arg11 arg12 arg13 x0 x1 x3 x4 x5 x6 x7, ← rd1_14 c arg4 harg4 arg7 harg7 arg8 harg8 arg12 x3 x6 x7]
      rfl
    · refine Eq.trans (congrFun (?_ : _ = stC x0 x1 x3 x4 x5 x6 x7 k0_pay2 k0_pay3 k0_pay4 3 1) x) (stepC_emb x0 x1 x3 x4 x5 x6 x7 k0_pay2 k0_pay3 k0_pay4 3 1 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← rd2_3 c arg1 harg1 x0 arg13, ← rd0_13 c arg1 harg1 arg2 harg2 arg4 harg4 arg5 harg5 arg6 harg6 arg7 harg7 arg8 harg8 arg11 arg12 arg13 x0 x1 x3 x4 x5 x6 x7, ← rd1_13 c arg4 harg4 arg7 harg7 arg8 harg8 arg12 x3 x6 x7]
      rfl
    · refine Eq.trans (congrFun (?_ : _ = stC x0 x1 x3 x4 x5 x6 x7 k0_pay2 k0_pay3 k0_pay4 3 0) x) (stepC_emb x0 x1 x3 x4 x5 x6 x7 k0_pay2 k0_pay3 k0_pay4 3 0 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← rd2_3 c arg1 harg1 x0 arg13, ← rd0_12 c arg1 harg1 arg2 harg2 arg4 harg4 arg5 harg5 arg6 harg6 arg7 harg7 arg8 harg8 arg11 arg12 arg13 x0 x1 x3 x4 x5 x6 x7, ← rd1_12 c arg4 harg4 arg7 harg7 arg8 harg8 arg12 x3 x6 x7]
      rfl
    · refine Eq.trans (congrFun (?_ : _ = stC x0 x1 x3 x4 x5 x6 x7 k0_pay2 k0_pay3 k0_pay4 2 3) x) (stepC_emb x0 x1 x3 x4 x5 x6 x7 k0_pay2 k0_pay3 k0_pay4 2 3 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← rd2_2 c arg1 harg1 x0 arg13, ← rd0_11 c arg1 harg1 arg2 harg2 arg4 harg4 arg5 harg5 arg6 harg6 arg7 harg7 arg8 harg8 arg11 arg12 arg13 x0 x1 x3 x4 x5 x6 x7, ← rd1_11 c arg4 harg4 arg7 harg7 arg8 harg8 arg12 x3 x6 x7]
      rfl
    · refine Eq.trans (congrFun (?_ : _ = stC x0 x1 x3 x4 x5 x6 x7 k0_pay2 k0_pay3 k0_pay4 2 2) x) (stepC_emb x0 x1 x3 x4 x5 x6 x7 k0_pay2 k0_pay3 k0_pay4 2 2 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← rd2_2 c arg1 harg1 x0 arg13, ← rd0_10 c arg1 harg1 arg2 harg2 arg4 harg4 arg5 harg5 arg6 harg6 arg7 harg7 arg8 harg8 arg11 arg12 arg13 x0 x1 x3 x4 x5 x6 x7, ← rd1_10 c arg4 harg4 arg7 harg7 arg8 harg8 arg12 x3 x6 x7]
      rfl
    · refine Eq.trans (congrFun (?_ : _ = stC x0 x1 x3 x4 x5 x6 x7 k0_pay2 k0_pay3 k0_pay4 2 1) x) (stepC_emb x0 x1 x3 x4 x5 x6 x7 k0_pay2 k0_pay3 k0_pay4 2 1 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← rd2_2 c arg1 harg1 x0 arg13, ← rd0_9 c arg1 harg1 arg2 harg2 arg4 harg4 arg5 harg5 arg6 harg6 arg7 harg7 arg8 harg8 arg11 arg12 arg13 x0 x1 x3 x4 x5 x6 x7, ← rd1_9 c arg4 harg4 arg7 harg7 arg8 harg8 arg12 x3 x6 x7]
      rfl
    · refine Eq.trans (congrFun (?_ : _ = stC x0 x1 x3 x4 x5 x6 x7 k0_pay2 k0_pay3 k0_pay4 2 0) x) (stepC_emb x0 x1 x3 x4 x5 x6 x7 k0_pay2 k0_pay3 k0_pay4 2 0 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← rd2_2 c arg1 harg1 x0 arg13, ← rd0_8 c arg1 harg1 arg2 harg2 arg4 harg4 arg5 harg5 arg6 harg6 arg7 harg7 arg8 harg8 arg11 arg12 arg13 x0 x1 x3 x4 x5 x6 x7, ← rd1_8 c arg4 harg4 arg7 harg7 arg8 harg8 arg12 x3 x6 x7]
      rfl
    · refine Eq.trans (congrFun (?_ : _ = stC x0 x1 x3 x4 x5 x6 x7 k0_pay2 k0_pay3 k0_pay4 1 3) x) (stepC_emb x0 x1 x3 x4 x5 x6 x7 k0_pay2 k0_pay3 k0_pay4 1 3 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← rd2_1 c arg1 harg1 x0 arg13, ← rd0_7 c arg1 harg1 arg2 harg2 arg4 harg4 arg5 harg5 arg6 harg6 arg7 harg7 arg8 harg8 arg11 arg12 arg13 x0 x1 x3 x4 x5 x6 x7, ← rd1_7 c arg4 harg4 arg7 harg7 arg8 harg8 arg12 x3 x6 x7]
      rfl
    · refine Eq.trans (congrFun (?_ : _ = stC x0 x1 x3 x4 x5 x6 x7 k0_pay2 k0_pay3 k0_pay4 1 2) x) (stepC_emb x0 x1 x3 x4 x5 x6 x7 k0_pay2 k0_pay3 k0_pay4 1 2 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← rd2_1 c arg1 harg1 x0 arg13, ← rd0_6 c arg1 harg1 arg2 harg2 arg4 harg4 arg5 harg5 arg6 harg6 arg7 harg7 arg8 harg8 arg11 arg12 arg13 x0 x1 x3 x4 x5 x6 x7, ← rd1_6 c arg4 harg4 arg7 harg7 arg8 harg8 arg12 x3 x6 x7]
      rfl
    · refine Eq.trans (congrFun (?_ : _ = stC x0 x1 x3 x4 x5 x6 x7 k0_pay2 k0_pay3 k0_pay4 1 1) x) (stepC_emb x0 x1 x3 x4 x5 x6 x7 k0_pay2 k0_pay3 k0_pay4 1 1 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← rd2_1 c arg1 harg1 x0 arg13, ← rd0_5 c arg1 harg1 arg2 harg2 arg4 harg4 arg5 harg5 arg6 harg6 arg7 harg7 arg8 harg8 arg11 arg12 arg13 x0 x1 x3 x4 x5 x6 x7, ← rd1_5 c arg4 harg4 arg7 harg7 arg8 harg8 arg12 x3 x6 x7]
      rfl
    · refine Eq.trans (congrFun (?_ : _ = stC x0 x1 x3 x4 x5 x6 x7 k0_pay2 k0_pay3 k0_pay4 1 0) x) (stepC_emb x0 x1 x3 x4 x5 x6 x7 k0_pay2 k0_pay3 k0_pay4 1 0 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← rd2_1 c arg1 harg1 x0 arg13, ← rd0_4 c arg1 harg1 arg2 harg2 arg4 harg4 arg5 harg5 arg6 harg6 arg7 harg7 arg8 harg8 arg11 arg12 arg13 x0 x1 x3 x4 x5 x6 x7, ← rd1_4 c arg4 harg4 arg7 harg7 arg8 harg8 arg12 x3 x6 x7]
      rfl
    · refine Eq.trans (congrFun (?_ : _ = stC x0 x1 x3 x4 x5 x6 x7 k0_pay2 k0_pay3 k0_pay4 0 3) x) (stepC_emb x0 x1 x3 x4 x5 x6 x7 k0_pay2 k0_pay3 k0_pay4 0 3 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← rd2_0 arg13, ← rd0_3 c arg1 harg1 arg2 harg2 arg4 harg4 arg5 harg5 arg6 harg6 arg7 harg7 arg8 harg8 arg11 arg12 arg13 x0 x1 x3 x4 x5 x6 x7, ← rd1_3 c arg4 harg4 arg7 harg7 arg8 harg8 arg12 x3 x6 x7]
      rfl
    · refine Eq.trans (congrFun (?_ : _ = stC x0 x1 x3 x4 x5 x6 x7 k0_pay2 k0_pay3 k0_pay4 0 2) x) (stepC_emb x0 x1 x3 x4 x5 x6 x7 k0_pay2 k0_pay3 k0_pay4 0 2 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← rd2_0 arg13, ← rd0_2 c arg1 harg1 arg2 harg2 arg4 harg4 arg5 harg5 arg6 harg6 arg7 harg7 arg8 harg8 arg11 arg12 arg13 x0 x1 x3 x4 x5 x6 x7, ← rd1_2 c arg4 harg4 arg7 harg7 arg8 harg8 arg12 x3 x6 x7]
      rfl
    · refine Eq.trans (congrFun (?_ : _ = stC x0 x1 x3 x4 x5 x6 x7 k0_pay2 k0_pay3 k0_pay4 0 1) x) (stepC_emb x0 x1 x3 x4 x5 x6 x7 k0_pay2 k0_pay3 k0_pay4 0 1 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← rd2_0 arg13, ← rd0_1 c arg1 harg1 arg2 harg2 arg4 harg4 arg5 harg5 arg6 harg6 arg7 harg7 arg8 harg8 arg11 arg12 arg13 x0 x1 x3 x4 x5 x6 x7, ← rd1_1 c arg4 harg4 arg7 harg7 arg8 harg8 arg12 x3 x6 x7]
      rfl
    · refine Eq.trans (congrFun (?_ : _ = stC x0 x1 x3 x4 x5 x6 x7 k0_pay2 k0_pay3 k0_pay4 0 0) x) (stepC_emb x0 x1 x3 x4 x5 x6 x7 k0_pay2 k0_pay3 k0_pay4 0 0 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← rd2_0 arg13, ← rd0_0 arg11, ← rd1_0 arg12]
      rfl

/-- Case A: the states after a point. -/
theorem eq_sout0_A_0 (c : Dev nD) (i : grid0.Coords) (arg1 : Memref sig .tc .vmem S4x256x1024 .bf16) (harg1 : arg1.IsWhole) (arg2 : Memref sig .tc .vmem S4x256x512 .bf16) (harg2 : arg2.IsWhole) (arg3 : Memref sig .tc .vmem S4x256x512 .bf16) (harg3 : arg3.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S4x256x512 .bf16) (harg10 : arg10.IsWhole) (arg11 : Memref sig .tc .vmem S16x128x256 .f32) (harg11 : arg11.IsWhole) (arg12 : Memref sig .tc .vmem S16x8x128 .f32) (harg12 : arg12.IsWhole) (arg13 : Memref sig .tc .vmem S4x8x1024 .f32) (harg13 : arg13.IsWhole) (hc0 : cond0_0 i)
    (x0 : Vec F S4x256x1024 .bf16) (x1 : Vec F S4x256x512 .bf16) (x2 : Vec F S4x256x512 .bf16) (x3 : Vec F S4x256x256 .f32) (x4 : Vec F S4x1024 .f32) (x5 : Vec F S1x1024 .f32) (x6 : Vec F S1x128 .f32) (x7 : Vec F S1x128 .f32) (x8 : Vec F S1x512 .f32) : sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = stepC x0 x1 x3 x4 x5 x6 x7 k0_pay2 k0_pay3 k0_pay4 := by
  unfold sout0_A_0
  rw [View.read_writes_junk_eq_canon]
  funext y
  have h := View.canon_append_of_piecesOf _ ((kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1.drop 16) _ (pieces_sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8) y
    (View.cover_of_tiledL ((kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1.take 16) S1x128x256.size (by sl_kernel_rfl) y)
  rwa [List.take_append_drop] at h

/-- Case A: the stores of the running maxima are the blocks of `stepM`, over the fill. -/
theorem pieces_sout0_A_1 (c : Dev nD) (i : grid0.Coords) (arg1 : Memref sig .tc .vmem S4x256x1024 .bf16) (harg1 : arg1.IsWhole) (arg2 : Memref sig .tc .vmem S4x256x512 .bf16) (harg2 : arg2.IsWhole) (arg3 : Memref sig .tc .vmem S4x256x512 .bf16) (harg3 : arg3.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S4x256x512 .bf16) (harg10 : arg10.IsWhole) (arg11 : Memref sig .tc .vmem S16x128x256 .f32) (harg11 : arg11.IsWhole) (arg12 : Memref sig .tc .vmem S16x8x128 .f32) (harg12 : arg12.IsWhole) (arg13 : Memref sig .tc .vmem S4x8x1024 .f32) (harg13 : arg13.IsWhole) (hc0 : cond0_0 i)
    (x0 : Vec F S4x256x1024 .bf16) (x1 : Vec F S4x256x512 .bf16) (x2 : Vec F S4x256x512 .bf16) (x3 : Vec F S4x256x256 .f32) (x4 : Vec F S4x1024 .f32) (x5 : Vec F S1x1024 .f32) (x6 : Vec F S1x128 .f32) (x7 : Vec F S1x128 .f32) (x8 : Vec F S1x512 .f32) : View.PiecesOf (stepM x3 x6 x7 k0_pay3) ((kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1.take 16) := by
    unfold kernelRun0_A
    dsimp only
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
    · refine Eq.trans (congrFun (?_ : _ = stM x3 x6 x7 k0_pay3 3 3) x) (stepM_emb x3 x6 x7 k0_pay3 3 3 x)
      unfold stM
      rw [← readAt_ld harg4 x3 (rI _), ← readAt_ld harg4 x3 (rF _), ← readAt_ld harg7 x6 rG1, ← readAt_ld harg8 x7 rG1, ← rd1_15 c arg4 harg4 arg7 harg7 arg8 harg8 arg12 x3 x6 x7]
      rfl
    · refine Eq.trans (congrFun (?_ : _ = stM x3 x6 x7 k0_pay3 3 2) x) (stepM_emb x3 x6 x7 k0_pay3 3 2 x)
      unfold stM
      rw [← readAt_ld harg4 x3 (rI _), ← readAt_ld harg4 x3 (rF _), ← readAt_ld harg7 x6 rG1, ← readAt_ld harg8 x7 rG1, ← rd1_14 c arg4 harg4 arg7 harg7 arg8 harg8 arg12 x3 x6 x7]
      rfl
    · refine Eq.trans (congrFun (?_ : _ = stM x3 x6 x7 k0_pay3 3 1) x) (stepM_emb x3 x6 x7 k0_pay3 3 1 x)
      unfold stM
      rw [← readAt_ld harg4 x3 (rI _), ← readAt_ld harg4 x3 (rF _), ← readAt_ld harg7 x6 rG1, ← readAt_ld harg8 x7 rG1, ← rd1_13 c arg4 harg4 arg7 harg7 arg8 harg8 arg12 x3 x6 x7]
      rfl
    · refine Eq.trans (congrFun (?_ : _ = stM x3 x6 x7 k0_pay3 3 0) x) (stepM_emb x3 x6 x7 k0_pay3 3 0 x)
      unfold stM
      rw [← readAt_ld harg4 x3 (rI _), ← readAt_ld harg4 x3 (rF _), ← readAt_ld harg7 x6 rG1, ← readAt_ld harg8 x7 rG1, ← rd1_12 c arg4 harg4 arg7 harg7 arg8 harg8 arg12 x3 x6 x7]
      rfl
    · refine Eq.trans (congrFun (?_ : _ = stM x3 x6 x7 k0_pay3 2 3) x) (stepM_emb x3 x6 x7 k0_pay3 2 3 x)
      unfold stM
      rw [← readAt_ld harg4 x3 (rI _), ← readAt_ld harg4 x3 (rF _), ← readAt_ld harg7 x6 rG1, ← readAt_ld harg8 x7 rG1, ← rd1_11 c arg4 harg4 arg7 harg7 arg8 harg8 arg12 x3 x6 x7]
      rfl
    · refine Eq.trans (congrFun (?_ : _ = stM x3 x6 x7 k0_pay3 2 2) x) (stepM_emb x3 x6 x7 k0_pay3 2 2 x)
      unfold stM
      rw [← readAt_ld harg4 x3 (rI _), ← readAt_ld harg4 x3 (rF _), ← readAt_ld harg7 x6 rG1, ← readAt_ld harg8 x7 rG1, ← rd1_10 c arg4 harg4 arg7 harg7 arg8 harg8 arg12 x3 x6 x7]
      rfl
    · refine Eq.trans (congrFun (?_ : _ = stM x3 x6 x7 k0_pay3 2 1) x) (stepM_emb x3 x6 x7 k0_pay3 2 1 x)
      unfold stM
      rw [← readAt_ld harg4 x3 (rI _), ← readAt_ld harg4 x3 (rF _), ← readAt_ld harg7 x6 rG1, ← readAt_ld harg8 x7 rG1, ← rd1_9 c arg4 harg4 arg7 harg7 arg8 harg8 arg12 x3 x6 x7]
      rfl
    · refine Eq.trans (congrFun (?_ : _ = stM x3 x6 x7 k0_pay3 2 0) x) (stepM_emb x3 x6 x7 k0_pay3 2 0 x)
      unfold stM
      rw [← readAt_ld harg4 x3 (rI _), ← readAt_ld harg4 x3 (rF _), ← readAt_ld harg7 x6 rG1, ← readAt_ld harg8 x7 rG1, ← rd1_8 c arg4 harg4 arg7 harg7 arg8 harg8 arg12 x3 x6 x7]
      rfl
    · refine Eq.trans (congrFun (?_ : _ = stM x3 x6 x7 k0_pay3 1 3) x) (stepM_emb x3 x6 x7 k0_pay3 1 3 x)
      unfold stM
      rw [← readAt_ld harg4 x3 (rI _), ← readAt_ld harg4 x3 (rF _), ← readAt_ld harg7 x6 rG1, ← readAt_ld harg8 x7 rG1, ← rd1_7 c arg4 harg4 arg7 harg7 arg8 harg8 arg12 x3 x6 x7]
      rfl
    · refine Eq.trans (congrFun (?_ : _ = stM x3 x6 x7 k0_pay3 1 2) x) (stepM_emb x3 x6 x7 k0_pay3 1 2 x)
      unfold stM
      rw [← readAt_ld harg4 x3 (rI _), ← readAt_ld harg4 x3 (rF _), ← readAt_ld harg7 x6 rG1, ← readAt_ld harg8 x7 rG1, ← rd1_6 c arg4 harg4 arg7 harg7 arg8 harg8 arg12 x3 x6 x7]
      rfl
    · refine Eq.trans (congrFun (?_ : _ = stM x3 x6 x7 k0_pay3 1 1) x) (stepM_emb x3 x6 x7 k0_pay3 1 1 x)
      unfold stM
      rw [← readAt_ld harg4 x3 (rI _), ← readAt_ld harg4 x3 (rF _), ← readAt_ld harg7 x6 rG1, ← readAt_ld harg8 x7 rG1, ← rd1_5 c arg4 harg4 arg7 harg7 arg8 harg8 arg12 x3 x6 x7]
      rfl
    · refine Eq.trans (congrFun (?_ : _ = stM x3 x6 x7 k0_pay3 1 0) x) (stepM_emb x3 x6 x7 k0_pay3 1 0 x)
      unfold stM
      rw [← readAt_ld harg4 x3 (rI _), ← readAt_ld harg4 x3 (rF _), ← readAt_ld harg7 x6 rG1, ← readAt_ld harg8 x7 rG1, ← rd1_4 c arg4 harg4 arg7 harg7 arg8 harg8 arg12 x3 x6 x7]
      rfl
    · refine Eq.trans (congrFun (?_ : _ = stM x3 x6 x7 k0_pay3 0 3) x) (stepM_emb x3 x6 x7 k0_pay3 0 3 x)
      unfold stM
      rw [← readAt_ld harg4 x3 (rI _), ← readAt_ld harg4 x3 (rF _), ← readAt_ld harg7 x6 rG1, ← readAt_ld harg8 x7 rG1, ← rd1_3 c arg4 harg4 arg7 harg7 arg8 harg8 arg12 x3 x6 x7]
      rfl
    · refine Eq.trans (congrFun (?_ : _ = stM x3 x6 x7 k0_pay3 0 2) x) (stepM_emb x3 x6 x7 k0_pay3 0 2 x)
      unfold stM
      rw [← readAt_ld harg4 x3 (rI _), ← readAt_ld harg4 x3 (rF _), ← readAt_ld harg7 x6 rG1, ← readAt_ld harg8 x7 rG1, ← rd1_2 c arg4 harg4 arg7 harg7 arg8 harg8 arg12 x3 x6 x7]
      rfl
    · refine Eq.trans (congrFun (?_ : _ = stM x3 x6 x7 k0_pay3 0 1) x) (stepM_emb x3 x6 x7 k0_pay3 0 1 x)
      unfold stM
      rw [← readAt_ld harg4 x3 (rI _), ← readAt_ld harg4 x3 (rF _), ← readAt_ld harg7 x6 rG1, ← readAt_ld harg8 x7 rG1, ← rd1_1 c arg4 harg4 arg7 harg7 arg8 harg8 arg12 x3 x6 x7]
      rfl
    · refine Eq.trans (congrFun (?_ : _ = stM x3 x6 x7 k0_pay3 0 0) x) (stepM_emb x3 x6 x7 k0_pay3 0 0 x)
      unfold stM
      rw [← readAt_ld harg4 x3 (rI _), ← readAt_ld harg4 x3 (rF _), ← readAt_ld harg7 x6 rG1, ← readAt_ld harg8 x7 rG1, ← rd1_0 arg12]
      rfl

/-- Case A: the running maxima after a point. -/
theorem eq_sout0_A_1 (c : Dev nD) (i : grid0.Coords) (arg1 : Memref sig .tc .vmem S4x256x1024 .bf16) (harg1 : arg1.IsWhole) (arg2 : Memref sig .tc .vmem S4x256x512 .bf16) (harg2 : arg2.IsWhole) (arg3 : Memref sig .tc .vmem S4x256x512 .bf16) (harg3 : arg3.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S4x256x512 .bf16) (harg10 : arg10.IsWhole) (arg11 : Memref sig .tc .vmem S16x128x256 .f32) (harg11 : arg11.IsWhole) (arg12 : Memref sig .tc .vmem S16x8x128 .f32) (harg12 : arg12.IsWhole) (arg13 : Memref sig .tc .vmem S4x8x1024 .f32) (harg13 : arg13.IsWhole) (hc0 : cond0_0 i)
    (x0 : Vec F S4x256x1024 .bf16) (x1 : Vec F S4x256x512 .bf16) (x2 : Vec F S4x256x512 .bf16) (x3 : Vec F S4x256x256 .f32) (x4 : Vec F S4x1024 .f32) (x5 : Vec F S1x1024 .f32) (x6 : Vec F S1x128 .f32) (x7 : Vec F S1x128 .f32) (x8 : Vec F S1x512 .f32) : sout0_A_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = stepM x3 x6 x7 k0_pay3 := by
  unfold sout0_A_1
  rw [View.read_writes_junk_eq_canon]
  funext y
  have h := View.canon_append_of_piecesOf _ ((kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1.drop 16) _ (pieces_sout0_A_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8) y
    (View.cover_of_tiledL ((kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1.take 16) S1x8x128.size (by sl_kernel_rfl) y)
  rwa [List.take_append_drop] at h

/-- Case A: the stores of the last tokens are the blocks of `stepT`, over the fill. -/
theorem pieces_sout0_A_2 (c : Dev nD) (i : grid0.Coords) (arg1 : Memref sig .tc .vmem S4x256x1024 .bf16) (harg1 : arg1.IsWhole) (arg2 : Memref sig .tc .vmem S4x256x512 .bf16) (harg2 : arg2.IsWhole) (arg3 : Memref sig .tc .vmem S4x256x512 .bf16) (harg3 : arg3.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S4x256x512 .bf16) (harg10 : arg10.IsWhole) (arg11 : Memref sig .tc .vmem S16x128x256 .f32) (harg11 : arg11.IsWhole) (arg12 : Memref sig .tc .vmem S16x8x128 .f32) (harg12 : arg12.IsWhole) (arg13 : Memref sig .tc .vmem S4x8x1024 .f32) (harg13 : arg13.IsWhole) (hc0 : cond0_0 i)
    (x0 : Vec F S4x256x1024 .bf16) (x1 : Vec F S4x256x512 .bf16) (x2 : Vec F S4x256x512 .bf16) (x3 : Vec F S4x256x256 .f32) (x4 : Vec F S4x1024 .f32) (x5 : Vec F S1x1024 .f32) (x6 : Vec F S1x128 .f32) (x7 : Vec F S1x128 .f32) (x8 : Vec F S1x512 .f32) : View.PiecesOf (stepT x0) ((kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.2.1.take 4) := by
    unfold kernelRun0_A
    dsimp only
    refine ⟨fun x => ?_, fun x => ?_, fun x => ?_, fun x => ?_, trivial⟩
    · refine Eq.trans (congrFun (?_ : _ = stT x0 3) x) (stepT_emb x0 3 x)
      unfold stT
      rw [← readAt_ld harg1 x0 (rX _)]
      rfl
    · refine Eq.trans (congrFun (?_ : _ = stT x0 2) x) (stepT_emb x0 2 x)
      unfold stT
      rw [← readAt_ld harg1 x0 (rX _)]
      rfl
    · refine Eq.trans (congrFun (?_ : _ = stT x0 1) x) (stepT_emb x0 1 x)
      unfold stT
      rw [← readAt_ld harg1 x0 (rX _)]
      rfl
    · refine Eq.trans (congrFun (?_ : _ = stT x0 0) x) (stepT_emb x0 0 x)
      unfold stT
      rw [← readAt_ld harg1 x0 (rX _)]
      rfl

/-- Case A: the last tokens after a point. -/
theorem eq_sout0_A_2 (c : Dev nD) (i : grid0.Coords) (arg1 : Memref sig .tc .vmem S4x256x1024 .bf16) (harg1 : arg1.IsWhole) (arg2 : Memref sig .tc .vmem S4x256x512 .bf16) (harg2 : arg2.IsWhole) (arg3 : Memref sig .tc .vmem S4x256x512 .bf16) (harg3 : arg3.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S4x256x512 .bf16) (harg10 : arg10.IsWhole) (arg11 : Memref sig .tc .vmem S16x128x256 .f32) (harg11 : arg11.IsWhole) (arg12 : Memref sig .tc .vmem S16x8x128 .f32) (harg12 : arg12.IsWhole) (arg13 : Memref sig .tc .vmem S4x8x1024 .f32) (harg13 : arg13.IsWhole) (hc0 : cond0_0 i)
    (x0 : Vec F S4x256x1024 .bf16) (x1 : Vec F S4x256x512 .bf16) (x2 : Vec F S4x256x512 .bf16) (x3 : Vec F S4x256x256 .f32) (x4 : Vec F S4x1024 .f32) (x5 : Vec F S1x1024 .f32) (x6 : Vec F S1x128 .f32) (x7 : Vec F S1x128 .f32) (x8 : Vec F S1x512 .f32) : sout0_A_2 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = stepT x0 := by
  unfold sout0_A_2
  rw [View.read_writes_junk_eq_canon]
  funext y
  have h := View.canon_append_of_piecesOf _ ((kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.2.1.drop 4) _ (pieces_sout0_A_2 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8) y
    (View.cover_of_tiledL ((kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.2.1.take 4) S1x8x1024.size (by sl_kernel_rfl) y)
  rwa [List.take_append_drop] at h

end Cert.Ml

end
-- ==== Proof.Ml.CaseB.lean ====
module

public import proofs.«01_k».proof.Proof.Ml.Heads

@[expose] public section

set_option maxRecDepth 16384

noncomputable section

namespace Cert.Ml

open Cert.KernelIdeal Cert.KernelIdeal.Gen Idealize.ShloMosaic Idealize.SL.Sem

variable {F : FTy → Type} [FloatOps F] [Named F]

/-- Case B: the stores of the output block are the blocks of `stepO`. -/
theorem pieces_out0_B_9 (c : Dev nD) (i : grid0.Coords) (arg1 : Memref sig .tc .vmem S4x256x1024 .bf16) (harg1 : arg1.IsWhole) (arg2 : Memref sig .tc .vmem S4x256x512 .bf16) (harg2 : arg2.IsWhole) (arg3 : Memref sig .tc .vmem S4x256x512 .bf16) (harg3 : arg3.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S4x256x512 .bf16) (harg10 : arg10.IsWhole) (arg11 : Memref sig .tc .vmem S16x128x256 .f32) (harg11 : arg11.IsWhole) (arg12 : Memref sig .tc .vmem S16x8x128 .f32) (harg12 : arg12.IsWhole) (arg13 : Memref sig .tc .vmem S4x8x1024 .f32) (harg13 : arg13.IsWhole) (hc0 : ¬cond0_0 i)
    (x0 : Vec F S4x256x1024 .bf16) (x1 : Vec F S4x256x512 .bf16) (x2 : Vec F S4x256x512 .bf16) (x3 : Vec F S4x256x256 .f32) (x4 : Vec F S4x1024 .f32) (x5 : Vec F S1x1024 .f32) (x6 : Vec F S1x128 .f32) (x7 : Vec F S1x128 .f32) (x8 : Vec F S1x512 .f32) (xs0 : Vec F S16x128x256 .f32) (xs1 : Vec F S16x8x128 .f32) (xs2 : Vec F S4x8x1024 .f32) : View.PiecesOf (stepO x0 x1 x2 x3 x4 x5 x6 x7 x8 xs0 xs1 xs2) (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 xs2).1 := by
    unfold kernelRun0_B
    dsimp only
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
    · refine Eq.trans (congrFun (?_ : _ = stO x0 x1 x2 x3 x4 x5 x6 x7 x8 xs0 xs1 xs2 3 3) x) (stepO_emb x0 x1 x2 x3 x4 x5 x6 x7 x8 xs0 xs1 xs2 3 3 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← readAt_ld harg13 xs2 (rT _), ← readAt_ld harg11 xs0 (rC _ _), ← readAt_ld harg12 xs1 (rM _ _)]
      rfl
    · refine Eq.trans (congrFun (?_ : _ = stO x0 x1 x2 x3 x4 x5 x6 x7 x8 xs0 xs1 xs2 3 2) x) (stepO_emb x0 x1 x2 x3 x4 x5 x6 x7 x8 xs0 xs1 xs2 3 2 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← readAt_ld harg13 xs2 (rT _), ← readAt_ld harg11 xs0 (rC _ _), ← readAt_ld harg12 xs1 (rM _ _)]
      rfl
    · refine Eq.trans (congrFun (?_ : _ = stO x0 x1 x2 x3 x4 x5 x6 x7 x8 xs0 xs1 xs2 3 1) x) (stepO_emb x0 x1 x2 x3 x4 x5 x6 x7 x8 xs0 xs1 xs2 3 1 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← readAt_ld harg13 xs2 (rT _), ← readAt_ld harg11 xs0 (rC _ _), ← readAt_ld harg12 xs1 (rM _ _)]
      rfl
    · refine Eq.trans (congrFun (?_ : _ = stO x0 x1 x2 x3 x4 x5 x6 x7 x8 xs0 xs1 xs2 3 0) x) (stepO_emb x0 x1 x2 x3 x4 x5 x6 x7 x8 xs0 xs1 xs2 3 0 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← readAt_ld harg13 xs2 (rT _), ← readAt_ld harg11 xs0 (rC _ _), ← readAt_ld harg12 xs1 (rM _ _)]
      rfl
    · refine Eq.trans (congrFun (?_ : _ = stO x0 x1 x2 x3 x4 x5 x6 x7 x8 xs0 xs1 xs2 2 3) x) (stepO_emb x0 x1 x2 x3 x4 x5 x6 x7 x8 xs0 xs1 xs2 2 3 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← readAt_ld harg13 xs2 (rT _), ← readAt_ld harg11 xs0 (rC _ _), ← readAt_ld harg12 xs1 (rM _ _)]
      rfl
    · refine Eq.trans (congrFun (?_ : _ = stO x0 x1 x2 x3 x4 x5 x6 x7 x8 xs0 xs1 xs2 2 2) x) (stepO_emb x0 x1 x2 x3 x4 x5 x6 x7 x8 xs0 xs1 xs2 2 2 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← readAt_ld harg13 xs2 (rT _), ← readAt_ld harg11 xs0 (rC _ _), ← readAt_ld harg12 xs1 (rM _ _)]
      rfl
    · refine Eq.trans (congrFun (?_ : _ = stO x0 x1 x2 x3 x4 x5 x6 x7 x8 xs0 xs1 xs2 2 1) x) (stepO_emb x0 x1 x2 x3 x4 x5 x6 x7 x8 xs0 xs1 xs2 2 1 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← readAt_ld harg13 xs2 (rT _), ← readAt_ld harg11 xs0 (rC _ _), ← readAt_ld harg12 xs1 (rM _ _)]
      rfl
    · refine Eq.trans (congrFun (?_ : _ = stO x0 x1 x2 x3 x4 x5 x6 x7 x8 xs0 xs1 xs2 2 0) x) (stepO_emb x0 x1 x2 x3 x4 x5 x6 x7 x8 xs0 xs1 xs2 2 0 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← readAt_ld harg13 xs2 (rT _), ← readAt_ld harg11 xs0 (rC _ _), ← readAt_ld harg12 xs1 (rM _ _)]
      rfl
    · refine Eq.trans (congrFun (?_ : _ = stO x0 x1 x2 x3 x4 x5 x6 x7 x8 xs0 xs1 xs2 1 3) x) (stepO_emb x0 x1 x2 x3 x4 x5 x6 x7 x8 xs0 xs1 xs2 1 3 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← readAt_ld harg13 xs2 (rT _), ← readAt_ld harg11 xs0 (rC _ _), ← readAt_ld harg12 xs1 (rM _ _)]
      rfl
    · refine Eq.trans (congrFun (?_ : _ = stO x0 x1 x2 x3 x4 x5 x6 x7 x8 xs0 xs1 xs2 1 2) x) (stepO_emb x0 x1 x2 x3 x4 x5 x6 x7 x8 xs0 xs1 xs2 1 2 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← readAt_ld harg13 xs2 (rT _), ← readAt_ld harg11 xs0 (rC _ _), ← readAt_ld harg12 xs1 (rM _ _)]
      rfl
    · refine Eq.trans (congrFun (?_ : _ = stO x0 x1 x2 x3 x4 x5 x6 x7 x8 xs0 xs1 xs2 1 1) x) (stepO_emb x0 x1 x2 x3 x4 x5 x6 x7 x8 xs0 xs1 xs2 1 1 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← readAt_ld harg13 xs2 (rT _), ← readAt_ld harg11 xs0 (rC _ _), ← readAt_ld harg12 xs1 (rM _ _)]
      rfl
    · refine Eq.trans (congrFun (?_ : _ = stO x0 x1 x2 x3 x4 x5 x6 x7 x8 xs0 xs1 xs2 1 0) x) (stepO_emb x0 x1 x2 x3 x4 x5 x6 x7 x8 xs0 xs1 xs2 1 0 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← readAt_ld harg13 xs2 (rT _), ← readAt_ld harg11 xs0 (rC _ _), ← readAt_ld harg12 xs1 (rM _ _)]
      rfl
    · refine Eq.trans (congrFun (?_ : _ = stO x0 x1 x2 x3 x4 x5 x6 x7 x8 xs0 xs1 xs2 0 3) x) (stepO_emb x0 x1 x2 x3 x4 x5 x6 x7 x8 xs0 xs1 xs2 0 3 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← readAt_ld harg13 xs2 (rT _), ← readAt_ld harg11 xs0 (rC _ _), ← readAt_ld harg12 xs1 (rM _ _)]
      rfl
    · refine Eq.trans (congrFun (?_ : _ = stO x0 x1 x2 x3 x4 x5 x6 x7 x8 xs0 xs1 xs2 0 2) x) (stepO_emb x0 x1 x2 x3 x4 x5 x6 x7 x8 xs0 xs1 xs2 0 2 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← readAt_ld harg13 xs2 (rT _), ← readAt_ld harg11 xs0 (rC _ _), ← readAt_ld harg12 xs1 (rM _ _)]
      rfl
    · refine Eq.trans (congrFun (?_ : _ = stO x0 x1 x2 x3 x4 x5 x6 x7 x8 xs0 xs1 xs2 0 1) x) (stepO_emb x0 x1 x2 x3 x4 x5 x6 x7 x8 xs0 xs1 xs2 0 1 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← readAt_ld harg13 xs2 (rT _), ← readAt_ld harg11 xs0 (rC _ _), ← readAt_ld harg12 xs1 (rM _ _)]
      rfl
    · refine Eq.trans (congrFun (?_ : _ = stO x0 x1 x2 x3 x4 x5 x6 x7 x8 xs0 xs1 xs2 0 0) x) (stepO_emb x0 x1 x2 x3 x4 x5 x6 x7 x8 xs0 xs1 xs2 0 0 x)
      unfold stO qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg3 x2 (rV _ _), ← readAt_ld harg9 x8 (rG _), ← readAt_ld harg13 xs2 (rT _), ← readAt_ld harg11 xs0 (rC _ _), ← readAt_ld harg12 xs1 (rM _ _)]
      rfl

/-- Case B: the output block after a point. -/
theorem eq_out0_B_9 (c : Dev nD) (i : grid0.Coords) (arg1 : Memref sig .tc .vmem S4x256x1024 .bf16) (harg1 : arg1.IsWhole) (arg2 : Memref sig .tc .vmem S4x256x512 .bf16) (harg2 : arg2.IsWhole) (arg3 : Memref sig .tc .vmem S4x256x512 .bf16) (harg3 : arg3.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S4x256x512 .bf16) (harg10 : arg10.IsWhole) (arg11 : Memref sig .tc .vmem S16x128x256 .f32) (harg11 : arg11.IsWhole) (arg12 : Memref sig .tc .vmem S16x8x128 .f32) (harg12 : arg12.IsWhole) (arg13 : Memref sig .tc .vmem S4x8x1024 .f32) (harg13 : arg13.IsWhole) (hc0 : ¬cond0_0 i)
    (x0 : Vec F S4x256x1024 .bf16) (x1 : Vec F S4x256x512 .bf16) (x2 : Vec F S4x256x512 .bf16) (x3 : Vec F S4x256x256 .f32) (x4 : Vec F S4x1024 .f32) (x5 : Vec F S1x1024 .f32) (x6 : Vec F S1x128 .f32) (x7 : Vec F S1x128 .f32) (x8 : Vec F S1x512 .f32) (xs0 : Vec F S16x128x256 .f32) (xs1 : Vec F S16x8x128 .f32) (xs2 : Vec F S4x8x1024 .f32) : out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 xs2 = stepO x0 x1 x2 x3 x4 x5 x6 x7 x8 xs0 xs1 xs2 := by
  unfold out0_B_9
  rw [View.read_writes_junk_eq_canon]
  funext y
  have h := View.canon_append_of_piecesOf _ [] _ (pieces_out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 xs2) y (cover0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 xs2 y)
  rwa [List.append_nil] at h

/-- Case B: the stores of the states are the blocks of `stepC`. -/
theorem pieces_sout0_B_0 (c : Dev nD) (i : grid0.Coords) (arg1 : Memref sig .tc .vmem S4x256x1024 .bf16) (harg1 : arg1.IsWhole) (arg2 : Memref sig .tc .vmem S4x256x512 .bf16) (harg2 : arg2.IsWhole) (arg3 : Memref sig .tc .vmem S4x256x512 .bf16) (harg3 : arg3.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S4x256x512 .bf16) (harg10 : arg10.IsWhole) (arg11 : Memref sig .tc .vmem S16x128x256 .f32) (harg11 : arg11.IsWhole) (arg12 : Memref sig .tc .vmem S16x8x128 .f32) (harg12 : arg12.IsWhole) (arg13 : Memref sig .tc .vmem S4x8x1024 .f32) (harg13 : arg13.IsWhole) (hc0 : ¬cond0_0 i)
    (x0 : Vec F S4x256x1024 .bf16) (x1 : Vec F S4x256x512 .bf16) (x2 : Vec F S4x256x512 .bf16) (x3 : Vec F S4x256x256 .f32) (x4 : Vec F S4x1024 .f32) (x5 : Vec F S1x1024 .f32) (x6 : Vec F S1x128 .f32) (x7 : Vec F S1x128 .f32) (x8 : Vec F S1x512 .f32) (xs0 : Vec F S16x128x256 .f32) (xs1 : Vec F S16x8x128 .f32) (xs2 : Vec F S4x8x1024 .f32) : View.PiecesOf (stepC x0 x1 x3 x4 x5 x6 x7 xs0 xs1 xs2) (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 xs2).2.1 := by
    unfold kernelRun0_B
    dsimp only
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
    · refine Eq.trans (congrFun (?_ : _ = stC x0 x1 x3 x4 x5 x6 x7 xs0 xs1 xs2 3 3) x) (stepC_emb x0 x1 x3 x4 x5 x6 x7 xs0 xs1 xs2 3 3 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg13 xs2 (rT _), ← readAt_ld harg11 xs0 (rC _ _), ← readAt_ld harg12 xs1 (rM _ _)]
      rfl
    · refine Eq.trans (congrFun (?_ : _ = stC x0 x1 x3 x4 x5 x6 x7 xs0 xs1 xs2 3 2) x) (stepC_emb x0 x1 x3 x4 x5 x6 x7 xs0 xs1 xs2 3 2 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg13 xs2 (rT _), ← readAt_ld harg11 xs0 (rC _ _), ← readAt_ld harg12 xs1 (rM _ _)]
      rfl
    · refine Eq.trans (congrFun (?_ : _ = stC x0 x1 x3 x4 x5 x6 x7 xs0 xs1 xs2 3 1) x) (stepC_emb x0 x1 x3 x4 x5 x6 x7 xs0 xs1 xs2 3 1 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg13 xs2 (rT _), ← readAt_ld harg11 xs0 (rC _ _), ← readAt_ld harg12 xs1 (rM _ _)]
      rfl
    · refine Eq.trans (congrFun (?_ : _ = stC x0 x1 x3 x4 x5 x6 x7 xs0 xs1 xs2 3 0) x) (stepC_emb x0 x1 x3 x4 x5 x6 x7 xs0 xs1 xs2 3 0 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg13 xs2 (rT _), ← readAt_ld harg11 xs0 (rC _ _), ← readAt_ld harg12 xs1 (rM _ _)]
      rfl
    · refine Eq.trans (congrFun (?_ : _ = stC x0 x1 x3 x4 x5 x6 x7 xs0 xs1 xs2 2 3) x) (stepC_emb x0 x1 x3 x4 x5 x6 x7 xs0 xs1 xs2 2 3 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg13 xs2 (rT _), ← readAt_ld harg11 xs0 (rC _ _), ← readAt_ld harg12 xs1 (rM _ _)]
      rfl
    · refine Eq.trans (congrFun (?_ : _ = stC x0 x1 x3 x4 x5 x6 x7 xs0 xs1 xs2 2 2) x) (stepC_emb x0 x1 x3 x4 x5 x6 x7 xs0 xs1 xs2 2 2 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg13 xs2 (rT _), ← readAt_ld harg11 xs0 (rC _ _), ← readAt_ld harg12 xs1 (rM _ _)]
      rfl
    · refine Eq.trans (congrFun (?_ : _ = stC x0 x1 x3 x4 x5 x6 x7 xs0 xs1 xs2 2 1) x) (stepC_emb x0 x1 x3 x4 x5 x6 x7 xs0 xs1 xs2 2 1 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg13 xs2 (rT _), ← readAt_ld harg11 xs0 (rC _ _), ← readAt_ld harg12 xs1 (rM _ _)]
      rfl
    · refine Eq.trans (congrFun (?_ : _ = stC x0 x1 x3 x4 x5 x6 x7 xs0 xs1 xs2 2 0) x) (stepC_emb x0 x1 x3 x4 x5 x6 x7 xs0 xs1 xs2 2 0 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg13 xs2 (rT _), ← readAt_ld harg11 xs0 (rC _ _), ← readAt_ld harg12 xs1 (rM _ _)]
      rfl
    · refine Eq.trans (congrFun (?_ : _ = stC x0 x1 x3 x4 x5 x6 x7 xs0 xs1 xs2 1 3) x) (stepC_emb x0 x1 x3 x4 x5 x6 x7 xs0 xs1 xs2 1 3 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg13 xs2 (rT _), ← readAt_ld harg11 xs0 (rC _ _), ← readAt_ld harg12 xs1 (rM _ _)]
      rfl
    · refine Eq.trans (congrFun (?_ : _ = stC x0 x1 x3 x4 x5 x6 x7 xs0 xs1 xs2 1 2) x) (stepC_emb x0 x1 x3 x4 x5 x6 x7 xs0 xs1 xs2 1 2 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg13 xs2 (rT _), ← readAt_ld harg11 xs0 (rC _ _), ← readAt_ld harg12 xs1 (rM _ _)]
      rfl
    · refine Eq.trans (congrFun (?_ : _ = stC x0 x1 x3 x4 x5 x6 x7 xs0 xs1 xs2 1 1) x) (stepC_emb x0 x1 x3 x4 x5 x6 x7 xs0 xs1 xs2 1 1 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg13 xs2 (rT _), ← readAt_ld harg11 xs0 (rC _ _), ← readAt_ld harg12 xs1 (rM _ _)]
      rfl
    · refine Eq.trans (congrFun (?_ : _ = stC x0 x1 x3 x4 x5 x6 x7 xs0 xs1 xs2 1 0) x) (stepC_emb x0 x1 x3 x4 x5 x6 x7 xs0 xs1 xs2 1 0 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg13 xs2 (rT _), ← readAt_ld harg11 xs0 (rC _ _), ← readAt_ld harg12 xs1 (rM _ _)]
      rfl
    · refine Eq.trans (congrFun (?_ : _ = stC x0 x1 x3 x4 x5 x6 x7 xs0 xs1 xs2 0 3) x) (stepC_emb x0 x1 x3 x4 x5 x6 x7 xs0 xs1 xs2 0 3 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg13 xs2 (rT _), ← readAt_ld harg11 xs0 (rC _ _), ← readAt_ld harg12 xs1 (rM _ _)]
      rfl
    · refine Eq.trans (congrFun (?_ : _ = stC x0 x1 x3 x4 x5 x6 x7 xs0 xs1 xs2 0 2) x) (stepC_emb x0 x1 x3 x4 x5 x6 x7 xs0 xs1 xs2 0 2 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg13 xs2 (rT _), ← readAt_ld harg11 xs0 (rC _ _), ← readAt_ld harg12 xs1 (rM _ _)]
      rfl
    · refine Eq.trans (congrFun (?_ : _ = stC x0 x1 x3 x4 x5 x6 x7 xs0 xs1 xs2 0 1) x) (stepC_emb x0 x1 x3 x4 x5 x6 x7 xs0 xs1 xs2 0 1 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg13 xs2 (rT _), ← readAt_ld harg11 xs0 (rC _ _), ← readAt_ld harg12 xs1 (rM _ _)]
      rfl
    · refine Eq.trans (congrFun (?_ : _ = stC x0 x1 x3 x4 x5 x6 x7 xs0 xs1 xs2 0 0) x) (stepC_emb x0 x1 x3 x4 x5 x6 x7 xs0 xs1 xs2 0 0 x)
      unfold stC qkB
      rw [← readAt_ld harg1 x0 (rX _), ← readAt_ld harg5 x4 rW, ← readAt_ld harg6 x5 rB, ← readAt_ld harg2 x1 (rV _ _), ← readAt_ld harg4 x3 (rI _), ← readAt_ld harg4 x3 (rF _), ← readAt_ld harg7 x6 rG1, ← readAt_ld harg8 x7 rG1, ← readAt_ld harg13 xs2 (rT _), ← readAt_ld harg11 xs0 (rC _ _), ← readAt_ld harg12 xs1 (rM _ _)]
      rfl

/-- Case B: the states after a point. -/
theorem eq_sout0_B_0 (c : Dev nD) (i : grid0.Coords) (arg1 : Memref sig .tc .vmem S4x256x1024 .bf16) (harg1 : arg1.IsWhole) (arg2 : Memref sig .tc .vmem S4x256x512 .bf16) (harg2 : arg2.IsWhole) (arg3 : Memref sig .tc .vmem S4x256x512 .bf16) (harg3 : arg3.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S4x256x512 .bf16) (harg10 : arg10.IsWhole) (arg11 : Memref sig .tc .vmem S16x128x256 .f32) (harg11 : arg11.IsWhole) (arg12 : Memref sig .tc .vmem S16x8x128 .f32) (harg12 : arg12.IsWhole) (arg13 : Memref sig .tc .vmem S4x8x1024 .f32) (harg13 : arg13.IsWhole) (hc0 : ¬cond0_0 i)
    (x0 : Vec F S4x256x1024 .bf16) (x1 : Vec F S4x256x512 .bf16) (x2 : Vec F S4x256x512 .bf16) (x3 : Vec F S4x256x256 .f32) (x4 : Vec F S4x1024 .f32) (x5 : Vec F S1x1024 .f32) (x6 : Vec F S1x128 .f32) (x7 : Vec F S1x128 .f32) (x8 : Vec F S1x512 .f32) (xs0 : Vec F S16x128x256 .f32) (xs1 : Vec F S16x8x128 .f32) (xs2 : Vec F S4x8x1024 .f32) : sout0_B_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 xs2 = stepC x0 x1 x3 x4 x5 x6 x7 xs0 xs1 xs2 := by
  unfold sout0_B_0
  rw [View.read_writes_junk_eq_canon]
  funext y
  have h := View.canon_append_of_piecesOf _ [] _ (pieces_sout0_B_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 xs2) y (scover0_B_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 xs2 y)
  rwa [List.append_nil] at h

/-- Case B: the stores of the running maxima are the blocks of `stepM`. -/
theorem pieces_sout0_B_1 (c : Dev nD) (i : grid0.Coords) (arg1 : Memref sig .tc .vmem S4x256x1024 .bf16) (harg1 : arg1.IsWhole) (arg2 : Memref sig .tc .vmem S4x256x512 .bf16) (harg2 : arg2.IsWhole) (arg3 : Memref sig .tc .vmem S4x256x512 .bf16) (harg3 : arg3.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S4x256x512 .bf16) (harg10 : arg10.IsWhole) (arg11 : Memref sig .tc .vmem S16x128x256 .f32) (harg11 : arg11.IsWhole) (arg12 : Memref sig .tc .vmem S16x8x128 .f32) (harg12 : arg12.IsWhole) (arg13 : Memref sig .tc .vmem S4x8x1024 .f32) (harg13 : arg13.IsWhole) (hc0 : ¬cond0_0 i)
    (x0 : Vec F S4x256x1024 .bf16) (x1 : Vec F S4x256x512 .bf16) (x2 : Vec F S4x256x512 .bf16) (x3 : Vec F S4x256x256 .f32) (x4 : Vec F S4x1024 .f32) (x5 : Vec F S1x1024 .f32) (x6 : Vec F S1x128 .f32) (x7 : Vec F S1x128 .f32) (x8 : Vec F S1x512 .f32) (xs0 : Vec F S16x128x256 .f32) (xs1 : Vec F S16x8x128 .f32) (xs2 : Vec F S4x8x1024 .f32) : View.PiecesOf (stepM x3 x6 x7 xs1) (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 xs2).2.2.1 := by
    unfold kernelRun0_B
    dsimp only
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
    · refine Eq.trans (congrFun (?_ : _ = stM x3 x6 x7 xs1 3 3) x) (stepM_emb x3 x6 x7 xs1 3 3 x)
      unfold stM
      rw [← readAt_ld harg4 x3 (rI _), ← readAt_ld harg4 x3 (rF _), ← readAt_ld harg7 x6 rG1, ← readAt_ld harg8 x7 rG1, ← readAt_ld harg12 xs1 (rM _ _)]
      rfl
    · refine Eq.trans (congrFun (?_ : _ = stM x3 x6 x7 xs1 3 2) x) (stepM_emb x3 x6 x7 xs1 3 2 x)
      unfold stM
      rw [← readAt_ld harg4 x3 (rI _), ← readAt_ld harg4 x3 (rF _), ← readAt_ld harg7 x6 rG1, ← readAt_ld harg8 x7 rG1, ← readAt_ld harg12 xs1 (rM _ _)]
      rfl
    · refine Eq.trans (congrFun (?_ : _ = stM x3 x6 x7 xs1 3 1) x) (stepM_emb x3 x6 x7 xs1 3 1 x)
      unfold stM
      rw [← readAt_ld harg4 x3 (rI _), ← readAt_ld harg4 x3 (rF _), ← readAt_ld harg7 x6 rG1, ← readAt_ld harg8 x7 rG1, ← readAt_ld harg12 xs1 (rM _ _)]
      rfl
    · refine Eq.trans (congrFun (?_ : _ = stM x3 x6 x7 xs1 3 0) x) (stepM_emb x3 x6 x7 xs1 3 0 x)
      unfold stM
      rw [← readAt_ld harg4 x3 (rI _), ← readAt_ld harg4 x3 (rF _), ← readAt_ld harg7 x6 rG1, ← readAt_ld harg8 x7 rG1, ← readAt_ld harg12 xs1 (rM _ _)]
      rfl
    · refine Eq.trans (congrFun (?_ : _ = stM x3 x6 x7 xs1 2 3) x) (stepM_emb x3 x6 x7 xs1 2 3 x)
      unfold stM
      rw [← readAt_ld harg4 x3 (rI _), ← readAt_ld harg4 x3 (rF _), ← readAt_ld harg7 x6 rG1, ← readAt_ld harg8 x7 rG1, ← readAt_ld harg12 xs1 (rM _ _)]
      rfl
    · refine Eq.trans (congrFun (?_ : _ = stM x3 x6 x7 xs1 2 2) x) (stepM_emb x3 x6 x7 xs1 2 2 x)
      unfold stM
      rw [← readAt_ld harg4 x3 (rI _), ← readAt_ld harg4 x3 (rF _), ← readAt_ld harg7 x6 rG1, ← readAt_ld harg8 x7 rG1, ← readAt_ld harg12 xs1 (rM _ _)]
      rfl
    · refine Eq.trans (congrFun (?_ : _ = stM x3 x6 x7 xs1 2 1) x) (stepM_emb x3 x6 x7 xs1 2 1 x)
      unfold stM
      rw [← readAt_ld harg4 x3 (rI _), ← readAt_ld harg4 x3 (rF _), ← readAt_ld harg7 x6 rG1, ← readAt_ld harg8 x7 rG1, ← readAt_ld harg12 xs1 (rM _ _)]
      rfl
    · refine Eq.trans (congrFun (?_ : _ = stM x3 x6 x7 xs1 2 0) x) (stepM_emb x3 x6 x7 xs1 2 0 x)
      unfold stM
      rw [← readAt_ld harg4 x3 (rI _), ← readAt_ld harg4 x3 (rF _), ← readAt_ld harg7 x6 rG1, ← readAt_ld harg8 x7 rG1, ← readAt_ld harg12 xs1 (rM _ _)]
      rfl
    · refine Eq.trans (congrFun (?_ : _ = stM x3 x6 x7 xs1 1 3) x) (stepM_emb x3 x6 x7 xs1 1 3 x)
      unfold stM
      rw [← readAt_ld harg4 x3 (rI _), ← readAt_ld harg4 x3 (rF _), ← readAt_ld harg7 x6 rG1, ← readAt_ld harg8 x7 rG1, ← readAt_ld harg12 xs1 (rM _ _)]
      rfl
    · refine Eq.trans (congrFun (?_ : _ = stM x3 x6 x7 xs1 1 2) x) (stepM_emb x3 x6 x7 xs1 1 2 x)
      unfold stM
      rw [← readAt_ld harg4 x3 (rI _), ← readAt_ld harg4 x3 (rF _), ← readAt_ld harg7 x6 rG1, ← readAt_ld harg8 x7 rG1, ← readAt_ld harg12 xs1 (rM _ _)]
      rfl
    · refine Eq.trans (congrFun (?_ : _ = stM x3 x6 x7 xs1 1 1) x) (stepM_emb x3 x6 x7 xs1 1 1 x)
      unfold stM
      rw [← readAt_ld harg4 x3 (rI _), ← readAt_ld harg4 x3 (rF _), ← readAt_ld harg7 x6 rG1, ← readAt_ld harg8 x7 rG1, ← readAt_ld harg12 xs1 (rM _ _)]
      rfl
    · refine Eq.trans (congrFun (?_ : _ = stM x3 x6 x7 xs1 1 0) x) (stepM_emb x3 x6 x7 xs1 1 0 x)
      unfold stM
      rw [← readAt_ld harg4 x3 (rI _), ← readAt_ld harg4 x3 (rF _), ← readAt_ld harg7 x6 rG1, ← readAt_ld harg8 x7 rG1, ← readAt_ld harg12 xs1 (rM _ _)]
      rfl
    · refine Eq.trans (congrFun (?_ : _ = stM x3 x6 x7 xs1 0 3) x) (stepM_emb x3 x6 x7 xs1 0 3 x)
      unfold stM
      rw [← readAt_ld harg4 x3 (rI _), ← readAt_ld harg4 x3 (rF _), ← readAt_ld harg7 x6 rG1, ← readAt_ld harg8 x7 rG1, ← readAt_ld harg12 xs1 (rM _ _)]
      rfl
    · refine Eq.trans (congrFun (?_ : _ = stM x3 x6 x7 xs1 0 2) x) (stepM_emb x3 x6 x7 xs1 0 2 x)
      unfold stM
      rw [← readAt_ld harg4 x3 (rI _), ← readAt_ld harg4 x3 (rF _), ← readAt_ld harg7 x6 rG1, ← readAt_ld harg8 x7 rG1, ← readAt_ld harg12 xs1 (rM _ _)]
      rfl
    · refine Eq.trans (congrFun (?_ : _ = stM x3 x6 x7 xs1 0 1) x) (stepM_emb x3 x6 x7 xs1 0 1 x)
      unfold stM
      rw [← readAt_ld harg4 x3 (rI _), ← readAt_ld harg4 x3 (rF _), ← readAt_ld harg7 x6 rG1, ← readAt_ld harg8 x7 rG1, ← readAt_ld harg12 xs1 (rM _ _)]
      rfl
    · refine Eq.trans (congrFun (?_ : _ = stM x3 x6 x7 xs1 0 0) x) (stepM_emb x3 x6 x7 xs1 0 0 x)
      unfold stM
      rw [← readAt_ld harg4 x3 (rI _), ← readAt_ld harg4 x3 (rF _), ← readAt_ld harg7 x6 rG1, ← readAt_ld harg8 x7 rG1, ← readAt_ld harg12 xs1 (rM _ _)]
      rfl

/-- Case B: the running maxima after a point. -/
theorem eq_sout0_B_1 (c : Dev nD) (i : grid0.Coords) (arg1 : Memref sig .tc .vmem S4x256x1024 .bf16) (harg1 : arg1.IsWhole) (arg2 : Memref sig .tc .vmem S4x256x512 .bf16) (harg2 : arg2.IsWhole) (arg3 : Memref sig .tc .vmem S4x256x512 .bf16) (harg3 : arg3.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S4x256x512 .bf16) (harg10 : arg10.IsWhole) (arg11 : Memref sig .tc .vmem S16x128x256 .f32) (harg11 : arg11.IsWhole) (arg12 : Memref sig .tc .vmem S16x8x128 .f32) (harg12 : arg12.IsWhole) (arg13 : Memref sig .tc .vmem S4x8x1024 .f32) (harg13 : arg13.IsWhole) (hc0 : ¬cond0_0 i)
    (x0 : Vec F S4x256x1024 .bf16) (x1 : Vec F S4x256x512 .bf16) (x2 : Vec F S4x256x512 .bf16) (x3 : Vec F S4x256x256 .f32) (x4 : Vec F S4x1024 .f32) (x5 : Vec F S1x1024 .f32) (x6 : Vec F S1x128 .f32) (x7 : Vec F S1x128 .f32) (x8 : Vec F S1x512 .f32) (xs0 : Vec F S16x128x256 .f32) (xs1 : Vec F S16x8x128 .f32) (xs2 : Vec F S4x8x1024 .f32) : sout0_B_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 xs2 = stepM x3 x6 x7 xs1 := by
  unfold sout0_B_1
  rw [View.read_writes_junk_eq_canon]
  funext y
  have h := View.canon_append_of_piecesOf _ [] _ (pieces_sout0_B_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 xs2) y (scover0_B_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 xs2 y)
  rwa [List.append_nil] at h

/-- Case B: the stores of the last tokens are the blocks of `stepT`. -/
theorem pieces_sout0_B_2 (c : Dev nD) (i : grid0.Coords) (arg1 : Memref sig .tc .vmem S4x256x1024 .bf16) (harg1 : arg1.IsWhole) (arg2 : Memref sig .tc .vmem S4x256x512 .bf16) (harg2 : arg2.IsWhole) (arg3 : Memref sig .tc .vmem S4x256x512 .bf16) (harg3 : arg3.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S4x256x512 .bf16) (harg10 : arg10.IsWhole) (arg11 : Memref sig .tc .vmem S16x128x256 .f32) (harg11 : arg11.IsWhole) (arg12 : Memref sig .tc .vmem S16x8x128 .f32) (harg12 : arg12.IsWhole) (arg13 : Memref sig .tc .vmem S4x8x1024 .f32) (harg13 : arg13.IsWhole) (hc0 : ¬cond0_0 i)
    (x0 : Vec F S4x256x1024 .bf16) (x1 : Vec F S4x256x512 .bf16) (x2 : Vec F S4x256x512 .bf16) (x3 : Vec F S4x256x256 .f32) (x4 : Vec F S4x1024 .f32) (x5 : Vec F S1x1024 .f32) (x6 : Vec F S1x128 .f32) (x7 : Vec F S1x128 .f32) (x8 : Vec F S1x512 .f32) (xs0 : Vec F S16x128x256 .f32) (xs1 : Vec F S16x8x128 .f32) (xs2 : Vec F S4x8x1024 .f32) : View.PiecesOf (stepT x0) (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 xs2).2.2.2.1 := by
    unfold kernelRun0_B
    dsimp only
    refine ⟨fun x => ?_, fun x => ?_, fun x => ?_, fun x => ?_, trivial⟩
    · refine Eq.trans (congrFun (?_ : _ = stT x0 3) x) (stepT_emb x0 3 x)
      unfold stT
      rw [← readAt_ld harg1 x0 (rX _)]
      rfl
    · refine Eq.trans (congrFun (?_ : _ = stT x0 2) x) (stepT_emb x0 2 x)
      unfold stT
      rw [← readAt_ld harg1 x0 (rX _)]
      rfl
    · refine Eq.trans (congrFun (?_ : _ = stT x0 1) x) (stepT_emb x0 1 x)
      unfold stT
      rw [← readAt_ld harg1 x0 (rX _)]
      rfl
    · refine Eq.trans (congrFun (?_ : _ = stT x0 0) x) (stepT_emb x0 0 x)
      unfold stT
      rw [← readAt_ld harg1 x0 (rX _)]
      rfl

/-- Case B: the last tokens after a point. -/
theorem eq_sout0_B_2 (c : Dev nD) (i : grid0.Coords) (arg1 : Memref sig .tc .vmem S4x256x1024 .bf16) (harg1 : arg1.IsWhole) (arg2 : Memref sig .tc .vmem S4x256x512 .bf16) (harg2 : arg2.IsWhole) (arg3 : Memref sig .tc .vmem S4x256x512 .bf16) (harg3 : arg3.IsWhole) (arg4 : Memref sig .tc .vmem S4x256x256 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S4x256x512 .bf16) (harg10 : arg10.IsWhole) (arg11 : Memref sig .tc .vmem S16x128x256 .f32) (harg11 : arg11.IsWhole) (arg12 : Memref sig .tc .vmem S16x8x128 .f32) (harg12 : arg12.IsWhole) (arg13 : Memref sig .tc .vmem S4x8x1024 .f32) (harg13 : arg13.IsWhole) (hc0 : ¬cond0_0 i)
    (x0 : Vec F S4x256x1024 .bf16) (x1 : Vec F S4x256x512 .bf16) (x2 : Vec F S4x256x512 .bf16) (x3 : Vec F S4x256x256 .f32) (x4 : Vec F S4x1024 .f32) (x5 : Vec F S1x1024 .f32) (x6 : Vec F S1x128 .f32) (x7 : Vec F S1x128 .f32) (x8 : Vec F S1x512 .f32) (xs0 : Vec F S16x128x256 .f32) (xs1 : Vec F S16x8x128 .f32) (xs2 : Vec F S4x8x1024 .f32) : sout0_B_2 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 xs2 = stepT x0 := by
  unfold sout0_B_2
  rw [View.read_writes_junk_eq_canon]
  funext y
  have h := View.canon_append_of_piecesOf _ [] _ (pieces_sout0_B_2 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 xs2) y (scover0_B_2 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 xs2 y)
  rwa [List.append_nil] at h

end Cert.Ml

end
-- ==== Proof.Ml.Kernel.lean ====
module

public import proofs.«01_k».proof.Proof.Ml.Block
public import proofs.«01_k».proof.Proof.Ml.CaseA
public import proofs.«01_k».proof.Proof.Ml.CaseB

@[expose] public section

set_option maxRecDepth 16384

/-!
The kernel's run over the reals: by induction over the grid's points the carried state is the recurrence's, so the array the
kernel leaves is the recurrence's result.
-/

noncomputable section

namespace Cert.Ml

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- The arguments as a memory holds them. -/
def arrK : Arr where
  mqk := m ((c : Thread nD τ).loc main_arg0)
  mv := m ((c : Thread nD τ).loc main_arg1)
  mo := m ((c : Thread nD τ).loc main_arg2)
  gt := m ((c : Thread nD τ).loc main_arg3)
  cw := m ((c : Thread nD τ).loc main_arg4)
  cb := m ((c : Thread nD τ).loc main_arg5)
  bi := m ((c : Thread nD τ).loc main_arg6)
  bf := m ((c : Thread nD τ).loc main_arg7)
  mg := m ((c : Thread nD τ).loc main_arg8)

/-- The windows' block indices at each point. -/
theorem idx : ∀ t : Fin cfg0.N, (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem tlt (t : Fin cfg0.N) : t.val < 32 := lt_of_lt_of_eq t.isLt N_0

/-- A point's blocks are the arrays' windows. -/
theorem blk (t : Fin cfg0.N) : Blk (arrK m c) (256 * t.val) (iblk m c 0 t) (iblk m c 1 t) (iblk m c 2 t) (iblk m c 3 t) (iblk m c 4 t) (iblk m c 5 t) (iblk m c 6 t)
    (iblk m c 7 t) (iblk m c 8 t) where
  lt := by have := tlt t; omega
  e0 b r d := congrArg (m ((c : Thread nD τ).loc main_arg0)) (funext fun a => match a with
    | ⟨0, _⟩ => Fin.ext (by show win0_0.index t (0 : Fin 3) * 4 + 1 * b.val = b.val; rw [(idx t).1.1]; omega)
    | ⟨1, _⟩ => Fin.ext (by show win0_0.index t (1 : Fin 3) * 256 + 1 * r.val = 256 * t.val + r.val; rw [(idx t).1.2.1]; omega)
    | ⟨2, _⟩ => Fin.ext (by show win0_0.index t (2 : Fin 3) * 1024 + 1 * d.val = d.val; rw [(idx t).1.2.2]; omega))
  e1 b r d := congrArg (m ((c : Thread nD τ).loc main_arg1)) (funext fun a => match a with
    | ⟨0, _⟩ => Fin.ext (by show win0_1.index t (0 : Fin 3) * 4 + 1 * b.val = b.val; rw [(idx t).2.1.1]; omega)
    | ⟨1, _⟩ => Fin.ext (by show win0_1.index t (1 : Fin 3) * 256 + 1 * r.val = 256 * t.val + r.val; rw [(idx t).2.1.2.1]; omega)
    | ⟨2, _⟩ => Fin.ext (by show win0_1.index t (2 : Fin 3) * 512 + 1 * d.val = d.val; rw [(idx t).2.1.2.2]; omega))
  e2 b r d := congrArg (m ((c : Thread nD τ).loc main_arg2)) (funext fun a => match a with
    | ⟨0, _⟩ => Fin.ext (by show win0_2.index t (0 : Fin 3) * 4 + 1 * b.val = b.val; rw [(idx t).2.2.1.1]; omega)
    | ⟨1, _⟩ => Fin.ext (by show win0_2.index t (1 : Fin 3) * 256 + 1 * r.val = 256 * t.val + r.val; rw [(idx t).2.2.1.2.1]; omega)
    | ⟨2, _⟩ => Fin.ext (by show win0_2.index t (2 : Fin 3) * 512 + 1 * d.val = d.val; rw [(idx t).2.2.1.2.2]; omega))
  e3 b r d := congrArg (m ((c : Thread nD τ).loc main_arg3)) (funext fun a => match a with
    | ⟨0, _⟩ => Fin.ext (by show win0_3.index t (0 : Fin 3) * 4 + 1 * b.val = b.val; rw [(idx t).2.2.2.1.1]; omega)
    | ⟨1, _⟩ => Fin.ext (by show win0_3.index t (1 : Fin 3) * 256 + 1 * r.val = 256 * t.val + r.val; rw [(idx t).2.2.2.1.2.1]; omega)
    | ⟨2, _⟩ => Fin.ext (by show win0_3.index t (2 : Fin 3) * 256 + 1 * d.val = d.val; rw [(idx t).2.2.2.1.2.2]; omega))
  e4 j d := congrArg (m ((c : Thread nD τ).loc main_arg4)) (funext fun a => match a with
    | ⟨0, _⟩ => Fin.ext (by show win0_4.index t (0 : Fin 2) * 4 + 1 * j.val = j.val; rw [(idx t).2.2.2.2.1.1]; omega)
    | ⟨1, _⟩ => Fin.ext (by show win0_4.index t (1 : Fin 2) * 1024 + 1 * d.val = d.val; rw [(idx t).2.2.2.2.1.2]; omega))
  e5 d := congrArg (m ((c : Thread nD τ).loc main_arg5)) (funext fun a => match a with
    | ⟨0, _⟩ => Fin.ext (by show win0_5.index t (0 : Fin 2) * 1 + 1 * 0 = 0; rw [(idx t).2.2.2.2.2.1.1])
    | ⟨1, _⟩ => Fin.ext (by show win0_5.index t (1 : Fin 2) * 1024 + 1 * d.val = d.val; rw [(idx t).2.2.2.2.2.1.2]; omega))
  e6 d := congrArg (m ((c : Thread nD τ).loc main_arg6)) (funext fun a => match a with
    | ⟨0, _⟩ => Fin.ext (by show win0_6.index t (0 : Fin 2) * 1 + 1 * 0 = 0; rw [(idx t).2.2.2.2.2.2.1.1])
    | ⟨1, _⟩ => Fin.ext (by show win0_6.index t (1 : Fin 2) * 128 + 1 * d.val = d.val; rw [(idx t).2.2.2.2.2.2.1.2]; omega))
  e7 d := congrArg (m ((c : Thread nD τ).loc main_arg7)) (funext fun a => match a with
    | ⟨0, _⟩ => Fin.ext (by show win0_7.index t (0 : Fin 2) * 1 + 1 * 0 = 0; rw [(idx t).2.2.2.2.2.2.2.1.1])
    | ⟨1, _⟩ => Fin.ext (by show win0_7.index t (1 : Fin 2) * 128 + 1 * d.val = d.val; rw [(idx t).2.2.2.2.2.2.2.1.2]; omega))
  e8 d := congrArg (m ((c : Thread nD τ).loc main_arg8)) (funext fun a => match a with
    | ⟨0, _⟩ => Fin.ext (by show win0_8.index t (0 : Fin 2) * 1 + 1 * 0 = 0; rw [(idx t).2.2.2.2.2.2.2.2.1])
    | ⟨1, _⟩ => Fin.ext (by show win0_8.index t (1 : Fin 2) * 512 + 1 * d.val = d.val; rw [(idx t).2.2.2.2.2.2.2.2.2]; omega))

/-- What a point leaves over a carried state. -/
def stp (t : Fin cfg0.N) (cs : Vec Ideal S16x128x256 .f32) (ms : Vec Ideal S16x8x128 .f32) (ts : Vec Ideal S4x8x1024 .f32) :
    Vec Ideal S4x256x512 .bf16 × Vec Ideal S16x128x256 .f32 × Vec Ideal S16x8x128 .f32 × Vec Ideal S4x8x1024 .f32 :=
  (stepO (iblk m c 0 t) (iblk m c 1 t) (iblk m c 2 t) (iblk m c 3 t) (iblk m c 4 t) (iblk m c 5 t) (iblk m c 6 t) (iblk m c 7 t) (iblk m c 8 t) cs ms ts,
    stepC (iblk m c 0 t) (iblk m c 1 t) (iblk m c 3 t) (iblk m c 4 t) (iblk m c 5 t) (iblk m c 6 t) (iblk m c 7 t) cs ms ts,
    stepM (iblk m c 3 t) (iblk m c 6 t) (iblk m c 7 t) ms, stepT (iblk m c 0 t))

/-- The first point runs over zeros. -/
theorem outs_A (t : Fin cfg0.N) (h0 : t.val % 32 = 0) : outsAt0 m c t.val t.isLt = stp m c t (k0_pay2 (F := Ideal)) (k0_pay3 (F := Ideal)) (k0_pay4 (F := Ideal)) := by
  rw [outsAt0_A m c t h0, eq_out0_A_9, eq_sout0_A_0, eq_sout0_A_1, eq_sout0_A_2]
  rfl

/-- A later point runs over what the point before left. -/
theorem outs_B (t : Fin cfg0.N) (h0 : ¬t.val % 32 = 0) : outsAt0 m c t.val t.isLt
    = stp m c t (outsAt0 m c (t.val - 1) (Nat.lt_of_le_of_lt (Nat.sub_le _ _) t.isLt)).2.1 (outsAt0 m c (t.val - 1) (Nat.lt_of_le_of_lt (Nat.sub_le _ _) t.isLt)).2.2.1
        (outsAt0 m c (t.val - 1) (Nat.lt_of_le_of_lt (Nat.sub_le _ _) t.isLt)).2.2.2 := by
  rw [outsAt0_B m c t h0, eq_out0_B_9, eq_sout0_B_0, eq_sout0_B_1, eq_sout0_B_2]
  rfl

variable (hA : (arrK m c).Real)
include hA

/-- Each point runs over the recurrence's state at its first token. -/
theorem outs_inv : ∀ (n : ℕ) (hn : n < cfg0.N), ∃ cs ms ts, Inv (arrK m c) (256 * n) cs ms ts ∧ outsAt0 m c n hn = stp m c ⟨n, hn⟩ cs ms ts
  | 0, hn => ⟨_, _, _, inv_zero, outs_A m c ⟨0, hn⟩ rfl⟩
  | n + 1, hn => by
    obtain ⟨cs, ms, ts, I, e⟩ := outs_inv n (by omega)
    have hlt : n + 1 < 32 := tlt ⟨n + 1, hn⟩
    have I' := inv_step hA (blk m c ⟨n, by omega⟩) I
    have eB := outs_B m c ⟨n + 1, hn⟩ (by show ¬ (n + 1) % 32 = 0; omega)
    simp only [Nat.add_sub_cancel] at eB
    rw [e] at eB
    exact ⟨_, _, _, I', eB⟩

/-- The kernel's array is the recurrence's result. -/
theorem kernel_val : (G9 m c : S4x8192x512.Idx → EReal) = res (arrK m c) := by
  funext y
  have l0 : (y 0).val < 4 := (y 0).isLt
  have l1 : (y 1).val < 8192 := (y 1).isLt
  have l2 : (y 2).val < 512 := (y 2).isLt
  have hp : pt9Of y = (y 1).val / 256 := by show 32 * ((y 0).val / 4 - 0) + 1 * ((y 1).val / 256 - 0) + 1 * ((y 2).val / 512 - 0) = _; omega
  have hN : pt9Of y < cfg0.N := by rw [hp]; exact lt_of_lt_of_eq (by omega) N_0.symm
  have e : (G9 m c : S4x8192x512.Idx → EReal) y = (outsAt0 m c (pt9Of y) hN).1 (loc9Of y) := by
    rw [outsAt0_sweep]
    unfold G9
    rw [dif_pos hN]
  rw [e]
  obtain ⟨cs, ms, ts, I, eq⟩ := outs_inv m c hA (pt9Of y) hN
  rw [eq]
  have hy : loc9Of y = ix3 (⟨(y 0).val % 4, Nat.mod_lt _ (by decide)⟩ : Fin 4) (⟨(y 1).val % 256, Nat.mod_lt _ (by decide)⟩ : Fin 256) (⟨(y 2).val % 512, Nat.mod_lt _ (by decide)⟩ : Fin 512) := by
    funext a; match a with
    | ⟨0, _⟩ => rfl
    | ⟨1, _⟩ => rfl
    | ⟨2, _⟩ => rfl
  rw [hy]
  refine (stepO_val hA (blk m c ⟨pt9Of y, hN⟩) I _ _ _).trans (congrArg (res (arrK m c)) ?_)
  funext a; match a with
  | ⟨0, _⟩ => exact Fin.ext (by show (y 0).val % 4 = (y 0).val; omega)
  | ⟨1, _⟩ => exact Fin.ext (by show 256 * pt9Of y + (y 1).val % 256 = (y 1).val; rw [hp]; omega)
  | ⟨2, _⟩ => exact Fin.ext (by show (y 2).val % 512 = (y 2).val; omega)

end Cert.Ml

end
-- ==== Proof.Ml.Pre.lean ====
module

public import proofs.«01_k».proof.Proof.Ml.Kernel
public import proofs.«01_k».proof.Proof.Gen.Pre_inputs_finite
public import proofs.«01_k».proof.Defs
public import Idealize.ShloMosaic.Lib.ReduceAll
public import Idealize.ShloMosaic.Lib.Pointwise

@[expose] public section

set_option maxRecDepth 16384

/-!
The precondition read back: it makes every entry the recurrence reads a real number.
-/

noncomputable section

namespace Cert.Pre

open Cert.Pre_inputs_finite Cert.Pre_inputs_finite.Gen Idealize.ShloMosaic Idealize.SL.Sem Cert.Ml

/-- An extended real whose size is under the infinity's word is a real number. -/
theorem real_of_lt (x : EReal) (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hl : max (x : EReal) (-(x : EReal)) < ⊤ := by
    by_contra hn
    simp [Ideal.cmp, hn] at h'
  refine (EReal.coe_toReal ?_ ?_).symm
  · rintro rfl
    simp at hl
  · rintro rfl
    simp at hl

/-- A check that came out 1 met only real entries. -/
theorem real_all {s : Shape} {axes : List (Fin s.rank)} [Subsingleton S_.Idx] (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32))) (constantI S_ 1 1#1) h hu j = 1#1) (i : s.Idx) :
    (x i : EReal) = (((x i : EReal).toReal : ℝ) : EReal) :=
  real_of_lt _ (Host.reduce_andi_all _ _ h hu j e i)

/-- The first four gate columns at an index. -/
theorem slice3_0 (x : S4x8192x256.Idx → EReal) (h) (b : Fin 4) (t : Fin 8192) (k : Fin 4) :
    extractStridedSlice (α := EReal) S4x8192x4 ![0, 0, 0] x h (ix3 b t k) = x (ix3 b t ⟨k.val, by omega⟩) := by
  refine congrArg x (funext fun i => Fin.ext ?_)
  match i with
  | 0 => exact Nat.zero_add _
  | 1 => exact Nat.zero_add _
  | 2 => exact Nat.zero_add _

/-- The gate columns 128 … 131 at an index. -/
theorem slice3_128 (x : S4x8192x256.Idx → EReal) (h) (b : Fin 4) (t : Fin 8192) (k : Fin 4) :
    extractStridedSlice (α := EReal) S4x8192x4 ![0, 0, 128] x h (ix3 b t k) = x (ix3 b t ⟨128 + k.val, by omega⟩) := by
  refine congrArg x (funext fun i => Fin.ext ?_)
  match i with
  | 0 => exact Nat.zero_add _
  | 1 => exact Nat.zero_add _
  | 2 => rfl

/-- The first four biases at an index. -/
theorem slice2 (x : S1x128.Idx → EReal) (h) (k : Fin 4) :
    extractStridedSlice (α := EReal) S1x4 ![0, 0] x h (ix2 0 k) = x (ix2 0 ⟨k.val, by omega⟩) := by
  refine congrArg x (funext fun i => Fin.ext ?_)
  match i with
  | 0 => rfl
  | 1 => exact Nat.zero_add _

/-- The precondition makes the arrays real where the recurrence reads them. -/
theorem arr_real (m : (ℓ : Loc Cert.KernelIdeal.nD Cert.KernelIdeal.τ Cert.KernelIdeal.sig) → Buf (Elt Ideal) ℓ)
    (h : Pre_KernelIdeal_inputs_finite (hPre_inputs_finite := facts) m) (c : Dev Cert.KernelIdeal.nD) : (arrK m c).Real := by
  haveI : Subsingleton S_.Idx := ⟨fun a b => funext fun i => i.elim0⟩
  have e := congrFun (h c) (fun i => i.elim0)
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  constructor
  · exact fun b t k => real_all (s := S4x8192x1024) (m ((c.tc : Thread Cert.KernelIdeal.nD Cert.KernelIdeal.τ).loc Cert.KernelIdeal.main_arg0)) _ _ _ _ h0 (ix3 b t k)
  · exact fun b t k => real_all (s := S4x8192x512) (m ((c.tc : Thread Cert.KernelIdeal.nD Cert.KernelIdeal.τ).loc Cert.KernelIdeal.main_arg1)) _ _ _ _ h1 (ix3 b t k)
  · intro b t k
    have e := real_all _ _ _ _ _ h2 (ix3 b t k)
    dsimp only at e
    rw [slice3_0] at e
    exact e
  · intro b t k
    have e := real_all _ _ _ _ _ h3 (ix3 b t k)
    dsimp only at e
    rw [slice3_128] at e
    exact e
  · exact fun b t => real_all _ _ _ _ _ h4 (ix2 b t)
  · exact fun t => real_all _ _ _ _ _ h5 (ix2 0 t)
  · intro t
    have e := real_all _ _ _ _ _ h6 (ix2 0 t)
    dsimp only at e
    rw [slice2] at e
    exact e
  · intro t
    have e := real_all _ _ _ _ _ h7 (ix2 0 t)
    dsimp only at e
    rw [slice2] at e
    exact e

end Cert.Pre

end
-- ==== Proof.Ml.RefMove.lean ====
module

public import proofs.«01_k».proof.Proof.RefStep
public import proofs.«01_k».proof.Proof.Ml.Data
public import Idealize.ShloMosaic.Lib.Pointwise

@[expose] public section

set_option maxRecDepth 16384

/-!
What the reference's scan reads and writes: a chunk of each stacked array, and the running sum of a chunk's log forget gates.
-/

noncomputable section

namespace Cert.RefVal

open Cert.ReferenceIdeal Cert.ReferenceIdeal.Gen Cert.ReferenceIdeal.Step Idealize.ShloMosaic Idealize.SL.Sem Finset

/-- The word of a chunk's number, read signed, is the number. -/
theorem toInt_word {j : ℕ} (hj : j < 128) : (BitVec.ofNat 32 j).toInt = (j : ℤ) := WordCmp.toInt_ofNat_of_lt (by omega)

/-- Chunk `j` of a stacked array of rows. -/
theorem slice5 (x : S128x4x4x64x128.Idx → EReal) (st : Fin 5 → ℤ) (hs : S128x4x4x64x128.Slices (fun _ => 0) S1x4x4x64x128)
    {j : ℕ} (hj : j < 128) (h0 : st 0 = j) (h1 : st 1 = 0) (h2 : st 2 = 0) (h3 : st 3 = 0) (h4 : st 4 = 0)
    (b h : Fin 4) (i : Fin 64) (e : Fin 128) :
    Host.dynamicSlice S1x4x4x64x128 x st hs (ix5 0 b h i e) = x (ix5 ⟨j, hj⟩ b h i e) := by
  have e0 := Host.clampedStart_of_le (s := S128x4x4x64x128) (t := S1x4x4x64x128) hs.1 st 0 j h0 (by show j + 1 ≤ 128; omega)
  have e1 := Host.clampedStart_of_le (s := S128x4x4x64x128) (t := S1x4x4x64x128) hs.1 st 1 0 h1 (Nat.zero_add _).le
  have e2 := Host.clampedStart_of_le (s := S128x4x4x64x128) (t := S1x4x4x64x128) hs.1 st 2 0 h2 (Nat.zero_add _).le
  have e3 := Host.clampedStart_of_le (s := S128x4x4x64x128) (t := S1x4x4x64x128) hs.1 st 3 0 h3 (Nat.zero_add _).le
  have e4 := Host.clampedStart_of_le (s := S128x4x4x64x128) (t := S1x4x4x64x128) hs.1 st 4 0 h4 (Nat.zero_add _).le
  rw [Host.dynamicSlice_apply]
  congr 1
  funext a
  match a with
  | ⟨0, _⟩ => exact Fin.ext ((congrArg (· + 0) e0).trans (Nat.add_zero _))
  | ⟨1, _⟩ => exact Fin.ext ((congrArg (· + b.val) e1).trans (Nat.zero_add _))
  | ⟨2, _⟩ => exact Fin.ext ((congrArg (· + h.val) e2).trans (Nat.zero_add _))
  | ⟨3, _⟩ => exact Fin.ext ((congrArg (· + i.val) e3).trans (Nat.zero_add _))
  | ⟨4, _⟩ => exact Fin.ext ((congrArg (· + e.val) e4).trans (Nat.zero_add _))

/-- Chunk `j` of a stacked array of gates. -/
theorem slice4 (x : S128x4x4x64.Idx → EReal) (st : Fin 4 → ℤ) (hs : S128x4x4x64.Slices (fun _ => 0) S1x4x4x64)
    {j : ℕ} (hj : j < 128) (h0 : st 0 = j) (h1 : st 1 = 0) (h2 : st 2 = 0) (h3 : st 3 = 0)
    (b h : Fin 4) (i : Fin 64) :
    Host.dynamicSlice S1x4x4x64 x st hs (ix4 0 b h i) = x (ix4 ⟨j, hj⟩ b h i) := by
  have e0 := Host.clampedStart_of_le (s := S128x4x4x64) (t := S1x4x4x64) hs.1 st 0 j h0 (by show j + 1 ≤ 128; omega)
  have e1 := Host.clampedStart_of_le (s := S128x4x4x64) (t := S1x4x4x64) hs.1 st 1 0 h1 (Nat.zero_add _).le
  have e2 := Host.clampedStart_of_le (s := S128x4x4x64) (t := S1x4x4x64) hs.1 st 2 0 h2 (Nat.zero_add _).le
  have e3 := Host.clampedStart_of_le (s := S128x4x4x64) (t := S1x4x4x64) hs.1 st 3 0 h3 (Nat.zero_add _).le
  rw [Host.dynamicSlice_apply]
  congr 1
  funext a
  match a with
  | ⟨0, _⟩ => exact Fin.ext ((congrArg (· + 0) e0).trans (Nat.add_zero _))
  | ⟨1, _⟩ => exact Fin.ext ((congrArg (· + b.val) e1).trans (Nat.zero_add _))
  | ⟨2, _⟩ => exact Fin.ext ((congrArg (· + h.val) e2).trans (Nat.zero_add _))
  | ⟨3, _⟩ => exact Fin.ext ((congrArg (· + i.val) e3).trans (Nat.zero_add _))

/-- A chunk written into the stacked outputs: chunk `j` is the new one, the others stay. -/
theorem update5 (x : S128x4x4x64x128.Idx → EReal) (u : S1x4x4x64x128.Idx → EReal) (st : Fin 5 → ℤ) (hs : S128x4x4x64x128.Slices (fun _ => 0) S1x4x4x64x128)
    {j : ℕ} (hj : j < 128) (h0 : st 0 = j) (h1 : st 1 = 0) (h2 : st 2 = 0) (h3 : st 3 = 0) (h4 : st 4 = 0)
    (c : Fin 128) (b h : Fin 4) (i : Fin 64) (e : Fin 128) :
    Host.dynamicUpdateSlice x u st hs (ix5 c b h i e) = if c.val = j then u (ix5 0 b h i e) else x (ix5 c b h i e) := by
  have e0 := Host.clampedStart_of_le (s := S128x4x4x64x128) (t := S1x4x4x64x128) hs.1 st 0 j h0 (by show j + 1 ≤ 128; omega)
  have e1 := Host.clampedStart_of_le (s := S128x4x4x64x128) (t := S1x4x4x64x128) hs.1 st 1 0 h1 (Nat.zero_add _).le
  have e2 := Host.clampedStart_of_le (s := S128x4x4x64x128) (t := S1x4x4x64x128) hs.1 st 2 0 h2 (Nat.zero_add _).le
  have e3 := Host.clampedStart_of_le (s := S128x4x4x64x128) (t := S1x4x4x64x128) hs.1 st 3 0 h3 (Nat.zero_add _).le
  have e4 := Host.clampedStart_of_le (s := S128x4x4x64x128) (t := S1x4x4x64x128) hs.1 st 4 0 h4 (Nat.zero_add _).le
  rw [Host.dynamicUpdateSlice_apply]
  by_cases hc : c.val = j
  · rw [if_pos hc, dif_pos]
    · congr 1
      funext a
      match a with
      | ⟨0, _⟩ => exact Fin.ext ((congrArg (c.val - ·) e0).trans (by rw [hc]; exact Nat.sub_self _))
      | ⟨1, _⟩ => exact Fin.ext (congrArg (b.val - ·) e1)
      | ⟨2, _⟩ => exact Fin.ext (congrArg (h.val - ·) e2)
      | ⟨3, _⟩ => exact Fin.ext (congrArg (i.val - ·) e3)
      | ⟨4, _⟩ => exact Fin.ext (congrArg (e.val - ·) e4)
    · intro a
      match a with
      | ⟨0, _⟩ => exact ⟨e0.le.trans hc.ge, lt_of_eq_of_lt hc (lt_of_lt_of_eq (Nat.lt_succ_self j) (congrArg (· + 1) e0.symm))⟩
      | ⟨1, _⟩ => exact ⟨e1.le.trans (Nat.zero_le _), lt_of_lt_of_eq b.isLt ((Nat.zero_add 4).symm.trans (congrArg (· + 4) e1.symm))⟩
      | ⟨2, _⟩ => exact ⟨e2.le.trans (Nat.zero_le _), lt_of_lt_of_eq h.isLt ((Nat.zero_add 4).symm.trans (congrArg (· + 4) e2.symm))⟩
      | ⟨3, _⟩ => exact ⟨e3.le.trans (Nat.zero_le _), lt_of_lt_of_eq i.isLt ((Nat.zero_add 64).symm.trans (congrArg (· + 64) e3.symm))⟩
      | ⟨4, _⟩ => exact ⟨e4.le.trans (Nat.zero_le _), lt_of_lt_of_eq e.isLt ((Nat.zero_add 128).symm.trans (congrArg (· + 128) e4.symm))⟩
  · rw [if_neg hc, dif_neg]
    intro hin
    have q := hin 0
    rw [e0] at q
    exact hc (Nat.le_antisymm (Nat.lt_succ_iff.mp q.2) q.1)

variable {j : ℕ} (hj : j < 128) (s : State Ideal)

/-- The chunk's queries. -/
theorem b5_at (b h : Fin 4) (i : Fin 64) (e : Fin 128) : b5 j s (ix4 b h i e) = s.main_v88_0 (ix5 ⟨j, hj⟩ b h i e) := by
  have q : b5 j s (ix4 b h i e) = b4 j s (ix5 0 b h i e) := by pointwise [b5]
  exact q.trans (slice5 _ _ _ hj (toInt_word hj) rfl rfl rfl rfl b h i e)

/-- The chunk's keys. -/
theorem b11_at (b h : Fin 4) (i : Fin 64) (e : Fin 128) : b11 j s (ix4 b h i e) = s.main_v88_1 (ix5 ⟨j, hj⟩ b h i e) := by
  have q : b11 j s (ix4 b h i e) = b10 j s (ix5 0 b h i e) := by pointwise [b11]
  exact q.trans (slice5 _ _ _ hj (toInt_word hj) rfl rfl rfl rfl b h i e)

/-- The chunk's values. -/
theorem b17_at (b h : Fin 4) (i : Fin 64) (e : Fin 128) : b17 j s (ix4 b h i e) = s.main_v88_2 (ix5 ⟨j, hj⟩ b h i e) := by
  have q : b17 j s (ix4 b h i e) = b16 j s (ix5 0 b h i e) := by pointwise [b17]
  exact q.trans (slice5 _ _ _ hj (toInt_word hj) rfl rfl rfl rfl b h i e)

/-- The chunk's log forget gates. -/
theorem b22_at (b h : Fin 4) (i : Fin 64) : b22 j s (ix3 b h i) = s.main_v88_3 (ix4 ⟨j, hj⟩ b h i) := by
  have q : b22 j s (ix3 b h i) = b21 j s (ix4 0 b h i) := by pointwise [b22]
  exact q.trans (slice4 _ _ _ hj (toInt_word hj) rfl rfl rfl b h i)

/-- The chunk's input gates. -/
theorem b27_at (b h : Fin 4) (i : Fin 64) : b27 j s (ix3 b h i) = s.main_v88_4 (ix4 ⟨j, hj⟩ b h i) := by
  have q : b27 j s (ix3 b h i) = b26 j s (ix4 0 b h i) := by pointwise [b27]
  exact q.trans (slice4 _ _ _ hj (toInt_word hj) rfl rfl rfl b h i)

include hj in
/-- The stacked outputs after a trip. -/
theorem b122_at (c : Fin 128) (b h : Fin 4) (i : Fin 64) (e : Fin 128) :
    b122 j s (ix5 c b h i e) = if c.val = j then b80 j s (ix4 b h i e) else s.main_v88_9 (ix5 c b h i e) := by
  have q : b117 j s (ix5 0 b h i e) = b80 j s (ix4 b h i e) := by pointwise [b117]
  refine (update5 _ (b117 j s) _ _ hj (toInt_word hj) rfl rfl rfl rfl c b h i e).trans ?_
  rw [q]

/-- A left fold of sums is the sum. -/
theorem foldl_sum {N : ℕ} (f : Fin N → EReal) (v : EReal) : (List.finRange N).foldl (fun r n => r + f n) v = v + ∑ n, f n := by
  have h : ∀ (L : List (Fin N)) (v : EReal), L.foldl (fun r n => r + f n) v = v + (L.map f).sum := by
    intro L
    induction L with
    | nil => intro v; simp
    | cons a L ih => intro v; rw [List.foldl_cons, ih, List.map_cons, List.sum_cons, add_assoc]
  rw [h, Fin.sum_univ_def]

/-- A window that ends at `i`, as a sum over its places. -/
theorem window_sum (f : ℕ → ℝ) (i : Fin 64) : (∑ u : Fin 64, if 63 ≤ i.val + u.val then f (i.val + u.val - 63) else 0) = ∑ r ∈ range (i.val + 1), f r := by
  have := i.isLt
  rw [Fin.sum_univ_eq_sum_range (fun u => if 63 ≤ i.val + u then f (i.val + u - 63) else 0) 64, ← sum_filter,
    show (range 64).filter (fun u => 63 ≤ i.val + u) = Ico (63 - i.val) 64 by ext u; simp only [mem_filter, mem_range, mem_Ico]; omega,
    sum_Ico_eq_sum_range, show 64 - (63 - i.val) = i.val + 1 by omega]
  refine sum_congr rfl fun r _ => congrArg f ?_
  omega

/-- One place of a window that ends at `i`. -/
def winF (f : ℕ → ℝ) (i : Fin 64) (y : (⟨3, ![1, 1, 64]⟩ : Shape).Idx) : EReal :=
  if 63 ≤ i.val + (y 2).val then ((f (i.val + (y 2).val - 63) : ℝ) : EReal) else 0

/-- The running sum along a chunk. -/
theorem cumsum_at (x : S4x4x64.Idx → EReal) (v : S_.Idx → EReal) (hw : S4x4x64.ReduceWindows ![1, 1, 64] ![1, 1, 1] ![0, 0, 63] ![0, 0, 0] S4x4x64)
    (hu : 0 < S_.numel) (hv : v (Shape.Idx.first hu) = 0) (f : ℕ → ℝ) (b h : Fin 4) (hx : ∀ r : Fin 64, x (ix3 b h r) = ((f r.val : ℝ) : EReal)) (i : Fin 64) :
    Host.reduceWindowAdd (F := Ideal) (φ := .f32) ![1, 1, 64] ![1, 1, 1] ![0, 0, 63] ![0, 0, 0] x v hw hu (ix3 b h i)
      = ((∑ r ∈ range (i.val + 1), f r : ℝ) : EReal) := by
  unfold Host.reduceWindowAdd
  rw [Ideal.hostReduceWindowAdd_def]
  unfold Ideal.hostReduceWindowAdd Host.reduceWindow
  refine (foldl_sum _ _).trans ?_
  rw [hv, zero_add]
  refine (sum_congr rfl (g := fun n => winF f i ((Shape.rowMajor ⟨3, ![1, 1, 64]⟩).symm n)) fun n _ => ?_).trans ?_
  · have y0 : ((Shape.rowMajor ⟨3, ![1, 1, 64]⟩).symm n 0).val = 0 := Nat.lt_one_iff.mp ((Shape.rowMajor ⟨3, ![1, 1, 64]⟩).symm n 0).isLt
    have y1 : ((Shape.rowMajor ⟨3, ![1, 1, 64]⟩).symm n 1).val = 0 := Nat.lt_one_iff.mp ((Shape.rowMajor ⟨3, ![1, 1, 64]⟩).symm n 1).isLt
    have y2 : ((Shape.rowMajor ⟨3, ![1, 1, 64]⟩).symm n 2).val < 64 := ((Shape.rowMajor ⟨3, ![1, 1, 64]⟩).symm n 2).isLt
    unfold winF
    by_cases c : 63 ≤ i.val + ((Shape.rowMajor ⟨3, ![1, 1, 64]⟩).symm n 2).val
    · refine Eq.trans (dif_pos ?_) ((congrArg x ?_).trans ((hx ⟨i.val + ((Shape.rowMajor ⟨3, ![1, 1, 64]⟩).symm n 2).val - 63, by omega⟩).trans (if_pos c).symm))
      · intro a
        match a with
        | ⟨0, _⟩ => exact ⟨Nat.zero_le _, by show b.val * 1 + ((Shape.rowMajor ⟨3, ![1, 1, 64]⟩).symm n 0).val - 0 < 4; omega⟩
        | ⟨1, _⟩ => exact ⟨Nat.zero_le _, by show h.val * 1 + ((Shape.rowMajor ⟨3, ![1, 1, 64]⟩).symm n 1).val - 0 < 4; omega⟩
        | ⟨2, _⟩ => exact ⟨by show 63 ≤ i.val * 1 + ((Shape.rowMajor ⟨3, ![1, 1, 64]⟩).symm n 2).val; omega, by show i.val * 1 + ((Shape.rowMajor ⟨3, ![1, 1, 64]⟩).symm n 2).val - 63 < 64; omega⟩
      · funext a
        match a with
        | ⟨0, _⟩ => exact Fin.ext (by show b.val * 1 + ((Shape.rowMajor ⟨3, ![1, 1, 64]⟩).symm n 0).val - 0 = b.val; omega)
        | ⟨1, _⟩ => exact Fin.ext (by show h.val * 1 + ((Shape.rowMajor ⟨3, ![1, 1, 64]⟩).symm n 1).val - 0 = h.val; omega)
        | ⟨2, _⟩ => exact Fin.ext (by show i.val * 1 + ((Shape.rowMajor ⟨3, ![1, 1, 64]⟩).symm n 2).val - 63 = i.val + ((Shape.rowMajor ⟨3, ![1, 1, 64]⟩).symm n 2).val - 63; omega)
    · refine Eq.trans (dif_neg ?_) (if_neg c).symm
      intro hin
      have q : 63 ≤ i.val * 1 + ((Shape.rowMajor ⟨3, ![1, 1, 64]⟩).symm n 2).val := (hin 2).1
      omega
  refine (Equiv.sum_comp (Shape.rowMajor ⟨3, ![1, 1, 64]⟩).symm (winF f i)).trans ((sum_idx3 _).trans ?_)
  rw [Fin.sum_univ_one, Fin.sum_univ_one, ← window_sum f i, ← Cert.Ml.coe_sum]
  refine sum_congr rfl fun u _ => ?_
  show (if 63 ≤ i.val + u.val then ((f (i.val + u.val - 63) : ℝ) : EReal) else 0) = _
  split <;> simp

include hj in
/-- The running sum of the chunk's log forget gates. -/
theorem b30_at (f : ℕ → ℝ) (b h : Fin 4) (hx : ∀ r : Fin 64, s.main_v88_3 (ix4 ⟨j, hj⟩ b h r) = ((f r.val : ℝ) : EReal)) (i : Fin 64) :
    b30 j s (ix3 b h i) = ((∑ r ∈ range (i.val + 1), f r : ℝ) : EReal) :=
  cumsum_at _ _ _ _ (Ideal.ofBits_zero .f32) f b h (fun r => (b22_at hj s b h r).trans (hx r)) i

end Cert.RefVal

end
-- ==== Proof.Ml.RefTrip.lean ====
module

public import proofs.«01_k».proof.Proof.Ml.RefMove

@[expose] public section

set_option maxRecDepth 16384

/-!
One trip of the reference's scan, entry by entry, and what it does to the state.
-/

noncomputable section

namespace Cert.RefVal

open Cert.ReferenceIdeal Cert.ReferenceIdeal.Gen Cert.ReferenceIdeal.Step Idealize.ShloMosaic Idealize.SL.Sem Finset

variable {j : ℕ} (hj : j < 128) (s : State Ideal)

/-- The scores. -/
theorem p57 (b h : Fin 4) (i x : Fin 64) : b57 j s (ix4 b h i x) = ∑ d : Fin 128, b5 j s (ix4 b h i d) * b11 j s (ix4 b h x d) := by
  pointwise [b57]

/-- The masked decays. -/
theorem p51 (b h : Fin 4) (i x : Fin 64) : b51 j s (ix4 b h i x)
    = Scalar.select (IntOp.cmpi .sge (BitVec.ofNat 32 i.val) (BitVec.ofNat 32 x.val)) (b30 j s (ix3 b h i) - b30 j s (ix3 b h x) + b27 j s (ix3 b h x)) (Ideal.ofBits .f32 4286578688#32) := by
  pointwise [b51, b50, b49, b48, b47, b46, b45, b44, b43, b42, b41, b40, b39, b38, b37, b36]

/-- The row's stabiliser. -/
theorem p54 (b h : Fin 4) (i : Fin 64) : b54 j s (ix3 b h i)
    = max (b30 j s (ix3 b h i) + s.main_v88_8 (ix2 b h)) (univ.fold max (Ideal.ofBits .f32 4286578688#32) fun x : Fin 64 => b51 j s (ix4 b h i x)) := by
  pointwise [b54, b53, b52, b35, b34, b33]

/-- The old state's weight in a row. -/
theorem p56 (b h : Fin 4) (i : Fin 64) : b56 j s (ix3 b h i) = Ideal.exp (b30 j s (ix3 b h i) + s.main_v88_8 (ix2 b h) - b54 j s (ix3 b h i)) := by
  pointwise [b56, b55, b35, b34, b33]

/-- The decayed scores. -/
theorem p62 (b h : Fin 4) (i x : Fin 64) : b62 j s (ix4 b h i x) = b57 j s (ix4 b h i x) * Ideal.exp (b51 j s (ix4 b h i x) - b54 j s (ix3 b h i)) := by
  pointwise [b62, b61, b60, b59, b58]

/-- The chunk's output. -/
theorem p80 (b h : Fin 4) (i : Fin 64) (e : Fin 128) : b80 j s (ix4 b h i e)
    = Ideal.div ((∑ x : Fin 64, b62 j s (ix4 b h i x) * b17 j s (ix4 b h x e)) + b56 j s (ix3 b h i) * ∑ d : Fin 128, b5 j s (ix4 b h i d) * s.main_v88_6 (ix4 b h e d))
        (max (FloatOps.absf (F := Ideal) (φ := .f32) ((∑ x : Fin 64, b62 j s (ix4 b h i x)) + b56 j s (ix3 b h i) * ∑ d : Fin 128, s.main_v88_7 (ix3 b h d) * b5 j s (ix4 b h i d))) (Ideal.exp (-b54 j s (ix3 b h i)))) := by
  pointwise [b80, b79, b78, b77, b76, b75, b74, b73, b72, b71, b70, b69, b68, b67, b66, b65, b64, b63]

/-- What each token adds, as a logarithm. -/
theorem p84 (b h : Fin 4) (x : Fin 64) : b84 j s (ix3 b h x) = b30 j s (ix3 b h 63) - b30 j s (ix3 b h x) + b27 j s (ix3 b h x) := by
  pointwise [b84, b83, b82, b81, b32, b31]

/-- The largest of them. -/
theorem p86 (b h : Fin 4) : b86 j s (ix2 b h) = univ.fold max (Ideal.ofBits .f32 4286578688#32) fun x : Fin 64 => b84 j s (ix3 b h x) := by
  pointwise [b86, b85]

/-- The tokens' weights. -/
theorem p90 (b h : Fin 4) (x : Fin 64) : b90 j s (ix3 b h x) = Ideal.exp (b84 j s (ix3 b h x) - b86 j s (ix2 b h)) := by
  pointwise [b90, b89, b88, b87]

/-- The new stabiliser. -/
theorem p97 (b h : Fin 4) : b97 j s (ix2 b h) = max (b30 j s (ix3 b h 63) + s.main_v88_8 (ix2 b h)) (b86 j s (ix2 b h)) := by
  pointwise [b97, b96, b32, b31]

/-- The new state, against the values. -/
theorem p109 (b h : Fin 4) (e d : Fin 128) : b109 j s (ix4 b h e d)
    = Ideal.exp (b30 j s (ix3 b h 63) + s.main_v88_8 (ix2 b h) - b97 j s (ix2 b h)) * s.main_v88_6 (ix4 b h e d)
      + Ideal.exp (b86 j s (ix2 b h) - b97 j s (ix2 b h)) * ∑ x : Fin 64, b90 j s (ix3 b h x) * b17 j s (ix4 b h x e) * b11 j s (ix4 b h x d) := by
  pointwise [b109, b108, b107, b106, b105, b104, b103, b102, b101, b100, b99, b98, b94, b93, b92, b91, b32, b31]

/-- The new state's normaliser. -/
theorem p116 (b h : Fin 4) (d : Fin 128) : b116 j s (ix3 b h d)
    = Ideal.exp (b30 j s (ix3 b h 63) + s.main_v88_8 (ix2 b h) - b97 j s (ix2 b h)) * s.main_v88_7 (ix3 b h d)
      + Ideal.exp (b86 j s (ix2 b h) - b97 j s (ix2 b h)) * ∑ x : Fin 64, b90 j s (ix3 b h x) * b11 j s (ix4 b h x d) := by
  pointwise [b116, b115, b114, b113, b112, b111, b110, b102, b101, b100, b99, b98, b95, b32, b31]

open Cert.Ml

section
variable {b h : Fin 4} {n : ℕ} {q k v : ℕ → Fin 128 → ℝ} {lf li : ℕ → ℝ} {m : ℝ}
  (hq : ∀ (i : Fin 64) (d : Fin 128), s.main_v88_0 (ix5 ⟨j, hj⟩ b h i d) = ((q (n + i.val) d : ℝ) : EReal))
  (hk : ∀ (i : Fin 64) (d : Fin 128), s.main_v88_1 (ix5 ⟨j, hj⟩ b h i d) = ((k (n + i.val) d : ℝ) : EReal))
  (hv : ∀ (i : Fin 64) (d : Fin 128), s.main_v88_2 (ix5 ⟨j, hj⟩ b h i d) = ((v (n + i.val) d : ℝ) : EReal))
  (hf : ∀ i : Fin 64, s.main_v88_3 (ix4 ⟨j, hj⟩ b h i) = ((lf (n + i.val) : ℝ) : EReal))
  (hi : ∀ i : Fin 64, s.main_v88_4 (ix4 ⟨j, hj⟩ b h i) = ((li (n + i.val) : ℝ) : EReal))
  (hm : s.main_v88_8 (ix2 b h) = ((m : ℝ) : EReal))
  (hc : ∀ e d : Fin 128, s.main_v88_6 (ix4 b h e d) = ((Real.exp (-m) * cS k (fun t => v t e) lf li n d : ℝ) : EReal))
  (hn : ∀ d : Fin 128, s.main_v88_7 (ix3 b h d) = ((Real.exp (-m) * cS k (fun _ => 1) lf li n d : ℝ) : EReal))

include hf in
/-- The running sum. -/
theorem r30 (i : Fin 64) : b30 j s (ix3 b h i) = ((cB lf n i.val : ℝ) : EReal) := b30_at hj s (fun r => lf (n + r)) b h hf i

include hf hi in
/-- What each token adds, as a logarithm, of the sequences. -/
theorem r84 (x : Fin 64) : b84 j s (ix3 b h x) = ((cB lf n 63 - cB lf n x.val + li (n + x.val) : ℝ) : EReal) := by
  rw [p84, r30 hj s hf, r30 hj s hf, b27_at hj, hi, ← EReal.coe_sub, ← EReal.coe_add]
  rfl

include hf hi in
/-- Their largest is a real. -/
theorem r86 : ∃ ml : ℝ, b86 j s (ix2 b h) = ((ml : ℝ) : EReal) := by
  obtain ⟨ml, hml⟩ := fold_max_real univ (fun x : Fin 64 => cB lf n 63 - cB lf n x.val + li (n + x.val)) 0 (mem_univ _)
  refine ⟨ml, ?_⟩
  rw [p86, ninf_bot, ← hml]
  simp only [r84 hj s hf hi]

include hf hi hm in
/-- The new stabiliser is a real. -/
theorem r97 : ∃ m' : ℝ, b97 j s (ix2 b h) = ((m' : ℝ) : EReal) := by
  obtain ⟨ml, hml⟩ := r86 hj s hf hi
  obtain ⟨m', hm'⟩ := max_coe_real (cB lf n 63 + m) (EReal.coe_ne_top ml)
  refine ⟨m', ?_⟩
  rw [p97, hml, hm, r30 hj s hf, ← hm', ← EReal.coe_add]
  rfl

include hk hv hf hi hm hc in
/-- The new state. -/
theorem r109 {m' : ℝ} (hm' : b97 j s (ix2 b h) = ((m' : ℝ) : EReal)) (e d : Fin 128) :
    b109 j s (ix4 b h e d) = ((Real.exp (-m') * cS k (fun t => v t e) lf li (n + 64) d : ℝ) : EReal) := by
  obtain ⟨ml, hml⟩ := r86 hj s hf hi
  rw [p109]
  simp only [p90, hml, hm', hm, hc, r84 hj s hf hi, r30 hj s hf, b17_at hj, b11_at hj, hk, hv, ← EReal.coe_add, ← EReal.coe_sub, Ideal.exp_coe, ← EReal.coe_mul, coe_sum]
  rw [← chunk_state (L := 63) k (fun t => v t e) lf li n d m m', mul_sum]
  congr 2
  refine sum_congr rfl fun x _ => ?_
  rw [← mul_assoc, ← mul_assoc, ← Real.exp_add]
  rw [show ml - m' + (cB lf n 63 - cB lf n x.val + li (n + x.val) - ml) = cB lf n 63 - cB lf n x.val + li (n + x.val) - m' by ring]
  ring

include hk hf hi hm hn in
/-- The new normaliser. -/
theorem r116 {m' : ℝ} (hm' : b97 j s (ix2 b h) = ((m' : ℝ) : EReal)) (d : Fin 128) :
    b116 j s (ix3 b h d) = ((Real.exp (-m') * cS k (fun _ => 1) lf li (n + 64) d : ℝ) : EReal) := by
  obtain ⟨ml, hml⟩ := r86 hj s hf hi
  rw [p116]
  simp only [p90, hml, hm', hm, hn, r84 hj s hf hi, r30 hj s hf, b11_at hj, hk, ← EReal.coe_add, ← EReal.coe_sub, Ideal.exp_coe, ← EReal.coe_mul, coe_sum]
  rw [← chunk_state (L := 63) k (fun _ => 1) lf li n d m m', mul_sum]
  congr 2
  refine sum_congr rfl fun x _ => ?_
  rw [← mul_assoc, ← Real.exp_add]
  rw [show ml - m' + (cB lf n 63 - cB lf n x.val + li (n + x.val) - ml) = cB lf n 63 - cB lf n x.val + li (n + x.val) - m' by ring]
  ring

include hf hi in
/-- A masked decay, of the sequences. -/
theorem r51 (i x : Fin 64) : b51 j s (ix4 b h i x) = if x.val ≤ i.val then ((cB lf n i.val - cB lf n x.val + li (n + x.val) : ℝ) : EReal) else ⊥ := by
  rw [p51, sel_ge (i.isLt.trans (by decide)) (x.isLt.trans (by decide)), ninf_bot, r30 hj s hf, r30 hj s hf, b27_at hj, hi, ← EReal.coe_sub, ← EReal.coe_add]

include hf hi hm in
/-- A row's stabiliser is a real. -/
theorem r54 (i : Fin 64) : ∃ mt : ℝ, b54 j s (ix3 b h i) = ((mt : ℝ) : EReal) := by
  have e : (univ.fold max (⊥ : EReal) fun x : Fin 64 => b51 j s (ix4 b h i x)) ≠ ⊤ := fold_max_ne_top _ _ fun x _ => by
    rw [r51 hj s hf hi]
    split_ifs
    · exact EReal.coe_ne_top _
    · simp
  obtain ⟨mt, hmt⟩ := max_coe_real (cB lf n i.val + m) e
  exact ⟨mt, by rw [p54, ninf_bot, ← hmt, r30 hj s hf, hm, ← EReal.coe_add]⟩

include hq hk hv hf hi hm hc hn in
/-- The chunk's output is the recurrence's. -/
theorem r80 (i : Fin 64) (e : Fin 128) : b80 j s (ix4 b h i e) = ((cH q k (fun t => v t e) lf li (n + i.val) : ℝ) : EReal) := by
  obtain ⟨mt, hmt⟩ := r54 hj s hf hi hm i
  have hw : ∀ x : Fin 64, Ideal.exp (b51 j s (ix4 b h i x) - (mt : EReal))
      = ((if x.val ≤ i.val then Real.exp (cB lf n i.val - cB lf n x.val + li (n + x.val) - mt) else 0 : ℝ) : EReal) := fun x => by
    rw [r51 hj s hf hi]
    split_ifs
    · rw [← EReal.coe_sub, Ideal.exp_coe]
    · simp
  rw [p80]
  simp only [p62, p57, p56, hmt, hw]
  simp only [r30 hj s hf, hm, hc, hn, b5_at hj, b11_at hj, b17_at hj, hq, hk, hv, ← EReal.coe_add, ← EReal.coe_sub, Ideal.exp_coe, ← EReal.coe_mul, coe_sum]
  have h1 := chunk_row q k (fun t => v t e) lf li n i m mt
  have h2 := chunk_row q k (fun _ => 1) lf li n i m mt
  have h3 : ∀ d : Fin 128, Real.exp (-m) * cS k (fun _ => 1) lf li n d * q (n + i.val) d = q (n + i.val) d * (Real.exp (-m) * cS k (fun _ => 1) lf li n d) := fun d => mul_comm _ _
  simp only [mul_one] at h2
  simp only [h3]
  rw [h1, h2, Ideal.absf_def, ← EReal.coe_neg, ← EReal.coe_strictMono.monotone.map_max, ← EReal.coe_neg, Ideal.exp_coe,
    ← EReal.coe_strictMono.monotone.map_max, Ideal.div_coe (ne_of_gt (lt_of_lt_of_le (Real.exp_pos _) (le_max_right _ _))), ← EReal.coe_mul]
  congr 1
  rw [mul_one_div]
  exact ratio

end

end Cert.RefVal

end
-- ==== Proof.Ml.RefInit.lean ====
module

public import proofs.«01_k».proof.Proof.Ml.RefTrip

@[expose] public section

set_option maxRecDepth 16384

/-!
What the reference computes before its scan (queries, keys, values and gates), and after it (the head norm and the gate).
-/

noncomputable section

namespace Cert.RefVal

open Cert.ReferenceIdeal Cert.ReferenceIdeal.Gen Cert.ReferenceIdeal.Step Idealize.ShloMosaic Idealize.SL.Sem Finset Cert.Ml

section
variable (a0 : (⟨S4x8192x1024, .bf16⟩ : BufTy).Contents (Elt Ideal)) (a1 : (⟨S4x8192x512, .bf16⟩ : BufTy).Contents (Elt Ideal))
  (a3 : (⟨S4x8192x256, .f32⟩ : BufTy).Contents (Elt Ideal)) (a4 : (⟨S4x1024, .f32⟩ : BufTy).Contents (Elt Ideal))
  (a5 : (⟨S1x1024, .f32⟩ : BufTy).Contents (Elt Ideal)) (a6 a7 : (⟨S1x128, .f32⟩ : BufTy).Contents (Elt Ideal))

/-- The convolution. -/
theorem a32 (b : Fin 4) (t : Fin 8192) (c : Fin 1024) (y : ℕ → EReal) (hy : ∀ u : ℕ, y u = if h : 8 ≤ u ∧ u < 8200 then (a0 (ix3 b ⟨u - 8, by omega⟩ c) : EReal) else 0) :
    A_main_v32 a0 a1 a3 a4 a5 a6 a7 (ix3 b t c)
    = a5 (ix2 0 c) + a4 (ix2 0 c) * y (t.val + 5) + a4 (ix2 1 c) * y (t.val + 6) + a4 (ix2 2 c) * y (t.val + 7) + a4 (ix2 3 c) * y (t.val + 8) := by
  have h0 : (FloatOps.sitofp (F := Ideal) FTy.f32 0#32 : EReal) = (0 : EReal) := by
    show (((0#32 : BitVec 32).toInt : ℝ) : EReal) = 0
    simp
  have e5 : y (t.val + 5) = if h : 3 ≤ t.val ∧ t.val - 3 < 8192 then (a0 (ix3 b ⟨t.val - 3, h.2⟩ c) : EReal) else (FloatOps.sitofp (F := Ideal) FTy.f32 0#32 : EReal) := by
    rw [hy, h0]
    by_cases k : 3 ≤ t.val
    · rw [dif_pos ⟨by omega, by omega⟩, dif_pos ⟨k, by omega⟩]
      congr 2
    · rw [dif_neg (by omega), dif_neg (by omega)]
  have e6 : y (t.val + 6) = if h : 3 ≤ 1 + t.val ∧ 1 + t.val - 3 < 8192 then (a0 (ix3 b ⟨1 + t.val - 3, h.2⟩ c) : EReal) else (FloatOps.sitofp (F := Ideal) FTy.f32 0#32 : EReal) := by
    rw [hy, h0]
    by_cases k : 3 ≤ 1 + t.val
    · rw [dif_pos ⟨by omega, by omega⟩, dif_pos ⟨k, by omega⟩]
      exact congrArg a0 (congrArg (fun q => ix3 b q c) (Fin.ext (by show t.val + 6 - 8 = 1 + t.val - 3; omega)))
    · rw [dif_neg (by omega), dif_neg (by omega)]
  have e7 : y (t.val + 7) = if h : 3 ≤ 2 + t.val ∧ 2 + t.val - 3 < 8192 then (a0 (ix3 b ⟨2 + t.val - 3, h.2⟩ c) : EReal) else (FloatOps.sitofp (F := Ideal) FTy.f32 0#32 : EReal) := by
    rw [hy, h0]
    by_cases k : 3 ≤ 2 + t.val
    · rw [dif_pos ⟨by omega, by omega⟩, dif_pos ⟨k, by omega⟩]
      exact congrArg a0 (congrArg (fun q => ix3 b q c) (Fin.ext (by show t.val + 7 - 8 = 2 + t.val - 3; omega)))
    · rw [dif_neg (by omega), dif_neg (by omega)]
  have e8 : y (t.val + 8) = a0 (ix3 b t c) := by
    rw [hy, dif_pos ⟨by omega, by omega⟩]
    rfl
  rw [e5, e6, e7, e8]
  pointwise [A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9, A_main_v8, A_main_v7, A_main_v6, A_main_v5, A_main_v4, A_main_v3, A_main_v2, A_main_v1, A_main_v0, K_main_call0_v0, K_main_c]

/-- The convolution's swish. -/
theorem a33 (b : Fin 4) (t : Fin 8192) (c : Fin 1024) : A_main_v33 a0 a1 a3 a4 a5 a6 a7 (ix3 b t c)
    = A_main_v32 a0 a1 a3 a4 a5 a6 a7 (ix3 b t c) * Ideal.div 1 (1 + Ideal.exp (-A_main_v32 a0 a1 a3 a4 a5 a6 a7 (ix3 b t c))) := by
  pointwise [A_main_v33, A_main_call1_v5, K_main_call1_v4, K_main_call1_cst_0, A_main_call1_v3, K_main_call1_v2, K_main_call1_cst, A_main_call1_v1, A_main_call1_v0]

/-- The queries, chunk by chunk. -/
theorem a63 (c : Fin 128) (b h : Fin 4) (i : Fin 64) (e : Fin 128) : A_main_v63 a0 a1 a3 a4 a5 a6 a7 (ix5 c b h i e)
    = A_main_v33 a0 a1 a3 a4 a5 a6 a7 (ix3 b ⟨c.val * 64 + i.val, by omega⟩ ⟨h.val * 128 + e.val, by omega⟩) := by
  pointwise [A_main_v63, A_main_v62, A_main_v51, A_main_v50, A_main_v34]

/-- The keys, chunk by chunk. -/
theorem a65 (c : Fin 128) (b h : Fin 4) (i : Fin 64) (e : Fin 128) : A_main_v65 a0 a1 a3 a4 a5 a6 a7 (ix5 c b h i e)
    = A_main_v33 a0 a1 a3 a4 a5 a6 a7 (ix3 b ⟨c.val * 64 + i.val, by omega⟩ ⟨512 + (h.val * 128 + e.val), by omega⟩) * Ideal.ofBits .f32 1035273459#32 := by
  pointwise [A_main_v65, A_main_v64, A_main_v55, A_main_v53, A_main_v52, A_main_v35, K_main_v54, K_main_cst]

/-- The values, chunk by chunk. -/
theorem a67 (c : Fin 128) (b h : Fin 4) (i : Fin 64) (e : Fin 128) : A_main_v67 a0 a1 a3 a4 a5 a6 a7 (ix5 c b h i e)
    = a1 (ix3 b ⟨c.val * 64 + i.val, by omega⟩ ⟨h.val * 128 + e.val, by omega⟩) := by
  pointwise [A_main_v67, A_main_v66, A_main_v58, A_main_v57, A_main_v56]

/-- The log forget gates, chunk by chunk. -/
theorem a84 (c : Fin 128) (b h : Fin 4) (i : Fin 64) (x : ℝ) (hx : a3 (ix3 b ⟨c.val * 64 + i.val, by omega⟩ ⟨128 + h.val, by omega⟩) + a7 (ix2 0 ⟨h.val, by omega⟩) = ((x : ℝ) : EReal)) :
    A_main_v84 a0 a1 a3 a4 a5 a6 a7 (ix4 c b h i) = ((lsg x : ℝ) : EReal) := by
  have q : A_main_v84 a0 a1 a3 a4 a5 a6 a7 (ix4 c b h i)
      = -if -(a3 (ix3 b ⟨c.val * 64 + i.val, by omega⟩ ⟨128 + h.val, by omega⟩) + a7 (ix2 0 ⟨h.val, by omega⟩) : EReal) ≠ -(a3 (ix3 b ⟨c.val * 64 + i.val, by omega⟩ ⟨128 + h.val, by omega⟩) + a7 (ix2 0 ⟨h.val, by omega⟩))
          then -(a3 (ix3 b ⟨c.val * 64 + i.val, by omega⟩ ⟨128 + h.val, by omega⟩) + a7 (ix2 0 ⟨h.val, by omega⟩) : EReal)
          else max (-(a3 (ix3 b ⟨c.val * 64 + i.val, by omega⟩ ⟨128 + h.val, by omega⟩) + a7 (ix2 0 ⟨h.val, by omega⟩))) 0
            + Ideal.log1p (Ideal.exp (-FloatOps.absf (F := Ideal) (φ := .f32) (-(a3 (ix3 b ⟨c.val * 64 + i.val, by omega⟩ ⟨128 + h.val, by omega⟩) + a7 (ix2 0 ⟨h.val, by omega⟩))))) := by
    pointwise [A_main_v84, A_main_v83, A_main_v82, A_main_v81, A_main_v80, A_main_v79, A_main_v78, A_main_v77, A_main_v76, A_main_v75, A_main_v73, A_main_v72, A_main_v70, K_main_v69, K_main_v71, K_main_v74, K_main_cst_3, A_main_v68, A_main_v49, A_main_v48, A_main_v47, A_main_v46, A_main_v45, A_main_v44, A_main_v43]
  rw [q, hx, if_neg (by simp), ← lsg_eq]
  have h1 : (FloatOps.absf (F := Ideal) (φ := .f32) (((-x : ℝ) : EReal) : Ideal .f32) : EReal) = ((|-x| : ℝ) : EReal) := by
    rw [Ideal.absf_def, ← EReal.coe_neg, ← EReal.coe_strictMono.monotone.map_max]; rfl
  rw [← EReal.coe_neg, h1, show (0 : EReal) = ((0 : ℝ) : EReal) from rfl, ← EReal.coe_neg, Ideal.exp_coe, Ideal.log1p, show (1 : EReal) = ((1 : ℝ) : EReal) from rfl, ← EReal.coe_add,
    Ideal.log_coe, if_neg (not_le.mpr (by positivity)), ← EReal.coe_strictMono.monotone.map_max, ← EReal.coe_add, ← EReal.coe_neg]

/-- The input gates, chunk by chunk. -/
theorem a86 (c : Fin 128) (b h : Fin 4) (i : Fin 64) : A_main_v86 a0 a1 a3 a4 a5 a6 a7 (ix4 c b h i)
    = a3 (ix3 b ⟨c.val * 64 + i.val, by omega⟩ ⟨h.val, by omega⟩) + a6 (ix2 0 ⟨h.val, by omega⟩) := by
  pointwise [A_main_v86, A_main_v85, A_main_v42, A_main_v41, A_main_v40, A_main_v39, A_main_v38, A_main_v37, A_main_v36]

end

/-- After the scan: the head norm, its weights and the gate. -/
theorem out_at (s : State Ideal) (a2 : (⟨S4x8192x512, .bf16⟩ : BufTy).Contents (Elt Ideal)) (a8 : (⟨S1x512, .f32⟩ : BufTy).Contents (Elt Ideal))
    (b : Fin 4) (t : Fin 8192) (c : Fin 512) : R_main_v109 s a2 a8 (ix3 b t c)
    = a2 (ix3 b t c) *
      (s.main_v88_9 (ix5 ⟨t.val / 64, by omega⟩ b ⟨c.val / 128, by omega⟩ ⟨t.val % 64, by omega⟩ ⟨c.val % 128, by omega⟩)
        * Ideal.rsqrt (Ideal.div (∑ x : Fin 128, s.main_v88_9 (ix5 ⟨t.val / 64, by omega⟩ b ⟨c.val / 128, by omega⟩ ⟨t.val % 64, by omega⟩ x)
              * s.main_v88_9 (ix5 ⟨t.val / 64, by omega⟩ b ⟨c.val / 128, by omega⟩ ⟨t.val % 64, by omega⟩ x)) (Ideal.ofBits .f32 1124073472#32)
            + Ideal.ofBits .f32 897988541#32)
        * a8 (ix2 0 c)) := by
  pointwise [R_main_v109]

end Cert.RefVal

end
-- ==== Proof.Ml.RefVal.lean ====
module

public import proofs.«01_k».proof.Proof.Ml.RefInit

@[expose] public section

set_option maxRecDepth 16384

/-!
The reference's result: its scan runs the recurrence chunk by chunk, so what it leaves is the recurrence's output.
-/

noncomputable section

namespace Cert.RefVal

open Cert.ReferenceIdeal Cert.ReferenceIdeal.Gen Cert.ReferenceIdeal.Step Idealize.ShloMosaic Idealize.SL.Sem Finset Cert.Ml

variable (A : Arr)

/-- The state the scan starts from. -/
def start : State Ideal := init A.mqk A.mv A.gt A.cw A.cb A.bi A.bf

/-- What holds before trip `j`: the stacked arrays are the streams, the carried state is the recurrence's under some stabiliser, and the
chunks so far are the recurrence's outputs. -/
structure RInv (j : ℕ) (s : State Ideal) : Prop where
  q : ∀ (c : Fin 128) (b h : Fin 4) (i : Fin 64) (d : Fin 128), s.main_v88_0 (ix5 c b h i d) = ((qD A b h (64 * c.val + i.val) d : ℝ) : EReal)
  k : ∀ (c : Fin 128) (b h : Fin 4) (i : Fin 64) (d : Fin 128), s.main_v88_1 (ix5 c b h i d) = ((kD A b h (64 * c.val + i.val) d * ksc : ℝ) : EReal)
  v : ∀ (c : Fin 128) (b h : Fin 4) (i : Fin 64) (d : Fin 128), s.main_v88_2 (ix5 c b h i d) = ((vD A b h (64 * c.val + i.val) d : ℝ) : EReal)
  f : ∀ (c : Fin 128) (b h : Fin 4) (i : Fin 64), s.main_v88_3 (ix4 c b h i) = ((lD A b h (64 * c.val + i.val) : ℝ) : EReal)
  i : ∀ (c : Fin 128) (b h : Fin 4) (i : Fin 64), s.main_v88_4 (ix4 c b h i) = ((iD A b h (64 * c.val + i.val) : ℝ) : EReal)
  st : ∀ b h : Fin 4, ∃ m : ℝ, s.main_v88_8 (ix2 b h) = ((m : ℝ) : EReal)
    ∧ (∀ e d : Fin 128, s.main_v88_6 (ix4 b h e d) = ((Real.exp (-m) * sD A b h (fun t => vD A b h t e) (64 * j) d : ℝ) : EReal))
    ∧ ∀ d : Fin 128, s.main_v88_7 (ix3 b h d) = ((Real.exp (-m) * sD A b h (fun _ => 1) (64 * j) d : ℝ) : EReal)
  o : ∀ (c : Fin 128) (b h : Fin 4) (i : Fin 64) (e : Fin 128), c.val < j → s.main_v88_9 (ix5 c b h i e) = ((HD A b h (64 * c.val + i.val) e : ℝ) : EReal)

variable {A}

/-- A trip keeps it. -/
theorem rinv_step {j : ℕ} (hj : j < 128) {s : State Ideal} (I : RInv A j s) : RInv A (j + 1) (step j s) where
  q := I.q
  k := I.k
  v := I.v
  f := I.f
  i := I.i
  st := fun b h => by
    obtain ⟨m, hm, hc, hn⟩ := I.st b h
    obtain ⟨m', hm'⟩ := r97 hj s (I.f ⟨j, hj⟩ b h) (I.i ⟨j, hj⟩ b h) hm
    exact ⟨m', hm', fun e d => r109 hj s (I.k ⟨j, hj⟩ b h) (I.v ⟨j, hj⟩ b h) (I.f ⟨j, hj⟩ b h) (I.i ⟨j, hj⟩ b h) hm hc hm' e d,
      fun d => r116 hj s (I.k ⟨j, hj⟩ b h) (I.f ⟨j, hj⟩ b h) (I.i ⟨j, hj⟩ b h) hm hn hm' d⟩
  o := fun c b h i e hc' => by
    obtain ⟨m, hm, hc, hn⟩ := I.st b h
    refine (b122_at hj s c b h i e).trans ?_
    split_ifs with e1
    · rw [r80 hj s (I.q ⟨j, hj⟩ b h) (I.k ⟨j, hj⟩ b h) (I.v ⟨j, hj⟩ b h) (I.f ⟨j, hj⟩ b h) (I.i ⟨j, hj⟩ b h) hm hc hn i e, e1]
      rfl
    · exact I.o c b h i e (by omega)

variable (hA : A.Real)

include hA in
/-- The swish of the convolution, of real data. -/
theorem a33_val (b : Fin 4) (t : Fin 8192) (c : Fin 1024) : A_main_v33 (F := Ideal) A.mqk A.mv A.gt A.cw A.cb A.bi A.bf (ix3 b t c)
    = ((sil (cvl (xq A b) (wR A) (cbR A) t.val c) : ℝ) : EReal) := by
  have h : A_main_v32 (F := Ideal) A.mqk A.mv A.gt A.cw A.cb A.bi A.bf (ix3 b t c) = ((cvl (xq A b) (wR A) (cbR A) t.val c : ℝ) : EReal) := by
    refine (a32 _ _ _ _ _ _ _ b t c (fun u => ((xq A b u c : ℝ) : EReal)) (fun u => ?_)).trans ?_
    · show ((xq A b u c : ℝ) : EReal) = _
      unfold xq
      split_ifs
      · exact (hA.mqk b _ c).symm
      · rfl
    · rw [hA.cb c, hA.cw 0 c, hA.cw 1 c, hA.cw 2 c, hA.cw 3 c]
      simp only [← EReal.coe_mul, ← EReal.coe_add]
      rfl
  rw [a33, h, ← sil_coe, zero_sub]

include hA in
/-- It holds at the start. -/
theorem rinv_zero : RInv A 0 (start A) where
  q := fun c b h i d => by
    refine (a63 A.mqk A.mv A.gt A.cw A.cb A.bi A.bf c b h i d).trans ((a33_val hA b _ _).trans ?_)
    unfold qD
    simp only [Nat.mul_comm]
  k := fun c b h i d => by
    refine (a65 A.mqk A.mv A.gt A.cw A.cb A.bi A.bf c b h i d).trans ?_
    rw [a33_val hA, ksc_coe, ← EReal.coe_mul]
    unfold kD
    simp only [Nat.mul_comm, Nat.add_assoc]
  v := fun c b h i d => by
    refine (a67 A.mqk A.mv A.gt A.cw A.cb A.bi A.bf c b h i d).trans ((hA.mv b _ _).trans ?_)
    unfold vD
    rw [dif_pos (by omega)]
    simp only [Nat.mul_comm]
  f := fun c b h i => by
    refine a84 A.mqk A.mv A.gt A.cw A.cb A.bi A.bf c b h i (fD A b h (64 * c.val + i.val)) ?_
    unfold fD
    rw [dif_pos (by omega), EReal.coe_add, ← hA.gf, ← hA.bf]
    simp only [Nat.mul_comm]
  i := fun c b h i => by
    refine (a86 A.mqk A.mv A.gt A.cw A.cb A.bi A.bf c b h i).trans ?_
    unfold iD
    rw [dif_pos (by omega), EReal.coe_add, ← hA.gi, ← hA.bi]
    simp only [Nat.mul_comm]
  st := fun b h => by
    refine ⟨0, ?_, fun e d => ?_, fun d => ?_⟩
    · exact Ideal.ofBits_zero .f32
    · rw [Nat.mul_zero, sD_zero, mul_zero]; exact Ideal.ofBits_zero .f32
    · rw [Nat.mul_zero, sD_zero, mul_zero]; exact Ideal.ofBits_zero .f32
  o := fun c b h i e hc => absurd hc (Nat.not_lt_zero _)

/-- The scan's states. -/
def states (A : Arr) : ℕ → State Ideal
  | 0 => start A
  | n + 1 => step n (states A n)

include hA in
/-- It holds before every trip. -/
theorem rinv (n : ℕ) (hn : n ≤ 128) : RInv A n (states A n) := by
  induction n with
  | zero => exact rinv_zero hA
  | succ n ih => exact rinv_step (by omega) (ih (by omega))

include hA in
/-- The reference's result is the recurrence's. -/
theorem ref_val : (R_main_v109 (states A 128) A.mo A.mg : S4x8192x512.Idx → EReal) = res A := by
  have I := rinv hA 128 le_rfl
  funext y
  obtain ⟨b, t, c, rfl⟩ : ∃ (b : Fin 4) (t : Fin 8192) (c : Fin 512), y = ix3 b t c := ⟨y 0, y 1, y 2, eq_ix3 y⟩
  have ht : 64 * (t.val / 64) + t.val % 64 = t.val := Nat.div_add_mod t.val 64
  have hc : (⟨128 * (c.val / 128) + c.val % 128, by omega⟩ : Fin 512) = c := Fin.ext (Nat.div_add_mod c.val 128)
  refine (out_at _ _ _ b t c).trans ?_
  have e := fun x : Fin 128 => I.o ⟨t.val / 64, by omega⟩ b ⟨c.val / 128, by omega⟩ ⟨t.val % 64, by omega⟩ x (by show t.val / 64 < 128; omega)
  simp only [e, ht]
  show _ = spec A b t ⟨c.val / 128, _⟩ ⟨c.val % 128, _⟩
  unfold spec
  simp only [hc]

end Cert.RefVal

end
-- ==== Proof.Inp.Data.lean ====
module

public import Idealize.ShloMosaic.Lib.Pointwise
public import Idealize.ShloMosaic.PureOps.Ideal

@[expose] public section

/-!
The input projection in plain form, on extended reals: the rows the norm and its modulation make, their products with the
columns of the weight, the output gate's sigmoid and the norm of a head's queries or keys.
-/

noncomputable section

namespace Cert.Inp

open Idealize.ShloMosaic

/-- Entry `k` of a normalised, modulated row `x`: gain `g`, scale `sc`, shift `sh`. -/
def hR (x g sc sh : Fin 1024 → EReal) (k : Fin 1024) : EReal :=
  x k * Ideal.rsqrt (Ideal.div (∑ j : Fin 1024, x j * x j) (Ideal.ofBits FTy.f32 1149239296#32) + Ideal.ofBits FTy.f32 897988541#32) * g k
    * (1 + sc k) + sh k

/-- Token `r`'s row. -/
def hN (x : (⟨2, ![32768, 1024]⟩ : Shape).Idx → EReal) (md : (⟨3, ![4, 6, 1024]⟩ : Shape).Idx → EReal)
    (g : (⟨2, ![1, 1024]⟩ : Shape).Idx → EReal) (r : Fin 32768) : Fin 1024 → EReal :=
  hR (fun k => x (ix2 r k)) (fun k => g (ix2 0 k)) (fun k => md (ix3 ⟨r.val / 8192, by omega⟩ 1 k)) (fun k => md (ix3 ⟨r.val / 8192, by omega⟩ 0 k))

/-- Token `r`'s projection on column `c`. -/
def pN (x : (⟨2, ![32768, 1024]⟩ : Shape).Idx → EReal) (md : (⟨3, ![4, 6, 1024]⟩ : Shape).Idx → EReal)
    (g : (⟨2, ![1, 1024]⟩ : Shape).Idx → EReal) (w : (⟨2, ![1024, 5888]⟩ : Shape).Idx → EReal) (r : Fin 32768) (c : Fin 5888) : EReal :=
  ∑ k : Fin 1024, hN x md g r k * w (ix2 k c)

/-- The norm of a head's 64 entries `a`, at an entry `y`, with gain `g`. -/
def qR (a : Fin 64 → EReal) (y g : EReal) : EReal :=
  y * Ideal.rsqrt (Ideal.div (∑ j : Fin 64, a j * a j) (Ideal.ofBits FTy.f32 1115684864#32) + Ideal.ofBits FTy.f32 897988541#32) * g

end Cert.Inp
-- ==== Proof.Inp.Pay.lean ====
module

public import proofs.«01_k».proof.Proof.Gen.Kernel2Ideal.Value
public import proofs.«01_k».proof.Proof.Inp.Data

@[expose] public section

set_option maxRecDepth 16384

/-! The kernel's stored values read at an index. -/

noncomputable section

namespace Cert.Inp

open Cert.Kernel2Ideal Cert.Kernel2Ideal.Gen Idealize.ShloMosaic Idealize.ShloMosaic.TcCoe Idealize.SL.Sem

/-- The normed, modulated rows of a block. -/
theorem hb_at (v0 : Vec Ideal S1024x1024 .f32) (v1 : Vec Ideal S1x6x1024 .f32) (v2 : Vec Ideal S1x1024 .f32) (r k : Fin 1024) :
    k0_pay5 v0 v1 v2 (ix2 r k) = hR (fun k => v0 (ix2 r k)) (fun k => v2 (ix2 0 k)) (fun k => v1 (ix3 0 1 k)) (fun k => v1 (ix3 0 0 k)) k := by
  pointwise [k0_pay5]
  simp only [hR]

section
variable (h : FVec Ideal S1024x1024 .bf16) (w : Vec Ideal S1024x512 .bf16) (r : Fin 1024) (c : Fin 512)

/-- The first half of the mLSTM's queries and keys. -/
theorem pay6_at (v0 : Vec Ideal S1024x1024 .f32) (v1 : Vec Ideal S1x6x1024 .f32) (v2 : Vec Ideal S1x1024 .f32) :
    k0_pay6 v0 v1 v2 w (ix2 r c) = (∑ k : Fin 1024, k0_pay5 v0 v1 v2 (ix2 r k) * w (ix2 k c) : EReal) := by
  pointwise [k0_pay6]
/-- The second half. -/
theorem pay7_at (v0 : Vec Ideal S1024x1024 .f32) (v1 : Vec Ideal S1x6x1024 .f32) (v2 : Vec Ideal S1x1024 .f32) :
    k0_pay7 v0 v1 v2 w (ix2 r c) = (∑ k : Fin 1024, k0_pay5 v0 v1 v2 (ix2 r k) * w (ix2 k c) : EReal) := by
  pointwise [k0_pay7]
/-- A product of the rows with 512 columns. -/
theorem pay1_at : k0_pay1 h w (ix2 r c) = (∑ k : Fin 1024, h (ix2 r k) * w (ix2 k c) : EReal) := by
  pointwise [k0_pay1]
/-- A product of the rows with 512 columns. -/
theorem pay2_at : k0_pay2 h w (ix2 r c) = (∑ k : Fin 1024, h (ix2 r k) * w (ix2 k c) : EReal) := by
  pointwise [k0_pay2]
/-- A product of the rows with 512 columns. -/
theorem pay3_at : k0_pay3 h w (ix2 r c) = (∑ k : Fin 1024, h (ix2 r k) * w (ix2 k c) : EReal) := by
  pointwise [k0_pay3]
/-- A product of the rows with 512 columns. -/
theorem pay8_at : k0_pay8 h w (ix2 r c) = (∑ k : Fin 1024, h (ix2 r k) * w (ix2 k c) : EReal) := by
  pointwise [k0_pay8]
/-- A product of the rows with 512 columns. -/
theorem pay12_at : k0_pay12 h w (ix2 r c) = (∑ k : Fin 1024, h (ix2 r k) * w (ix2 k c) : EReal) := by
  pointwise [k0_pay12]
/-- A product of the rows with 512 columns. -/
theorem pay13_at : k0_pay13 h w (ix2 r c) = (∑ k : Fin 1024, h (ix2 r k) * w (ix2 k c) : EReal) := by
  pointwise [k0_pay13]
/-- The gates. -/
theorem pay4_at (w : Vec Ideal S1024x256 .bf16) (c : Fin 256) : k0_pay4 h w (ix2 r c) = (∑ k : Fin 1024, h (ix2 r k) * w (ix2 k c) : EReal) := by
  pointwise [k0_pay4]
/-- The output gate's sigmoid. -/
theorem pay9_at : k0_pay9 h w (ix2 r c) = Ideal.div 1 (1 + Ideal.exp (-(∑ k : Fin 1024, h (ix2 r k) * w (ix2 k c) : EReal))) := by
  pointwise [k0_pay9]
  rw [zero_sub]

end

/-- A sum of nonnegatives times a constant. -/
theorem sum_mul_nonneg {ι : Type} (s : Finset ι) (f : ι → EReal) (hf : ∀ i, 0 ≤ f i) (k : EReal) : ∑ i ∈ s, f i * k = (∑ i ∈ s, f i) * k := by
  classical
  induction s using Finset.induction_on with
  | empty => simp
  | insert a s ha ih => rw [Finset.sum_insert ha, Finset.sum_insert ha, ih, EReal.right_distrib_of_nonneg (hf a) (Finset.sum_nonneg fun i _ => hf i)]

/-- A square is not negative. -/
theorem sq_nonneg (a : EReal) : 0 ≤ a * a := by
  rcases le_total 0 a with h | h
  · exact mul_nonneg h h
  · have := EReal.mul_nonneg_iff.mpr (Or.inr ⟨h, h⟩); exact this

/-- The constant 64. -/
theorem c64 : Ideal.ofBits FTy.f32 1115684864#32 = ((64 : ℝ) : EReal) := by
  simp [Ideal.ofBits, Ideal.ieee]
  rw [← EReal.coe_mul]; norm_num
/-- The entry 1/64. -/
theorem i64 : Ideal.ofBits FTy.f32 1015021568#32 = (((64 : ℝ)⁻¹ : ℝ) : EReal) := by
  simp [Ideal.ofBits, Ideal.ieee]
  rw [← EReal.coe_mul]; norm_num

/-- Averaging by the matrix of groups of 64. -/
theorem avg (f : Fin 256 → EReal) (hf : ∀ e, 0 ≤ f e) (G : Fin 256 → EReal) (d : Fin 256)
    (hG : ∀ e, G e = if e.val / 64 = d.val / 64 then Ideal.ofBits FTy.f32 1015021568#32 else 0) :
    ∑ e, f e * G e = Ideal.div (∑ j : Fin 64, f ⟨d.val / 64 * 64 + j.val, by omega⟩) (Ideal.ofBits FTy.f32 1115684864#32) := by
  rw [← (finProdFinEquiv : Fin 4 × Fin 64 ≃ Fin 256).sum_comp, Fintype.sum_prod_type, Finset.sum_eq_single (⟨d.val / 64, by omega⟩ : Fin 4)]
  · have hd := d.isLt
    have h1 : ∀ j : Fin 64, (finProdFinEquiv ((⟨d.val / 64, by omega⟩ : Fin 4), j) : Fin 256) = ⟨d.val / 64 * 64 + j.val, by omega⟩ := fun j =>
      Fin.ext (by show j.val + 64 * (d.val / 64) = d.val / 64 * 64 + j.val; omega)
    simp only [h1]
    have h2 : ∀ j : Fin 64, G ⟨d.val / 64 * 64 + j.val, by omega⟩ = Ideal.ofBits FTy.f32 1015021568#32 := fun j => by
      rw [hG, if_pos (by show (d.val / 64 * 64 + j.val) / 64 = d.val / 64; omega)]
    simp only [h2]
    rw [sum_mul_nonneg _ _ (fun j => hf _), i64, c64, Ideal.div, if_neg (by exact_mod_cast (by norm_num : (64 : ℝ) ≠ 0))]
    rw [EReal.coe_inv]
  · intro b _ hb
    refine Finset.sum_eq_zero fun j _ => ?_
    rw [hG, if_neg, mul_zero]
    show ¬ (j.val + 64 * b.val) / 64 = d.val / 64
    intro h; exact hb (Fin.ext (by show b.val = d.val / 64; omega))
  · intro h; exact absurd (Finset.mem_univ _) h

section
variable (h : FVec Ideal S1024x1024 .bf16) (w : Vec Ideal S1024x512 .bf16) (g1 g2 : Vec Ideal S256x256 .bf16) (gn : Vec Ideal S1x512 .f32) (r : Fin 1024) (c : Fin 512)

/-- The block's product with 512 columns. -/
def mm (d : Fin 512) : EReal := ∑ k : Fin 1024, h (ix2 r k) * w (ix2 k d)

/-- The queries or keys of a block, normed. -/
theorem pay10_at (hG1 : ∀ e d : Fin 256, g1 (ix2 e d) = if e.val / 64 = d.val / 64 then Ideal.ofBits FTy.f32 1015021568#32 else 0)
    (hG2 : ∀ e d : Fin 256, g2 (ix2 e d) = if e.val / 64 = d.val / 64 then Ideal.ofBits FTy.f32 1015021568#32 else 0) :
    k0_pay10 h w g1 g2 gn (ix2 r c) = qR (fun j => mm h w r ⟨c.val / 64 * 64 + j.val, by omega⟩) (mm h w r c) (gn (ix2 0 c)) := by
  have hm : ∀ d, (∑ k : Fin 1024, h (ix2 r k) * w (ix2 k d) : EReal) = mm h w r d := fun _ => rfl
  pointwise [k0_pay10]
  simp only [hm, qR]
  refine congrArg (fun z : EReal => mm h w r c * Ideal.rsqrt (z + Ideal.ofBits FTy.f32 897988541#32) * gn (ix2 0 c)) ?_
  split
  · rename_i hc
    exact avg (fun e => mm h w r ⟨e.val, by omega⟩ * mm h w r ⟨e.val, by omega⟩) (fun _ => sq_nonneg _) (fun e => g1 (ix2 e ⟨c.val, hc⟩)) ⟨c.val, hc⟩ (fun e => hG1 e _)
  · rename_i hc
    refine (avg (fun e => mm h w r ⟨256 + e.val, by omega⟩ * mm h w r ⟨256 + e.val, by omega⟩) (fun _ => sq_nonneg _) (fun e => g2 (ix2 e ⟨c.val - 256, by omega⟩))
      ⟨c.val - 256, by omega⟩ (fun e => hG2 e _)).trans (congrArg (fun z : EReal => Ideal.div z _) (Finset.sum_congr rfl fun j _ => ?_))
    have e : 256 + ((c.val - 256) / 64 * 64 + j.val) = c.val / 64 * 64 + j.val := by omega
    simp only [e]

/-- The queries' and the keys' stored values are one function. -/
theorem pay11_eq : k0_pay11 h w g1 g2 gn = k0_pay10 h w g1 g2 gn := rfl

end

end Cert.Inp
-- ==== Proof.Inp.Grp.lean ====
module

public import proofs.«01_k».proof.Proof.Gen.Kernel2Ideal.Value
public import Idealize.ShloMosaic.Lib.Pointwise
public import Idealize.ShloMosaic.Lib.StableHlo.Run
public import Idealize.ShloMosaic.Lib.Claim

@[expose] public section

set_option maxRecDepth 16384

/-! The averaging matrix the host code builds: 1/64 where row and column lie in one group of 64. -/

noncomputable section

namespace Cert.Inp

open Cert.Kernel2Ideal Cert.Kernel2Ideal.Gen Idealize.ShloMosaic Idealize.ShloMosaic.TcCoe Idealize.SL.Sem Idealize.ShloMosaic.StableHlo

/-- 64 at every position. -/
def c64v : IVec S256 32 := broadcastInDim S256 ![] bcast_S_S256 (constantI S_ 32 64#32)
/-- The group of each position. -/
def gid : IVec S256 32 :=
  select (andi (cmpi .ne (signi (iotaInDim S256 32 0)) (broadcastInDim S256 ![] bcast_S_S256 (signi (constantI S_ 32 64#32))))
      (cmpi .ne (Host.remsi (iotaInDim S256 32 0) c64v) (broadcastInDim S256 ![] bcast_S_S256 (constantI S_ 32 0#32))))
    (subi (Host.divsi (iotaInDim S256 32 0) c64v) (broadcastInDim S256 ![] bcast_S_S256 (constantI S_ 32 1#32)))
    (Host.divsi (iotaInDim S256 32 0) c64v)

/-- The matrix. -/
def grp : FVec Ideal S256x256 .bf16 :=
  truncf .bf16 (select (cmpi .eq (broadcastInDim S256x256 ![0, 1] bcast_S256x1_S256x256_0_1 (broadcastInDim S256x1 ![0] bcast_S256_S256x1_0 gid))
      (broadcastInDim S256x256 ![0, 1] bcast_S1x256_S256x256_0_1 (broadcastInDim S1x256 ![1] bcast_S256_S1x256_1 gid)))
    (broadcastInDim S256x256 ![] bcast_S_S256x256 (constant (F := Ideal) S_ .f32 0x3C800000#32))
    (broadcastInDim S256x256 ![] bcast_S_S256x256 (constant (F := Ideal) S_ .f32 0x00000000#32))) bitsLt_bf16_f32

set_option maxHeartbeats 1600000 in
/-- What the call is entered with. -/
theorem V_grp (m : (ℓ : Loc nD τ sig) → Buf (Elt Ideal) ℓ) (c : Dev nD) : V m c main_v8 = grp := by
  entry_read
  rfl

/-- The group of position `i` is `i / 64`. -/
theorem gid_at (i : Fin 256) : gid (ix1 i) = BitVec.ofNat 32 (i.val / 64) := by
  revert i
  decide +kernel

/-- The matrix at an index. -/
theorem grp_at (e d : Fin 256) : grp (ix2 e d) = if e.val / 64 = d.val / 64 then Ideal.ofBits FTy.f32 1015021568#32 else 0 := by
  pointwise [grp]
  simp only [gid_at]
  have h : ∀ a b : Fin 4, IntOp.cmpi CmpIPredicate.eq (BitVec.ofNat 32 a.val) (BitVec.ofNat 32 b.val) = if a.val = b.val then 1#1 else 0#1 := by decide
  rw [h ⟨e.val / 64, by omega⟩ ⟨d.val / 64, by omega⟩]
  by_cases hc : e.val / 64 = d.val / 64
  · rw [if_pos hc, if_pos hc]; rfl
  · rw [if_neg hc, if_neg hc]; rfl

end Cert.Inp
-- ==== Proof.Inp.Blocks.lean ====
module

public import proofs.«01_k».proof.Proof.Inp.Pay
public import proofs.«01_k».proof.Proof.Inp.Grp
public import Idealize.ShloMosaic.Lib.Pipeline.ValueKit

@[expose] public section

set_option maxRecDepth 16384

/-! What each output window's block holds, from the argument arrays. -/

noncomputable section

namespace Cert.Inp

open Cert.Kernel2Ideal Cert.Kernel2Ideal.Gen Cert.Kernel2Ideal.Value Idealize.ShloMosaic Idealize.ShloMosaic.TcCoe Idealize.SL.Sem

/-- The windows' block indices at each point. -/
theorem idx2 : ∀ t : Fin cfg0.N, (win0_0.index t (0 : Fin 2) = t.val ∧ win0_0.index t (1 : Fin 2) = 0)
    ∧ (win0_1.index t (0 : Fin 3) = t.val / 8 ∧ win0_1.index t (1 : Fin 3) = 0 ∧ win0_1.index t (2 : Fin 3) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

theorem tlt2 (t : Fin cfg0.N) : t.val < 32 := lt_of_lt_of_eq t.isLt N_0

/-- The blocks of point `t`, from the arrays. -/
structure Blk (x : S32768x1024.Idx → EReal) (md : S4x6x1024.Idx → EReal) (g : S1x1024.Idx → EReal) (w : S1024x5888.Idx → EReal) (qg kg : S1x512.Idx → EReal) (t : Nat)
    (x0 : Vec Ideal S1024x1024 .f32) (x1 : Vec Ideal S1x6x1024 .f32) (x2 : Vec Ideal S1x1024 .f32) (x3 : Vec Ideal S1024x5888 .bf16) (x4 : Vec Ideal S256x256 .bf16)
    (x5 x6 : Vec Ideal S1x512 .f32) : Prop where
  lt : t < 32
  e0 : ∀ r k : Fin 1024, x0 (ix2 r k) = x (ix2 ⟨1024 * t + r.val, by omega⟩ k)
  e1 : ∀ (j : Fin 6) (k : Fin 1024), x1 (ix3 0 j k) = md (ix3 ⟨t / 8, by omega⟩ j k)
  e2 : ∀ k : Fin 1024, x2 (ix2 0 k) = g (ix2 0 k)
  e3 : ∀ (k : Fin 1024) (c : Fin 5888), x3 (ix2 k c) = w (ix2 k c)
  e4 : ∀ e d : Fin 256, x4 (ix2 e d) = if e.val / 64 = d.val / 64 then Ideal.ofBits FTy.f32 1015021568#32 else 0
  e5 : ∀ c : Fin 512, x5 (ix2 0 c) = qg (ix2 0 c)
  e6 : ∀ c : Fin 512, x6 (ix2 0 c) = kg (ix2 0 c)

section
variable {F : FTy → Type} [FloatOps F]
/-- A load of 512 columns of the weight. -/
theorem ldW5 (x : Vec F S1024x5888 .bf16) (o : Nat) (inb : ∀ a : Fin 2, (![0, o] : Fin 2 → Nat) a + S1024x512.size a ≤ S1024x5888.size a) (k : Fin 1024) (c : Fin 512) :
    View.ld x (Rect.unit (s := S1024x5888) ![0, o] S1024x512.size inb) (ix2 k c) = x (ix2 k ⟨o + c.val, by have := inb 1; have : o + 512 ≤ 5888 := this; omega⟩) :=
  congrArg x (funext fun a => match a with
    | ⟨0, _⟩ => Fin.ext (by show 0 + 1 * k.val = k.val; omega)
    | ⟨1, _⟩ => Fin.ext (by show o + 1 * c.val = o + c.val; omega))
/-- A load of the gates' columns of the weight. -/
theorem ldW2 (x : Vec F S1024x5888 .bf16) (k : Fin 1024) (c : Fin 256) : View.ld x r0_19 (ix2 k c) = x (ix2 k ⟨5632 + c.val, by omega⟩) :=
  congrArg x (funext fun a => match a with
    | ⟨0, _⟩ => Fin.ext (by show 0 + 1 * k.val = k.val; omega)
    | ⟨1, _⟩ => Fin.ext (by show 5632 + 1 * c.val = 5632 + c.val; omega))
end

section
variable {x : S32768x1024.Idx → EReal} {md : S4x6x1024.Idx → EReal} {g : S1x1024.Idx → EReal} {w : S1024x5888.Idx → EReal} {qg kg : S1x512.Idx → EReal} {t : Nat}
  {x0 : Vec Ideal S1024x1024 .f32} {x1 : Vec Ideal S1x6x1024 .f32} {x2 : Vec Ideal S1x1024 .f32} {x3 : Vec Ideal S1024x5888 .bf16} {x4 : Vec Ideal S256x256 .bf16}
  {x5 x6 : Vec Ideal S1x512 .f32} (B : Blk x md g w qg kg t x0 x1 x2 x3 x4 x5 x6)
include B

/-- A block's row is its token's. -/
theorem hb_val (r k : Fin 1024) : k0_pay5 (View.ld x0 r0_0) (View.ld x1 r0_1) (View.ld x2 r0_2) (ix2 r k)
    = hN x md g ⟨1024 * t + r.val, by have := B.lt; omega⟩ k := by
  have hl := B.lt
  rw [View.ld_unit_zero (by funext a; fin_cases a <;> rfl), View.ld_unit_zero (by funext a; fin_cases a <;> rfl), View.ld_unit_zero (by funext a; fin_cases a <;> rfl), hb_at]
  simp only [B.e0, B.e1, B.e2, hN]
  have e : (1024 * t + r.val) / 8192 = t / 8 := by omega
  simp only [e]

/-- The same, under the body's other name. -/
theorem hb_val' (r k : Fin 1024) : k0_pay14 x0 x1 x2 x3 x4 x5 x6 (ix2 r k) = hN x md g ⟨1024 * t + r.val, by have := B.lt; omega⟩ k :=
  hb_val B r k

/-- A product of a block's rows with 512 columns of the weight is the projection there. -/
theorem pr5 (h : FVec Ideal S1024x1024 .bf16) (hh : ∀ r k, h (ix2 r k) = hN x md g ⟨1024 * t + r.val, by have := B.lt; omega⟩ k)
    (o : Nat) (inb : ∀ a : Fin 2, (![0, o] : Fin 2 → Nat) a + S1024x512.size a ≤ S1024x5888.size a) (r : Fin 1024) (c : Fin 512) :
    (∑ k : Fin 1024, h (ix2 r k) * View.ld x3 (Rect.unit (s := S1024x5888) ![0, o] S1024x512.size inb) (ix2 k c) : EReal)
      = pN x md g w ⟨1024 * t + r.val, by have := B.lt; omega⟩ ⟨o + c.val, by have := inb 1; have : o + 512 ≤ 5888 := this; omega⟩ := by
  exact Finset.sum_congr rfl fun k _ => congrArg₂ (fun a b : EReal => a * b) (hh r k) ((ldW5 x3 o inb k c).trans (B.e3 _ _))

/-- The gates likewise. -/
theorem pr2 (h : FVec Ideal S1024x1024 .bf16) (hh : ∀ r k, h (ix2 r k) = hN x md g ⟨1024 * t + r.val, by have := B.lt; omega⟩ k) (r : Fin 1024) (c : Fin 256) :
    (∑ k : Fin 1024, h (ix2 r k) * View.ld x3 r0_19 (ix2 k c) : EReal) = pN x md g w ⟨1024 * t + r.val, by have := B.lt; omega⟩ ⟨5632 + c.val, by omega⟩ := by
  exact Finset.sum_congr rfl fun k _ => congrArg₂ (fun a b : EReal => a * b) (hh r k) ((ldW2 x3 k c).trans (B.e3 _ _))

/-- Output window 7's block. -/
theorem out7_val (r : Fin 1024) (c : Fin 1024) : out0_7 x0 x1 x2 x3 x4 x5 x6 (ix2 r c)
    = pN x md g w ⟨1024 * t + r.val, by have := B.lt; omega⟩ ⟨c.val, by omega⟩ := by
  have hl := B.lt
  refine View.canon_apply_of_pieces (Val := Elt Ideal) (e := .bf16) (S := S1024x1024) (fun y => pN x md g w ⟨1024 * t + (y 0).val, by have : (y 0).val < 1024 := (y 0).isLt; omega⟩ ⟨(y 1).val, by have : (y 1).val < 1024 := (y 1).isLt; omega⟩) _ ?_ _ ?_
  · intro p hp z
    rcases List.mem_cons.mp hp with rfl | hp
    · have z0 : (z 0).val < 1024 := (z 0).isLt
      have z1 : (z 1).val < 512 := (z 1).isLt
      have hz : z = ix2 (⟨(z 0).val, z0⟩ : Fin 1024) (⟨(z 1).val, z1⟩ : Fin 512) := by funext a; match a with | ⟨0, _⟩ => rfl | ⟨1, _⟩ => rfl
      rw [hz]
      refine (pay7_at _ _ _ _ _ _).trans ((pr5 B _ (hb_val B) 512 _ _ _).trans ?_)
      refine congrArg₂ (pN x md g w) (Fin.ext ?_) (Fin.ext ?_)
      · show 1024 * t + (z 0).val = 1024 * t + (0 + 1 * (z 0).val); omega
      · show 512 + (z 1).val = (512 + 1 * (z 1).val); omega
    · obtain rfl := List.mem_singleton.mp hp
      have z0 : (z 0).val < 1024 := (z 0).isLt
      have z1 : (z 1).val < 512 := (z 1).isLt
      have hz : z = ix2 (⟨(z 0).val, z0⟩ : Fin 1024) (⟨(z 1).val, z1⟩ : Fin 512) := by funext a; match a with | ⟨0, _⟩ => rfl | ⟨1, _⟩ => rfl
      rw [hz]
      refine (pay6_at _ _ _ _ _ _).trans ((pr5 B _ (hb_val B) 0 _ _ _).trans ?_)
      refine congrArg₂ (pN x md g w) (Fin.ext ?_) (Fin.ext ?_)
      · show 1024 * t + (z 0).val = 1024 * t + (0 + 1 * (z 0).val); omega
      · show 0 + (z 1).val = (0 + 1 * (z 1).val); omega
  · exact cover0_7 _ _ _

/-- Output window 8's block. -/
theorem out8_val (r : Fin 1024) (c : Fin 512) : out0_8 x0 x1 x2 x3 x4 x5 x6 (ix2 r c)
    = pN x md g w ⟨1024 * t + r.val, by have := B.lt; omega⟩ ⟨1024 + c.val, by omega⟩ := by
  have hl := B.lt
  rw [out0_8, View.canon_unit_zero (by funext a; fin_cases a <;> rfl)]
  exact (pay8_at _ _ _ _).trans (pr5 B _ (hb_val' B) 1024 _ _ _)

/-- Output window 9's block. -/
theorem out9_val (r : Fin 1024) (c : Fin 512) : out0_9 x0 x1 x2 x3 x4 x5 x6 (ix2 r c)
    = Ideal.div 1 (1 + Ideal.exp (-(pN x md g w ⟨1024 * t + r.val, by have := B.lt; omega⟩ ⟨1536 + c.val, by omega⟩))) := by
  have hl := B.lt
  rw [out0_9, View.canon_unit_zero (by funext a; fin_cases a <;> rfl)]
  exact (pay9_at _ _ _ _).trans (congrArg (fun z : EReal => Ideal.div 1 (1 + Ideal.exp (-z))) (pr5 B _ (hb_val' B) 1536 _ _ _))

/-- Output window 10's block. -/
theorem out10_val (r : Fin 1024) (c : Fin 512) : out0_10 x0 x1 x2 x3 x4 x5 x6 (ix2 r c)
    = qR (fun j => pN x md g w ⟨1024 * t + r.val, by have := B.lt; omega⟩ ⟨2048 + (c.val / 64 * 64 + j.val), by omega⟩) (pN x md g w ⟨1024 * t + r.val, by have := B.lt; omega⟩ ⟨2048 + c.val, by omega⟩) (qg (ix2 0 c)) := by
  have hl := B.lt
  rw [out0_10, View.canon_unit_zero (by funext a; fin_cases a <;> rfl), View.ld_unit_zero (by funext a; fin_cases a <;> rfl), View.ld_unit_zero (by funext a; fin_cases a <;> rfl)]
  refine (pay10_at _ _ _ _ _ _ _ B.e4 B.e4).trans ?_
  have e : ∀ d, mm (k0_pay14 x0 x1 x2 x3 x4 x5 x6) (View.ld x3 r0_10) r d = pN x md g w ⟨1024 * t + r.val, by omega⟩ ⟨2048 + d.val, by omega⟩ := fun d =>
    pr5 B _ (hb_val' B) 2048 _ r d
  simp only [e, B.e5]

/-- Output window 11's block. -/
theorem out11_val (r : Fin 1024) (c : Fin 512) : out0_11 x0 x1 x2 x3 x4 x5 x6 (ix2 r c)
    = qR (fun j => pN x md g w ⟨1024 * t + r.val, by have := B.lt; omega⟩ ⟨2560 + (c.val / 64 * 64 + j.val), by omega⟩) (pN x md g w ⟨1024 * t + r.val, by have := B.lt; omega⟩ ⟨2560 + c.val, by omega⟩) (kg (ix2 0 c)) := by
  have hl := B.lt
  rw [out0_11, View.canon_unit_zero (by funext a; fin_cases a <;> rfl), View.ld_unit_zero (by funext a; fin_cases a <;> rfl), View.ld_unit_zero (by funext a; fin_cases a <;> rfl), pay11_eq]
  refine (pay10_at _ _ _ _ _ _ _ B.e4 B.e4).trans ?_
  have e : ∀ d, mm (k0_pay14 x0 x1 x2 x3 x4 x5 x6) (View.ld x3 r0_13) r d = pN x md g w ⟨1024 * t + r.val, by omega⟩ ⟨2560 + d.val, by omega⟩ := fun d =>
    pr5 B _ (hb_val' B) 2560 _ r d
  simp only [e, B.e6]

/-- Output window 12's block. -/
theorem out12_val (r : Fin 1024) (c : Fin 512) : out0_12 x0 x1 x2 x3 x4 x5 x6 (ix2 r c)
    = pN x md g w ⟨1024 * t + r.val, by have := B.lt; omega⟩ ⟨3072 + c.val, by omega⟩ := by
  have hl := B.lt
  rw [out0_12, View.canon_unit_zero (by funext a; fin_cases a <;> rfl)]
  exact (pay12_at _ _ _ _).trans (pr5 B _ (hb_val' B) 3072 _ _ _)

/-- Output window 13's block. -/
theorem out13_val (r : Fin 1024) (c : Fin 1024) : out0_13 x0 x1 x2 x3 x4 x5 x6 (ix2 r c)
    = pN x md g w ⟨1024 * t + r.val, by have := B.lt; omega⟩ ⟨3584 + c.val, by omega⟩ := by
  have hl := B.lt
  refine View.canon_apply_of_pieces (Val := Elt Ideal) (e := .bf16) (S := S1024x1024) (fun y => pN x md g w ⟨1024 * t + (y 0).val, by have : (y 0).val < 1024 := (y 0).isLt; omega⟩ ⟨3584 + (y 1).val, by have : (y 1).val < 1024 := (y 1).isLt; omega⟩) _ ?_ _ ?_
  · intro p hp z
    rcases List.mem_cons.mp hp with rfl | hp
    · have z0 : (z 0).val < 1024 := (z 0).isLt
      have z1 : (z 1).val < 512 := (z 1).isLt
      have hz : z = ix2 (⟨(z 0).val, z0⟩ : Fin 1024) (⟨(z 1).val, z1⟩ : Fin 512) := by funext a; match a with | ⟨0, _⟩ => rfl | ⟨1, _⟩ => rfl
      rw [hz]
      refine (pay1_at _ _ _ _).trans ((pr5 B _ (hb_val' B) 4096 _ _ _).trans ?_)
      refine congrArg₂ (pN x md g w) (Fin.ext ?_) (Fin.ext ?_)
      · show 1024 * t + (z 0).val = 1024 * t + (0 + 1 * (z 0).val); omega
      · show 4096 + (z 1).val = 3584 + (512 + 1 * (z 1).val); omega
    · obtain rfl := List.mem_singleton.mp hp
      have z0 : (z 0).val < 1024 := (z 0).isLt
      have z1 : (z 1).val < 512 := (z 1).isLt
      have hz : z = ix2 (⟨(z 0).val, z0⟩ : Fin 1024) (⟨(z 1).val, z1⟩ : Fin 512) := by funext a; match a with | ⟨0, _⟩ => rfl | ⟨1, _⟩ => rfl
      rw [hz]
      refine (pay13_at _ _ _ _).trans ((pr5 B _ (hb_val' B) 3584 _ _ _).trans ?_)
      refine congrArg₂ (pN x md g w) (Fin.ext ?_) (Fin.ext ?_)
      · show 1024 * t + (z 0).val = 1024 * t + (0 + 1 * (z 0).val); omega
      · show 3584 + (z 1).val = 3584 + (0 + 1 * (z 1).val); omega
  · exact cover0_13 _ _ _

/-- Output window 14's block. -/
theorem out14_val (r : Fin 1024) (c : Fin 1024) : out0_14 x0 x1 x2 x3 x4 x5 x6 (ix2 r c)
    = pN x md g w ⟨1024 * t + r.val, by have := B.lt; omega⟩ ⟨4608 + c.val, by omega⟩ := by
  have hl := B.lt
  refine View.canon_apply_of_pieces (Val := Elt Ideal) (e := .bf16) (S := S1024x1024) (fun y => pN x md g w ⟨1024 * t + (y 0).val, by have : (y 0).val < 1024 := (y 0).isLt; omega⟩ ⟨4608 + (y 1).val, by have : (y 1).val < 1024 := (y 1).isLt; omega⟩) _ ?_ _ ?_
  · intro p hp z
    rcases List.mem_cons.mp hp with rfl | hp
    · have z0 : (z 0).val < 1024 := (z 0).isLt
      have z1 : (z 1).val < 512 := (z 1).isLt
      have hz : z = ix2 (⟨(z 0).val, z0⟩ : Fin 1024) (⟨(z 1).val, z1⟩ : Fin 512) := by funext a; match a with | ⟨0, _⟩ => rfl | ⟨1, _⟩ => rfl
      rw [hz]
      refine (pay3_at _ _ _ _).trans ((pr5 B _ (hb_val' B) 5120 _ _ _).trans ?_)
      refine congrArg₂ (pN x md g w) (Fin.ext ?_) (Fin.ext ?_)
      · show 1024 * t + (z 0).val = 1024 * t + (0 + 1 * (z 0).val); omega
      · show 5120 + (z 1).val = 4608 + (512 + 1 * (z 1).val); omega
    · obtain rfl := List.mem_singleton.mp hp
      have z0 : (z 0).val < 1024 := (z 0).isLt
      have z1 : (z 1).val < 512 := (z 1).isLt
      have hz : z = ix2 (⟨(z 0).val, z0⟩ : Fin 1024) (⟨(z 1).val, z1⟩ : Fin 512) := by funext a; match a with | ⟨0, _⟩ => rfl | ⟨1, _⟩ => rfl
      rw [hz]
      refine (pay2_at _ _ _ _).trans ((pr5 B _ (hb_val' B) 4608 _ _ _).trans ?_)
      refine congrArg₂ (pN x md g w) (Fin.ext ?_) (Fin.ext ?_)
      · show 1024 * t + (z 0).val = 1024 * t + (0 + 1 * (z 0).val); omega
      · show 4608 + (z 1).val = 4608 + (0 + 1 * (z 1).val); omega
  · exact cover0_14 _ _ _

/-- Output window 15's block. -/
theorem out15_val (r : Fin 1024) (c : Fin 256) : out0_15 x0 x1 x2 x3 x4 x5 x6 (ix2 r c)
    = pN x md g w ⟨1024 * t + r.val, by have := B.lt; omega⟩ ⟨5632 + c.val, by omega⟩ := by
  have hl := B.lt
  rw [out0_15, View.canon_unit_zero (by funext a; fin_cases a <;> rfl)]
  exact (pay4_at _ _ _ _).trans (pr2 B _ (hb_val' B) _ _)

end

end Cert.Inp
-- ==== Proof.Inp.Ref.lean ====
module

public import proofs.«01_k».proof.Proof.Gen.Reference2Ideal.Run
public import proofs.«01_k».proof.Proof.Inp.Data

@[expose] public section

set_option maxRecDepth 16384

/-! The reference's results read at an index. -/

noncomputable section

namespace Cert.Inp

open Cert.Reference2Ideal Cert.Reference2Ideal.Gen Idealize.ShloMosaic Idealize.ShloMosaic.TcCoe Idealize.SL.Sem Idealize.ShloMosaic.StableHlo

variable (x : FVec Ideal S32768x1024 .f32) (md : FVec Ideal S4x6x1024 .f32) (g : FVec Ideal S1x1024 .f32) (w : FVec Ideal S1024x5888 .bf16)

/-- Row `o` of the modulation, one copy per token. -/
def perTok1 (md : FVec Ideal S4x6x1024 .f32) : FVec Ideal S32768x1024 .f32 :=
  shapeCast S32768x1024 (broadcastInDim S4x8192x1024 ![0, 1, 2] bcast_S4x1x1024_S4x8192x1024_0_1_2 (broadcastInDim S4x1x1024 ![0, 2] bcast_S4x1024_S4x1x1024_0_2 (shapeCast S4x1024 (extractStridedSlice S4x1x1024 ![0, 1, 0] md slices_S4x6x1024_S4x1x1024_0_1_0) shapeCasts_S4x1x1024_S4x1024))) shapeCasts_S4x8192x1024_S32768x1024
/-- The shift, one copy per token. -/
def perTok0 (md : FVec Ideal S4x6x1024 .f32) : FVec Ideal S32768x1024 .f32 :=
  shapeCast S32768x1024 (broadcastInDim S4x8192x1024 ![0, 1, 2] bcast_S4x1x1024_S4x8192x1024_0_1_2 (broadcastInDim S4x1x1024 ![0, 2] bcast_S4x1024_S4x1x1024_0_2 (shapeCast S4x1024 (extractStridedSlice S4x1x1024 ![0, 0, 0] md slices_S4x6x1024_S4x1x1024_0_0_0) shapeCasts_S4x1x1024_S4x1024))) shapeCasts_S4x8192x1024_S32768x1024

/-- The scale of token `r`'s batch. -/
theorem perTok1_at (r : Fin 32768) (k : Fin 1024) : perTok1 md (ix2 r k) = md (ix3 ⟨r.val / 8192, by omega⟩ 1 k) := by
  pointwise [perTok1]
/-- The shift of token `r`'s batch. -/
theorem perTok0_at (r : Fin 32768) (k : Fin 1024) : perTok0 md (ix2 r k) = md (ix3 ⟨r.val / 8192, by omega⟩ 0 k) := by
  pointwise [perTok0]

/-- The reference's normed, modulated rows. -/
def refH : FVec Ideal S32768x1024 .f32 :=
  addf (mulf (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast S1024 g shapeCasts_S1x1024_S1024)))) (addf (broadcastInDim S32768x1024 ![] bcast_S_S32768x1024 (constant S_ .f32 0x3F800000#32)) (perTok1 md))) (perTok0 md)

/-- The reference's rows at an index. -/
theorem refH_at (r : Fin 32768) (k : Fin 1024) : refH x md g (ix2 r k) = hN x md g r k := by
  pointwise [refH]
  simp only [perTok1_at, perTok0_at, hN, hR, Ideal.ofBits_zero .f32, zero_add]

/-- The reference's projection. -/
def refP : FVec Ideal S32768x5888 .f32 :=
  Host.dotGeneral dot_S32768x1024_S1024x5888_S32768x5888_1_0_0_1_n_n none (refH x md g) (extf .f32 w bitsLt_bf16_f32)

/-- The reference's projection at an index. -/
theorem refP_at (r : Fin 32768) (c : Fin 5888) : refP x md g w (ix2 r c) = pN x md g w r c := by
  pointwise [refP]
  simp only [refH_at, pN]

/-- The reference's norm of 64-entry heads. -/
def refQ (a : FVec Ideal S32768x512 .f32) (gn : FVec Ideal S1x512 .f32) : FVec Ideal S32768x512 .f32 :=
  shapeCast S32768x512 (mulf (mulf (shapeCast S32768x8x64 a shapeCasts_S32768x512_S32768x8x64) (broadcastInDim S32768x8x64 ![0, 1, 2] bcast_S32768x8x1_S32768x8x64_0_1_2 (Host.rsqrt (addf (Host.divf (broadcastInDim S32768x8x1 ![0, 1] bcast_S32768x8_S32768x8x1_0_1 (Host.reduceAdd (mulf (shapeCast S32768x8x64 a shapeCasts_S32768x512_S32768x8x64) (shapeCast S32768x8x64 a shapeCasts_S32768x512_S32768x8x64)) (constant S_ .f32 0x00000000#32) reducesTo_S32768x8x64_S32768x8_d2 h_S_)) (broadcastInDim S32768x8x1 ![] bcast_S_S32768x8x1 (constant S_ .f32 0x42800000#32))) (broadcastInDim S32768x8x1 ![] bcast_S_S32768x8x1 (constant S_ .f32 0x358637BD#32)))))) (broadcastInDim S32768x8x64 ![0, 1, 2] bcast_S1x8x64_S32768x8x64_0_1_2 (broadcastInDim S1x8x64 ![1, 2] bcast_S8x64_S1x8x64_1_2 (shapeCast S8x64 gn shapeCasts_S1x512_S8x64)))) shapeCasts_S32768x8x64_S32768x512

/-- The reference's norm of heads at an index. -/
theorem refQ_at (a : FVec Ideal S32768x512 .f32) (gn : FVec Ideal S1x512 .f32) (r : Fin 32768) (c : Fin 512) :
    refQ a gn (ix2 r c) = qR (fun j => a (ix2 r ⟨c.val / 64 * 64 + j.val, by omega⟩)) (a (ix2 r c)) (gn (ix2 0 c)) := by
  pointwise [refQ]
  simp only [qR]

/-- The queries or keys from column `o` of the projection, normed. -/
theorem refQ_pN (o : Nat) (ho : S32768x5888.Slices ![0, o] S32768x512) (h : o + 512 ≤ 5888) (gn : FVec Ideal S1x512 .f32) (r : Fin 32768) (c : Fin 512) :
    refQ (extractStridedSlice S32768x512 ![0, o] (refP x md g w) ho) gn (ix2 r c)
      = qR (fun j => pN x md g w r ⟨o + (c.val / 64 * 64 + j.val), by omega⟩) (pN x md g w r ⟨o + c.val, by omega⟩) (gn (ix2 0 c)) := by
  have e : ∀ d : Fin 512, extractStridedSlice S32768x512 ![0, o] (refP x md g w) ho (ix2 r d) = pN x md g w r ⟨o + d.val, by omega⟩ := fun d => by
    rw [← refP_at]
    refine congrArg (refP x md g w) (funext fun i => Fin.ext ?_)
    match i with
    | 0 => exact Nat.zero_add _
    | 1 => rfl
  rw [refQ_at, e]
  simp only [e]

variable (m : (ℓ : Loc nD τ sig) → Buf (Elt Ideal) ℓ) (c : Dev nD)

/-- The arguments of the reference on device `c`. -/
def ax : FVec Ideal S32768x1024 .f32 := m ((c.tc : Thread nD τ).loc main_arg0)
/-- The modulation. -/
def am : FVec Ideal S4x6x1024 .f32 := m ((c.tc : Thread nD τ).loc main_arg1)
/-- The norm's gain. -/
def ag : FVec Ideal S1x1024 .f32 := m ((c.tc : Thread nD τ).loc main_arg2)
/-- The weight. -/
def aw : FVec Ideal S1024x5888 .bf16 := m ((c.tc : Thread nD τ).loc main_arg3)
/-- The queries' gain. -/
def aq : FVec Ideal S1x512 .f32 := m ((c.tc : Thread nD τ).loc main_arg4)
/-- The keys' gain. -/
def ak : FVec Ideal S1x512 .f32 := m ((c.tc : Thread nD τ).loc main_arg5)

/-- Columns of the projection. -/
def refPm : FVec Ideal S32768x5888 .f32 := refP (ax m c) (am m c) (ag m c) (aw m c)

/-- The reference's run: the projection's columns, the sigmoid of the output gate, the normed queries and keys. -/
theorem ref_run (ρ : Dev nD → PrngReg) :
    θ_run defs (onTc (τ := τ) (main (F := Ideal))) ⟨m, fun _ => 0, ρ⟩ fun r => ∀ c : Dev nD,
      r.2.mem ((c.tc : Thread nD τ).loc main_v77) = truncf .bf16 (extractStridedSlice S32768x1024 ![0, 0] (refPm m c) slices_S32768x5888_S32768x1024_0_0) bitsLt_bf16_f32
      ∧ r.2.mem ((c.tc : Thread nD τ).loc main_v78) = truncf .bf16 (extractStridedSlice S32768x512 ![0, 1024] (refPm m c) slices_S32768x5888_S32768x512_0_1024) bitsLt_bf16_f32
      ∧ r.2.mem ((c.tc : Thread nD τ).loc main_v79) = truncf .bf16 (Host.divf (broadcastInDim S32768x512 ![] bcast_S_S32768x512 (constant S_ .f32 0x3F800000#32)) (addf (broadcastInDim S32768x512 ![] bcast_S_S32768x512 (constant S_ .f32 0x3F800000#32)) (Host.exp (negf (extractStridedSlice S32768x512 ![0, 1536] (refPm m c) slices_S32768x5888_S32768x512_0_1536))))) bitsLt_bf16_f32
      ∧ r.2.mem ((c.tc : Thread nD τ).loc main_v80) = truncf .bf16 (refQ (extractStridedSlice S32768x512 ![0, 2048] (refPm m c) slices_S32768x5888_S32768x512_0_2048) (aq m c)) bitsLt_bf16_f32
      ∧ r.2.mem ((c.tc : Thread nD τ).loc main_v81) = truncf .bf16 (refQ (extractStridedSlice S32768x512 ![0, 2560] (refPm m c) slices_S32768x5888_S32768x512_0_2560) (ak m c)) bitsLt_bf16_f32
      ∧ r.2.mem ((c.tc : Thread nD τ).loc main_v82) = truncf .bf16 (extractStridedSlice S32768x512 ![0, 3072] (refPm m c) slices_S32768x5888_S32768x512_0_3072) bitsLt_bf16_f32
      ∧ r.2.mem ((c.tc : Thread nD τ).loc main_v83) = truncf .bf16 (extractStridedSlice S32768x1024 ![0, 3584] (refPm m c) slices_S32768x5888_S32768x1024_0_3584) bitsLt_bf16_f32
      ∧ r.2.mem ((c.tc : Thread nD τ).loc main_v84) = truncf .bf16 (extractStridedSlice S32768x1024 ![0, 4608] (refPm m c) slices_S32768x5888_S32768x1024_0_4608) bitsLt_bf16_f32
      ∧ r.2.mem ((c.tc : Thread nD τ).loc main_v38) = extractStridedSlice S32768x256 ![0, 5632] (refPm m c) slices_S32768x5888_S32768x256_0_5632
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

end Cert.Inp
-- ==== Proof.Inp.Kernel.lean ====
module

public import proofs.«01_k».proof.Proof.Inp.Blocks
public import proofs.«01_k».proof.Proof.Inp.Ref
public import Idealize.ShloMosaic.Lib.Pipeline.ValueKit

@[expose] public section

set_option maxRecDepth 16384

/-! The kernel's arrays after the run. -/

noncomputable section

namespace Cert.Inp

open Cert.Kernel2Ideal Cert.Kernel2Ideal.Gen Cert.Kernel2Ideal.Value Idealize.ShloMosaic Idealize.ShloMosaic.TcCoe Idealize.SL.Sem

variable (m : (ℓ : Loc nD τ sig) → Buf (Elt Ideal) ℓ) (c : Dev nD)

/-- The normed operand, as the memory holds it. -/
def kx : S32768x1024.Idx → EReal := m ((c : Thread nD τ).loc main_arg0)
/-- The modulation. -/
def km : S4x6x1024.Idx → EReal := m ((c : Thread nD τ).loc main_arg1)
/-- The norm's gain. -/
def kg : S1x1024.Idx → EReal := m ((c : Thread nD τ).loc main_arg2)
/-- The weight. -/
def kw : S1024x5888.Idx → EReal := m ((c : Thread nD τ).loc main_arg3)
/-- The queries' gain. -/
def kq : S1x512.Idx → EReal := m ((c : Thread nD τ).loc main_arg4)
/-- The keys' gain. -/
def kk : S1x512.Idx → EReal := m ((c : Thread nD τ).loc main_arg5)

/-- A point's block of the normed operand. -/
theorem b0 (t : Fin cfg0.N) (r k : Fin 1024) : (iblk m c 0 t : S1024x1024.Idx → EReal) (ix2 r k) = kx m c (ix2 ⟨1024 * t.val + r.val, by have := tlt2 t; omega⟩ k) := by
  unfold iblk
  rw [View.read_apply]
  refine (congrFun (V_main_arg0 m c) _).trans (congrArg (m ((c : Thread nD τ).loc main_arg0)) (funext fun a => match a with
    | ⟨0, _⟩ => Fin.ext (by show win0_0.index t (0 : Fin 2) * 1024 + 1 * r.val = 1024 * t.val + r.val; rw [(idx2 t).1.1]; omega)
    | ⟨1, _⟩ => Fin.ext (by show win0_0.index t (1 : Fin 2) * 1024 + 1 * k.val = k.val; rw [(idx2 t).1.2]; omega)))

/-- A point's block of the modulation. -/
theorem b1 (t : Fin cfg0.N) (j : Fin 6) (k : Fin 1024) : (iblk m c 1 t : S1x6x1024.Idx → EReal) (ix3 0 j k) = km m c (ix3 ⟨t.val / 8, by have := tlt2 t; omega⟩ j k) := by
  unfold iblk
  rw [View.read_apply]
  refine (congrFun (V_main_arg1 m c) _).trans (congrArg (m ((c : Thread nD τ).loc main_arg1)) (funext fun a => match a with
    | ⟨0, _⟩ => Fin.ext (by show win0_1.index t (0 : Fin 3) * 1 + 1 * 0 = t.val / 8; rw [(idx2 t).2.1.1]; omega)
    | ⟨1, _⟩ => Fin.ext (by show win0_1.index t (1 : Fin 3) * 6 + 1 * j.val = j.val; rw [(idx2 t).2.1.2.1]; omega)
    | ⟨2, _⟩ => Fin.ext (by show win0_1.index t (2 : Fin 3) * 1024 + 1 * k.val = k.val; rw [(idx2 t).2.1.2.2]; omega)))

/-- A point's block of the norm's gain. -/
theorem b2 (t : Fin cfg0.N) (k : Fin 1024) : (iblk m c 2 t : S1x1024.Idx → EReal) (ix2 0 k) = kg m c (ix2 0 k) := by
  unfold iblk
  rw [View.read_apply]
  refine (congrFun (V_main_arg2 m c) _).trans (congrArg (m ((c : Thread nD τ).loc main_arg2)) (funext fun a => match a with
    | ⟨0, _⟩ => Fin.ext (by show win0_2.index t (0 : Fin 2) * 1 + 1 * 0 = 0; rw [(idx2 t).2.2.1.1])
    | ⟨1, _⟩ => Fin.ext (by show win0_2.index t (1 : Fin 2) * 1024 + 1 * k.val = k.val; rw [(idx2 t).2.2.1.2]; omega)))

/-- A point's block of the weight. -/
theorem b3 (t : Fin cfg0.N) (k : Fin 1024) (d : Fin 5888) : (iblk m c 3 t : S1024x5888.Idx → EReal) (ix2 k d) = kw m c (ix2 k d) := by
  unfold iblk
  rw [View.read_apply]
  refine (congrFun (V_main_arg3 m c) _).trans (congrArg (m ((c : Thread nD τ).loc main_arg3)) (funext fun a => match a with
    | ⟨0, _⟩ => Fin.ext (by show win0_3.index t (0 : Fin 2) * 1024 + 1 * k.val = k.val; rw [(idx2 t).2.2.2.1.1]; omega)
    | ⟨1, _⟩ => Fin.ext (by show win0_3.index t (1 : Fin 2) * 5888 + 1 * d.val = d.val; rw [(idx2 t).2.2.2.1.2]; omega)))

/-- A point's block of the averaging matrix. -/
theorem b4 (t : Fin cfg0.N) (e d : Fin 256) : (iblk m c 4 t : S256x256.Idx → EReal) (ix2 e d) = if e.val / 64 = d.val / 64 then Ideal.ofBits FTy.f32 1015021568#32 else 0 := by
  unfold iblk
  rw [View.read_apply]
  refine (congrFun (V_grp m c) _).trans ((congrArg grp (funext fun a => match a with
    | ⟨0, _⟩ => Fin.ext (by show win0_4.index t (0 : Fin 2) * 256 + 1 * e.val = e.val; rw [(idx2 t).2.2.2.2.1.1]; omega)
    | ⟨1, _⟩ => Fin.ext (by show win0_4.index t (1 : Fin 2) * 256 + 1 * d.val = d.val; rw [(idx2 t).2.2.2.2.1.2]; omega))).trans (grp_at e d))

/-- A point's block of the queries' gain. -/
theorem b5 (t : Fin cfg0.N) (d : Fin 512) : (iblk m c 5 t : S1x512.Idx → EReal) (ix2 0 d) = kq m c (ix2 0 d) := by
  unfold iblk
  rw [View.read_apply]
  refine (congrFun (V_main_arg4 m c) _).trans (congrArg (m ((c : Thread nD τ).loc main_arg4)) (funext fun a => match a with
    | ⟨0, _⟩ => Fin.ext (by show win0_5.index t (0 : Fin 2) * 1 + 1 * 0 = 0; rw [(idx2 t).2.2.2.2.2.1.1])
    | ⟨1, _⟩ => Fin.ext (by show win0_5.index t (1 : Fin 2) * 512 + 1 * d.val = d.val; rw [(idx2 t).2.2.2.2.2.1.2]; omega)))

/-- A point's block of the keys' gain. -/
theorem b6 (t : Fin cfg0.N) (d : Fin 512) : (iblk m c 6 t : S1x512.Idx → EReal) (ix2 0 d) = kk m c (ix2 0 d) := by
  unfold iblk
  rw [View.read_apply]
  refine (congrFun (V_main_arg5 m c) _).trans (congrArg (m ((c : Thread nD τ).loc main_arg5)) (funext fun a => match a with
    | ⟨0, _⟩ => Fin.ext (by show win0_6.index t (0 : Fin 2) * 1 + 1 * 0 = 0; rw [(idx2 t).2.2.2.2.2.2.1])
    | ⟨1, _⟩ => Fin.ext (by show win0_6.index t (1 : Fin 2) * 512 + 1 * d.val = d.val; rw [(idx2 t).2.2.2.2.2.2.2]; omega)))

/-- A point's blocks are the arrays' windows. -/
theorem blk2 (t : Fin cfg0.N) : Blk (kx m c) (km m c) (kg m c) (kw m c) (kq m c) (kk m c) t.val (iblk m c 0 t) (iblk m c 1 t) (iblk m c 2 t) (iblk m c 3 t) (iblk m c 4 t)
    (iblk m c 5 t) (iblk m c 6 t) := ⟨tlt2 t, b0 m c t, b1 m c t, b2 m c t, b3 m c t, b4 m c t, b5 m c t, b6 m c t⟩

/-- The projection over the arguments. -/
def kp (r : Fin 32768) (d : Fin 5888) : EReal := pN (kx m c) (km m c) (kg m c) (kw m c) r d

/-- The output windows' block indices. -/
theorem idxo : ∀ t : Fin cfg0.N, (win0_7.index t (0 : Fin 2) = t.val ∧ win0_7.index t (1 : Fin 2) = 0) ∧ (win0_8.index t (0 : Fin 2) = t.val ∧ win0_8.index t (1 : Fin 2) = 0) ∧ (win0_9.index t (0 : Fin 2) = t.val ∧ win0_9.index t (1 : Fin 2) = 0) ∧ (win0_10.index t (0 : Fin 2) = t.val ∧ win0_10.index t (1 : Fin 2) = 0) ∧ (win0_11.index t (0 : Fin 2) = t.val ∧ win0_11.index t (1 : Fin 2) = 0) ∧ (win0_12.index t (0 : Fin 2) = t.val ∧ win0_12.index t (1 : Fin 2) = 0) ∧ (win0_13.index t (0 : Fin 2) = t.val ∧ win0_13.index t (1 : Fin 2) = 0) ∧ (win0_14.index t (0 : Fin 2) = t.val ∧ win0_14.index t (1 : Fin 2) = 0) ∧ (win0_15.index t (0 : Fin 2) = t.val ∧ win0_15.index t (1 : Fin 2) = 0) :=
  (by decide +kernel : ∀ t : Fin grid0.N, _)

/-- Result 0 at a token and a column. -/
def o7 (r : Fin 32768) (d : Fin 1024) : EReal := kp m c r ⟨d.val, by omega⟩
/-- Result 0 after the run. -/
theorem fin7 : (dats m 0 c).arrAt 7 cfg0.N = fun y : S32768x1024.Idx => o7 m c (y 0) (y 1) := by
  refine (dats m 0 c).arrAt_eq_of_covers 7 _ (by decide +kernel) fun t _ y => ?_
  blk_simp
  rw [after0_7]
  have y0 : (y 0).val < 1024 := (y 0).isLt
  have y1 : (y 1).val < 1024 := (y 1).isLt
  have hy : y = ix2 (⟨(y 0).val, y0⟩ : Fin 1024) (⟨(y 1).val, y1⟩ : Fin 1024) := by funext a; match a with | ⟨0, _⟩ => rfl | ⟨1, _⟩ => rfl
  refine ((congrArg (out0_7 _ _ _ _ _ _ _) hy).trans (out7_val (blk2 m c t) _ _)).trans ?_
  refine congrArg₂ (o7 m c) (Fin.ext ?_) (Fin.ext ?_)
  · show 1024 * t.val + (y 0).val = win0_7.index t (0 : Fin 2) * 1024 + 1 * (y 0).val; rw [(idxo t).1.1]; omega
  · show (y 1).val = win0_7.index t (1 : Fin 2) * 1024 + 1 * (y 1).val; rw [(idxo t).1.2]; omega

/-- Result 1 at a token and a column. -/
def o8 (r : Fin 32768) (d : Fin 512) : EReal := kp m c r ⟨1024 + d.val, by omega⟩
/-- Result 1 after the run. -/
theorem fin8 : (dats m 0 c).arrAt 8 cfg0.N = fun y : S32768x512.Idx => o8 m c (y 0) (y 1) := by
  refine (dats m 0 c).arrAt_eq_of_covers 8 _ (by decide +kernel) fun t _ y => ?_
  blk_simp
  rw [after0_8]
  have y0 : (y 0).val < 1024 := (y 0).isLt
  have y1 : (y 1).val < 512 := (y 1).isLt
  have hy : y = ix2 (⟨(y 0).val, y0⟩ : Fin 1024) (⟨(y 1).val, y1⟩ : Fin 512) := by funext a; match a with | ⟨0, _⟩ => rfl | ⟨1, _⟩ => rfl
  refine ((congrArg (out0_8 _ _ _ _ _ _ _) hy).trans (out8_val (blk2 m c t) _ _)).trans ?_
  refine congrArg₂ (o8 m c) (Fin.ext ?_) (Fin.ext ?_)
  · show 1024 * t.val + (y 0).val = win0_8.index t (0 : Fin 2) * 1024 + 1 * (y 0).val; rw [(idxo t).2.1.1]; omega
  · show (y 1).val = win0_8.index t (1 : Fin 2) * 512 + 1 * (y 1).val; rw [(idxo t).2.1.2]; omega

/-- Result 2 at a token and a column. -/
def o9 (r : Fin 32768) (d : Fin 512) : EReal := Ideal.div 1 (1 + Ideal.exp (-(kp m c r ⟨1536 + d.val, by omega⟩)))
/-- Result 2 after the run. -/
theorem fin9 : (dats m 0 c).arrAt 9 cfg0.N = fun y : S32768x512.Idx => o9 m c (y 0) (y 1) := by
  refine (dats m 0 c).arrAt_eq_of_covers 9 _ (by decide +kernel) fun t _ y => ?_
  blk_simp
  rw [after0_9]
  have y0 : (y 0).val < 1024 := (y 0).isLt
  have y1 : (y 1).val < 512 := (y 1).isLt
  have hy : y = ix2 (⟨(y 0).val, y0⟩ : Fin 1024) (⟨(y 1).val, y1⟩ : Fin 512) := by funext a; match a with | ⟨0, _⟩ => rfl | ⟨1, _⟩ => rfl
  refine ((congrArg (out0_9 _ _ _ _ _ _ _) hy).trans (out9_val (blk2 m c t) _ _)).trans ?_
  refine congrArg₂ (o9 m c) (Fin.ext ?_) (Fin.ext ?_)
  · show 1024 * t.val + (y 0).val = win0_9.index t (0 : Fin 2) * 1024 + 1 * (y 0).val; rw [(idxo t).2.2.1.1]; omega
  · show (y 1).val = win0_9.index t (1 : Fin 2) * 512 + 1 * (y 1).val; rw [(idxo t).2.2.1.2]; omega

/-- Result 3 at a token and a column. -/
def o10 (r : Fin 32768) (d : Fin 512) : EReal := qR (fun j => kp m c r ⟨2048 + (d.val / 64 * 64 + j.val), by omega⟩) (kp m c r ⟨2048 + d.val, by omega⟩) (kq m c (ix2 0 d))
/-- Result 3 after the run. -/
theorem fin10 : (dats m 0 c).arrAt 10 cfg0.N = fun y : S32768x512.Idx => o10 m c (y 0) (y 1) := by
  refine (dats m 0 c).arrAt_eq_of_covers 10 _ (by decide +kernel) fun t _ y => ?_
  blk_simp
  rw [after0_10]
  have y0 : (y 0).val < 1024 := (y 0).isLt
  have y1 : (y 1).val < 512 := (y 1).isLt
  have hy : y = ix2 (⟨(y 0).val, y0⟩ : Fin 1024) (⟨(y 1).val, y1⟩ : Fin 512) := by funext a; match a with | ⟨0, _⟩ => rfl | ⟨1, _⟩ => rfl
  refine ((congrArg (out0_10 _ _ _ _ _ _ _) hy).trans (out10_val (blk2 m c t) _ _)).trans ?_
  refine congrArg₂ (o10 m c) (Fin.ext ?_) (Fin.ext ?_)
  · show 1024 * t.val + (y 0).val = win0_10.index t (0 : Fin 2) * 1024 + 1 * (y 0).val; rw [(idxo t).2.2.2.1.1]; omega
  · show (y 1).val = win0_10.index t (1 : Fin 2) * 512 + 1 * (y 1).val; rw [(idxo t).2.2.2.1.2]; omega

/-- Result 4 at a token and a column. -/
def o11 (r : Fin 32768) (d : Fin 512) : EReal := qR (fun j => kp m c r ⟨2560 + (d.val / 64 * 64 + j.val), by omega⟩) (kp m c r ⟨2560 + d.val, by omega⟩) (kk m c (ix2 0 d))
/-- Result 4 after the run. -/
theorem fin11 : (dats m 0 c).arrAt 11 cfg0.N = fun y : S32768x512.Idx => o11 m c (y 0) (y 1) := by
  refine (dats m 0 c).arrAt_eq_of_covers 11 _ (by decide +kernel) fun t _ y => ?_
  blk_simp
  rw [after0_11]
  have y0 : (y 0).val < 1024 := (y 0).isLt
  have y1 : (y 1).val < 512 := (y 1).isLt
  have hy : y = ix2 (⟨(y 0).val, y0⟩ : Fin 1024) (⟨(y 1).val, y1⟩ : Fin 512) := by funext a; match a with | ⟨0, _⟩ => rfl | ⟨1, _⟩ => rfl
  refine ((congrArg (out0_11 _ _ _ _ _ _ _) hy).trans (out11_val (blk2 m c t) _ _)).trans ?_
  refine congrArg₂ (o11 m c) (Fin.ext ?_) (Fin.ext ?_)
  · show 1024 * t.val + (y 0).val = win0_11.index t (0 : Fin 2) * 1024 + 1 * (y 0).val; rw [(idxo t).2.2.2.2.1.1]; omega
  · show (y 1).val = win0_11.index t (1 : Fin 2) * 512 + 1 * (y 1).val; rw [(idxo t).2.2.2.2.1.2]; omega

/-- Result 5 at a token and a column. -/
def o12 (r : Fin 32768) (d : Fin 512) : EReal := kp m c r ⟨3072 + d.val, by omega⟩
/-- Result 5 after the run. -/
theorem fin12 : (dats m 0 c).arrAt 12 cfg0.N = fun y : S32768x512.Idx => o12 m c (y 0) (y 1) := by
  refine (dats m 0 c).arrAt_eq_of_covers 12 _ (by decide +kernel) fun t _ y => ?_
  blk_simp
  rw [after0_12]
  have y0 : (y 0).val < 1024 := (y 0).isLt
  have y1 : (y 1).val < 512 := (y 1).isLt
  have hy : y = ix2 (⟨(y 0).val, y0⟩ : Fin 1024) (⟨(y 1).val, y1⟩ : Fin 512) := by funext a; match a with | ⟨0, _⟩ => rfl | ⟨1, _⟩ => rfl
  refine ((congrArg (out0_12 _ _ _ _ _ _ _) hy).trans (out12_val (blk2 m c t) _ _)).trans ?_
  refine congrArg₂ (o12 m c) (Fin.ext ?_) (Fin.ext ?_)
  · show 1024 * t.val + (y 0).val = win0_12.index t (0 : Fin 2) * 1024 + 1 * (y 0).val; rw [(idxo t).2.2.2.2.2.1.1]; omega
  · show (y 1).val = win0_12.index t (1 : Fin 2) * 512 + 1 * (y 1).val; rw [(idxo t).2.2.2.2.2.1.2]; omega

/-- Result 6 at a token and a column. -/
def o13 (r : Fin 32768) (d : Fin 1024) : EReal := kp m c r ⟨3584 + d.val, by omega⟩
/-- Result 6 after the run. -/
theorem fin13 : (dats m 0 c).arrAt 13 cfg0.N = fun y : S32768x1024.Idx => o13 m c (y 0) (y 1) := by
  refine (dats m 0 c).arrAt_eq_of_covers 13 _ (by decide +kernel) fun t _ y => ?_
  blk_simp
  rw [after0_13]
  have y0 : (y 0).val < 1024 := (y 0).isLt
  have y1 : (y 1).val < 1024 := (y 1).isLt
  have hy : y = ix2 (⟨(y 0).val, y0⟩ : Fin 1024) (⟨(y 1).val, y1⟩ : Fin 1024) := by funext a; match a with | ⟨0, _⟩ => rfl | ⟨1, _⟩ => rfl
  refine ((congrArg (out0_13 _ _ _ _ _ _ _) hy).trans (out13_val (blk2 m c t) _ _)).trans ?_
  refine congrArg₂ (o13 m c) (Fin.ext ?_) (Fin.ext ?_)
  · show 1024 * t.val + (y 0).val = win0_13.index t (0 : Fin 2) * 1024 + 1 * (y 0).val; rw [(idxo t).2.2.2.2.2.2.1.1]; omega
  · show (y 1).val = win0_13.index t (1 : Fin 2) * 1024 + 1 * (y 1).val; rw [(idxo t).2.2.2.2.2.2.1.2]; omega

/-- Result 7 at a token and a column. -/
def o14 (r : Fin 32768) (d : Fin 1024) : EReal := kp m c r ⟨4608 + d.val, by omega⟩
/-- Result 7 after the run. -/
theorem fin14 : (dats m 0 c).arrAt 14 cfg0.N = fun y : S32768x1024.Idx => o14 m c (y 0) (y 1) := by
  refine (dats m 0 c).arrAt_eq_of_covers 14 _ (by decide +kernel) fun t _ y => ?_
  blk_simp
  rw [after0_14]
  have y0 : (y 0).val < 1024 := (y 0).isLt
  have y1 : (y 1).val < 1024 := (y 1).isLt
  have hy : y = ix2 (⟨(y 0).val, y0⟩ : Fin 1024) (⟨(y 1).val, y1⟩ : Fin 1024) := by funext a; match a with | ⟨0, _⟩ => rfl | ⟨1, _⟩ => rfl
  refine ((congrArg (out0_14 _ _ _ _ _ _ _) hy).trans (out14_val (blk2 m c t) _ _)).trans ?_
  refine congrArg₂ (o14 m c) (Fin.ext ?_) (Fin.ext ?_)
  · show 1024 * t.val + (y 0).val = win0_14.index t (0 : Fin 2) * 1024 + 1 * (y 0).val; rw [(idxo t).2.2.2.2.2.2.2.1.1]; omega
  · show (y 1).val = win0_14.index t (1 : Fin 2) * 1024 + 1 * (y 1).val; rw [(idxo t).2.2.2.2.2.2.2.1.2]; omega

/-- Result 8 at a token and a column. -/
def o15 (r : Fin 32768) (d : Fin 256) : EReal := kp m c r ⟨5632 + d.val, by omega⟩
/-- Result 8 after the run. -/
theorem fin15 : (dats m 0 c).arrAt 15 cfg0.N = fun y : S32768x256.Idx => o15 m c (y 0) (y 1) := by
  refine (dats m 0 c).arrAt_eq_of_covers 15 _ (by decide +kernel) fun t _ y => ?_
  blk_simp
  rw [after0_15]
  have y0 : (y 0).val < 1024 := (y 0).isLt
  have y1 : (y 1).val < 256 := (y 1).isLt
  have hy : y = ix2 (⟨(y 0).val, y0⟩ : Fin 1024) (⟨(y 1).val, y1⟩ : Fin 256) := by funext a; match a with | ⟨0, _⟩ => rfl | ⟨1, _⟩ => rfl
  refine ((congrArg (out0_15 _ _ _ _ _ _ _) hy).trans (out15_val (blk2 m c t) _ _)).trans ?_
  refine congrArg₂ (o15 m c) (Fin.ext ?_) (Fin.ext ?_)
  · show 1024 * t.val + (y 0).val = win0_15.index t (0 : Fin 2) * 1024 + 1 * (y 0).val; rw [(idxo t).2.2.2.2.2.2.2.2.1]; omega
  · show (y 1).val = win0_15.index t (1 : Fin 2) * 256 + 1 * (y 1).val; rw [(idxo t).2.2.2.2.2.2.2.2.2]; omega

end Cert.Inp
-- ==== Proof.Inp.RefVal.lean ====
module

public import proofs.«01_k».proof.Proof.Inp.Ref

@[expose] public section

set_option maxRecDepth 16384

/-! The reference's results as functions of token and column. -/

noncomputable section

namespace Cert.Inp

open Cert.Reference2Ideal Cert.Reference2Ideal.Gen Idealize.ShloMosaic Idealize.ShloMosaic.TcCoe Idealize.SL.Sem Idealize.ShloMosaic.StableHlo

variable (x : FVec Ideal S32768x1024 .f32) (md : FVec Ideal S4x6x1024 .f32) (g : FVec Ideal S1x1024 .f32) (w : FVec Ideal S1024x5888 .bf16)

/-- An index of a two-axis array is its two coordinates. -/
theorem ix2_eta {a b : Nat} (y : (⟨2, ![a, b]⟩ : Shape).Idx) : y = ix2 (y 0 : Fin a) (y 1 : Fin b) := by
  funext i; match i with
  | ⟨0, _⟩ => rfl
  | ⟨1, _⟩ => rfl

/-- Columns of the projection. -/
theorem refS {W o : Nat} (ho : S32768x5888.Slices ![0, o] ⟨2, ![32768, W]⟩) (h : o + W ≤ 5888) (r : Fin 32768) (d : Fin W) :
    extractStridedSlice ⟨2, ![32768, W]⟩ ![0, o] (refP x md g w) ho (ix2 r d) = pN x md g w r ⟨o + d.val, by omega⟩ := by
  rw [← refP_at]
  refine congrArg (refP x md g w) (funext fun i => Fin.ext ?_)
  match i with
  | 0 => exact Nat.zero_add _
  | 1 => rfl

/-- The output gate. -/
theorem refMo (r : Fin 32768) (d : Fin 512) :
    Host.divf (broadcastInDim S32768x512 ![] bcast_S_S32768x512 (constant S_ .f32 0x3F800000#32)) (addf (broadcastInDim S32768x512 ![] bcast_S_S32768x512 (constant S_ .f32 0x3F800000#32)) (Host.exp (negf (extractStridedSlice S32768x512 ![0, 1536] (refP x md g w) slices_S32768x5888_S32768x512_0_1536)))) (ix2 r d)
      = Ideal.div 1 (1 + Ideal.exp (-(pN x md g w r ⟨1536 + d.val, by omega⟩))) := by
  have e := refS x md g w slices_S32768x5888_S32768x512_0_1536 (by decide) r d
  generalize extractStridedSlice S32768x512 ![0, 1536] (refP x md g w) slices_S32768x5888_S32768x512_0_1536 = a at e ⊢
  rw [← e]
  pointwise []

/-- A slice of the projection as a function of token and column. -/
theorem refSf {W o : Nat} (ho : S32768x5888.Slices ![0, o] ⟨2, ![32768, W]⟩) (h : o + W ≤ 5888) (f : Fin 32768 → Fin W → EReal)
    (hf : ∀ r d, pN x md g w r ⟨o + d.val, by omega⟩ = f r d) :
    extractStridedSlice ⟨2, ![32768, W]⟩ ![0, o] (refP x md g w) ho = fun y : (⟨2, ![32768, W]⟩ : Shape).Idx => f (y 0) (y 1) := by
  funext y
  rw [ix2_eta y]
  exact (refS x md g w ho h _ _).trans (hf _ _)

/-- The output gate as a function of token and column. -/
theorem refMof (f : Fin 32768 → Fin 512 → EReal)
    (hf : ∀ r d, Ideal.div 1 (1 + Ideal.exp (-(pN x md g w r ⟨1536 + d.val, by omega⟩))) = f r d) :
    Host.divf (broadcastInDim S32768x512 ![] bcast_S_S32768x512 (constant S_ .f32 0x3F800000#32)) (addf (broadcastInDim S32768x512 ![] bcast_S_S32768x512 (constant S_ .f32 0x3F800000#32)) (Host.exp (negf (extractStridedSlice S32768x512 ![0, 1536] (refP x md g w) slices_S32768x5888_S32768x512_0_1536))))
      = fun y : S32768x512.Idx => f (y 0) (y 1) := by
  funext y
  rw [ix2_eta y]
  exact (refMo x md g w _ _).trans (hf _ _)

/-- The normed queries and keys as functions of token and column. -/
theorem refQf {o : Nat} (ho : S32768x5888.Slices ![0, o] S32768x512) (h : o + 512 ≤ 5888) (gn : FVec Ideal S1x512 .f32) (f : Fin 32768 → Fin 512 → EReal)
    (hf : ∀ r d, qR (fun j => pN x md g w r ⟨o + (d.val / 64 * 64 + j.val), by omega⟩) (pN x md g w r ⟨o + d.val, by omega⟩) (gn (ix2 0 d)) = f r d) :
    refQ (extractStridedSlice S32768x512 ![0, o] (refP x md g w) ho) gn = fun y : S32768x512.Idx => f (y 0) (y 1) := by
  funext y
  rw [ix2_eta y]
  exact (refQ_pN x md g w o ho h gn _ _).trans (hf _ _)

/-- Rounding is the identity over the extended reals. -/
theorem trunc_id {s : Shape} (a : FVec Ideal s .f32) : truncf .bf16 a bitsLt_bf16_f32 = a := rfl

end Cert.Inp
-- ==== Proof.Ff.Data.lean ====
module

public import Idealize.ShloMosaic.Lib.Pointwise

@[expose] public section

/-! The layer from the branches' outputs to its result, one token at a time. -/

noncomputable section

namespace Cert.Ff

open Idealize.ShloMosaic

/-- The sigmoid. -/
def sg (z : EReal) : EReal := Ideal.div 1 (1 + Ideal.exp (0 - z))

/-- The gated sum of the two branches. -/
def yR (gm ga : Fin 1024 → EReal) (hm ha : Fin 512 → EReal) (wm wa : Fin 512 → Fin 1024 → EReal) (k : Fin 1024) : EReal :=
  sg (gm k) * (∑ l, hm l * wm l k) + sg (ga k) * (∑ l, ha l * wa l k)

/-- The residual after the branches. -/
def xR (x m2 y : Fin 1024 → EReal) (wo : Fin 1024 → Fin 1024 → EReal) (d : Fin 1024) : EReal := x d + m2 d * ∑ k, y k * wo k d

/-- A row by its root mean square. -/
def nR (v : Fin 1024 → EReal) (d : Fin 1024) : EReal :=
  v d * Ideal.rsqrt (Ideal.div (∑ e, v e * v e) (Ideal.ofBits .f32 0x44800000#32) + Ideal.ofBits .f32 0x358637BD#32)

/-- A normed, modulated row. -/
def hR (v g m3 m4 : Fin 1024 → EReal) (d : Fin 1024) : EReal := nR v d * g d * (1 + m4 d) + m3 d

/-- The convolution of three rows. -/
def cR (w0 w1 w2 b u0 u1 u2 : EReal) : EReal := w2 * u0 + w1 * u1 + w0 * u2 + b

/-- The gated product. -/
def aR (cv cg : EReal) : EReal := cg * sg cg * cv

/-- The result's row. -/
def oR (x m5 : Fin 1024 → EReal) (a : Fin 2816 → EReal) (wd : Fin 2816 → Fin 1024 → EReal) (d : Fin 1024) : EReal := x d + m5 d * ∑ f, a f * wd f d

/-- What the layer reads: the tokens' rows by the tokens' numbers, and the weights. -/
structure Lay where
  /-- The residual's rows. -/
  x : ℕ → Fin 1024 → EReal
  /-- The tokens' modulation. -/
  m : ℕ → Fin 6 → Fin 1024 → EReal
  /-- The branches' rows. -/
  hm : ℕ → Fin 512 → EReal
  /-- The branches' rows. -/
  ha : ℕ → Fin 512 → EReal
  /-- The branches' gates. -/
  gm : ℕ → Fin 1024 → EReal
  /-- The branches' gates. -/
  ga : ℕ → Fin 1024 → EReal
  /-- The branches' projections. -/
  wm : Fin 512 → Fin 1024 → EReal
  /-- The branches' projections. -/
  wa : Fin 512 → Fin 1024 → EReal
  /-- The output projection. -/
  wo : Fin 1024 → Fin 1024 → EReal
  /-- The norm's gain. -/
  g : Fin 1024 → EReal
  /-- The up-projection. -/
  wu : Fin 1024 → ℕ → EReal
  /-- The convolution's weights. -/
  cw : Fin 3 → ℕ → EReal
  /-- The convolution's bias. -/
  cb : ℕ → EReal
  /-- The down-projection. -/
  wd : Fin 2816 → Fin 1024 → EReal

/-- The residual after the branches. -/
def Lay.X (l : Lay) (n : ℕ) : Fin 1024 → EReal := xR (l.x n) (l.m n 2) (yR (l.gm n) (l.ga n) (l.hm n) (l.ha n) l.wm l.wa) l.wo

/-- The rows the up-projection reads. -/
def Lay.h (l : Lay) (n : ℕ) : Fin 1024 → EReal := hR (l.X n) l.g (l.m n 3) (l.m n 4)

/-- The up-projection. -/
def Lay.u (l : Lay) (n f : ℕ) : EReal := ∑ k : Fin 1024, l.h n k * l.wu k f

/-- The convolution, the two tokens before given. -/
def Lay.c (l : Lay) (v1 v2 : EReal) (n f : ℕ) : EReal := cR (l.cw 0 f) (l.cw 1 f) (l.cw 2 f) (l.cb f) (l.u n f) v1 v2

/-- The result, the two tokens before given. -/
def Lay.o (l : Lay) (v1 v2 : ℕ → EReal) (n : ℕ) (d : Fin 1024) : EReal :=
  oR (l.X n) (l.m n 5) (fun f => aR (l.c (v1 f.val) (v2 f.val) n f.val) (l.c (v1 (2816 + f.val)) (v2 (2816 + f.val)) n (2816 + f.val))) l.wd d

end Cert.Ff
-- ==== Proof.Ff.Lay.lean ====
module

public import proofs.«01_k».proof.Proof.Ff.Data
public import Idealize.ShloMosaic.Lib.Pointwise

@[expose] public section

/-! The layer over the whole arrays: what both programs leave. -/

noncomputable section

namespace Cert.Ff

open Idealize.ShloMosaic

/-- An array's indices. -/
abbrev I2 (a b : ℕ) : Type := (⟨2, ![a, b]⟩ : Shape).Idx

/-- The arrays the layer reads. -/
structure Arr where
  /-- An argument. -/
  a0 : I2 32768 1024 → EReal
  /-- An argument. -/
  a1 : (⟨3, ![4, 6, 1024]⟩ : Shape).Idx → EReal
  /-- An argument. -/
  a2 : I2 32768 512 → EReal
  /-- An argument. -/
  a3 : I2 32768 512 → EReal
  /-- An argument. -/
  a4 : I2 32768 1024 → EReal
  /-- An argument. -/
  a5 : I2 32768 1024 → EReal
  /-- An argument. -/
  a6 : I2 512 1024 → EReal
  /-- An argument. -/
  a7 : I2 512 1024 → EReal
  /-- An argument. -/
  a8 : I2 1024 1024 → EReal
  /-- An argument. -/
  a9 : I2 1 1024 → EReal
  /-- An argument. -/
  a10 : I2 1024 5632 → EReal
  /-- An argument. -/
  a11 : I2 3 5632 → EReal
  /-- An argument. -/
  a12 : I2 1 5632 → EReal
  /-- An argument. -/
  a13 : I2 2816 1024 → EReal

/-- The layer's rows and weights. -/
def Arr.lay (A : Arr) : Lay where
  x n d := A.a0 (ix2 (Fin.ofNat 32768 n) d)
  m n j d := A.a1 (ix3 (Fin.ofNat 4 (n / 8192)) j d)
  hm n l := A.a2 (ix2 (Fin.ofNat 32768 n) l)
  ha n l := A.a3 (ix2 (Fin.ofNat 32768 n) l)
  gm n k := A.a4 (ix2 (Fin.ofNat 32768 n) k)
  ga n k := A.a5 (ix2 (Fin.ofNat 32768 n) k)
  wm l k := A.a6 (ix2 l k)
  wa l k := A.a7 (ix2 l k)
  wo k d := A.a8 (ix2 k d)
  g d := A.a9 (ix2 0 d)
  wu k f := A.a10 (ix2 k (Fin.ofNat 5632 f))
  cw j f := A.a11 (ix2 j (Fin.ofNat 5632 f))
  cb f := A.a12 (ix2 0 (Fin.ofNat 5632 f))
  wd f d := A.a13 (ix2 f d)

/-- The up-projection of the token before, nothing before a sequence. -/
def Lay.v1 (l : Lay) (n f : ℕ) : EReal := if n % 8192 = 0 then 0 else l.u (n - 1) f

/-- The up-projection two tokens before. -/
def Lay.v2 (l : Lay) (n f : ℕ) : EReal := if n % 8192 < 2 then 0 else l.u (n - 2) f

/-- The layer's result at a token. -/
def Arr.val (A : Arr) (n : ℕ) (d : Fin 1024) : EReal := A.lay.o (A.lay.v1 n) (A.lay.v2 n) n d

/-- The layer's result. -/
def Arr.res (A : Arr) (y : I2 32768 1024) : EReal := A.val (y 0).val (y 1)

/-- The rows of `l` are `g`'s from `o` on, with the same weights. -/
structure Lay.Sub (l g : Lay) (o : ℕ) : Prop where
  x : ∀ n < 512, l.x n = g.x (o + n)
  m : ∀ n < 512, l.m n = g.m (o + n)
  hm : ∀ n < 512, l.hm n = g.hm (o + n)
  ha : ∀ n < 512, l.ha n = g.ha (o + n)
  gm : ∀ n < 512, l.gm n = g.gm (o + n)
  ga : ∀ n < 512, l.ga n = g.ga (o + n)
  wm : l.wm = g.wm
  wa : l.wa = g.wa
  wo : l.wo = g.wo
  g' : l.g = g.g
  wu : l.wu = g.wu
  cw : l.cw = g.cw
  cb : l.cb = g.cb
  wd : l.wd = g.wd

/-- The residuals agree. -/
theorem Lay.Sub.X {l g : Lay} {o : ℕ} (h : l.Sub g o) (n : ℕ) (hn : n < 512) : l.X n = g.X (o + n) := by
  unfold Lay.X
  rw [h.x n hn, h.m n hn, h.hm n hn, h.ha n hn, h.gm n hn, h.ga n hn, h.wm, h.wa, h.wo]

/-- The up-projections agree. -/
theorem Lay.Sub.u {l g : Lay} {o : ℕ} (h : l.Sub g o) (n : ℕ) (hn : n < 512) (f : ℕ) : l.u n f = g.u (o + n) f := by
  unfold Lay.u Lay.h
  rw [h.X n hn, h.m n hn, h.g', h.wu]

/-- The results agree. -/
theorem Lay.Sub.o {l g : Lay} {o : ℕ} (h : l.Sub g o) (n : ℕ) (hn : n < 512) {v1 v2 w1 w2 : ℕ → EReal} (h1 : ∀ f < 5632, v1 f = w1 f) (h2 : ∀ f < 5632, v2 f = w2 f) (d : Fin 1024) :
    l.o v1 v2 n d = g.o w1 w2 (o + n) d := by
  unfold Lay.o Lay.c
  rw [h.X n hn, h.m n hn, h.wd]
  refine congrArg (fun a => oR _ _ a _ d) (funext fun f => ?_)
  have hf := f.isLt
  rw [h.cw, h.cb, h.u n hn, h.u n hn, h1 _ (by omega), h1 _ (by omega), h2 _ (by omega), h2 _ (by omega)]

end Cert.Ff
-- ==== Proof.Ff.Conv.lean ====
module

public import proofs.«01_k».proof.Proof.Gen.Kernel3Ideal.Skeleton
public import Idealize.ShloMosaic.Lib.Pointwise

@[expose] public section

set_option maxRecDepth 16384

/-!
The convolution of a chunk of columns, on rows in the strided order: row `8 v + s` of a tile is its token `64 s + v`.
-/

noncomputable section

namespace Cert.Ff

open Cert.Kernel3Ideal Cert.Kernel3Ideal.Gen Idealize.ShloMosaic Idealize.ShloMosaic.TcCoe Idealize.SL.Sem

section
variable {F : FTy → Type} [FloatOps F]

/-- The rows one token back: `p` holds the last rows of the tile before. -/
def sh1 (u : FVec F S512x256 .f32) (p : FVec F S16x256 .f32) : FVec F S512x256 .f32 :=
  concatenate S512x256 0 [⟨S8x256, select (cmpi .eq (iota .tc S8x256 32 [0] iota_S8x256_d0_w32) (broadcast S8x256 0#32))
      (dynamicRotate 0 1#32 none (extractStridedSlice S8x256 ![8, 0] p slices_S16x256_o8_0_S8x256) rotates_S8x256_d0)
      (dynamicRotate 0 1#32 none (extractStridedSlice S8x256 ![504, 0] u slices_S512x256_o504_0_S8x256) rotates_S8x256_d0)⟩,
    ⟨S504x256, extractStridedSlice S504x256 ![0, 0] u slices_S512x256_o0_0_S504x256⟩] concatenates_S8x256_S504x256_S512x256_d0

/-- The rows two tokens back. -/
def sh2 (u : FVec F S512x256 .f32) (p : FVec F S16x256 .f32) : FVec F S512x256 .f32 :=
  concatenate S512x256 0 [⟨S8x256, select (cmpi .eq (iota .tc S8x256 32 [0] iota_S8x256_d0_w32) (broadcast S8x256 0#32))
      (dynamicRotate 0 1#32 none (extractStridedSlice S8x256 ![0, 0] p slices_S16x256_o0_0_S8x256) rotates_S8x256_d0)
      (dynamicRotate 0 1#32 none (extractStridedSlice S8x256 ![496, 0] u slices_S512x256_o496_0_S8x256) rotates_S8x256_d0)⟩,
    ⟨S8x256, select (cmpi .eq (iota .tc S8x256 32 [0] iota_S8x256_d0_w32) (broadcast S8x256 0#32))
      (dynamicRotate 0 1#32 none (extractStridedSlice S8x256 ![8, 0] p slices_S16x256_o8_0_S8x256) rotates_S8x256_d0)
      (dynamicRotate 0 1#32 none (extractStridedSlice S8x256 ![504, 0] u slices_S512x256_o504_0_S8x256) rotates_S8x256_d0)⟩,
    ⟨S496x256, extractStridedSlice S496x256 ![0, 0] u slices_S512x256_o0_0_S496x256⟩] concatenates_S8x256_S8x256_S496x256_S512x256_d0

/-- The convolution of a chunk `u`. -/
def cvE (u : FVec F S512x256 .f32) (p : FVec F S16x256 .f32) (w : FVec F S3x256 .f32) (b : FVec F S1x256 .f32) : FVec F S512x256 .f32 :=
  addf (addf (addf (mulf (broadcastTo S512x256 (extractStridedSlice S1x256 ![2, 0] w slices_S3x256_o2_0_S1x256) broadcasts_S1x256_S512x256) u)
    (mulf (broadcastTo S512x256 (extractStridedSlice S1x256 ![1, 0] w slices_S3x256_o1_0_S1x256) broadcasts_S1x256_S512x256) (sh1 u p)))
    (mulf (broadcastTo S512x256 (extractStridedSlice S1x256 ![0, 0] w slices_S3x256_o0_0_S1x256) broadcasts_S1x256_S512x256) (sh2 u p)))
    (broadcastTo S512x256 b broadcasts_S1x256_S512x256)

/-- The gated product of the two halves of a chunk. -/
def acE (cv cg : FVec F S512x256 .f32) : FVec F S512x256 .bf16 :=
  shapeCast S512x256 (truncf .bf16 (mulf (mulf cg (divf (broadcast S512x256 (Scalar.ofBits .f32 0x3F800000#32))
    (addf (broadcast S512x256 (Scalar.ofBits .f32 0x3F800000#32)) (exp (subf (broadcast S512x256 (Scalar.ofBits .f32 0x00000000#32)) cg))))) cv)
    bitsLt_bf16_f32) shapeCasts_S512x256_S512x256

/-- The up-projection of a chunk. -/
def upE (h : FVec F S512x1024 .bf16) (w : FVec F S1024x256 .bf16) : FVec F S512x256 .f32 :=
  matmul dot_S512x1024_S1024x256_S512x256_1_0_0_1_n_n none h w (constant S512x256 .f32 0x00000000#32)

/-- The last rows of a chunk, kept for the tile after. -/
def kpE (u : FVec F S512x256 .f32) : FVec F S1x16x256 .f32 :=
  shapeCast S1x16x256 (extractStridedSlice S16x256 ![496, 0] u slices_S512x256_o496_0_S16x256) shapeCasts_S16x256_S1x16x256

end

/-- A choice between the first row and the others. -/
theorem sel0 {α : Type} (n : ℕ) (hn : n < 512) (a b : α) : Scalar.select (IntOp.cmpi CmpIPredicate.eq (BitVec.ofNat 32 n) 0#32) a b = if n = 0 then a else b := by
  by_cases h : n = 0
  · subst h; rfl
  · have hne : BitVec.ofNat 32 n ≠ 0#32 := fun e => h (by
      have := congrArg BitVec.toNat e
      simp only [BitVec.toNat_ofNat] at this
      omega)
    have hc : IntOp.cmpi CmpIPredicate.eq (BitVec.ofNat 32 n) 0#32 = 0#1 := by
      show BitVec.ofBool (BitVec.ofNat 32 n == 0#32) = 0#1
      rw [beq_eq_false_iff_ne.mpr hne]; rfl
    rw [hc, if_neg h]; rfl

/-- Equal rows. -/
theorem ix2c {α : Type} {a b : ℕ} (f : (⟨2, ![a, b]⟩ : Shape).Idx → α) {i j : ℕ} (hi : i < a) (hj : j < a) (e : i = j) (q : Fin b) :
    f (ix2 ⟨i, hi⟩ q) = f (ix2 ⟨j, hj⟩ q) := by subst e; rfl

/-- The rows one token back, read at an index. -/
theorem sh1_at (u : FVec Ideal S512x256 .f32) (p : FVec Ideal S16x256 .f32) (r : Fin 512) (q : Fin 256) :
    sh1 u p (ix2 r q) = if h : r.val < 8 then if r.val = 0 then p (ix2 15 q) else u (ix2 ⟨503 + r.val, by omega⟩ q) else u (ix2 ⟨r.val - 8, by omega⟩ q) := by
  pointwise [sh1]
  have hr := r.isLt
  simp only [sel0 _ hr]
  split
  · split
    · exact ix2c p (j := 15) _ (by decide) (by omega) q
    · exact ix2c u _ _ (by omega) q
  · rfl

/-- The rows two tokens back, read at an index. -/
theorem sh2_at (u : FVec Ideal S512x256 .f32) (p : FVec Ideal S16x256 .f32) (r : Fin 512) (q : Fin 256) :
    sh2 u p (ix2 r q) = if h : r.val < 16 then if r.val = 0 then p (ix2 7 q) else if r.val = 8 then p (ix2 15 q) else u (ix2 ⟨495 + r.val, by omega⟩ q)
      else u (ix2 ⟨r.val - 16, by omega⟩ q) := by
  pointwise [sh2]
  have hr := r.isLt
  have hr8 : r.val - 8 < 512 := lt_of_le_of_lt (Nat.sub_le _ _) hr
  simp only [sel0 _ hr, sel0 _ hr8]
  by_cases h : r.val < 8
  · refine (dif_pos h).trans (Eq.trans ?_ (dif_pos (by omega)).symm)
    by_cases h3 : r.val = 0
    · exact ((if_pos h3).trans (ix2c p (j := 7) _ (by decide) (by omega) q)).trans (if_pos h3).symm
    · exact (((if_neg h3).trans (ix2c u _ (by omega) (by omega) q)).trans (if_neg (by omega : ¬ r.val = 8)).symm).trans (if_neg h3).symm
  · refine (dif_neg h).trans ?_
    by_cases h2 : r.val < 16
    · refine (dif_pos (by omega)).trans (Eq.trans ?_ (dif_pos h2).symm)
      refine Eq.trans ?_ (if_neg (by omega : ¬ r.val = 0)).symm
      by_cases h3 : r.val = 8
      · exact ((if_pos (by omega)).trans (ix2c p (j := 15) _ (by decide) (by omega) q)).trans (if_pos h3).symm
      · exact ((if_neg (by omega)).trans (ix2c u _ (by omega) (by omega) q)).trans (if_neg h3).symm
    · exact ((dif_neg (by omega)).trans (ix2c u _ (by omega) (by omega) q)).trans (dif_neg h2).symm

/-- The convolution, read at an index. -/
theorem cvE_at (u : FVec Ideal S512x256 .f32) (p : FVec Ideal S16x256 .f32) (w : FVec Ideal S3x256 .f32) (b : FVec Ideal S1x256 .f32) (r : Fin 512) (q : Fin 256) :
    cvE u p w b (ix2 r q) = w (ix2 2 q) * u (ix2 r q) + w (ix2 1 q) * sh1 u p (ix2 r q) + w (ix2 0 q) * sh2 u p (ix2 r q) + b (ix2 0 q) := by
  pointwise [cvE]

/-- The gated product, read at an index. -/
theorem acE_at (cv cg : FVec Ideal S512x256 .f32) (r : Fin 512) (q : Fin 256) :
    acE cv cg (ix2 r q) = cg (ix2 r q) * Ideal.div 1 (1 + Ideal.exp (0 - cg (ix2 r q))) * cv (ix2 r q) := by
  pointwise [acE]

/-- The up-projection, read at an index. -/
theorem upE_at (h : FVec Ideal S512x1024 .bf16) (w : FVec Ideal S1024x256 .bf16) (r : Fin 512) (q : Fin 256) :
    upE h w (ix2 r q) = ∑ k : Fin 1024, h (ix2 r k) * w (ix2 k q) := by
  pointwise [upE]

/-- The kept rows, read at an index. -/
theorem kpE_at (u : FVec Ideal S512x256 .f32) (i : Fin 16) (q : Fin 256) : kpE u (ix3 0 i q) = u (ix2 ⟨496 + i.val, by omega⟩ q) := by
  pointwise [kpE]

end Cert.Ff
-- ==== Proof.Ff.Stage.lean ====
module

public import proofs.«01_k».proof.Proof.Gen.Kernel3Ideal.Skeleton
public import Idealize.ShloMosaic.Lib.Pointwise
public import Idealize.ShloMosaic.Lib.Pipeline.ReadBack
public import Idealize.ShloMosaic.Lib.Pipeline.Value

@[expose] public section

set_option maxRecDepth 16384

/-!
The staging of a tile's rows between token order and strided order, and what the reads of it hold.
-/

noncomputable section

namespace Cert.Ff

open Cert.Kernel3Ideal Cert.Kernel3Ideal.Gen Idealize.ShloMosaic Idealize.ShloMosaic.TcCoe Idealize.SL.Sem

section
variable {Val : EltTy → Type} [∀ e, Nonempty (Val e)] {s : Shape} {e : EltTy}

/-- After the stores of the list, the first `n` rectangles hold `G`. -/
def Known (G : s.Idx → Val e) (R : ℕ → Rect s) (n : ℕ) (L : List (View.Piece Val s e)) : Prop :=
  ∀ k < n, ∀ y ∈ (R k).set, View.canon L y = G y

/-- Before any store nothing is claimed. -/
theorem Known.zero (G : s.Idx → Val e) (R : ℕ → Rect s) (L : List (View.Piece Val s e)) : Known G R 0 L := fun k hk => absurd hk (Nat.not_lt_zero k)

/-- One more store. -/
theorem Known.step {G : s.Idx → Val e} {R : ℕ → Rect s} {n : ℕ} {L : List (View.Piece Val s e)} (h : Known G R n L)
    (w : (R n).shape.Idx → Val e) (hw : ∀ x, w x = G ((R n).emb x)) : Known G R (n + 1) (⟨R n, w⟩ :: L) := by
  intro k hk y hy
  by_cases hn : y ∈ (R n).set
  · obtain ⟨x, rfl⟩ := (R n).exists_idx_of_mem hn
    exact (View.canon_cons_emb (R n) w L x).trans (hw x)
  · rw [View.canon_cons_of_not_mem _ _ hn]
    rcases Nat.lt_succ_iff_lt_or_eq.mp hk with h' | rfl
    · exact h k h' y hy
    · exact absurd hy hn

/-- A read inside the rectangles. -/
theorem Known.read {sig : RefSig} {κ : Kind} {sp : Space} {G : s.Idx → Val e} {R : ℕ → Rect s} {n : ℕ} {L : List (View.Piece Val s e)} (h : Known G R n L)
    (v : View sig κ sp s e) (B : LoadRect s) (x : B.shape.Idx) (k : ℕ) (hk : k < n) (hx : B.idx x ∈ (R k).set) : v.readCov L B x = G (B.idx x) := by
  rw [View.readCov_eq_canon']
  exact h k hk _ hx

end

/-- The rectangle of store `n` in token order: chunk `n / 8`, segment `n % 8`. -/
def tR (n : ℕ) : Rect S8x576x128 := Rect.unit ![n % 64 / 8, 72 * (n % 8), 0] ![1, 64, 128] fun a => match a with
  | ⟨0, _⟩ => by show n % 64 / 8 + 1 ≤ 8; omega
  | ⟨1, _⟩ => by show 72 * (n % 8) + 64 ≤ 576; omega
  | ⟨2, _⟩ => by show 0 + 128 ≤ 128; omega

/-- The rectangle of store `n` in strided order: chunk `n / 64`, row `n % 64`, one row of every segment. -/
def sR (n : ℕ) : Rect S8x576x128 where
  off := ![n % 512 / 64, n % 64, 0]
  size := ![1, 8, 128]
  stride := ![1, 72, 1]
  inb a := match a with
    | ⟨0, _⟩ => Or.inr (by show n % 512 / 64 + 1 * 0 < 8; omega)
    | ⟨1, _⟩ => Or.inr (by show n % 64 + 72 * 7 < 576; omega)
    | ⟨2, _⟩ => Or.inr (by show 0 + 1 * 127 < 128; omega)
  stride_pos a := match a with
    | ⟨0, _⟩ => Nat.one_pos
    | ⟨1, _⟩ => by show 0 < 72; omega
    | ⟨2, _⟩ => Nat.one_pos

/-- A tile's array at row and column numbers. -/
def xn {α : Type} (X : S512x1024.Idx → α) (r d : ℕ) : α := X (ix2 ⟨r % 512, Nat.mod_lt _ (by decide)⟩ ⟨d % 1024, Nat.mod_lt _ (by decide)⟩)

/-- A tile's rows in token order, as the staging holds them. -/
def gT {α : Type} (X : S512x1024.Idx → α) (y : S8x576x128.Idx) : α := xn X (64 * ((y 1).val / 72) + (y 1).val % 72) (128 * (y 0).val + (y 2).val)

/-- A tile's rows in strided order, as the staging holds them. -/
def gS {α : Type} (X : S512x1024.Idx → α) (y : S8x576x128.Idx) : α := xn X (8 * ((y 1).val % 72) + (y 1).val / 72) (128 * (y 0).val + (y 2).val)

/-- An index of three axes is its coordinates'. -/
theorem ix3_eta {a b c : Nat} (y : (⟨3, ![a, b, c]⟩ : Shape).Idx) : y = ix3 (y 0 : Fin a) (y 1 : Fin b) (y 2 : Fin c) := by
  funext i; match i with
  | ⟨0, _⟩ => rfl
  | ⟨1, _⟩ => rfl
  | ⟨2, _⟩ => rfl

/-- Equal entries. -/
theorem ix2cc {α : Type} {a b : ℕ} (f : (⟨2, ![a, b]⟩ : Shape).Idx → α) {i j k l : ℕ} (hi : i < a) (hj : j < a) (hk : k < b) (hl : l < b) (e : i = j) (e' : k = l) :
    f (ix2 ⟨i, hi⟩ ⟨k, hk⟩) = f (ix2 ⟨j, hj⟩ ⟨l, hl⟩) := by subst e; subst e'; rfl

/-- A tile's array at coordinates, by their numbers. -/
theorem xn_eq {α : Type} (X : S512x1024.Idx → α) {r d r' d' : ℕ} (hr : r < 512) (hd : d < 1024) (e : r = r') (e' : d = d') : X (ix2 ⟨r, hr⟩ ⟨d, hd⟩) = xn X r' d' := by
  subst e; subst e'
  exact ix2cc X _ _ _ _ (Nat.mod_eq_of_lt hr).symm (Nat.mod_eq_of_lt hd).symm

section
variable {F : FTy → Type} [FloatOps F]

/-- One more store in token order. -/
theorem stepT {X : FVec F S512x1024 .f32} {n : ℕ} {L : List (View.Piece (Elt F) S8x576x128 .f32)} (h : Known (Val := Elt F) (e := .f32) (gT X) tR n L)
    (o p : ℕ) (ho : o = 64 * (n % 8)) (hp : p = 128 * (n % 64 / 8)) (hs : S512x1024.Slices ![o, p] S64x128) (hc : S64x128.ShapeCasts S1x64x128) :
    Known (Val := Elt F) (e := .f32) (gT X) tR (n + 1) (⟨tR n, shapeCast S1x64x128 (extractStridedSlice S64x128 ![o, p] X hs) hc⟩ :: L) :=
  h.step _ fun x => by
    obtain ⟨a, b, c, rfl⟩ : ∃ (a : Fin 1) (b : Fin 64) (c : Fin 128), x = (ix3 a b c : S1x64x128.Idx) := ⟨x 0, x 1, x 2, ix3_eta x⟩
    pointwise
    refine xn_eq X _ _ ?_ ?_
    · show o + b.val = 64 * ((72 * (n % 8) + 1 * b.val) / 72) + (72 * (n % 8) + 1 * b.val) % 72
      omega
    · show p + c.val = 128 * (n % 64 / 8 + 1 * a.val) + (0 + 1 * c.val)
      omega

/-- One more store in strided order. -/
theorem stepS {X : FVec F S512x1024 .f32} {n : ℕ} {L : List (View.Piece (Elt F) S8x576x128 .f32)} (h : Known (Val := Elt F) (e := .f32) (gS X) sR n L)
    (o p : ℕ) (ho : o = 8 * (n % 64)) (hp : p = 128 * (n % 512 / 64)) (hs : S512x1024.Slices ![o, p] S8x128) (hc : S8x128.ShapeCasts S1x8x128) :
    Known (Val := Elt F) (e := .f32) (gS X) sR (n + 1) (⟨sR n, shapeCast S1x8x128 (extractStridedSlice S8x128 ![o, p] X hs) hc⟩ :: L) :=
  h.step _ fun x => by
    obtain ⟨a, b, c, rfl⟩ : ∃ (a : Fin 1) (b : Fin 8) (c : Fin 128), x = (ix3 a b c : S1x8x128.Idx) := ⟨x 0, x 1, x 2, ix3_eta x⟩
    pointwise
    refine xn_eq X _ _ ?_ ?_
    · show o + b.val = 8 * ((n % 64 + 72 * b.val) % 72) + (n % 64 + 72 * b.val) / 72
      omega
    · show p + c.val = 128 * (n % 512 / 64 + 1 * a.val) + (0 + 1 * c.val)
      omega

/-- One row of every segment of a chunk, read from the token order. -/
theorem ldS {sig : RefSig} {κ : Kind} {sp : Space} {X : FVec F S512x1024 .f32} {L : List (View.Piece (Elt F) S8x576x128 .f32)}
    (h : Known (Val := Elt F) (e := .f32) (gT X) tR 64 L) (v : View sig κ sp S8x576x128 .f32) (c w : ℕ) (hc : c < 8) (hw : w < 64)
    (hin : ∀ a, S1x8x128.size a = 0 ∨ (![c, w, 0] : Fin 3 → ℕ) a + (![1, 72, 1] : Fin 3 → ℕ) a * (S1x8x128.size a - 1) < S8x576x128.size a)
    (hcast : S1x8x128.ShapeCasts S8x128) (i : Fin 8) (l : Fin 128) :
    shapeCast (s := S1x8x128) S8x128 (v.readCov (Val := Elt F) L { off := ![c, w, 0], size := S1x8x128.size, stride := ![1, 72, 1], inb := hin }) hcast (ix2 i l)
      = xn X (64 * i.val + w) (128 * c + l.val) := by
  pointwise
  refine (h.read v _ _ (8 * c + i.val) (by omega) ?_).trans ?_
  · refine (LoadRect.mem_set _).mpr fun a => ?_
    match a with
    | ⟨0, _⟩ => exact ⟨0, (by decide : 0 < 1), by show c + 1 * 0 = (8 * c + i.val) % 64 / 8 + 1 * 0; omega⟩
    | ⟨1, _⟩ => exact ⟨w, (by exact hw : w < 64), by show w + 72 * i.val = 72 * ((8 * c + i.val) % 8) + 1 * w; omega⟩
    | ⟨2, _⟩ => exact ⟨l.val, l.isLt, by show 0 + 1 * l.val = 0 + 1 * l.val; rfl⟩
  · show xn X (64 * ((w + 72 * i.val) / 72) + (w + 72 * i.val) % 72) (128 * (c + 1 * 0) + (0 + 1 * l.val)) = _
    congr 1 <;> omega

/-- A segment of a chunk, read from the strided order. -/
theorem ldT {sig : RefSig} {κ : Kind} {sp : Space} {X : FVec F S512x1024 .f32} {L : List (View.Piece (Elt F) S8x576x128 .f32)}
    (h : Known (Val := Elt F) (e := .f32) (gS X) sR 512 L) (v : View sig κ sp S8x576x128 .f32) (c o w : ℕ) (hc : c < 8) (hw : w < 8) (ho : o = 72 * w)
    (hin : ∀ a, (![c, o, 0] : Fin 3 → ℕ) a + S1x64x128.size a ≤ S8x576x128.size a)
    (hcast : S1x64x128.ShapeCasts S64x128) (i : Fin 64) (l : Fin 128) :
    shapeCast (s := S1x64x128) S64x128 (v.readCov (Val := Elt F) L (Rect.unit (s := S8x576x128) ![c, o, 0] S1x64x128.size hin).toLoadRect) hcast (ix2 i l)
      = xn X (8 * i.val + w) (128 * c + l.val) := by
  subst ho
  pointwise
  refine (h.read v _ _ (64 * c + i.val) (by omega) ?_).trans ?_
  · refine (LoadRect.mem_set _).mpr fun a => ?_
    match a with
    | ⟨0, _⟩ => exact ⟨0, (by decide : 0 < 1), by show c + 1 * 0 = (64 * c + i.val) % 512 / 64 + 1 * 0; omega⟩
    | ⟨1, _⟩ => exact ⟨w, (by exact hw : w < 8), by show 72 * w + 1 * i.val = (64 * c + i.val) % 64 + 72 * w; omega⟩
    | ⟨2, _⟩ => exact ⟨l.val, l.isLt, by show 0 + 1 * l.val = 0 + 1 * l.val; rfl⟩
  · show xn X (8 * ((72 * w + 1 * i.val) % 72) + (72 * w + 1 * i.val) / 72) (128 * (c + 1 * 0) + (0 + 1 * l.val)) = _
    congr 1 <;> omega

end

section
variable {α : Type}

/-- The pieces of a concatenation, all of one shape, each with its property, numbered from `k`. -/
inductive Cat (s₁ : Shape) (P : ℕ → (s₁.Idx → α) → Prop) : ℕ → List ((s : Shape) × (s.Idx → α)) → Prop
  | nil (k : ℕ) : Cat s₁ P k []
  | cons {k : ℕ} {f : s₁.Idx → α} {L : List ((s : Shape) × (s.Idx → α))} (h : P k f) (t : Cat s₁ P (k + 1) L) : Cat s₁ P k (⟨s₁, f⟩ :: L)

/-- The pieces as a function of their number. -/
theorem Cat.ofFn {s₁ : Shape} {P : ℕ → (s₁.Idx → α) → Prop} {k : ℕ} {L : List ((s : Shape) × (s.Idx → α))} (h : Cat s₁ P k L) :
    ∃ (N : ℕ) (f : Fin N → (s₁.Idx → α)), L = List.ofFn (fun n : Fin N => (⟨s₁, f n⟩ : (s : Shape) × (s.Idx → α))) ∧ ∀ n : Fin N, P (k + n.val) (f n) := by
  induction h with
  | nil k => exact ⟨0, fun n => n.elim0, rfl, fun n => n.elim0⟩
  | @cons k f L h t ih =>
    obtain ⟨N, g, rfl, hg⟩ := ih
    refine ⟨N + 1, Fin.cons f g, ?_, fun n => ?_⟩
    · rw [List.ofFn_succ]; rfl
    · refine Fin.cases ?_ (fun n => ?_) n
      · exact h
      · have := hg n
        rw [show k + (Fin.succ n).val = k + 1 + n.val by simp only [Fin.val_succ]; omega]
        exact this

/-- Pieces stacked in rows. -/
theorem Cat.rows {a b A B N : ℕ} (Y : ℕ → ℕ → α) {L : List ((s : Shape) × (s.Idx → α))} (hA : A = a * N) (ha : 0 < a) (hbB : b = B) (hN : L.length = N)
    (h : Cat ⟨2, ![a, b]⟩ (fun k f => ∀ (i : Fin a) (j : Fin b), f (ix2 i j) = Y (a * k + i.val) j.val) 0 L)
    (hc : Shape.Concatenates (L.map (·.1)) ⟨2, ![A, B]⟩ 0) (i : Fin A) (j : Fin B) :
    concatenate ⟨2, ![A, B]⟩ 0 L hc (ix2 i j) = Y i.val j.val := by
  obtain ⟨M, f, rfl, hf⟩ := h.ofFn
  rw [List.length_ofFn] at hN
  subst hN; subst hbB
  have hi : i.val / a < M := Nat.div_lt_of_lt_mul (hA ▸ i.isLt)
  refine (concatenate_ofFn_apply (t := ⟨2, ![A, b]⟩) (s₁ := ⟨2, ![a, b]⟩) 0 f hc rfl a rfl (ix2 i j) ⟨i.val / a, hi⟩ rfl (ix2 ⟨i.val % a, Nat.mod_lt _ ha⟩ j) rfl (fun c hc => ?_)).trans ?_
  · match c with
    | ⟨0, _⟩ => exact absurd rfl hc
    | ⟨1, _⟩ => rfl
  · rw [hf]
    exact congrArg (fun r => Y r j.val) (by show a * (0 + i.val / a) + i.val % a = i.val; rw [Nat.zero_add]; exact Nat.div_add_mod _ _)

/-- Pieces side by side. -/
theorem Cat.cols {a b A B N : ℕ} (Y : ℕ → ℕ → α) {L : List ((s : Shape) × (s.Idx → α))} (hB : B = b * N) (hb : 0 < b) (haA : a = A) (hN : L.length = N)
    (h : Cat ⟨2, ![a, b]⟩ (fun k f => ∀ (i : Fin a) (j : Fin b), f (ix2 i j) = Y i.val (b * k + j.val)) 0 L)
    (hc : Shape.Concatenates (L.map (·.1)) ⟨2, ![A, B]⟩ 1) (i : Fin A) (j : Fin B) :
    concatenate ⟨2, ![A, B]⟩ 1 L hc (ix2 i j) = Y i.val j.val := by
  obtain ⟨M, f, rfl, hf⟩ := h.ofFn
  rw [List.length_ofFn] at hN
  subst hN; subst haA
  have hj : j.val / b < M := Nat.div_lt_of_lt_mul (hB ▸ j.isLt)
  refine (concatenate_ofFn_apply (t := ⟨2, ![a, B]⟩) (s₁ := ⟨2, ![a, b]⟩) 1 f hc rfl b rfl (ix2 i j) ⟨j.val / b, hj⟩ rfl (ix2 i ⟨j.val % b, Nat.mod_lt _ hb⟩) rfl (fun c hc => ?_)).trans ?_
  · match c with
    | ⟨0, _⟩ => rfl
    | ⟨1, _⟩ => exact absurd rfl hc
  · rw [hf]
    exact congrArg (fun r => Y i.val r) (by show b * (0 + j.val / b) + j.val % b = j.val; rw [Nat.zero_add]; exact Nat.div_add_mod _ _)

/-- Row `k` of every segment, from its eight chunks. -/
theorem rowOf {X : S512x1024.Idx → α} {k : ℕ} {L : List ((s : Shape) × (s.Idx → α))}
    (h : Cat S8x128 (fun c f => ∀ (i : Fin 8) (j : Fin 128), f (ix2 i j) = xn X (64 * i.val + k) (128 * c + j.val)) 0 L) (hN : L.length = 8)
    (hc : Shape.Concatenates (L.map (·.1)) S8x1024 1) (i : Fin 8) (j : Fin 1024) :
    concatenate S8x1024 1 L hc (ix2 i j) = (fun r d => xn X (64 * (r % 8) + r / 8) d) (8 * k + i.val) j.val :=
  (Cat.cols (a := 8) (b := 128) (A := 8) (B := 1024) (N := 8) (fun r d => xn X (64 * r + k) d) rfl (by decide) rfl hN h hc i j).trans (by
    show xn X (64 * i.val + k) j.val = xn X (64 * ((8 * k + i.val) % 8) + (8 * k + i.val) / 8) j.val
    congr 1; omega)

/-- Segment `k` of every row, from its eight chunks. -/
theorem segOf {X : S512x1024.Idx → α} {k : ℕ} {L : List ((s : Shape) × (s.Idx → α))}
    (h : Cat S64x128 (fun c f => ∀ (i : Fin 64) (j : Fin 128), f (ix2 i j) = xn X (8 * i.val + k) (128 * c + j.val)) 0 L) (hN : L.length = 8)
    (hc : Shape.Concatenates (L.map (·.1)) S64x1024 1) (i : Fin 64) (j : Fin 1024) :
    concatenate S64x1024 1 L hc (ix2 i j) = (fun r d => xn X (8 * (r % 64) + r / 64) d) (64 * k + i.val) j.val :=
  (Cat.cols (a := 64) (b := 128) (A := 64) (B := 1024) (N := 8) (fun r d => xn X (8 * r + k) d) rfl (by decide) rfl hN h hc i j).trans (by
    show xn X (8 * i.val + k) j.val = xn X (8 * ((64 * k + i.val) % 64) + (64 * k + i.val) / 64) j.val
    congr 1; omega)

end

end Cert.Ff
-- ==== Proof.Ff.Tile.lean ====
module

public import proofs.«01_k».proof.Proof.Ff.Conv
public import proofs.«01_k».proof.Proof.Ff.Stage
public import proofs.«01_k».proof.Proof.Ff.Data

@[expose] public section

set_option maxRecDepth 16384

/-! A tile's values between the stagings, read at an index. -/

noncomputable section

namespace Cert.Ff

open Cert.Kernel3Ideal Cert.Kernel3Ideal.Gen Idealize.ShloMosaic Idealize.ShloMosaic.TcCoe Idealize.SL.Sem

/-- The residual of a tile in token order. -/
def x1V {F : FTy → Type} [FloatOps F] (x0 : Vec F S512x1024 .f32) (x1 : Vec F S1x6x1024 .f32) (x2 x3 : Vec F S512x512 .bf16) (x4 x5 : Vec F S512x1024 .bf16) (x6 x7 : Vec F S512x1024 .bf16)
    (x8 : Vec F S1024x1024 .bf16) : FVec F S512x1024 .f32 :=
  k0_pay6 (k0_pay3 x1) (k0_pay4 x4 x2 x6) (k0_pay5 x5) (FloatOps.ofBits FTy.f32 0x3F800000#32) x3 x7 x0 x8

/-- The residual of a tile at a token and a column. -/
theorem x1V_at (x0 : Vec Ideal S512x1024 .f32) (x1 : Vec Ideal S1x6x1024 .f32) (x2 x3 : Vec Ideal S512x512 .bf16) (x4 x5 : Vec Ideal S512x1024 .bf16) (x6 x7 : Vec Ideal S512x1024 .bf16)
    (x8 : Vec Ideal S1024x1024 .bf16) (r : Fin 512) (d : Fin 1024) :
    x1V x0 x1 x2 x3 x4 x5 x6 x7 x8 (ix2 r d) = xR (fun d => x0 (ix2 r d)) (fun d => x1 (ix3 0 2 d))
      (yR (fun k => x4 (ix2 r k)) (fun k => x5 (ix2 r k)) (fun l => x2 (ix2 r l)) (fun l => x3 (ix2 r l)) (fun l k => x6 (ix2 l k)) (fun l k => x7 (ix2 l k))) (fun k d => x8 (ix2 k d)) d := by
  pointwise [x1V, k0_pay6, k0_pay5, k0_pay4, k0_pay3]
  simp only [xR, yR, sg]

/-- Rows by their root mean squares. -/
def nrV {F : FTy → Type} [FloatOps F] (X : FVec F S512x1024 .f32) : FVec F S512x1024 .f32 :=
  mulf X (broadcastTo S512x1024 (rsqrt (addf (divf (shapeCast S512x1 (multiReduction .add [1] S512 (mulf X X) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024)

/-- The normed, modulated rows at an index. -/
theorem hV_at (X : FVec Ideal S512x1024 .f32) (x1 : Vec Ideal S1x6x1024 .f32) (g : Vec Ideal S1x1024 .f32) (r : Fin 512) (d : Fin 1024) :
    k0_pay297 (k0_pay3 x1) (nrV X) g (ix2 r d) = hR (fun d => X (ix2 r d)) (fun d => g (ix2 0 d)) (fun d => x1 (ix3 0 3 d)) (fun d => x1 (ix3 0 4 d)) d := by
  pointwise [k0_pay297, nrV, k0_pay3]
  simp only [hR, nR]

/-- The result's rows at an index. -/
theorem oV_at (X : FVec Ideal S512x1024 .f32) (x1 : Vec Ideal S1x6x1024 .f32) (a : FVec Ideal S512x2816 .bf16) (wd : Vec Ideal S2816x1024 .bf16) (r : Fin 512) (d : Fin 1024) :
    k0_pay459 (k0_pay3 x1) X a wd (ix2 r d) = oR (fun d => X (ix2 r d)) (fun d => x1 (ix3 0 5 d)) (fun f => a (ix2 r f)) (fun f d => wd (ix2 f d)) d := by
  pointwise [k0_pay459, k0_pay3]
  simp only [oR]

end Cert.Ff
-- ==== Proof.Ff.StageA.lean ====
module

public import proofs.«01_k».proof.Proof.Gen.Kernel3Ideal.Frame.RunA
public import proofs.«01_k».proof.Proof.Ff.Tile

@[expose] public section

set_option maxRecDepth 65536

/-! The first staging: a tile's rows from token order to strided order. -/

noncomputable section

namespace Cert.Ff.A

open Cert.Kernel3Ideal Cert.Kernel3Ideal.Gen Idealize.ShloMosaic Idealize.ShloMosaic.TcCoe Idealize.SL.Sem

variable {F : FTy → Type} [FloatOps F] (c : Dev nD)
  (t1 : Memref sig .tc .vmem S512x1024 .f32) (w1 : t1.IsWhole)
  (t2 : Memref sig .tc .vmem S1x6x1024 .f32) (w2 : t2.IsWhole)
  (t3 : Memref sig .tc .vmem S512x512 .bf16) (w3 : t3.IsWhole)
  (t4 : Memref sig .tc .vmem S512x512 .bf16) (w4 : t4.IsWhole)
  (t5 : Memref sig .tc .vmem S512x1024 .bf16) (w5 : t5.IsWhole)
  (t6 : Memref sig .tc .vmem S512x1024 .bf16) (w6 : t6.IsWhole)
  (t7 : Memref sig .tc .vmem S512x1024 .bf16) (w7 : t7.IsWhole)
  (t8 : Memref sig .tc .vmem S512x1024 .bf16) (w8 : t8.IsWhole)
  (t9 : Memref sig .tc .vmem S1024x1024 .bf16) (w9 : t9.IsWhole)
  (t10 : Memref sig .tc .vmem S1x1024 .f32) (w10 : t10.IsWhole)
  (t11 : Memref sig .tc .vmem S1024x5632 .bf16) (w11 : t11.IsWhole)
  (t12 : Memref sig .tc .vmem S3x5632 .f32) (w12 : t12.IsWhole)
  (t13 : Memref sig .tc .vmem S1x5632 .f32) (w13 : t13.IsWhole)
  (t14 : Memref sig .tc .vmem S2816x1024 .bf16) (w14 : t14.IsWhole)
  (t15 : Memref sig .tc .vmem S512x1024 .f32) (w15 : t15.IsWhole)
  (t16 : Memref sig .tc .vmem S11x16x256 .f32) (w16 : t16.IsWhole)
  (t17 : Memref sig .tc .vmem S11x16x256 .f32) (w17 : t17.IsWhole)
  (t18 : Memref sig .tc .vmem S512x2816 .bf16) (w18 : t18.IsWhole)
  (t19 : Memref sig .tc .vmem S8x576x128 .f32) (w19 : t19.IsWhole)
  (x0 : Vec F S512x1024 .f32)  (x1 : Vec F S1x6x1024 .f32)  (x2 : Vec F S512x512 .bf16)  (x3 : Vec F S512x512 .bf16)  (x4 : Vec F S512x1024 .bf16)  (x5 : Vec F S512x1024 .bf16)  (x6 : Vec F S512x1024 .bf16)  (x7 : Vec F S512x1024 .bf16)  (x8 : Vec F S1024x1024 .bf16)  (x9 : Vec F S1x1024 .f32)  (x10 : Vec F S1024x5632 .bf16)  (x11 : Vec F S3x5632 .f32)  (x12 : Vec F S1x5632 .f32)  (x13 : Vec F S2816x1024 .bf16)

/-- The staging in token order. -/
theorem kT : Known (Val := Elt F) (e := .f32) (gT (kernelRun0_A.sl.r_3 c t1 w1 t2 w2 t3 w3 t4 w4 t5 w5 t6 w6 t7 w7 t8 w8 t9 w9 x0 x1 x2 x3 x4 x5 x6 x7 x8)) tR 64 (kernelRun0_A.sl.HS3_64 c t1 w1 t2 w2 t3 w3 t4 w4 t5 w5 t6 w6 t7 w7 t8 w8 t9 w9 x0 x1 x2 x3 x4 x5 x6 x7 x8) := by
  iterate 64 refine stepT ?_ _ _ (by rfl) (by rfl) _ _
  exact Known.zero _ _ _

/-- The rows read back in strided order. -/
theorem rows (r : Fin 512) (d : Fin 1024) : kernelRun0_A.sl.r_4 c t1 w1 t2 w2 t3 w3 t4 w4 t5 w5 t6 w6 t7 w7 t8 w8 t9 w9 t19 x0 x1 x2 x3 x4 x5 x6 x7 x8 (ix2 r d) = xn (kernelRun0_A.sl.r_3 c t1 w1 t2 w2 t3 w3 t4 w4 t5 w5 t6 w6 t7 w7 t8 w8 t9 w9 x0 x1 x2 x3 x4 x5 x6 x7 x8) (64 * (r.val % 8) + r.val / 8) d.val := by
  have hk := kT (F := F) c t1 w1 t2 w2 t3 w3 t4 w4 t5 w5 t6 w6 t7 w7 t8 w8 t9 w9 x0 x1 x2 x3 x4 x5 x6 x7 x8
  refine Cat.rows (a := 8) (b := 1024) (N := 64) (fun r d => xn (kernelRun0_A.sl.r_3 c t1 w1 t2 w2 t3 w3 t4 w4 t5 w5 t6 w6 t7 w7 t8 w8 t9 w9 x0 x1 x2 x3 x4 x5 x6 x7 x8) (64 * (r % 8) + r / 8) d) rfl (by decide) rfl (by rfl) ?_ (by exact concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S512x1024_d0) r d
  iterate 64
    refine Cat.cons (rowOf ?_ (by rfl) (by exact concatenates_S8x128_S8x128_S8x128_S8x128_S8x128_S8x128_S8x128_S8x128_S8x1024_d1)) ?_
    · iterate 8 refine Cat.cons (fun i l => ldS hk _ _ _ (by decide) (by decide) _ _ i l) ?_
      exact Cat.nil _
  exact Cat.nil _

end Cert.Ff.A
-- ==== Proof.Ff.Act.lean ====
module

public import proofs.«01_k».proof.Proof.Ff.Conv
public import proofs.«01_k».proof.Proof.Ff.Data
public import proofs.«01_k».proof.Proof.Ff.Stage
public import Idealize.ShloMosaic.Lib.WholeRead

@[expose] public section

set_option maxRecDepth 16384

/-! The gated products of a tile and the rows kept for the next, by row and column numbers. -/

noncomputable section

namespace Cert.Ff

open Cert.Kernel3Ideal Cert.Kernel3Ideal.Gen Idealize.ShloMosaic Idealize.ShloMosaic.TcCoe Idealize.SL.Sem

/-- An array of two axes at numbers. -/
def mN {α : Type} {a b : ℕ} [NeZero a] [NeZero b] (w : (⟨2, ![a, b]⟩ : Shape).Idx → α) (k f : ℕ) : α := w (ix2 (Fin.ofNat a k) (Fin.ofNat b f))

/-- An array at coordinates, by their numbers. -/
theorem mN_eq {α : Type} {a b : ℕ} [NeZero a] [NeZero b] (w : (⟨2, ![a, b]⟩ : Shape).Idx → α) (k : Fin a) (f : Fin b) (k' f' : ℕ) (hk : k.val = k') (hf : f.val = f') :
    w (ix2 k f) = mN w k' f' := by
  subst hk; subst hf
  exact ix2cc w k.isLt _ f.isLt _ (Nat.mod_eq_of_lt k.isLt).symm (Nat.mod_eq_of_lt f.isLt).symm

/-- The up-projection at row and column numbers. -/
def uN (H : FVec Ideal S512x1024 .bf16) (w : FVec Ideal S1024x5632 .bf16) (r f : ℕ) : EReal := ∑ k : Fin 1024, mN (α := EReal) (a := 512) (b := 1024) H r k.val * mN (α := EReal) (a := 1024) (b := 5632) w k.val f

/-- One token back. -/
def s1N (u p : ℕ → EReal) (r : ℕ) : EReal := if r < 8 then if r = 0 then p 15 else u (503 + r) else u (r - 8)

/-- Two tokens back. -/
def s2N (u p : ℕ → EReal) (r : ℕ) : EReal := if r < 16 then if r = 0 then p 7 else if r = 8 then p 15 else u (495 + r) else u (r - 16)

/-- The kept rows at numbers. -/
def pN (P : FVec Ideal S11x16x256 .f32) (i f : ℕ) : EReal := P (ix3 (Fin.ofNat 11 (f / 256)) (Fin.ofNat 16 i) (Fin.ofNat 256 f))

/-- The convolution at row and column numbers. -/
def cN (u : ℕ → ℕ → EReal) (w : FVec Ideal S3x5632 .f32) (b : FVec Ideal S1x5632 .f32) (p : ℕ → EReal) (r f : ℕ) : EReal :=
  cR (mN (a := 3) (b := 5632) w 0 f) (mN (a := 3) (b := 5632) w 1 f) (mN (a := 3) (b := 5632) w 2 f) (mN (a := 1) (b := 5632) b 0 f)
    (u r f) (s1N (fun r => u r f) p r) (s2N (fun r => u r f) p r)

/-- The gated product at row and column numbers. -/
def actN (u : ℕ → ℕ → EReal) (w : FVec Ideal S3x5632 .f32) (b : FVec Ideal S1x5632 .f32) (p0 p1 : ℕ → ℕ → EReal) (r f : ℕ) : EReal :=
  aR (cN u w b (fun i => p0 i f) r f) (cN u w b (fun i => p1 i f) r (2816 + f))

/-- A chunk's convolution, by numbers. -/
theorem cvE_N (u : ℕ → ℕ → EReal) (w : FVec Ideal S3x5632 .f32) (b : FVec Ideal S1x5632 .f32) (p : ℕ → ℕ → EReal) (o : ℕ) (o' : ℕ)
    {uv : FVec Ideal S512x256 .f32} {pv : FVec Ideal S16x256 .f32} {cv : FVec Ideal S3x256 .f32} {bv : FVec Ideal S1x256 .f32}
    (hu : ∀ r q, uv (ix2 r q) = u r.val (o + q.val)) (hp : ∀ i q, pv (ix2 i q) = p i.val (o' + q.val))
    (hc : ∀ j q, cv (ix2 j q) = mN (a := 3) (b := 5632) w j.val (o + q.val)) (hb : ∀ j q, bv (ix2 j q) = mN (a := 1) (b := 5632) b j.val (o + q.val))
    (r : Fin 512) (q : Fin 256) : cvE uv pv cv bv (ix2 r q) = cN u w b (fun i => p i (o' + q.val)) r.val (o + q.val) := by
  rw [cvE_at, hc, hc, hc, hb, hu, sh1_at, sh2_at]
  simp only [hu, hp]
  unfold cN cR s1N s2N
  refine congrArg₂ _ (congrArg₂ _ (congrArg₂ _ rfl ?_) ?_) rfl
  · refine congrArg _ ?_
    split <;> rfl
  · refine congrArg _ ?_
    split <;> rfl

/-- The rectangle of chunk `n`'s products. -/
def aRect (n : ℕ) : Rect S512x2816 := Rect.unit ![0, 256 * (n % 11)] ![512, 256] fun a => match a with
  | ⟨0, _⟩ => by show 0 + 512 ≤ 512; omega
  | ⟨1, _⟩ => by show 256 * (n % 11) + 256 ≤ 2816; omega

/-- The rectangle of chunk `n`'s kept rows. -/
def kRect (n : ℕ) : Rect S11x16x256 := Rect.unit ![n % 11, 0, 0] ![1, 16, 256] fun a => match a with
  | ⟨0, _⟩ => by show n % 11 + 1 ≤ 11; omega
  | ⟨1, _⟩ => by show 0 + 16 ≤ 16; omega
  | ⟨2, _⟩ => by show 0 + 256 ≤ 256; omega

/-- The products as the scratch holds them. -/
def gA (a : ℕ → ℕ → EReal) (y : S512x2816.Idx) : Elt Ideal .bf16 := a (y 0).val (y 1).val

/-- The kept rows as the scratch holds them, of columns from `o` on. -/
def gK (u : ℕ → ℕ → EReal) (o : ℕ) (y : S11x16x256.Idx) : Elt Ideal .f32 := u (496 + (y 1).val) (o + (256 * (y 0).val + (y 2).val))

/-- A load of a whole block reads the block. -/
theorem rdW {Val : EltTy → Type} {sig : RefSig} {κ : Kind} {sp : Space} {s : Shape} {e : EltTy} {m : Memref sig κ sp s e} (h : m.IsWhole) (X : s.Idx → Val e)
    {off : Fin s.rank → ℕ} (ho : off = fun _ => 0) (hin : ∀ i, off i + s.size i ≤ s.size i) :
    View.readAt Val m.view (Rect.unit (s := s) off s.size hin).toLoadRect (h.unread X) = X := by
  subst ho
  refine funext fun x => (h.readAt_unread X _ x).trans (congrArg X (funext fun c => Fin.ext ?_))
  show 0 + 1 * (x c).val = (x c).val
  omega

/-- The columns of an array from `o` on, as a load reads them. -/
theorem ldW {Val : EltTy → Type} {sig : RefSig} {κ : Kind} {sp : Space} {a b A B : ℕ} {e : EltTy} [NeZero A] [NeZero B] {m : Memref sig κ sp ⟨2, ![A, B]⟩ e} (h : m.IsWhole)
    (X : (⟨2, ![A, B]⟩ : Shape).Idx → Val e) (o o' : ℕ) (ho : o = o') (hin : ∀ i, (![0, o] : Fin 2 → ℕ) i + (![a, b] : Fin 2 → ℕ) i ≤ (![A, B] : Fin 2 → ℕ) i) (i : Fin a) (j : Fin b) :
    View.readAt Val m.view (Rect.unit (s := ⟨2, ![A, B]⟩) ![0, o] ![a, b] hin).toLoadRect (h.unread X) (ix2 i j) = mN (a := A) (b := B) X i.val (o' + j.val) := by
  subst ho
  refine (h.readAt_unread X (Rect.unit (s := ⟨2, ![A, B]⟩) ![0, o] ![a, b] hin).toLoadRect (ix2 i j)).trans ?_
  have h0 : 0 + a ≤ A := hin 0
  have h1 : o + b ≤ B := hin 1
  have e2 : (Rect.unit (s := ⟨2, ![A, B]⟩) ![0, o] ![a, b] hin).emb (ix2 i j) = (ix2 (⟨i.val, by omega⟩ : Fin A) (⟨o + j.val, by omega⟩ : Fin B)) := by
    funext c; match c with
    | ⟨0, _⟩ => exact Fin.ext (by show 0 + 1 * i.val = i.val; omega)
    | ⟨1, _⟩ => exact Fin.ext (by show o + 1 * j.val = o + j.val; omega)
  exact (congrArg X e2).trans (mN_eq X _ _ _ _ rfl rfl)

/-- The up-projection of a chunk, by numbers. -/
theorem upE_N (H : FVec Ideal S512x1024 .bf16) (w : FVec Ideal S1024x5632 .bf16) (o : ℕ) {W : FVec Ideal S1024x256 .bf16}
    (hW : ∀ k q, W (ix2 k q) = mN (a := 1024) (b := 5632) w k.val (o + q.val)) (r : Fin 512) (q : Fin 256) : upE H W (ix2 r q) = uN H w r.val (o + q.val) := by
  rw [upE_at]
  exact Finset.sum_congr rfl fun k _ => by rw [hW]; exact congrArg₂ _ (mN_eq (a := 512) (b := 1024) H r k _ _ rfl rfl) rfl

/-- A slab of the kept rows, as a load reads it. -/
theorem ldP {sig : RefSig} {κ : Kind} {sp : Space} {m : Memref sig κ sp S11x16x256 .f32} (h : m.IsWhole) (X : FVec Ideal S11x16x256 .f32) (n : ℕ) (hn : n < 11)
    (hin : ∀ i, (![n, 0, 0] : Fin 3 → ℕ) i + S1x16x256.size i ≤ S11x16x256.size i) (hc : S1x16x256.ShapeCasts S16x256) (i : Fin 16) (q : Fin 256) :
    shapeCast (s := S1x16x256) S16x256 (View.readAt (Elt Ideal) m.view (Rect.unit (s := S11x16x256) ![n, 0, 0] S1x16x256.size hin).toLoadRect (h.unread X)) hc (ix2 i q)
      = pN X i.val (256 * n + q.val) := by
  pointwise
  refine (h.readAt_unread (Val := Elt Ideal) (e := .f32) X (Rect.unit (s := S11x16x256) ![n, 0, 0] S1x16x256.size hin).toLoadRect _).trans (congrArg X ?_)
  funext c; match c with
  | ⟨0, _⟩ => exact Fin.ext (by show n + 1 * 0 = (256 * n + q.val) / 256 % 11; omega)
  | ⟨1, _⟩ => exact Fin.ext (by show 0 + 1 * i.val = i.val % 16; omega)
  | ⟨2, _⟩ => exact Fin.ext (by show 0 + 1 * q.val = (256 * n + q.val) % 256; omega)

/-- One more chunk's products. -/
theorem stepA {u : ℕ → ℕ → EReal} {w : FVec Ideal S3x5632 .f32} {b : FVec Ideal S1x5632 .f32} {p0 p1 : ℕ → ℕ → EReal} {n : ℕ} {L : List (View.Piece (Elt Ideal) S512x2816 .bf16)}
    (h : Known (Val := Elt Ideal) (e := .bf16) (gA (actN u w b p0 p1)) aRect n L) (hn : n < 11) {P : FVec Ideal S512x256 .bf16} (o o' : ℕ) (ho : o = 256 * n) (ho' : o' = 2816 + 256 * n)
    {uv ug : FVec Ideal S512x256 .f32} {pv pg : FVec Ideal S16x256 .f32} {cv cg : FVec Ideal S3x256 .f32} {bv bg : FVec Ideal S1x256 .f32}
    (e : P = acE (cvE uv pv cv bv) (cvE ug pg cg bg))
    (huv : ∀ r q, uv (ix2 r q) = u r.val (o + q.val)) (hug : ∀ r q, ug (ix2 r q) = u r.val (o' + q.val))
    (hpv : ∀ i q, pv (ix2 i q) = p0 i.val (o + q.val)) (hpg : ∀ i q, pg (ix2 i q) = p1 i.val (o + q.val))
    (hcv : ∀ j q, cv (ix2 j q) = mN (a := 3) (b := 5632) w j.val (o + q.val)) (hcg : ∀ j q, cg (ix2 j q) = mN (a := 3) (b := 5632) w j.val (o' + q.val))
    (hbv : ∀ j q, bv (ix2 j q) = mN (a := 1) (b := 5632) b j.val (o + q.val)) (hbg : ∀ j q, bg (ix2 j q) = mN (a := 1) (b := 5632) b j.val (o' + q.val)) :
    Known (Val := Elt Ideal) (e := .bf16) (gA (actN u w b p0 p1)) aRect (n + 1) (⟨aRect n, P⟩ :: L) :=
  h.step _ fun x => by
    obtain ⟨r, q, rfl⟩ : ∃ (r : Fin 512) (q : Fin 256), x = (ix2 r q : S512x256.Idx) := ⟨x 0, x 1, by funext c; match c with | ⟨0, _⟩ => rfl | ⟨1, _⟩ => rfl⟩
    rw [e, acE_at, cvE_N u w b p0 o o huv hpv hcv hbv r q, cvE_N u w b p1 o' o hug hpg hcg hbg r q]
    subst ho; subst ho'
    have e0 : (((aRect n).emb (ix2 r q : S512x256.Idx)) 0).val = r.val := by show 0 + 1 * r.val = r.val; omega
    have e1 : (((aRect n).emb (ix2 r q : S512x256.Idx)) 1).val = 256 * n + q.val := by show 256 * (n % 11) + 1 * q.val = 256 * n + q.val; omega
    show _ = actN u w b p0 p1 (((aRect n).emb (ix2 r q : S512x256.Idx)) 0).val (((aRect n).emb (ix2 r q : S512x256.Idx)) 1).val
    rw [e0, e1]
    unfold actN aR sg
    rw [Nat.add_assoc]

/-- One more chunk's kept rows. -/
theorem stepK {u : ℕ → ℕ → EReal} {c n : ℕ} {L : List (View.Piece (Elt Ideal) S11x16x256 .f32)}
    (h : Known (Val := Elt Ideal) (e := .f32) (gK u c) kRect n L) (hn : n < 11) {P : FVec Ideal S1x16x256 .f32} (o : ℕ) (ho : o = c + 256 * n)
    {uv : FVec Ideal S512x256 .f32} (e : P = kpE uv) (huv : ∀ r q, uv (ix2 r q) = u r.val (o + q.val)) :
    Known (Val := Elt Ideal) (e := .f32) (gK u c) kRect (n + 1) (⟨kRect n, P⟩ :: L) :=
  h.step _ fun x => by
    obtain ⟨z, r, q, rfl⟩ : ∃ (z : Fin 1) (r : Fin 16) (q : Fin 256), x = (ix3 z r q : S1x16x256.Idx) := ⟨x 0, x 1, x 2, ix3_eta x⟩
    obtain rfl : z = 0 := Subsingleton.elim _ _
    rw [e, kpE_at, huv]
    subst ho
    show u (496 + r.val) (c + 256 * n + q.val) = u (496 + (0 + 1 * r.val)) (c + (256 * (n % 11 + 1 * 0) + (0 + 1 * q.val)))
    congr 1 <;> omega

/-- The whole scratch of products, read at an index. -/
theorem readA {sig : RefSig} {κ : Kind} {sp : Space} {a : ℕ → ℕ → EReal} {L : List (View.Piece (Elt Ideal) S512x2816 .bf16)} (h : Known (Val := Elt Ideal) (e := .bf16) (gA a) aRect 11 L)
    (v : View sig κ sp S512x2816 .bf16) (hin : ∀ i, (![0, 0] : Fin 2 → ℕ) i + S512x2816.size i ≤ S512x2816.size i) (r : Fin 512) (f : Fin 2816) :
    v.readCov (Val := Elt Ideal) L (Rect.unit (s := S512x2816) ![0, 0] S512x2816.size hin).toLoadRect (ix2 r f) = a r.val f.val := by
  refine (h.read v (Rect.unit (s := S512x2816) ![0, 0] S512x2816.size hin).toLoadRect (ix2 r f : S512x2816.Idx) (f.val / 256) (by omega) ?_).trans ?_
  · refine (LoadRect.mem_set _).mpr fun c => ?_
    match c with
    | ⟨0, _⟩ => exact ⟨r.val, r.isLt, by show 0 + 1 * r.val = 0 + 1 * r.val; rfl⟩
    | ⟨1, _⟩ => exact ⟨f.val % 256, (by exact Nat.mod_lt _ (by decide) : f.val % 256 < 256), by show 0 + 1 * f.val = 256 * (f.val / 256 % 11) + 1 * (f.val % 256); omega⟩
  · show a (0 + 1 * r.val) (0 + 1 * f.val) = _
    congr 1 <;> omega

/-- The kept rows at an index. -/
theorem readK {u : ℕ → ℕ → EReal} {c : ℕ} {L : List (View.Piece (Elt Ideal) S11x16x256 .f32)} (h : Known (Val := Elt Ideal) (e := .f32) (gK u c) kRect 11 L) (y : S11x16x256.Idx) :
    View.canon L y = gK u c y := by
  have h0 : (y 0).val < 11 := (y 0).isLt
  refine h (y 0).val h0 y ?_
  refine (LoadRect.mem_set _).mpr fun a => ?_
  match a with
  | ⟨0, _⟩ => exact ⟨0, (by decide : 0 < 1), by show (y 0).val = (y 0).val % 11 + 1 * 0; omega⟩
  | ⟨1, _⟩ => exact ⟨(y 1).val, (y 1).isLt, by show (y 1).val = 0 + 1 * (y 1).val; omega⟩
  | ⟨2, _⟩ => exact ⟨(y 2).val, (y 2).isLt, by show (y 2).val = 0 + 1 * (y 2).val; omega⟩

/-- No kept rows from chunk `n` on. -/
def Blank (n : ℕ) (L : List (View.Piece (Elt Ideal) S11x16x256 .f32)) : Prop := ∀ y : S11x16x256.Idx, n ≤ (y 0).val → View.canon L y = (0 : EReal)

/-- A store of a chunk before leaves the rest as it was. -/
theorem Blank.step {n : ℕ} {L : List (View.Piece (Elt Ideal) S11x16x256 .f32)} (h : Blank n L) (hn : n < 11) (P : FVec Ideal S1x16x256 .f32) :
    Blank (n + 1) ((⟨kRect n, P⟩ : View.Piece (Elt Ideal) S11x16x256 .f32) :: L) := fun y hy => by
  refine (View.canon_cons_of_not_mem _ _ fun hm => ?_).trans (h y (by omega))
  obtain ⟨x, rfl⟩ := (kRect n).exists_idx_of_mem hm
  have : (((kRect n).emb x) 0).val = n := by
    have h1 : (x 0).val < 1 := (x 0).isLt
    show n % 11 + 1 * (x 0).val = n
    omega
  have hy' : n + 1 ≤ (((kRect n).emb x) 0).val := hy
  omega

/-- A slab of the blank rows, as a load reads it. -/
theorem Blank.ld {sig : RefSig} {κ : Kind} {sp : Space} {n : ℕ} {L : List (View.Piece (Elt Ideal) S11x16x256 .f32)} (h : Blank n L) (v : View sig κ sp S11x16x256 .f32)
    (hin : ∀ i, (![n, 0, 0] : Fin 3 → ℕ) i + S1x16x256.size i ≤ S11x16x256.size i) (hc : S1x16x256.ShapeCasts S16x256) (i : Fin 16) (q : Fin 256) :
    shapeCast (s := S1x16x256) S16x256 (v.readCov (Val := Elt Ideal) L (Rect.unit (s := S11x16x256) ![n, 0, 0] S1x16x256.size hin).toLoadRect) hc (ix2 i q) = (0 : EReal) := by
  pointwise
  rw [View.readCov_eq_canon']
  exact h _ (by show n ≤ n + 1 * 0; omega)

/-- The fill leaves every chunk blank. -/
theorem Blank.fill (hin : ∀ i, (![0, 0, 0] : Fin 3 → ℕ) i + S11x16x256.size i ≤ S11x16x256.size i) (P : FVec Ideal S11x16x256 .f32) (hP : ∀ y, P y = (0 : EReal)) :
    Blank 0 [⟨Rect.unit (s := S11x16x256) ![0, 0, 0] S11x16x256.size hin, P⟩] := fun y _ => by
  have : y ∈ (Rect.unit (s := S11x16x256) ![0, 0, 0] S11x16x256.size hin).set := by
    refine (LoadRect.mem_set _).mpr fun a => ?_
    match a with
    | ⟨0, _⟩ => exact ⟨(y 0).val, (y 0).isLt, by show (y 0).val = 0 + 1 * (y 0).val; omega⟩
    | ⟨1, _⟩ => exact ⟨(y 1).val, (y 1).isLt, by show (y 1).val = 0 + 1 * (y 1).val; omega⟩
    | ⟨2, _⟩ => exact ⟨(y 2).val, (y 2).isLt, by show (y 2).val = 0 + 1 * (y 2).val; omega⟩
  obtain ⟨x, rfl⟩ := LoadRect.exists_idx_of_mem _ this
  exact (View.canon_cons_emb _ _ _ x).trans (hP _)

end Cert.Ff
-- ==== Proof.Ff.ConvA.lean ====
module

public import proofs.«01_k».proof.Proof.Ff.StageA
public import proofs.«01_k».proof.Proof.Ff.Act

@[expose] public section

set_option maxRecDepth 65536

/-! The gated products of a tile and the rows it keeps. -/

noncomputable section

namespace Cert.Ff.A

open Cert.Kernel3Ideal Cert.Kernel3Ideal.Gen Idealize.ShloMosaic Idealize.ShloMosaic.TcCoe Idealize.SL.Sem

section
variable {F : FTy → Type} [FloatOps F] (c : Dev nD)
  (t1 : Memref sig .tc .vmem S512x1024 .f32) (w1 : t1.IsWhole)
  (t2 : Memref sig .tc .vmem S1x6x1024 .f32) (w2 : t2.IsWhole)
  (t3 : Memref sig .tc .vmem S512x512 .bf16) (w3 : t3.IsWhole)
  (t4 : Memref sig .tc .vmem S512x512 .bf16) (w4 : t4.IsWhole)
  (t5 : Memref sig .tc .vmem S512x1024 .bf16) (w5 : t5.IsWhole)
  (t6 : Memref sig .tc .vmem S512x1024 .bf16) (w6 : t6.IsWhole)
  (t7 : Memref sig .tc .vmem S512x1024 .bf16) (w7 : t7.IsWhole)
  (t8 : Memref sig .tc .vmem S512x1024 .bf16) (w8 : t8.IsWhole)
  (t9 : Memref sig .tc .vmem S1024x1024 .bf16) (w9 : t9.IsWhole)
  (t10 : Memref sig .tc .vmem S1x1024 .f32) (w10 : t10.IsWhole)
  (t11 : Memref sig .tc .vmem S1024x5632 .bf16) (w11 : t11.IsWhole)
  (t12 : Memref sig .tc .vmem S3x5632 .f32) (w12 : t12.IsWhole)
  (t13 : Memref sig .tc .vmem S1x5632 .f32) (w13 : t13.IsWhole)
  (t14 : Memref sig .tc .vmem S2816x1024 .bf16) (w14 : t14.IsWhole)
  (t15 : Memref sig .tc .vmem S512x1024 .f32) (w15 : t15.IsWhole)
  (t16 : Memref sig .tc .vmem S11x16x256 .f32) (w16 : t16.IsWhole)
  (t17 : Memref sig .tc .vmem S11x16x256 .f32) (w17 : t17.IsWhole)
  (t18 : Memref sig .tc .vmem S512x2816 .bf16) (w18 : t18.IsWhole)
  (t19 : Memref sig .tc .vmem S8x576x128 .f32) (w19 : t19.IsWhole)
  (x0 : Vec F S512x1024 .f32)  (x1 : Vec F S1x6x1024 .f32)  (x2 : Vec F S512x512 .bf16)  (x3 : Vec F S512x512 .bf16)  (x4 : Vec F S512x1024 .bf16)  (x5 : Vec F S512x1024 .bf16)  (x6 : Vec F S512x1024 .bf16)  (x7 : Vec F S512x1024 .bf16)  (x8 : Vec F S1024x1024 .bf16)  (x9 : Vec F S1x1024 .f32)  (x10 : Vec F S1024x5632 .bf16)  (x11 : Vec F S3x5632 .f32)  (x12 : Vec F S1x5632 .f32)  (x13 : Vec F S2816x1024 .bf16)

/-- The products of chunk 0. -/
theorem act0 : k0_pay314 (kernelRun0_A.sl.r_8 c t1 w1 t2 w2 t3 w3 t4 w4 t5 w5 t6 w6 t7 w7 t8 w8 t9 w9 t10 w10 t11 w11 t19 x0 x1 x2 x3 x4 x5 x6 x7 x8 x9 x10) (kernelRun0_A.sl.r_14 c t1 w1 t2 w2 t3 w3 t4 w4 t5 w5 t6 w6 t7 w7 t8 w8 t9 w9 t10 w10 t11 w11 t12 w12 t13 w13 t16 t19 x0 x1 x2 x3 x4 x5 x6 x7 x8 x9 x10 x11 x12) (kernelRun0_A.sl.r_15 c t17) (kernelRun0_A.sl.r_16 c t13 w13 x12) (kernelRun0_A.sl.r_17 c t1 w1 t2 w2 t3 w3 t4 w4 t5 w5 t6 w6 t7 w7 t8 w8 t9 w9 t10 w10 t11 w11 t12 w12 t17 t19 x0 x1 x2 x3 x4 x5 x6 x7 x8 x9 x10 x11) (kernelRun0_A.sl.r_18 c t12 w12 x11) k0_pay309 (kernelRun0_A.sl.r_19 c t1 w1 t2 w2 t3 w3 t4 w4 t5 w5 t6 w6 t7 w7 t8 w8 t9 w9 t10 w10 t11 w11 t19 x0 x1 x2 x3 x4 x5 x6 x7 x8 x9 x10) (kernelRun0_A.sl.r_20 c t17)
    = acE (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 0] S1024x256.size inb_S1024x5632_S1024x256_0_0).toLoadRect (w11.unread x10))) (shapeCast (s := S1x16x256) S16x256 (View.readCov (Val := Elt F) t16.view (kernelRun0_A.sl.HS0_1) (Rect.unit (s := S11x16x256) ![0, 0, 0] S1x16x256.size inb_S11x16x256_S1x16x256_0_0_0).toLoadRect) shapeCasts_S1x16x256_S16x256) (View.readAt (Elt F) t12.view (Rect.unit (s := S3x5632) ![0, 0] S3x256.size inb_S3x5632_S3x256_0_0).toLoadRect (w12.unread x11)) (View.readAt (Elt F) t13.view (Rect.unit (s := S1x5632) ![0, 0] S1x256.size inb_S1x5632_S1x256_0_0).toLoadRect (w13.unread x12)))
      (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 2816] S1024x256.size inb_S1024x5632_S1024x256_0_2816).toLoadRect (w11.unread x10))) (shapeCast (s := S1x16x256) S16x256 (View.readCov (Val := Elt F) t17.view (kernelRun0_A.sl.HS1_1) (Rect.unit (s := S11x16x256) ![0, 0, 0] S1x16x256.size inb_S11x16x256_S1x16x256_0_0_0).toLoadRect) shapeCasts_S1x16x256_S16x256) (View.readAt (Elt F) t12.view (Rect.unit (s := S3x5632) ![0, 2816] S3x256.size inb_S3x5632_S3x256_0_2816).toLoadRect (w12.unread x11)) (View.readAt (Elt F) t13.view (Rect.unit (s := S1x5632) ![0, 2816] S1x256.size inb_S1x5632_S1x256_0_2816).toLoadRect (w13.unread x12))) := rfl

/-- The products of chunk 1. -/
theorem act1 : k0_pay322 (kernelRun0_A.sl.r_24 c t1 w1 t2 w2 t3 w3 t4 w4 t5 w5 t6 w6 t7 w7 t8 w8 t9 w9 t10 w10 t11 w11 t12 w12 t13 w13 t16 t19 x0 x1 x2 x3 x4 x5 x6 x7 x8 x9 x10 x11 x12) (kernelRun0_A.sl.r_25 c t1 w1 t2 w2 t3 w3 t4 w4 t5 w5 t6 w6 t7 w7 t8 w8 t9 w9 t10 w10 t11 w11 t12 w12 t13 w13 t17 t19 x0 x1 x2 x3 x4 x5 x6 x7 x8 x9 x10 x11 x12)
    = acE (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 256] S1024x256.size inb_S1024x5632_S1024x256_0_256).toLoadRect (w11.unread x10))) (shapeCast (s := S1x16x256) S16x256 (View.readCov (Val := Elt F) t16.view (kernelRun0_A.sl.HS0_2 c t1 w1 t2 w2 t3 w3 t4 w4 t5 w5 t6 w6 t7 w7 t8 w8 t9 w9 t10 w10 t11 w11 t19 x0 x1 x2 x3 x4 x5 x6 x7 x8 x9 x10) (Rect.unit (s := S11x16x256) ![1, 0, 0] S1x16x256.size inb_S11x16x256_S1x16x256_1_0_0).toLoadRect) shapeCasts_S1x16x256_S16x256) (View.readAt (Elt F) t12.view (Rect.unit (s := S3x5632) ![0, 256] S3x256.size inb_S3x5632_S3x256_0_256).toLoadRect (w12.unread x11)) (View.readAt (Elt F) t13.view (Rect.unit (s := S1x5632) ![0, 256] S1x256.size inb_S1x5632_S1x256_0_256).toLoadRect (w13.unread x12)))
      (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 3072] S1024x256.size inb_S1024x5632_S1024x256_0_3072).toLoadRect (w11.unread x10))) (shapeCast (s := S1x16x256) S16x256 (View.readCov (Val := Elt F) t17.view (kernelRun0_A.sl.HS1_2 c t1 w1 t2 w2 t3 w3 t4 w4 t5 w5 t6 w6 t7 w7 t8 w8 t9 w9 t10 w10 t11 w11 t19 x0 x1 x2 x3 x4 x5 x6 x7 x8 x9 x10) (Rect.unit (s := S11x16x256) ![1, 0, 0] S1x16x256.size inb_S11x16x256_S1x16x256_1_0_0).toLoadRect) shapeCasts_S1x16x256_S16x256) (View.readAt (Elt F) t12.view (Rect.unit (s := S3x5632) ![0, 3072] S3x256.size inb_S3x5632_S3x256_0_3072).toLoadRect (w12.unread x11)) (View.readAt (Elt F) t13.view (Rect.unit (s := S1x5632) ![0, 3072] S1x256.size inb_S1x5632_S1x256_0_3072).toLoadRect (w13.unread x12))) := rfl

/-- The products of chunk 2. -/
theorem act2 : k0_pay341 (kernelRun0_A.sl.r_34 c t1 w1 t2 w2 t3 w3 t4 w4 t5 w5 t6 w6 t7 w7 t8 w8 t9 w9 t10 w10 t11 w11 t12 w12 t13 w13 t16 t19 x0 x1 x2 x3 x4 x5 x6 x7 x8 x9 x10 x11 x12) (kernelRun0_A.sl.r_42 c t1 w1 t2 w2 t3 w3 t4 w4 t5 w5 t6 w6 t7 w7 t8 w8 t9 w9 t10 w10 t11 w11 t12 w12 t13 w13 t17 t19 x0 x1 x2 x3 x4 x5 x6 x7 x8 x9 x10 x11 x12) (kernelRun0_A.sl.r_43 c t1 w1 t2 w2 t3 w3 t4 w4 t5 w5 t6 w6 t7 w7 t8 w8 t9 w9 t10 w10 t11 w11 t12 w12 t13 w13 t17 t19 x0 x1 x2 x3 x4 x5 x6 x7 x8 x9 x10 x11 x12) k0_pay340
    = acE (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 512] S1024x256.size inb_S1024x5632_S1024x256_0_512).toLoadRect (w11.unread x10))) (shapeCast (s := S1x16x256) S16x256 (View.readCov (Val := Elt F) t16.view (kernelRun0_A.sl.HS0_3 c t1 w1 t2 w2 t3 w3 t4 w4 t5 w5 t6 w6 t7 w7 t8 w8 t9 w9 t10 w10 t11 w11 t19 x0 x1 x2 x3 x4 x5 x6 x7 x8 x9 x10) (Rect.unit (s := S11x16x256) ![2, 0, 0] S1x16x256.size inb_S11x16x256_S1x16x256_2_0_0).toLoadRect) shapeCasts_S1x16x256_S16x256) (View.readAt (Elt F) t12.view (Rect.unit (s := S3x5632) ![0, 512] S3x256.size inb_S3x5632_S3x256_0_512).toLoadRect (w12.unread x11)) (View.readAt (Elt F) t13.view (Rect.unit (s := S1x5632) ![0, 512] S1x256.size inb_S1x5632_S1x256_0_512).toLoadRect (w13.unread x12)))
      (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 3328] S1024x256.size inb_S1024x5632_S1024x256_0_3328).toLoadRect (w11.unread x10))) (shapeCast (s := S1x16x256) S16x256 (View.readCov (Val := Elt F) t17.view (kernelRun0_A.sl.HS1_3 c t1 w1 t2 w2 t3 w3 t4 w4 t5 w5 t6 w6 t7 w7 t8 w8 t9 w9 t10 w10 t11 w11 t19 x0 x1 x2 x3 x4 x5 x6 x7 x8 x9 x10) (Rect.unit (s := S11x16x256) ![2, 0, 0] S1x16x256.size inb_S11x16x256_S1x16x256_2_0_0).toLoadRect) shapeCasts_S1x16x256_S16x256) (View.readAt (Elt F) t12.view (Rect.unit (s := S3x5632) ![0, 3328] S3x256.size inb_S3x5632_S3x256_0_3328).toLoadRect (w12.unread x11)) (View.readAt (Elt F) t13.view (Rect.unit (s := S1x5632) ![0, 3328] S1x256.size inb_S1x5632_S1x256_0_3328).toLoadRect (w13.unread x12))) := rfl

/-- The products of chunk 3. -/
theorem act3 : k0_pay358 (kernelRun0_A.sl.r_45 c t1 w1 t2 w2 t3 w3 t4 w4 t5 w5 t6 w6 t7 w7 t8 w8 t9 w9 t10 w10 t11 w11 t19 x0 x1 x2 x3 x4 x5 x6 x7 x8 x9 x10) (kernelRun0_A.sl.r_52 c t1 w1 t2 w2 t3 w3 t4 w4 t5 w5 t6 w6 t7 w7 t8 w8 t9 w9 t10 w10 t11 w11 t12 w12 t13 w13 t16 t19 x0 x1 x2 x3 x4 x5 x6 x7 x8 x9 x10 x11 x12) (kernelRun0_A.sl.r_53 c t1 w1 t2 w2 t3 w3 t4 w4 t5 w5 t6 w6 t7 w7 t8 w8 t9 w9 t10 w10 t11 w11 t17 t19 x0 x1 x2 x3 x4 x5 x6 x7 x8 x9 x10) (kernelRun0_A.sl.r_54 c t13 w13 x12) (kernelRun0_A.sl.r_55 c t1 w1 t2 w2 t3 w3 t4 w4 t5 w5 t6 w6 t7 w7 t8 w8 t9 w9 t10 w10 t11 w11 t12 w12 t17 t19 x0 x1 x2 x3 x4 x5 x6 x7 x8 x9 x10 x11) (kernelRun0_A.sl.r_56 c t12 w12 x11) k0_pay354 (kernelRun0_A.sl.r_57 c t1 w1 t2 w2 t3 w3 t4 w4 t5 w5 t6 w6 t7 w7 t8 w8 t9 w9 t10 w10 t11 w11 t17 t19 x0 x1 x2 x3 x4 x5 x6 x7 x8 x9 x10)
    = acE (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 768] S1024x256.size inb_S1024x5632_S1024x256_0_768).toLoadRect (w11.unread x10))) (shapeCast (s := S1x16x256) S16x256 (View.readCov (Val := Elt F) t16.view (kernelRun0_A.sl.HS0_4 c t1 w1 t2 w2 t3 w3 t4 w4 t5 w5 t6 w6 t7 w7 t8 w8 t9 w9 t10 w10 t11 w11 t19 x0 x1 x2 x3 x4 x5 x6 x7 x8 x9 x10) (Rect.unit (s := S11x16x256) ![3, 0, 0] S1x16x256.size inb_S11x16x256_S1x16x256_3_0_0).toLoadRect) shapeCasts_S1x16x256_S16x256) (View.readAt (Elt F) t12.view (Rect.unit (s := S3x5632) ![0, 768] S3x256.size inb_S3x5632_S3x256_0_768).toLoadRect (w12.unread x11)) (View.readAt (Elt F) t13.view (Rect.unit (s := S1x5632) ![0, 768] S1x256.size inb_S1x5632_S1x256_0_768).toLoadRect (w13.unread x12)))
      (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 3584] S1024x256.size inb_S1024x5632_S1024x256_0_3584).toLoadRect (w11.unread x10))) (shapeCast (s := S1x16x256) S16x256 (View.readCov (Val := Elt F) t17.view (kernelRun0_A.sl.HS1_4 c t1 w1 t2 w2 t3 w3 t4 w4 t5 w5 t6 w6 t7 w7 t8 w8 t9 w9 t10 w10 t11 w11 t19 x0 x1 x2 x3 x4 x5 x6 x7 x8 x9 x10) (Rect.unit (s := S11x16x256) ![3, 0, 0] S1x16x256.size inb_S11x16x256_S1x16x256_3_0_0).toLoadRect) shapeCasts_S1x16x256_S16x256) (View.readAt (Elt F) t12.view (Rect.unit (s := S3x5632) ![0, 3584] S3x256.size inb_S3x5632_S3x256_0_3584).toLoadRect (w12.unread x11)) (View.readAt (Elt F) t13.view (Rect.unit (s := S1x5632) ![0, 3584] S1x256.size inb_S1x5632_S1x256_0_3584).toLoadRect (w13.unread x12))) := rfl

/-- The products of chunk 4. -/
theorem act4 : k0_pay365 (kernelRun0_A.sl.r_60 c t1 w1 t2 w2 t3 w3 t4 w4 t5 w5 t6 w6 t7 w7 t8 w8 t9 w9 t10 w10 t11 w11 t12 w12 t13 w13 t16 t19 x0 x1 x2 x3 x4 x5 x6 x7 x8 x9 x10 x11 x12) (kernelRun0_A.sl.r_61 c t1 w1 t2 w2 t3 w3 t4 w4 t5 w5 t6 w6 t7 w7 t8 w8 t9 w9 t10 w10 t11 w11 t12 w12 t13 w13 t17 t19 x0 x1 x2 x3 x4 x5 x6 x7 x8 x9 x10 x11 x12)
    = acE (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 1024] S1024x256.size inb_S1024x5632_S1024x256_0_1024).toLoadRect (w11.unread x10))) (shapeCast (s := S1x16x256) S16x256 (View.readCov (Val := Elt F) t16.view (kernelRun0_A.sl.HS0_5 c t1 w1 t2 w2 t3 w3 t4 w4 t5 w5 t6 w6 t7 w7 t8 w8 t9 w9 t10 w10 t11 w11 t19 x0 x1 x2 x3 x4 x5 x6 x7 x8 x9 x10) (Rect.unit (s := S11x16x256) ![4, 0, 0] S1x16x256.size inb_S11x16x256_S1x16x256_4_0_0).toLoadRect) shapeCasts_S1x16x256_S16x256) (View.readAt (Elt F) t12.view (Rect.unit (s := S3x5632) ![0, 1024] S3x256.size inb_S3x5632_S3x256_0_1024).toLoadRect (w12.unread x11)) (View.readAt (Elt F) t13.view (Rect.unit (s := S1x5632) ![0, 1024] S1x256.size inb_S1x5632_S1x256_0_1024).toLoadRect (w13.unread x12)))
      (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 3840] S1024x256.size inb_S1024x5632_S1024x256_0_3840).toLoadRect (w11.unread x10))) (shapeCast (s := S1x16x256) S16x256 (View.readCov (Val := Elt F) t17.view (kernelRun0_A.sl.HS1_5 c t1 w1 t2 w2 t3 w3 t4 w4 t5 w5 t6 w6 t7 w7 t8 w8 t9 w9 t10 w10 t11 w11 t19 x0 x1 x2 x3 x4 x5 x6 x7 x8 x9 x10) (Rect.unit (s := S11x16x256) ![4, 0, 0] S1x16x256.size inb_S11x16x256_S1x16x256_4_0_0).toLoadRect) shapeCasts_S1x16x256_S16x256) (View.readAt (Elt F) t12.view (Rect.unit (s := S3x5632) ![0, 3840] S3x256.size inb_S3x5632_S3x256_0_3840).toLoadRect (w12.unread x11)) (View.readAt (Elt F) t13.view (Rect.unit (s := S1x5632) ![0, 3840] S1x256.size inb_S1x5632_S1x256_0_3840).toLoadRect (w13.unread x12))) := rfl

/-- The products of chunk 5. -/
theorem act5 : k0_pay384 (kernelRun0_A.sl.r_80 c t1 w1 t2 w2 t3 w3 t4 w4 t5 w5 t6 w6 t7 w7 t8 w8 t9 w9 t10 w10 t11 w11 t12 w12 t13 w13 t16 t17 t19 x0 x1 x2 x3 x4 x5 x6 x7 x8 x9 x10 x11 x12)
    = acE (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 1280] S1024x256.size inb_S1024x5632_S1024x256_0_1280).toLoadRect (w11.unread x10))) (shapeCast (s := S1x16x256) S16x256 (View.readCov (Val := Elt F) t16.view (kernelRun0_A.sl.HS0_6 c t1 w1 t2 w2 t3 w3 t4 w4 t5 w5 t6 w6 t7 w7 t8 w8 t9 w9 t10 w10 t11 w11 t19 x0 x1 x2 x3 x4 x5 x6 x7 x8 x9 x10) (Rect.unit (s := S11x16x256) ![5, 0, 0] S1x16x256.size inb_S11x16x256_S1x16x256_5_0_0).toLoadRect) shapeCasts_S1x16x256_S16x256) (View.readAt (Elt F) t12.view (Rect.unit (s := S3x5632) ![0, 1280] S3x256.size inb_S3x5632_S3x256_0_1280).toLoadRect (w12.unread x11)) (View.readAt (Elt F) t13.view (Rect.unit (s := S1x5632) ![0, 1280] S1x256.size inb_S1x5632_S1x256_0_1280).toLoadRect (w13.unread x12)))
      (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 4096] S1024x256.size inb_S1024x5632_S1024x256_0_4096).toLoadRect (w11.unread x10))) (shapeCast (s := S1x16x256) S16x256 (View.readCov (Val := Elt F) t17.view (kernelRun0_A.sl.HS1_6 c t1 w1 t2 w2 t3 w3 t4 w4 t5 w5 t6 w6 t7 w7 t8 w8 t9 w9 t10 w10 t11 w11 t19 x0 x1 x2 x3 x4 x5 x6 x7 x8 x9 x10) (Rect.unit (s := S11x16x256) ![5, 0, 0] S1x16x256.size inb_S11x16x256_S1x16x256_5_0_0).toLoadRect) shapeCasts_S1x16x256_S16x256) (View.readAt (Elt F) t12.view (Rect.unit (s := S3x5632) ![0, 4096] S3x256.size inb_S3x5632_S3x256_0_4096).toLoadRect (w12.unread x11)) (View.readAt (Elt F) t13.view (Rect.unit (s := S1x5632) ![0, 4096] S1x256.size inb_S1x5632_S1x256_0_4096).toLoadRect (w13.unread x12))) := rfl

/-- The products of chunk 6. -/
theorem act6 : k0_pay402 (kernelRun0_A.sl.r_82 c t1 w1 t2 w2 t3 w3 t4 w4 t5 w5 t6 w6 t7 w7 t8 w8 t9 w9 t10 w10 t11 w11 t19 x0 x1 x2 x3 x4 x5 x6 x7 x8 x9 x10) (kernelRun0_A.sl.r_88 c t1 w1 t2 w2 t3 w3 t4 w4 t5 w5 t6 w6 t7 w7 t8 w8 t9 w9 t10 w10 t11 w11 t12 w12 t13 w13 t16 t19 x0 x1 x2 x3 x4 x5 x6 x7 x8 x9 x10 x11 x12) (kernelRun0_A.sl.r_89 c t13 w13 x12) (kernelRun0_A.sl.r_90 c t1 w1 t2 w2 t3 w3 t4 w4 t5 w5 t6 w6 t7 w7 t8 w8 t9 w9 t10 w10 t11 w11 t12 w12 t17 t19 x0 x1 x2 x3 x4 x5 x6 x7 x8 x9 x10 x11) (kernelRun0_A.sl.r_91 c t12 w12 x11) k0_pay396 (kernelRun0_A.sl.r_92 c t1 w1 t2 w2 t3 w3 t4 w4 t5 w5 t6 w6 t7 w7 t8 w8 t9 w9 t10 w10 t11 w11 t17 t19 x0 x1 x2 x3 x4 x5 x6 x7 x8 x9 x10) (kernelRun0_A.sl.r_93 c t1 w1 t2 w2 t3 w3 t4 w4 t5 w5 t6 w6 t7 w7 t8 w8 t9 w9 t10 w10 t11 w11 t19 x0 x1 x2 x3 x4 x5 x6 x7 x8 x9 x10) (kernelRun0_A.sl.r_94 c t1 w1 t2 w2 t3 w3 t4 w4 t5 w5 t6 w6 t7 w7 t8 w8 t9 w9 t10 w10 t11 w11 t17 t19 x0 x1 x2 x3 x4 x5 x6 x7 x8 x9 x10) 1#32
    = acE (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 1536] S1024x256.size inb_S1024x5632_S1024x256_0_1536).toLoadRect (w11.unread x10))) (shapeCast (s := S1x16x256) S16x256 (View.readCov (Val := Elt F) t16.view (kernelRun0_A.sl.HS0_7 c t1 w1 t2 w2 t3 w3 t4 w4 t5 w5 t6 w6 t7 w7 t8 w8 t9 w9 t10 w10 t11 w11 t19 x0 x1 x2 x3 x4 x5 x6 x7 x8 x9 x10) (Rect.unit (s := S11x16x256) ![6, 0, 0] S1x16x256.size inb_S11x16x256_S1x16x256_6_0_0).toLoadRect) shapeCasts_S1x16x256_S16x256) (View.readAt (Elt F) t12.view (Rect.unit (s := S3x5632) ![0, 1536] S3x256.size inb_S3x5632_S3x256_0_1536).toLoadRect (w12.unread x11)) (View.readAt (Elt F) t13.view (Rect.unit (s := S1x5632) ![0, 1536] S1x256.size inb_S1x5632_S1x256_0_1536).toLoadRect (w13.unread x12)))
      (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 4352] S1024x256.size inb_S1024x5632_S1024x256_0_4352).toLoadRect (w11.unread x10))) (shapeCast (s := S1x16x256) S16x256 (View.readCov (Val := Elt F) t17.view (kernelRun0_A.sl.HS1_7 c t1 w1 t2 w2 t3 w3 t4 w4 t5 w5 t6 w6 t7 w7 t8 w8 t9 w9 t10 w10 t11 w11 t19 x0 x1 x2 x3 x4 x5 x6 x7 x8 x9 x10) (Rect.unit (s := S11x16x256) ![6, 0, 0] S1x16x256.size inb_S11x16x256_S1x16x256_6_0_0).toLoadRect) shapeCasts_S1x16x256_S16x256) (View.readAt (Elt F) t12.view (Rect.unit (s := S3x5632) ![0, 4352] S3x256.size inb_S3x5632_S3x256_0_4352).toLoadRect (w12.unread x11)) (View.readAt (Elt F) t13.view (Rect.unit (s := S1x5632) ![0, 4352] S1x256.size inb_S1x5632_S1x256_0_4352).toLoadRect (w13.unread x12))) := rfl

/-- The products of chunk 7. -/
theorem act7 : k0_pay411 (kernelRun0_A.sl.r_97 c t1 w1 t2 w2 t3 w3 t4 w4 t5 w5 t6 w6 t7 w7 t8 w8 t9 w9 t10 w10 t11 w11 t12 w12 t13 w13 t16 t19 x0 x1 x2 x3 x4 x5 x6 x7 x8 x9 x10 x11 x12) (kernelRun0_A.sl.r_99 c t1 w1 t2 w2 t3 w3 t4 w4 t5 w5 t6 w6 t7 w7 t8 w8 t9 w9 t10 w10 t11 w11 t12 w12 t13 w13 t17 t19 x0 x1 x2 x3 x4 x5 x6 x7 x8 x9 x10 x11 x12)
    = acE (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 1792] S1024x256.size inb_S1024x5632_S1024x256_0_1792).toLoadRect (w11.unread x10))) (shapeCast (s := S1x16x256) S16x256 (View.readCov (Val := Elt F) t16.view (kernelRun0_A.sl.HS0_8 c t1 w1 t2 w2 t3 w3 t4 w4 t5 w5 t6 w6 t7 w7 t8 w8 t9 w9 t10 w10 t11 w11 t19 x0 x1 x2 x3 x4 x5 x6 x7 x8 x9 x10) (Rect.unit (s := S11x16x256) ![7, 0, 0] S1x16x256.size inb_S11x16x256_S1x16x256_7_0_0).toLoadRect) shapeCasts_S1x16x256_S16x256) (View.readAt (Elt F) t12.view (Rect.unit (s := S3x5632) ![0, 1792] S3x256.size inb_S3x5632_S3x256_0_1792).toLoadRect (w12.unread x11)) (View.readAt (Elt F) t13.view (Rect.unit (s := S1x5632) ![0, 1792] S1x256.size inb_S1x5632_S1x256_0_1792).toLoadRect (w13.unread x12)))
      (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 4608] S1024x256.size inb_S1024x5632_S1024x256_0_4608).toLoadRect (w11.unread x10))) (shapeCast (s := S1x16x256) S16x256 (View.readCov (Val := Elt F) t17.view (kernelRun0_A.sl.HS1_8 c t1 w1 t2 w2 t3 w3 t4 w4 t5 w5 t6 w6 t7 w7 t8 w8 t9 w9 t10 w10 t11 w11 t19 x0 x1 x2 x3 x4 x5 x6 x7 x8 x9 x10) (Rect.unit (s := S11x16x256) ![7, 0, 0] S1x16x256.size inb_S11x16x256_S1x16x256_7_0_0).toLoadRect) shapeCasts_S1x16x256_S16x256) (View.readAt (Elt F) t12.view (Rect.unit (s := S3x5632) ![0, 4608] S3x256.size inb_S3x5632_S3x256_0_4608).toLoadRect (w12.unread x11)) (View.readAt (Elt F) t13.view (Rect.unit (s := S1x5632) ![0, 4608] S1x256.size inb_S1x5632_S1x256_0_4608).toLoadRect (w13.unread x12))) := rfl

/-- The products of chunk 8. -/
theorem act8 : k0_pay428 (kernelRun0_A.sl.r_117 c t1 w1 t2 w2 t3 w3 t4 w4 t5 w5 t6 w6 t7 w7 t8 w8 t9 w9 t10 w10 t11 w11 t12 w12 t13 w13 t16 t17 t19 x0 x1 x2 x3 x4 x5 x6 x7 x8 x9 x10 x11 x12)
    = acE (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 2048] S1024x256.size inb_S1024x5632_S1024x256_0_2048).toLoadRect (w11.unread x10))) (shapeCast (s := S1x16x256) S16x256 (View.readCov (Val := Elt F) t16.view (kernelRun0_A.sl.HS0_9 c t1 w1 t2 w2 t3 w3 t4 w4 t5 w5 t6 w6 t7 w7 t8 w8 t9 w9 t10 w10 t11 w11 t19 x0 x1 x2 x3 x4 x5 x6 x7 x8 x9 x10) (Rect.unit (s := S11x16x256) ![8, 0, 0] S1x16x256.size inb_S11x16x256_S1x16x256_8_0_0).toLoadRect) shapeCasts_S1x16x256_S16x256) (View.readAt (Elt F) t12.view (Rect.unit (s := S3x5632) ![0, 2048] S3x256.size inb_S3x5632_S3x256_0_2048).toLoadRect (w12.unread x11)) (View.readAt (Elt F) t13.view (Rect.unit (s := S1x5632) ![0, 2048] S1x256.size inb_S1x5632_S1x256_0_2048).toLoadRect (w13.unread x12)))
      (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 4864] S1024x256.size inb_S1024x5632_S1024x256_0_4864).toLoadRect (w11.unread x10))) (shapeCast (s := S1x16x256) S16x256 (View.readCov (Val := Elt F) t17.view (kernelRun0_A.sl.HS1_9 c t1 w1 t2 w2 t3 w3 t4 w4 t5 w5 t6 w6 t7 w7 t8 w8 t9 w9 t10 w10 t11 w11 t19 x0 x1 x2 x3 x4 x5 x6 x7 x8 x9 x10) (Rect.unit (s := S11x16x256) ![8, 0, 0] S1x16x256.size inb_S11x16x256_S1x16x256_8_0_0).toLoadRect) shapeCasts_S1x16x256_S16x256) (View.readAt (Elt F) t12.view (Rect.unit (s := S3x5632) ![0, 4864] S3x256.size inb_S3x5632_S3x256_0_4864).toLoadRect (w12.unread x11)) (View.readAt (Elt F) t13.view (Rect.unit (s := S1x5632) ![0, 4864] S1x256.size inb_S1x5632_S1x256_0_4864).toLoadRect (w13.unread x12))) := rfl

/-- The products of chunk 9. -/
theorem act9 : k0_pay448 (kernelRun0_A.sl.r_119 c t1 w1 t2 w2 t3 w3 t4 w4 t5 w5 t6 w6 t7 w7 t8 w8 t9 w9 t10 w10 t11 w11 t19 x0 x1 x2 x3 x4 x5 x6 x7 x8 x9 x10) (kernelRun0_A.sl.r_126 c t1 w1 t2 w2 t3 w3 t4 w4 t5 w5 t6 w6 t7 w7 t8 w8 t9 w9 t10 w10 t11 w11 t12 w12 t13 w13 t16 t19 x0 x1 x2 x3 x4 x5 x6 x7 x8 x9 x10 x11 x12) (kernelRun0_A.sl.r_127 c t13 w13 x12) (kernelRun0_A.sl.r_128 c t1 w1 t2 w2 t3 w3 t4 w4 t5 w5 t6 w6 t7 w7 t8 w8 t9 w9 t10 w10 t11 w11 t12 w12 t17 t19 x0 x1 x2 x3 x4 x5 x6 x7 x8 x9 x10 x11) (kernelRun0_A.sl.r_129 c t12 w12 x11) k0_pay442 (kernelRun0_A.sl.r_130 c t1 w1 t2 w2 t3 w3 t4 w4 t5 w5 t6 w6 t7 w7 t8 w8 t9 w9 t10 w10 t11 w11 t17 t19 x0 x1 x2 x3 x4 x5 x6 x7 x8 x9 x10) (kernelRun0_A.sl.r_131 c t1 w1 t2 w2 t3 w3 t4 w4 t5 w5 t6 w6 t7 w7 t8 w8 t9 w9 t10 w10 t11 w11 t17 t19 x0 x1 x2 x3 x4 x5 x6 x7 x8 x9 x10) (kernelRun0_A.sl.r_132 c t1 w1 t2 w2 t3 w3 t4 w4 t5 w5 t6 w6 t7 w7 t8 w8 t9 w9 t10 w10 t11 w11 t19 x0 x1 x2 x3 x4 x5 x6 x7 x8 x9 x10)
    = acE (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 2304] S1024x256.size inb_S1024x5632_S1024x256_0_2304).toLoadRect (w11.unread x10))) (shapeCast (s := S1x16x256) S16x256 (View.readCov (Val := Elt F) t16.view (kernelRun0_A.sl.HS0_10 c t1 w1 t2 w2 t3 w3 t4 w4 t5 w5 t6 w6 t7 w7 t8 w8 t9 w9 t10 w10 t11 w11 t19 x0 x1 x2 x3 x4 x5 x6 x7 x8 x9 x10) (Rect.unit (s := S11x16x256) ![9, 0, 0] S1x16x256.size inb_S11x16x256_S1x16x256_9_0_0).toLoadRect) shapeCasts_S1x16x256_S16x256) (View.readAt (Elt F) t12.view (Rect.unit (s := S3x5632) ![0, 2304] S3x256.size inb_S3x5632_S3x256_0_2304).toLoadRect (w12.unread x11)) (View.readAt (Elt F) t13.view (Rect.unit (s := S1x5632) ![0, 2304] S1x256.size inb_S1x5632_S1x256_0_2304).toLoadRect (w13.unread x12)))
      (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 5120] S1024x256.size inb_S1024x5632_S1024x256_0_5120).toLoadRect (w11.unread x10))) (shapeCast (s := S1x16x256) S16x256 (View.readCov (Val := Elt F) t17.view (kernelRun0_A.sl.HS1_10 c t1 w1 t2 w2 t3 w3 t4 w4 t5 w5 t6 w6 t7 w7 t8 w8 t9 w9 t10 w10 t11 w11 t19 x0 x1 x2 x3 x4 x5 x6 x7 x8 x9 x10) (Rect.unit (s := S11x16x256) ![9, 0, 0] S1x16x256.size inb_S11x16x256_S1x16x256_9_0_0).toLoadRect) shapeCasts_S1x16x256_S16x256) (View.readAt (Elt F) t12.view (Rect.unit (s := S3x5632) ![0, 5120] S3x256.size inb_S3x5632_S3x256_0_5120).toLoadRect (w12.unread x11)) (View.readAt (Elt F) t13.view (Rect.unit (s := S1x5632) ![0, 5120] S1x256.size inb_S1x5632_S1x256_0_5120).toLoadRect (w13.unread x12))) := rfl

/-- The products of chunk 10. -/
theorem act10 : k0_pay458 (kernelRun0_A.sl.r_136 c t1 w1 t2 w2 t3 w3 t4 w4 t5 w5 t6 w6 t7 w7 t8 w8 t9 w9 t10 w10 t11 w11 t12 w12 t13 w13 t16 t19 x0 x1 x2 x3 x4 x5 x6 x7 x8 x9 x10 x11 x12) (kernelRun0_A.sl.r_139 c t1 w1 t2 w2 t3 w3 t4 w4 t5 w5 t6 w6 t7 w7 t8 w8 t9 w9 t10 w10 t11 w11 t12 w12 t13 w13 t17 t19 x0 x1 x2 x3 x4 x5 x6 x7 x8 x9 x10 x11 x12)
    = acE (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 2560] S1024x256.size inb_S1024x5632_S1024x256_0_2560).toLoadRect (w11.unread x10))) (shapeCast (s := S1x16x256) S16x256 (View.readCov (Val := Elt F) t16.view (kernelRun0_A.sl.HS0_11 c t1 w1 t2 w2 t3 w3 t4 w4 t5 w5 t6 w6 t7 w7 t8 w8 t9 w9 t10 w10 t11 w11 t19 x0 x1 x2 x3 x4 x5 x6 x7 x8 x9 x10) (Rect.unit (s := S11x16x256) ![10, 0, 0] S1x16x256.size inb_S11x16x256_S1x16x256_10_0_0).toLoadRect) shapeCasts_S1x16x256_S16x256) (View.readAt (Elt F) t12.view (Rect.unit (s := S3x5632) ![0, 2560] S3x256.size inb_S3x5632_S3x256_0_2560).toLoadRect (w12.unread x11)) (View.readAt (Elt F) t13.view (Rect.unit (s := S1x5632) ![0, 2560] S1x256.size inb_S1x5632_S1x256_0_2560).toLoadRect (w13.unread x12)))
      (cvE (upE (kernelRun0_A.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 5376] S1024x256.size inb_S1024x5632_S1024x256_0_5376).toLoadRect (w11.unread x10))) (shapeCast (s := S1x16x256) S16x256 (View.readCov (Val := Elt F) t17.view (kernelRun0_A.sl.HS1_11 c t1 w1 t2 w2 t3 w3 t4 w4 t5 w5 t6 w6 t7 w7 t8 w8 t9 w9 t10 w10 t11 w11 t19 x0 x1 x2 x3 x4 x5 x6 x7 x8 x9 x10) (Rect.unit (s := S11x16x256) ![10, 0, 0] S1x16x256.size inb_S11x16x256_S1x16x256_10_0_0).toLoadRect) shapeCasts_S1x16x256_S16x256) (View.readAt (Elt F) t12.view (Rect.unit (s := S3x5632) ![0, 5376] S3x256.size inb_S3x5632_S3x256_0_5376).toLoadRect (w12.unread x11)) (View.readAt (Elt F) t13.view (Rect.unit (s := S1x5632) ![0, 5376] S1x256.size inb_S1x5632_S1x256_0_5376).toLoadRect (w13.unread x12))) := rfl

end

section
variable (c : Dev nD)
  (t1 : Memref sig .tc .vmem S512x1024 .f32) (w1 : t1.IsWhole)
  (t2 : Memref sig .tc .vmem S1x6x1024 .f32) (w2 : t2.IsWhole)
  (t3 : Memref sig .tc .vmem S512x512 .bf16) (w3 : t3.IsWhole)
  (t4 : Memref sig .tc .vmem S512x512 .bf16) (w4 : t4.IsWhole)
  (t5 : Memref sig .tc .vmem S512x1024 .bf16) (w5 : t5.IsWhole)
  (t6 : Memref sig .tc .vmem S512x1024 .bf16) (w6 : t6.IsWhole)
  (t7 : Memref sig .tc .vmem S512x1024 .bf16) (w7 : t7.IsWhole)
  (t8 : Memref sig .tc .vmem S512x1024 .bf16) (w8 : t8.IsWhole)
  (t9 : Memref sig .tc .vmem S1024x1024 .bf16) (w9 : t9.IsWhole)
  (t10 : Memref sig .tc .vmem S1x1024 .f32) (w10 : t10.IsWhole)
  (t11 : Memref sig .tc .vmem S1024x5632 .bf16) (w11 : t11.IsWhole)
  (t12 : Memref sig .tc .vmem S3x5632 .f32) (w12 : t12.IsWhole)
  (t13 : Memref sig .tc .vmem S1x5632 .f32) (w13 : t13.IsWhole)
  (t14 : Memref sig .tc .vmem S2816x1024 .bf16) (w14 : t14.IsWhole)
  (t15 : Memref sig .tc .vmem S512x1024 .f32) (w15 : t15.IsWhole)
  (t16 : Memref sig .tc .vmem S11x16x256 .f32) (w16 : t16.IsWhole)
  (t17 : Memref sig .tc .vmem S11x16x256 .f32) (w17 : t17.IsWhole)
  (t18 : Memref sig .tc .vmem S512x2816 .bf16) (w18 : t18.IsWhole)
  (t19 : Memref sig .tc .vmem S8x576x128 .f32) (w19 : t19.IsWhole)
  (x0 : Vec Ideal S512x1024 .f32)  (x1 : Vec Ideal S1x6x1024 .f32)  (x2 : Vec Ideal S512x512 .bf16)  (x3 : Vec Ideal S512x512 .bf16)  (x4 : Vec Ideal S512x1024 .bf16)  (x5 : Vec Ideal S512x1024 .bf16)  (x6 : Vec Ideal S512x1024 .bf16)  (x7 : Vec Ideal S512x1024 .bf16)  (x8 : Vec Ideal S1024x1024 .bf16)  (x9 : Vec Ideal S1x1024 .f32)  (x10 : Vec Ideal S1024x5632 .bf16)  (x11 : Vec Ideal S3x5632 .f32)  (x12 : Vec Ideal S1x5632 .f32)  (x13 : Vec Ideal S2816x1024 .bf16)

/-- The up-projection of the tile. -/
def uT : ℕ → ℕ → EReal := uN (kernelRun0_A.sl.r_6 (F := Ideal) c t1 w1 t2 w2 t3 w3 t4 w4 t5 w5 t6 w6 t7 w7 t8 w8 t9 w9 t10 w10 t19 x0 x1 x2 x3 x4 x5 x6 x7 x8 x9) x10

variable {c t1 w1 t2 w2 t3 w3 t4 w4 t5 w5 t6 w6 t7 w7 t8 w8 t9 w9 t10 w10 t11 w11 t19 x0 x1 x2 x3 x4 x5 x6 x7 x8 x9 x10}

/-- The rows kept before this tile are blank. -/
theorem bl0_1 : Blank 0 (kernelRun0_A.sl.HS0_1) := Blank.fill _ _ fun y => by pointwise [k0_pay1]

/-- The rows kept before this tile are blank. -/
theorem bl0_2 : Blank 1 (kernelRun0_A.sl.HS0_2 (F := Ideal) c t1 w1 t2 w2 t3 w3 t4 w4 t5 w5 t6 w6 t7 w7 t8 w8 t9 w9 t10 w10 t11 w11 t19 x0 x1 x2 x3 x4 x5 x6 x7 x8 x9 x10) := bl0_1.step (by decide) _

/-- The rows kept before this tile are blank. -/
theorem bl0_3 : Blank 2 (kernelRun0_A.sl.HS0_3 (F := Ideal) c t1 w1 t2 w2 t3 w3 t4 w4 t5 w5 t6 w6 t7 w7 t8 w8 t9 w9 t10 w10 t11 w11 t19 x0 x1 x2 x3 x4 x5 x6 x7 x8 x9 x10) := bl0_2.step (by decide) _

/-- The rows kept before this tile are blank. -/
theorem bl0_4 : Blank 3 (kernelRun0_A.sl.HS0_4 (F := Ideal) c t1 w1 t2 w2 t3 w3 t4 w4 t5 w5 t6 w6 t7 w7 t8 w8 t9 w9 t10 w10 t11 w11 t19 x0 x1 x2 x3 x4 x5 x6 x7 x8 x9 x10) := bl0_3.step (by decide) _

/-- The rows kept before this tile are blank. -/
theorem bl0_5 : Blank 4 (kernelRun0_A.sl.HS0_5 (F := Ideal) c t1 w1 t2 w2 t3 w3 t4 w4 t5 w5 t6 w6 t7 w7 t8 w8 t9 w9 t10 w10 t11 w11 t19 x0 x1 x2 x3 x4 x5 x6 x7 x8 x9 x10) := bl0_4.step (by decide) _

/-- The rows kept before this tile are blank. -/
theorem bl0_6 : Blank 5 (kernelRun0_A.sl.HS0_6 (F := Ideal) c t1 w1 t2 w2 t3 w3 t4 w4 t5 w5 t6 w6 t7 w7 t8 w8 t9 w9 t10 w10 t11 w11 t19 x0 x1 x2 x3 x4 x5 x6 x7 x8 x9 x10) := bl0_5.step (by decide) _

/-- The rows kept before this tile are blank. -/
theorem bl0_7 : Blank 6 (kernelRun0_A.sl.HS0_7 (F := Ideal) c t1 w1 t2 w2 t3 w3 t4 w4 t5 w5 t6 w6 t7 w7 t8 w8 t9 w9 t10 w10 t11 w11 t19 x0 x1 x2 x3 x4 x5 x6 x7 x8 x9 x10) := bl0_6.step (by decide) _

/-- The rows kept before this tile are blank. -/
theorem bl0_8 : Blank 7 (kernelRun0_A.sl.HS0_8 (F := Ideal) c t1 w1 t2 w2 t3 w3 t4 w4 t5 w5 t6 w6 t7 w7 t8 w8 t9 w9 t10 w10 t11 w11 t19 x0 x1 x2 x3 x4 x5 x6 x7 x8 x9 x10) := bl0_7.step (by decide) _

/-- The rows kept before this tile are blank. -/
theorem bl0_9 : Blank 8 (kernelRun0_A.sl.HS0_9 (F := Ideal) c t1 w1 t2 w2 t3 w3 t4 w4 t5 w5 t6 w6 t7 w7 t8 w8 t9 w9 t10 w10 t11 w11 t19 x0 x1 x2 x3 x4 x5 x6 x7 x8 x9 x10) := bl0_8.step (by decide) _

/-- The rows kept before this tile are blank. -/
theorem bl0_10 : Blank 9 (kernelRun0_A.sl.HS0_10 (F := Ideal) c t1 w1 t2 w2 t3 w3 t4 w4 t5 w5 t6 w6 t7 w7 t8 w8 t9 w9 t10 w10 t11 w11 t19 x0 x1 x2 x3 x4 x5 x6 x7 x8 x9 x10) := bl0_9.step (by decide) _

/-- The rows kept before this tile are blank. -/
theorem bl0_11 : Blank 10 (kernelRun0_A.sl.HS0_11 (F := Ideal) c t1 w1 t2 w2 t3 w3 t4 w4 t5 w5 t6 w6 t7 w7 t8 w8 t9 w9 t10 w10 t11 w11 t19 x0 x1 x2 x3 x4 x5 x6 x7 x8 x9 x10) := bl0_10.step (by decide) _

/-- The rows kept before this tile are blank. -/
theorem bl1_1 : Blank 0 (kernelRun0_A.sl.HS1_1) := Blank.fill _ _ fun y => by pointwise [k0_pay2]

/-- The rows kept before this tile are blank. -/
theorem bl1_2 : Blank 1 (kernelRun0_A.sl.HS1_2 (F := Ideal) c t1 w1 t2 w2 t3 w3 t4 w4 t5 w5 t6 w6 t7 w7 t8 w8 t9 w9 t10 w10 t11 w11 t19 x0 x1 x2 x3 x4 x5 x6 x7 x8 x9 x10) := bl1_1.step (by decide) _

/-- The rows kept before this tile are blank. -/
theorem bl1_3 : Blank 2 (kernelRun0_A.sl.HS1_3 (F := Ideal) c t1 w1 t2 w2 t3 w3 t4 w4 t5 w5 t6 w6 t7 w7 t8 w8 t9 w9 t10 w10 t11 w11 t19 x0 x1 x2 x3 x4 x5 x6 x7 x8 x9 x10) := bl1_2.step (by decide) _

/-- The rows kept before this tile are blank. -/
theorem bl1_4 : Blank 3 (kernelRun0_A.sl.HS1_4 (F := Ideal) c t1 w1 t2 w2 t3 w3 t4 w4 t5 w5 t6 w6 t7 w7 t8 w8 t9 w9 t10 w10 t11 w11 t19 x0 x1 x2 x3 x4 x5 x6 x7 x8 x9 x10) := bl1_3.step (by decide) _

/-- The rows kept before this tile are blank. -/
theorem bl1_5 : Blank 4 (kernelRun0_A.sl.HS1_5 (F := Ideal) c t1 w1 t2 w2 t3 w3 t4 w4 t5 w5 t6 w6 t7 w7 t8 w8 t9 w9 t10 w10 t11 w11 t19 x0 x1 x2 x3 x4 x5 x6 x7 x8 x9 x10) := bl1_4.step (by decide) _

/-- The rows kept before this tile are blank. -/
theorem bl1_6 : Blank 5 (kernelRun0_A.sl.HS1_6 (F := Ideal) c t1 w1 t2 w2 t3 w3 t4 w4 t5 w5 t6 w6 t7 w7 t8 w8 t9 w9 t10 w10 t11 w11 t19 x0 x1 x2 x3 x4 x5 x6 x7 x8 x9 x10) := bl1_5.step (by decide) _

/-- The rows kept before this tile are blank. -/
theorem bl1_7 : Blank 6 (kernelRun0_A.sl.HS1_7 (F := Ideal) c t1 w1 t2 w2 t3 w3 t4 w4 t5 w5 t6 w6 t7 w7 t8 w8 t9 w9 t10 w10 t11 w11 t19 x0 x1 x2 x3 x4 x5 x6 x7 x8 x9 x10) := bl1_6.step (by decide) _

/-- The rows kept before this tile are blank. -/
theorem bl1_8 : Blank 7 (kernelRun0_A.sl.HS1_8 (F := Ideal) c t1 w1 t2 w2 t3 w3 t4 w4 t5 w5 t6 w6 t7 w7 t8 w8 t9 w9 t10 w10 t11 w11 t19 x0 x1 x2 x3 x4 x5 x6 x7 x8 x9 x10) := bl1_7.step (by decide) _

/-- The rows kept before this tile are blank. -/
theorem bl1_9 : Blank 8 (kernelRun0_A.sl.HS1_9 (F := Ideal) c t1 w1 t2 w2 t3 w3 t4 w4 t5 w5 t6 w6 t7 w7 t8 w8 t9 w9 t10 w10 t11 w11 t19 x0 x1 x2 x3 x4 x5 x6 x7 x8 x9 x10) := bl1_8.step (by decide) _

/-- The rows kept before this tile are blank. -/
theorem bl1_10 : Blank 9 (kernelRun0_A.sl.HS1_10 (F := Ideal) c t1 w1 t2 w2 t3 w3 t4 w4 t5 w5 t6 w6 t7 w7 t8 w8 t9 w9 t10 w10 t11 w11 t19 x0 x1 x2 x3 x4 x5 x6 x7 x8 x9 x10) := bl1_9.step (by decide) _

/-- The rows kept before this tile are blank. -/
theorem bl1_11 : Blank 10 (kernelRun0_A.sl.HS1_11 (F := Ideal) c t1 w1 t2 w2 t3 w3 t4 w4 t5 w5 t6 w6 t7 w7 t8 w8 t9 w9 t10 w10 t11 w11 t19 x0 x1 x2 x3 x4 x5 x6 x7 x8 x9 x10) := bl1_10.step (by decide) _

variable (c t1 w1 t2 w2 t3 w3 t4 w4 t5 w5 t6 w6 t7 w7 t8 w8 t9 w9 t10 w10 t11 w11 t19 x0 x1 x2 x3 x4 x5 x6 x7 x8 x9 x10)

/-- What the scratch of products holds. -/
theorem kA : Known (Val := Elt Ideal) (e := .bf16) (gA (actN (uT c t1 w1 t2 w2 t3 w3 t4 w4 t5 w5 t6 w6 t7 w7 t8 w8 t9 w9 t10 w10 t19 x0 x1 x2 x3 x4 x5 x6 x7 x8 x9 x10) x11 x12 (fun _ _ => 0) (fun _ _ => 0))) aRect 11 (kernelRun0_A.sl.HS2_11 (F := Ideal) c t1 w1 t2 w2 t3 w3 t4 w4 t5 w5 t6 w6 t7 w7 t8 w8 t9 w9 t10 w10 t11 w11 t12 w12 t13 w13 t16 t17 t19 x0 x1 x2 x3 x4 x5 x6 x7 x8 x9 x10 x11 x12) := by
  refine stepA ?_ (by decide) 2560 5376 rfl rfl (act10 (F := Ideal) ..)
    (fun r q => upE_N _ x10 2560 (fun j q => ldW w11 x10 2560 2560 rfl _ j q) r q) (fun r q => upE_N _ x10 5376 (fun j q => ldW w11 x10 5376 5376 rfl _ j q) r q) (fun i q => bl0_11.ld _ _ _ i q) (fun i q => bl1_11.ld _ _ _ i q) (fun j q => ldW w12 x11 2560 2560 rfl _ j q) (fun j q => ldW w12 x11 5376 5376 rfl _ j q) (fun j q => ldW w13 x12 2560 2560 rfl _ j q) (fun j q => ldW w13 x12 5376 5376 rfl _ j q)
  refine stepA ?_ (by decide) 2304 5120 rfl rfl (act9 (F := Ideal) ..)
    (fun r q => upE_N _ x10 2304 (fun j q => ldW w11 x10 2304 2304 rfl _ j q) r q) (fun r q => upE_N _ x10 5120 (fun j q => ldW w11 x10 5120 5120 rfl _ j q) r q) (fun i q => bl0_10.ld _ _ _ i q) (fun i q => bl1_10.ld _ _ _ i q) (fun j q => ldW w12 x11 2304 2304 rfl _ j q) (fun j q => ldW w12 x11 5120 5120 rfl _ j q) (fun j q => ldW w13 x12 2304 2304 rfl _ j q) (fun j q => ldW w13 x12 5120 5120 rfl _ j q)
  refine stepA ?_ (by decide) 2048 4864 rfl rfl (act8 (F := Ideal) ..)
    (fun r q => upE_N _ x10 2048 (fun j q => ldW w11 x10 2048 2048 rfl _ j q) r q) (fun r q => upE_N _ x10 4864 (fun j q => ldW w11 x10 4864 4864 rfl _ j q) r q) (fun i q => bl0_9.ld _ _ _ i q) (fun i q => bl1_9.ld _ _ _ i q) (fun j q => ldW w12 x11 2048 2048 rfl _ j q) (fun j q => ldW w12 x11 4864 4864 rfl _ j q) (fun j q => ldW w13 x12 2048 2048 rfl _ j q) (fun j q => ldW w13 x12 4864 4864 rfl _ j q)
  refine stepA ?_ (by decide) 1792 4608 rfl rfl (act7 (F := Ideal) ..)
    (fun r q => upE_N _ x10 1792 (fun j q => ldW w11 x10 1792 1792 rfl _ j q) r q) (fun r q => upE_N _ x10 4608 (fun j q => ldW w11 x10 4608 4608 rfl _ j q) r q) (fun i q => bl0_8.ld _ _ _ i q) (fun i q => bl1_8.ld _ _ _ i q) (fun j q => ldW w12 x11 1792 1792 rfl _ j q) (fun j q => ldW w12 x11 4608 4608 rfl _ j q) (fun j q => ldW w13 x12 1792 1792 rfl _ j q) (fun j q => ldW w13 x12 4608 4608 rfl _ j q)
  refine stepA ?_ (by decide) 1536 4352 rfl rfl (act6 (F := Ideal) ..)
    (fun r q => upE_N _ x10 1536 (fun j q => ldW w11 x10 1536 1536 rfl _ j q) r q) (fun r q => upE_N _ x10 4352 (fun j q => ldW w11 x10 4352 4352 rfl _ j q) r q) (fun i q => bl0_7.ld _ _ _ i q) (fun i q => bl1_7.ld _ _ _ i q) (fun j q => ldW w12 x11 1536 1536 rfl _ j q) (fun j q => ldW w12 x11 4352 4352 rfl _ j q) (fun j q => ldW w13 x12 1536 1536 rfl _ j q) (fun j q => ldW w13 x12 4352 4352 rfl _ j q)
  refine stepA ?_ (by decide) 1280 4096 rfl rfl (act5 (F := Ideal) ..)
    (fun r q => upE_N _ x10 1280 (fun j q => ldW w11 x10 1280 1280 rfl _ j q) r q) (fun r q => upE_N _ x10 4096 (fun j q => ldW w11 x10 4096 4096 rfl _ j q) r q) (fun i q => bl0_6.ld _ _ _ i q) (fun i q => bl1_6.ld _ _ _ i q) (fun j q => ldW w12 x11 1280 1280 rfl _ j q) (fun j q => ldW w12 x11 4096 4096 rfl _ j q) (fun j q => ldW w13 x12 1280 1280 rfl _ j q) (fun j q => ldW w13 x12 4096 4096 rfl _ j q)
  refine stepA ?_ (by decide) 1024 3840 rfl rfl (act4 (F := Ideal) ..)
    (fun r q => upE_N _ x10 1024 (fun j q => ldW w11 x10 1024 1024 rfl _ j q) r q) (fun r q => upE_N _ x10 3840 (fun j q => ldW w11 x10 3840 3840 rfl _ j q) r q) (fun i q => bl0_5.ld _ _ _ i q) (fun i q => bl1_5.ld _ _ _ i q) (fun j q => ldW w12 x11 1024 1024 rfl _ j q) (fun j q => ldW w12 x11 3840 3840 rfl _ j q) (fun j q => ldW w13 x12 1024 1024 rfl _ j q) (fun j q => ldW w13 x12 3840 3840 rfl _ j q)
  refine stepA ?_ (by decide) 768 3584 rfl rfl (act3 (F := Ideal) ..)
    (fun r q => upE_N _ x10 768 (fun j q => ldW w11 x10 768 768 rfl _ j q) r q) (fun r q => upE_N _ x10 3584 (fun j q => ldW w11 x10 3584 3584 rfl _ j q) r q) (fun i q => bl0_4.ld _ _ _ i q) (fun i q => bl1_4.ld _ _ _ i q) (fun j q => ldW w12 x11 768 768 rfl _ j q) (fun j q => ldW w12 x11 3584 3584 rfl _ j q) (fun j q => ldW w13 x12 768 768 rfl _ j q) (fun j q => ldW w13 x12 3584 3584 rfl _ j q)
  refine stepA ?_ (by decide) 512 3328 rfl rfl (act2 (F := Ideal) ..)
    (fun r q => upE_N _ x10 512 (fun j q => ldW w11 x10 512 512 rfl _ j q) r q) (fun r q => upE_N _ x10 3328 (fun j q => ldW w11 x10 3328 3328 rfl _ j q) r q) (fun i q => bl0_3.ld _ _ _ i q) (fun i q => bl1_3.ld _ _ _ i q) (fun j q => ldW w12 x11 512 512 rfl _ j q) (fun j q => ldW w12 x11 3328 3328 rfl _ j q) (fun j q => ldW w13 x12 512 512 rfl _ j q) (fun j q => ldW w13 x12 3328 3328 rfl _ j q)
  refine stepA ?_ (by decide) 256 3072 rfl rfl (act1 (F := Ideal) ..)
    (fun r q => upE_N _ x10 256 (fun j q => ldW w11 x10 256 256 rfl _ j q) r q) (fun r q => upE_N _ x10 3072 (fun j q => ldW w11 x10 3072 3072 rfl _ j q) r q) (fun i q => bl0_2.ld _ _ _ i q) (fun i q => bl1_2.ld _ _ _ i q) (fun j q => ldW w12 x11 256 256 rfl _ j q) (fun j q => ldW w12 x11 3072 3072 rfl _ j q) (fun j q => ldW w13 x12 256 256 rfl _ j q) (fun j q => ldW w13 x12 3072 3072 rfl _ j q)
  refine stepA ?_ (by decide) 0 2816 rfl rfl (act0 (F := Ideal) ..)
    (fun r q => upE_N _ x10 0 (fun j q => ldW w11 x10 0 0 rfl _ j q) r q) (fun r q => upE_N _ x10 2816 (fun j q => ldW w11 x10 2816 2816 rfl _ j q) r q) (fun i q => bl0_1.ld _ _ _ i q) (fun i q => bl1_1.ld _ _ _ i q) (fun j q => ldW w12 x11 0 0 rfl _ j q) (fun j q => ldW w12 x11 2816 2816 rfl _ j q) (fun j q => ldW w13 x12 0 0 rfl _ j q) (fun j q => ldW w13 x12 2816 2816 rfl _ j q)
  exact Known.zero _ _ _

end

end Cert.Ff.A
-- ==== Proof.Ff.OutA.lean ====
module

public import proofs.«01_k».proof.Proof.Ff.ConvA

@[expose] public section

set_option maxRecDepth 65536

/-! The second staging: a tile's result from strided order to token order, and the stores' lists. -/

noncomputable section

namespace Cert.Ff.A

open Cert.Kernel3Ideal Cert.Kernel3Ideal.Gen Idealize.ShloMosaic Idealize.ShloMosaic.TcCoe Idealize.SL.Sem

section
variable {F : FTy → Type} [FloatOps F] (c : Dev nD) (i : grid0.Coords)
  (t1 : Memref sig .tc .vmem S512x1024 .f32) (w1 : t1.IsWhole)
  (t2 : Memref sig .tc .vmem S1x6x1024 .f32) (w2 : t2.IsWhole)
  (t3 : Memref sig .tc .vmem S512x512 .bf16) (w3 : t3.IsWhole)
  (t4 : Memref sig .tc .vmem S512x512 .bf16) (w4 : t4.IsWhole)
  (t5 : Memref sig .tc .vmem S512x1024 .bf16) (w5 : t5.IsWhole)
  (t6 : Memref sig .tc .vmem S512x1024 .bf16) (w6 : t6.IsWhole)
  (t7 : Memref sig .tc .vmem S512x1024 .bf16) (w7 : t7.IsWhole)
  (t8 : Memref sig .tc .vmem S512x1024 .bf16) (w8 : t8.IsWhole)
  (t9 : Memref sig .tc .vmem S1024x1024 .bf16) (w9 : t9.IsWhole)
  (t10 : Memref sig .tc .vmem S1x1024 .f32) (w10 : t10.IsWhole)
  (t11 : Memref sig .tc .vmem S1024x5632 .bf16) (w11 : t11.IsWhole)
  (t12 : Memref sig .tc .vmem S3x5632 .f32) (w12 : t12.IsWhole)
  (t13 : Memref sig .tc .vmem S1x5632 .f32) (w13 : t13.IsWhole)
  (t14 : Memref sig .tc .vmem S2816x1024 .bf16) (w14 : t14.IsWhole)
  (t15 : Memref sig .tc .vmem S512x1024 .f32) (w15 : t15.IsWhole)
  (t16 : Memref sig .tc .vmem S11x16x256 .f32) (w16 : t16.IsWhole)
  (t17 : Memref sig .tc .vmem S11x16x256 .f32) (w17 : t17.IsWhole)
  (t18 : Memref sig .tc .vmem S512x2816 .bf16) (w18 : t18.IsWhole)
  (t19 : Memref sig .tc .vmem S8x576x128 .f32) (w19 : t19.IsWhole)
  (hc0 : cond0_0 i)
  (x0 : Vec F S512x1024 .f32)  (x1 : Vec F S1x6x1024 .f32)  (x2 : Vec F S512x512 .bf16)  (x3 : Vec F S512x512 .bf16)  (x4 : Vec F S512x1024 .bf16)  (x5 : Vec F S512x1024 .bf16)  (x6 : Vec F S512x1024 .bf16)  (x7 : Vec F S512x1024 .bf16)  (x8 : Vec F S1024x1024 .bf16)  (x9 : Vec F S1x1024 .f32)  (x10 : Vec F S1024x5632 .bf16)  (x11 : Vec F S3x5632 .f32)  (x12 : Vec F S1x5632 .f32)  (x13 : Vec F S2816x1024 .bf16)

/-- The staging in strided order. -/
theorem kS : Known (Val := Elt F) (e := .f32) (gS (kernelRun0_A.sl.r_141 c t1 w1 t2 w2 t3 w3 t4 w4 t5 w5 t6 w6 t7 w7 t8 w8 t9 w9 t10 w10 t11 w11 t12 w12 t13 w13 t14 w14 t16 t17 t18 t19 x0 x1 x2 x3 x4 x5 x6 x7 x8 x9 x10 x11 x12 x13)) sR 512 (kernelRun0_A.sl.HS3_576 c t1 w1 t2 w2 t3 w3 t4 w4 t5 w5 t6 w6 t7 w7 t8 w8 t9 w9 t10 w10 t11 w11 t12 w12 t13 w13 t14 w14 t16 t17 t18 t19 x0 x1 x2 x3 x4 x5 x6 x7 x8 x9 x10 x11 x12 x13) := by
  iterate 508 refine stepS ?_ _ _ (by rfl) (by rfl) _ _
  iterate 4 refine stepS ?_ _ _ (by rfl) (by rfl) (by decide) (by decide)
  exact Known.zero _ _ _

/-- The result in token order. -/
theorem out (r : Fin 512) (d : Fin 1024) : View.canon (Val := Elt F) (kernelRun0_A (F := F) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13).1 (ix2 r d) = xn (kernelRun0_A.sl.r_141 c t1 w1 t2 w2 t3 w3 t4 w4 t5 w5 t6 w6 t7 w7 t8 w8 t9 w9 t10 w10 t11 w11 t12 w12 t13 w13 t14 w14 t16 t17 t18 t19 x0 x1 x2 x3 x4 x5 x6 x7 x8 x9 x10 x11 x12 x13) (8 * (r.val % 64) + r.val / 64) d.val := by
  have hk := kS (F := F) c t1 w1 t2 w2 t3 w3 t4 w4 t5 w5 t6 w6 t7 w7 t8 w8 t9 w9 t10 w10 t11 w11 t12 w12 t13 w13 t14 w14 t16 t17 t18 t19 x0 x1 x2 x3 x4 x5 x6 x7 x8 x9 x10 x11 x12 x13
  unfold kernelRun0_A
  dsimp only
  refine (congrFun (View.canon_unit_zero (by decide) _ _) _).trans ?_
  refine Cat.rows (a := 64) (b := 1024) (N := 8) (fun r d => xn (kernelRun0_A.sl.r_141 c t1 w1 t2 w2 t3 w3 t4 w4 t5 w5 t6 w6 t7 w7 t8 w8 t9 w9 t10 w10 t11 w11 t12 w12 t13 w13 t14 w14 t16 t17 t18 t19 x0 x1 x2 x3 x4 x5 x6 x7 x8 x9 x10 x11 x12 x13) (8 * (r % 64) + r / 64) d) rfl (by decide) rfl (by rfl) ?_ (by exact concatenates_S64x1024_S64x1024_S64x1024_S64x1024_S64x1024_S64x1024_S64x1024_S64x1024_S512x1024_d0) r d
  iterate 8
    refine Cat.cons (segOf ?_ (by rfl) (by exact concatenates_S64x128_S64x128_S64x128_S64x128_S64x128_S64x128_S64x128_S64x128_S64x1024_d1)) ?_
    · iterate 8 refine Cat.cons (fun i l => ldT hk _ _ _ _ (by decide) (by decide) (by rfl) _ _ i l) ?_
      exact Cat.nil _
  exact Cat.nil _

end

section
variable (c : Dev nD) (i : grid0.Coords)
  (t1 : Memref sig .tc .vmem S512x1024 .f32) (w1 : t1.IsWhole)
  (t2 : Memref sig .tc .vmem S1x6x1024 .f32) (w2 : t2.IsWhole)
  (t3 : Memref sig .tc .vmem S512x512 .bf16) (w3 : t3.IsWhole)
  (t4 : Memref sig .tc .vmem S512x512 .bf16) (w4 : t4.IsWhole)
  (t5 : Memref sig .tc .vmem S512x1024 .bf16) (w5 : t5.IsWhole)
  (t6 : Memref sig .tc .vmem S512x1024 .bf16) (w6 : t6.IsWhole)
  (t7 : Memref sig .tc .vmem S512x1024 .bf16) (w7 : t7.IsWhole)
  (t8 : Memref sig .tc .vmem S512x1024 .bf16) (w8 : t8.IsWhole)
  (t9 : Memref sig .tc .vmem S1024x1024 .bf16) (w9 : t9.IsWhole)
  (t10 : Memref sig .tc .vmem S1x1024 .f32) (w10 : t10.IsWhole)
  (t11 : Memref sig .tc .vmem S1024x5632 .bf16) (w11 : t11.IsWhole)
  (t12 : Memref sig .tc .vmem S3x5632 .f32) (w12 : t12.IsWhole)
  (t13 : Memref sig .tc .vmem S1x5632 .f32) (w13 : t13.IsWhole)
  (t14 : Memref sig .tc .vmem S2816x1024 .bf16) (w14 : t14.IsWhole)
  (t15 : Memref sig .tc .vmem S512x1024 .f32) (w15 : t15.IsWhole)
  (t16 : Memref sig .tc .vmem S11x16x256 .f32) (w16 : t16.IsWhole)
  (t17 : Memref sig .tc .vmem S11x16x256 .f32) (w17 : t17.IsWhole)
  (t18 : Memref sig .tc .vmem S512x2816 .bf16) (w18 : t18.IsWhole)
  (t19 : Memref sig .tc .vmem S8x576x128 .f32) (w19 : t19.IsWhole)
  (hc0 : cond0_0 i)
  (x0 : Vec Ideal S512x1024 .f32)  (x1 : Vec Ideal S1x6x1024 .f32)  (x2 : Vec Ideal S512x512 .bf16)  (x3 : Vec Ideal S512x512 .bf16)  (x4 : Vec Ideal S512x1024 .bf16)  (x5 : Vec Ideal S512x1024 .bf16)  (x6 : Vec Ideal S512x1024 .bf16)  (x7 : Vec Ideal S512x1024 .bf16)  (x8 : Vec Ideal S1024x1024 .bf16)  (x9 : Vec Ideal S1x1024 .f32)  (x10 : Vec Ideal S1024x5632 .bf16)  (x11 : Vec Ideal S3x5632 .f32)  (x12 : Vec Ideal S1x5632 .f32)  (x13 : Vec Ideal S2816x1024 .bf16)

end

end Cert.Ff.A
-- ==== Proof.Ff.Tok.lean ====
module

public import proofs.«01_k».proof.Proof.Ff.Act
public import proofs.«01_k».proof.Proof.Ff.Tile

@[expose] public section

set_option maxRecDepth 16384

/-! A tile's values by its tokens. -/

noncomputable section

namespace Cert.Ff

open Cert.Kernel3Ideal Cert.Kernel3Ideal.Gen Idealize.ShloMosaic Idealize.ShloMosaic.TcCoe Idealize.SL.Sem

variable (x0 : FVec Ideal S512x1024 .f32) (x1 : FVec Ideal S1x6x1024 .f32) (x2 x3 : FVec Ideal S512x512 .bf16) (x4 x5 : FVec Ideal S512x1024 .bf16) (x6 x7 : FVec Ideal S512x1024 .bf16)
  (x8 : FVec Ideal S1024x1024 .bf16) (x9 : FVec Ideal S1x1024 .f32) (x10 : FVec Ideal S1024x5632 .bf16) (x11 : FVec Ideal S3x5632 .f32) (x12 : FVec Ideal S1x5632 .f32) (x13 : FVec Ideal S2816x1024 .bf16)

/-- What a tile reads. -/
def tl : Lay where
  x n d := x0 (ix2 (Fin.ofNat 512 n) d)
  m _ j d := x1 (ix3 0 j d)
  hm n l := x2 (ix2 (Fin.ofNat 512 n) l)
  ha n l := x3 (ix2 (Fin.ofNat 512 n) l)
  gm n k := x4 (ix2 (Fin.ofNat 512 n) k)
  ga n k := x5 (ix2 (Fin.ofNat 512 n) k)
  wm l k := x6 (ix2 l k)
  wa l k := x7 (ix2 l k)
  wo k d := x8 (ix2 k d)
  g d := x9 (ix2 0 d)
  wu k f := mN (α := EReal) (a := 1024) (b := 5632) x10 k.val f
  cw j f := mN (α := EReal) (a := 3) (b := 5632) x11 j.val f
  cb f := mN (α := EReal) (a := 1) (b := 5632) x12 0 f
  wd f d := x13 (ix2 f d)

/-- The token of a row in strided order. -/
def tok (r : ℕ) : ℕ := 64 * (r % 8) + r / 8

/-- The residual of a tile, by numbers. -/
theorem x1V_N (r d : ℕ) : xn (α := EReal) (x1V (F := Ideal) x0 x1 x2 x3 x4 x5 x6 x7 x8) r d = (tl x0 x1 x2 x3 x4 x5 x6 x7 x8 x9 x10 x11 x12 x13).X r (Fin.ofNat 1024 d) :=
  x1V_at x0 x1 x2 x3 x4 x5 x6 x7 x8 _ _

variable {X4 : FVec Ideal S512x1024 .f32} (h4 : ∀ (r : Fin 512) (d : Fin 1024), X4 (ix2 r d) = xn (α := EReal) (x1V (F := Ideal) x0 x1 x2 x3 x4 x5 x6 x7 x8) (tok r.val) d.val)

include h4 in
/-- The residual in strided order. -/
theorem x4_N (r : Fin 512) : (fun d : Fin 1024 => (X4 (ix2 r d) : EReal)) = (tl x0 x1 x2 x3 x4 x5 x6 x7 x8 x9 x10 x11 x12 x13).X (tok r.val) := by
  funext d
  refine ((h4 r d).trans (x1V_N x0 x1 x2 x3 x4 x5 x6 x7 x8 x9 x10 x11 x12 x13 _ _)).trans (congrArg _ ?_)
  exact Fin.ext (Nat.mod_eq_of_lt d.isLt)

include h4 in
/-- The up-projection in strided order. -/
theorem u_N (r : ℕ) (hr : r < 512) (f : ℕ) : uN (k0_pay297 (k0_pay3 x1) (nrV X4) x9) x10 r f = (tl x0 x1 x2 x3 x4 x5 x6 x7 x8 x9 x10 x11 x12 x13).u (tok r) f := by
  unfold uN Lay.u
  refine Finset.sum_congr rfl fun k _ => congrArg₂ _ ?_ rfl
  refine (mN_eq (α := EReal) (a := 512) (b := 1024) (k0_pay297 (k0_pay3 x1) (nrV X4) x9) ⟨r, hr⟩ k r k.val rfl rfl).symm.trans ?_
  rw [hV_at, x4_N x0 x1 x2 x3 x4 x5 x6 x7 x8 x9 x10 x11 x12 x13 h4]
  rfl

/-- One token back, among a tile's tokens. -/
def b1 (u p : ℕ → EReal) (n : ℕ) : EReal := if n = 0 then p 15 else u (n - 1)
/-- Two tokens back, among a tile's tokens. -/
def b2 (u p : ℕ → EReal) (n : ℕ) : EReal := if n = 0 then p 7 else if n = 1 then p 15 else u (n - 2)

/-- One token back, in strided order. -/
theorem s1N_tok (u v p : ℕ → EReal) (h : ∀ r < 512, u r = v (tok r)) (r : ℕ) (hr : r < 512) : s1N u p r = b1 v p (tok r) := by
  unfold s1N b1
  by_cases h8 : r < 8
  · rw [if_pos h8]
    by_cases h0 : r = 0
    · rw [if_pos h0, if_pos (show tok r = 0 by subst h0; rfl)]
    · rw [if_neg h0, if_neg (show ¬ tok r = 0 by unfold tok; omega), h _ (by omega)]
      exact congrArg v (by unfold tok; omega)
  · rw [if_neg h8, if_neg (show ¬ tok r = 0 by unfold tok; omega), h _ (by omega)]
    exact congrArg v (by unfold tok; omega)

/-- Two tokens back, in strided order. -/
theorem s2N_tok (u v p : ℕ → EReal) (h : ∀ r < 512, u r = v (tok r)) (r : ℕ) (hr : r < 512) : s2N u p r = b2 v p (tok r) := by
  unfold s2N b2
  by_cases h16 : r < 16
  · rw [if_pos h16]
    by_cases h0 : r = 0
    · rw [if_pos h0, if_pos (show tok r = 0 by subst h0; rfl)]
    · rw [if_neg h0, if_neg (show ¬ tok r = 0 by unfold tok; omega)]
      by_cases h8 : r = 8
      · rw [if_pos h8, if_pos (show tok r = 1 by subst h8; rfl)]
      · rw [if_neg h8, if_neg (show ¬ tok r = 1 by unfold tok; omega), h _ (by omega)]
        exact congrArg v (by unfold tok; omega)
  · rw [if_neg h16, if_neg (show ¬ tok r = 0 by unfold tok; omega), if_neg (show ¬ tok r = 1 by unfold tok; omega), h _ (by omega)]
    exact congrArg v (by unfold tok; omega)

/-- A tile's result, the kept rows given. -/
def tlO (p0 p1 : ℕ → ℕ → EReal) (n : ℕ) (d : Fin 1024) : EReal :=
  (tl x0 x1 x2 x3 x4 x5 x6 x7 x8 x9 x10 x11 x12 x13).o
    (fun f => b1 (fun r => (tl x0 x1 x2 x3 x4 x5 x6 x7 x8 x9 x10 x11 x12 x13).u r f) (fun i => if f < 2816 then p0 i f else p1 i (f - 2816)) n)
    (fun f => b2 (fun r => (tl x0 x1 x2 x3 x4 x5 x6 x7 x8 x9 x10 x11 x12 x13).u r f) (fun i => if f < 2816 then p0 i f else p1 i (f - 2816)) n) n d

include h4 in
/-- A tile's result in strided order. -/
theorem o_N (p0 p1 : ℕ → ℕ → EReal) {A : FVec Ideal S512x2816 .bf16}
    (hA : ∀ (r : Fin 512) (f : Fin 2816), A (ix2 r f) = actN (uN (k0_pay297 (k0_pay3 x1) (nrV X4) x9) x10) x11 x12 p0 p1 r.val f.val) (n : Fin 512) (d : Fin 1024) :
    xn (α := EReal) (k0_pay459 (k0_pay3 x1) X4 A x13) (8 * (n.val % 64) + n.val / 64) d.val = tlO x0 x1 x2 x3 x4 x5 x6 x7 x8 x9 x10 x11 x12 x13 p0 p1 n.val d := by
  have hr : 8 * (n.val % 64) + n.val / 64 < 512 := by omega
  refine (xn_eq (k0_pay459 (k0_pay3 x1) X4 A x13) hr d.isLt rfl rfl).symm.trans ?_
  have ht : tok (8 * (n.val % 64) + n.val / 64) = n.val := by unfold tok; omega
  have hu : ∀ f, ∀ r < 512, uN (k0_pay297 (k0_pay3 x1) (nrV X4) x9) x10 r f = (fun r => (tl x0 x1 x2 x3 x4 x5 x6 x7 x8 x9 x10 x11 x12 x13).u r f) (tok r) := fun f r hr => u_N x0 x1 x2 x3 x4 x5 x6 x7 x8 x9 x10 x11 x12 x13 h4 r hr f
  rw [oV_at, x4_N x0 x1 x2 x3 x4 x5 x6 x7 x8 x9 x10 x11 x12 x13 h4]
  simp only [hA]
  unfold tlO Lay.o actN cN Lay.c
  have h1 : ∀ f p, s1N (fun r => uN (k0_pay297 (k0_pay3 x1) (nrV X4) x9) x10 r f) p (8 * (n.val % 64) + n.val / 64) = b1 (fun r => (tl x0 x1 x2 x3 x4 x5 x6 x7 x8 x9 x10 x11 x12 x13).u r f) p n.val :=
    fun f p => (s1N_tok _ _ p (hu f) _ hr).trans (by rw [ht])
  have h2 : ∀ f p, s2N (fun r => uN (k0_pay297 (k0_pay3 x1) (nrV X4) x9) x10 r f) p (8 * (n.val % 64) + n.val / 64) = b2 (fun r => (tl x0 x1 x2 x3 x4 x5 x6 x7 x8 x9 x10 x11 x12 x13).u r f) p n.val :=
    fun f p => (s2N_tok _ _ p (hu f) _ hr).trans (by rw [ht])
  simp only [h1, h2, hu _ _ hr, ht]
  refine congrArg (fun a => oR _ _ a _ d) (funext fun f => ?_)
  have hf : f.val < 2816 := f.isLt
  have hf' : ¬ 2816 + f.val < 2816 := by omega
  simp only [if_pos hf, if_neg hf', Nat.add_sub_cancel_left]
  rfl

include h4 in
/-- What a tile keeps. -/
theorem k_N {K : FVec Ideal S11x16x256 .f32} (c : ℕ) (hK : ∀ y, K y = gK (uN (k0_pay297 (k0_pay3 x1) (nrV X4) x9) x10) c y) (i f : ℕ) (hi : i < 16) (hf : f < 2816) :
    pN K i f = (tl x0 x1 x2 x3 x4 x5 x6 x7 x8 x9 x10 x11 x12 x13).u (64 * (i % 8) + 62 + i / 8) (c + f) := by
  unfold pN
  rw [hK]
  unfold gK
  refine (u_N x0 x1 x2 x3 x4 x5 x6 x7 x8 x9 x10 x11 x12 x13 h4 _ ?_ _).trans ?_
  · show 496 + i % 16 < 512; omega
  · refine congrArg₂ _ ?_ ?_
    · show tok (496 + i % 16) = _; unfold tok; omega
    · show c + (256 * (f / 256 % 11) + f % 256) = c + f; omega

end Cert.Ff
-- ==== Proof.Ff.ValA.lean ====
module

public import proofs.«01_k».proof.Proof.Ff.OutA
public import proofs.«01_k».proof.Proof.Ff.Tok

@[expose] public section

set_option maxRecDepth 65536

/-! The tile's result and the rows it keeps, by its tokens. -/

noncomputable section

namespace Cert.Ff.A

open Cert.Kernel3Ideal Cert.Kernel3Ideal.Gen Idealize.ShloMosaic Idealize.ShloMosaic.TcCoe Idealize.SL.Sem

section
variable {F : FTy → Type} [FloatOps F] (c : Dev nD) (i : grid0.Coords)
  (t1 : Memref sig .tc .vmem S512x1024 .f32) (w1 : t1.IsWhole)
  (t2 : Memref sig .tc .vmem S1x6x1024 .f32) (w2 : t2.IsWhole)
  (t3 : Memref sig .tc .vmem S512x512 .bf16) (w3 : t3.IsWhole)
  (t4 : Memref sig .tc .vmem S512x512 .bf16) (w4 : t4.IsWhole)
  (t5 : Memref sig .tc .vmem S512x1024 .bf16) (w5 : t5.IsWhole)
  (t6 : Memref sig .tc .vmem S512x1024 .bf16) (w6 : t6.IsWhole)
  (t7 : Memref sig .tc .vmem S512x1024 .bf16) (w7 : t7.IsWhole)
  (t8 : Memref sig .tc .vmem S512x1024 .bf16) (w8 : t8.IsWhole)
  (t9 : Memref sig .tc .vmem S1024x1024 .bf16) (w9 : t9.IsWhole)
  (t10 : Memref sig .tc .vmem S1x1024 .f32) (w10 : t10.IsWhole)
  (t11 : Memref sig .tc .vmem S1024x5632 .bf16) (w11 : t11.IsWhole)
  (t12 : Memref sig .tc .vmem S3x5632 .f32) (w12 : t12.IsWhole)
  (t13 : Memref sig .tc .vmem S1x5632 .f32) (w13 : t13.IsWhole)
  (t14 : Memref sig .tc .vmem S2816x1024 .bf16) (w14 : t14.IsWhole)
  (t15 : Memref sig .tc .vmem S512x1024 .f32) (w15 : t15.IsWhole)
  (t16 : Memref sig .tc .vmem S11x16x256 .f32) (w16 : t16.IsWhole)
  (t17 : Memref sig .tc .vmem S11x16x256 .f32) (w17 : t17.IsWhole)
  (t18 : Memref sig .tc .vmem S512x2816 .bf16) (w18 : t18.IsWhole)
  (t19 : Memref sig .tc .vmem S8x576x128 .f32) (w19 : t19.IsWhole)
  (hc0 : cond0_0 i)
  (x0 : Vec F S512x1024 .f32)  (x1 : Vec F S1x6x1024 .f32)  (x2 : Vec F S512x512 .bf16)  (x3 : Vec F S512x512 .bf16)  (x4 : Vec F S512x1024 .bf16)  (x5 : Vec F S512x1024 .bf16)  (x6 : Vec F S512x1024 .bf16)  (x7 : Vec F S512x1024 .bf16)  (x8 : Vec F S1024x1024 .bf16)  (x9 : Vec F S1x1024 .f32)  (x10 : Vec F S1024x5632 .bf16)  (x11 : Vec F S3x5632 .f32)  (x12 : Vec F S1x5632 .f32)  (x13 : Vec F S2816x1024 .bf16)

/-- The residual of the tile. -/
theorem r3_eq : kernelRun0_A.sl.r_3 c t1 w1 t2 w2 t3 w3 t4 w4 t5 w5 t6 w6 t7 w7 t8 w8 t9 w9 x0 x1 x2 x3 x4 x5 x6 x7 x8 = x1V x0 x1 x2 x3 x4 x5 x6 x7 x8 := by
  unfold kernelRun0_A.sl.r_3 kernelRun0_A.sl.r kernelRun0_A.sl.r_1 kernelRun0_A.sl.r_2 x1V
  rw [rdW w1 x0 (by decide) _, rdW w2 x1 (by decide) _, rdW w3 x2 (by decide) _, rdW w4 x3 (by decide) _, rdW w5 x4 (by decide) _, rdW w6 x5 (by decide) _, rdW w7 x6 (by decide) _, rdW w8 x7 (by decide) _, rdW w9 x8 (by decide) _]
  rfl

/-- The normed, modulated rows. -/
theorem r6_eq : kernelRun0_A.sl.r_6 c t1 w1 t2 w2 t3 w3 t4 w4 t5 w5 t6 w6 t7 w7 t8 w8 t9 w9 t10 w10 t19 x0 x1 x2 x3 x4 x5 x6 x7 x8 x9 = k0_pay297 (k0_pay3 x1) (nrV (kernelRun0_A.sl.r_4 c t1 w1 t2 w2 t3 w3 t4 w4 t5 w5 t6 w6 t7 w7 t8 w8 t9 w9 t19 x0 x1 x2 x3 x4 x5 x6 x7 x8)) x9 := by
  unfold kernelRun0_A.sl.r_6 kernelRun0_A.sl.r
  rw [rdW w2 x1 (by decide) _, rdW w10 x9 (by decide) _]
  rfl

/-- The result in strided order. -/
theorem r141_eq : kernelRun0_A.sl.r_141 c t1 w1 t2 w2 t3 w3 t4 w4 t5 w5 t6 w6 t7 w7 t8 w8 t9 w9 t10 w10 t11 w11 t12 w12 t13 w13 t14 w14 t16 t17 t18 t19 x0 x1 x2 x3 x4 x5 x6 x7 x8 x9 x10 x11 x12 x13 = k0_pay459 (k0_pay3 x1) (kernelRun0_A.sl.r_4 c t1 w1 t2 w2 t3 w3 t4 w4 t5 w5 t6 w6 t7 w7 t8 w8 t9 w9 t19 x0 x1 x2 x3 x4 x5 x6 x7 x8) (kernelRun0_A.sl.v2617 c t1 w1 t2 w2 t3 w3 t4 w4 t5 w5 t6 w6 t7 w7 t8 w8 t9 w9 t10 w10 t11 w11 t12 w12 t13 w13 t16 t17 t18 t19 x0 x1 x2 x3 x4 x5 x6 x7 x8 x9 x10 x11 x12) x13 := by
  unfold kernelRun0_A.sl.r_141 kernelRun0_A.sl.r
  rw [rdW w2 x1 (by decide) _, rdW w14 x13 (by decide) _]

end

section
variable (c : Dev nD) (i : grid0.Coords)
  (t1 : Memref sig .tc .vmem S512x1024 .f32) (w1 : t1.IsWhole)
  (t2 : Memref sig .tc .vmem S1x6x1024 .f32) (w2 : t2.IsWhole)
  (t3 : Memref sig .tc .vmem S512x512 .bf16) (w3 : t3.IsWhole)
  (t4 : Memref sig .tc .vmem S512x512 .bf16) (w4 : t4.IsWhole)
  (t5 : Memref sig .tc .vmem S512x1024 .bf16) (w5 : t5.IsWhole)
  (t6 : Memref sig .tc .vmem S512x1024 .bf16) (w6 : t6.IsWhole)
  (t7 : Memref sig .tc .vmem S512x1024 .bf16) (w7 : t7.IsWhole)
  (t8 : Memref sig .tc .vmem S512x1024 .bf16) (w8 : t8.IsWhole)
  (t9 : Memref sig .tc .vmem S1024x1024 .bf16) (w9 : t9.IsWhole)
  (t10 : Memref sig .tc .vmem S1x1024 .f32) (w10 : t10.IsWhole)
  (t11 : Memref sig .tc .vmem S1024x5632 .bf16) (w11 : t11.IsWhole)
  (t12 : Memref sig .tc .vmem S3x5632 .f32) (w12 : t12.IsWhole)
  (t13 : Memref sig .tc .vmem S1x5632 .f32) (w13 : t13.IsWhole)
  (t14 : Memref sig .tc .vmem S2816x1024 .bf16) (w14 : t14.IsWhole)
  (t15 : Memref sig .tc .vmem S512x1024 .f32) (w15 : t15.IsWhole)
  (t16 : Memref sig .tc .vmem S11x16x256 .f32) (w16 : t16.IsWhole)
  (t17 : Memref sig .tc .vmem S11x16x256 .f32) (w17 : t17.IsWhole)
  (t18 : Memref sig .tc .vmem S512x2816 .bf16) (w18 : t18.IsWhole)
  (t19 : Memref sig .tc .vmem S8x576x128 .f32) (w19 : t19.IsWhole)
  (hc0 : cond0_0 i)
  (x0 : Vec Ideal S512x1024 .f32)  (x1 : Vec Ideal S1x6x1024 .f32)  (x2 : Vec Ideal S512x512 .bf16)  (x3 : Vec Ideal S512x512 .bf16)  (x4 : Vec Ideal S512x1024 .bf16)  (x5 : Vec Ideal S512x1024 .bf16)  (x6 : Vec Ideal S512x1024 .bf16)  (x7 : Vec Ideal S512x1024 .bf16)  (x8 : Vec Ideal S1024x1024 .bf16)  (x9 : Vec Ideal S1x1024 .f32)  (x10 : Vec Ideal S1024x5632 .bf16)  (x11 : Vec Ideal S3x5632 .f32)  (x12 : Vec Ideal S1x5632 .f32)  (x13 : Vec Ideal S2816x1024 .bf16)

/-- The residual in strided order, from token order. -/
theorem h4 (r : Fin 512) (d : Fin 1024) : kernelRun0_A.sl.r_4 (F := Ideal) c t1 w1 t2 w2 t3 w3 t4 w4 t5 w5 t6 w6 t7 w7 t8 w8 t9 w9 t19 x0 x1 x2 x3 x4 x5 x6 x7 x8 (ix2 r d) = xn (α := EReal) (x1V (F := Ideal) x0 x1 x2 x3 x4 x5 x6 x7 x8) (tok r.val) d.val :=
  (rows (F := Ideal) c t1 w1 t2 w2 t3 w3 t4 w4 t5 w5 t6 w6 t7 w7 t8 w8 t9 w9 t19 x0 x1 x2 x3 x4 x5 x6 x7 x8 r d).trans (by rw [r3_eq]; rfl)

/-- The up-projection of the tile. -/
theorem uT_eq : uT c t1 w1 t2 w2 t3 w3 t4 w4 t5 w5 t6 w6 t7 w7 t8 w8 t9 w9 t10 w10 t19 x0 x1 x2 x3 x4 x5 x6 x7 x8 x9 x10 = uN (k0_pay297 (k0_pay3 x1) (nrV (kernelRun0_A.sl.r_4 (F := Ideal) c t1 w1 t2 w2 t3 w3 t4 w4 t5 w5 t6 w6 t7 w7 t8 w8 t9 w9 t19 x0 x1 x2 x3 x4 x5 x6 x7 x8)) x9) x10 := by
  unfold uT
  rw [r6_eq]

/-- The products of the tile. -/
theorem hA (r : Fin 512) (f : Fin 2816) : kernelRun0_A.sl.v2617 (F := Ideal) c t1 w1 t2 w2 t3 w3 t4 w4 t5 w5 t6 w6 t7 w7 t8 w8 t9 w9 t10 w10 t11 w11 t12 w12 t13 w13 t16 t17 t18 t19 x0 x1 x2 x3 x4 x5 x6 x7 x8 x9 x10 x11 x12 (ix2 r f) = actN (uN (k0_pay297 (k0_pay3 x1) (nrV (kernelRun0_A.sl.r_4 (F := Ideal) c t1 w1 t2 w2 t3 w3 t4 w4 t5 w5 t6 w6 t7 w7 t8 w8 t9 w9 t19 x0 x1 x2 x3 x4 x5 x6 x7 x8)) x9) x10) x11 x12 (fun _ _ => 0) (fun _ _ => 0) r.val f.val := by
  have hk := kA c t1 w1 t2 w2 t3 w3 t4 w4 t5 w5 t6 w6 t7 w7 t8 w8 t9 w9 t10 w10 t11 w11 t12 w12 t13 w13 t16 t17 t19 x0 x1 x2 x3 x4 x5 x6 x7 x8 x9 x10 x11 x12
  rw [uT_eq] at hk
  exact readA hk _ _ r f

/-- The tile's result. -/
theorem outV (n : Fin 512) (d : Fin 1024) : View.canon (Val := Elt Ideal) (kernelRun0_A (F := Ideal) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13).1 (ix2 n d) = tlO x0 x1 x2 x3 x4 x5 x6 x7 x8 x9 x10 x11 x12 x13 (fun _ _ => 0) (fun _ _ => 0) n.val d := by
  refine (out (F := Ideal) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13 n d).trans ?_
  rw [r141_eq]
  exact o_N x0 x1 x2 x3 x4 x5 x6 x7 x8 x9 x10 x11 x12 x13 (h4 c t1 w1 t2 w2 t3 w3 t4 w4 t5 w5 t6 w6 t7 w7 t8 w8 t9 w9 t19 x0 x1 x2 x3 x4 x5 x6 x7 x8) (fun _ _ => 0) (fun _ _ => 0) (hA c t1 w1 t2 w2 t3 w3 t4 w4 t5 w5 t6 w6 t7 w7 t8 w8 t9 w9 t10 w10 t11 w11 t12 w12 t13 w13 t16 t17 t18 t19 x0 x1 x2 x3 x4 x5 x6 x7 x8 x9 x10 x11 x12) n d

end

section
variable {F : FTy → Type} [FloatOps F] (c : Dev nD) (i : grid0.Coords)
  (t1 : Memref sig .tc .vmem S512x1024 .f32) (w1 : t1.IsWhole)
  (t2 : Memref sig .tc .vmem S1x6x1024 .f32) (w2 : t2.IsWhole)
  (t3 : Memref sig .tc .vmem S512x512 .bf16) (w3 : t3.IsWhole)
  (t4 : Memref sig .tc .vmem S512x512 .bf16) (w4 : t4.IsWhole)
  (t5 : Memref sig .tc .vmem S512x1024 .bf16) (w5 : t5.IsWhole)
  (t6 : Memref sig .tc .vmem S512x1024 .bf16) (w6 : t6.IsWhole)
  (t7 : Memref sig .tc .vmem S512x1024 .bf16) (w7 : t7.IsWhole)
  (t8 : Memref sig .tc .vmem S512x1024 .bf16) (w8 : t8.IsWhole)
  (t9 : Memref sig .tc .vmem S1024x1024 .bf16) (w9 : t9.IsWhole)
  (t10 : Memref sig .tc .vmem S1x1024 .f32) (w10 : t10.IsWhole)
  (t11 : Memref sig .tc .vmem S1024x5632 .bf16) (w11 : t11.IsWhole)
  (t12 : Memref sig .tc .vmem S3x5632 .f32) (w12 : t12.IsWhole)
  (t13 : Memref sig .tc .vmem S1x5632 .f32) (w13 : t13.IsWhole)
  (t14 : Memref sig .tc .vmem S2816x1024 .bf16) (w14 : t14.IsWhole)
  (t15 : Memref sig .tc .vmem S512x1024 .f32) (w15 : t15.IsWhole)
  (t16 : Memref sig .tc .vmem S11x16x256 .f32) (w16 : t16.IsWhole)
  (t17 : Memref sig .tc .vmem S11x16x256 .f32) (w17 : t17.IsWhole)
  (t18 : Memref sig .tc .vmem S512x2816 .bf16) (w18 : t18.IsWhole)
  (t19 : Memref sig .tc .vmem S8x576x128 .f32) (w19 : t19.IsWhole)
  (hc0 : cond0_0 i)
  (x0 : Vec F S512x1024 .f32)  (x1 : Vec F S1x6x1024 .f32)  (x2 : Vec F S512x512 .bf16)  (x3 : Vec F S512x512 .bf16)  (x4 : Vec F S512x1024 .bf16)  (x5 : Vec F S512x1024 .bf16)  (x6 : Vec F S512x1024 .bf16)  (x7 : Vec F S512x1024 .bf16)  (x8 : Vec F S1024x1024 .bf16)  (x9 : Vec F S1x1024 .f32)  (x10 : Vec F S1024x5632 .bf16)  (x11 : Vec F S3x5632 .f32)  (x12 : Vec F S1x5632 .f32)  (x13 : Vec F S2816x1024 .bf16)

/-- The stores of the kept rows. -/
theorem keptL0 (h) (hh : h = kernelRun0_A.sl.r_6 c t1 w1 t2 w2 t3 w3 t4 w4 t5 w5 t6 w6 t7 w7 t8 w8 t9 w9 t10 w10 t19 x0 x1 x2 x3 x4 x5 x6 x7 x8 x9) : (kernelRun0_A (F := F) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13).2.1 =
    [⟨kRect 10, kpE (upE h (View.readAt (Elt F) t11.view (Rect.unit (s := S1024x5632) ![0, 2560] S1024x256.size inb_S1024x5632_S1024x256_0_2560).toLoadRect (w11.unread x10)))⟩,
    ⟨kRect 9, kpE (upE h (View.readAt (Elt F) t11.view (Rect.unit (s := S1024x5632) ![0, 2304] S1024x256.size inb_S1024x5632_S1024x256_0_2304).toLoadRect (w11.unread x10)))⟩,
    ⟨kRect 8, kpE (upE h (View.readAt (Elt F) t11.view (Rect.unit (s := S1024x5632) ![0, 2048] S1024x256.size inb_S1024x5632_S1024x256_0_2048).toLoadRect (w11.unread x10)))⟩,
    ⟨kRect 7, kpE (upE h (View.readAt (Elt F) t11.view (Rect.unit (s := S1024x5632) ![0, 1792] S1024x256.size inb_S1024x5632_S1024x256_0_1792).toLoadRect (w11.unread x10)))⟩,
    ⟨kRect 6, kpE (upE h (View.readAt (Elt F) t11.view (Rect.unit (s := S1024x5632) ![0, 1536] S1024x256.size inb_S1024x5632_S1024x256_0_1536).toLoadRect (w11.unread x10)))⟩,
    ⟨kRect 5, kpE (upE h (View.readAt (Elt F) t11.view (Rect.unit (s := S1024x5632) ![0, 1280] S1024x256.size inb_S1024x5632_S1024x256_0_1280).toLoadRect (w11.unread x10)))⟩,
    ⟨kRect 4, kpE (upE h (View.readAt (Elt F) t11.view (Rect.unit (s := S1024x5632) ![0, 1024] S1024x256.size inb_S1024x5632_S1024x256_0_1024).toLoadRect (w11.unread x10)))⟩,
    ⟨kRect 3, kpE (upE h (View.readAt (Elt F) t11.view (Rect.unit (s := S1024x5632) ![0, 768] S1024x256.size inb_S1024x5632_S1024x256_0_768).toLoadRect (w11.unread x10)))⟩,
    ⟨kRect 2, kpE (upE h (View.readAt (Elt F) t11.view (Rect.unit (s := S1024x5632) ![0, 512] S1024x256.size inb_S1024x5632_S1024x256_0_512).toLoadRect (w11.unread x10)))⟩,
    ⟨kRect 1, kpE (upE h (View.readAt (Elt F) t11.view (Rect.unit (s := S1024x5632) ![0, 256] S1024x256.size inb_S1024x5632_S1024x256_0_256).toLoadRect (w11.unread x10)))⟩,
    ⟨kRect 0, kpE (upE h (View.readAt (Elt F) t11.view (Rect.unit (s := S1024x5632) ![0, 0] S1024x256.size inb_S1024x5632_S1024x256_0_0).toLoadRect (w11.unread x10)))⟩,
    ⟨Rect.unit (s := S11x16x256) ![0, 0, 0] S11x16x256.size inb_S11x16x256_S11x16x256_0_0_0, k0_pay1⟩] := by
  subst hh
  unfold kernelRun0_A
  rfl

/-- The stores of the kept rows. -/
theorem keptL1 (h) (hh : h = kernelRun0_A.sl.r_6 c t1 w1 t2 w2 t3 w3 t4 w4 t5 w5 t6 w6 t7 w7 t8 w8 t9 w9 t10 w10 t19 x0 x1 x2 x3 x4 x5 x6 x7 x8 x9) : (kernelRun0_A (F := F) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13).2.2.1 =
    [⟨kRect 10, kpE (upE h (View.readAt (Elt F) t11.view (Rect.unit (s := S1024x5632) ![0, 5376] S1024x256.size inb_S1024x5632_S1024x256_0_5376).toLoadRect (w11.unread x10)))⟩,
    ⟨kRect 9, kpE (upE h (View.readAt (Elt F) t11.view (Rect.unit (s := S1024x5632) ![0, 5120] S1024x256.size inb_S1024x5632_S1024x256_0_5120).toLoadRect (w11.unread x10)))⟩,
    ⟨kRect 8, kpE (upE h (View.readAt (Elt F) t11.view (Rect.unit (s := S1024x5632) ![0, 4864] S1024x256.size inb_S1024x5632_S1024x256_0_4864).toLoadRect (w11.unread x10)))⟩,
    ⟨kRect 7, kpE (upE h (View.readAt (Elt F) t11.view (Rect.unit (s := S1024x5632) ![0, 4608] S1024x256.size inb_S1024x5632_S1024x256_0_4608).toLoadRect (w11.unread x10)))⟩,
    ⟨kRect 6, kpE (upE h (View.readAt (Elt F) t11.view (Rect.unit (s := S1024x5632) ![0, 4352] S1024x256.size inb_S1024x5632_S1024x256_0_4352).toLoadRect (w11.unread x10)))⟩,
    ⟨kRect 5, kpE (upE h (View.readAt (Elt F) t11.view (Rect.unit (s := S1024x5632) ![0, 4096] S1024x256.size inb_S1024x5632_S1024x256_0_4096).toLoadRect (w11.unread x10)))⟩,
    ⟨kRect 4, kpE (upE h (View.readAt (Elt F) t11.view (Rect.unit (s := S1024x5632) ![0, 3840] S1024x256.size inb_S1024x5632_S1024x256_0_3840).toLoadRect (w11.unread x10)))⟩,
    ⟨kRect 3, kpE (upE h (View.readAt (Elt F) t11.view (Rect.unit (s := S1024x5632) ![0, 3584] S1024x256.size inb_S1024x5632_S1024x256_0_3584).toLoadRect (w11.unread x10)))⟩,
    ⟨kRect 2, kpE (upE h (View.readAt (Elt F) t11.view (Rect.unit (s := S1024x5632) ![0, 3328] S1024x256.size inb_S1024x5632_S1024x256_0_3328).toLoadRect (w11.unread x10)))⟩,
    ⟨kRect 1, kpE (upE h (View.readAt (Elt F) t11.view (Rect.unit (s := S1024x5632) ![0, 3072] S1024x256.size inb_S1024x5632_S1024x256_0_3072).toLoadRect (w11.unread x10)))⟩,
    ⟨kRect 0, kpE (upE h (View.readAt (Elt F) t11.view (Rect.unit (s := S1024x5632) ![0, 2816] S1024x256.size inb_S1024x5632_S1024x256_0_2816).toLoadRect (w11.unread x10)))⟩,
    ⟨Rect.unit (s := S11x16x256) ![0, 0, 0] S11x16x256.size inb_S11x16x256_S11x16x256_0_0_0, k0_pay2⟩] := by
  subst hh
  unfold kernelRun0_A
  rfl

end

section
variable (c : Dev nD) (i : grid0.Coords)
  (t1 : Memref sig .tc .vmem S512x1024 .f32) (w1 : t1.IsWhole)
  (t2 : Memref sig .tc .vmem S1x6x1024 .f32) (w2 : t2.IsWhole)
  (t3 : Memref sig .tc .vmem S512x512 .bf16) (w3 : t3.IsWhole)
  (t4 : Memref sig .tc .vmem S512x512 .bf16) (w4 : t4.IsWhole)
  (t5 : Memref sig .tc .vmem S512x1024 .bf16) (w5 : t5.IsWhole)
  (t6 : Memref sig .tc .vmem S512x1024 .bf16) (w6 : t6.IsWhole)
  (t7 : Memref sig .tc .vmem S512x1024 .bf16) (w7 : t7.IsWhole)
  (t8 : Memref sig .tc .vmem S512x1024 .bf16) (w8 : t8.IsWhole)
  (t9 : Memref sig .tc .vmem S1024x1024 .bf16) (w9 : t9.IsWhole)
  (t10 : Memref sig .tc .vmem S1x1024 .f32) (w10 : t10.IsWhole)
  (t11 : Memref sig .tc .vmem S1024x5632 .bf16) (w11 : t11.IsWhole)
  (t12 : Memref sig .tc .vmem S3x5632 .f32) (w12 : t12.IsWhole)
  (t13 : Memref sig .tc .vmem S1x5632 .f32) (w13 : t13.IsWhole)
  (t14 : Memref sig .tc .vmem S2816x1024 .bf16) (w14 : t14.IsWhole)
  (t15 : Memref sig .tc .vmem S512x1024 .f32) (w15 : t15.IsWhole)
  (t16 : Memref sig .tc .vmem S11x16x256 .f32) (w16 : t16.IsWhole)
  (t17 : Memref sig .tc .vmem S11x16x256 .f32) (w17 : t17.IsWhole)
  (t18 : Memref sig .tc .vmem S512x2816 .bf16) (w18 : t18.IsWhole)
  (t19 : Memref sig .tc .vmem S8x576x128 .f32) (w19 : t19.IsWhole)
  (hc0 : cond0_0 i)
  (x0 : Vec Ideal S512x1024 .f32)  (x1 : Vec Ideal S1x6x1024 .f32)  (x2 : Vec Ideal S512x512 .bf16)  (x3 : Vec Ideal S512x512 .bf16)  (x4 : Vec Ideal S512x1024 .bf16)  (x5 : Vec Ideal S512x1024 .bf16)  (x6 : Vec Ideal S512x1024 .bf16)  (x7 : Vec Ideal S512x1024 .bf16)  (x8 : Vec Ideal S1024x1024 .bf16)  (x9 : Vec Ideal S1x1024 .f32)  (x10 : Vec Ideal S1024x5632 .bf16)  (x11 : Vec Ideal S3x5632 .f32)  (x12 : Vec Ideal S1x5632 .f32)  (x13 : Vec Ideal S2816x1024 .bf16)

/-- The rows the tile keeps. -/
theorem kept0 (y : S11x16x256.Idx) : View.canon (Val := Elt Ideal) (kernelRun0_A (F := Ideal) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13).2.1 y = gK (uN (k0_pay297 (k0_pay3 x1) (nrV (kernelRun0_A.sl.r_4 (F := Ideal) c t1 w1 t2 w2 t3 w3 t4 w4 t5 w5 t6 w6 t7 w7 t8 w8 t9 w9 t19 x0 x1 x2 x3 x4 x5 x6 x7 x8)) x9) x10) 0 y := by
  refine Eq.trans (congrFun (congrArg (View.canon (Val := Elt Ideal)) (keptL0 (F := Ideal) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13 _ rfl)) y) (Eq.trans (readK (u := uT c t1 w1 t2 w2 t3 w3 t4 w4 t5 w5 t6 w6 t7 w7 t8 w8 t9 w9 t10 w10 t19 x0 x1 x2 x3 x4 x5 x6 x7 x8 x9 x10) (c := 0) ?_ y) (by rw [uT_eq c t1 w1 t2 w2 t3 w3 t4 w4 t5 w5 t6 w6 t7 w7 t8 w8 t9 w9 t10 w10 t19 x0 x1 x2 x3 x4 x5 x6 x7 x8 x9 x10]))
  refine stepK ?_ (by decide) 2560 rfl rfl (fun r q => upE_N _ x10 2560 (fun j q => ldW w11 x10 2560 2560 rfl _ j q) r q)
  refine stepK ?_ (by decide) 2304 rfl rfl (fun r q => upE_N _ x10 2304 (fun j q => ldW w11 x10 2304 2304 rfl _ j q) r q)
  refine stepK ?_ (by decide) 2048 rfl rfl (fun r q => upE_N _ x10 2048 (fun j q => ldW w11 x10 2048 2048 rfl _ j q) r q)
  refine stepK ?_ (by decide) 1792 rfl rfl (fun r q => upE_N _ x10 1792 (fun j q => ldW w11 x10 1792 1792 rfl _ j q) r q)
  refine stepK ?_ (by decide) 1536 rfl rfl (fun r q => upE_N _ x10 1536 (fun j q => ldW w11 x10 1536 1536 rfl _ j q) r q)
  refine stepK ?_ (by decide) 1280 rfl rfl (fun r q => upE_N _ x10 1280 (fun j q => ldW w11 x10 1280 1280 rfl _ j q) r q)
  refine stepK ?_ (by decide) 1024 rfl rfl (fun r q => upE_N _ x10 1024 (fun j q => ldW w11 x10 1024 1024 rfl _ j q) r q)
  refine stepK ?_ (by decide) 768 rfl rfl (fun r q => upE_N _ x10 768 (fun j q => ldW w11 x10 768 768 rfl _ j q) r q)
  refine stepK ?_ (by decide) 512 rfl rfl (fun r q => upE_N _ x10 512 (fun j q => ldW w11 x10 512 512 rfl _ j q) r q)
  refine stepK ?_ (by decide) 256 rfl rfl (fun r q => upE_N _ x10 256 (fun j q => ldW w11 x10 256 256 rfl _ j q) r q)
  refine stepK ?_ (by decide) 0 rfl rfl (fun r q => upE_N _ x10 0 (fun j q => ldW w11 x10 0 0 rfl _ j q) r q)
  exact Known.zero _ _ _

/-- The rows the tile keeps, by its tokens. -/
theorem keptV0 (n f : ℕ) (hn : n < 16) (hf : f < 2816) : pN (View.canon (Val := Elt Ideal) (kernelRun0_A (F := Ideal) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13).2.1) n f = (tl x0 x1 x2 x3 x4 x5 x6 x7 x8 x9 x10 x11 x12 x13).u (64 * (n % 8) + 62 + n / 8) (0 + f) :=
  k_N x0 x1 x2 x3 x4 x5 x6 x7 x8 x9 x10 x11 x12 x13 (h4 c t1 w1 t2 w2 t3 w3 t4 w4 t5 w5 t6 w6 t7 w7 t8 w8 t9 w9 t19 x0 x1 x2 x3 x4 x5 x6 x7 x8) 0 (fun y => kept0 c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13 y) n f hn hf

/-- The rows the tile keeps. -/
theorem kept1 (y : S11x16x256.Idx) : View.canon (Val := Elt Ideal) (kernelRun0_A (F := Ideal) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13).2.2.1 y = gK (uN (k0_pay297 (k0_pay3 x1) (nrV (kernelRun0_A.sl.r_4 (F := Ideal) c t1 w1 t2 w2 t3 w3 t4 w4 t5 w5 t6 w6 t7 w7 t8 w8 t9 w9 t19 x0 x1 x2 x3 x4 x5 x6 x7 x8)) x9) x10) 2816 y := by
  refine Eq.trans (congrFun (congrArg (View.canon (Val := Elt Ideal)) (keptL1 (F := Ideal) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13 _ rfl)) y) (Eq.trans (readK (u := uT c t1 w1 t2 w2 t3 w3 t4 w4 t5 w5 t6 w6 t7 w7 t8 w8 t9 w9 t10 w10 t19 x0 x1 x2 x3 x4 x5 x6 x7 x8 x9 x10) (c := 2816) ?_ y) (by rw [uT_eq c t1 w1 t2 w2 t3 w3 t4 w4 t5 w5 t6 w6 t7 w7 t8 w8 t9 w9 t10 w10 t19 x0 x1 x2 x3 x4 x5 x6 x7 x8 x9 x10]))
  refine stepK ?_ (by decide) 5376 rfl rfl (fun r q => upE_N _ x10 5376 (fun j q => ldW w11 x10 5376 5376 rfl _ j q) r q)
  refine stepK ?_ (by decide) 5120 rfl rfl (fun r q => upE_N _ x10 5120 (fun j q => ldW w11 x10 5120 5120 rfl _ j q) r q)
  refine stepK ?_ (by decide) 4864 rfl rfl (fun r q => upE_N _ x10 4864 (fun j q => ldW w11 x10 4864 4864 rfl _ j q) r q)
  refine stepK ?_ (by decide) 4608 rfl rfl (fun r q => upE_N _ x10 4608 (fun j q => ldW w11 x10 4608 4608 rfl _ j q) r q)
  refine stepK ?_ (by decide) 4352 rfl rfl (fun r q => upE_N _ x10 4352 (fun j q => ldW w11 x10 4352 4352 rfl _ j q) r q)
  refine stepK ?_ (by decide) 4096 rfl rfl (fun r q => upE_N _ x10 4096 (fun j q => ldW w11 x10 4096 4096 rfl _ j q) r q)
  refine stepK ?_ (by decide) 3840 rfl rfl (fun r q => upE_N _ x10 3840 (fun j q => ldW w11 x10 3840 3840 rfl _ j q) r q)
  refine stepK ?_ (by decide) 3584 rfl rfl (fun r q => upE_N _ x10 3584 (fun j q => ldW w11 x10 3584 3584 rfl _ j q) r q)
  refine stepK ?_ (by decide) 3328 rfl rfl (fun r q => upE_N _ x10 3328 (fun j q => ldW w11 x10 3328 3328 rfl _ j q) r q)
  refine stepK ?_ (by decide) 3072 rfl rfl (fun r q => upE_N _ x10 3072 (fun j q => ldW w11 x10 3072 3072 rfl _ j q) r q)
  refine stepK ?_ (by decide) 2816 rfl rfl (fun r q => upE_N _ x10 2816 (fun j q => ldW w11 x10 2816 2816 rfl _ j q) r q)
  exact Known.zero _ _ _

/-- The rows the tile keeps, by its tokens. -/
theorem keptV1 (n f : ℕ) (hn : n < 16) (hf : f < 2816) : pN (View.canon (Val := Elt Ideal) (kernelRun0_A (F := Ideal) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13).2.2.1) n f = (tl x0 x1 x2 x3 x4 x5 x6 x7 x8 x9 x10 x11 x12 x13).u (64 * (n % 8) + 62 + n / 8) (2816 + f) :=
  k_N x0 x1 x2 x3 x4 x5 x6 x7 x8 x9 x10 x11 x12 x13 (h4 c t1 w1 t2 w2 t3 w3 t4 w4 t5 w5 t6 w6 t7 w7 t8 w8 t9 w9 t19 x0 x1 x2 x3 x4 x5 x6 x7 x8) 2816 (fun y => kept1 c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13 y) n f hn hf

end

end Cert.Ff.A
-- ==== Proof.Ff.StageB.lean ====
module

public import proofs.«01_k».proof.Proof.Gen.Kernel3Ideal.Frame.RunB
public import proofs.«01_k».proof.Proof.Ff.Tile

@[expose] public section

set_option maxRecDepth 65536

/-! The first staging: a tile's rows from token order to strided order. -/

noncomputable section

namespace Cert.Ff.B

open Cert.Kernel3Ideal Cert.Kernel3Ideal.Gen Idealize.ShloMosaic Idealize.ShloMosaic.TcCoe Idealize.SL.Sem

variable {F : FTy → Type} [FloatOps F] (c : Dev nD)
  (t1 : Memref sig .tc .vmem S512x1024 .f32) (w1 : t1.IsWhole)
  (t2 : Memref sig .tc .vmem S1x6x1024 .f32) (w2 : t2.IsWhole)
  (t3 : Memref sig .tc .vmem S512x512 .bf16) (w3 : t3.IsWhole)
  (t4 : Memref sig .tc .vmem S512x512 .bf16) (w4 : t4.IsWhole)
  (t5 : Memref sig .tc .vmem S512x1024 .bf16) (w5 : t5.IsWhole)
  (t6 : Memref sig .tc .vmem S512x1024 .bf16) (w6 : t6.IsWhole)
  (t7 : Memref sig .tc .vmem S512x1024 .bf16) (w7 : t7.IsWhole)
  (t8 : Memref sig .tc .vmem S512x1024 .bf16) (w8 : t8.IsWhole)
  (t9 : Memref sig .tc .vmem S1024x1024 .bf16) (w9 : t9.IsWhole)
  (t10 : Memref sig .tc .vmem S1x1024 .f32) (w10 : t10.IsWhole)
  (t11 : Memref sig .tc .vmem S1024x5632 .bf16) (w11 : t11.IsWhole)
  (t12 : Memref sig .tc .vmem S3x5632 .f32) (w12 : t12.IsWhole)
  (t13 : Memref sig .tc .vmem S1x5632 .f32) (w13 : t13.IsWhole)
  (t14 : Memref sig .tc .vmem S2816x1024 .bf16) (w14 : t14.IsWhole)
  (t15 : Memref sig .tc .vmem S512x1024 .f32) (w15 : t15.IsWhole)
  (t16 : Memref sig .tc .vmem S11x16x256 .f32) (w16 : t16.IsWhole)
  (t17 : Memref sig .tc .vmem S11x16x256 .f32) (w17 : t17.IsWhole)
  (t18 : Memref sig .tc .vmem S512x2816 .bf16) (w18 : t18.IsWhole)
  (t19 : Memref sig .tc .vmem S8x576x128 .f32) (w19 : t19.IsWhole)
  (x0 : Vec F S512x1024 .f32)  (x1 : Vec F S1x6x1024 .f32)  (x2 : Vec F S512x512 .bf16)  (x3 : Vec F S512x512 .bf16)  (x4 : Vec F S512x1024 .bf16)  (x5 : Vec F S512x1024 .bf16)  (x6 : Vec F S512x1024 .bf16)  (x7 : Vec F S512x1024 .bf16)  (x8 : Vec F S1024x1024 .bf16)  (x9 : Vec F S1x1024 .f32)  (x10 : Vec F S1024x5632 .bf16)  (x11 : Vec F S3x5632 .f32)  (x12 : Vec F S1x5632 .f32)  (x13 : Vec F S2816x1024 .bf16)
  (xs0 xs1 : Vec F S11x16x256 .f32)

/-- The staging in token order. -/
theorem kT : Known (Val := Elt F) (e := .f32) (gT (kernelRun0_B.sl.r_3 c t1 w1 t2 w2 t3 w3 t4 w4 t5 w5 t6 w6 t7 w7 t8 w8 t9 w9 x0 x1 x2 x3 x4 x5 x6 x7 x8)) tR 64 (kernelRun0_B.sl.HS3_64 c t1 w1 t2 w2 t3 w3 t4 w4 t5 w5 t6 w6 t7 w7 t8 w8 t9 w9 x0 x1 x2 x3 x4 x5 x6 x7 x8) := by
  iterate 64 refine stepT ?_ _ _ (by rfl) (by rfl) _ _
  exact Known.zero _ _ _

/-- The rows read back in strided order. -/
theorem rows (r : Fin 512) (d : Fin 1024) : kernelRun0_B.sl.r_4 c t1 w1 t2 w2 t3 w3 t4 w4 t5 w5 t6 w6 t7 w7 t8 w8 t9 w9 t19 x0 x1 x2 x3 x4 x5 x6 x7 x8 (ix2 r d) = xn (kernelRun0_B.sl.r_3 c t1 w1 t2 w2 t3 w3 t4 w4 t5 w5 t6 w6 t7 w7 t8 w8 t9 w9 x0 x1 x2 x3 x4 x5 x6 x7 x8) (64 * (r.val % 8) + r.val / 8) d.val := by
  have hk := kT (F := F) c t1 w1 t2 w2 t3 w3 t4 w4 t5 w5 t6 w6 t7 w7 t8 w8 t9 w9 x0 x1 x2 x3 x4 x5 x6 x7 x8
  refine Cat.rows (a := 8) (b := 1024) (N := 64) (fun r d => xn (kernelRun0_B.sl.r_3 c t1 w1 t2 w2 t3 w3 t4 w4 t5 w5 t6 w6 t7 w7 t8 w8 t9 w9 x0 x1 x2 x3 x4 x5 x6 x7 x8) (64 * (r % 8) + r / 8) d) rfl (by decide) rfl (by rfl) ?_ (by exact concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S512x1024_d0) r d
  iterate 64
    refine Cat.cons (rowOf ?_ (by rfl) (by exact concatenates_S8x128_S8x128_S8x128_S8x128_S8x128_S8x128_S8x128_S8x128_S8x1024_d1)) ?_
    · iterate 8 refine Cat.cons (fun i l => ldS hk _ _ _ (by decide) (by decide) _ _ i l) ?_
      exact Cat.nil _
  exact Cat.nil _

end Cert.Ff.B
-- ==== Proof.Ff.ConvB.lean ====
module

public import proofs.«01_k».proof.Proof.Ff.StageB
public import proofs.«01_k».proof.Proof.Ff.Act

@[expose] public section

set_option maxRecDepth 65536

/-! The gated products of a tile and the rows it keeps. -/

noncomputable section

namespace Cert.Ff.B

open Cert.Kernel3Ideal Cert.Kernel3Ideal.Gen Idealize.ShloMosaic Idealize.ShloMosaic.TcCoe Idealize.SL.Sem

section
variable {F : FTy → Type} [FloatOps F] (c : Dev nD)
  (t1 : Memref sig .tc .vmem S512x1024 .f32) (w1 : t1.IsWhole)
  (t2 : Memref sig .tc .vmem S1x6x1024 .f32) (w2 : t2.IsWhole)
  (t3 : Memref sig .tc .vmem S512x512 .bf16) (w3 : t3.IsWhole)
  (t4 : Memref sig .tc .vmem S512x512 .bf16) (w4 : t4.IsWhole)
  (t5 : Memref sig .tc .vmem S512x1024 .bf16) (w5 : t5.IsWhole)
  (t6 : Memref sig .tc .vmem S512x1024 .bf16) (w6 : t6.IsWhole)
  (t7 : Memref sig .tc .vmem S512x1024 .bf16) (w7 : t7.IsWhole)
  (t8 : Memref sig .tc .vmem S512x1024 .bf16) (w8 : t8.IsWhole)
  (t9 : Memref sig .tc .vmem S1024x1024 .bf16) (w9 : t9.IsWhole)
  (t10 : Memref sig .tc .vmem S1x1024 .f32) (w10 : t10.IsWhole)
  (t11 : Memref sig .tc .vmem S1024x5632 .bf16) (w11 : t11.IsWhole)
  (t12 : Memref sig .tc .vmem S3x5632 .f32) (w12 : t12.IsWhole)
  (t13 : Memref sig .tc .vmem S1x5632 .f32) (w13 : t13.IsWhole)
  (t14 : Memref sig .tc .vmem S2816x1024 .bf16) (w14 : t14.IsWhole)
  (t15 : Memref sig .tc .vmem S512x1024 .f32) (w15 : t15.IsWhole)
  (t16 : Memref sig .tc .vmem S11x16x256 .f32) (w16 : t16.IsWhole)
  (t17 : Memref sig .tc .vmem S11x16x256 .f32) (w17 : t17.IsWhole)
  (t18 : Memref sig .tc .vmem S512x2816 .bf16) (w18 : t18.IsWhole)
  (t19 : Memref sig .tc .vmem S8x576x128 .f32) (w19 : t19.IsWhole)
  (x0 : Vec F S512x1024 .f32)  (x1 : Vec F S1x6x1024 .f32)  (x2 : Vec F S512x512 .bf16)  (x3 : Vec F S512x512 .bf16)  (x4 : Vec F S512x1024 .bf16)  (x5 : Vec F S512x1024 .bf16)  (x6 : Vec F S512x1024 .bf16)  (x7 : Vec F S512x1024 .bf16)  (x8 : Vec F S1024x1024 .bf16)  (x9 : Vec F S1x1024 .f32)  (x10 : Vec F S1024x5632 .bf16)  (x11 : Vec F S3x5632 .f32)  (x12 : Vec F S1x5632 .f32)  (x13 : Vec F S2816x1024 .bf16)
  (xs0 xs1 : Vec F S11x16x256 .f32)

/-- The products of chunk 0. -/
theorem act0 : k0_pay314 (kernelRun0_B.sl.r_8 c t1 w1 t2 w2 t3 w3 t4 w4 t5 w5 t6 w6 t7 w7 t8 w8 t9 w9 t10 w10 t11 w11 t19 x0 x1 x2 x3 x4 x5 x6 x7 x8 x9 x10) (kernelRun0_B.sl.r_14 c t1 w1 t2 w2 t3 w3 t4 w4 t5 w5 t6 w6 t7 w7 t8 w8 t9 w9 t10 w10 t11 w11 t12 w12 t13 w13 t16 w16 t19 x0 x1 x2 x3 x4 x5 x6 x7 x8 x9 x10 x11 x12 xs0) (kernelRun0_B.sl.r_15 c t17 w17 xs1) (kernelRun0_B.sl.r_16 c t13 w13 x12) (kernelRun0_B.sl.r_17 c t1 w1 t2 w2 t3 w3 t4 w4 t5 w5 t6 w6 t7 w7 t8 w8 t9 w9 t10 w10 t11 w11 t12 w12 t17 w17 t19 x0 x1 x2 x3 x4 x5 x6 x7 x8 x9 x10 x11 xs1) (kernelRun0_B.sl.r_18 c t12 w12 x11) k0_pay309 (kernelRun0_B.sl.r_19 c t1 w1 t2 w2 t3 w3 t4 w4 t5 w5 t6 w6 t7 w7 t8 w8 t9 w9 t10 w10 t11 w11 t19 x0 x1 x2 x3 x4 x5 x6 x7 x8 x9 x10) (kernelRun0_B.sl.r_20 c t17 w17 xs1)
    = acE (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 0] S1024x256.size inb_S1024x5632_S1024x256_0_0).toLoadRect (w11.unread x10))) (shapeCast (s := S1x16x256) S16x256 (View.readAt (Elt F) t16.view (Rect.unit (s := S11x16x256) ![0, 0, 0] S1x16x256.size inb_S11x16x256_S1x16x256_0_0_0).toLoadRect (w16.unread xs0)) shapeCasts_S1x16x256_S16x256) (View.readAt (Elt F) t12.view (Rect.unit (s := S3x5632) ![0, 0] S3x256.size inb_S3x5632_S3x256_0_0).toLoadRect (w12.unread x11)) (View.readAt (Elt F) t13.view (Rect.unit (s := S1x5632) ![0, 0] S1x256.size inb_S1x5632_S1x256_0_0).toLoadRect (w13.unread x12)))
      (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 2816] S1024x256.size inb_S1024x5632_S1024x256_0_2816).toLoadRect (w11.unread x10))) (shapeCast (s := S1x16x256) S16x256 (View.readAt (Elt F) t17.view (Rect.unit (s := S11x16x256) ![0, 0, 0] S1x16x256.size inb_S11x16x256_S1x16x256_0_0_0).toLoadRect (w17.unread xs1)) shapeCasts_S1x16x256_S16x256) (View.readAt (Elt F) t12.view (Rect.unit (s := S3x5632) ![0, 2816] S3x256.size inb_S3x5632_S3x256_0_2816).toLoadRect (w12.unread x11)) (View.readAt (Elt F) t13.view (Rect.unit (s := S1x5632) ![0, 2816] S1x256.size inb_S1x5632_S1x256_0_2816).toLoadRect (w13.unread x12))) := rfl

/-- The products of chunk 1. -/
theorem act1 : k0_pay322 (kernelRun0_B.sl.r_24 c t1 w1 t2 w2 t3 w3 t4 w4 t5 w5 t6 w6 t7 w7 t8 w8 t9 w9 t10 w10 t11 w11 t12 w12 t13 w13 t16 w16 t19 x0 x1 x2 x3 x4 x5 x6 x7 x8 x9 x10 x11 x12 xs0) (kernelRun0_B.sl.r_25 c t1 w1 t2 w2 t3 w3 t4 w4 t5 w5 t6 w6 t7 w7 t8 w8 t9 w9 t10 w10 t11 w11 t12 w12 t13 w13 t17 w17 t19 x0 x1 x2 x3 x4 x5 x6 x7 x8 x9 x10 x11 x12 xs1)
    = acE (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 256] S1024x256.size inb_S1024x5632_S1024x256_0_256).toLoadRect (w11.unread x10))) (shapeCast (s := S1x16x256) S16x256 (View.readAt (Elt F) t16.view (Rect.unit (s := S11x16x256) ![1, 0, 0] S1x16x256.size inb_S11x16x256_S1x16x256_1_0_0).toLoadRect (w16.unread xs0)) shapeCasts_S1x16x256_S16x256) (View.readAt (Elt F) t12.view (Rect.unit (s := S3x5632) ![0, 256] S3x256.size inb_S3x5632_S3x256_0_256).toLoadRect (w12.unread x11)) (View.readAt (Elt F) t13.view (Rect.unit (s := S1x5632) ![0, 256] S1x256.size inb_S1x5632_S1x256_0_256).toLoadRect (w13.unread x12)))
      (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 3072] S1024x256.size inb_S1024x5632_S1024x256_0_3072).toLoadRect (w11.unread x10))) (shapeCast (s := S1x16x256) S16x256 (View.readAt (Elt F) t17.view (Rect.unit (s := S11x16x256) ![1, 0, 0] S1x16x256.size inb_S11x16x256_S1x16x256_1_0_0).toLoadRect (w17.unread xs1)) shapeCasts_S1x16x256_S16x256) (View.readAt (Elt F) t12.view (Rect.unit (s := S3x5632) ![0, 3072] S3x256.size inb_S3x5632_S3x256_0_3072).toLoadRect (w12.unread x11)) (View.readAt (Elt F) t13.view (Rect.unit (s := S1x5632) ![0, 3072] S1x256.size inb_S1x5632_S1x256_0_3072).toLoadRect (w13.unread x12))) := rfl

/-- The products of chunk 2. -/
theorem act2 : k0_pay341 (kernelRun0_B.sl.r_34 c t1 w1 t2 w2 t3 w3 t4 w4 t5 w5 t6 w6 t7 w7 t8 w8 t9 w9 t10 w10 t11 w11 t12 w12 t13 w13 t16 w16 t19 x0 x1 x2 x3 x4 x5 x6 x7 x8 x9 x10 x11 x12 xs0) (kernelRun0_B.sl.r_42 c t1 w1 t2 w2 t3 w3 t4 w4 t5 w5 t6 w6 t7 w7 t8 w8 t9 w9 t10 w10 t11 w11 t12 w12 t13 w13 t17 w17 t19 x0 x1 x2 x3 x4 x5 x6 x7 x8 x9 x10 x11 x12 xs1) (kernelRun0_B.sl.r_43 c t1 w1 t2 w2 t3 w3 t4 w4 t5 w5 t6 w6 t7 w7 t8 w8 t9 w9 t10 w10 t11 w11 t12 w12 t13 w13 t17 w17 t19 x0 x1 x2 x3 x4 x5 x6 x7 x8 x9 x10 x11 x12 xs1) k0_pay340
    = acE (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 512] S1024x256.size inb_S1024x5632_S1024x256_0_512).toLoadRect (w11.unread x10))) (shapeCast (s := S1x16x256) S16x256 (View.readAt (Elt F) t16.view (Rect.unit (s := S11x16x256) ![2, 0, 0] S1x16x256.size inb_S11x16x256_S1x16x256_2_0_0).toLoadRect (w16.unread xs0)) shapeCasts_S1x16x256_S16x256) (View.readAt (Elt F) t12.view (Rect.unit (s := S3x5632) ![0, 512] S3x256.size inb_S3x5632_S3x256_0_512).toLoadRect (w12.unread x11)) (View.readAt (Elt F) t13.view (Rect.unit (s := S1x5632) ![0, 512] S1x256.size inb_S1x5632_S1x256_0_512).toLoadRect (w13.unread x12)))
      (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 3328] S1024x256.size inb_S1024x5632_S1024x256_0_3328).toLoadRect (w11.unread x10))) (shapeCast (s := S1x16x256) S16x256 (View.readAt (Elt F) t17.view (Rect.unit (s := S11x16x256) ![2, 0, 0] S1x16x256.size inb_S11x16x256_S1x16x256_2_0_0).toLoadRect (w17.unread xs1)) shapeCasts_S1x16x256_S16x256) (View.readAt (Elt F) t12.view (Rect.unit (s := S3x5632) ![0, 3328] S3x256.size inb_S3x5632_S3x256_0_3328).toLoadRect (w12.unread x11)) (View.readAt (Elt F) t13.view (Rect.unit (s := S1x5632) ![0, 3328] S1x256.size inb_S1x5632_S1x256_0_3328).toLoadRect (w13.unread x12))) := rfl

/-- The products of chunk 3. -/
theorem act3 : k0_pay358 (kernelRun0_B.sl.r_45 c t1 w1 t2 w2 t3 w3 t4 w4 t5 w5 t6 w6 t7 w7 t8 w8 t9 w9 t10 w10 t11 w11 t19 x0 x1 x2 x3 x4 x5 x6 x7 x8 x9 x10) (kernelRun0_B.sl.r_52 c t1 w1 t2 w2 t3 w3 t4 w4 t5 w5 t6 w6 t7 w7 t8 w8 t9 w9 t10 w10 t11 w11 t12 w12 t13 w13 t16 w16 t19 x0 x1 x2 x3 x4 x5 x6 x7 x8 x9 x10 x11 x12 xs0) (kernelRun0_B.sl.r_53 c t17 w17 xs1) (kernelRun0_B.sl.r_54 c t13 w13 x12) (kernelRun0_B.sl.r_55 c t1 w1 t2 w2 t3 w3 t4 w4 t5 w5 t6 w6 t7 w7 t8 w8 t9 w9 t10 w10 t11 w11 t12 w12 t17 w17 t19 x0 x1 x2 x3 x4 x5 x6 x7 x8 x9 x10 x11 xs1) (kernelRun0_B.sl.r_56 c t12 w12 x11) k0_pay354 (kernelRun0_B.sl.r_57 c t1 w1 t2 w2 t3 w3 t4 w4 t5 w5 t6 w6 t7 w7 t8 w8 t9 w9 t10 w10 t11 w11 t17 w17 t19 x0 x1 x2 x3 x4 x5 x6 x7 x8 x9 x10 xs1)
    = acE (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 768] S1024x256.size inb_S1024x5632_S1024x256_0_768).toLoadRect (w11.unread x10))) (shapeCast (s := S1x16x256) S16x256 (View.readAt (Elt F) t16.view (Rect.unit (s := S11x16x256) ![3, 0, 0] S1x16x256.size inb_S11x16x256_S1x16x256_3_0_0).toLoadRect (w16.unread xs0)) shapeCasts_S1x16x256_S16x256) (View.readAt (Elt F) t12.view (Rect.unit (s := S3x5632) ![0, 768] S3x256.size inb_S3x5632_S3x256_0_768).toLoadRect (w12.unread x11)) (View.readAt (Elt F) t13.view (Rect.unit (s := S1x5632) ![0, 768] S1x256.size inb_S1x5632_S1x256_0_768).toLoadRect (w13.unread x12)))
      (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 3584] S1024x256.size inb_S1024x5632_S1024x256_0_3584).toLoadRect (w11.unread x10))) (shapeCast (s := S1x16x256) S16x256 (View.readAt (Elt F) t17.view (Rect.unit (s := S11x16x256) ![3, 0, 0] S1x16x256.size inb_S11x16x256_S1x16x256_3_0_0).toLoadRect (w17.unread xs1)) shapeCasts_S1x16x256_S16x256) (View.readAt (Elt F) t12.view (Rect.unit (s := S3x5632) ![0, 3584] S3x256.size inb_S3x5632_S3x256_0_3584).toLoadRect (w12.unread x11)) (View.readAt (Elt F) t13.view (Rect.unit (s := S1x5632) ![0, 3584] S1x256.size inb_S1x5632_S1x256_0_3584).toLoadRect (w13.unread x12))) := rfl

/-- The products of chunk 4. -/
theorem act4 : k0_pay365 (kernelRun0_B.sl.r_60 c t1 w1 t2 w2 t3 w3 t4 w4 t5 w5 t6 w6 t7 w7 t8 w8 t9 w9 t10 w10 t11 w11 t12 w12 t13 w13 t16 w16 t19 x0 x1 x2 x3 x4 x5 x6 x7 x8 x9 x10 x11 x12 xs0) (kernelRun0_B.sl.r_61 c t1 w1 t2 w2 t3 w3 t4 w4 t5 w5 t6 w6 t7 w7 t8 w8 t9 w9 t10 w10 t11 w11 t12 w12 t13 w13 t17 w17 t19 x0 x1 x2 x3 x4 x5 x6 x7 x8 x9 x10 x11 x12 xs1)
    = acE (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 1024] S1024x256.size inb_S1024x5632_S1024x256_0_1024).toLoadRect (w11.unread x10))) (shapeCast (s := S1x16x256) S16x256 (View.readAt (Elt F) t16.view (Rect.unit (s := S11x16x256) ![4, 0, 0] S1x16x256.size inb_S11x16x256_S1x16x256_4_0_0).toLoadRect (w16.unread xs0)) shapeCasts_S1x16x256_S16x256) (View.readAt (Elt F) t12.view (Rect.unit (s := S3x5632) ![0, 1024] S3x256.size inb_S3x5632_S3x256_0_1024).toLoadRect (w12.unread x11)) (View.readAt (Elt F) t13.view (Rect.unit (s := S1x5632) ![0, 1024] S1x256.size inb_S1x5632_S1x256_0_1024).toLoadRect (w13.unread x12)))
      (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 3840] S1024x256.size inb_S1024x5632_S1024x256_0_3840).toLoadRect (w11.unread x10))) (shapeCast (s := S1x16x256) S16x256 (View.readAt (Elt F) t17.view (Rect.unit (s := S11x16x256) ![4, 0, 0] S1x16x256.size inb_S11x16x256_S1x16x256_4_0_0).toLoadRect (w17.unread xs1)) shapeCasts_S1x16x256_S16x256) (View.readAt (Elt F) t12.view (Rect.unit (s := S3x5632) ![0, 3840] S3x256.size inb_S3x5632_S3x256_0_3840).toLoadRect (w12.unread x11)) (View.readAt (Elt F) t13.view (Rect.unit (s := S1x5632) ![0, 3840] S1x256.size inb_S1x5632_S1x256_0_3840).toLoadRect (w13.unread x12))) := rfl

/-- The products of chunk 5. -/
theorem act5 : k0_pay384 (kernelRun0_B.sl.r_80 c t1 w1 t2 w2 t3 w3 t4 w4 t5 w5 t6 w6 t7 w7 t8 w8 t9 w9 t10 w10 t11 w11 t12 w12 t13 w13 t16 w16 t17 w17 t19 x0 x1 x2 x3 x4 x5 x6 x7 x8 x9 x10 x11 x12 xs0 xs1)
    = acE (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 1280] S1024x256.size inb_S1024x5632_S1024x256_0_1280).toLoadRect (w11.unread x10))) (shapeCast (s := S1x16x256) S16x256 (View.readAt (Elt F) t16.view (Rect.unit (s := S11x16x256) ![5, 0, 0] S1x16x256.size inb_S11x16x256_S1x16x256_5_0_0).toLoadRect (w16.unread xs0)) shapeCasts_S1x16x256_S16x256) (View.readAt (Elt F) t12.view (Rect.unit (s := S3x5632) ![0, 1280] S3x256.size inb_S3x5632_S3x256_0_1280).toLoadRect (w12.unread x11)) (View.readAt (Elt F) t13.view (Rect.unit (s := S1x5632) ![0, 1280] S1x256.size inb_S1x5632_S1x256_0_1280).toLoadRect (w13.unread x12)))
      (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 4096] S1024x256.size inb_S1024x5632_S1024x256_0_4096).toLoadRect (w11.unread x10))) (shapeCast (s := S1x16x256) S16x256 (View.readAt (Elt F) t17.view (Rect.unit (s := S11x16x256) ![5, 0, 0] S1x16x256.size inb_S11x16x256_S1x16x256_5_0_0).toLoadRect (w17.unread xs1)) shapeCasts_S1x16x256_S16x256) (View.readAt (Elt F) t12.view (Rect.unit (s := S3x5632) ![0, 4096] S3x256.size inb_S3x5632_S3x256_0_4096).toLoadRect (w12.unread x11)) (View.readAt (Elt F) t13.view (Rect.unit (s := S1x5632) ![0, 4096] S1x256.size inb_S1x5632_S1x256_0_4096).toLoadRect (w13.unread x12))) := rfl

/-- The products of chunk 6. -/
theorem act6 : k0_pay402 (kernelRun0_B.sl.r_82 c t1 w1 t2 w2 t3 w3 t4 w4 t5 w5 t6 w6 t7 w7 t8 w8 t9 w9 t10 w10 t11 w11 t19 x0 x1 x2 x3 x4 x5 x6 x7 x8 x9 x10) (kernelRun0_B.sl.r_88 c t1 w1 t2 w2 t3 w3 t4 w4 t5 w5 t6 w6 t7 w7 t8 w8 t9 w9 t10 w10 t11 w11 t12 w12 t13 w13 t16 w16 t19 x0 x1 x2 x3 x4 x5 x6 x7 x8 x9 x10 x11 x12 xs0) (kernelRun0_B.sl.r_89 c t13 w13 x12) (kernelRun0_B.sl.r_90 c t1 w1 t2 w2 t3 w3 t4 w4 t5 w5 t6 w6 t7 w7 t8 w8 t9 w9 t10 w10 t11 w11 t12 w12 t17 w17 t19 x0 x1 x2 x3 x4 x5 x6 x7 x8 x9 x10 x11 xs1) (kernelRun0_B.sl.r_91 c t12 w12 x11) k0_pay396 (kernelRun0_B.sl.r_92 c t1 w1 t2 w2 t3 w3 t4 w4 t5 w5 t6 w6 t7 w7 t8 w8 t9 w9 t10 w10 t11 w11 t17 w17 t19 x0 x1 x2 x3 x4 x5 x6 x7 x8 x9 x10 xs1) (kernelRun0_B.sl.r_93 c t1 w1 t2 w2 t3 w3 t4 w4 t5 w5 t6 w6 t7 w7 t8 w8 t9 w9 t10 w10 t11 w11 t19 x0 x1 x2 x3 x4 x5 x6 x7 x8 x9 x10) (kernelRun0_B.sl.r_94 c t17 w17 xs1) 1#32
    = acE (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 1536] S1024x256.size inb_S1024x5632_S1024x256_0_1536).toLoadRect (w11.unread x10))) (shapeCast (s := S1x16x256) S16x256 (View.readAt (Elt F) t16.view (Rect.unit (s := S11x16x256) ![6, 0, 0] S1x16x256.size inb_S11x16x256_S1x16x256_6_0_0).toLoadRect (w16.unread xs0)) shapeCasts_S1x16x256_S16x256) (View.readAt (Elt F) t12.view (Rect.unit (s := S3x5632) ![0, 1536] S3x256.size inb_S3x5632_S3x256_0_1536).toLoadRect (w12.unread x11)) (View.readAt (Elt F) t13.view (Rect.unit (s := S1x5632) ![0, 1536] S1x256.size inb_S1x5632_S1x256_0_1536).toLoadRect (w13.unread x12)))
      (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 4352] S1024x256.size inb_S1024x5632_S1024x256_0_4352).toLoadRect (w11.unread x10))) (shapeCast (s := S1x16x256) S16x256 (View.readAt (Elt F) t17.view (Rect.unit (s := S11x16x256) ![6, 0, 0] S1x16x256.size inb_S11x16x256_S1x16x256_6_0_0).toLoadRect (w17.unread xs1)) shapeCasts_S1x16x256_S16x256) (View.readAt (Elt F) t12.view (Rect.unit (s := S3x5632) ![0, 4352] S3x256.size inb_S3x5632_S3x256_0_4352).toLoadRect (w12.unread x11)) (View.readAt (Elt F) t13.view (Rect.unit (s := S1x5632) ![0, 4352] S1x256.size inb_S1x5632_S1x256_0_4352).toLoadRect (w13.unread x12))) := rfl

/-- The products of chunk 7. -/
theorem act7 : k0_pay411 (kernelRun0_B.sl.r_97 c t1 w1 t2 w2 t3 w3 t4 w4 t5 w5 t6 w6 t7 w7 t8 w8 t9 w9 t10 w10 t11 w11 t12 w12 t13 w13 t16 w16 t19 x0 x1 x2 x3 x4 x5 x6 x7 x8 x9 x10 x11 x12 xs0) (kernelRun0_B.sl.r_99 c t1 w1 t2 w2 t3 w3 t4 w4 t5 w5 t6 w6 t7 w7 t8 w8 t9 w9 t10 w10 t11 w11 t12 w12 t13 w13 t17 w17 t19 x0 x1 x2 x3 x4 x5 x6 x7 x8 x9 x10 x11 x12 xs1)
    = acE (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 1792] S1024x256.size inb_S1024x5632_S1024x256_0_1792).toLoadRect (w11.unread x10))) (shapeCast (s := S1x16x256) S16x256 (View.readAt (Elt F) t16.view (Rect.unit (s := S11x16x256) ![7, 0, 0] S1x16x256.size inb_S11x16x256_S1x16x256_7_0_0).toLoadRect (w16.unread xs0)) shapeCasts_S1x16x256_S16x256) (View.readAt (Elt F) t12.view (Rect.unit (s := S3x5632) ![0, 1792] S3x256.size inb_S3x5632_S3x256_0_1792).toLoadRect (w12.unread x11)) (View.readAt (Elt F) t13.view (Rect.unit (s := S1x5632) ![0, 1792] S1x256.size inb_S1x5632_S1x256_0_1792).toLoadRect (w13.unread x12)))
      (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 4608] S1024x256.size inb_S1024x5632_S1024x256_0_4608).toLoadRect (w11.unread x10))) (shapeCast (s := S1x16x256) S16x256 (View.readAt (Elt F) t17.view (Rect.unit (s := S11x16x256) ![7, 0, 0] S1x16x256.size inb_S11x16x256_S1x16x256_7_0_0).toLoadRect (w17.unread xs1)) shapeCasts_S1x16x256_S16x256) (View.readAt (Elt F) t12.view (Rect.unit (s := S3x5632) ![0, 4608] S3x256.size inb_S3x5632_S3x256_0_4608).toLoadRect (w12.unread x11)) (View.readAt (Elt F) t13.view (Rect.unit (s := S1x5632) ![0, 4608] S1x256.size inb_S1x5632_S1x256_0_4608).toLoadRect (w13.unread x12))) := rfl

/-- The products of chunk 8. -/
theorem act8 : k0_pay428 (kernelRun0_B.sl.r_117 c t1 w1 t2 w2 t3 w3 t4 w4 t5 w5 t6 w6 t7 w7 t8 w8 t9 w9 t10 w10 t11 w11 t12 w12 t13 w13 t16 w16 t17 w17 t19 x0 x1 x2 x3 x4 x5 x6 x7 x8 x9 x10 x11 x12 xs0 xs1)
    = acE (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 2048] S1024x256.size inb_S1024x5632_S1024x256_0_2048).toLoadRect (w11.unread x10))) (shapeCast (s := S1x16x256) S16x256 (View.readAt (Elt F) t16.view (Rect.unit (s := S11x16x256) ![8, 0, 0] S1x16x256.size inb_S11x16x256_S1x16x256_8_0_0).toLoadRect (w16.unread xs0)) shapeCasts_S1x16x256_S16x256) (View.readAt (Elt F) t12.view (Rect.unit (s := S3x5632) ![0, 2048] S3x256.size inb_S3x5632_S3x256_0_2048).toLoadRect (w12.unread x11)) (View.readAt (Elt F) t13.view (Rect.unit (s := S1x5632) ![0, 2048] S1x256.size inb_S1x5632_S1x256_0_2048).toLoadRect (w13.unread x12)))
      (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 4864] S1024x256.size inb_S1024x5632_S1024x256_0_4864).toLoadRect (w11.unread x10))) (shapeCast (s := S1x16x256) S16x256 (View.readAt (Elt F) t17.view (Rect.unit (s := S11x16x256) ![8, 0, 0] S1x16x256.size inb_S11x16x256_S1x16x256_8_0_0).toLoadRect (w17.unread xs1)) shapeCasts_S1x16x256_S16x256) (View.readAt (Elt F) t12.view (Rect.unit (s := S3x5632) ![0, 4864] S3x256.size inb_S3x5632_S3x256_0_4864).toLoadRect (w12.unread x11)) (View.readAt (Elt F) t13.view (Rect.unit (s := S1x5632) ![0, 4864] S1x256.size inb_S1x5632_S1x256_0_4864).toLoadRect (w13.unread x12))) := rfl

/-- The products of chunk 9. -/
theorem act9 : k0_pay448 (kernelRun0_B.sl.r_119 c t1 w1 t2 w2 t3 w3 t4 w4 t5 w5 t6 w6 t7 w7 t8 w8 t9 w9 t10 w10 t11 w11 t19 x0 x1 x2 x3 x4 x5 x6 x7 x8 x9 x10) (kernelRun0_B.sl.r_126 c t1 w1 t2 w2 t3 w3 t4 w4 t5 w5 t6 w6 t7 w7 t8 w8 t9 w9 t10 w10 t11 w11 t12 w12 t13 w13 t16 w16 t19 x0 x1 x2 x3 x4 x5 x6 x7 x8 x9 x10 x11 x12 xs0) (kernelRun0_B.sl.r_127 c t13 w13 x12) (kernelRun0_B.sl.r_128 c t1 w1 t2 w2 t3 w3 t4 w4 t5 w5 t6 w6 t7 w7 t8 w8 t9 w9 t10 w10 t11 w11 t12 w12 t17 w17 t19 x0 x1 x2 x3 x4 x5 x6 x7 x8 x9 x10 x11 xs1) (kernelRun0_B.sl.r_129 c t12 w12 x11) k0_pay442 (kernelRun0_B.sl.r_130 c t1 w1 t2 w2 t3 w3 t4 w4 t5 w5 t6 w6 t7 w7 t8 w8 t9 w9 t10 w10 t11 w11 t17 w17 t19 x0 x1 x2 x3 x4 x5 x6 x7 x8 x9 x10 xs1) (kernelRun0_B.sl.r_131 c t17 w17 xs1) (kernelRun0_B.sl.r_132 c t1 w1 t2 w2 t3 w3 t4 w4 t5 w5 t6 w6 t7 w7 t8 w8 t9 w9 t10 w10 t11 w11 t19 x0 x1 x2 x3 x4 x5 x6 x7 x8 x9 x10)
    = acE (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 2304] S1024x256.size inb_S1024x5632_S1024x256_0_2304).toLoadRect (w11.unread x10))) (shapeCast (s := S1x16x256) S16x256 (View.readAt (Elt F) t16.view (Rect.unit (s := S11x16x256) ![9, 0, 0] S1x16x256.size inb_S11x16x256_S1x16x256_9_0_0).toLoadRect (w16.unread xs0)) shapeCasts_S1x16x256_S16x256) (View.readAt (Elt F) t12.view (Rect.unit (s := S3x5632) ![0, 2304] S3x256.size inb_S3x5632_S3x256_0_2304).toLoadRect (w12.unread x11)) (View.readAt (Elt F) t13.view (Rect.unit (s := S1x5632) ![0, 2304] S1x256.size inb_S1x5632_S1x256_0_2304).toLoadRect (w13.unread x12)))
      (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 5120] S1024x256.size inb_S1024x5632_S1024x256_0_5120).toLoadRect (w11.unread x10))) (shapeCast (s := S1x16x256) S16x256 (View.readAt (Elt F) t17.view (Rect.unit (s := S11x16x256) ![9, 0, 0] S1x16x256.size inb_S11x16x256_S1x16x256_9_0_0).toLoadRect (w17.unread xs1)) shapeCasts_S1x16x256_S16x256) (View.readAt (Elt F) t12.view (Rect.unit (s := S3x5632) ![0, 5120] S3x256.size inb_S3x5632_S3x256_0_5120).toLoadRect (w12.unread x11)) (View.readAt (Elt F) t13.view (Rect.unit (s := S1x5632) ![0, 5120] S1x256.size inb_S1x5632_S1x256_0_5120).toLoadRect (w13.unread x12))) := rfl

/-- The products of chunk 10. -/
theorem act10 : k0_pay458 (kernelRun0_B.sl.r_136 c t1 w1 t2 w2 t3 w3 t4 w4 t5 w5 t6 w6 t7 w7 t8 w8 t9 w9 t10 w10 t11 w11 t12 w12 t13 w13 t16 w16 t19 x0 x1 x2 x3 x4 x5 x6 x7 x8 x9 x10 x11 x12 xs0) (kernelRun0_B.sl.r_139 c t1 w1 t2 w2 t3 w3 t4 w4 t5 w5 t6 w6 t7 w7 t8 w8 t9 w9 t10 w10 t11 w11 t12 w12 t13 w13 t17 w17 t19 x0 x1 x2 x3 x4 x5 x6 x7 x8 x9 x10 x11 x12 xs1)
    = acE (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 2560] S1024x256.size inb_S1024x5632_S1024x256_0_2560).toLoadRect (w11.unread x10))) (shapeCast (s := S1x16x256) S16x256 (View.readAt (Elt F) t16.view (Rect.unit (s := S11x16x256) ![10, 0, 0] S1x16x256.size inb_S11x16x256_S1x16x256_10_0_0).toLoadRect (w16.unread xs0)) shapeCasts_S1x16x256_S16x256) (View.readAt (Elt F) t12.view (Rect.unit (s := S3x5632) ![0, 2560] S3x256.size inb_S3x5632_S3x256_0_2560).toLoadRect (w12.unread x11)) (View.readAt (Elt F) t13.view (Rect.unit (s := S1x5632) ![0, 2560] S1x256.size inb_S1x5632_S1x256_0_2560).toLoadRect (w13.unread x12)))
      (cvE (upE (kernelRun0_B.sl.r_6 c t1 w1 t2 w2 t3 w3 t4 w4 t5 w5 t6 w6 t7 w7 t8 w8 t9 w9 t10 w10 t19 x0 x1 x2 x3 x4 x5 x6 x7 x8 x9) (View.readAt (Elt F) t11.view (Rect.unit (s := S1024x5632) ![0, 5376] S1024x256.size inb_S1024x5632_S1024x256_0_5376).toLoadRect (w11.unread x10))) (shapeCast (s := S1x16x256) S16x256 (View.readAt (Elt F) t17.view (Rect.unit (s := S11x16x256) ![10, 0, 0] S1x16x256.size inb_S11x16x256_S1x16x256_10_0_0).toLoadRect (w17.unread xs1)) shapeCasts_S1x16x256_S16x256) (View.readAt (Elt F) t12.view (Rect.unit (s := S3x5632) ![0, 5376] S3x256.size inb_S3x5632_S3x256_0_5376).toLoadRect (w12.unread x11)) (View.readAt (Elt F) t13.view (Rect.unit (s := S1x5632) ![0, 5376] S1x256.size inb_S1x5632_S1x256_0_5376).toLoadRect (w13.unread x12))) := rfl

end

section
variable (c : Dev nD)
  (t1 : Memref sig .tc .vmem S512x1024 .f32) (w1 : t1.IsWhole)
  (t2 : Memref sig .tc .vmem S1x6x1024 .f32) (w2 : t2.IsWhole)
  (t3 : Memref sig .tc .vmem S512x512 .bf16) (w3 : t3.IsWhole)
  (t4 : Memref sig .tc .vmem S512x512 .bf16) (w4 : t4.IsWhole)
  (t5 : Memref sig .tc .vmem S512x1024 .bf16) (w5 : t5.IsWhole)
  (t6 : Memref sig .tc .vmem S512x1024 .bf16) (w6 : t6.IsWhole)
  (t7 : Memref sig .tc .vmem S512x1024 .bf16) (w7 : t7.IsWhole)
  (t8 : Memref sig .tc .vmem S512x1024 .bf16) (w8 : t8.IsWhole)
  (t9 : Memref sig .tc .vmem S1024x1024 .bf16) (w9 : t9.IsWhole)
  (t10 : Memref sig .tc .vmem S1x1024 .f32) (w10 : t10.IsWhole)
  (t11 : Memref sig .tc .vmem S1024x5632 .bf16) (w11 : t11.IsWhole)
  (t12 : Memref sig .tc .vmem S3x5632 .f32) (w12 : t12.IsWhole)
  (t13 : Memref sig .tc .vmem S1x5632 .f32) (w13 : t13.IsWhole)
  (t14 : Memref sig .tc .vmem S2816x1024 .bf16) (w14 : t14.IsWhole)
  (t15 : Memref sig .tc .vmem S512x1024 .f32) (w15 : t15.IsWhole)
  (t16 : Memref sig .tc .vmem S11x16x256 .f32) (w16 : t16.IsWhole)
  (t17 : Memref sig .tc .vmem S11x16x256 .f32) (w17 : t17.IsWhole)
  (t18 : Memref sig .tc .vmem S512x2816 .bf16) (w18 : t18.IsWhole)
  (t19 : Memref sig .tc .vmem S8x576x128 .f32) (w19 : t19.IsWhole)
  (x0 : Vec Ideal S512x1024 .f32)  (x1 : Vec Ideal S1x6x1024 .f32)  (x2 : Vec Ideal S512x512 .bf16)  (x3 : Vec Ideal S512x512 .bf16)  (x4 : Vec Ideal S512x1024 .bf16)  (x5 : Vec Ideal S512x1024 .bf16)  (x6 : Vec Ideal S512x1024 .bf16)  (x7 : Vec Ideal S512x1024 .bf16)  (x8 : Vec Ideal S1024x1024 .bf16)  (x9 : Vec Ideal S1x1024 .f32)  (x10 : Vec Ideal S1024x5632 .bf16)  (x11 : Vec Ideal S3x5632 .f32)  (x12 : Vec Ideal S1x5632 .f32)  (x13 : Vec Ideal S2816x1024 .bf16)
  (xs0 xs1 : Vec Ideal S11x16x256 .f32)

/-- The up-projection of the tile. -/
def uT : ℕ → ℕ → EReal := uN (kernelRun0_B.sl.r_6 (F := Ideal) c t1 w1 t2 w2 t3 w3 t4 w4 t5 w5 t6 w6 t7 w7 t8 w8 t9 w9 t10 w10 t19 x0 x1 x2 x3 x4 x5 x6 x7 x8 x9) x10

/-- What the scratch of products holds. -/
theorem kA : Known (Val := Elt Ideal) (e := .bf16) (gA (actN (uT c t1 w1 t2 w2 t3 w3 t4 w4 t5 w5 t6 w6 t7 w7 t8 w8 t9 w9 t10 w10 t19 x0 x1 x2 x3 x4 x5 x6 x7 x8 x9 x10) x11 x12 (pN xs0) (pN xs1))) aRect 11 (kernelRun0_B.sl.HS2_11 (F := Ideal) c t1 w1 t2 w2 t3 w3 t4 w4 t5 w5 t6 w6 t7 w7 t8 w8 t9 w9 t10 w10 t11 w11 t12 w12 t13 w13 t16 w16 t17 w17 t19 x0 x1 x2 x3 x4 x5 x6 x7 x8 x9 x10 x11 x12 xs0 xs1) := by
  refine stepA ?_ (by decide) 2560 5376 rfl rfl (act10 (F := Ideal) ..)
    (fun r q => upE_N _ x10 2560 (fun j q => ldW w11 x10 2560 2560 rfl _ j q) r q) (fun r q => upE_N _ x10 5376 (fun j q => ldW w11 x10 5376 5376 rfl _ j q) r q) (fun i q => ldP w16 xs0 10 (by decide) _ _ i q) (fun i q => ldP w17 xs1 10 (by decide) _ _ i q) (fun j q => ldW w12 x11 2560 2560 rfl _ j q) (fun j q => ldW w12 x11 5376 5376 rfl _ j q) (fun j q => ldW w13 x12 2560 2560 rfl _ j q) (fun j q => ldW w13 x12 5376 5376 rfl _ j q)
  refine stepA ?_ (by decide) 2304 5120 rfl rfl (act9 (F := Ideal) ..)
    (fun r q => upE_N _ x10 2304 (fun j q => ldW w11 x10 2304 2304 rfl _ j q) r q) (fun r q => upE_N _ x10 5120 (fun j q => ldW w11 x10 5120 5120 rfl _ j q) r q) (fun i q => ldP w16 xs0 9 (by decide) _ _ i q) (fun i q => ldP w17 xs1 9 (by decide) _ _ i q) (fun j q => ldW w12 x11 2304 2304 rfl _ j q) (fun j q => ldW w12 x11 5120 5120 rfl _ j q) (fun j q => ldW w13 x12 2304 2304 rfl _ j q) (fun j q => ldW w13 x12 5120 5120 rfl _ j q)
  refine stepA ?_ (by decide) 2048 4864 rfl rfl (act8 (F := Ideal) ..)
    (fun r q => upE_N _ x10 2048 (fun j q => ldW w11 x10 2048 2048 rfl _ j q) r q) (fun r q => upE_N _ x10 4864 (fun j q => ldW w11 x10 4864 4864 rfl _ j q) r q) (fun i q => ldP w16 xs0 8 (by decide) _ _ i q) (fun i q => ldP w17 xs1 8 (by decide) _ _ i q) (fun j q => ldW w12 x11 2048 2048 rfl _ j q) (fun j q => ldW w12 x11 4864 4864 rfl _ j q) (fun j q => ldW w13 x12 2048 2048 rfl _ j q) (fun j q => ldW w13 x12 4864 4864 rfl _ j q)
  refine stepA ?_ (by decide) 1792 4608 rfl rfl (act7 (F := Ideal) ..)
    (fun r q => upE_N _ x10 1792 (fun j q => ldW w11 x10 1792 1792 rfl _ j q) r q) (fun r q => upE_N _ x10 4608 (fun j q => ldW w11 x10 4608 4608 rfl _ j q) r q) (fun i q => ldP w16 xs0 7 (by decide) _ _ i q) (fun i q => ldP w17 xs1 7 (by decide) _ _ i q) (fun j q => ldW w12 x11 1792 1792 rfl _ j q) (fun j q => ldW w12 x11 4608 4608 rfl _ j q) (fun j q => ldW w13 x12 1792 1792 rfl _ j q) (fun j q => ldW w13 x12 4608 4608 rfl _ j q)
  refine stepA ?_ (by decide) 1536 4352 rfl rfl (act6 (F := Ideal) ..)
    (fun r q => upE_N _ x10 1536 (fun j q => ldW w11 x10 1536 1536 rfl _ j q) r q) (fun r q => upE_N _ x10 4352 (fun j q => ldW w11 x10 4352 4352 rfl _ j q) r q) (fun i q => ldP w16 xs0 6 (by decide) _ _ i q) (fun i q => ldP w17 xs1 6 (by decide) _ _ i q) (fun j q => ldW w12 x11 1536 1536 rfl _ j q) (fun j q => ldW w12 x11 4352 4352 rfl _ j q) (fun j q => ldW w13 x12 1536 1536 rfl _ j q) (fun j q => ldW w13 x12 4352 4352 rfl _ j q)
  refine stepA ?_ (by decide) 1280 4096 rfl rfl (act5 (F := Ideal) ..)
    (fun r q => upE_N _ x10 1280 (fun j q => ldW w11 x10 1280 1280 rfl _ j q) r q) (fun r q => upE_N _ x10 4096 (fun j q => ldW w11 x10 4096 4096 rfl _ j q) r q) (fun i q => ldP w16 xs0 5 (by decide) _ _ i q) (fun i q => ldP w17 xs1 5 (by decide) _ _ i q) (fun j q => ldW w12 x11 1280 1280 rfl _ j q) (fun j q => ldW w12 x11 4096 4096 rfl _ j q) (fun j q => ldW w13 x12 1280 1280 rfl _ j q) (fun j q => ldW w13 x12 4096 4096 rfl _ j q)
  refine stepA ?_ (by decide) 1024 3840 rfl rfl (act4 (F := Ideal) ..)
    (fun r q => upE_N _ x10 1024 (fun j q => ldW w11 x10 1024 1024 rfl _ j q) r q) (fun r q => upE_N _ x10 3840 (fun j q => ldW w11 x10 3840 3840 rfl _ j q) r q) (fun i q => ldP w16 xs0 4 (by decide) _ _ i q) (fun i q => ldP w17 xs1 4 (by decide) _ _ i q) (fun j q => ldW w12 x11 1024 1024 rfl _ j q) (fun j q => ldW w12 x11 3840 3840 rfl _ j q) (fun j q => ldW w13 x12 1024 1024 rfl _ j q) (fun j q => ldW w13 x12 3840 3840 rfl _ j q)
  refine stepA ?_ (by decide) 768 3584 rfl rfl (act3 (F := Ideal) ..)
    (fun r q => upE_N _ x10 768 (fun j q => ldW w11 x10 768 768 rfl _ j q) r q) (fun r q => upE_N _ x10 3584 (fun j q => ldW w11 x10 3584 3584 rfl _ j q) r q) (fun i q => ldP w16 xs0 3 (by decide) _ _ i q) (fun i q => ldP w17 xs1 3 (by decide) _ _ i q) (fun j q => ldW w12 x11 768 768 rfl _ j q) (fun j q => ldW w12 x11 3584 3584 rfl _ j q) (fun j q => ldW w13 x12 768 768 rfl _ j q) (fun j q => ldW w13 x12 3584 3584 rfl _ j q)
  refine stepA ?_ (by decide) 512 3328 rfl rfl (act2 (F := Ideal) ..)
    (fun r q => upE_N _ x10 512 (fun j q => ldW w11 x10 512 512 rfl _ j q) r q) (fun r q => upE_N _ x10 3328 (fun j q => ldW w11 x10 3328 3328 rfl _ j q) r q) (fun i q => ldP w16 xs0 2 (by decide) _ _ i q) (fun i q => ldP w17 xs1 2 (by decide) _ _ i q) (fun j q => ldW w12 x11 512 512 rfl _ j q) (fun j q => ldW w12 x11 3328 3328 rfl _ j q) (fun j q => ldW w13 x12 512 512 rfl _ j q) (fun j q => ldW w13 x12 3328 3328 rfl _ j q)
  refine stepA ?_ (by decide) 256 3072 rfl rfl (act1 (F := Ideal) ..)
    (fun r q => upE_N _ x10 256 (fun j q => ldW w11 x10 256 256 rfl _ j q) r q) (fun r q => upE_N _ x10 3072 (fun j q => ldW w11 x10 3072 3072 rfl _ j q) r q) (fun i q => ldP w16 xs0 1 (by decide) _ _ i q) (fun i q => ldP w17 xs1 1 (by decide) _ _ i q) (fun j q => ldW w12 x11 256 256 rfl _ j q) (fun j q => ldW w12 x11 3072 3072 rfl _ j q) (fun j q => ldW w13 x12 256 256 rfl _ j q) (fun j q => ldW w13 x12 3072 3072 rfl _ j q)
  refine stepA ?_ (by decide) 0 2816 rfl rfl (act0 (F := Ideal) ..)
    (fun r q => upE_N _ x10 0 (fun j q => ldW w11 x10 0 0 rfl _ j q) r q) (fun r q => upE_N _ x10 2816 (fun j q => ldW w11 x10 2816 2816 rfl _ j q) r q) (fun i q => ldP w16 xs0 0 (by decide) _ _ i q) (fun i q => ldP w17 xs1 0 (by decide) _ _ i q) (fun j q => ldW w12 x11 0 0 rfl _ j q) (fun j q => ldW w12 x11 2816 2816 rfl _ j q) (fun j q => ldW w13 x12 0 0 rfl _ j q) (fun j q => ldW w13 x12 2816 2816 rfl _ j q)
  exact Known.zero _ _ _

end

end Cert.Ff.B
-- ==== Proof.Ff.OutB.lean ====
module

public import proofs.«01_k».proof.Proof.Ff.ConvB

@[expose] public section

set_option maxRecDepth 65536

/-! The second staging: a tile's result from strided order to token order, and the stores' lists. -/

noncomputable section

namespace Cert.Ff.B

open Cert.Kernel3Ideal Cert.Kernel3Ideal.Gen Idealize.ShloMosaic Idealize.ShloMosaic.TcCoe Idealize.SL.Sem

section
variable {F : FTy → Type} [FloatOps F] (c : Dev nD) (i : grid0.Coords)
  (t1 : Memref sig .tc .vmem S512x1024 .f32) (w1 : t1.IsWhole)
  (t2 : Memref sig .tc .vmem S1x6x1024 .f32) (w2 : t2.IsWhole)
  (t3 : Memref sig .tc .vmem S512x512 .bf16) (w3 : t3.IsWhole)
  (t4 : Memref sig .tc .vmem S512x512 .bf16) (w4 : t4.IsWhole)
  (t5 : Memref sig .tc .vmem S512x1024 .bf16) (w5 : t5.IsWhole)
  (t6 : Memref sig .tc .vmem S512x1024 .bf16) (w6 : t6.IsWhole)
  (t7 : Memref sig .tc .vmem S512x1024 .bf16) (w7 : t7.IsWhole)
  (t8 : Memref sig .tc .vmem S512x1024 .bf16) (w8 : t8.IsWhole)
  (t9 : Memref sig .tc .vmem S1024x1024 .bf16) (w9 : t9.IsWhole)
  (t10 : Memref sig .tc .vmem S1x1024 .f32) (w10 : t10.IsWhole)
  (t11 : Memref sig .tc .vmem S1024x5632 .bf16) (w11 : t11.IsWhole)
  (t12 : Memref sig .tc .vmem S3x5632 .f32) (w12 : t12.IsWhole)
  (t13 : Memref sig .tc .vmem S1x5632 .f32) (w13 : t13.IsWhole)
  (t14 : Memref sig .tc .vmem S2816x1024 .bf16) (w14 : t14.IsWhole)
  (t15 : Memref sig .tc .vmem S512x1024 .f32) (w15 : t15.IsWhole)
  (t16 : Memref sig .tc .vmem S11x16x256 .f32) (w16 : t16.IsWhole)
  (t17 : Memref sig .tc .vmem S11x16x256 .f32) (w17 : t17.IsWhole)
  (t18 : Memref sig .tc .vmem S512x2816 .bf16) (w18 : t18.IsWhole)
  (t19 : Memref sig .tc .vmem S8x576x128 .f32) (w19 : t19.IsWhole)
  (hc0 : ¬cond0_0 i)
  (x0 : Vec F S512x1024 .f32)  (x1 : Vec F S1x6x1024 .f32)  (x2 : Vec F S512x512 .bf16)  (x3 : Vec F S512x512 .bf16)  (x4 : Vec F S512x1024 .bf16)  (x5 : Vec F S512x1024 .bf16)  (x6 : Vec F S512x1024 .bf16)  (x7 : Vec F S512x1024 .bf16)  (x8 : Vec F S1024x1024 .bf16)  (x9 : Vec F S1x1024 .f32)  (x10 : Vec F S1024x5632 .bf16)  (x11 : Vec F S3x5632 .f32)  (x12 : Vec F S1x5632 .f32)  (x13 : Vec F S2816x1024 .bf16)
  (xs0 xs1 : Vec F S11x16x256 .f32)

/-- The staging in strided order. -/
theorem kS : Known (Val := Elt F) (e := .f32) (gS (kernelRun0_B.sl.r_141 c t1 w1 t2 w2 t3 w3 t4 w4 t5 w5 t6 w6 t7 w7 t8 w8 t9 w9 t10 w10 t11 w11 t12 w12 t13 w13 t14 w14 t16 w16 t17 w17 t18 t19 x0 x1 x2 x3 x4 x5 x6 x7 x8 x9 x10 x11 x12 x13 xs0 xs1)) sR 512 (kernelRun0_B.sl.HS3_576 c t1 w1 t2 w2 t3 w3 t4 w4 t5 w5 t6 w6 t7 w7 t8 w8 t9 w9 t10 w10 t11 w11 t12 w12 t13 w13 t14 w14 t16 w16 t17 w17 t18 t19 x0 x1 x2 x3 x4 x5 x6 x7 x8 x9 x10 x11 x12 x13 xs0 xs1) := by
  iterate 508 refine stepS ?_ _ _ (by rfl) (by rfl) _ _
  iterate 4 refine stepS ?_ _ _ (by rfl) (by rfl) (by decide) (by decide)
  exact Known.zero _ _ _

/-- The result in token order. -/
theorem out (r : Fin 512) (d : Fin 1024) : View.canon (Val := Elt F) (kernelRun0_B (F := F) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13 xs0 xs1).1 (ix2 r d) = xn (kernelRun0_B.sl.r_141 c t1 w1 t2 w2 t3 w3 t4 w4 t5 w5 t6 w6 t7 w7 t8 w8 t9 w9 t10 w10 t11 w11 t12 w12 t13 w13 t14 w14 t16 w16 t17 w17 t18 t19 x0 x1 x2 x3 x4 x5 x6 x7 x8 x9 x10 x11 x12 x13 xs0 xs1) (8 * (r.val % 64) + r.val / 64) d.val := by
  have hk := kS (F := F) c t1 w1 t2 w2 t3 w3 t4 w4 t5 w5 t6 w6 t7 w7 t8 w8 t9 w9 t10 w10 t11 w11 t12 w12 t13 w13 t14 w14 t16 w16 t17 w17 t18 t19 x0 x1 x2 x3 x4 x5 x6 x7 x8 x9 x10 x11 x12 x13 xs0 xs1
  unfold kernelRun0_B
  dsimp only
  refine (congrFun (View.canon_unit_zero (by decide) _ _) _).trans ?_
  refine Cat.rows (a := 64) (b := 1024) (N := 8) (fun r d => xn (kernelRun0_B.sl.r_141 c t1 w1 t2 w2 t3 w3 t4 w4 t5 w5 t6 w6 t7 w7 t8 w8 t9 w9 t10 w10 t11 w11 t12 w12 t13 w13 t14 w14 t16 w16 t17 w17 t18 t19 x0 x1 x2 x3 x4 x5 x6 x7 x8 x9 x10 x11 x12 x13 xs0 xs1) (8 * (r % 64) + r / 64) d) rfl (by decide) rfl (by rfl) ?_ (by exact concatenates_S64x1024_S64x1024_S64x1024_S64x1024_S64x1024_S64x1024_S64x1024_S64x1024_S512x1024_d0) r d
  iterate 8
    refine Cat.cons (segOf ?_ (by rfl) (by exact concatenates_S64x128_S64x128_S64x128_S64x128_S64x128_S64x128_S64x128_S64x128_S64x1024_d1)) ?_
    · iterate 8 refine Cat.cons (fun i l => ldT hk _ _ _ _ (by decide) (by decide) (by rfl) _ _ i l) ?_
      exact Cat.nil _
  exact Cat.nil _

end

section
variable (c : Dev nD) (i : grid0.Coords)
  (t1 : Memref sig .tc .vmem S512x1024 .f32) (w1 : t1.IsWhole)
  (t2 : Memref sig .tc .vmem S1x6x1024 .f32) (w2 : t2.IsWhole)
  (t3 : Memref sig .tc .vmem S512x512 .bf16) (w3 : t3.IsWhole)
  (t4 : Memref sig .tc .vmem S512x512 .bf16) (w4 : t4.IsWhole)
  (t5 : Memref sig .tc .vmem S512x1024 .bf16) (w5 : t5.IsWhole)
  (t6 : Memref sig .tc .vmem S512x1024 .bf16) (w6 : t6.IsWhole)
  (t7 : Memref sig .tc .vmem S512x1024 .bf16) (w7 : t7.IsWhole)
  (t8 : Memref sig .tc .vmem S512x1024 .bf16) (w8 : t8.IsWhole)
  (t9 : Memref sig .tc .vmem S1024x1024 .bf16) (w9 : t9.IsWhole)
  (t10 : Memref sig .tc .vmem S1x1024 .f32) (w10 : t10.IsWhole)
  (t11 : Memref sig .tc .vmem S1024x5632 .bf16) (w11 : t11.IsWhole)
  (t12 : Memref sig .tc .vmem S3x5632 .f32) (w12 : t12.IsWhole)
  (t13 : Memref sig .tc .vmem S1x5632 .f32) (w13 : t13.IsWhole)
  (t14 : Memref sig .tc .vmem S2816x1024 .bf16) (w14 : t14.IsWhole)
  (t15 : Memref sig .tc .vmem S512x1024 .f32) (w15 : t15.IsWhole)
  (t16 : Memref sig .tc .vmem S11x16x256 .f32) (w16 : t16.IsWhole)
  (t17 : Memref sig .tc .vmem S11x16x256 .f32) (w17 : t17.IsWhole)
  (t18 : Memref sig .tc .vmem S512x2816 .bf16) (w18 : t18.IsWhole)
  (t19 : Memref sig .tc .vmem S8x576x128 .f32) (w19 : t19.IsWhole)
  (hc0 : ¬cond0_0 i)
  (x0 : Vec Ideal S512x1024 .f32)  (x1 : Vec Ideal S1x6x1024 .f32)  (x2 : Vec Ideal S512x512 .bf16)  (x3 : Vec Ideal S512x512 .bf16)  (x4 : Vec Ideal S512x1024 .bf16)  (x5 : Vec Ideal S512x1024 .bf16)  (x6 : Vec Ideal S512x1024 .bf16)  (x7 : Vec Ideal S512x1024 .bf16)  (x8 : Vec Ideal S1024x1024 .bf16)  (x9 : Vec Ideal S1x1024 .f32)  (x10 : Vec Ideal S1024x5632 .bf16)  (x11 : Vec Ideal S3x5632 .f32)  (x12 : Vec Ideal S1x5632 .f32)  (x13 : Vec Ideal S2816x1024 .bf16)
  (xs0 xs1 : Vec Ideal S11x16x256 .f32)

end

end Cert.Ff.B
-- ==== Proof.Ff.ValB.lean ====
module

public import proofs.«01_k».proof.Proof.Ff.OutB
public import proofs.«01_k».proof.Proof.Ff.Tok

@[expose] public section

set_option maxRecDepth 65536

/-! The tile's result and the rows it keeps, by its tokens. -/

noncomputable section

namespace Cert.Ff.B

open Cert.Kernel3Ideal Cert.Kernel3Ideal.Gen Idealize.ShloMosaic Idealize.ShloMosaic.TcCoe Idealize.SL.Sem

section
variable {F : FTy → Type} [FloatOps F] (c : Dev nD) (i : grid0.Coords)
  (t1 : Memref sig .tc .vmem S512x1024 .f32) (w1 : t1.IsWhole)
  (t2 : Memref sig .tc .vmem S1x6x1024 .f32) (w2 : t2.IsWhole)
  (t3 : Memref sig .tc .vmem S512x512 .bf16) (w3 : t3.IsWhole)
  (t4 : Memref sig .tc .vmem S512x512 .bf16) (w4 : t4.IsWhole)
  (t5 : Memref sig .tc .vmem S512x1024 .bf16) (w5 : t5.IsWhole)
  (t6 : Memref sig .tc .vmem S512x1024 .bf16) (w6 : t6.IsWhole)
  (t7 : Memref sig .tc .vmem S512x1024 .bf16) (w7 : t7.IsWhole)
  (t8 : Memref sig .tc .vmem S512x1024 .bf16) (w8 : t8.IsWhole)
  (t9 : Memref sig .tc .vmem S1024x1024 .bf16) (w9 : t9.IsWhole)
  (t10 : Memref sig .tc .vmem S1x1024 .f32) (w10 : t10.IsWhole)
  (t11 : Memref sig .tc .vmem S1024x5632 .bf16) (w11 : t11.IsWhole)
  (t12 : Memref sig .tc .vmem S3x5632 .f32) (w12 : t12.IsWhole)
  (t13 : Memref sig .tc .vmem S1x5632 .f32) (w13 : t13.IsWhole)
  (t14 : Memref sig .tc .vmem S2816x1024 .bf16) (w14 : t14.IsWhole)
  (t15 : Memref sig .tc .vmem S512x1024 .f32) (w15 : t15.IsWhole)
  (t16 : Memref sig .tc .vmem S11x16x256 .f32) (w16 : t16.IsWhole)
  (t17 : Memref sig .tc .vmem S11x16x256 .f32) (w17 : t17.IsWhole)
  (t18 : Memref sig .tc .vmem S512x2816 .bf16) (w18 : t18.IsWhole)
  (t19 : Memref sig .tc .vmem S8x576x128 .f32) (w19 : t19.IsWhole)
  (hc0 : ¬cond0_0 i)
  (x0 : Vec F S512x1024 .f32)  (x1 : Vec F S1x6x1024 .f32)  (x2 : Vec F S512x512 .bf16)  (x3 : Vec F S512x512 .bf16)  (x4 : Vec F S512x1024 .bf16)  (x5 : Vec F S512x1024 .bf16)  (x6 : Vec F S512x1024 .bf16)  (x7 : Vec F S512x1024 .bf16)  (x8 : Vec F S1024x1024 .bf16)  (x9 : Vec F S1x1024 .f32)  (x10 : Vec F S1024x5632 .bf16)  (x11 : Vec F S3x5632 .f32)  (x12 : Vec F S1x5632 .f32)  (x13 : Vec F S2816x1024 .bf16)
  (xs0 xs1 : Vec F S11x16x256 .f32)

/-- The residual of the tile. -/
theorem r3_eq : kernelRun0_B.sl.r_3 c t1 w1 t2 w2 t3 w3 t4 w4 t5 w5 t6 w6 t7 w7 t8 w8 t9 w9 x0 x1 x2 x3 x4 x5 x6 x7 x8 = x1V x0 x1 x2 x3 x4 x5 x6 x7 x8 := by
  unfold kernelRun0_B.sl.r_3 kernelRun0_B.sl.r kernelRun0_B.sl.r_1 kernelRun0_B.sl.r_2 x1V
  rw [rdW w1 x0 (by decide) _, rdW w2 x1 (by decide) _, rdW w3 x2 (by decide) _, rdW w4 x3 (by decide) _, rdW w5 x4 (by decide) _, rdW w6 x5 (by decide) _, rdW w7 x6 (by decide) _, rdW w8 x7 (by decide) _, rdW w9 x8 (by decide) _]
  rfl

/-- The normed, modulated rows. -/
theorem r6_eq : kernelRun0_B.sl.r_6 c t1 w1 t2 w2 t3 w3 t4 w4 t5 w5 t6 w6 t7 w7 t8 w8 t9 w9 t10 w10 t19 x0 x1 x2 x3 x4 x5 x6 x7 x8 x9 = k0_pay297 (k0_pay3 x1) (nrV (kernelRun0_B.sl.r_4 c t1 w1 t2 w2 t3 w3 t4 w4 t5 w5 t6 w6 t7 w7 t8 w8 t9 w9 t19 x0 x1 x2 x3 x4 x5 x6 x7 x8)) x9 := by
  unfold kernelRun0_B.sl.r_6 kernelRun0_B.sl.r
  rw [rdW w2 x1 (by decide) _, rdW w10 x9 (by decide) _]
  rfl

/-- The result in strided order. -/
theorem r141_eq : kernelRun0_B.sl.r_141 c t1 w1 t2 w2 t3 w3 t4 w4 t5 w5 t6 w6 t7 w7 t8 w8 t9 w9 t10 w10 t11 w11 t12 w12 t13 w13 t14 w14 t16 w16 t17 w17 t18 t19 x0 x1 x2 x3 x4 x5 x6 x7 x8 x9 x10 x11 x12 x13 xs0 xs1 = k0_pay459 (k0_pay3 x1) (kernelRun0_B.sl.r_4 c t1 w1 t2 w2 t3 w3 t4 w4 t5 w5 t6 w6 t7 w7 t8 w8 t9 w9 t19 x0 x1 x2 x3 x4 x5 x6 x7 x8) (kernelRun0_B.sl.v2617 c t1 w1 t2 w2 t3 w3 t4 w4 t5 w5 t6 w6 t7 w7 t8 w8 t9 w9 t10 w10 t11 w11 t12 w12 t13 w13 t16 w16 t17 w17 t18 t19 x0 x1 x2 x3 x4 x5 x6 x7 x8 x9 x10 x11 x12 xs0 xs1) x13 := by
  unfold kernelRun0_B.sl.r_141 kernelRun0_B.sl.r
  rw [rdW w2 x1 (by decide) _, rdW w14 x13 (by decide) _]

end

section
variable (c : Dev nD) (i : grid0.Coords)
  (t1 : Memref sig .tc .vmem S512x1024 .f32) (w1 : t1.IsWhole)
  (t2 : Memref sig .tc .vmem S1x6x1024 .f32) (w2 : t2.IsWhole)
  (t3 : Memref sig .tc .vmem S512x512 .bf16) (w3 : t3.IsWhole)
  (t4 : Memref sig .tc .vmem S512x512 .bf16) (w4 : t4.IsWhole)
  (t5 : Memref sig .tc .vmem S512x1024 .bf16) (w5 : t5.IsWhole)
  (t6 : Memref sig .tc .vmem S512x1024 .bf16) (w6 : t6.IsWhole)
  (t7 : Memref sig .tc .vmem S512x1024 .bf16) (w7 : t7.IsWhole)
  (t8 : Memref sig .tc .vmem S512x1024 .bf16) (w8 : t8.IsWhole)
  (t9 : Memref sig .tc .vmem S1024x1024 .bf16) (w9 : t9.IsWhole)
  (t10 : Memref sig .tc .vmem S1x1024 .f32) (w10 : t10.IsWhole)
  (t11 : Memref sig .tc .vmem S1024x5632 .bf16) (w11 : t11.IsWhole)
  (t12 : Memref sig .tc .vmem S3x5632 .f32) (w12 : t12.IsWhole)
  (t13 : Memref sig .tc .vmem S1x5632 .f32) (w13 : t13.IsWhole)
  (t14 : Memref sig .tc .vmem S2816x1024 .bf16) (w14 : t14.IsWhole)
  (t15 : Memref sig .tc .vmem S512x1024 .f32) (w15 : t15.IsWhole)
  (t16 : Memref sig .tc .vmem S11x16x256 .f32) (w16 : t16.IsWhole)
  (t17 : Memref sig .tc .vmem S11x16x256 .f32) (w17 : t17.IsWhole)
  (t18 : Memref sig .tc .vmem S512x2816 .bf16) (w18 : t18.IsWhole)
  (t19 : Memref sig .tc .vmem S8x576x128 .f32) (w19 : t19.IsWhole)
  (hc0 : ¬cond0_0 i)
  (x0 : Vec Ideal S512x1024 .f32)  (x1 : Vec Ideal S1x6x1024 .f32)  (x2 : Vec Ideal S512x512 .bf16)  (x3 : Vec Ideal S512x512 .bf16)  (x4 : Vec Ideal S512x1024 .bf16)  (x5 : Vec Ideal S512x1024 .bf16)  (x6 : Vec Ideal S512x1024 .bf16)  (x7 : Vec Ideal S512x1024 .bf16)  (x8 : Vec Ideal S1024x1024 .bf16)  (x9 : Vec Ideal S1x1024 .f32)  (x10 : Vec Ideal S1024x5632 .bf16)  (x11 : Vec Ideal S3x5632 .f32)  (x12 : Vec Ideal S1x5632 .f32)  (x13 : Vec Ideal S2816x1024 .bf16)
  (xs0 xs1 : Vec Ideal S11x16x256 .f32)

/-- The residual in strided order, from token order. -/
theorem h4 (r : Fin 512) (d : Fin 1024) : kernelRun0_B.sl.r_4 (F := Ideal) c t1 w1 t2 w2 t3 w3 t4 w4 t5 w5 t6 w6 t7 w7 t8 w8 t9 w9 t19 x0 x1 x2 x3 x4 x5 x6 x7 x8 (ix2 r d) = xn (α := EReal) (x1V (F := Ideal) x0 x1 x2 x3 x4 x5 x6 x7 x8) (tok r.val) d.val :=
  (rows (F := Ideal) c t1 w1 t2 w2 t3 w3 t4 w4 t5 w5 t6 w6 t7 w7 t8 w8 t9 w9 t19 x0 x1 x2 x3 x4 x5 x6 x7 x8 r d).trans (by rw [r3_eq]; rfl)

/-- The up-projection of the tile. -/
theorem uT_eq : uT c t1 w1 t2 w2 t3 w3 t4 w4 t5 w5 t6 w6 t7 w7 t8 w8 t9 w9 t10 w10 t19 x0 x1 x2 x3 x4 x5 x6 x7 x8 x9 x10 = uN (k0_pay297 (k0_pay3 x1) (nrV (kernelRun0_B.sl.r_4 (F := Ideal) c t1 w1 t2 w2 t3 w3 t4 w4 t5 w5 t6 w6 t7 w7 t8 w8 t9 w9 t19 x0 x1 x2 x3 x4 x5 x6 x7 x8)) x9) x10 := by
  unfold uT
  rw [r6_eq]

/-- The products of the tile. -/
theorem hA (r : Fin 512) (f : Fin 2816) : kernelRun0_B.sl.v2617 (F := Ideal) c t1 w1 t2 w2 t3 w3 t4 w4 t5 w5 t6 w6 t7 w7 t8 w8 t9 w9 t10 w10 t11 w11 t12 w12 t13 w13 t16 w16 t17 w17 t18 t19 x0 x1 x2 x3 x4 x5 x6 x7 x8 x9 x10 x11 x12 xs0 xs1 (ix2 r f) = actN (uN (k0_pay297 (k0_pay3 x1) (nrV (kernelRun0_B.sl.r_4 (F := Ideal) c t1 w1 t2 w2 t3 w3 t4 w4 t5 w5 t6 w6 t7 w7 t8 w8 t9 w9 t19 x0 x1 x2 x3 x4 x5 x6 x7 x8)) x9) x10) x11 x12 (pN xs0) (pN xs1) r.val f.val := by
  have hk := kA c t1 w1 t2 w2 t3 w3 t4 w4 t5 w5 t6 w6 t7 w7 t8 w8 t9 w9 t10 w10 t11 w11 t12 w12 t13 w13 t16 w16 t17 w17 t19 x0 x1 x2 x3 x4 x5 x6 x7 x8 x9 x10 x11 x12 xs0 xs1
  rw [uT_eq] at hk
  exact readA hk _ _ r f

/-- The tile's result. -/
theorem outV (n : Fin 512) (d : Fin 1024) : View.canon (Val := Elt Ideal) (kernelRun0_B (F := Ideal) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13 xs0 xs1).1 (ix2 n d) = tlO x0 x1 x2 x3 x4 x5 x6 x7 x8 x9 x10 x11 x12 x13 (pN xs0) (pN xs1) n.val d := by
  refine (out (F := Ideal) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13 xs0 xs1 n d).trans ?_
  rw [r141_eq]
  exact o_N x0 x1 x2 x3 x4 x5 x6 x7 x8 x9 x10 x11 x12 x13 (h4 c t1 w1 t2 w2 t3 w3 t4 w4 t5 w5 t6 w6 t7 w7 t8 w8 t9 w9 t19 x0 x1 x2 x3 x4 x5 x6 x7 x8) (pN xs0) (pN xs1) (hA c t1 w1 t2 w2 t3 w3 t4 w4 t5 w5 t6 w6 t7 w7 t8 w8 t9 w9 t10 w10 t11 w11 t12 w12 t13 w13 t16 w16 t17 w17 t18 t19 x0 x1 x2 x3 x4 x5 x6 x7 x8 x9 x10 x11 x12 xs0 xs1) n d

end

section
variable {F : FTy → Type} [FloatOps F] (c : Dev nD) (i : grid0.Coords)
  (t1 : Memref sig .tc .vmem S512x1024 .f32) (w1 : t1.IsWhole)
  (t2 : Memref sig .tc .vmem S1x6x1024 .f32) (w2 : t2.IsWhole)
  (t3 : Memref sig .tc .vmem S512x512 .bf16) (w3 : t3.IsWhole)
  (t4 : Memref sig .tc .vmem S512x512 .bf16) (w4 : t4.IsWhole)
  (t5 : Memref sig .tc .vmem S512x1024 .bf16) (w5 : t5.IsWhole)
  (t6 : Memref sig .tc .vmem S512x1024 .bf16) (w6 : t6.IsWhole)
  (t7 : Memref sig .tc .vmem S512x1024 .bf16) (w7 : t7.IsWhole)
  (t8 : Memref sig .tc .vmem S512x1024 .bf16) (w8 : t8.IsWhole)
  (t9 : Memref sig .tc .vmem S1024x1024 .bf16) (w9 : t9.IsWhole)
  (t10 : Memref sig .tc .vmem S1x1024 .f32) (w10 : t10.IsWhole)
  (t11 : Memref sig .tc .vmem S1024x5632 .bf16) (w11 : t11.IsWhole)
  (t12 : Memref sig .tc .vmem S3x5632 .f32) (w12 : t12.IsWhole)
  (t13 : Memref sig .tc .vmem S1x5632 .f32) (w13 : t13.IsWhole)
  (t14 : Memref sig .tc .vmem S2816x1024 .bf16) (w14 : t14.IsWhole)
  (t15 : Memref sig .tc .vmem S512x1024 .f32) (w15 : t15.IsWhole)
  (t16 : Memref sig .tc .vmem S11x16x256 .f32) (w16 : t16.IsWhole)
  (t17 : Memref sig .tc .vmem S11x16x256 .f32) (w17 : t17.IsWhole)
  (t18 : Memref sig .tc .vmem S512x2816 .bf16) (w18 : t18.IsWhole)
  (t19 : Memref sig .tc .vmem S8x576x128 .f32) (w19 : t19.IsWhole)
  (hc0 : ¬cond0_0 i)
  (x0 : Vec F S512x1024 .f32)  (x1 : Vec F S1x6x1024 .f32)  (x2 : Vec F S512x512 .bf16)  (x3 : Vec F S512x512 .bf16)  (x4 : Vec F S512x1024 .bf16)  (x5 : Vec F S512x1024 .bf16)  (x6 : Vec F S512x1024 .bf16)  (x7 : Vec F S512x1024 .bf16)  (x8 : Vec F S1024x1024 .bf16)  (x9 : Vec F S1x1024 .f32)  (x10 : Vec F S1024x5632 .bf16)  (x11 : Vec F S3x5632 .f32)  (x12 : Vec F S1x5632 .f32)  (x13 : Vec F S2816x1024 .bf16)
  (xs0 xs1 : Vec F S11x16x256 .f32)

/-- The stores of the kept rows. -/
theorem keptL0 (h) (hh : h = kernelRun0_B.sl.r_6 c t1 w1 t2 w2 t3 w3 t4 w4 t5 w5 t6 w6 t7 w7 t8 w8 t9 w9 t10 w10 t19 x0 x1 x2 x3 x4 x5 x6 x7 x8 x9) : (kernelRun0_B (F := F) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13 xs0 xs1).2.1 =
    [⟨kRect 10, kpE (upE h (View.readAt (Elt F) t11.view (Rect.unit (s := S1024x5632) ![0, 2560] S1024x256.size inb_S1024x5632_S1024x256_0_2560).toLoadRect (w11.unread x10)))⟩,
    ⟨kRect 9, kpE (upE h (View.readAt (Elt F) t11.view (Rect.unit (s := S1024x5632) ![0, 2304] S1024x256.size inb_S1024x5632_S1024x256_0_2304).toLoadRect (w11.unread x10)))⟩,
    ⟨kRect 8, kpE (upE h (View.readAt (Elt F) t11.view (Rect.unit (s := S1024x5632) ![0, 2048] S1024x256.size inb_S1024x5632_S1024x256_0_2048).toLoadRect (w11.unread x10)))⟩,
    ⟨kRect 7, kpE (upE h (View.readAt (Elt F) t11.view (Rect.unit (s := S1024x5632) ![0, 1792] S1024x256.size inb_S1024x5632_S1024x256_0_1792).toLoadRect (w11.unread x10)))⟩,
    ⟨kRect 6, kpE (upE h (View.readAt (Elt F) t11.view (Rect.unit (s := S1024x5632) ![0, 1536] S1024x256.size inb_S1024x5632_S1024x256_0_1536).toLoadRect (w11.unread x10)))⟩,
    ⟨kRect 5, kpE (upE h (View.readAt (Elt F) t11.view (Rect.unit (s := S1024x5632) ![0, 1280] S1024x256.size inb_S1024x5632_S1024x256_0_1280).toLoadRect (w11.unread x10)))⟩,
    ⟨kRect 4, kpE (upE h (View.readAt (Elt F) t11.view (Rect.unit (s := S1024x5632) ![0, 1024] S1024x256.size inb_S1024x5632_S1024x256_0_1024).toLoadRect (w11.unread x10)))⟩,
    ⟨kRect 3, kpE (upE h (View.readAt (Elt F) t11.view (Rect.unit (s := S1024x5632) ![0, 768] S1024x256.size inb_S1024x5632_S1024x256_0_768).toLoadRect (w11.unread x10)))⟩,
    ⟨kRect 2, kpE (upE h (View.readAt (Elt F) t11.view (Rect.unit (s := S1024x5632) ![0, 512] S1024x256.size inb_S1024x5632_S1024x256_0_512).toLoadRect (w11.unread x10)))⟩,
    ⟨kRect 1, kpE (upE h (View.readAt (Elt F) t11.view (Rect.unit (s := S1024x5632) ![0, 256] S1024x256.size inb_S1024x5632_S1024x256_0_256).toLoadRect (w11.unread x10)))⟩,
    ⟨kRect 0, kpE (upE h (View.readAt (Elt F) t11.view (Rect.unit (s := S1024x5632) ![0, 0] S1024x256.size inb_S1024x5632_S1024x256_0_0).toLoadRect (w11.unread x10)))⟩] := by
  subst hh
  unfold kernelRun0_B
  rfl

/-- The stores of the kept rows. -/
theorem keptL1 (h) (hh : h = kernelRun0_B.sl.r_6 c t1 w1 t2 w2 t3 w3 t4 w4 t5 w5 t6 w6 t7 w7 t8 w8 t9 w9 t10 w10 t19 x0 x1 x2 x3 x4 x5 x6 x7 x8 x9) : (kernelRun0_B (F := F) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13 xs0 xs1).2.2.1 =
    [⟨kRect 10, kpE (upE h (View.readAt (Elt F) t11.view (Rect.unit (s := S1024x5632) ![0, 5376] S1024x256.size inb_S1024x5632_S1024x256_0_5376).toLoadRect (w11.unread x10)))⟩,
    ⟨kRect 9, kpE (upE h (View.readAt (Elt F) t11.view (Rect.unit (s := S1024x5632) ![0, 5120] S1024x256.size inb_S1024x5632_S1024x256_0_5120).toLoadRect (w11.unread x10)))⟩,
    ⟨kRect 8, kpE (upE h (View.readAt (Elt F) t11.view (Rect.unit (s := S1024x5632) ![0, 4864] S1024x256.size inb_S1024x5632_S1024x256_0_4864).toLoadRect (w11.unread x10)))⟩,
    ⟨kRect 7, kpE (upE h (View.readAt (Elt F) t11.view (Rect.unit (s := S1024x5632) ![0, 4608] S1024x256.size inb_S1024x5632_S1024x256_0_4608).toLoadRect (w11.unread x10)))⟩,
    ⟨kRect 6, kpE (upE h (View.readAt (Elt F) t11.view (Rect.unit (s := S1024x5632) ![0, 4352] S1024x256.size inb_S1024x5632_S1024x256_0_4352).toLoadRect (w11.unread x10)))⟩,
    ⟨kRect 5, kpE (upE h (View.readAt (Elt F) t11.view (Rect.unit (s := S1024x5632) ![0, 4096] S1024x256.size inb_S1024x5632_S1024x256_0_4096).toLoadRect (w11.unread x10)))⟩,
    ⟨kRect 4, kpE (upE h (View.readAt (Elt F) t11.view (Rect.unit (s := S1024x5632) ![0, 3840] S1024x256.size inb_S1024x5632_S1024x256_0_3840).toLoadRect (w11.unread x10)))⟩,
    ⟨kRect 3, kpE (upE h (View.readAt (Elt F) t11.view (Rect.unit (s := S1024x5632) ![0, 3584] S1024x256.size inb_S1024x5632_S1024x256_0_3584).toLoadRect (w11.unread x10)))⟩,
    ⟨kRect 2, kpE (upE h (View.readAt (Elt F) t11.view (Rect.unit (s := S1024x5632) ![0, 3328] S1024x256.size inb_S1024x5632_S1024x256_0_3328).toLoadRect (w11.unread x10)))⟩,
    ⟨kRect 1, kpE (upE h (View.readAt (Elt F) t11.view (Rect.unit (s := S1024x5632) ![0, 3072] S1024x256.size inb_S1024x5632_S1024x256_0_3072).toLoadRect (w11.unread x10)))⟩,
    ⟨kRect 0, kpE (upE h (View.readAt (Elt F) t11.view (Rect.unit (s := S1024x5632) ![0, 2816] S1024x256.size inb_S1024x5632_S1024x256_0_2816).toLoadRect (w11.unread x10)))⟩] := by
  subst hh
  unfold kernelRun0_B
  rfl

end

section
variable (c : Dev nD) (i : grid0.Coords)
  (t1 : Memref sig .tc .vmem S512x1024 .f32) (w1 : t1.IsWhole)
  (t2 : Memref sig .tc .vmem S1x6x1024 .f32) (w2 : t2.IsWhole)
  (t3 : Memref sig .tc .vmem S512x512 .bf16) (w3 : t3.IsWhole)
  (t4 : Memref sig .tc .vmem S512x512 .bf16) (w4 : t4.IsWhole)
  (t5 : Memref sig .tc .vmem S512x1024 .bf16) (w5 : t5.IsWhole)
  (t6 : Memref sig .tc .vmem S512x1024 .bf16) (w6 : t6.IsWhole)
  (t7 : Memref sig .tc .vmem S512x1024 .bf16) (w7 : t7.IsWhole)
  (t8 : Memref sig .tc .vmem S512x1024 .bf16) (w8 : t8.IsWhole)
  (t9 : Memref sig .tc .vmem S1024x1024 .bf16) (w9 : t9.IsWhole)
  (t10 : Memref sig .tc .vmem S1x1024 .f32) (w10 : t10.IsWhole)
  (t11 : Memref sig .tc .vmem S1024x5632 .bf16) (w11 : t11.IsWhole)
  (t12 : Memref sig .tc .vmem S3x5632 .f32) (w12 : t12.IsWhole)
  (t13 : Memref sig .tc .vmem S1x5632 .f32) (w13 : t13.IsWhole)
  (t14 : Memref sig .tc .vmem S2816x1024 .bf16) (w14 : t14.IsWhole)
  (t15 : Memref sig .tc .vmem S512x1024 .f32) (w15 : t15.IsWhole)
  (t16 : Memref sig .tc .vmem S11x16x256 .f32) (w16 : t16.IsWhole)
  (t17 : Memref sig .tc .vmem S11x16x256 .f32) (w17 : t17.IsWhole)
  (t18 : Memref sig .tc .vmem S512x2816 .bf16) (w18 : t18.IsWhole)
  (t19 : Memref sig .tc .vmem S8x576x128 .f32) (w19 : t19.IsWhole)
  (hc0 : ¬cond0_0 i)
  (x0 : Vec Ideal S512x1024 .f32)  (x1 : Vec Ideal S1x6x1024 .f32)  (x2 : Vec Ideal S512x512 .bf16)  (x3 : Vec Ideal S512x512 .bf16)  (x4 : Vec Ideal S512x1024 .bf16)  (x5 : Vec Ideal S512x1024 .bf16)  (x6 : Vec Ideal S512x1024 .bf16)  (x7 : Vec Ideal S512x1024 .bf16)  (x8 : Vec Ideal S1024x1024 .bf16)  (x9 : Vec Ideal S1x1024 .f32)  (x10 : Vec Ideal S1024x5632 .bf16)  (x11 : Vec Ideal S3x5632 .f32)  (x12 : Vec Ideal S1x5632 .f32)  (x13 : Vec Ideal S2816x1024 .bf16)
  (xs0 xs1 : Vec Ideal S11x16x256 .f32)

/-- The rows the tile keeps. -/
theorem kept0 (y : S11x16x256.Idx) : View.canon (Val := Elt Ideal) (kernelRun0_B (F := Ideal) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13 xs0 xs1).2.1 y = gK (uN (k0_pay297 (k0_pay3 x1) (nrV (kernelRun0_B.sl.r_4 (F := Ideal) c t1 w1 t2 w2 t3 w3 t4 w4 t5 w5 t6 w6 t7 w7 t8 w8 t9 w9 t19 x0 x1 x2 x3 x4 x5 x6 x7 x8)) x9) x10) 0 y := by
  refine Eq.trans (congrFun (congrArg (View.canon (Val := Elt Ideal)) (keptL0 (F := Ideal) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13 xs0 xs1 _ rfl)) y) (Eq.trans (readK (u := uT c t1 w1 t2 w2 t3 w3 t4 w4 t5 w5 t6 w6 t7 w7 t8 w8 t9 w9 t10 w10 t19 x0 x1 x2 x3 x4 x5 x6 x7 x8 x9 x10) (c := 0) ?_ y) (by rw [uT_eq c t1 w1 t2 w2 t3 w3 t4 w4 t5 w5 t6 w6 t7 w7 t8 w8 t9 w9 t10 w10 t19 x0 x1 x2 x3 x4 x5 x6 x7 x8 x9 x10]))
  refine stepK ?_ (by decide) 2560 rfl rfl (fun r q => upE_N _ x10 2560 (fun j q => ldW w11 x10 2560 2560 rfl _ j q) r q)
  refine stepK ?_ (by decide) 2304 rfl rfl (fun r q => upE_N _ x10 2304 (fun j q => ldW w11 x10 2304 2304 rfl _ j q) r q)
  refine stepK ?_ (by decide) 2048 rfl rfl (fun r q => upE_N _ x10 2048 (fun j q => ldW w11 x10 2048 2048 rfl _ j q) r q)
  refine stepK ?_ (by decide) 1792 rfl rfl (fun r q => upE_N _ x10 1792 (fun j q => ldW w11 x10 1792 1792 rfl _ j q) r q)
  refine stepK ?_ (by decide) 1536 rfl rfl (fun r q => upE_N _ x10 1536 (fun j q => ldW w11 x10 1536 1536 rfl _ j q) r q)
  refine stepK ?_ (by decide) 1280 rfl rfl (fun r q => upE_N _ x10 1280 (fun j q => ldW w11 x10 1280 1280 rfl _ j q) r q)
  refine stepK ?_ (by decide) 1024 rfl rfl (fun r q => upE_N _ x10 1024 (fun j q => ldW w11 x10 1024 1024 rfl _ j q) r q)
  refine stepK ?_ (by decide) 768 rfl rfl (fun r q => upE_N _ x10 768 (fun j q => ldW w11 x10 768 768 rfl _ j q) r q)
  refine stepK ?_ (by decide) 512 rfl rfl (fun r q => upE_N _ x10 512 (fun j q => ldW w11 x10 512 512 rfl _ j q) r q)
  refine stepK ?_ (by decide) 256 rfl rfl (fun r q => upE_N _ x10 256 (fun j q => ldW w11 x10 256 256 rfl _ j q) r q)
  refine stepK ?_ (by decide) 0 rfl rfl (fun r q => upE_N _ x10 0 (fun j q => ldW w11 x10 0 0 rfl _ j q) r q)
  exact Known.zero _ _ _

/-- The rows the tile keeps, by its tokens. -/
theorem keptV0 (n f : ℕ) (hn : n < 16) (hf : f < 2816) : pN (View.canon (Val := Elt Ideal) (kernelRun0_B (F := Ideal) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13 xs0 xs1).2.1) n f = (tl x0 x1 x2 x3 x4 x5 x6 x7 x8 x9 x10 x11 x12 x13).u (64 * (n % 8) + 62 + n / 8) (0 + f) :=
  k_N x0 x1 x2 x3 x4 x5 x6 x7 x8 x9 x10 x11 x12 x13 (h4 c t1 w1 t2 w2 t3 w3 t4 w4 t5 w5 t6 w6 t7 w7 t8 w8 t9 w9 t19 x0 x1 x2 x3 x4 x5 x6 x7 x8) 0 (fun y => kept0 c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13 xs0 xs1 y) n f hn hf

/-- The rows the tile keeps. -/
theorem kept1 (y : S11x16x256.Idx) : View.canon (Val := Elt Ideal) (kernelRun0_B (F := Ideal) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13 xs0 xs1).2.2.1 y = gK (uN (k0_pay297 (k0_pay3 x1) (nrV (kernelRun0_B.sl.r_4 (F := Ideal) c t1 w1 t2 w2 t3 w3 t4 w4 t5 w5 t6 w6 t7 w7 t8 w8 t9 w9 t19 x0 x1 x2 x3 x4 x5 x6 x7 x8)) x9) x10) 2816 y := by
  refine Eq.trans (congrFun (congrArg (View.canon (Val := Elt Ideal)) (keptL1 (F := Ideal) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13 xs0 xs1 _ rfl)) y) (Eq.trans (readK (u := uT c t1 w1 t2 w2 t3 w3 t4 w4 t5 w5 t6 w6 t7 w7 t8 w8 t9 w9 t10 w10 t19 x0 x1 x2 x3 x4 x5 x6 x7 x8 x9 x10) (c := 2816) ?_ y) (by rw [uT_eq c t1 w1 t2 w2 t3 w3 t4 w4 t5 w5 t6 w6 t7 w7 t8 w8 t9 w9 t10 w10 t19 x0 x1 x2 x3 x4 x5 x6 x7 x8 x9 x10]))
  refine stepK ?_ (by decide) 5376 rfl rfl (fun r q => upE_N _ x10 5376 (fun j q => ldW w11 x10 5376 5376 rfl _ j q) r q)
  refine stepK ?_ (by decide) 5120 rfl rfl (fun r q => upE_N _ x10 5120 (fun j q => ldW w11 x10 5120 5120 rfl _ j q) r q)
  refine stepK ?_ (by decide) 4864 rfl rfl (fun r q => upE_N _ x10 4864 (fun j q => ldW w11 x10 4864 4864 rfl _ j q) r q)
  refine stepK ?_ (by decide) 4608 rfl rfl (fun r q => upE_N _ x10 4608 (fun j q => ldW w11 x10 4608 4608 rfl _ j q) r q)
  refine stepK ?_ (by decide) 4352 rfl rfl (fun r q => upE_N _ x10 4352 (fun j q => ldW w11 x10 4352 4352 rfl _ j q) r q)
  refine stepK ?_ (by decide) 4096 rfl rfl (fun r q => upE_N _ x10 4096 (fun j q => ldW w11 x10 4096 4096 rfl _ j q) r q)
  refine stepK ?_ (by decide) 3840 rfl rfl (fun r q => upE_N _ x10 3840 (fun j q => ldW w11 x10 3840 3840 rfl _ j q) r q)
  refine stepK ?_ (by decide) 3584 rfl rfl (fun r q => upE_N _ x10 3584 (fun j q => ldW w11 x10 3584 3584 rfl _ j q) r q)
  refine stepK ?_ (by decide) 3328 rfl rfl (fun r q => upE_N _ x10 3328 (fun j q => ldW w11 x10 3328 3328 rfl _ j q) r q)
  refine stepK ?_ (by decide) 3072 rfl rfl (fun r q => upE_N _ x10 3072 (fun j q => ldW w11 x10 3072 3072 rfl _ j q) r q)
  refine stepK ?_ (by decide) 2816 rfl rfl (fun r q => upE_N _ x10 2816 (fun j q => ldW w11 x10 2816 2816 rfl _ j q) r q)
  exact Known.zero _ _ _

/-- The rows the tile keeps, by its tokens. -/
theorem keptV1 (n f : ℕ) (hn : n < 16) (hf : f < 2816) : pN (View.canon (Val := Elt Ideal) (kernelRun0_B (F := Ideal) c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13 xs0 xs1).2.2.1) n f = (tl x0 x1 x2 x3 x4 x5 x6 x7 x8 x9 x10 x11 x12 x13).u (64 * (n % 8) + 62 + n / 8) (2816 + f) :=
  k_N x0 x1 x2 x3 x4 x5 x6 x7 x8 x9 x10 x11 x12 x13 (h4 c t1 w1 t2 w2 t3 w3 t4 w4 t5 w5 t6 w6 t7 w7 t8 w8 t9 w9 t19 x0 x1 x2 x3 x4 x5 x6 x7 x8) 2816 (fun y => kept1 c i t1 w1 t2 w2 t3 w3 t4 w4 t5 w5 t6 w6 t7 w7 t8 w8 t9 w9 t10 w10 t11 w11 t12 w12 t13 w13 t14 w14 t15 w15 t16 w16 t17 w17 t18 w18 t19 w19 hc0 x0 x1 x2 x3 x4 x5 x6 x7 x8 x9 x10 x11 x12 x13 xs0 xs1 y) n f hn hf

end

end Cert.Ff.B
-- ==== Proof.Ff.Kernel.lean ====
module

public import proofs.«01_k».proof.Proof.Ff.Lay
public import proofs.«01_k».proof.Proof.Ff.ValA
public import proofs.«01_k».proof.Proof.Ff.ValB
public import proofs.«01_k».proof.Proof.Gen.Kernel3Ideal.Value
public import Idealize.ShloMosaic.Lib.Pipeline.ValueKit

@[expose] public section

set_option maxRecDepth 16384

/-! The kernel's array after the run. -/

noncomputable section

namespace Cert.Ff

open Cert.Kernel3Ideal Cert.Kernel3Ideal.Gen Cert.Kernel3Ideal.Value Idealize.ShloMosaic Idealize.ShloMosaic.TcCoe Idealize.SL.Sem

variable (m : (ℓ : Loc nD τ sig) → Buf (Elt Ideal) ℓ) (c : Dev nD)

/-- The arguments, as the memory holds them. -/
def arr : Arr where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)

/-- There are 64 tiles. -/
theorem tlt (t : Fin cfg0.N) : t.val < 64 := lt_of_lt_of_eq t.isLt N_0

/-- Block indices. -/
theorem ix_0 : ∀ t : Fin cfg0.N, win0_0.index t (0 : Fin 2) = t.val ∧ win0_0.index t (1 : Fin 2) = 0 := (by decide +kernel : ∀ t : Fin grid0.N, _)

/-- A tile's block of argument 0. -/
theorem b0_ (t : Fin cfg0.N) (r : Fin 512) (k : Fin 1024) : (iblk m c 0 t : S512x1024.Idx → EReal) (ix2 r k) = (arr m c).a0 (ix2 ⟨512 * t.val + r.val, by have := tlt t; omega⟩ k) := by
  unfold iblk
  rw [View.read_apply]
  refine (congrFun (V_main_arg0 m c) _).trans (congrArg (m ((c : Thread nD τ).loc main_arg0)) (funext fun a => match a with
    | ⟨0, _⟩ => Fin.ext (by show win0_0.index t (0 : Fin 2) * 512 + 1 * r.val = 512 * t.val + r.val; rw [(ix_0 t).1]; omega)
    | ⟨1, _⟩ => Fin.ext (by show win0_0.index t (1 : Fin 2) * 1024 + 1 * k.val = k.val; rw [(ix_0 t).2]; omega)))

/-- Block indices. -/
theorem ix_1 : ∀ t : Fin cfg0.N, win0_1.index t (0 : Fin 3) = t.val / 16 ∧ win0_1.index t (1 : Fin 3) = 0 ∧ win0_1.index t (2 : Fin 3) = 0 := (by decide +kernel : ∀ t : Fin grid0.N, _)

/-- A tile's block of argument 1. -/
theorem b1_ (t : Fin cfg0.N) (j : Fin 6) (k : Fin 1024) : (iblk m c 1 t : S1x6x1024.Idx → EReal) (ix3 0 j k) = (arr m c).a1 (ix3 ⟨t.val / 16, by have := tlt t; omega⟩ j k) := by
  unfold iblk
  rw [View.read_apply]
  refine (congrFun (V_main_arg1 m c) _).trans (congrArg (m ((c : Thread nD τ).loc main_arg1)) (funext fun a => match a with
    | ⟨0, _⟩ => Fin.ext (by show win0_1.index t (0 : Fin 3) * 1 + 1 * 0 = t.val / 16; rw [(ix_1 t).1]; omega)
    | ⟨1, _⟩ => Fin.ext (by show win0_1.index t (1 : Fin 3) * 6 + 1 * j.val = j.val; rw [(ix_1 t).2.1]; omega)
    | ⟨2, _⟩ => Fin.ext (by show win0_1.index t (2 : Fin 3) * 1024 + 1 * k.val = k.val; rw [(ix_1 t).2.2]; omega)))

/-- Block indices. -/
theorem ix_2 : ∀ t : Fin cfg0.N, win0_2.index t (0 : Fin 2) = t.val ∧ win0_2.index t (1 : Fin 2) = 0 := (by decide +kernel : ∀ t : Fin grid0.N, _)

/-- A tile's block of argument 2. -/
theorem b2_ (t : Fin cfg0.N) (r : Fin 512) (k : Fin 512) : (iblk m c 2 t : S512x512.Idx → EReal) (ix2 r k) = (arr m c).a2 (ix2 ⟨512 * t.val + r.val, by have := tlt t; omega⟩ k) := by
  unfold iblk
  rw [View.read_apply]
  refine (congrFun (V_main_arg2 m c) _).trans (congrArg (m ((c : Thread nD τ).loc main_arg2)) (funext fun a => match a with
    | ⟨0, _⟩ => Fin.ext (by show win0_2.index t (0 : Fin 2) * 512 + 1 * r.val = 512 * t.val + r.val; rw [(ix_2 t).1]; omega)
    | ⟨1, _⟩ => Fin.ext (by show win0_2.index t (1 : Fin 2) * 512 + 1 * k.val = k.val; rw [(ix_2 t).2]; omega)))

/-- Block indices. -/
theorem ix_3 : ∀ t : Fin cfg0.N, win0_3.index t (0 : Fin 2) = t.val ∧ win0_3.index t (1 : Fin 2) = 0 := (by decide +kernel : ∀ t : Fin grid0.N, _)

/-- A tile's block of argument 3. -/
theorem b3_ (t : Fin cfg0.N) (r : Fin 512) (k : Fin 512) : (iblk m c 3 t : S512x512.Idx → EReal) (ix2 r k) = (arr m c).a3 (ix2 ⟨512 * t.val + r.val, by have := tlt t; omega⟩ k) := by
  unfold iblk
  rw [View.read_apply]
  refine (congrFun (V_main_arg3 m c) _).trans (congrArg (m ((c : Thread nD τ).loc main_arg3)) (funext fun a => match a with
    | ⟨0, _⟩ => Fin.ext (by show win0_3.index t (0 : Fin 2) * 512 + 1 * r.val = 512 * t.val + r.val; rw [(ix_3 t).1]; omega)
    | ⟨1, _⟩ => Fin.ext (by show win0_3.index t (1 : Fin 2) * 512 + 1 * k.val = k.val; rw [(ix_3 t).2]; omega)))

/-- Block indices. -/
theorem ix_4 : ∀ t : Fin cfg0.N, win0_4.index t (0 : Fin 2) = t.val ∧ win0_4.index t (1 : Fin 2) = 0 := (by decide +kernel : ∀ t : Fin grid0.N, _)

/-- A tile's block of argument 4. -/
theorem b4_ (t : Fin cfg0.N) (r : Fin 512) (k : Fin 1024) : (iblk m c 4 t : S512x1024.Idx → EReal) (ix2 r k) = (arr m c).a4 (ix2 ⟨512 * t.val + r.val, by have := tlt t; omega⟩ k) := by
  unfold iblk
  rw [View.read_apply]
  refine (congrFun (V_main_arg4 m c) _).trans (congrArg (m ((c : Thread nD τ).loc main_arg4)) (funext fun a => match a with
    | ⟨0, _⟩ => Fin.ext (by show win0_4.index t (0 : Fin 2) * 512 + 1 * r.val = 512 * t.val + r.val; rw [(ix_4 t).1]; omega)
    | ⟨1, _⟩ => Fin.ext (by show win0_4.index t (1 : Fin 2) * 1024 + 1 * k.val = k.val; rw [(ix_4 t).2]; omega)))

/-- Block indices. -/
theorem ix_5 : ∀ t : Fin cfg0.N, win0_5.index t (0 : Fin 2) = t.val ∧ win0_5.index t (1 : Fin 2) = 0 := (by decide +kernel : ∀ t : Fin grid0.N, _)

/-- A tile's block of argument 5. -/
theorem b5_ (t : Fin cfg0.N) (r : Fin 512) (k : Fin 1024) : (iblk m c 5 t : S512x1024.Idx → EReal) (ix2 r k) = (arr m c).a5 (ix2 ⟨512 * t.val + r.val, by have := tlt t; omega⟩ k) := by
  unfold iblk
  rw [View.read_apply]
  refine (congrFun (V_main_arg5 m c) _).trans (congrArg (m ((c : Thread nD τ).loc main_arg5)) (funext fun a => match a with
    | ⟨0, _⟩ => Fin.ext (by show win0_5.index t (0 : Fin 2) * 512 + 1 * r.val = 512 * t.val + r.val; rw [(ix_5 t).1]; omega)
    | ⟨1, _⟩ => Fin.ext (by show win0_5.index t (1 : Fin 2) * 1024 + 1 * k.val = k.val; rw [(ix_5 t).2]; omega)))

/-- Block indices. -/
theorem ix_6 : ∀ t : Fin cfg0.N, win0_6.index t (0 : Fin 2) = 0 ∧ win0_6.index t (1 : Fin 2) = 0 := (by decide +kernel : ∀ t : Fin grid0.N, _)

/-- A tile's block of argument 6. -/
theorem b6_ (t : Fin cfg0.N) (r : Fin 512) (k : Fin 1024) : (iblk m c 6 t : S512x1024.Idx → EReal) (ix2 r k) = (arr m c).a6 (ix2 r k) := by
  unfold iblk
  rw [View.read_apply]
  refine (congrFun (V_main_arg6 m c) _).trans (congrArg (m ((c : Thread nD τ).loc main_arg6)) (funext fun a => match a with
    | ⟨0, _⟩ => Fin.ext (by show win0_6.index t (0 : Fin 2) * 512 + 1 * r.val = r.val; rw [(ix_6 t).1]; omega)
    | ⟨1, _⟩ => Fin.ext (by show win0_6.index t (1 : Fin 2) * 1024 + 1 * k.val = k.val; rw [(ix_6 t).2]; omega)))

/-- Block indices. -/
theorem ix_7 : ∀ t : Fin cfg0.N, win0_7.index t (0 : Fin 2) = 0 ∧ win0_7.index t (1 : Fin 2) = 0 := (by decide +kernel : ∀ t : Fin grid0.N, _)

/-- A tile's block of argument 7. -/
theorem b7_ (t : Fin cfg0.N) (r : Fin 512) (k : Fin 1024) : (iblk m c 7 t : S512x1024.Idx → EReal) (ix2 r k) = (arr m c).a7 (ix2 r k) := by
  unfold iblk
  rw [View.read_apply]
  refine (congrFun (V_main_arg7 m c) _).trans (congrArg (m ((c : Thread nD τ).loc main_arg7)) (funext fun a => match a with
    | ⟨0, _⟩ => Fin.ext (by show win0_7.index t (0 : Fin 2) * 512 + 1 * r.val = r.val; rw [(ix_7 t).1]; omega)
    | ⟨1, _⟩ => Fin.ext (by show win0_7.index t (1 : Fin 2) * 1024 + 1 * k.val = k.val; rw [(ix_7 t).2]; omega)))

/-- Block indices. -/
theorem ix_8 : ∀ t : Fin cfg0.N, win0_8.index t (0 : Fin 2) = 0 ∧ win0_8.index t (1 : Fin 2) = 0 := (by decide +kernel : ∀ t : Fin grid0.N, _)

/-- A tile's block of argument 8. -/
theorem b8_ (t : Fin cfg0.N) (r : Fin 1024) (k : Fin 1024) : (iblk m c 8 t : S1024x1024.Idx → EReal) (ix2 r k) = (arr m c).a8 (ix2 r k) := by
  unfold iblk
  rw [View.read_apply]
  refine (congrFun (V_main_arg8 m c) _).trans (congrArg (m ((c : Thread nD τ).loc main_arg8)) (funext fun a => match a with
    | ⟨0, _⟩ => Fin.ext (by show win0_8.index t (0 : Fin 2) * 1024 + 1 * r.val = r.val; rw [(ix_8 t).1]; omega)
    | ⟨1, _⟩ => Fin.ext (by show win0_8.index t (1 : Fin 2) * 1024 + 1 * k.val = k.val; rw [(ix_8 t).2]; omega)))

/-- Block indices. -/
theorem ix_9 : ∀ t : Fin cfg0.N, win0_9.index t (0 : Fin 2) = 0 ∧ win0_9.index t (1 : Fin 2) = 0 := (by decide +kernel : ∀ t : Fin grid0.N, _)

/-- A tile's block of argument 9. -/
theorem b9_ (t : Fin cfg0.N) (r : Fin 1) (k : Fin 1024) : (iblk m c 9 t : S1x1024.Idx → EReal) (ix2 r k) = (arr m c).a9 (ix2 r k) := by
  unfold iblk
  rw [View.read_apply]
  refine (congrFun (V_main_arg9 m c) _).trans (congrArg (m ((c : Thread nD τ).loc main_arg9)) (funext fun a => match a with
    | ⟨0, _⟩ => Fin.ext (by show win0_9.index t (0 : Fin 2) * 1 + 1 * r.val = r.val; rw [(ix_9 t).1]; omega)
    | ⟨1, _⟩ => Fin.ext (by show win0_9.index t (1 : Fin 2) * 1024 + 1 * k.val = k.val; rw [(ix_9 t).2]; omega)))

/-- Block indices. -/
theorem ix_10 : ∀ t : Fin cfg0.N, win0_10.index t (0 : Fin 2) = 0 ∧ win0_10.index t (1 : Fin 2) = 0 := (by decide +kernel : ∀ t : Fin grid0.N, _)

/-- A tile's block of argument 10. -/
theorem b10_ (t : Fin cfg0.N) (r : Fin 1024) (k : Fin 5632) : (iblk m c 10 t : S1024x5632.Idx → EReal) (ix2 r k) = (arr m c).a10 (ix2 r k) := by
  unfold iblk
  rw [View.read_apply]
  refine (congrFun (V_main_arg10 m c) _).trans (congrArg (m ((c : Thread nD τ).loc main_arg10)) (funext fun a => match a with
    | ⟨0, _⟩ => Fin.ext (by show win0_10.index t (0 : Fin 2) * 1024 + 1 * r.val = r.val; rw [(ix_10 t).1]; omega)
    | ⟨1, _⟩ => Fin.ext (by show win0_10.index t (1 : Fin 2) * 5632 + 1 * k.val = k.val; rw [(ix_10 t).2]; omega)))

/-- Block indices. -/
theorem ix_11 : ∀ t : Fin cfg0.N, win0_11.index t (0 : Fin 2) = 0 ∧ win0_11.index t (1 : Fin 2) = 0 := (by decide +kernel : ∀ t : Fin grid0.N, _)

/-- A tile's block of argument 11. -/
theorem b11_ (t : Fin cfg0.N) (r : Fin 3) (k : Fin 5632) : (iblk m c 11 t : S3x5632.Idx → EReal) (ix2 r k) = (arr m c).a11 (ix2 r k) := by
  unfold iblk
  rw [View.read_apply]
  refine (congrFun (V_main_arg11 m c) _).trans (congrArg (m ((c : Thread nD τ).loc main_arg11)) (funext fun a => match a with
    | ⟨0, _⟩ => Fin.ext (by show win0_11.index t (0 : Fin 2) * 3 + 1 * r.val = r.val; rw [(ix_11 t).1]; omega)
    | ⟨1, _⟩ => Fin.ext (by show win0_11.index t (1 : Fin 2) * 5632 + 1 * k.val = k.val; rw [(ix_11 t).2]; omega)))

/-- Block indices. -/
theorem ix_12 : ∀ t : Fin cfg0.N, win0_12.index t (0 : Fin 2) = 0 ∧ win0_12.index t (1 : Fin 2) = 0 := (by decide +kernel : ∀ t : Fin grid0.N, _)

/-- A tile's block of argument 12. -/
theorem b12_ (t : Fin cfg0.N) (r : Fin 1) (k : Fin 5632) : (iblk m c 12 t : S1x5632.Idx → EReal) (ix2 r k) = (arr m c).a12 (ix2 r k) := by
  unfold iblk
  rw [View.read_apply]
  refine (congrFun (V_main_arg12 m c) _).trans (congrArg (m ((c : Thread nD τ).loc main_arg12)) (funext fun a => match a with
    | ⟨0, _⟩ => Fin.ext (by show win0_12.index t (0 : Fin 2) * 1 + 1 * r.val = r.val; rw [(ix_12 t).1]; omega)
    | ⟨1, _⟩ => Fin.ext (by show win0_12.index t (1 : Fin 2) * 5632 + 1 * k.val = k.val; rw [(ix_12 t).2]; omega)))

/-- Block indices. -/
theorem ix_13 : ∀ t : Fin cfg0.N, win0_13.index t (0 : Fin 2) = 0 ∧ win0_13.index t (1 : Fin 2) = 0 := (by decide +kernel : ∀ t : Fin grid0.N, _)

/-- A tile's block of argument 13. -/
theorem b13_ (t : Fin cfg0.N) (r : Fin 2816) (k : Fin 1024) : (iblk m c 13 t : S2816x1024.Idx → EReal) (ix2 r k) = (arr m c).a13 (ix2 r k) := by
  unfold iblk
  rw [View.read_apply]
  refine (congrFun (V_main_arg13 m c) _).trans (congrArg (m ((c : Thread nD τ).loc main_arg13)) (funext fun a => match a with
    | ⟨0, _⟩ => Fin.ext (by show win0_13.index t (0 : Fin 2) * 2816 + 1 * r.val = r.val; rw [(ix_13 t).1]; omega)
    | ⟨1, _⟩ => Fin.ext (by show win0_13.index t (1 : Fin 2) * 1024 + 1 * k.val = k.val; rw [(ix_13 t).2]; omega)))

/-- A tile's rows and weights are the layer's. -/
theorem sub (t : Fin cfg0.N) : Lay.Sub (tl (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (arr m c).lay (512 * t.val) := by
  have ht := tlt t
  have row : ∀ n < 512, ∀ h, (⟨512 * t.val + (Fin.ofNat 512 n).val, h⟩ : Fin 32768) = Fin.ofNat 32768 (512 * t.val + n) := fun n hn h => Fin.ext (by
    show 512 * t.val + n % 512 = (512 * t.val + n) % 32768; omega)
  refine ⟨fun n hn => funext fun k => (b0_ m c t _ k).trans ?_, fun n hn => funext fun j => funext fun k => (b1_ m c t j k).trans ?_, fun n hn => funext fun k => (b2_ m c t _ k).trans ?_,
    fun n hn => funext fun k => (b3_ m c t _ k).trans ?_, fun n hn => funext fun k => (b4_ m c t _ k).trans ?_, fun n hn => funext fun k => (b5_ m c t _ k).trans ?_,
    funext fun l => funext fun k => b6_ m c t l k, funext fun l => funext fun k => b7_ m c t l k, funext fun l => funext fun k => b8_ m c t l k, funext fun k => b9_ m c t 0 k,
    funext fun k => funext fun f => (b10_ m c t _ _).trans ?_, funext fun j => funext fun f => (b11_ m c t _ _).trans ?_, funext fun f => (b12_ m c t _ _).trans ?_, funext fun f => funext fun d => b13_ m c t f d⟩
  · rw [row n hn]; rfl
  · exact congrArg (fun b => (arr m c).a1 (ix3 b j k)) (Fin.ext (by show t.val / 16 = (512 * t.val + n) / 8192 % 4; omega))
  · rw [row n hn]; rfl
  · rw [row n hn]; rfl
  · rw [row n hn]; rfl
  · rw [row n hn]; rfl
  · exact congrArg (fun b => (arr m c).a10 (ix2 b (Fin.ofNat 5632 f))) (Fin.ext (Nat.mod_eq_of_lt k.isLt))
  · exact congrArg (fun b => (arr m c).a11 (ix2 b (Fin.ofNat 5632 f))) (Fin.ext (Nat.mod_eq_of_lt j.isLt))
  · exact congrArg (fun b => (arr m c).a12 (ix2 b (Fin.ofNat 5632 f))) (Fin.ext rfl)

/-- What a tile keeps, for the values and for the gates. -/
theorem keep (t : Fin cfg0.N) (i f : ℕ) (hi : i < 16) (hf : f < 2816) :
    pN (outsAt0 m c t.val t.isLt).2.1 i f = (arr m c).lay.u (512 * t.val + (64 * (i % 8) + 62 + i / 8)) f
    ∧ pN (outsAt0 m c t.val t.isLt).2.2 i f = (arr m c).lay.u (512 * t.val + (64 * (i % 8) + 62 + i / 8)) (2816 + f) := by
  have hn : 64 * (i % 8) + 62 + i / 8 < 512 := by omega
  by_cases h0 : t.val % 16 = 0
  · rw [outsAt0_A m c t h0]
    dsimp only
    unfold sout0_A_0 sout0_A_1
    rw [View.read_writes_junk_eq_canon, View.read_writes_junk_eq_canon, A.keptV0 (hn := hi) (hf := hf), A.keptV1 (hn := hi) (hf := hf), (sub m c t).u _ hn, (sub m c t).u _ hn, Nat.zero_add]
    exact ⟨rfl, rfl⟩
  · rw [outsAt0_B m c t h0]
    dsimp only
    unfold sout0_B_0 sout0_B_1
    rw [View.read_writes_junk_eq_canon, View.read_writes_junk_eq_canon, B.keptV0 (hn := hi) (hf := hf), B.keptV1 (hn := hi) (hf := hf), (sub m c t).u _ hn, (sub m c t).u _ hn, Nat.zero_add]
    exact ⟨rfl, rfl⟩

/-- What a tile leaves. -/
theorem tile (t : Fin cfg0.N) (n : Fin 512) (d : Fin 1024) : ((outsAt0 m c t.val t.isLt).1 : S512x1024.Idx → EReal) (ix2 n d) = (arr m c).val (512 * t.val + n.val) d := by
  have hnn := n.isLt
  have ht := tlt t
  unfold Arr.val
  by_cases h0 : t.val % 16 = 0
  · rw [outsAt0_A m c t h0]
    dsimp only
    unfold out0_A_14
    rw [View.read_writes_junk_eq_canon]
    refine (A.outV _ _ _ _ _ _ _ _ _ _ _ _ _ _ _ _ _ _ _ _ _ _ _ _ _ _ _ _ _ _ _ _ _ _ _ _ _ _ _ _ _ _ _ _ _ _ _ _ _ _ _ _ _ _ _ n d).trans ?_
    refine (sub m c t).o n.val hnn (fun f hf => ?_) (fun f hf => ?_) d
    · unfold b1 Lay.v1
      by_cases hz : n.val = 0
      · rw [if_pos hz, if_pos (show (512 * t.val + n.val) % 8192 = 0 by omega)]; split <;> rfl
      · rw [if_neg hz, if_neg (show ¬ (512 * t.val + n.val) % 8192 = 0 by omega)]
        exact ((sub m c t).u _ (by omega) f).trans (congrArg (fun r => (arr m c).lay.u r f) (by omega))
    · unfold b2 Lay.v2
      by_cases hz : n.val = 0
      · rw [if_pos hz, if_pos (show (512 * t.val + n.val) % 8192 < 2 by omega)]; split <;> rfl
      · rw [if_neg hz]
        by_cases hz1 : n.val = 1
        · rw [if_pos hz1, if_pos (show (512 * t.val + n.val) % 8192 < 2 by omega)]; split <;> rfl
        · rw [if_neg hz1, if_neg (show ¬ (512 * t.val + n.val) % 8192 < 2 by omega)]
          exact ((sub m c t).u _ (by omega) f).trans (congrArg (fun r => (arr m c).lay.u r f) (by omega))
  · have kp : ∀ i < 16, ∀ f < 5632, (if f < 2816 then pN (outsAt0 m c (t.val - 1) (Nat.lt_of_le_of_lt (Nat.sub_le _ _) t.isLt)).2.1 i f
        else pN (outsAt0 m c (t.val - 1) (Nat.lt_of_le_of_lt (Nat.sub_le _ _) t.isLt)).2.2 i (f - 2816)) = (arr m c).lay.u (512 * (t.val - 1) + (64 * (i % 8) + 62 + i / 8)) f := by
      intro i hi f hf
      by_cases hl : f < 2816
      · rw [if_pos hl]; exact (keep m c ⟨t.val - 1, Nat.lt_of_le_of_lt (Nat.sub_le _ _) t.isLt⟩ i f hi hl).1
      · rw [if_neg hl]; exact ((keep m c ⟨t.val - 1, Nat.lt_of_le_of_lt (Nat.sub_le _ _) t.isLt⟩ i (f - 2816) hi (by omega)).2).trans (congrArg _ (by omega))
    rw [outsAt0_B m c t h0]
    dsimp only
    unfold out0_B_14
    rw [View.read_writes_junk_eq_canon]
    refine (B.outV _ _ _ _ _ _ _ _ _ _ _ _ _ _ _ _ _ _ _ _ _ _ _ _ _ _ _ _ _ _ _ _ _ _ _ _ _ _ _ _ _ _ _ _ _ _ _ _ _ _ _ _ _ _ _ _ _ n d).trans ?_
    refine (sub m c t).o n.val hnn (fun f hf => ?_) (fun f hf => ?_) d
    · unfold b1 Lay.v1
      by_cases hz : n.val = 0
      · rw [if_pos hz, if_neg (show ¬ (512 * t.val + n.val) % 8192 = 0 by omega)]
        exact (kp 15 (by omega) f hf).trans (congrArg (fun r => (arr m c).lay.u r f) (by omega))
      · rw [if_neg hz, if_neg (show ¬ (512 * t.val + n.val) % 8192 = 0 by omega)]
        exact ((sub m c t).u _ (by omega) f).trans (congrArg (fun r => (arr m c).lay.u r f) (by omega))
    · unfold b2 Lay.v2
      rw [if_neg (show ¬ (512 * t.val + n.val) % 8192 < 2 by omega)]
      by_cases hz : n.val = 0
      · rw [if_pos hz]
        exact (kp 7 (by omega) f hf).trans (congrArg (fun r => (arr m c).lay.u r f) (by omega))
      · rw [if_neg hz]
        by_cases hz1 : n.val = 1
        · rw [if_pos hz1]
          exact (kp 15 (by omega) f hf).trans (congrArg (fun r => (arr m c).lay.u r f) (by omega))
        · rw [if_neg hz1]
          exact ((sub m c t).u _ (by omega) f).trans (congrArg (fun r => (arr m c).lay.u r f) (by omega))

/-- The output window's block indices. -/
theorem ix_14 : ∀ t : Fin cfg0.N, win0_14.index t (0 : Fin 2) = t.val ∧ win0_14.index t (1 : Fin 2) = 0 := (by decide +kernel : ∀ t : Fin grid0.N, _)

/-- The result after the run. -/
theorem fin14 : (dats m 0 c).arrAt 14 cfg0.N = (arr m c).res := by
  refine (dats m 0 c).arrAt_eq_of_covers 14 _ (by decide +kernel) fun t _ y => ?_
  blk_simp
  rw [after0_14]
  have y0 : (y 0).val < 512 := (y 0).isLt
  have y1 : (y 1).val < 1024 := (y 1).isLt
  have hy : y = ix2 (⟨(y 0).val, y0⟩ : Fin 512) (⟨(y 1).val, y1⟩ : Fin 1024) := by funext a; match a with | ⟨0, _⟩ => rfl | ⟨1, _⟩ => rfl
  refine ((congrArg (outsAt0 m c t.val t.isLt).1 hy).trans (tile m c t _ _)).trans ?_
  refine congrArg₂ (arr m c).val ?_ (Fin.ext ?_)
  · show 512 * t.val + (y 0).val = win0_14.index t (0 : Fin 2) * 512 + 1 * (y 0).val
    rw [(ix_14 t).1]; omega
  · show (y 1).val = win0_14.index t (1 : Fin 2) * 1024 + 1 * (y 1).val
    rw [(ix_14 t).2]; omega

/-- The kernel's result. -/
theorem ker : G14 m c = (arr m c).res := (final14 m c).symm.trans (fin14 m c)

end Cert.Ff
-- ==== Proof.Ff.Ref.lean ====
module

public import proofs.«01_k».proof.Proof.Gen.Reference3Ideal.Run
public import proofs.«01_k».proof.Proof.Ff.Lay
public import Idealize.ShloMosaic.Lib.KernelVsHost

@[expose] public section

set_option maxRecDepth 16384

/-! The reference's result read at an index. -/

noncomputable section

namespace Cert.Ff.Ref

open Cert.Ff Cert.Reference3Ideal Cert.Reference3Ideal.Gen Idealize.ShloMosaic Idealize.ShloMosaic.TcCoe Idealize.SL.Sem Idealize.ShloMosaic.StableHlo

/-- Row 2 of the modulation, one copy per token. -/
def pt2 (md : FVec Ideal S4x6x1024 .f32) : FVec Ideal S32768x1024 .f32 :=
  shapeCast S32768x1024 (broadcastInDim S4x8192x1024 ![0, 1, 2] bcast_S4x1x1024_S4x8192x1024_0_1_2 (broadcastInDim S4x1x1024 ![0, 2] bcast_S4x1024_S4x1x1024_0_2 (shapeCast S4x1024 (extractStridedSlice S4x1x1024 ![0, 2, 0] md slices_S4x6x1024_S4x1x1024_0_2_0) shapeCasts_S4x1x1024_S4x1024))) shapeCasts_S4x8192x1024_S32768x1024
/-- At a token. -/
theorem pt2_at (md : FVec Ideal S4x6x1024 .f32) (r : Fin 32768) (k : Fin 1024) : pt2 md (ix2 r k) = md (ix3 ⟨r.val / 8192, by omega⟩ 2 k) := by
  pointwise [pt2]

/-- Row 3 of the modulation, one copy per token. -/
def pt3 (md : FVec Ideal S4x6x1024 .f32) : FVec Ideal S32768x1024 .f32 :=
  shapeCast S32768x1024 (broadcastInDim S4x8192x1024 ![0, 1, 2] bcast_S4x1x1024_S4x8192x1024_0_1_2 (broadcastInDim S4x1x1024 ![0, 2] bcast_S4x1024_S4x1x1024_0_2 (shapeCast S4x1024 (extractStridedSlice S4x1x1024 ![0, 3, 0] md slices_S4x6x1024_S4x1x1024_0_3_0) shapeCasts_S4x1x1024_S4x1024))) shapeCasts_S4x8192x1024_S32768x1024
/-- At a token. -/
theorem pt3_at (md : FVec Ideal S4x6x1024 .f32) (r : Fin 32768) (k : Fin 1024) : pt3 md (ix2 r k) = md (ix3 ⟨r.val / 8192, by omega⟩ 3 k) := by
  pointwise [pt3]

/-- Row 4 of the modulation, one copy per token. -/
def pt4 (md : FVec Ideal S4x6x1024 .f32) : FVec Ideal S32768x1024 .f32 :=
  shapeCast S32768x1024 (broadcastInDim S4x8192x1024 ![0, 1, 2] bcast_S4x1x1024_S4x8192x1024_0_1_2 (broadcastInDim S4x1x1024 ![0, 2] bcast_S4x1024_S4x1x1024_0_2 (shapeCast S4x1024 (extractStridedSlice S4x1x1024 ![0, 4, 0] md slices_S4x6x1024_S4x1x1024_0_4_0) shapeCasts_S4x1x1024_S4x1024))) shapeCasts_S4x8192x1024_S32768x1024
/-- At a token. -/
theorem pt4_at (md : FVec Ideal S4x6x1024 .f32) (r : Fin 32768) (k : Fin 1024) : pt4 md (ix2 r k) = md (ix3 ⟨r.val / 8192, by omega⟩ 4 k) := by
  pointwise [pt4]

/-- Row 5 of the modulation, one copy per token. -/
def pt5 (md : FVec Ideal S4x6x1024 .f32) : FVec Ideal S32768x1024 .f32 :=
  shapeCast S32768x1024 (broadcastInDim S4x8192x1024 ![0, 1, 2] bcast_S4x1x1024_S4x8192x1024_0_1_2 (broadcastInDim S4x1x1024 ![0, 2] bcast_S4x1024_S4x1x1024_0_2 (shapeCast S4x1024 (extractStridedSlice S4x1x1024 ![0, 5, 0] md slices_S4x6x1024_S4x1x1024_0_5_0) shapeCasts_S4x1x1024_S4x1024))) shapeCasts_S4x8192x1024_S32768x1024
/-- At a token. -/
theorem pt5_at (md : FVec Ideal S4x6x1024 .f32) (r : Fin 32768) (k : Fin 1024) : pt5 md (ix2 r k) = md (ix3 ⟨r.val / 8192, by omega⟩ 5 k) := by
  pointwise [pt5]

/-- The reference's sigmoid. -/
def rS (a : FVec Ideal S32768x1024 .f32) : FVec Ideal S32768x1024 .f32 :=
  Host.divf (broadcastInDim S32768x1024 ![] bcast_S_S32768x1024 (constant S_ .f32 0x3F800000#32)) (addf (broadcastInDim S32768x1024 ![] bcast_S_S32768x1024 (constant S_ .f32 0x3F800000#32)) (Host.exp (Host.negf a)))
/-- At a token. -/
theorem rS_at (a : FVec Ideal S32768x1024 .f32) (r : Fin 32768) (k : Fin 1024) : rS a (ix2 r k) = sg (a (ix2 r k)) := by
  pointwise [rS]
  simp only [sg, zero_sub]

/-- The gated branches. -/
def rY (x2 x3 : FVec Ideal S32768x512 .bf16) (x4 x5 : FVec Ideal S32768x1024 .bf16) (x6 x7 : FVec Ideal S512x1024 .bf16) : FVec Ideal S32768x1024 .f32 :=
  addf (mulf (rS (extf .f32 x4 bitsLt_bf16_f32)) (Host.dotGeneral dot_S32768x512_S512x1024_S32768x1024_1_0_0_1_n_n none (extf .f32 x2 bitsLt_bf16_f32) (extf .f32 x6 bitsLt_bf16_f32)))
    (mulf (rS (extf .f32 x5 bitsLt_bf16_f32)) (Host.dotGeneral dot_S32768x512_S512x1024_S32768x1024_1_0_0_1_n_n none (extf .f32 x3 bitsLt_bf16_f32) (extf .f32 x7 bitsLt_bf16_f32)))
/-- At a token. -/
theorem rY_at (x2 x3 : FVec Ideal S32768x512 .bf16) (x4 x5 : FVec Ideal S32768x1024 .bf16) (x6 x7 : FVec Ideal S512x1024 .bf16) (r : Fin 32768) (k : Fin 1024) :
    rY x2 x3 x4 x5 x6 x7 (ix2 r k) = yR (fun k => x4 (ix2 r k)) (fun k => x5 (ix2 r k)) (fun l => x2 (ix2 r l)) (fun l => x3 (ix2 r l)) (fun l k => x6 (ix2 l k)) (fun l k => x7 (ix2 l k)) k := by
  pointwise [rY]
  simp only [rS_at, yR]
  pointwise []

/-- The residual after the branches. -/
def rX (x0 : FVec Ideal S32768x1024 .f32) (x1 : FVec Ideal S4x6x1024 .f32) (y : FVec Ideal S32768x1024 .f32) (x8 : FVec Ideal S1024x1024 .bf16) : FVec Ideal S32768x1024 .f32 :=
  addf x0 (mulf (pt2 x1) (Host.dotGeneral dot_S32768x1024_S1024x1024_S32768x1024_1_0_0_1_n_n none y (extf .f32 x8 bitsLt_bf16_f32)))
/-- At a token. -/
theorem rX_at (x0 : FVec Ideal S32768x1024 .f32) (x1 : FVec Ideal S4x6x1024 .f32) (y : FVec Ideal S32768x1024 .f32) (x8 : FVec Ideal S1024x1024 .bf16) (r : Fin 32768) (d : Fin 1024) :
    rX x0 x1 y x8 (ix2 r d) = xR (fun d => x0 (ix2 r d)) (fun d => x1 (ix3 ⟨r.val / 8192, by omega⟩ 2 d)) (fun k => y (ix2 r k)) (fun k d => x8 (ix2 k d)) d := by
  pointwise [rX]
  simp only [pt2_at, xR]

/-- The normed, modulated rows. -/
def rH (v : FVec Ideal S32768x1024 .f32) (md : FVec Ideal S4x6x1024 .f32) (g : FVec Ideal S1x1024 .f32) : FVec Ideal S32768x1024 .f32 :=
  addf (mulf (mulf (mulf v (broadcastInDim S32768x1024 ![0, 1] bcast_S32768x1_S32768x1024_0_1 (Host.rsqrt (addf (Host.divf (broadcastInDim S32768x1 ![0] bcast_S32768_S32768x1_0 (Host.reduceAdd (mulf v v) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast S1024 g shapeCasts_S1x1024_S1024)))) (addf (broadcastInDim S32768x1024 ![] bcast_S_S32768x1024 (constant S_ .f32 0x3F800000#32)) (pt4 md))) (pt3 md)
/-- At a token. -/
theorem rH_at (v : FVec Ideal S32768x1024 .f32) (md : FVec Ideal S4x6x1024 .f32) (g : FVec Ideal S1x1024 .f32) (r : Fin 32768) (k : Fin 1024) :
    rH v md g (ix2 r k) = hR (fun k => v (ix2 r k)) (fun k => g (ix2 0 k)) (fun d => md (ix3 ⟨r.val / 8192, by omega⟩ 3 d)) (fun d => md (ix3 ⟨r.val / 8192, by omega⟩ 4 d)) k := by
  pointwise [rH]
  simp only [pt3_at, pt4_at, hR, nR, Ideal.ofBits_zero .f32, zero_add]

/-- The up-projection. -/
def rU (h : FVec Ideal S32768x1024 .f32) (x10 : FVec Ideal S1024x5632 .bf16) : FVec Ideal S32768x5632 .f32 :=
  Host.dotGeneral dot_S32768x1024_S1024x5632_S32768x5632_1_0_0_1_n_n none h (extf .f32 x10 bitsLt_bf16_f32)
/-- At a token. -/
theorem rU_at (h : FVec Ideal S32768x1024 .f32) (x10 : FVec Ideal S1024x5632 .bf16) (r : Fin 32768) (f : Fin 5632) : rU h x10 (ix2 r f) = ∑ k, h (ix2 r k) * x10 (ix2 k f) := by
  pointwise [rU]

/-- The up-projection, two rows of nothing before each sequence. -/
def rP (u : FVec Ideal S32768x5632 .f32) : FVec Ideal S4x8194x5632 .f32 :=
  pad S4x8194x5632 ![0, 2, 0] ![0, 0, 0] ![0, 0, 0] (shapeCast S4x8192x5632 u shapeCasts_S32768x5632_S4x8192x5632) (sitofp .f32 (constantI S_ 32 0#32)) pads_S4x8192x5632_S4x8194x5632_000_200_000 h_S_

/-- Before a sequence there is nothing. -/
theorem rP_lo (u : FVec Ideal S32768x5632 .f32) (b : Fin 4) (s : Fin 8194) (f : Fin 5632) (h : s.val < 2) : rP u (ix3 b s f) = 0 := by
  refine (pad_apply_of_not_inside _ _ _ _ _ _ _ _ (1 : Fin 3) (fun hin => ?_)).trans sitofp_zero
  have e : 2 ≤ s.val := hin.1
  omega

/-- In a sequence, the up-projection. -/
theorem rP_in (u : FVec Ideal S32768x5632 .f32) (b : Fin 4) (s : Fin 8194) (f : Fin 5632) (r : Fin 32768) (h : 2 ≤ s.val) (hr : r.val = 8192 * b.val + (s.val - 2)) : rP u (ix3 b s f) = u (ix2 r f) := by
  have hs := s.isLt
  refine (pad_apply_of_inside _ _ _ _ _ _ _ _ (ix3 b (⟨s.val - 2, by omega⟩ : Fin 8192) f) (fun a => ?_)).trans ?_
  · match a with
    | ⟨0, _⟩ => show b.val = 0 + b.val * (0 + 1); omega
    | ⟨1, _⟩ => show s.val = 2 + (s.val - 2) * (0 + 1); omega
    | ⟨2, _⟩ => show f.val = 0 + f.val * (0 + 1); omega
  · pointwise []
    refine congrArg u (congrArg₂ ix2 (Fin.ext ?_) (Fin.ext ?_))
    · show _ = r.val; rw [hr]; dsimp; omega
    · show _ = f.val; dsimp

/-- A row of the convolution's weights, one copy per token. -/
def rB (w : FVec Ideal S5632 .f32) : FVec Ideal S4x8192x5632 .f32 :=
  broadcastInDim S4x8192x5632 ![0, 1, 2] bcast_S1x1x5632_S4x8192x5632_0_1_2 (broadcastInDim S1x1x5632 ![2] bcast_S5632_S1x1x5632_2 w)

/-- The convolution. -/
def rC (p : FVec Ideal S4x8194x5632 .f32) (x11 : FVec Ideal S3x5632 .f32) (x12 : FVec Ideal S1x5632 .f32) : FVec Ideal S32768x5632 .f32 :=
  shapeCast S32768x5632 (addf (addf (addf (rB (shapeCast S5632 x12 shapeCasts_S1x5632_S5632)) (mulf (rB (shapeCast S5632 (extractStridedSlice S1x5632 ![0, 0] x11 slices_S3x5632_S1x5632_0_0) shapeCasts_S1x5632_S5632)) (extractStridedSlice S4x8192x5632 ![0, 0, 0] p slices_S4x8194x5632_S4x8192x5632_0_0_0)))
      (mulf (rB (shapeCast S5632 (extractStridedSlice S1x5632 ![1, 0] x11 slices_S3x5632_S1x5632_1_0) shapeCasts_S1x5632_S5632)) (extractStridedSlice S4x8192x5632 ![0, 1, 0] p slices_S4x8194x5632_S4x8192x5632_0_1_0)))
      (mulf (rB (shapeCast S5632 (extractStridedSlice S1x5632 ![2, 0] x11 slices_S3x5632_S1x5632_2_0) shapeCasts_S1x5632_S5632)) (extractStridedSlice S4x8192x5632 ![0, 2, 0] p slices_S4x8194x5632_S4x8192x5632_0_2_0))) shapeCasts_S4x8192x5632_S32768x5632
/-- At a token. -/
theorem rC_at (p : FVec Ideal S4x8194x5632 .f32) (x11 : FVec Ideal S3x5632 .f32) (x12 : FVec Ideal S1x5632 .f32) (r : Fin 32768) (f : Fin 5632) :
    rC p x11 x12 (ix2 r f) = cR (x11 (ix2 0 f)) (x11 (ix2 1 f)) (x11 (ix2 2 f)) (x12 (ix2 0 f)) (p (ix3 ⟨r.val / 8192, by omega⟩ ⟨2 + r.val % 8192, by omega⟩ f)) (p (ix3 ⟨r.val / 8192, by omega⟩ ⟨1 + r.val % 8192, by omega⟩ f)) (p (ix3 ⟨r.val / 8192, by omega⟩ ⟨r.val % 8192, by omega⟩ f)) := by
  pointwise [rC, rB]
  unfold cR
  rw [add_comm (_ + _) (x12 _), ← add_assoc, ← add_assoc]
  generalize x11 (ix2 0 f) * _ = a0
  generalize x11 (ix2 1 f) * _ = a1
  generalize x11 (ix2 2 f) * _ = a2
  rw [add_right_comm (x12 (ix2 0 f)) a0 a1, add_right_comm _ a0 a2, add_right_comm _ a1 a2]

/-- The gated product. -/
def rA (c : FVec Ideal S32768x5632 .f32) : FVec Ideal S32768x2816 .f32 :=
  mulf (mulf (extractStridedSlice S32768x2816 ![0, 2816] c slices_S32768x5632_S32768x2816_0_2816) (Host.divf (broadcastInDim S32768x2816 ![] bcast_S_S32768x2816 (constant S_ .f32 0x3F800000#32)) (addf (broadcastInDim S32768x2816 ![] bcast_S_S32768x2816 (constant S_ .f32 0x3F800000#32)) (Host.exp (Host.negf (extractStridedSlice S32768x2816 ![0, 2816] c slices_S32768x5632_S32768x2816_0_2816)))))) (extractStridedSlice S32768x2816 ![0, 0] c slices_S32768x5632_S32768x2816_0_0)
/-- At a token. -/
theorem rA_at (c : FVec Ideal S32768x5632 .f32) (r : Fin 32768) (f : Fin 2816) : rA c (ix2 r f) = aR (c (ix2 r ⟨f.val, by omega⟩)) (c (ix2 r ⟨2816 + f.val, by omega⟩)) := by
  pointwise [rA]
  simp only [aR, sg, zero_sub]

/-- The result. -/
def rO (x : FVec Ideal S32768x1024 .f32) (x1 : FVec Ideal S4x6x1024 .f32) (a : FVec Ideal S32768x2816 .f32) (x13 : FVec Ideal S2816x1024 .bf16) : FVec Ideal S32768x1024 .f32 :=
  addf x (mulf (pt5 x1) (Host.dotGeneral dot_S32768x2816_S2816x1024_S32768x1024_1_0_0_1_n_n none a (extf .f32 x13 bitsLt_bf16_f32)))
/-- At a token. -/
theorem rO_at (x : FVec Ideal S32768x1024 .f32) (x1 : FVec Ideal S4x6x1024 .f32) (a : FVec Ideal S32768x2816 .f32) (x13 : FVec Ideal S2816x1024 .bf16) (r : Fin 32768) (d : Fin 1024) :
    rO x x1 a x13 (ix2 r d) = oR (fun d => x (ix2 r d)) (fun d => x1 (ix3 ⟨r.val / 8192, by omega⟩ 5 d)) (fun f => a (ix2 r f)) (fun f d => x13 (ix2 f d)) d := by
  pointwise [rO]
  simp only [pt5_at, oR]

variable (x0 : FVec Ideal S32768x1024 .f32) (x1 : FVec Ideal S4x6x1024 .f32) (x2 x3 : FVec Ideal S32768x512 .bf16) (x4 x5 : FVec Ideal S32768x1024 .bf16) (x6 x7 : FVec Ideal S512x1024 .bf16) (x8 : FVec Ideal S1024x1024 .bf16) (x9 : FVec Ideal S1x1024 .f32) (x10 : FVec Ideal S1024x5632 .bf16) (x11 : FVec Ideal S3x5632 .f32) (x12 : FVec Ideal S1x5632 .f32) (x13 : FVec Ideal S2816x1024 .bf16)

/-- The arrays the layer reads. -/
def aa : Arr := ⟨x0, x1, x2, x3, x4, x5, x6, x7, x8, x9, x10, x11, x12, x13⟩

/-- The residual after the branches. -/
def fX : FVec Ideal S32768x1024 .f32 := rX x0 x1 (rY x2 x3 x4 x5 x6 x7) x8

/-- The up-projection. -/
def fU : FVec Ideal S32768x5632 .f32 := rU (rH (fX x0 x1 x2 x3 x4 x5 x6 x7 x8) x1 x9) x10

/-- The result. -/
def fO : FVec Ideal S32768x1024 .f32 := rO (fX x0 x1 x2 x3 x4 x5 x6 x7 x8) x1 (rA (rC (rP (fU x0 x1 x2 x3 x4 x5 x6 x7 x8 x9 x10)) x11 x12)) x13

/-- A number under the bound is itself. -/
theorem ofN {a : ℕ} [NeZero a] (r : Fin a) : Fin.ofNat a r.val = r := Fin.ext (Nat.mod_eq_of_lt r.isLt)

/-- A token's sequence. -/
theorem ofB (r : Fin 32768) (h : r.val / 8192 < 4) : Fin.ofNat 4 (r.val / 8192) = ⟨r.val / 8192, h⟩ := Fin.ext (Nat.mod_eq_of_lt h)

/-- The residual at a token. -/
theorem fX_at (r : Fin 32768) (d : Fin 1024) : fX x0 x1 x2 x3 x4 x5 x6 x7 x8 (ix2 r d) = (aa x0 x1 x2 x3 x4 x5 x6 x7 x8 x9 x10 x11 x12 x13).lay.X r.val d := by
  unfold fX Lay.X
  rw [rX_at]
  simp only [rY_at]
  simp only [Arr.lay, aa, ofN, ofB r (by omega)]

/-- The up-projection at a token. -/
theorem fU_at (r : Fin 32768) (f : Fin 5632) : fU x0 x1 x2 x3 x4 x5 x6 x7 x8 x9 x10 (ix2 r f) = (aa x0 x1 x2 x3 x4 x5 x6 x7 x8 x9 x10 x11 x12 x13).lay.u r.val f.val := by
  unfold fU Lay.u Lay.h
  rw [rU_at]
  simp only [rH_at, fX_at x0 x1 x2 x3 x4 x5 x6 x7 x8 x9 x10 x11 x12 x13]
  refine Finset.sum_congr rfl fun k _ => ?_
  simp only [Arr.lay, aa, ofN, ofB r (by omega)]

/-- The convolution at a token. -/
theorem fC_at (r : Fin 32768) (f : Fin 5632) : rC (rP (fU x0 x1 x2 x3 x4 x5 x6 x7 x8 x9 x10)) x11 x12 (ix2 r f)
    = (aa x0 x1 x2 x3 x4 x5 x6 x7 x8 x9 x10 x11 x12 x13).lay.c ((aa x0 x1 x2 x3 x4 x5 x6 x7 x8 x9 x10 x11 x12 x13).lay.v1 r.val f.val) ((aa x0 x1 x2 x3 x4 x5 x6 x7 x8 x9 x10 x11 x12 x13).lay.v2 r.val f.val) r.val f.val := by
  have hr := r.isLt
  rw [rC_at]
  unfold Lay.c Lay.v1 Lay.v2
  have e0 : rP (fU x0 x1 x2 x3 x4 x5 x6 x7 x8 x9 x10) (ix3 ⟨r.val / 8192, by omega⟩ ⟨2 + r.val % 8192, by omega⟩ f) = (aa x0 x1 x2 x3 x4 x5 x6 x7 x8 x9 x10 x11 x12 x13).lay.u r.val f.val :=
    (rP_in _ _ _ _ r (by show 2 ≤ 2 + _; omega) (by show r.val = 8192 * (r.val / 8192) + (2 + r.val % 8192 - 2); omega)).trans (fU_at x0 x1 x2 x3 x4 x5 x6 x7 x8 x9 x10 x11 x12 x13 r f)
  have e1 : rP (fU x0 x1 x2 x3 x4 x5 x6 x7 x8 x9 x10) (ix3 ⟨r.val / 8192, by omega⟩ ⟨1 + r.val % 8192, by omega⟩ f) = if r.val % 8192 = 0 then 0 else (aa x0 x1 x2 x3 x4 x5 x6 x7 x8 x9 x10 x11 x12 x13).lay.u (r.val - 1) f.val := by
    by_cases h : r.val % 8192 = 0
    · rw [if_pos h]; exact rP_lo _ _ _ _ (by show 1 + _ < 2; omega)
    · rw [if_neg h]
      exact (rP_in _ _ _ _ ⟨r.val - 1, by omega⟩ (by show 2 ≤ 1 + _; omega) (by show r.val - 1 = 8192 * (r.val / 8192) + (1 + r.val % 8192 - 2); omega)).trans (fU_at x0 x1 x2 x3 x4 x5 x6 x7 x8 x9 x10 x11 x12 x13 _ f)
  have e2 : rP (fU x0 x1 x2 x3 x4 x5 x6 x7 x8 x9 x10) (ix3 ⟨r.val / 8192, by omega⟩ ⟨r.val % 8192, by omega⟩ f) = if r.val % 8192 < 2 then 0 else (aa x0 x1 x2 x3 x4 x5 x6 x7 x8 x9 x10 x11 x12 x13).lay.u (r.val - 2) f.val := by
    by_cases h : r.val % 8192 < 2
    · rw [if_pos h]; exact rP_lo _ _ _ _ h
    · rw [if_neg h]
      exact (rP_in _ _ _ _ ⟨r.val - 2, by omega⟩ (by show 2 ≤ r.val % 8192; omega) (by show r.val - 2 = 8192 * (r.val / 8192) + (r.val % 8192 - 2); omega)).trans (fU_at x0 x1 x2 x3 x4 x5 x6 x7 x8 x9 x10 x11 x12 x13 _ f)
  rw [e0, e1, e2]
  simp only [Arr.lay, aa, ofN]

/-- The result at a token. -/
theorem fO_at (r : Fin 32768) (d : Fin 1024) : fO x0 x1 x2 x3 x4 x5 x6 x7 x8 x9 x10 x11 x12 x13 (ix2 r d) = (aa x0 x1 x2 x3 x4 x5 x6 x7 x8 x9 x10 x11 x12 x13).val r.val d := by
  unfold fO Arr.val Lay.o
  rw [rO_at]
  simp only [rA_at, fC_at x0 x1 x2 x3 x4 x5 x6 x7 x8 x9 x10 x11 x12 x13, fX_at x0 x1 x2 x3 x4 x5 x6 x7 x8 x9 x10 x11 x12 x13]
  simp only [show (aa x0 x1 x2 x3 x4 x5 x6 x7 x8 x9 x10 x11 x12 x13).lay.m r.val 5 = fun d => x1 (ix3 ⟨r.val / 8192, by omega⟩ 5 d) from funext fun d => congrArg (fun b => x1 (ix3 b 5 d)) (ofB r (by omega)),
    show (aa x0 x1 x2 x3 x4 x5 x6 x7 x8 x9 x10 x11 x12 x13).lay.wd = fun f d => x13 (ix2 f d) from rfl]

/-- The result. -/
theorem fO_eq : (fO x0 x1 x2 x3 x4 x5 x6 x7 x8 x9 x10 x11 x12 x13 : S32768x1024.Idx → EReal) = (aa x0 x1 x2 x3 x4 x5 x6 x7 x8 x9 x10 x11 x12 x13).res := by
  funext y
  have hy : y = ix2 (y 0 : Fin 32768) (y 1 : Fin 1024) := by funext a; match a with | ⟨0, _⟩ => rfl | ⟨1, _⟩ => rfl
  rw [hy]
  exact fO_at x0 x1 x2 x3 x4 x5 x6 x7 x8 x9 x10 x11 x12 x13 _ _

variable (m : (ℓ : Loc nD τ sig) → Buf (Elt Ideal) ℓ) (c : Dev nD)

/-- The arguments, as the memory holds them. -/
def arr : Arr := aa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

/-- The reference's result. -/
theorem ref : Value.res_main_v101 m c = (arr m c).res := by
  refine Eq.trans ?_ (fO_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))
  unfold Value.res_main_v101 fO rO rA rC rB rP fU rU rH fX rX rY rS pt2 pt3 pt4 pt5
  rfl

end Cert.Ff.Ref
-- ==== Proof.Mod.lean ====
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit

@[expose] public section

set_option maxRecDepth 16384

/-! The modulation call: both sides read at a row and a column. -/

noncomputable section

namespace Cert.Mod

open Cert.Kernel4Ideal Cert.Kernel4Ideal.Gen Cert.Kernel4Ideal.Value Idealize.ShloMosaic Idealize.ShloMosaic.TcCoe Idealize.SL.Sem

/-- The modulation at a row and a column: the silu of the condition times the weight, and the bias. -/
def mo (x : S8x1024.Idx → EReal) (w : S1024x6144.Idx → EReal) (b : S1x6144.Idx → EReal) (r : Fin 8) (d : Fin 6144) : EReal :=
  (∑ k : Fin 1024, x (ix2 r k) * Ideal.div 1 (1 + Ideal.exp (-(x (ix2 r k)))) * w (ix2 k d)) + b (ix2 0 d)

/-- A point's product with its bias, at an index. -/
theorem pay_at (x : Vec Ideal S8x1024 .f32) (w : Vec Ideal S1024x1536 .f32) (b : Vec Ideal S1x1536 .f32) (r : Fin 8) (d : Fin 1536) :
    k0_pay1 x w b (ix2 r d)
      = (∑ k : Fin 1024, x (ix2 r k) * Ideal.div 1 (1 + Ideal.exp (-(x (ix2 r k)))) * w (ix2 k d) : EReal) + b (ix2 0 d) := by
  pointwise [k0_pay1]
  simp only [Ideal.ofBits_zero .f32, zero_sub]

/-- The windows' block indices at each point. -/
theorem idx4 : ∀ t : Fin cfg0.N, (win0_0.index t (0 : Fin 2) = 0 ∧ win0_0.index t (1 : Fin 2) = 0)
    ∧ (win0_1.index t (0 : Fin 2) = 0 ∧ win0_1.index t (1 : Fin 2) = t.val) ∧ (win0_2.index t (0 : Fin 2) = 0 ∧ win0_2.index t (1 : Fin 2) = t.val)
    ∧ (win0_3.index t (0 : Fin 2) = 0 ∧ win0_3.index t (1 : Fin 2) = t.val) ∧ t.val < 4 :=
  (by decide +kernel : ∀ t : Fin grid0.N, _)

variable (m : (ℓ : Loc nD τ sig) → Buf (Elt Ideal) ℓ) (c : Dev nD)

/-- The condition's rows, as the memory holds them. -/
def kx : S8x1024.Idx → EReal := m ((c : Thread nD τ).loc main_arg0)
/-- The weight. -/
def kw : S1024x6144.Idx → EReal := m ((c : Thread nD τ).loc main_arg1)
/-- The bias. -/
def kb : S1x6144.Idx → EReal := m ((c : Thread nD τ).loc main_arg2)

/-- A point's block of the condition is the whole. -/
theorem b0 (t : Fin cfg0.N) (r : Fin 8) (k : Fin 1024) : (iblk m c 0 t : S8x1024.Idx → EReal) (ix2 r k) = kx m c (ix2 r k) := by
  unfold iblk
  rw [View.read_apply]
  refine (congrFun (V_main_arg0 m c) _).trans (congrArg (m ((c : Thread nD τ).loc main_arg0)) (funext fun a => match a with
    | ⟨0, _⟩ => Fin.ext (by show win0_0.index t (0 : Fin 2) * 8 + 1 * r.val = r.val; rw [(idx4 t).1.1]; omega)
    | ⟨1, _⟩ => Fin.ext (by show win0_0.index t (1 : Fin 2) * 1024 + 1 * k.val = k.val; rw [(idx4 t).1.2]; omega)))

/-- A point's block of the weight. -/
theorem b1 (t : Fin cfg0.N) (k : Fin 1024) (d : Fin 1536) : (iblk m c 1 t : S1024x1536.Idx → EReal) (ix2 k d)
    = kw m c (ix2 k ⟨1536 * t.val + d.val, by have := (idx4 t).2.2.2.2; omega⟩) := by
  unfold iblk
  rw [View.read_apply]
  refine (congrFun (V_main_arg1 m c) _).trans (congrArg (m ((c : Thread nD τ).loc main_arg1)) (funext fun a => match a with
    | ⟨0, _⟩ => Fin.ext (by show win0_1.index t (0 : Fin 2) * 1024 + 1 * k.val = k.val; rw [(idx4 t).2.1.1]; omega)
    | ⟨1, _⟩ => Fin.ext (by show win0_1.index t (1 : Fin 2) * 1536 + 1 * d.val = 1536 * t.val + d.val; rw [(idx4 t).2.1.2]; omega)))

/-- A point's block of the bias. -/
theorem b2 (t : Fin cfg0.N) (d : Fin 1536) : (iblk m c 2 t : S1x1536.Idx → EReal) (ix2 0 d)
    = kb m c (ix2 0 ⟨1536 * t.val + d.val, by have := (idx4 t).2.2.2.2; omega⟩) := by
  unfold iblk
  rw [View.read_apply]
  refine (congrFun (V_main_arg2 m c) _).trans (congrArg (m ((c : Thread nD τ).loc main_arg2)) (funext fun a => match a with
    | ⟨0, _⟩ => Fin.ext (by show win0_2.index t (0 : Fin 2) * 1 + 1 * 0 = 0; rw [(idx4 t).2.2.1.1])
    | ⟨1, _⟩ => Fin.ext (by show win0_2.index t (1 : Fin 2) * 1536 + 1 * d.val = 1536 * t.val + d.val; rw [(idx4 t).2.2.1.2]; omega)))

/-- The kernel's array after the run. -/
theorem fin : (dats m 0 c).arrAt 3 cfg0.N = fun y : S8x6144.Idx => mo (kx m c) (kw m c) (kb m c) (y 0) (y 1) := by
  refine (dats m 0 c).arrAt_eq_of_covers 3 _ (by decide +kernel) fun t _ y => ?_
  blk_simp
  rw [after0_3]
  have hl := (idx4 t).2.2.2.2
  have y0 : (y 0).val < 8 := (y 0).isLt
  have y1 : (y 1).val < 1536 := (y 1).isLt
  have hy : y = ix2 (⟨(y 0).val, y0⟩ : Fin 8) (⟨(y 1).val, y1⟩ : Fin 1536) := by funext a; match a with | ⟨0, _⟩ => rfl | ⟨1, _⟩ => rfl
  refine (congrArg (out0_3 (iblk m c 0 t) (iblk m c 1 t) (iblk m c 2 t)) hy).trans (Eq.trans (b := mo (kx m c) (kw m c) (kb m c) ⟨(y 0).val, y0⟩ ⟨1536 * t.val + (y 1).val, by omega⟩) ?_ ?_)
  · unfold out0_3
    rw [View.canon_unit_zero (by funext a; fin_cases a <;> rfl), View.ld_unit_zero (by funext a; fin_cases a <;> rfl),
      View.ld_unit_zero (by funext a; fin_cases a <;> rfl), View.ld_unit_zero (by funext a; fin_cases a <;> rfl)]
    refine (pay_at _ _ _ _ _).trans ?_
    simp only [b0, b1, b2, mo]
  · refine congrArg₂ (mo (kx m c) (kw m c) (kb m c)) (Fin.ext ?_) (Fin.ext ?_)
    · show (y 0).val = win0_3.index t (0 : Fin 2) * 8 + 1 * (y 0).val; rw [(idx4 t).2.2.2.1.1]; omega
    · show 1536 * t.val + (y 1).val = win0_3.index t (1 : Fin 2) * 1536 + 1 * (y 1).val; rw [(idx4 t).2.2.2.1.2]; omega

open Cert.Reference4Ideal Cert.Reference4Ideal.Gen in
/-- The reference's array. -/
theorem ref (x : FVec Ideal Cert.Reference4Ideal.S8x1024 .f32) (w : FVec Ideal Cert.Reference4Ideal.S1024x6144 .f32) (b : FVec Ideal Cert.Reference4Ideal.S1x6144 .f32) :
    addf (Host.dotGeneral dot_S8x1024_S1024x6144_S8x6144_1_0_0_1_n_n none (mulf x (Host.divf (broadcastInDim Cert.Reference4Ideal.S8x1024 ![] bcast_S_S8x1024 (constant S_ .f32 0x3F800000#32)) (addf (broadcastInDim Cert.Reference4Ideal.S8x1024 ![] bcast_S_S8x1024 (constant S_ .f32 0x3F800000#32)) (Host.exp (Host.negf x))))) w)
      (broadcastInDim Cert.Reference4Ideal.S8x6144 ![0, 1] bcast_S1x6144_S8x6144_0_1 (broadcastInDim Cert.Reference4Ideal.S1x6144 ![1] bcast_S6144_S1x6144_1 (shapeCast _ b shapeCasts_S1x6144_S6144)))
      = fun y => mo x w b (y 0) (y 1) := by
  funext y
  have hy : y = ix2 (y 0) (y 1) := by funext a; match a with | ⟨0, _⟩ => rfl | ⟨1, _⟩ => rfl
  rw [hy]
  generalize y 0 = r
  generalize y 1 = d
  pointwise []
  rfl

end Cert.Mod
-- ==== Proof.lean ====
/-
  The certificate's assembly: the frames are the generated ones (the reference declares no semaphore, so its counters are all zero),
  `preserves` is the named mask constant's rule, and the value claim meets at the recurrence's result `res` of the arguments, which the
  kernel's pipeline (`Ml.kernel_val`) and the reference's scan (`RefVal.ref_val`) both leave. The input projection's meets at its nine arrays `o7` .. `o15`,
  the layer's last call's at the layer's result `Arr.res` of the arguments, the modulation's at its rows `mo`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_inputs_finite
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.RefStep
public import proofs.«01_k».proof.Proof.Ml.Pre
public import proofs.«01_k».proof.Proof.Ml.RefVal
public import proofs.«01_k».proof.Proof.Inp.Kernel
public import proofs.«01_k».proof.Proof.Inp.RefVal
public import proofs.«01_k».proof.Proof.Ff.Kernel
public import proofs.«01_k».proof.Proof.Ff.Ref
public import proofs.«01_k».proof.Proof.Mod
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem

/-- The reference's frame: it runs, keeps its arguments, and has no semaphore to leave raised. -/
theorem refFrame : quiescent_ReferenceIdeal (hReferenceIdeal := Cert.ReferenceIdeal.Gen.facts) := fun m ρ _ =>
  (θ_run _ _ _).mono (fun _ h => ⟨fun c => (h c).2, sem_eq_zero_of_no_sems (by decide) _⟩) (Cert.ReferenceIdeal.Value.run m ρ)

/-- Where the inputs are finite the idealized kernel and the reference leave the same array: the recurrence's result. -/
theorem algebraic : algebraic_KernelIdeal_ReferenceIdeal_pre_inputs_finite (hKernelIdeal := Cert.KernelIdeal.Gen.facts)
    (hReferenceIdeal := Cert.ReferenceIdeal.Gen.facts) (hPre_inputs_finite := Cert.Pre_inputs_finite.Gen.facts) := by
  intro m g m' g' hp hm
  have hA := fun c => Cert.Pre.arr_real m hp c
  refine ⟨fun c => Cert.Ml.res (Cert.Ml.arrK m c), ?_, ?_⟩
  · exact (θ_run _ _ _).mono (fun _ h c => ⟨(h c).1.trans (Cert.Ml.kernel_val m c (hA c)), (h c).2⟩) (Cert.KernelIdeal.Value.run m g)
  · refine (θ_run _ _ _).mono (fun _ h c => ⟨(h c).1.trans ?_, (h c).2⟩)
      (Cert.RefStep.run_iter m' g' (fun c => Cert.RefVal.states (Cert.Ml.arrK m c)) (fun c => ?_) fun _ _ => rfl)
    · obtain ⟨e0, e1, _, e3, e4, e5, e6, e7, _⟩ := hm c
      show _ = Cert.ReferenceIdeal.Step.init _ _ _ _ _ _ _
      rw [e0, e1, e3, e4, e5, e6, e7]
      rfl
    · obtain ⟨_, _, e2, _, _, _, _, _, e8⟩ := hm c
      rw [e2, e8]
      exact Cert.RefVal.ref_val (hA c)

/-- The input projection's reference: it runs, keeps its arguments, and has no semaphore to leave raised. -/
theorem refFrame2 : quiescent_Reference2Ideal (hReference2Ideal := Cert.Reference2Ideal.Gen.facts) := fun m ρ _ =>
  (θ_run _ _ _).mono (fun _ h => ⟨fun c => (h c).2.2.2.2.2.2.2.2.2, sem_eq_zero_of_no_sems (by decide) _⟩) (Cert.Inp.ref_run m ρ)

open Cert.Inp Cert.Reference2Ideal.Gen in
/-- The input projection: kernel and reference leave the same nine arrays, whatever the inputs. -/
theorem algebraic2 : algebraic_Kernel2Ideal_Reference2Ideal (hKernel2Ideal := Cert.Kernel2Ideal.Gen.facts)
    (hReference2Ideal := Cert.Reference2Ideal.Gen.facts) := by
  intro m g m' g' _ hm
  refine ⟨fun c y => o7 m c (y 0) (y 1), fun c y => o8 m c (y 0) (y 1), fun c y => o9 m c (y 0) (y 1), fun c y => o10 m c (y 0) (y 1),
    fun c y => o11 m c (y 0) (y 1), fun c y => o12 m c (y 0) (y 1), fun c y => o13 m c (y 0) (y 1), fun c y => o14 m c (y 0) (y 1),
    fun c y => o15 m c (y 0) (y 1), ?_, ?_⟩
  · refine (θ_run _ _ _).mono (fun _ h c => ?_) (Cert.Kernel2Ideal.Value.run_blocks m g)
    obtain ⟨h0, h1, h2, h3, h4, h5, h6, h7, h8, ha⟩ := h c
    exact ⟨h0.trans (fin7 m c), h1.trans (fin8 m c), h2.trans (fin9 m c), h3.trans (fin10 m c), h4.trans (fin11 m c),
      h5.trans (fin12 m c), h6.trans (fin13 m c), h7.trans (fin14 m c), h8.trans (fin15 m c), ha⟩
  · refine (θ_run _ _ _).mono (fun _ h c => ?_) (ref_run m' g')
    obtain ⟨h0, h1, h2, h3, h4, h5, h6, h7, h8, ha⟩ := h c
    obtain ⟨e0, e1, e2, e3, e4, e5⟩ := hm c
    have hx : ax m' c = kx m c := e0
    have hmd : am m' c = km m c := e1
    have hg : ag m' c = kg m c := e2
    have hw : aw m' c = kw m c := e3
    have hq : aq m' c = kq m c := e4
    have hk : ak m' c = kk m c := e5
    have hP : ∀ r d, pN (ax m' c) (am m' c) (ag m' c) (aw m' c) r d = kp m c r d := fun r d => by rw [hx, hmd, hg, hw]; rfl
    refine ⟨h0.trans (refSf _ _ _ _ slices_S32768x5888_S32768x1024_0_0 (by decide) _ fun r d => (hP _ _).trans (congrArg (kp m c r) (Fin.ext (Nat.zero_add _)))),
      h1.trans (refSf _ _ _ _ slices_S32768x5888_S32768x512_0_1024 (by decide) _ fun r d => hP _ _),
      h2.trans (refMof _ _ _ _ _ fun r d => by rw [hP]; rfl),
      h3.trans (refQf _ _ _ _ slices_S32768x5888_S32768x512_0_2048 (by decide) _ _ fun r d => by simp only [hP, hq]; rfl),
      h4.trans (refQf _ _ _ _ slices_S32768x5888_S32768x512_0_2560 (by decide) _ _ fun r d => by simp only [hP, hk]; rfl),
      h5.trans (refSf _ _ _ _ slices_S32768x5888_S32768x512_0_3072 (by decide) _ fun r d => hP _ _), h6.trans (refSf _ _ _ _ slices_S32768x5888_S32768x1024_0_3584 (by decide) _ fun r d => hP _ _),
      h7.trans (refSf _ _ _ _ slices_S32768x5888_S32768x1024_0_4608 (by decide) _ fun r d => hP _ _), h8.trans (refSf _ _ _ _ slices_S32768x5888_S32768x256_0_5632 (by decide) _ fun r d => hP _ _), ha⟩

/-- The last call's reference: it runs, keeps its arguments, and has no semaphore to leave raised. -/
theorem refFrame3 : quiescent_Reference3Ideal (hReference3Ideal := Cert.Reference3Ideal.Gen.facts) := fun m ρ _ =>
  (θ_run _ _ _).mono (fun _ h => ⟨fun c => (h c).2, sem_eq_zero_of_no_sems (by decide) _⟩) (Cert.Reference3Ideal.Value.run m ρ)

/-- The last call: kernel and reference leave the same array, whatever the inputs. -/
theorem algebraic3 : algebraic_Kernel3Ideal_Reference3Ideal (hKernel3Ideal := Cert.Kernel3Ideal.Gen.facts)
    (hReference3Ideal := Cert.Reference3Ideal.Gen.facts) := by
  intro m g m' g' _ hm
  refine ⟨fun c => (Cert.Ff.arr m c).res, ?_, ?_⟩
  · exact (θ_run _ _ _).mono (fun _ h c => ⟨(h c).1.trans (Cert.Ff.ker m c), (h c).2⟩) (Cert.Kernel3Ideal.Value.run m g)
  · refine (θ_run _ _ _).mono (fun _ h c => ⟨(h c).1.trans ((Cert.Ff.Ref.ref m' c).trans ?_), (h c).2⟩) (Cert.Reference3Ideal.Value.run m' g')
    obtain ⟨e0, e1, e2, e3, e4, e5, e6, e7, e8, e9, e10, e11, e12, e13⟩ := hm c
    refine congrArg Cert.Ff.Arr.res ?_
    unfold Cert.Ff.Ref.arr Cert.Ff.Ref.aa
    rw [e0, e1, e2, e3, e4, e5, e6, e7, e8, e9, e10, e11, e12, e13]
    rfl

/-- The modulation's reference: it runs, keeps its arguments, and has no semaphore to leave raised. -/
theorem refFrame4 : quiescent_Reference4Ideal (hReference4Ideal := Cert.Reference4Ideal.Gen.facts) := fun m ρ _ =>
  (θ_run _ _ _).mono (fun _ h => ⟨fun c => (h c).2, sem_eq_zero_of_no_sems (by decide) _⟩) (Cert.Reference4Ideal.Value.run m ρ)

/-- The modulation: kernel and reference leave the same array, whatever the inputs. -/
theorem algebraic4 : algebraic_Kernel4Ideal_Reference4Ideal (hKernel4Ideal := Cert.Kernel4Ideal.Gen.facts)
    (hReference4Ideal := Cert.Reference4Ideal.Gen.facts) := by
  intro m g m' g' _ hm
  refine ⟨fun c y => Cert.Mod.mo (Cert.Mod.kx m c) (Cert.Mod.kw m c) (Cert.Mod.kb m c) (y 0) (y 1), ?_, ?_⟩
  · exact (θ_run _ _ _).mono (fun _ h c => ⟨(h c).1.trans (Cert.Mod.fin m c), (h c).2⟩) (Cert.Kernel4Ideal.Value.run_blocks m g)
  · refine (θ_run _ _ _).mono (fun _ h c => ⟨(h c).1.trans ((Cert.Mod.ref _ _ _).trans ?_), (h c).2⟩) (Cert.Reference4Ideal.Value.run m' g')
    obtain ⟨e0, e1, e2⟩ := hm c
    rw [e0, e1, e2]
    rfl

/-- Every claim. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_inputs_finite.Gen.facts,
  fun m ρ _ => Cert.Kernel.Gen.frame m ρ, fun m ρ _ => Cert.KernelIdeal.Gen.frame m ρ, fun m ρ _ => Cert.KernelIdeal.Gen.frame m ρ,
  refFrame, fun m ρ _ => refFrame m ρ trivial,
  fun m ρ _ => Cert.Kernel2.Gen.frame m ρ, fun m ρ _ => Cert.Kernel2Ideal.Gen.frame m ρ, refFrame2,
  fun m ρ _ => Cert.Kernel3.Gen.frame m ρ, fun m ρ _ => Cert.Kernel3Ideal.Gen.frame m ρ, refFrame3,
  fun m ρ _ => Cert.Kernel4.Gen.frame m ρ, fun m ρ _ => Cert.Kernel4Ideal.Gen.frame m ρ, refFrame4,
  IdealRules.named_const.statement Cert.KernelIdeal.κ "mask" .f32 0xF149F2CA#32 ⊥ rfl, algebraic, trivial, algebraic2, trivial, algebraic3, trivial, algebraic4⟩

end Cert.Proof

end
